-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_WinDx (m : (ℓ : Loc Cert.WinDx.nD Cert.WinDx.τ Cert.WinDx.sig) → Buf (Elt Bits) ℓ) : Prop :=
  True

def Pre_WinDxIdeal (m : (ℓ : Loc Cert.WinDxIdeal.nD Cert.WinDxIdeal.τ Cert.WinDxIdeal.sig) → Buf (Elt Ideal) ℓ) : Prop :=
  True

def Pre_WinDxRefIdeal (m : (ℓ : Loc Cert.WinDxRefIdeal.nD Cert.WinDxRefIdeal.τ Cert.WinDxRefIdeal.sig) → Buf (Elt Ideal) ℓ) : Prop :=
  True

def Pre_WinDw (m : (ℓ : Loc Cert.WinDw.nD Cert.WinDw.τ Cert.WinDw.sig) → Buf (Elt Bits) ℓ) : Prop :=
  True

def Pre_WinDwIdeal (m : (ℓ : Loc Cert.WinDwIdeal.nD Cert.WinDwIdeal.τ Cert.WinDwIdeal.sig) → Buf (Elt Ideal) ℓ) : Prop :=
  True

def Pre_WinDwRefIdeal (m : (ℓ : Loc Cert.WinDwRefIdeal.nD Cert.WinDwRefIdeal.τ Cert.WinDwRefIdeal.sig) → Buf (Elt Ideal) ℓ) : Prop :=
  True

def Pre_Mlp2Dx (m : (ℓ : Loc Cert.Mlp2Dx.nD Cert.Mlp2Dx.τ Cert.Mlp2Dx.sig) → Buf (Elt Bits) ℓ) : Prop :=
  True

def Pre_Mlp2DxIdeal (m : (ℓ : Loc Cert.Mlp2DxIdeal.nD Cert.Mlp2DxIdeal.τ Cert.Mlp2DxIdeal.sig) → Buf (Elt Ideal) ℓ) : Prop :=
  True

def Pre_Mlp2DxRefIdeal (m : (ℓ : Loc Cert.Mlp2DxRefIdeal.nD Cert.Mlp2DxRefIdeal.τ Cert.Mlp2DxRefIdeal.sig) → Buf (Elt Ideal) ℓ) : Prop :=
  True

def Pre_Mlp2Dw (m : (ℓ : Loc Cert.Mlp2Dw.nD Cert.Mlp2Dw.τ Cert.Mlp2Dw.sig) → Buf (Elt Bits) ℓ) : Prop :=
  True

def Pre_Mlp2DwIdeal (m : (ℓ : Loc Cert.Mlp2DwIdeal.nD Cert.Mlp2DwIdeal.τ Cert.Mlp2DwIdeal.sig) → Buf (Elt Ideal) ℓ) : Prop :=
  True

def Pre_Mlp2DwRefIdeal (m : (ℓ : Loc Cert.Mlp2DwRefIdeal.nD Cert.Mlp2DwRefIdeal.τ Cert.Mlp2DwRefIdeal.sig) → Buf (Elt Ideal) ℓ) : Prop :=
  True

def Pre_Mlp1Dx (m : (ℓ : Loc Cert.Mlp1Dx.nD Cert.Mlp1Dx.τ Cert.Mlp1Dx.sig) → Buf (Elt Bits) ℓ) : Prop :=
  True

def Pre_Mlp1DxIdeal (m : (ℓ : Loc Cert.Mlp1DxIdeal.nD Cert.Mlp1DxIdeal.τ Cert.Mlp1DxIdeal.sig) → Buf (Elt Ideal) ℓ) : Prop :=
  True

def Pre_Mlp1DxRefIdeal (m : (ℓ : Loc Cert.Mlp1DxRefIdeal.nD Cert.Mlp1DxRefIdeal.τ Cert.Mlp1DxRefIdeal.sig) → Buf (Elt Ideal) ℓ) : Prop :=
  True

def Pre_Mlp1Dw (m : (ℓ : Loc Cert.Mlp1Dw.nD Cert.Mlp1Dw.τ Cert.Mlp1Dw.sig) → Buf (Elt Bits) ℓ) : Prop :=
  True

def Pre_Mlp1DwIdeal (m : (ℓ : Loc Cert.Mlp1DwIdeal.nD Cert.Mlp1DwIdeal.τ Cert.Mlp1DwIdeal.sig) → Buf (Elt Ideal) ℓ) : Prop :=
  True

def Pre_Mlp1DwRefIdeal (m : (ℓ : Loc Cert.Mlp1DwRefIdeal.nD Cert.Mlp1DwRefIdeal.τ Cert.Mlp1DwRefIdeal.sig) → Buf (Elt Ideal) ℓ) : Prop :=
  True

def Pre_WoutDx (m : (ℓ : Loc Cert.WoutDx.nD Cert.WoutDx.τ Cert.WoutDx.sig) → Buf (Elt Bits) ℓ) : Prop :=
  True

def Pre_WoutDxIdeal (m : (ℓ : Loc Cert.WoutDxIdeal.nD Cert.WoutDxIdeal.τ Cert.WoutDxIdeal.sig) → Buf (Elt Ideal) ℓ) : Prop :=
  True

def Pre_WoutDxRefIdeal (m : (ℓ : Loc Cert.WoutDxRefIdeal.nD Cert.WoutDxRefIdeal.τ Cert.WoutDxRefIdeal.sig) → Buf (Elt Ideal) ℓ) : Prop :=
  True

def Pre_WoutDw (m : (ℓ : Loc Cert.WoutDw.nD Cert.WoutDw.τ Cert.WoutDw.sig) → Buf (Elt Bits) ℓ) : Prop :=
  True

def Pre_WoutDwIdeal (m : (ℓ : Loc Cert.WoutDwIdeal.nD Cert.WoutDwIdeal.τ Cert.WoutDwIdeal.sig) → Buf (Elt Ideal) ℓ) : Prop :=
  True

def Pre_WoutDwRefIdeal (m : (ℓ : Loc Cert.WoutDwRefIdeal.nD Cert.WoutDwRefIdeal.τ Cert.WoutDwRefIdeal.sig) → Buf (Elt Ideal) ℓ) : Prop :=
  True

def Pre_BranchDx (m : (ℓ : Loc Cert.BranchDx.nD Cert.BranchDx.τ Cert.BranchDx.sig) → Buf (Elt Bits) ℓ) : Prop :=
  True

def Pre_BranchDxIdeal (m : (ℓ : Loc Cert.BranchDxIdeal.nD Cert.BranchDxIdeal.τ Cert.BranchDxIdeal.sig) → Buf (Elt Ideal) ℓ) : Prop :=
  True

def Pre_BranchDxRefIdeal (m : (ℓ : Loc Cert.BranchDxRefIdeal.nD Cert.BranchDxRefIdeal.τ Cert.BranchDxRefIdeal.sig) → Buf (Elt Ideal) ℓ) : Prop :=
  True

def Pre_BranchDw (m : (ℓ : Loc Cert.BranchDw.nD Cert.BranchDw.τ Cert.BranchDw.sig) → Buf (Elt Bits) ℓ) : Prop :=
  True

def Pre_BranchDwIdeal (m : (ℓ : Loc Cert.BranchDwIdeal.nD Cert.BranchDwIdeal.τ Cert.BranchDwIdeal.sig) → Buf (Elt Ideal) ℓ) : Prop :=
  True

def Pre_BranchDwRefIdeal (m : (ℓ : Loc Cert.BranchDwRefIdeal.nD Cert.BranchDwRefIdeal.τ Cert.BranchDwRefIdeal.sig) → Buf (Elt Ideal) ℓ) : Prop :=
  True

def Pre_MergeB (m : (ℓ : Loc Cert.MergeB.nD Cert.MergeB.τ Cert.MergeB.sig) → Buf (Elt Bits) ℓ) : Prop :=
  True

def Pre_MergeBIdeal (m : (ℓ : Loc Cert.MergeBIdeal.nD Cert.MergeBIdeal.τ Cert.MergeBIdeal.sig) → Buf (Elt Ideal) ℓ) : Prop :=
  True

def Pre_MergeBRefIdeal (m : (ℓ : Loc Cert.MergeBRefIdeal.nD Cert.MergeBRefIdeal.τ Cert.MergeBRefIdeal.sig) → Buf (Elt Ideal) ℓ) : Prop :=
  True

def Pre_ShortB (m : (ℓ : Loc Cert.ShortB.nD Cert.ShortB.τ Cert.ShortB.sig) → Buf (Elt Bits) ℓ) : Prop :=
  True

def Pre_ShortBIdeal (m : (ℓ : Loc Cert.ShortBIdeal.nD Cert.ShortBIdeal.τ Cert.ShortBIdeal.sig) → Buf (Elt Ideal) ℓ) : Prop :=
  True

def Pre_ShortBRefIdeal (m : (ℓ : Loc Cert.ShortBRefIdeal.nD Cert.ShortBRefIdeal.τ Cert.ShortBRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2 = (fun _ => 1#1)

def Pre_ShortF (m : (ℓ : Loc Cert.ShortF.nD Cert.ShortF.τ Cert.ShortF.sig) → Buf (Elt Bits) ℓ) : Prop :=
  True

def Pre_ShortFIdeal (m : (ℓ : Loc Cert.ShortFIdeal.nD Cert.ShortFIdeal.τ Cert.ShortFIdeal.sig) → Buf (Elt Ideal) ℓ) : Prop :=
  True

def Pre_ShortFRefIdeal (m : (ℓ : Loc Cert.ShortFRefIdeal.nD Cert.ShortFRefIdeal.τ Cert.ShortFRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_DnPrep (m : (ℓ : Loc Cert.DnPrep.nD Cert.DnPrep.τ Cert.DnPrep.sig) → Buf (Elt Bits) ℓ) : Prop :=
  True

def Pre_DnPrepIdeal (m : (ℓ : Loc Cert.DnPrepIdeal.nD Cert.DnPrepIdeal.τ Cert.DnPrepIdeal.sig) → Buf (Elt Ideal) ℓ) : Prop :=
  True

def Pre_DnPrepRefIdeal (m : (ℓ : Loc Cert.DnPrepRefIdeal.nD Cert.DnPrepRefIdeal.τ Cert.DnPrepRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Mlp1 (m : (ℓ : Loc Cert.Mlp1.nD Cert.Mlp1.τ Cert.Mlp1.sig) → Buf (Elt Bits) ℓ) : Prop :=
  True

def Pre_Mlp1Ideal (m : (ℓ : Loc Cert.Mlp1Ideal.nD Cert.Mlp1Ideal.τ Cert.Mlp1Ideal.sig) → Buf (Elt Ideal) ℓ) : Prop :=
  True

def Pre_Mlp1RefIdeal (m : (ℓ : Loc Cert.Mlp1RefIdeal.nD Cert.Mlp1RefIdeal.τ Cert.Mlp1RefIdeal.sig) → Buf (Elt Ideal) ℓ) : Prop :=
  True

def Pre_Mlp2 (m : (ℓ : Loc Cert.Mlp2.nD Cert.Mlp2.τ Cert.Mlp2.sig) → Buf (Elt Bits) ℓ) : Prop :=
  True

def Pre_Mlp2Ideal (m : (ℓ : Loc Cert.Mlp2Ideal.nD Cert.Mlp2Ideal.τ Cert.Mlp2Ideal.sig) → Buf (Elt Ideal) ℓ) : Prop :=
  True

def Pre_Mlp2RefIdeal (m : (ℓ : Loc Cert.Mlp2RefIdeal.nD Cert.Mlp2RefIdeal.τ Cert.Mlp2RefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Branch (m : (ℓ : Loc Cert.Branch.nD Cert.Branch.τ Cert.Branch.sig) → Buf (Elt Bits) ℓ) : Prop :=
  True

def Pre_BranchIdeal (m : (ℓ : Loc Cert.BranchIdeal.nD Cert.BranchIdeal.τ Cert.BranchIdeal.sig) → Buf (Elt Ideal) ℓ) : Prop :=
  True

def Pre_BranchRefIdeal (m : (ℓ : Loc Cert.BranchRefIdeal.nD Cert.BranchRefIdeal.τ Cert.BranchRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_WinDx [hWinDx : Cert.WinDx.Facts] : Prop :=
  ∀ (m : (ℓ : Loc Cert.WinDx.nD Cert.WinDx.τ Cert.WinDx.sig) → Buf (Elt Bits) ℓ) (g : Dev Cert.WinDx.nD → PrngReg), Pre_WinDx m →
    θ_run (Cert.WinDx.defs (F := Bits)) (onTc (τ := Cert.WinDx.τ) (Cert.WinDx.main (F := Bits))) ⟨m, fun _ => 0, g⟩ (fun r => (∀ c : Dev Cert.WinDx.nD,
      r.2.mem ((c.tc : Thread Cert.WinDx.nD Cert.WinDx.τ).loc Cert.WinDx.main_arg0) = m ((c.tc : Thread Cert.WinDx.nD Cert.WinDx.τ).loc Cert.WinDx.main_arg0)
      ∧ r.2.mem ((c.tc : Thread Cert.WinDx.nD Cert.WinDx.τ).loc Cert.WinDx.main_arg1) = m ((c.tc : Thread Cert.WinDx.nD Cert.WinDx.τ).loc Cert.WinDx.main_arg1))
      ∧ r.2.sem = fun _ => 0)

def quiescent_WinDxIdeal [hWinDxIdeal : Cert.WinDxIdeal.Facts] : Prop :=
  ∀ (m : (ℓ : Loc Cert.WinDxIdeal.nD Cert.WinDxIdeal.τ Cert.WinDxIdeal.sig) → Buf (Elt Ideal) ℓ) (g : Dev Cert.WinDxIdeal.nD → PrngReg), Pre_WinDxIdeal m →
    θ_run (Cert.WinDxIdeal.defs (F := Ideal)) (onTc (τ := Cert.WinDxIdeal.τ) (Cert.WinDxIdeal.main (F := Ideal))) ⟨m, fun _ => 0, g⟩ (fun r => (∀ c : Dev Cert.WinDxIdeal.nD,
      r.2.mem ((c.tc : Thread Cert.WinDxIdeal.nD Cert.WinDxIdeal.τ).loc Cert.WinDxIdeal.main_arg0) = m ((c.tc : Thread Cert.WinDxIdeal.nD Cert.WinDxIdeal.τ).loc Cert.WinDxIdeal.main_arg0)
      ∧ r.2.mem ((c.tc : Thread Cert.WinDxIdeal.nD Cert.WinDxIdeal.τ).loc Cert.WinDxIdeal.main_arg1) = m ((c.tc : Thread Cert.WinDxIdeal.nD Cert.WinDxIdeal.τ).loc Cert.WinDxIdeal.main_arg1))
      ∧ r.2.sem = fun _ => 0)

def quiescent_WinDxRefIdeal [hWinDxRefIdeal : Cert.WinDxRefIdeal.Facts] : Prop :=
  ∀ (m : (ℓ : Loc Cert.WinDxRefIdeal.nD Cert.WinDxRefIdeal.τ Cert.WinDxRefIdeal.sig) → Buf (Elt Ideal) ℓ) (g : Dev Cert.WinDxRefIdeal.nD → PrngReg), Pre_WinDxRefIdeal m →
    θ_run (Cert.WinDxRefIdeal.defs (F := Ideal)) (onTc (τ := Cert.WinDxRefIdeal.τ) (Cert.WinDxRefIdeal.main (F := Ideal))) ⟨m, fun _ => 0, g⟩ (fun r => (∀ c : Dev Cert.WinDxRefIdeal.nD,
      r.2.mem ((c.tc : Thread Cert.WinDxRefIdeal.nD Cert.WinDxRefIdeal.τ).loc Cert.WinDxRefIdeal.main_arg0) = m ((c.tc : Thread Cert.WinDxRefIdeal.nD Cert.WinDxRefIdeal.τ).loc Cert.WinDxRefIdeal.main_arg0)
      ∧ r.2.mem ((c.tc : Thread Cert.WinDxRefIdeal.nD Cert.WinDxRefIdeal.τ).loc Cert.WinDxRefIdeal.main_arg1) = m ((c.tc : Thread Cert.WinDxRefIdeal.nD Cert.WinDxRefIdeal.τ).loc Cert.WinDxRefIdeal.main_arg1))
      ∧ r.2.sem = fun _ => 0)

def quiescent_WinDw [hWinDw : Cert.WinDw.Facts] : Prop :=
  ∀ (m : (ℓ : Loc Cert.WinDw.nD Cert.WinDw.τ Cert.WinDw.sig) → Buf (Elt Bits) ℓ) (g : Dev Cert.WinDw.nD → PrngReg), Pre_WinDw m →
    θ_run (Cert.WinDw.defs (F := Bits)) (onTc (τ := Cert.WinDw.τ) (Cert.WinDw.main (F := Bits))) ⟨m, fun _ => 0, g⟩ (fun r => (∀ c : Dev Cert.WinDw.nD,
      r.2.mem ((c.tc : Thread Cert.WinDw.nD Cert.WinDw.τ).loc Cert.WinDw.main_arg0) = m ((c.tc : Thread Cert.WinDw.nD Cert.WinDw.τ).loc Cert.WinDw.main_arg0)
      ∧ r.2.mem ((c.tc : Thread Cert.WinDw.nD Cert.WinDw.τ).loc Cert.WinDw.main_arg1) = m ((c.tc : Thread Cert.WinDw.nD Cert.WinDw.τ).loc Cert.WinDw.main_arg1))
      ∧ r.2.sem = fun _ => 0)

def quiescent_WinDwIdeal [hWinDwIdeal : Cert.WinDwIdeal.Facts] : Prop :=
  ∀ (m : (ℓ : Loc Cert.WinDwIdeal.nD Cert.WinDwIdeal.τ Cert.WinDwIdeal.sig) → Buf (Elt Ideal) ℓ) (g : Dev Cert.WinDwIdeal.nD → PrngReg), Pre_WinDwIdeal m →
    θ_run (Cert.WinDwIdeal.defs (F := Ideal)) (onTc (τ := Cert.WinDwIdeal.τ) (Cert.WinDwIdeal.main (F := Ideal))) ⟨m, fun _ => 0, g⟩ (fun r => (∀ c : Dev Cert.WinDwIdeal.nD,
      r.2.mem ((c.tc : Thread Cert.WinDwIdeal.nD Cert.WinDwIdeal.τ).loc Cert.WinDwIdeal.main_arg0) = m ((c.tc : Thread Cert.WinDwIdeal.nD Cert.WinDwIdeal.τ).loc Cert.WinDwIdeal.main_arg0)
      ∧ r.2.mem ((c.tc : Thread Cert.WinDwIdeal.nD Cert.WinDwIdeal.τ).loc Cert.WinDwIdeal.main_arg1) = m ((c.tc : Thread Cert.WinDwIdeal.nD Cert.WinDwIdeal.τ).loc Cert.WinDwIdeal.main_arg1))
      ∧ r.2.sem = fun _ => 0)

def quiescent_WinDwRefIdeal [hWinDwRefIdeal : Cert.WinDwRefIdeal.Facts] : Prop :=
  ∀ (m : (ℓ : Loc Cert.WinDwRefIdeal.nD Cert.WinDwRefIdeal.τ Cert.WinDwRefIdeal.sig) → Buf (Elt Ideal) ℓ) (g : Dev Cert.WinDwRefIdeal.nD → PrngReg), Pre_WinDwRefIdeal m →
    θ_run (Cert.WinDwRefIdeal.defs (F := Ideal)) (onTc (τ := Cert.WinDwRefIdeal.τ) (Cert.WinDwRefIdeal.main (F := Ideal))) ⟨m, fun _ => 0, g⟩ (fun r => (∀ c : Dev Cert.WinDwRefIdeal.nD,
      r.2.mem ((c.tc : Thread Cert.WinDwRefIdeal.nD Cert.WinDwRefIdeal.τ).loc Cert.WinDwRefIdeal.main_arg0) = m ((c.tc : Thread Cert.WinDwRefIdeal.nD Cert.WinDwRefIdeal.τ).loc Cert.WinDwRefIdeal.main_arg0)
      ∧ r.2.mem ((c.tc : Thread Cert.WinDwRefIdeal.nD Cert.WinDwRefIdeal.τ).loc Cert.WinDwRefIdeal.main_arg1) = m ((c.tc : Thread Cert.WinDwRefIdeal.nD Cert.WinDwRefIdeal.τ).loc Cert.WinDwRefIdeal.main_arg1))
      ∧ r.2.sem = fun _ => 0)

def quiescent_Mlp2Dx [hMlp2Dx : Cert.Mlp2Dx.Facts] : Prop :=
  ∀ (m : (ℓ : Loc Cert.Mlp2Dx.nD Cert.Mlp2Dx.τ Cert.Mlp2Dx.sig) → Buf (Elt Bits) ℓ) (g : Dev Cert.Mlp2Dx.nD → PrngReg), Pre_Mlp2Dx m →
    θ_run (Cert.Mlp2Dx.defs (F := Bits)) (onTc (τ := Cert.Mlp2Dx.τ) (Cert.Mlp2Dx.main (F := Bits))) ⟨m, fun _ => 0, g⟩ (fun r => (∀ c : Dev Cert.Mlp2Dx.nD,
      r.2.mem ((c.tc : Thread Cert.Mlp2Dx.nD Cert.Mlp2Dx.τ).loc Cert.Mlp2Dx.main_arg0) = m ((c.tc : Thread Cert.Mlp2Dx.nD Cert.Mlp2Dx.τ).loc Cert.Mlp2Dx.main_arg0)
      ∧ r.2.mem ((c.tc : Thread Cert.Mlp2Dx.nD Cert.Mlp2Dx.τ).loc Cert.Mlp2Dx.main_arg1) = m ((c.tc : Thread Cert.Mlp2Dx.nD Cert.Mlp2Dx.τ).loc Cert.Mlp2Dx.main_arg1)
      ∧ r.2.mem ((c.tc : Thread Cert.Mlp2Dx.nD Cert.Mlp2Dx.τ).loc Cert.Mlp2Dx.main_arg2) = m ((c.tc : Thread Cert.Mlp2Dx.nD Cert.Mlp2Dx.τ).loc Cert.Mlp2Dx.main_arg2))
      ∧ r.2.sem = fun _ => 0)

def quiescent_Mlp2DxIdeal [hMlp2DxIdeal : Cert.Mlp2DxIdeal.Facts] : Prop :=
  ∀ (m : (ℓ : Loc Cert.Mlp2DxIdeal.nD Cert.Mlp2DxIdeal.τ Cert.Mlp2DxIdeal.sig) → Buf (Elt Ideal) ℓ) (g : Dev Cert.Mlp2DxIdeal.nD → PrngReg), Pre_Mlp2DxIdeal m →
    θ_run (Cert.Mlp2DxIdeal.defs (F := Ideal)) (onTc (τ := Cert.Mlp2DxIdeal.τ) (Cert.Mlp2DxIdeal.main (F := Ideal))) ⟨m, fun _ => 0, g⟩ (fun r => (∀ c : Dev Cert.Mlp2DxIdeal.nD,
      r.2.mem ((c.tc : Thread Cert.Mlp2DxIdeal.nD Cert.Mlp2DxIdeal.τ).loc Cert.Mlp2DxIdeal.main_arg0) = m ((c.tc : Thread Cert.Mlp2DxIdeal.nD Cert.Mlp2DxIdeal.τ).loc Cert.Mlp2DxIdeal.main_arg0)
      ∧ r.2.mem ((c.tc : Thread Cert.Mlp2DxIdeal.nD Cert.Mlp2DxIdeal.τ).loc Cert.Mlp2DxIdeal.main_arg1) = m ((c.tc : Thread Cert.Mlp2DxIdeal.nD Cert.Mlp2DxIdeal.τ).loc Cert.Mlp2DxIdeal.main_arg1)
      ∧ r.2.mem ((c.tc : Thread Cert.Mlp2DxIdeal.nD Cert.Mlp2DxIdeal.τ).loc Cert.Mlp2DxIdeal.main_arg2) = m ((c.tc : Thread Cert.Mlp2DxIdeal.nD Cert.Mlp2DxIdeal.τ).loc Cert.Mlp2DxIdeal.main_arg2))
      ∧ r.2.sem = fun _ => 0)

def quiescent_Mlp2DxRefIdeal [hMlp2DxRefIdeal : Cert.Mlp2DxRefIdeal.Facts] : Prop :=
  ∀ (m : (ℓ : Loc Cert.Mlp2DxRefIdeal.nD Cert.Mlp2DxRefIdeal.τ Cert.Mlp2DxRefIdeal.sig) → Buf (Elt Ideal) ℓ) (g : Dev Cert.Mlp2DxRefIdeal.nD → PrngReg), Pre_Mlp2DxRefIdeal m →
    θ_run (Cert.Mlp2DxRefIdeal.defs (F := Ideal)) (onTc (τ := Cert.Mlp2DxRefIdeal.τ) (Cert.Mlp2DxRefIdeal.main (F := Ideal))) ⟨m, fun _ => 0, g⟩ (fun r => (∀ c : Dev Cert.Mlp2DxRefIdeal.nD,
      r.2.mem ((c.tc : Thread Cert.Mlp2DxRefIdeal.nD Cert.Mlp2DxRefIdeal.τ).loc Cert.Mlp2DxRefIdeal.main_arg0) = m ((c.tc : Thread Cert.Mlp2DxRefIdeal.nD Cert.Mlp2DxRefIdeal.τ).loc Cert.Mlp2DxRefIdeal.main_arg0)
      ∧ r.2.mem ((c.tc : Thread Cert.Mlp2DxRefIdeal.nD Cert.Mlp2DxRefIdeal.τ).loc Cert.Mlp2DxRefIdeal.main_arg1) = m ((c.tc : Thread Cert.Mlp2DxRefIdeal.nD Cert.Mlp2DxRefIdeal.τ).loc Cert.Mlp2DxRefIdeal.main_arg1)
      ∧ r.2.mem ((c.tc : Thread Cert.Mlp2DxRefIdeal.nD Cert.Mlp2DxRefIdeal.τ).loc Cert.Mlp2DxRefIdeal.main_arg2) = m ((c.tc : Thread Cert.Mlp2DxRefIdeal.nD Cert.Mlp2DxRefIdeal.τ).loc Cert.Mlp2DxRefIdeal.main_arg2))
      ∧ r.2.sem = fun _ => 0)

def quiescent_Mlp2Dw [hMlp2Dw : Cert.Mlp2Dw.Facts] : Prop :=
  ∀ (m : (ℓ : Loc Cert.Mlp2Dw.nD Cert.Mlp2Dw.τ Cert.Mlp2Dw.sig) → Buf (Elt Bits) ℓ) (g : Dev Cert.Mlp2Dw.nD → PrngReg), Pre_Mlp2Dw m →
    θ_run (Cert.Mlp2Dw.defs (F := Bits)) (onTc (τ := Cert.Mlp2Dw.τ) (Cert.Mlp2Dw.main (F := Bits))) ⟨m, fun _ => 0, g⟩ (fun r => (∀ c : Dev Cert.Mlp2Dw.nD,
      r.2.mem ((c.tc : Thread Cert.Mlp2Dw.nD Cert.Mlp2Dw.τ).loc Cert.Mlp2Dw.main_arg0) = m ((c.tc : Thread Cert.Mlp2Dw.nD Cert.Mlp2Dw.τ).loc Cert.Mlp2Dw.main_arg0)
      ∧ r.2.mem ((c.tc : Thread Cert.Mlp2Dw.nD Cert.Mlp2Dw.τ).loc Cert.Mlp2Dw.main_arg1) = m ((c.tc : Thread Cert.Mlp2Dw.nD Cert.Mlp2Dw.τ).loc Cert.Mlp2Dw.main_arg1))
      ∧ r.2.sem = fun _ => 0)

def quiescent_Mlp2DwIdeal [hMlp2DwIdeal : Cert.Mlp2DwIdeal.Facts] : Prop :=
  ∀ (m : (ℓ : Loc Cert.Mlp2DwIdeal.nD Cert.Mlp2DwIdeal.τ Cert.Mlp2DwIdeal.sig) → Buf (Elt Ideal) ℓ) (g : Dev Cert.Mlp2DwIdeal.nD → PrngReg), Pre_Mlp2DwIdeal m →
    θ_run (Cert.Mlp2DwIdeal.defs (F := Ideal)) (onTc (τ := Cert.Mlp2DwIdeal.τ) (Cert.Mlp2DwIdeal.main (F := Ideal))) ⟨m, fun _ => 0, g⟩ (fun r => (∀ c : Dev Cert.Mlp2DwIdeal.nD,
      r.2.mem ((c.tc : Thread Cert.Mlp2DwIdeal.nD Cert.Mlp2DwIdeal.τ).loc Cert.Mlp2DwIdeal.main_arg0) = m ((c.tc : Thread Cert.Mlp2DwIdeal.nD Cert.Mlp2DwIdeal.τ).loc Cert.Mlp2DwIdeal.main_arg0)
      ∧ r.2.mem ((c.tc : Thread Cert.Mlp2DwIdeal.nD Cert.Mlp2DwIdeal.τ).loc Cert.Mlp2DwIdeal.main_arg1) = m ((c.tc : Thread Cert.Mlp2DwIdeal.nD Cert.Mlp2DwIdeal.τ).loc Cert.Mlp2DwIdeal.main_arg1))
      ∧ r.2.sem = fun _ => 0)

def quiescent_Mlp2DwRefIdeal [hMlp2DwRefIdeal : Cert.Mlp2DwRefIdeal.Facts] : Prop :=
  ∀ (m : (ℓ : Loc Cert.Mlp2DwRefIdeal.nD Cert.Mlp2DwRefIdeal.τ Cert.Mlp2DwRefIdeal.sig) → Buf (Elt Ideal) ℓ) (g : Dev Cert.Mlp2DwRefIdeal.nD → PrngReg), Pre_Mlp2DwRefIdeal m →
    θ_run (Cert.Mlp2DwRefIdeal.defs (F := Ideal)) (onTc (τ := Cert.Mlp2DwRefIdeal.τ) (Cert.Mlp2DwRefIdeal.main (F := Ideal))) ⟨m, fun _ => 0, g⟩ (fun r => (∀ c : Dev Cert.Mlp2DwRefIdeal.nD,
      r.2.mem ((c.tc : Thread Cert.Mlp2DwRefIdeal.nD Cert.Mlp2DwRefIdeal.τ).loc Cert.Mlp2DwRefIdeal.main_arg0) = m ((c.tc : Thread Cert.Mlp2DwRefIdeal.nD Cert.Mlp2DwRefIdeal.τ).loc Cert.Mlp2DwRefIdeal.main_arg0)
      ∧ r.2.mem ((c.tc : Thread Cert.Mlp2DwRefIdeal.nD Cert.Mlp2DwRefIdeal.τ).loc Cert.Mlp2DwRefIdeal.main_arg1) = m ((c.tc : Thread Cert.Mlp2DwRefIdeal.nD Cert.Mlp2DwRefIdeal.τ).loc Cert.Mlp2DwRefIdeal.main_arg1))
      ∧ r.2.sem = fun _ => 0)

def quiescent_Mlp1Dx [hMlp1Dx : Cert.Mlp1Dx.Facts] : Prop :=
  ∀ (m : (ℓ : Loc Cert.Mlp1Dx.nD Cert.Mlp1Dx.τ Cert.Mlp1Dx.sig) → Buf (Elt Bits) ℓ) (g : Dev Cert.Mlp1Dx.nD → PrngReg), Pre_Mlp1Dx m →
    θ_run (Cert.Mlp1Dx.defs (F := Bits)) (onTc (τ := Cert.Mlp1Dx.τ) (Cert.Mlp1Dx.main (F := Bits))) ⟨m, fun _ => 0, g⟩ (fun r => (∀ c : Dev Cert.Mlp1Dx.nD,
      r.2.mem ((c.tc : Thread Cert.Mlp1Dx.nD Cert.Mlp1Dx.τ).loc Cert.Mlp1Dx.main_arg0) = m ((c.tc : Thread Cert.Mlp1Dx.nD Cert.Mlp1Dx.τ).loc Cert.Mlp1Dx.main_arg0)
      ∧ r.2.mem ((c.tc : Thread Cert.Mlp1Dx.nD Cert.Mlp1Dx.τ).loc Cert.Mlp1Dx.main_arg1) = m ((c.tc : Thread Cert.Mlp1Dx.nD Cert.Mlp1Dx.τ).loc Cert.Mlp1Dx.main_arg1))
      ∧ r.2.sem = fun _ => 0)

def quiescent_Mlp1DxIdeal [hMlp1DxIdeal : Cert.Mlp1DxIdeal.Facts] : Prop :=
  ∀ (m : (ℓ : Loc Cert.Mlp1DxIdeal.nD Cert.Mlp1DxIdeal.τ Cert.Mlp1DxIdeal.sig) → Buf (Elt Ideal) ℓ) (g : Dev Cert.Mlp1DxIdeal.nD → PrngReg), Pre_Mlp1DxIdeal m →
    θ_run (Cert.Mlp1DxIdeal.defs (F := Ideal)) (onTc (τ := Cert.Mlp1DxIdeal.τ) (Cert.Mlp1DxIdeal.main (F := Ideal))) ⟨m, fun _ => 0, g⟩ (fun r => (∀ c : Dev Cert.Mlp1DxIdeal.nD,
      r.2.mem ((c.tc : Thread Cert.Mlp1DxIdeal.nD Cert.Mlp1DxIdeal.τ).loc Cert.Mlp1DxIdeal.main_arg0) = m ((c.tc : Thread Cert.Mlp1DxIdeal.nD Cert.Mlp1DxIdeal.τ).loc Cert.Mlp1DxIdeal.main_arg0)
      ∧ r.2.mem ((c.tc : Thread Cert.Mlp1DxIdeal.nD Cert.Mlp1DxIdeal.τ).loc Cert.Mlp1DxIdeal.main_arg1) = m ((c.tc : Thread Cert.Mlp1DxIdeal.nD Cert.Mlp1DxIdeal.τ).loc Cert.Mlp1DxIdeal.main_arg1))
      ∧ r.2.sem = fun _ => 0)

def quiescent_Mlp1DxRefIdeal [hMlp1DxRefIdeal : Cert.Mlp1DxRefIdeal.Facts] : Prop :=
  ∀ (m : (ℓ : Loc Cert.Mlp1DxRefIdeal.nD Cert.Mlp1DxRefIdeal.τ Cert.Mlp1DxRefIdeal.sig) → Buf (Elt Ideal) ℓ) (g : Dev Cert.Mlp1DxRefIdeal.nD → PrngReg), Pre_Mlp1DxRefIdeal m →
    θ_run (Cert.Mlp1DxRefIdeal.defs (F := Ideal)) (onTc (τ := Cert.Mlp1DxRefIdeal.τ) (Cert.Mlp1DxRefIdeal.main (F := Ideal))) ⟨m, fun _ => 0, g⟩ (fun r => (∀ c : Dev Cert.Mlp1DxRefIdeal.nD,
      r.2.mem ((c.tc : Thread Cert.Mlp1DxRefIdeal.nD Cert.Mlp1DxRefIdeal.τ).loc Cert.Mlp1DxRefIdeal.main_arg0) = m ((c.tc : Thread Cert.Mlp1DxRefIdeal.nD Cert.Mlp1DxRefIdeal.τ).loc Cert.Mlp1DxRefIdeal.main_arg0)
      ∧ r.2.mem ((c.tc : Thread Cert.Mlp1DxRefIdeal.nD Cert.Mlp1DxRefIdeal.τ).loc Cert.Mlp1DxRefIdeal.main_arg1) = m ((c.tc : Thread Cert.Mlp1DxRefIdeal.nD Cert.Mlp1DxRefIdeal.τ).loc Cert.Mlp1DxRefIdeal.main_arg1))
      ∧ r.2.sem = fun _ => 0)

def quiescent_Mlp1Dw [hMlp1Dw : Cert.Mlp1Dw.Facts] : Prop :=
  ∀ (m : (ℓ : Loc Cert.Mlp1Dw.nD Cert.Mlp1Dw.τ Cert.Mlp1Dw.sig) → Buf (Elt Bits) ℓ) (g : Dev Cert.Mlp1Dw.nD → PrngReg), Pre_Mlp1Dw m →
    θ_run (Cert.Mlp1Dw.defs (F := Bits)) (onTc (τ := Cert.Mlp1Dw.τ) (Cert.Mlp1Dw.main (F := Bits))) ⟨m, fun _ => 0, g⟩ (fun r => (∀ c : Dev Cert.Mlp1Dw.nD,
      r.2.mem ((c.tc : Thread Cert.Mlp1Dw.nD Cert.Mlp1Dw.τ).loc Cert.Mlp1Dw.main_arg0) = m ((c.tc : Thread Cert.Mlp1Dw.nD Cert.Mlp1Dw.τ).loc Cert.Mlp1Dw.main_arg0)
      ∧ r.2.mem ((c.tc : Thread Cert.Mlp1Dw.nD Cert.Mlp1Dw.τ).loc Cert.Mlp1Dw.main_arg1) = m ((c.tc : Thread Cert.Mlp1Dw.nD Cert.Mlp1Dw.τ).loc Cert.Mlp1Dw.main_arg1))
      ∧ r.2.sem = fun _ => 0)

def quiescent_Mlp1DwIdeal [hMlp1DwIdeal : Cert.Mlp1DwIdeal.Facts] : Prop :=
  ∀ (m : (ℓ : Loc Cert.Mlp1DwIdeal.nD Cert.Mlp1DwIdeal.τ Cert.Mlp1DwIdeal.sig) → Buf (Elt Ideal) ℓ) (g : Dev Cert.Mlp1DwIdeal.nD → PrngReg), Pre_Mlp1DwIdeal m →
    θ_run (Cert.Mlp1DwIdeal.defs (F := Ideal)) (onTc (τ := Cert.Mlp1DwIdeal.τ) (Cert.Mlp1DwIdeal.main (F := Ideal))) ⟨m, fun _ => 0, g⟩ (fun r => (∀ c : Dev Cert.Mlp1DwIdeal.nD,
      r.2.mem ((c.tc : Thread Cert.Mlp1DwIdeal.nD Cert.Mlp1DwIdeal.τ).loc Cert.Mlp1DwIdeal.main_arg0) = m ((c.tc : Thread Cert.Mlp1DwIdeal.nD Cert.Mlp1DwIdeal.τ).loc Cert.Mlp1DwIdeal.main_arg0)
      ∧ r.2.mem ((c.tc : Thread Cert.Mlp1DwIdeal.nD Cert.Mlp1DwIdeal.τ).loc Cert.Mlp1DwIdeal.main_arg1) = m ((c.tc : Thread Cert.Mlp1DwIdeal.nD Cert.Mlp1DwIdeal.τ).loc Cert.Mlp1DwIdeal.main_arg1))
      ∧ r.2.sem = fun _ => 0)

def quiescent_Mlp1DwRefIdeal [hMlp1DwRefIdeal : Cert.Mlp1DwRefIdeal.Facts] : Prop :=
  ∀ (m : (ℓ : Loc Cert.Mlp1DwRefIdeal.nD Cert.Mlp1DwRefIdeal.τ Cert.Mlp1DwRefIdeal.sig) → Buf (Elt Ideal) ℓ) (g : Dev Cert.Mlp1DwRefIdeal.nD → PrngReg), Pre_Mlp1DwRefIdeal m →
    θ_run (Cert.Mlp1DwRefIdeal.defs (F := Ideal)) (onTc (τ := Cert.Mlp1DwRefIdeal.τ) (Cert.Mlp1DwRefIdeal.main (F := Ideal))) ⟨m, fun _ => 0, g⟩ (fun r => (∀ c : Dev Cert.Mlp1DwRefIdeal.nD,
      r.2.mem ((c.tc : Thread Cert.Mlp1DwRefIdeal.nD Cert.Mlp1DwRefIdeal.τ).loc Cert.Mlp1DwRefIdeal.main_arg0) = m ((c.tc : Thread Cert.Mlp1DwRefIdeal.nD Cert.Mlp1DwRefIdeal.τ).loc Cert.Mlp1DwRefIdeal.main_arg0)
      ∧ r.2.mem ((c.tc : Thread Cert.Mlp1DwRefIdeal.nD Cert.Mlp1DwRefIdeal.τ).loc Cert.Mlp1DwRefIdeal.main_arg1) = m ((c.tc : Thread Cert.Mlp1DwRefIdeal.nD Cert.Mlp1DwRefIdeal.τ).loc Cert.Mlp1DwRefIdeal.main_arg1))
      ∧ r.2.sem = fun _ => 0)

def quiescent_WoutDx [hWoutDx : Cert.WoutDx.Facts] : Prop :=
  ∀ (m : (ℓ : Loc Cert.WoutDx.nD Cert.WoutDx.τ Cert.WoutDx.sig) → Buf (Elt Bits) ℓ) (g : Dev Cert.WoutDx.nD → PrngReg), Pre_WoutDx m →
    θ_run (Cert.WoutDx.defs (F := Bits)) (onTc (τ := Cert.WoutDx.τ) (Cert.WoutDx.main (F := Bits))) ⟨m, fun _ => 0, g⟩ (fun r => (∀ c : Dev Cert.WoutDx.nD,
      r.2.mem ((c.tc : Thread Cert.WoutDx.nD Cert.WoutDx.τ).loc Cert.WoutDx.main_arg0) = m ((c.tc : Thread Cert.WoutDx.nD Cert.WoutDx.τ).loc Cert.WoutDx.main_arg0)
      ∧ r.2.mem ((c.tc : Thread Cert.WoutDx.nD Cert.WoutDx.τ).loc Cert.WoutDx.main_arg1) = m ((c.tc : Thread Cert.WoutDx.nD Cert.WoutDx.τ).loc Cert.WoutDx.main_arg1))
      ∧ r.2.sem = fun _ => 0)

def quiescent_WoutDxIdeal [hWoutDxIdeal : Cert.WoutDxIdeal.Facts] : Prop :=
  ∀ (m : (ℓ : Loc Cert.WoutDxIdeal.nD Cert.WoutDxIdeal.τ Cert.WoutDxIdeal.sig) → Buf (Elt Ideal) ℓ) (g : Dev Cert.WoutDxIdeal.nD → PrngReg), Pre_WoutDxIdeal m →
    θ_run (Cert.WoutDxIdeal.defs (F := Ideal)) (onTc (τ := Cert.WoutDxIdeal.τ) (Cert.WoutDxIdeal.main (F := Ideal))) ⟨m, fun _ => 0, g⟩ (fun r => (∀ c : Dev Cert.WoutDxIdeal.nD,
      r.2.mem ((c.tc : Thread Cert.WoutDxIdeal.nD Cert.WoutDxIdeal.τ).loc Cert.WoutDxIdeal.main_arg0) = m ((c.tc : Thread Cert.WoutDxIdeal.nD Cert.WoutDxIdeal.τ).loc Cert.WoutDxIdeal.main_arg0)
      ∧ r.2.mem ((c.tc : Thread Cert.WoutDxIdeal.nD Cert.WoutDxIdeal.τ).loc Cert.WoutDxIdeal.main_arg1) = m ((c.tc : Thread Cert.WoutDxIdeal.nD Cert.WoutDxIdeal.τ).loc Cert.WoutDxIdeal.main_arg1))
      ∧ r.2.sem = fun _ => 0)

def quiescent_WoutDxRefIdeal [hWoutDxRefIdeal : Cert.WoutDxRefIdeal.Facts] : Prop :=
  ∀ (m : (ℓ : Loc Cert.WoutDxRefIdeal.nD Cert.WoutDxRefIdeal.τ Cert.WoutDxRefIdeal.sig) → Buf (Elt Ideal) ℓ) (g : Dev Cert.WoutDxRefIdeal.nD → PrngReg), Pre_WoutDxRefIdeal m →
    θ_run (Cert.WoutDxRefIdeal.defs (F := Ideal)) (onTc (τ := Cert.WoutDxRefIdeal.τ) (Cert.WoutDxRefIdeal.main (F := Ideal))) ⟨m, fun _ => 0, g⟩ (fun r => (∀ c : Dev Cert.WoutDxRefIdeal.nD,
      r.2.mem ((c.tc : Thread Cert.WoutDxRefIdeal.nD Cert.WoutDxRefIdeal.τ).loc Cert.WoutDxRefIdeal.main_arg0) = m ((c.tc : Thread Cert.WoutDxRefIdeal.nD Cert.WoutDxRefIdeal.τ).loc Cert.WoutDxRefIdeal.main_arg0)
      ∧ r.2.mem ((c.tc : Thread Cert.WoutDxRefIdeal.nD Cert.WoutDxRefIdeal.τ).loc Cert.WoutDxRefIdeal.main_arg1) = m ((c.tc : Thread Cert.WoutDxRefIdeal.nD Cert.WoutDxRefIdeal.τ).loc Cert.WoutDxRefIdeal.main_arg1))
      ∧ r.2.sem = fun _ => 0)

def quiescent_WoutDw [hWoutDw : Cert.WoutDw.Facts] : Prop :=
  ∀ (m : (ℓ : Loc Cert.WoutDw.nD Cert.WoutDw.τ Cert.WoutDw.sig) → Buf (Elt Bits) ℓ) (g : Dev Cert.WoutDw.nD → PrngReg), Pre_WoutDw m →
    θ_run (Cert.WoutDw.defs (F := Bits)) (onTc (τ := Cert.WoutDw.τ) (Cert.WoutDw.main (F := Bits))) ⟨m, fun _ => 0, g⟩ (fun r => (∀ c : Dev Cert.WoutDw.nD,
      r.2.mem ((c.tc : Thread Cert.WoutDw.nD Cert.WoutDw.τ).loc Cert.WoutDw.main_arg0) = m ((c.tc : Thread Cert.WoutDw.nD Cert.WoutDw.τ).loc Cert.WoutDw.main_arg0)
      ∧ r.2.mem ((c.tc : Thread Cert.WoutDw.nD Cert.WoutDw.τ).loc Cert.WoutDw.main_arg1) = m ((c.tc : Thread Cert.WoutDw.nD Cert.WoutDw.τ).loc Cert.WoutDw.main_arg1))
      ∧ r.2.sem = fun _ => 0)

def quiescent_WoutDwIdeal [hWoutDwIdeal : Cert.WoutDwIdeal.Facts] : Prop :=
  ∀ (m : (ℓ : Loc Cert.WoutDwIdeal.nD Cert.WoutDwIdeal.τ Cert.WoutDwIdeal.sig) → Buf (Elt Ideal) ℓ) (g : Dev Cert.WoutDwIdeal.nD → PrngReg), Pre_WoutDwIdeal m →
    θ_run (Cert.WoutDwIdeal.defs (F := Ideal)) (onTc (τ := Cert.WoutDwIdeal.τ) (Cert.WoutDwIdeal.main (F := Ideal))) ⟨m, fun _ => 0, g⟩ (fun r => (∀ c : Dev Cert.WoutDwIdeal.nD,
      r.2.mem ((c.tc : Thread Cert.WoutDwIdeal.nD Cert.WoutDwIdeal.τ).loc Cert.WoutDwIdeal.main_arg0) = m ((c.tc : Thread Cert.WoutDwIdeal.nD Cert.WoutDwIdeal.τ).loc Cert.WoutDwIdeal.main_arg0)
      ∧ r.2.mem ((c.tc : Thread Cert.WoutDwIdeal.nD Cert.WoutDwIdeal.τ).loc Cert.WoutDwIdeal.main_arg1) = m ((c.tc : Thread Cert.WoutDwIdeal.nD Cert.WoutDwIdeal.τ).loc Cert.WoutDwIdeal.main_arg1))
      ∧ r.2.sem = fun _ => 0)

def quiescent_WoutDwRefIdeal [hWoutDwRefIdeal : Cert.WoutDwRefIdeal.Facts] : Prop :=
  ∀ (m : (ℓ : Loc Cert.WoutDwRefIdeal.nD Cert.WoutDwRefIdeal.τ Cert.WoutDwRefIdeal.sig) → Buf (Elt Ideal) ℓ) (g : Dev Cert.WoutDwRefIdeal.nD → PrngReg), Pre_WoutDwRefIdeal m →
    θ_run (Cert.WoutDwRefIdeal.defs (F := Ideal)) (onTc (τ := Cert.WoutDwRefIdeal.τ) (Cert.WoutDwRefIdeal.main (F := Ideal))) ⟨m, fun _ => 0, g⟩ (fun r => (∀ c : Dev Cert.WoutDwRefIdeal.nD,
      r.2.mem ((c.tc : Thread Cert.WoutDwRefIdeal.nD Cert.WoutDwRefIdeal.τ).loc Cert.WoutDwRefIdeal.main_arg0) = m ((c.tc : Thread Cert.WoutDwRefIdeal.nD Cert.WoutDwRefIdeal.τ).loc Cert.WoutDwRefIdeal.main_arg0)
      ∧ r.2.mem ((c.tc : Thread Cert.WoutDwRefIdeal.nD Cert.WoutDwRefIdeal.τ).loc Cert.WoutDwRefIdeal.main_arg1) = m ((c.tc : Thread Cert.WoutDwRefIdeal.nD Cert.WoutDwRefIdeal.τ).loc Cert.WoutDwRefIdeal.main_arg1))
      ∧ r.2.sem = fun _ => 0)

def quiescent_BranchDx [hBranchDx : Cert.BranchDx.Facts] : Prop :=
  ∀ (m : (ℓ : Loc Cert.BranchDx.nD Cert.BranchDx.τ Cert.BranchDx.sig) → Buf (Elt Bits) ℓ) (g : Dev Cert.BranchDx.nD → PrngReg), Pre_BranchDx m →
    θ_run (Cert.BranchDx.defs (F := Bits)) (onTc (τ := Cert.BranchDx.τ) (Cert.BranchDx.main (F := Bits))) ⟨m, fun _ => 0, g⟩ (fun r => (∀ c : Dev Cert.BranchDx.nD,
      r.2.mem ((c.tc : Thread Cert.BranchDx.nD Cert.BranchDx.τ).loc Cert.BranchDx.main_arg0) = m ((c.tc : Thread Cert.BranchDx.nD Cert.BranchDx.τ).loc Cert.BranchDx.main_arg0)
      ∧ r.2.mem ((c.tc : Thread Cert.BranchDx.nD Cert.BranchDx.τ).loc Cert.BranchDx.main_arg1) = m ((c.tc : Thread Cert.BranchDx.nD Cert.BranchDx.τ).loc Cert.BranchDx.main_arg1))
      ∧ r.2.sem = fun _ => 0)

def quiescent_BranchDxIdeal [hBranchDxIdeal : Cert.BranchDxIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg), Pre_BranchDxIdeal m →
    θ_run (Cert.BranchDxIdeal.defs (F := Ideal)) (onTc (τ := Cert.BranchDxIdeal.τ) (Cert.BranchDxIdeal.main (F := Ideal))) ⟨m, fun _ => 0, g⟩ (fun r => (∀ c : Dev Cert.BranchDxIdeal.nD,
      r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
      ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ r.2.sem = fun _ => 0)

def quiescent_BranchDxRefIdeal [hBranchDxRefIdeal : Cert.BranchDxRefIdeal.Facts] : Prop :=
  ∀ (m : (ℓ : Loc Cert.BranchDxRefIdeal.nD Cert.BranchDxRefIdeal.τ Cert.BranchDxRefIdeal.sig) → Buf (Elt Ideal) ℓ) (g : Dev Cert.BranchDxRefIdeal.nD → PrngReg), Pre_BranchDxRefIdeal m →
    θ_run (Cert.BranchDxRefIdeal.defs (F := Ideal)) (onTc (τ := Cert.BranchDxRefIdeal.τ) (Cert.BranchDxRefIdeal.main (F := Ideal))) ⟨m, fun _ => 0, g⟩ (fun r => (∀ c : Dev Cert.BranchDxRefIdeal.nD,
      r.2.mem ((c.tc : Thread Cert.BranchDxRefIdeal.nD Cert.BranchDxRefIdeal.τ).loc Cert.BranchDxRefIdeal.main_arg0) = m ((c.tc : Thread Cert.BranchDxRefIdeal.nD Cert.BranchDxRefIdeal.τ).loc Cert.BranchDxRefIdeal.main_arg0)
      ∧ r.2.mem ((c.tc : Thread Cert.BranchDxRefIdeal.nD Cert.BranchDxRefIdeal.τ).loc Cert.BranchDxRefIdeal.main_arg1) = m ((c.tc : Thread Cert.BranchDxRefIdeal.nD Cert.BranchDxRefIdeal.τ).loc Cert.BranchDxRefIdeal.main_arg1))
      ∧ r.2.sem = fun _ => 0)

def quiescent_BranchDw [hBranchDw : Cert.BranchDw.Facts] : Prop :=
  ∀ (m : (ℓ : Loc Cert.BranchDw.nD Cert.BranchDw.τ Cert.BranchDw.sig) → Buf (Elt Bits) ℓ) (g : Dev Cert.BranchDw.nD → PrngReg), Pre_BranchDw m →
    θ_run (Cert.BranchDw.defs (F := Bits)) (onTc (τ := Cert.BranchDw.τ) (Cert.BranchDw.main (F := Bits))) ⟨m, fun _ => 0, g⟩ (fun r => (∀ c : Dev Cert.BranchDw.nD,
      r.2.mem ((c.tc : Thread Cert.BranchDw.nD Cert.BranchDw.τ).loc Cert.BranchDw.main_arg0) = m ((c.tc : Thread Cert.BranchDw.nD Cert.BranchDw.τ).loc Cert.BranchDw.main_arg0)
      ∧ r.2.mem ((c.tc : Thread Cert.BranchDw.nD Cert.BranchDw.τ).loc Cert.BranchDw.main_arg1) = m ((c.tc : Thread Cert.BranchDw.nD Cert.BranchDw.τ).loc Cert.BranchDw.main_arg1))
      ∧ r.2.sem = fun _ => 0)

def quiescent_BranchDwIdeal [hBranchDwIdeal : Cert.BranchDwIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg), Pre_BranchDwIdeal m →
    θ_run (Cert.BranchDwIdeal.defs (F := Ideal)) (onTc (τ := Cert.BranchDwIdeal.τ) (Cert.BranchDwIdeal.main (F := Ideal))) ⟨m, fun _ => 0, g⟩ (fun r => (∀ c : Dev Cert.BranchDwIdeal.nD,
      r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
      ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ r.2.sem = fun _ => 0)

def quiescent_BranchDwRefIdeal [hBranchDwRefIdeal : Cert.BranchDwRefIdeal.Facts] : Prop :=
  ∀ (m : (ℓ : Loc Cert.BranchDwRefIdeal.nD Cert.BranchDwRefIdeal.τ Cert.BranchDwRefIdeal.sig) → Buf (Elt Ideal) ℓ) (g : Dev Cert.BranchDwRefIdeal.nD → PrngReg), Pre_BranchDwRefIdeal m →
    θ_run (Cert.BranchDwRefIdeal.defs (F := Ideal)) (onTc (τ := Cert.BranchDwRefIdeal.τ) (Cert.BranchDwRefIdeal.main (F := Ideal))) ⟨m, fun _ => 0, g⟩ (fun r => (∀ c : Dev Cert.BranchDwRefIdeal.nD,
      r.2.mem ((c.tc : Thread Cert.BranchDwRefIdeal.nD Cert.BranchDwRefIdeal.τ).loc Cert.BranchDwRefIdeal.main_arg0) = m ((c.tc : Thread Cert.BranchDwRefIdeal.nD Cert.BranchDwRefIdeal.τ).loc Cert.BranchDwRefIdeal.main_arg0)
      ∧ r.2.mem ((c.tc : Thread Cert.BranchDwRefIdeal.nD Cert.BranchDwRefIdeal.τ).loc Cert.BranchDwRefIdeal.main_arg1) = m ((c.tc : Thread Cert.BranchDwRefIdeal.nD Cert.BranchDwRefIdeal.τ).loc Cert.BranchDwRefIdeal.main_arg1))
      ∧ r.2.sem = fun _ => 0)

def quiescent_MergeB [hMergeB : Cert.MergeB.Facts] : Prop :=
  ∀ (m : (ℓ : Loc Cert.MergeB.nD Cert.MergeB.τ Cert.MergeB.sig) → Buf (Elt Bits) ℓ) (g : Dev Cert.MergeB.nD → PrngReg), Pre_MergeB m →
    θ_run (Cert.MergeB.defs (F := Bits)) (onTc (τ := Cert.MergeB.τ) (Cert.MergeB.main (F := Bits))) ⟨m, fun _ => 0, g⟩ (fun r => (∀ c : Dev Cert.MergeB.nD,
      r.2.mem ((c.tc : Thread Cert.MergeB.nD Cert.MergeB.τ).loc Cert.MergeB.main_arg0) = m ((c.tc : Thread Cert.MergeB.nD Cert.MergeB.τ).loc Cert.MergeB.main_arg0)
      ∧ r.2.mem ((c.tc : Thread Cert.MergeB.nD Cert.MergeB.τ).loc Cert.MergeB.main_arg1) = m ((c.tc : Thread Cert.MergeB.nD Cert.MergeB.τ).loc Cert.MergeB.main_arg1)
      ∧ r.2.mem ((c.tc : Thread Cert.MergeB.nD Cert.MergeB.τ).loc Cert.MergeB.main_arg2) = m ((c.tc : Thread Cert.MergeB.nD Cert.MergeB.τ).loc Cert.MergeB.main_arg2)
      ∧ r.2.mem ((c.tc : Thread Cert.MergeB.nD Cert.MergeB.τ).loc Cert.MergeB.main_arg3) = m ((c.tc : Thread Cert.MergeB.nD Cert.MergeB.τ).loc Cert.MergeB.main_arg3)
      ∧ r.2.mem ((c.tc : Thread Cert.MergeB.nD Cert.MergeB.τ).loc Cert.MergeB.main_arg4) = m ((c.tc : Thread Cert.MergeB.nD Cert.MergeB.τ).loc Cert.MergeB.main_arg4)
      ∧ r.2.mem ((c.tc : Thread Cert.MergeB.nD Cert.MergeB.τ).loc Cert.MergeB.main_arg5) = m ((c.tc : Thread Cert.MergeB.nD Cert.MergeB.τ).loc Cert.MergeB.main_arg5))
      ∧ r.2.sem = fun _ => 0)

def quiescent_MergeBIdeal [hMergeBIdeal : Cert.MergeBIdeal.Facts] : Prop :=
  ∀ (m : (ℓ : Loc Cert.MergeBIdeal.nD Cert.MergeBIdeal.τ Cert.MergeBIdeal.sig) → Buf (Elt Ideal) ℓ) (g : Dev Cert.MergeBIdeal.nD → PrngReg), Pre_MergeBIdeal m →
    θ_run (Cert.MergeBIdeal.defs (F := Ideal)) (onTc (τ := Cert.MergeBIdeal.τ) (Cert.MergeBIdeal.main (F := Ideal))) ⟨m, fun _ => 0, g⟩ (fun r => (∀ c : Dev Cert.MergeBIdeal.nD,
      r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
      ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
      ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
      ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3)
      ∧ r.2.mem ((c.tc : Thread Cert.MergeBIdeal.nD Cert.MergeBIdeal.τ).loc Cert.MergeBIdeal.main_arg4) = m ((c.tc : Thread Cert.MergeBIdeal.nD Cert.MergeBIdeal.τ).loc Cert.MergeBIdeal.main_arg4)
      ∧ r.2.mem ((c.tc : Thread Cert.MergeBIdeal.nD Cert.MergeBIdeal.τ).loc Cert.MergeBIdeal.main_arg5) = m ((c.tc : Thread Cert.MergeBIdeal.nD Cert.MergeBIdeal.τ).loc Cert.MergeBIdeal.main_arg5))
      ∧ r.2.sem = fun _ => 0)

def quiescent_MergeBRefIdeal [hMergeBRefIdeal : Cert.MergeBRefIdeal.Facts] : Prop :=
  ∀ (m : (ℓ : Loc Cert.MergeBRefIdeal.nD Cert.MergeBRefIdeal.τ Cert.MergeBRefIdeal.sig) → Buf (Elt Ideal) ℓ) (g : Dev Cert.MergeBRefIdeal.nD → PrngReg), Pre_MergeBRefIdeal m →
    θ_run (Cert.MergeBRefIdeal.defs (F := Ideal)) (onTc (τ := Cert.MergeBRefIdeal.τ) (Cert.MergeBRefIdeal.main (F := Ideal))) ⟨m, fun _ => 0, g⟩ (fun r => (∀ c : Dev Cert.MergeBRefIdeal.nD,
      r.2.mem ((c.tc : Thread Cert.MergeBRefIdeal.nD Cert.MergeBRefIdeal.τ).loc Cert.MergeBRefIdeal.main_arg0) = m ((c.tc : Thread Cert.MergeBRefIdeal.nD Cert.MergeBRefIdeal.τ).loc Cert.MergeBRefIdeal.main_arg0)
      ∧ r.2.mem ((c.tc : Thread Cert.MergeBRefIdeal.nD Cert.MergeBRefIdeal.τ).loc Cert.MergeBRefIdeal.main_arg1) = m ((c.tc : Thread Cert.MergeBRefIdeal.nD Cert.MergeBRefIdeal.τ).loc Cert.MergeBRefIdeal.main_arg1)
      ∧ r.2.mem ((c.tc : Thread Cert.MergeBRefIdeal.nD Cert.MergeBRefIdeal.τ).loc Cert.MergeBRefIdeal.main_arg2) = m ((c.tc : Thread Cert.MergeBRefIdeal.nD Cert.MergeBRefIdeal.τ).loc Cert.MergeBRefIdeal.main_arg2)
      ∧ r.2.mem ((c.tc : Thread Cert.MergeBRefIdeal.nD Cert.MergeBRefIdeal.τ).loc Cert.MergeBRefIdeal.main_arg3) = m ((c.tc : Thread Cert.MergeBRefIdeal.nD Cert.MergeBRefIdeal.τ).loc Cert.MergeBRefIdeal.main_arg3)
      ∧ r.2.mem ((c.tc : Thread Cert.MergeBRefIdeal.nD Cert.MergeBRefIdeal.τ).loc Cert.MergeBRefIdeal.main_arg4) = m ((c.tc : Thread Cert.MergeBRefIdeal.nD Cert.MergeBRefIdeal.τ).loc Cert.MergeBRefIdeal.main_arg4)
      ∧ r.2.mem ((c.tc : Thread Cert.MergeBRefIdeal.nD Cert.MergeBRefIdeal.τ).loc Cert.MergeBRefIdeal.main_arg5) = m ((c.tc : Thread Cert.MergeBRefIdeal.nD Cert.MergeBRefIdeal.τ).loc Cert.MergeBRefIdeal.main_arg5))
      ∧ r.2.sem = fun _ => 0)

def quiescent_ShortB [hShortB : Cert.ShortB.Facts] : Prop :=
  ∀ (m : (ℓ : Loc Cert.ShortB.nD Cert.ShortB.τ Cert.ShortB.sig) → Buf (Elt Bits) ℓ) (g : Dev Cert.ShortB.nD → PrngReg), Pre_ShortB m →
    θ_run (Cert.ShortB.defs (F := Bits)) (onTc (τ := Cert.ShortB.τ) (Cert.ShortB.main (F := Bits))) ⟨m, fun _ => 0, g⟩ (fun r => (∀ c : Dev Cert.ShortB.nD,
      r.2.mem ((c.tc : Thread Cert.ShortB.nD Cert.ShortB.τ).loc Cert.ShortB.main_arg0) = m ((c.tc : Thread Cert.ShortB.nD Cert.ShortB.τ).loc Cert.ShortB.main_arg0)
      ∧ r.2.mem ((c.tc : Thread Cert.ShortB.nD Cert.ShortB.τ).loc Cert.ShortB.main_arg1) = m ((c.tc : Thread Cert.ShortB.nD Cert.ShortB.τ).loc Cert.ShortB.main_arg1)
      ∧ r.2.mem ((c.tc : Thread Cert.ShortB.nD Cert.ShortB.τ).loc Cert.ShortB.main_arg2) = m ((c.tc : Thread Cert.ShortB.nD Cert.ShortB.τ).loc Cert.ShortB.main_arg2))
      ∧ r.2.sem = fun _ => 0)

def quiescent_ShortBIdeal [hShortBIdeal : Cert.ShortBIdeal.Facts] : Prop :=
  ∀ (m : (ℓ : Loc Cert.ShortBIdeal.nD Cert.ShortBIdeal.τ Cert.ShortBIdeal.sig) → Buf (Elt Ideal) ℓ) (g : Dev Cert.ShortBIdeal.nD → PrngReg), Pre_ShortBIdeal m →
    θ_run (Cert.ShortBIdeal.defs (F := Ideal)) (onTc (τ := Cert.ShortBIdeal.τ) (Cert.ShortBIdeal.main (F := Ideal))) ⟨m, fun _ => 0, g⟩ (fun r => (∀ c : Dev Cert.ShortBIdeal.nD,
      r.2.mem ((c.tc : Thread Cert.ShortBIdeal.nD Cert.ShortBIdeal.τ).loc Cert.ShortBIdeal.main_arg0) = m ((c.tc : Thread Cert.ShortBIdeal.nD Cert.ShortBIdeal.τ).loc Cert.ShortBIdeal.main_arg0)
      ∧ r.2.mem ((c.tc : Thread Cert.ShortBIdeal.nD Cert.ShortBIdeal.τ).loc Cert.ShortBIdeal.main_arg1) = m ((c.tc : Thread Cert.ShortBIdeal.nD Cert.ShortBIdeal.τ).loc Cert.ShortBIdeal.main_arg1)
      ∧ r.2.mem ((c.tc : Thread Cert.ShortBIdeal.nD Cert.ShortBIdeal.τ).loc Cert.ShortBIdeal.main_arg2) = m ((c.tc : Thread Cert.ShortBIdeal.nD Cert.ShortBIdeal.τ).loc Cert.ShortBIdeal.main_arg2))
      ∧ r.2.sem = fun _ => 0)

def quiescent_ShortBRefIdeal [hShortBRefIdeal : Cert.ShortBRefIdeal.Facts] : Prop :=
  ∀ (m : (ℓ : Loc Cert.ShortBRefIdeal.nD Cert.ShortBRefIdeal.τ Cert.ShortBRefIdeal.sig) → Buf (Elt Ideal) ℓ) (g : Dev Cert.ShortBRefIdeal.nD → PrngReg), Pre_ShortBRefIdeal m →
    θ_run (Cert.ShortBRefIdeal.defs (F := Ideal)) (onTc (τ := Cert.ShortBRefIdeal.τ) (Cert.ShortBRefIdeal.main (F := Ideal))) ⟨m, fun _ => 0, g⟩ (fun r => (∀ c : Dev Cert.ShortBRefIdeal.nD,
      r.2.mem ((c.tc : Thread Cert.ShortBRefIdeal.nD Cert.ShortBRefIdeal.τ).loc Cert.ShortBRefIdeal.main_arg0) = m ((c.tc : Thread Cert.ShortBRefIdeal.nD Cert.ShortBRefIdeal.τ).loc Cert.ShortBRefIdeal.main_arg0)
      ∧ r.2.mem ((c.tc : Thread Cert.ShortBRefIdeal.nD Cert.ShortBRefIdeal.τ).loc Cert.ShortBRefIdeal.main_arg1) = m ((c.tc : Thread Cert.ShortBRefIdeal.nD Cert.ShortBRefIdeal.τ).loc Cert.ShortBRefIdeal.main_arg1)
      ∧ r.2.mem ((c.tc : Thread Cert.ShortBRefIdeal.nD Cert.ShortBRefIdeal.τ).loc Cert.ShortBRefIdeal.main_arg2) = m ((c.tc : Thread Cert.ShortBRefIdeal.nD Cert.ShortBRefIdeal.τ).loc Cert.ShortBRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_ShortF [hShortF : Cert.ShortF.Facts] : Prop :=
  ∀ (m : (ℓ : Loc Cert.ShortF.nD Cert.ShortF.τ Cert.ShortF.sig) → Buf (Elt Bits) ℓ) (g : Dev Cert.ShortF.nD → PrngReg), Pre_ShortF m →
    θ_run (Cert.ShortF.defs (F := Bits)) (onTc (τ := Cert.ShortF.τ) (Cert.ShortF.main (F := Bits))) ⟨m, fun _ => 0, g⟩ (fun r => (∀ c : Dev Cert.ShortF.nD,
      r.2.mem ((c.tc : Thread Cert.ShortF.nD Cert.ShortF.τ).loc Cert.ShortF.main_arg0) = m ((c.tc : Thread Cert.ShortF.nD Cert.ShortF.τ).loc Cert.ShortF.main_arg0)
      ∧ r.2.mem ((c.tc : Thread Cert.ShortF.nD Cert.ShortF.τ).loc Cert.ShortF.main_arg1) = m ((c.tc : Thread Cert.ShortF.nD Cert.ShortF.τ).loc Cert.ShortF.main_arg1))
      ∧ r.2.sem = fun _ => 0)

def quiescent_ShortFIdeal [hShortFIdeal : Cert.ShortFIdeal.Facts] : Prop :=
  ∀ (m : (ℓ : Loc Cert.ShortFIdeal.nD Cert.ShortFIdeal.τ Cert.ShortFIdeal.sig) → Buf (Elt Ideal) ℓ) (g : Dev Cert.ShortFIdeal.nD → PrngReg), Pre_ShortFIdeal m →
    θ_run (Cert.ShortFIdeal.defs (F := Ideal)) (onTc (τ := Cert.ShortFIdeal.τ) (Cert.ShortFIdeal.main (F := Ideal))) ⟨m, fun _ => 0, g⟩ (fun r => (∀ c : Dev Cert.ShortFIdeal.nD,
      r.2.mem ((c.tc : Thread Cert.ShortFIdeal.nD Cert.ShortFIdeal.τ).loc Cert.ShortFIdeal.main_arg0) = m ((c.tc : Thread Cert.ShortFIdeal.nD Cert.ShortFIdeal.τ).loc Cert.ShortFIdeal.main_arg0)
      ∧ r.2.mem ((c.tc : Thread Cert.ShortFIdeal.nD Cert.ShortFIdeal.τ).loc Cert.ShortFIdeal.main_arg1) = m ((c.tc : Thread Cert.ShortFIdeal.nD Cert.ShortFIdeal.τ).loc Cert.ShortFIdeal.main_arg1))
      ∧ r.2.sem = fun _ => 0)

def quiescent_ShortFRefIdeal [hShortFRefIdeal : Cert.ShortFRefIdeal.Facts] : Prop :=
  ∀ (m : (ℓ : Loc Cert.ShortFRefIdeal.nD Cert.ShortFRefIdeal.τ Cert.ShortFRefIdeal.sig) → Buf (Elt Ideal) ℓ) (g : Dev Cert.ShortFRefIdeal.nD → PrngReg), Pre_ShortFRefIdeal m →
    θ_run (Cert.ShortFRefIdeal.defs (F := Ideal)) (onTc (τ := Cert.ShortFRefIdeal.τ) (Cert.ShortFRefIdeal.main (F := Ideal))) ⟨m, fun _ => 0, g⟩ (fun r => (∀ c : Dev Cert.ShortFRefIdeal.nD,
      r.2.mem ((c.tc : Thread Cert.ShortFRefIdeal.nD Cert.ShortFRefIdeal.τ).loc Cert.ShortFRefIdeal.main_arg0) = m ((c.tc : Thread Cert.ShortFRefIdeal.nD Cert.ShortFRefIdeal.τ).loc Cert.ShortFRefIdeal.main_arg0)
      ∧ r.2.mem ((c.tc : Thread Cert.ShortFRefIdeal.nD Cert.ShortFRefIdeal.τ).loc Cert.ShortFRefIdeal.main_arg1) = m ((c.tc : Thread Cert.ShortFRefIdeal.nD Cert.ShortFRefIdeal.τ).loc Cert.ShortFRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_DnPrep [hDnPrep : Cert.DnPrep.Facts] : Prop :=
  ∀ (m : (ℓ : Loc Cert.DnPrep.nD Cert.DnPrep.τ Cert.DnPrep.sig) → Buf (Elt Bits) ℓ) (g : Dev Cert.DnPrep.nD → PrngReg), Pre_DnPrep m →
    θ_run (Cert.DnPrep.defs (F := Bits)) (onTc (τ := Cert.DnPrep.τ) (Cert.DnPrep.main (F := Bits))) ⟨m, fun _ => 0, g⟩ (fun r => (∀ c : Dev Cert.DnPrep.nD,
      r.2.mem ((c.tc : Thread Cert.DnPrep.nD Cert.DnPrep.τ).loc Cert.DnPrep.main_arg0) = m ((c.tc : Thread Cert.DnPrep.nD Cert.DnPrep.τ).loc Cert.DnPrep.main_arg0)
      ∧ r.2.mem ((c.tc : Thread Cert.DnPrep.nD Cert.DnPrep.τ).loc Cert.DnPrep.main_arg1) = m ((c.tc : Thread Cert.DnPrep.nD Cert.DnPrep.τ).loc Cert.DnPrep.main_arg1)
      ∧ r.2.mem ((c.tc : Thread Cert.DnPrep.nD Cert.DnPrep.τ).loc Cert.DnPrep.main_arg2) = m ((c.tc : Thread Cert.DnPrep.nD Cert.DnPrep.τ).loc Cert.DnPrep.main_arg2)
      ∧ r.2.mem ((c.tc : Thread Cert.DnPrep.nD Cert.DnPrep.τ).loc Cert.DnPrep.main_arg3) = m ((c.tc : Thread Cert.DnPrep.nD Cert.DnPrep.τ).loc Cert.DnPrep.main_arg3))
      ∧ r.2.sem = fun _ => 0)

def quiescent_DnPrepIdeal [hDnPrepIdeal : Cert.DnPrepIdeal.Facts] : Prop :=
  ∀ (m : (ℓ : Loc Cert.DnPrepIdeal.nD Cert.DnPrepIdeal.τ Cert.DnPrepIdeal.sig) → Buf (Elt Ideal) ℓ) (g : Dev Cert.DnPrepIdeal.nD → PrngReg), Pre_DnPrepIdeal m →
    θ_run (Cert.DnPrepIdeal.defs (F := Ideal)) (onTc (τ := Cert.DnPrepIdeal.τ) (Cert.DnPrepIdeal.main (F := Ideal))) ⟨m, fun _ => 0, g⟩ (fun r => (∀ c : Dev Cert.DnPrepIdeal.nD,
      r.2.mem ((c.tc : Thread Cert.DnPrepIdeal.nD Cert.DnPrepIdeal.τ).loc Cert.DnPrepIdeal.main_arg0) = m ((c.tc : Thread Cert.DnPrepIdeal.nD Cert.DnPrepIdeal.τ).loc Cert.DnPrepIdeal.main_arg0)
      ∧ r.2.mem ((c.tc : Thread Cert.DnPrepIdeal.nD Cert.DnPrepIdeal.τ).loc Cert.DnPrepIdeal.main_arg1) = m ((c.tc : Thread Cert.DnPrepIdeal.nD Cert.DnPrepIdeal.τ).loc Cert.DnPrepIdeal.main_arg1)
      ∧ r.2.mem ((c.tc : Thread Cert.DnPrepIdeal.nD Cert.DnPrepIdeal.τ).loc Cert.DnPrepIdeal.main_arg2) = m ((c.tc : Thread Cert.DnPrepIdeal.nD Cert.DnPrepIdeal.τ).loc Cert.DnPrepIdeal.main_arg2)
      ∧ r.2.mem ((c.tc : Thread Cert.DnPrepIdeal.nD Cert.DnPrepIdeal.τ).loc Cert.DnPrepIdeal.main_arg3) = m ((c.tc : Thread Cert.DnPrepIdeal.nD Cert.DnPrepIdeal.τ).loc Cert.DnPrepIdeal.main_arg3))
      ∧ r.2.sem = fun _ => 0)

def quiescent_DnPrepRefIdeal [hDnPrepRefIdeal : Cert.DnPrepRefIdeal.Facts] : Prop :=
  ∀ (m : (ℓ : Loc Cert.DnPrepRefIdeal.nD Cert.DnPrepRefIdeal.τ Cert.DnPrepRefIdeal.sig) → Buf (Elt Ideal) ℓ) (g : Dev Cert.DnPrepRefIdeal.nD → PrngReg), Pre_DnPrepRefIdeal m →
    θ_run (Cert.DnPrepRefIdeal.defs (F := Ideal)) (onTc (τ := Cert.DnPrepRefIdeal.τ) (Cert.DnPrepRefIdeal.main (F := Ideal))) ⟨m, fun _ => 0, g⟩ (fun r => (∀ c : Dev Cert.DnPrepRefIdeal.nD,
      r.2.mem ((c.tc : Thread Cert.DnPrepRefIdeal.nD Cert.DnPrepRefIdeal.τ).loc Cert.DnPrepRefIdeal.main_arg0) = m ((c.tc : Thread Cert.DnPrepRefIdeal.nD Cert.DnPrepRefIdeal.τ).loc Cert.DnPrepRefIdeal.main_arg0)
      ∧ r.2.mem ((c.tc : Thread Cert.DnPrepRefIdeal.nD Cert.DnPrepRefIdeal.τ).loc Cert.DnPrepRefIdeal.main_arg1) = m ((c.tc : Thread Cert.DnPrepRefIdeal.nD Cert.DnPrepRefIdeal.τ).loc Cert.DnPrepRefIdeal.main_arg1)
      ∧ r.2.mem ((c.tc : Thread Cert.DnPrepRefIdeal.nD Cert.DnPrepRefIdeal.τ).loc Cert.DnPrepRefIdeal.main_arg2) = m ((c.tc : Thread Cert.DnPrepRefIdeal.nD Cert.DnPrepRefIdeal.τ).loc Cert.DnPrepRefIdeal.main_arg2)
      ∧ r.2.mem ((c.tc : Thread Cert.DnPrepRefIdeal.nD Cert.DnPrepRefIdeal.τ).loc Cert.DnPrepRefIdeal.main_arg3) = m ((c.tc : Thread Cert.DnPrepRefIdeal.nD Cert.DnPrepRefIdeal.τ).loc Cert.DnPrepRefIdeal.main_arg3))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_Mlp1 [hMlp1 : Cert.Mlp1.Facts] : Prop :=
  ∀ (m : (ℓ : Loc Cert.Mlp1.nD Cert.Mlp1.τ Cert.Mlp1.sig) → Buf (Elt Bits) ℓ) (g : Dev Cert.Mlp1.nD → PrngReg), Pre_Mlp1 m →
    θ_run (Cert.Mlp1.defs (F := Bits)) (onTc (τ := Cert.Mlp1.τ) (Cert.Mlp1.main (F := Bits))) ⟨m, fun _ => 0, g⟩ (fun r => (∀ c : Dev Cert.Mlp1.nD,
      r.2.mem ((c.tc : Thread Cert.Mlp1.nD Cert.Mlp1.τ).loc Cert.Mlp1.main_arg0) = m ((c.tc : Thread Cert.Mlp1.nD Cert.Mlp1.τ).loc Cert.Mlp1.main_arg0)
      ∧ r.2.mem ((c.tc : Thread Cert.Mlp1.nD Cert.Mlp1.τ).loc Cert.Mlp1.main_arg1) = m ((c.tc : Thread Cert.Mlp1.nD Cert.Mlp1.τ).loc Cert.Mlp1.main_arg1))
      ∧ r.2.sem = fun _ => 0)

def quiescent_Mlp1Ideal [hMlp1Ideal : Cert.Mlp1Ideal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg), Pre_Mlp1Ideal m →
    θ_run (Cert.Mlp1Ideal.defs (F := Ideal)) (onTc (τ := Cert.Mlp1Ideal.τ) (Cert.Mlp1Ideal.main (F := Ideal))) ⟨m, fun _ => 0, g⟩ (fun r => (∀ c : Dev Cert.Mlp1Ideal.nD,
      r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
      ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1))
      ∧ r.2.sem = fun _ => 0)

def quiescent_Mlp1RefIdeal [hMlp1RefIdeal : Cert.Mlp1RefIdeal.Facts] : Prop :=
  ∀ (m : (ℓ : Loc Cert.Mlp1RefIdeal.nD Cert.Mlp1RefIdeal.τ Cert.Mlp1RefIdeal.sig) → Buf (Elt Ideal) ℓ) (g : Dev Cert.Mlp1RefIdeal.nD → PrngReg), Pre_Mlp1RefIdeal m →
    θ_run (Cert.Mlp1RefIdeal.defs (F := Ideal)) (onTc (τ := Cert.Mlp1RefIdeal.τ) (Cert.Mlp1RefIdeal.main (F := Ideal))) ⟨m, fun _ => 0, g⟩ (fun r => (∀ c : Dev Cert.Mlp1RefIdeal.nD,
      r.2.mem ((c.tc : Thread Cert.Mlp1RefIdeal.nD Cert.Mlp1RefIdeal.τ).loc Cert.Mlp1RefIdeal.main_arg0) = m ((c.tc : Thread Cert.Mlp1RefIdeal.nD Cert.Mlp1RefIdeal.τ).loc Cert.Mlp1RefIdeal.main_arg0)
      ∧ r.2.mem ((c.tc : Thread Cert.Mlp1RefIdeal.nD Cert.Mlp1RefIdeal.τ).loc Cert.Mlp1RefIdeal.main_arg1) = m ((c.tc : Thread Cert.Mlp1RefIdeal.nD Cert.Mlp1RefIdeal.τ).loc Cert.Mlp1RefIdeal.main_arg1))
      ∧ r.2.sem = fun _ => 0)

def quiescent_Mlp2 [hMlp2 : Cert.Mlp2.Facts] : Prop :=
  ∀ (m : (ℓ : Loc Cert.Mlp2.nD Cert.Mlp2.τ Cert.Mlp2.sig) → Buf (Elt Bits) ℓ) (g : Dev Cert.Mlp2.nD → PrngReg), Pre_Mlp2 m →
    θ_run (Cert.Mlp2.defs (F := Bits)) (onTc (τ := Cert.Mlp2.τ) (Cert.Mlp2.main (F := Bits))) ⟨m, fun _ => 0, g⟩ (fun r => (∀ c : Dev Cert.Mlp2.nD,
      r.2.mem ((c.tc : Thread Cert.Mlp2.nD Cert.Mlp2.τ).loc Cert.Mlp2.main_arg0) = m ((c.tc : Thread Cert.Mlp2.nD Cert.Mlp2.τ).loc Cert.Mlp2.main_arg0)
      ∧ r.2.mem ((c.tc : Thread Cert.Mlp2.nD Cert.Mlp2.τ).loc Cert.Mlp2.main_arg1) = m ((c.tc : Thread Cert.Mlp2.nD Cert.Mlp2.τ).loc Cert.Mlp2.main_arg1))
      ∧ r.2.sem = fun _ => 0)

def quiescent_Mlp2Ideal [hMlp2Ideal : Cert.Mlp2Ideal.Facts] : Prop :=
  ∀ (m : (ℓ : Loc Cert.Mlp2Ideal.nD Cert.Mlp2Ideal.τ Cert.Mlp2Ideal.sig) → Buf (Elt Ideal) ℓ) (g : Dev Cert.Mlp2Ideal.nD → PrngReg), Pre_Mlp2Ideal m →
    θ_run (Cert.Mlp2Ideal.defs (F := Ideal)) (onTc (τ := Cert.Mlp2Ideal.τ) (Cert.Mlp2Ideal.main (F := Ideal))) ⟨m, fun _ => 0, g⟩ (fun r => (∀ c : Dev Cert.Mlp2Ideal.nD,
      r.2.mem ((c.tc : Thread Cert.Mlp2Ideal.nD Cert.Mlp2Ideal.τ).loc Cert.Mlp2Ideal.main_arg0) = m ((c.tc : Thread Cert.Mlp2Ideal.nD Cert.Mlp2Ideal.τ).loc Cert.Mlp2Ideal.main_arg0)
      ∧ r.2.mem ((c.tc : Thread Cert.Mlp2Ideal.nD Cert.Mlp2Ideal.τ).loc Cert.Mlp2Ideal.main_arg1) = m ((c.tc : Thread Cert.Mlp2Ideal.nD Cert.Mlp2Ideal.τ).loc Cert.Mlp2Ideal.main_arg1))
      ∧ r.2.sem = fun _ => 0)

def quiescent_Mlp2RefIdeal [hMlp2RefIdeal : Cert.Mlp2RefIdeal.Facts] : Prop :=
  ∀ (m : (ℓ : Loc Cert.Mlp2RefIdeal.nD Cert.Mlp2RefIdeal.τ Cert.Mlp2RefIdeal.sig) → Buf (Elt Ideal) ℓ) (g : Dev Cert.Mlp2RefIdeal.nD → PrngReg), Pre_Mlp2RefIdeal m →
    θ_run (Cert.Mlp2RefIdeal.defs (F := Ideal)) (onTc (τ := Cert.Mlp2RefIdeal.τ) (Cert.Mlp2RefIdeal.main (F := Ideal))) ⟨m, fun _ => 0, g⟩ (fun r => (∀ c : Dev Cert.Mlp2RefIdeal.nD,
      r.2.mem ((c.tc : Thread Cert.Mlp2RefIdeal.nD Cert.Mlp2RefIdeal.τ).loc Cert.Mlp2RefIdeal.main_arg0) = m ((c.tc : Thread Cert.Mlp2RefIdeal.nD Cert.Mlp2RefIdeal.τ).loc Cert.Mlp2RefIdeal.main_arg0)
      ∧ r.2.mem ((c.tc : Thread Cert.Mlp2RefIdeal.nD Cert.Mlp2RefIdeal.τ).loc Cert.Mlp2RefIdeal.main_arg1) = m ((c.tc : Thread Cert.Mlp2RefIdeal.nD Cert.Mlp2RefIdeal.τ).loc Cert.Mlp2RefIdeal.main_arg1))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1))
      ∧ r.2.sem = fun _ => 0)

def quiescent_Branch [hBranch : Cert.Branch.Facts] : Prop :=
  ∀ (m : (ℓ : Loc Cert.Branch.nD Cert.Branch.τ Cert.Branch.sig) → Buf (Elt Bits) ℓ) (g : Dev Cert.Branch.nD → PrngReg), Pre_Branch m →
    θ_run (Cert.Branch.defs (F := Bits)) (onTc (τ := Cert.Branch.τ) (Cert.Branch.main (F := Bits))) ⟨m, fun _ => 0, g⟩ (fun r => (∀ c : Dev Cert.Branch.nD,
      r.2.mem ((c.tc : Thread Cert.Branch.nD Cert.Branch.τ).loc Cert.Branch.main_arg0) = m ((c.tc : Thread Cert.Branch.nD Cert.Branch.τ).loc Cert.Branch.main_arg0)
      ∧ r.2.mem ((c.tc : Thread Cert.Branch.nD Cert.Branch.τ).loc Cert.Branch.main_arg1) = m ((c.tc : Thread Cert.Branch.nD Cert.Branch.τ).loc Cert.Branch.main_arg1))
      ∧ r.2.sem = fun _ => 0)

def quiescent_BranchIdeal [hBranchIdeal : Cert.BranchIdeal.Facts] : Prop :=
  ∀ (m : (ℓ : Loc Cert.BranchIdeal.nD Cert.BranchIdeal.τ Cert.BranchIdeal.sig) → Buf (Elt Ideal) ℓ) (g : Dev Cert.BranchIdeal.nD → PrngReg), Pre_BranchIdeal m →
    θ_run (Cert.BranchIdeal.defs (F := Ideal)) (onTc (τ := Cert.BranchIdeal.τ) (Cert.BranchIdeal.main (F := Ideal))) ⟨m, fun _ => 0, g⟩ (fun r => (∀ c : Dev Cert.BranchIdeal.nD,
      r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
      ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ r.2.sem = fun _ => 0)

def quiescent_BranchRefIdeal [hBranchRefIdeal : Cert.BranchRefIdeal.Facts] : Prop :=
  ∀ (m : (ℓ : Loc Cert.BranchRefIdeal.nD Cert.BranchRefIdeal.τ Cert.BranchRefIdeal.sig) → Buf (Elt Ideal) ℓ) (g : Dev Cert.BranchRefIdeal.nD → PrngReg), Pre_BranchRefIdeal m →
    θ_run (Cert.BranchRefIdeal.defs (F := Ideal)) (onTc (τ := Cert.BranchRefIdeal.τ) (Cert.BranchRefIdeal.main (F := Ideal))) ⟨m, fun _ => 0, g⟩ (fun r => (∀ c : Dev Cert.BranchRefIdeal.nD,
      r.2.mem ((c.tc : Thread Cert.BranchRefIdeal.nD Cert.BranchRefIdeal.τ).loc Cert.BranchRefIdeal.main_arg0) = m ((c.tc : Thread Cert.BranchRefIdeal.nD Cert.BranchRefIdeal.τ).loc Cert.BranchRefIdeal.main_arg0)
      ∧ r.2.mem ((c.tc : Thread Cert.BranchRefIdeal.nD Cert.BranchRefIdeal.τ).loc Cert.BranchRefIdeal.main_arg1) = m ((c.tc : Thread Cert.BranchRefIdeal.nD Cert.BranchRefIdeal.τ).loc Cert.BranchRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v65) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_WinDx_WinDxIdeal : Prop :=
  True

def algebraic_WinDxIdeal_WinDxRefIdeal [hWinDxIdeal : Cert.WinDxIdeal.Facts] [hWinDxRefIdeal : Cert.WinDxRefIdeal.Facts] : Prop :=
  ∀ (m : (ℓ : Loc Cert.WinDxIdeal.nD Cert.WinDxIdeal.τ Cert.WinDxIdeal.sig) → Buf (Elt Ideal) ℓ) (g : Dev Cert.WinDxIdeal.nD → PrngReg)
    (m' : (ℓ : Loc Cert.WinDxRefIdeal.nD Cert.WinDxRefIdeal.τ Cert.WinDxRefIdeal.sig) → Buf (Elt Ideal) ℓ) (g' : Dev Cert.WinDxRefIdeal.nD → PrngReg), Pre_WinDxIdeal m →
    (∀ c : Dev Cert.WinDxIdeal.nD,
      m' ((c.tc : Thread Cert.WinDxRefIdeal.nD Cert.WinDxRefIdeal.τ).loc Cert.WinDxRefIdeal.main_arg0) = m ((c.tc : Thread Cert.WinDxIdeal.nD Cert.WinDxIdeal.τ).loc Cert.WinDxIdeal.main_arg0)
      ∧ m' ((c.tc : Thread Cert.WinDxRefIdeal.nD Cert.WinDxRefIdeal.τ).loc Cert.WinDxRefIdeal.main_arg1) = m ((c.tc : Thread Cert.WinDxIdeal.nD Cert.WinDxIdeal.τ).loc Cert.WinDxIdeal.main_arg1)) →
    ∃ (v0 : (c : Dev Cert.WinDxIdeal.nD) → Buf (Elt Ideal) ((c.tc : Thread Cert.WinDxIdeal.nD Cert.WinDxIdeal.τ).loc Cert.WinDxIdeal.main_v0)),
      θ_run (Cert.WinDxIdeal.defs (F := Ideal)) (onTc (τ := Cert.WinDxIdeal.τ) (Cert.WinDxIdeal.main (F := Ideal))) ⟨m, fun _ => 0, g⟩ (fun r => ∀ c : Dev Cert.WinDxIdeal.nD,
          r.2.mem ((c.tc : Thread Cert.WinDxIdeal.nD Cert.WinDxIdeal.τ).loc Cert.WinDxIdeal.main_v0) = v0 c
          ∧ r.2.mem ((c.tc : Thread Cert.WinDxIdeal.nD Cert.WinDxIdeal.τ).loc Cert.WinDxIdeal.main_arg0) = m ((c.tc : Thread Cert.WinDxIdeal.nD Cert.WinDxIdeal.τ).loc Cert.WinDxIdeal.main_arg0)
          ∧ r.2.mem ((c.tc : Thread Cert.WinDxIdeal.nD Cert.WinDxIdeal.τ).loc Cert.WinDxIdeal.main_arg1) = m ((c.tc : Thread Cert.WinDxIdeal.nD Cert.WinDxIdeal.τ).loc Cert.WinDxIdeal.main_arg1))
      ∧ θ_run (Cert.WinDxRefIdeal.defs (F := Ideal)) (onTc (τ := Cert.WinDxRefIdeal.τ) (Cert.WinDxRefIdeal.main (F := Ideal))) ⟨m', fun _ => 0, g'⟩ (fun r => ∀ c : Dev Cert.WinDxRefIdeal.nD,
          r.2.mem ((c.tc : Thread Cert.WinDxRefIdeal.nD Cert.WinDxRefIdeal.τ).loc Cert.WinDxRefIdeal.main_v4) = v0 c
          ∧ r.2.mem ((c.tc : Thread Cert.WinDxRefIdeal.nD Cert.WinDxRefIdeal.τ).loc Cert.WinDxRefIdeal.main_arg0) = m' ((c.tc : Thread Cert.WinDxRefIdeal.nD Cert.WinDxRefIdeal.τ).loc Cert.WinDxRefIdeal.main_arg0)
          ∧ r.2.mem ((c.tc : Thread Cert.WinDxRefIdeal.nD Cert.WinDxRefIdeal.τ).loc Cert.WinDxRefIdeal.main_arg1) = m' ((c.tc : Thread Cert.WinDxRefIdeal.nD Cert.WinDxRefIdeal.τ).loc Cert.WinDxRefIdeal.main_arg1))

def preserves_WinDw_WinDwIdeal : Prop :=
  True

def algebraic_WinDwIdeal_WinDwRefIdeal [hWinDwIdeal : Cert.WinDwIdeal.Facts] [hWinDwRefIdeal : Cert.WinDwRefIdeal.Facts] : Prop :=
  ∀ (m : (ℓ : Loc Cert.WinDwIdeal.nD Cert.WinDwIdeal.τ Cert.WinDwIdeal.sig) → Buf (Elt Ideal) ℓ) (g : Dev Cert.WinDwIdeal.nD → PrngReg)
    (m' : (ℓ : Loc Cert.WinDwRefIdeal.nD Cert.WinDwRefIdeal.τ Cert.WinDwRefIdeal.sig) → Buf (Elt Ideal) ℓ) (g' : Dev Cert.WinDwRefIdeal.nD → PrngReg), Pre_WinDwIdeal m →
    (∀ c : Dev Cert.WinDwIdeal.nD,
      m' ((c.tc : Thread Cert.WinDwRefIdeal.nD Cert.WinDwRefIdeal.τ).loc Cert.WinDwRefIdeal.main_arg0) = m ((c.tc : Thread Cert.WinDwIdeal.nD Cert.WinDwIdeal.τ).loc Cert.WinDwIdeal.main_arg0)
      ∧ m' ((c.tc : Thread Cert.WinDwRefIdeal.nD Cert.WinDwRefIdeal.τ).loc Cert.WinDwRefIdeal.main_arg1) = m ((c.tc : Thread Cert.WinDwIdeal.nD Cert.WinDwIdeal.τ).loc Cert.WinDwIdeal.main_arg1)) →
    ∃ (v0 : (c : Dev Cert.WinDwIdeal.nD) → Buf (Elt Ideal) ((c.tc : Thread Cert.WinDwIdeal.nD Cert.WinDwIdeal.τ).loc Cert.WinDwIdeal.main_v0)),
      θ_run (Cert.WinDwIdeal.defs (F := Ideal)) (onTc (τ := Cert.WinDwIdeal.τ) (Cert.WinDwIdeal.main (F := Ideal))) ⟨m, fun _ => 0, g⟩ (fun r => ∀ c : Dev Cert.WinDwIdeal.nD,
          r.2.mem ((c.tc : Thread Cert.WinDwIdeal.nD Cert.WinDwIdeal.τ).loc Cert.WinDwIdeal.main_v0) = v0 c
          ∧ r.2.mem ((c.tc : Thread Cert.WinDwIdeal.nD Cert.WinDwIdeal.τ).loc Cert.WinDwIdeal.main_arg0) = m ((c.tc : Thread Cert.WinDwIdeal.nD Cert.WinDwIdeal.τ).loc Cert.WinDwIdeal.main_arg0)
          ∧ r.2.mem ((c.tc : Thread Cert.WinDwIdeal.nD Cert.WinDwIdeal.τ).loc Cert.WinDwIdeal.main_arg1) = m ((c.tc : Thread Cert.WinDwIdeal.nD Cert.WinDwIdeal.τ).loc Cert.WinDwIdeal.main_arg1))
      ∧ θ_run (Cert.WinDwRefIdeal.defs (F := Ideal)) (onTc (τ := Cert.WinDwRefIdeal.τ) (Cert.WinDwRefIdeal.main (F := Ideal))) ⟨m', fun _ => 0, g'⟩ (fun r => ∀ c : Dev Cert.WinDwRefIdeal.nD,
          r.2.mem ((c.tc : Thread Cert.WinDwRefIdeal.nD Cert.WinDwRefIdeal.τ).loc Cert.WinDwRefIdeal.main_v5) = v0 c
          ∧ r.2.mem ((c.tc : Thread Cert.WinDwRefIdeal.nD Cert.WinDwRefIdeal.τ).loc Cert.WinDwRefIdeal.main_arg0) = m' ((c.tc : Thread Cert.WinDwRefIdeal.nD Cert.WinDwRefIdeal.τ).loc Cert.WinDwRefIdeal.main_arg0)
          ∧ r.2.mem ((c.tc : Thread Cert.WinDwRefIdeal.nD Cert.WinDwRefIdeal.τ).loc Cert.WinDwRefIdeal.main_arg1) = m' ((c.tc : Thread Cert.WinDwRefIdeal.nD Cert.WinDwRefIdeal.τ).loc Cert.WinDwRefIdeal.main_arg1))

def preserves_Mlp2Dx_Mlp2DxIdeal : Prop :=
  True

def algebraic_Mlp2DxIdeal_Mlp2DxRefIdeal [hMlp2DxIdeal : Cert.Mlp2DxIdeal.Facts] [hMlp2DxRefIdeal : Cert.Mlp2DxRefIdeal.Facts] : Prop :=
  ∀ (m : (ℓ : Loc Cert.Mlp2DxIdeal.nD Cert.Mlp2DxIdeal.τ Cert.Mlp2DxIdeal.sig) → Buf (Elt Ideal) ℓ) (g : Dev Cert.Mlp2DxIdeal.nD → PrngReg)
    (m' : (ℓ : Loc Cert.Mlp2DxRefIdeal.nD Cert.Mlp2DxRefIdeal.τ Cert.Mlp2DxRefIdeal.sig) → Buf (Elt Ideal) ℓ) (g' : Dev Cert.Mlp2DxRefIdeal.nD → PrngReg), Pre_Mlp2DxIdeal m →
    (∀ c : Dev Cert.Mlp2DxIdeal.nD,
      m' ((c.tc : Thread Cert.Mlp2DxRefIdeal.nD Cert.Mlp2DxRefIdeal.τ).loc Cert.Mlp2DxRefIdeal.main_arg0) = m ((c.tc : Thread Cert.Mlp2DxIdeal.nD Cert.Mlp2DxIdeal.τ).loc Cert.Mlp2DxIdeal.main_arg0)
      ∧ m' ((c.tc : Thread Cert.Mlp2DxRefIdeal.nD Cert.Mlp2DxRefIdeal.τ).loc Cert.Mlp2DxRefIdeal.main_arg1) = m ((c.tc : Thread Cert.Mlp2DxIdeal.nD Cert.Mlp2DxIdeal.τ).loc Cert.Mlp2DxIdeal.main_arg1)
      ∧ m' ((c.tc : Thread Cert.Mlp2DxRefIdeal.nD Cert.Mlp2DxRefIdeal.τ).loc Cert.Mlp2DxRefIdeal.main_arg2) = m ((c.tc : Thread Cert.Mlp2DxIdeal.nD Cert.Mlp2DxIdeal.τ).loc Cert.Mlp2DxIdeal.main_arg2)) →
    ∃ (v0 : (c : Dev Cert.Mlp2DxIdeal.nD) → Buf (Elt Ideal) ((c.tc : Thread Cert.Mlp2DxIdeal.nD Cert.Mlp2DxIdeal.τ).loc Cert.Mlp2DxIdeal.main_v0)),
      θ_run (Cert.Mlp2DxIdeal.defs (F := Ideal)) (onTc (τ := Cert.Mlp2DxIdeal.τ) (Cert.Mlp2DxIdeal.main (F := Ideal))) ⟨m, fun _ => 0, g⟩ (fun r => ∀ c : Dev Cert.Mlp2DxIdeal.nD,
          r.2.mem ((c.tc : Thread Cert.Mlp2DxIdeal.nD Cert.Mlp2DxIdeal.τ).loc Cert.Mlp2DxIdeal.main_v0) = v0 c
          ∧ r.2.mem ((c.tc : Thread Cert.Mlp2DxIdeal.nD Cert.Mlp2DxIdeal.τ).loc Cert.Mlp2DxIdeal.main_arg0) = m ((c.tc : Thread Cert.Mlp2DxIdeal.nD Cert.Mlp2DxIdeal.τ).loc Cert.Mlp2DxIdeal.main_arg0)
          ∧ r.2.mem ((c.tc : Thread Cert.Mlp2DxIdeal.nD Cert.Mlp2DxIdeal.τ).loc Cert.Mlp2DxIdeal.main_arg1) = m ((c.tc : Thread Cert.Mlp2DxIdeal.nD Cert.Mlp2DxIdeal.τ).loc Cert.Mlp2DxIdeal.main_arg1)
          ∧ r.2.mem ((c.tc : Thread Cert.Mlp2DxIdeal.nD Cert.Mlp2DxIdeal.τ).loc Cert.Mlp2DxIdeal.main_arg2) = m ((c.tc : Thread Cert.Mlp2DxIdeal.nD Cert.Mlp2DxIdeal.τ).loc Cert.Mlp2DxIdeal.main_arg2))
      ∧ θ_run (Cert.Mlp2DxRefIdeal.defs (F := Ideal)) (onTc (τ := Cert.Mlp2DxRefIdeal.τ) (Cert.Mlp2DxRefIdeal.main (F := Ideal))) ⟨m', fun _ => 0, g'⟩ (fun r => ∀ c : Dev Cert.Mlp2DxRefIdeal.nD,
          r.2.mem ((c.tc : Thread Cert.Mlp2DxRefIdeal.nD Cert.Mlp2DxRefIdeal.τ).loc Cert.Mlp2DxRefIdeal.main_v14) = v0 c
          ∧ r.2.mem ((c.tc : Thread Cert.Mlp2DxRefIdeal.nD Cert.Mlp2DxRefIdeal.τ).loc Cert.Mlp2DxRefIdeal.main_arg0) = m' ((c.tc : Thread Cert.Mlp2DxRefIdeal.nD Cert.Mlp2DxRefIdeal.τ).loc Cert.Mlp2DxRefIdeal.main_arg0)
          ∧ r.2.mem ((c.tc : Thread Cert.Mlp2DxRefIdeal.nD Cert.Mlp2DxRefIdeal.τ).loc Cert.Mlp2DxRefIdeal.main_arg1) = m' ((c.tc : Thread Cert.Mlp2DxRefIdeal.nD Cert.Mlp2DxRefIdeal.τ).loc Cert.Mlp2DxRefIdeal.main_arg1)
          ∧ r.2.mem ((c.tc : Thread Cert.Mlp2DxRefIdeal.nD Cert.Mlp2DxRefIdeal.τ).loc Cert.Mlp2DxRefIdeal.main_arg2) = m' ((c.tc : Thread Cert.Mlp2DxRefIdeal.nD Cert.Mlp2DxRefIdeal.τ).loc Cert.Mlp2DxRefIdeal.main_arg2))

def preserves_Mlp2Dw_Mlp2DwIdeal : Prop :=
  True

def algebraic_Mlp2DwIdeal_Mlp2DwRefIdeal [hMlp2DwIdeal : Cert.Mlp2DwIdeal.Facts] [hMlp2DwRefIdeal : Cert.Mlp2DwRefIdeal.Facts] : Prop :=
  ∀ (m : (ℓ : Loc Cert.Mlp2DwIdeal.nD Cert.Mlp2DwIdeal.τ Cert.Mlp2DwIdeal.sig) → Buf (Elt Ideal) ℓ) (g : Dev Cert.Mlp2DwIdeal.nD → PrngReg)
    (m' : (ℓ : Loc Cert.Mlp2DwRefIdeal.nD Cert.Mlp2DwRefIdeal.τ Cert.Mlp2DwRefIdeal.sig) → Buf (Elt Ideal) ℓ) (g' : Dev Cert.Mlp2DwRefIdeal.nD → PrngReg), Pre_Mlp2DwIdeal m →
    (∀ c : Dev Cert.Mlp2DwIdeal.nD,
      m' ((c.tc : Thread Cert.Mlp2DwRefIdeal.nD Cert.Mlp2DwRefIdeal.τ).loc Cert.Mlp2DwRefIdeal.main_arg0) = m ((c.tc : Thread Cert.Mlp2DwIdeal.nD Cert.Mlp2DwIdeal.τ).loc Cert.Mlp2DwIdeal.main_arg0)
      ∧ m' ((c.tc : Thread Cert.Mlp2DwRefIdeal.nD Cert.Mlp2DwRefIdeal.τ).loc Cert.Mlp2DwRefIdeal.main_arg1) = m ((c.tc : Thread Cert.Mlp2DwIdeal.nD Cert.Mlp2DwIdeal.τ).loc Cert.Mlp2DwIdeal.main_arg1)) →
    ∃ (v0 : (c : Dev Cert.Mlp2DwIdeal.nD) → Buf (Elt Ideal) ((c.tc : Thread Cert.Mlp2DwIdeal.nD Cert.Mlp2DwIdeal.τ).loc Cert.Mlp2DwIdeal.main_v0)),
      θ_run (Cert.Mlp2DwIdeal.defs (F := Ideal)) (onTc (τ := Cert.Mlp2DwIdeal.τ) (Cert.Mlp2DwIdeal.main (F := Ideal))) ⟨m, fun _ => 0, g⟩ (fun r => ∀ c : Dev Cert.Mlp2DwIdeal.nD,
          r.2.mem ((c.tc : Thread Cert.Mlp2DwIdeal.nD Cert.Mlp2DwIdeal.τ).loc Cert.Mlp2DwIdeal.main_v0) = v0 c
          ∧ r.2.mem ((c.tc : Thread Cert.Mlp2DwIdeal.nD Cert.Mlp2DwIdeal.τ).loc Cert.Mlp2DwIdeal.main_arg0) = m ((c.tc : Thread Cert.Mlp2DwIdeal.nD Cert.Mlp2DwIdeal.τ).loc Cert.Mlp2DwIdeal.main_arg0)
          ∧ r.2.mem ((c.tc : Thread Cert.Mlp2DwIdeal.nD Cert.Mlp2DwIdeal.τ).loc Cert.Mlp2DwIdeal.main_arg1) = m ((c.tc : Thread Cert.Mlp2DwIdeal.nD Cert.Mlp2DwIdeal.τ).loc Cert.Mlp2DwIdeal.main_arg1))
      ∧ θ_run (Cert.Mlp2DwRefIdeal.defs (F := Ideal)) (onTc (τ := Cert.Mlp2DwRefIdeal.τ) (Cert.Mlp2DwRefIdeal.main (F := Ideal))) ⟨m', fun _ => 0, g'⟩ (fun r => ∀ c : Dev Cert.Mlp2DwRefIdeal.nD,
          r.2.mem ((c.tc : Thread Cert.Mlp2DwRefIdeal.nD Cert.Mlp2DwRefIdeal.τ).loc Cert.Mlp2DwRefIdeal.main_v5) = v0 c
          ∧ r.2.mem ((c.tc : Thread Cert.Mlp2DwRefIdeal.nD Cert.Mlp2DwRefIdeal.τ).loc Cert.Mlp2DwRefIdeal.main_arg0) = m' ((c.tc : Thread Cert.Mlp2DwRefIdeal.nD Cert.Mlp2DwRefIdeal.τ).loc Cert.Mlp2DwRefIdeal.main_arg0)
          ∧ r.2.mem ((c.tc : Thread Cert.Mlp2DwRefIdeal.nD Cert.Mlp2DwRefIdeal.τ).loc Cert.Mlp2DwRefIdeal.main_arg1) = m' ((c.tc : Thread Cert.Mlp2DwRefIdeal.nD Cert.Mlp2DwRefIdeal.τ).loc Cert.Mlp2DwRefIdeal.main_arg1))

def preserves_Mlp1Dx_Mlp1DxIdeal : Prop :=
  True

def algebraic_Mlp1DxIdeal_Mlp1DxRefIdeal [hMlp1DxIdeal : Cert.Mlp1DxIdeal.Facts] [hMlp1DxRefIdeal : Cert.Mlp1DxRefIdeal.Facts] : Prop :=
  ∀ (m : (ℓ : Loc Cert.Mlp1DxIdeal.nD Cert.Mlp1DxIdeal.τ Cert.Mlp1DxIdeal.sig) → Buf (Elt Ideal) ℓ) (g : Dev Cert.Mlp1DxIdeal.nD → PrngReg)
    (m' : (ℓ : Loc Cert.Mlp1DxRefIdeal.nD Cert.Mlp1DxRefIdeal.τ Cert.Mlp1DxRefIdeal.sig) → Buf (Elt Ideal) ℓ) (g' : Dev Cert.Mlp1DxRefIdeal.nD → PrngReg), Pre_Mlp1DxIdeal m →
    (∀ c : Dev Cert.Mlp1DxIdeal.nD,
      m' ((c.tc : Thread Cert.Mlp1DxRefIdeal.nD Cert.Mlp1DxRefIdeal.τ).loc Cert.Mlp1DxRefIdeal.main_arg0) = m ((c.tc : Thread Cert.Mlp1DxIdeal.nD Cert.Mlp1DxIdeal.τ).loc Cert.Mlp1DxIdeal.main_arg0)
      ∧ m' ((c.tc : Thread Cert.Mlp1DxRefIdeal.nD Cert.Mlp1DxRefIdeal.τ).loc Cert.Mlp1DxRefIdeal.main_arg1) = m ((c.tc : Thread Cert.Mlp1DxIdeal.nD Cert.Mlp1DxIdeal.τ).loc Cert.Mlp1DxIdeal.main_arg1)) →
    ∃ (v0 : (c : Dev Cert.Mlp1DxIdeal.nD) → Buf (Elt Ideal) ((c.tc : Thread Cert.Mlp1DxIdeal.nD Cert.Mlp1DxIdeal.τ).loc Cert.Mlp1DxIdeal.main_v0)),
      θ_run (Cert.Mlp1DxIdeal.defs (F := Ideal)) (onTc (τ := Cert.Mlp1DxIdeal.τ) (Cert.Mlp1DxIdeal.main (F := Ideal))) ⟨m, fun _ => 0, g⟩ (fun r => ∀ c : Dev Cert.Mlp1DxIdeal.nD,
          r.2.mem ((c.tc : Thread Cert.Mlp1DxIdeal.nD Cert.Mlp1DxIdeal.τ).loc Cert.Mlp1DxIdeal.main_v0) = v0 c
          ∧ r.2.mem ((c.tc : Thread Cert.Mlp1DxIdeal.nD Cert.Mlp1DxIdeal.τ).loc Cert.Mlp1DxIdeal.main_arg0) = m ((c.tc : Thread Cert.Mlp1DxIdeal.nD Cert.Mlp1DxIdeal.τ).loc Cert.Mlp1DxIdeal.main_arg0)
          ∧ r.2.mem ((c.tc : Thread Cert.Mlp1DxIdeal.nD Cert.Mlp1DxIdeal.τ).loc Cert.Mlp1DxIdeal.main_arg1) = m ((c.tc : Thread Cert.Mlp1DxIdeal.nD Cert.Mlp1DxIdeal.τ).loc Cert.Mlp1DxIdeal.main_arg1))
      ∧ θ_run (Cert.Mlp1DxRefIdeal.defs (F := Ideal)) (onTc (τ := Cert.Mlp1DxRefIdeal.τ) (Cert.Mlp1DxRefIdeal.main (F := Ideal))) ⟨m', fun _ => 0, g'⟩ (fun r => ∀ c : Dev Cert.Mlp1DxRefIdeal.nD,
          r.2.mem ((c.tc : Thread Cert.Mlp1DxRefIdeal.nD Cert.Mlp1DxRefIdeal.τ).loc Cert.Mlp1DxRefIdeal.main_v4) = v0 c
          ∧ r.2.mem ((c.tc : Thread Cert.Mlp1DxRefIdeal.nD Cert.Mlp1DxRefIdeal.τ).loc Cert.Mlp1DxRefIdeal.main_arg0) = m' ((c.tc : Thread Cert.Mlp1DxRefIdeal.nD Cert.Mlp1DxRefIdeal.τ).loc Cert.Mlp1DxRefIdeal.main_arg0)
          ∧ r.2.mem ((c.tc : Thread Cert.Mlp1DxRefIdeal.nD Cert.Mlp1DxRefIdeal.τ).loc Cert.Mlp1DxRefIdeal.main_arg1) = m' ((c.tc : Thread Cert.Mlp1DxRefIdeal.nD Cert.Mlp1DxRefIdeal.τ).loc Cert.Mlp1DxRefIdeal.main_arg1))

def preserves_Mlp1Dw_Mlp1DwIdeal : Prop :=
  True

def algebraic_Mlp1DwIdeal_Mlp1DwRefIdeal [hMlp1DwIdeal : Cert.Mlp1DwIdeal.Facts] [hMlp1DwRefIdeal : Cert.Mlp1DwRefIdeal.Facts] : Prop :=
  ∀ (m : (ℓ : Loc Cert.Mlp1DwIdeal.nD Cert.Mlp1DwIdeal.τ Cert.Mlp1DwIdeal.sig) → Buf (Elt Ideal) ℓ) (g : Dev Cert.Mlp1DwIdeal.nD → PrngReg)
    (m' : (ℓ : Loc Cert.Mlp1DwRefIdeal.nD Cert.Mlp1DwRefIdeal.τ Cert.Mlp1DwRefIdeal.sig) → Buf (Elt Ideal) ℓ) (g' : Dev Cert.Mlp1DwRefIdeal.nD → PrngReg), Pre_Mlp1DwIdeal m →
    (∀ c : Dev Cert.Mlp1DwIdeal.nD,
      m' ((c.tc : Thread Cert.Mlp1DwRefIdeal.nD Cert.Mlp1DwRefIdeal.τ).loc Cert.Mlp1DwRefIdeal.main_arg0) = m ((c.tc : Thread Cert.Mlp1DwIdeal.nD Cert.Mlp1DwIdeal.τ).loc Cert.Mlp1DwIdeal.main_arg0)
      ∧ m' ((c.tc : Thread Cert.Mlp1DwRefIdeal.nD Cert.Mlp1DwRefIdeal.τ).loc Cert.Mlp1DwRefIdeal.main_arg1) = m ((c.tc : Thread Cert.Mlp1DwIdeal.nD Cert.Mlp1DwIdeal.τ).loc Cert.Mlp1DwIdeal.main_arg1)) →
    ∃ (v0 : (c : Dev Cert.Mlp1DwIdeal.nD) → Buf (Elt Ideal) ((c.tc : Thread Cert.Mlp1DwIdeal.nD Cert.Mlp1DwIdeal.τ).loc Cert.Mlp1DwIdeal.main_v0)),
      θ_run (Cert.Mlp1DwIdeal.defs (F := Ideal)) (onTc (τ := Cert.Mlp1DwIdeal.τ) (Cert.Mlp1DwIdeal.main (F := Ideal))) ⟨m, fun _ => 0, g⟩ (fun r => ∀ c : Dev Cert.Mlp1DwIdeal.nD,
          r.2.mem ((c.tc : Thread Cert.Mlp1DwIdeal.nD Cert.Mlp1DwIdeal.τ).loc Cert.Mlp1DwIdeal.main_v0) = v0 c
          ∧ r.2.mem ((c.tc : Thread Cert.Mlp1DwIdeal.nD Cert.Mlp1DwIdeal.τ).loc Cert.Mlp1DwIdeal.main_arg0) = m ((c.tc : Thread Cert.Mlp1DwIdeal.nD Cert.Mlp1DwIdeal.τ).loc Cert.Mlp1DwIdeal.main_arg0)
          ∧ r.2.mem ((c.tc : Thread Cert.Mlp1DwIdeal.nD Cert.Mlp1DwIdeal.τ).loc Cert.Mlp1DwIdeal.main_arg1) = m ((c.tc : Thread Cert.Mlp1DwIdeal.nD Cert.Mlp1DwIdeal.τ).loc Cert.Mlp1DwIdeal.main_arg1))
      ∧ θ_run (Cert.Mlp1DwRefIdeal.defs (F := Ideal)) (onTc (τ := Cert.Mlp1DwRefIdeal.τ) (Cert.Mlp1DwRefIdeal.main (F := Ideal))) ⟨m', fun _ => 0, g'⟩ (fun r => ∀ c : Dev Cert.Mlp1DwRefIdeal.nD,
          r.2.mem ((c.tc : Thread Cert.Mlp1DwRefIdeal.nD Cert.Mlp1DwRefIdeal.τ).loc Cert.Mlp1DwRefIdeal.main_v5) = v0 c
          ∧ r.2.mem ((c.tc : Thread Cert.Mlp1DwRefIdeal.nD Cert.Mlp1DwRefIdeal.τ).loc Cert.Mlp1DwRefIdeal.main_arg0) = m' ((c.tc : Thread Cert.Mlp1DwRefIdeal.nD Cert.Mlp1DwRefIdeal.τ).loc Cert.Mlp1DwRefIdeal.main_arg0)
          ∧ r.2.mem ((c.tc : Thread Cert.Mlp1DwRefIdeal.nD Cert.Mlp1DwRefIdeal.τ).loc Cert.Mlp1DwRefIdeal.main_arg1) = m' ((c.tc : Thread Cert.Mlp1DwRefIdeal.nD Cert.Mlp1DwRefIdeal.τ).loc Cert.Mlp1DwRefIdeal.main_arg1))

def preserves_WoutDx_WoutDxIdeal : Prop :=
  True

def algebraic_WoutDxIdeal_WoutDxRefIdeal [hWoutDxIdeal : Cert.WoutDxIdeal.Facts] [hWoutDxRefIdeal : Cert.WoutDxRefIdeal.Facts] : Prop :=
  ∀ (m : (ℓ : Loc Cert.WoutDxIdeal.nD Cert.WoutDxIdeal.τ Cert.WoutDxIdeal.sig) → Buf (Elt Ideal) ℓ) (g : Dev Cert.WoutDxIdeal.nD → PrngReg)
    (m' : (ℓ : Loc Cert.WoutDxRefIdeal.nD Cert.WoutDxRefIdeal.τ Cert.WoutDxRefIdeal.sig) → Buf (Elt Ideal) ℓ) (g' : Dev Cert.WoutDxRefIdeal.nD → PrngReg), Pre_WoutDxIdeal m →
    (∀ c : Dev Cert.WoutDxIdeal.nD,
      m' ((c.tc : Thread Cert.WoutDxRefIdeal.nD Cert.WoutDxRefIdeal.τ).loc Cert.WoutDxRefIdeal.main_arg0) = m ((c.tc : Thread Cert.WoutDxIdeal.nD Cert.WoutDxIdeal.τ).loc Cert.WoutDxIdeal.main_arg0)
      ∧ m' ((c.tc : Thread Cert.WoutDxRefIdeal.nD Cert.WoutDxRefIdeal.τ).loc Cert.WoutDxRefIdeal.main_arg1) = m ((c.tc : Thread Cert.WoutDxIdeal.nD Cert.WoutDxIdeal.τ).loc Cert.WoutDxIdeal.main_arg1)) →
    ∃ (v0 : (c : Dev Cert.WoutDxIdeal.nD) → Buf (Elt Ideal) ((c.tc : Thread Cert.WoutDxIdeal.nD Cert.WoutDxIdeal.τ).loc Cert.WoutDxIdeal.main_v0)),
      θ_run (Cert.WoutDxIdeal.defs (F := Ideal)) (onTc (τ := Cert.WoutDxIdeal.τ) (Cert.WoutDxIdeal.main (F := Ideal))) ⟨m, fun _ => 0, g⟩ (fun r => ∀ c : Dev Cert.WoutDxIdeal.nD,
          r.2.mem ((c.tc : Thread Cert.WoutDxIdeal.nD Cert.WoutDxIdeal.τ).loc Cert.WoutDxIdeal.main_v0) = v0 c
          ∧ r.2.mem ((c.tc : Thread Cert.WoutDxIdeal.nD Cert.WoutDxIdeal.τ).loc Cert.WoutDxIdeal.main_arg0) = m ((c.tc : Thread Cert.WoutDxIdeal.nD Cert.WoutDxIdeal.τ).loc Cert.WoutDxIdeal.main_arg0)
          ∧ r.2.mem ((c.tc : Thread Cert.WoutDxIdeal.nD Cert.WoutDxIdeal.τ).loc Cert.WoutDxIdeal.main_arg1) = m ((c.tc : Thread Cert.WoutDxIdeal.nD Cert.WoutDxIdeal.τ).loc Cert.WoutDxIdeal.main_arg1))
      ∧ θ_run (Cert.WoutDxRefIdeal.defs (F := Ideal)) (onTc (τ := Cert.WoutDxRefIdeal.τ) (Cert.WoutDxRefIdeal.main (F := Ideal))) ⟨m', fun _ => 0, g'⟩ (fun r => ∀ c : Dev Cert.WoutDxRefIdeal.nD,
          r.2.mem ((c.tc : Thread Cert.WoutDxRefIdeal.nD Cert.WoutDxRefIdeal.τ).loc Cert.WoutDxRefIdeal.main_v4) = v0 c
          ∧ r.2.mem ((c.tc : Thread Cert.WoutDxRefIdeal.nD Cert.WoutDxRefIdeal.τ).loc Cert.WoutDxRefIdeal.main_arg0) = m' ((c.tc : Thread Cert.WoutDxRefIdeal.nD Cert.WoutDxRefIdeal.τ).loc Cert.WoutDxRefIdeal.main_arg0)
          ∧ r.2.mem ((c.tc : Thread Cert.WoutDxRefIdeal.nD Cert.WoutDxRefIdeal.τ).loc Cert.WoutDxRefIdeal.main_arg1) = m' ((c.tc : Thread Cert.WoutDxRefIdeal.nD Cert.WoutDxRefIdeal.τ).loc Cert.WoutDxRefIdeal.main_arg1))

def preserves_WoutDw_WoutDwIdeal : Prop :=
  True

def algebraic_WoutDwIdeal_WoutDwRefIdeal [hWoutDwIdeal : Cert.WoutDwIdeal.Facts] [hWoutDwRefIdeal : Cert.WoutDwRefIdeal.Facts] : Prop :=
  ∀ (m : (ℓ : Loc Cert.WoutDwIdeal.nD Cert.WoutDwIdeal.τ Cert.WoutDwIdeal.sig) → Buf (Elt Ideal) ℓ) (g : Dev Cert.WoutDwIdeal.nD → PrngReg)
    (m' : (ℓ : Loc Cert.WoutDwRefIdeal.nD Cert.WoutDwRefIdeal.τ Cert.WoutDwRefIdeal.sig) → Buf (Elt Ideal) ℓ) (g' : Dev Cert.WoutDwRefIdeal.nD → PrngReg), Pre_WoutDwIdeal m →
    (∀ c : Dev Cert.WoutDwIdeal.nD,
      m' ((c.tc : Thread Cert.WoutDwRefIdeal.nD Cert.WoutDwRefIdeal.τ).loc Cert.WoutDwRefIdeal.main_arg0) = m ((c.tc : Thread Cert.WoutDwIdeal.nD Cert.WoutDwIdeal.τ).loc Cert.WoutDwIdeal.main_arg0)
      ∧ m' ((c.tc : Thread Cert.WoutDwRefIdeal.nD Cert.WoutDwRefIdeal.τ).loc Cert.WoutDwRefIdeal.main_arg1) = m ((c.tc : Thread Cert.WoutDwIdeal.nD Cert.WoutDwIdeal.τ).loc Cert.WoutDwIdeal.main_arg1)) →
    ∃ (v0 : (c : Dev Cert.WoutDwIdeal.nD) → Buf (Elt Ideal) ((c.tc : Thread Cert.WoutDwIdeal.nD Cert.WoutDwIdeal.τ).loc Cert.WoutDwIdeal.main_v0)),
      θ_run (Cert.WoutDwIdeal.defs (F := Ideal)) (onTc (τ := Cert.WoutDwIdeal.τ) (Cert.WoutDwIdeal.main (F := Ideal))) ⟨m, fun _ => 0, g⟩ (fun r => ∀ c : Dev Cert.WoutDwIdeal.nD,
          r.2.mem ((c.tc : Thread Cert.WoutDwIdeal.nD Cert.WoutDwIdeal.τ).loc Cert.WoutDwIdeal.main_v0) = v0 c
          ∧ r.2.mem ((c.tc : Thread Cert.WoutDwIdeal.nD Cert.WoutDwIdeal.τ).loc Cert.WoutDwIdeal.main_arg0) = m ((c.tc : Thread Cert.WoutDwIdeal.nD Cert.WoutDwIdeal.τ).loc Cert.WoutDwIdeal.main_arg0)
          ∧ r.2.mem ((c.tc : Thread Cert.WoutDwIdeal.nD Cert.WoutDwIdeal.τ).loc Cert.WoutDwIdeal.main_arg1) = m ((c.tc : Thread Cert.WoutDwIdeal.nD Cert.WoutDwIdeal.τ).loc Cert.WoutDwIdeal.main_arg1))
      ∧ θ_run (Cert.WoutDwRefIdeal.defs (F := Ideal)) (onTc (τ := Cert.WoutDwRefIdeal.τ) (Cert.WoutDwRefIdeal.main (F := Ideal))) ⟨m', fun _ => 0, g'⟩ (fun r => ∀ c : Dev Cert.WoutDwRefIdeal.nD,
          r.2.mem ((c.tc : Thread Cert.WoutDwRefIdeal.nD Cert.WoutDwRefIdeal.τ).loc Cert.WoutDwRefIdeal.main_v5) = v0 c
          ∧ r.2.mem ((c.tc : Thread Cert.WoutDwRefIdeal.nD Cert.WoutDwRefIdeal.τ).loc Cert.WoutDwRefIdeal.main_arg0) = m' ((c.tc : Thread Cert.WoutDwRefIdeal.nD Cert.WoutDwRefIdeal.τ).loc Cert.WoutDwRefIdeal.main_arg0)
          ∧ r.2.mem ((c.tc : Thread Cert.WoutDwRefIdeal.nD Cert.WoutDwRefIdeal.τ).loc Cert.WoutDwRefIdeal.main_arg1) = m' ((c.tc : Thread Cert.WoutDwRefIdeal.nD Cert.WoutDwRefIdeal.τ).loc Cert.WoutDwRefIdeal.main_arg1))

def preserves_BranchDx_BranchDxIdeal : Prop :=
  True

def algebraic_BranchDxIdeal_BranchDxRefIdeal [hBranchDxIdeal : Cert.BranchDxIdeal.Facts] [hBranchDxRefIdeal : Cert.BranchDxRefIdeal.Facts] : Prop :=
  ∀ (m : (ℓ : Loc Cert.BranchDxIdeal.nD Cert.BranchDxIdeal.τ Cert.BranchDxIdeal.sig) → Buf (Elt Ideal) ℓ) (g : Dev Cert.BranchDxIdeal.nD → PrngReg)
    (m' : (ℓ : Loc Cert.BranchDxRefIdeal.nD Cert.BranchDxRefIdeal.τ Cert.BranchDxRefIdeal.sig) → Buf (Elt Ideal) ℓ) (g' : Dev Cert.BranchDxRefIdeal.nD → PrngReg), Pre_BranchDxIdeal m →
    (∀ c : Dev Cert.BranchDxIdeal.nD,
      m' ((c.tc : Thread Cert.BranchDxRefIdeal.nD Cert.BranchDxRefIdeal.τ).loc Cert.BranchDxRefIdeal.main_arg0) = m ((c.tc : Thread Cert.BranchDxIdeal.nD Cert.BranchDxIdeal.τ).loc Cert.BranchDxIdeal.main_arg0)
      ∧ m' ((c.tc : Thread Cert.BranchDxRefIdeal.nD Cert.BranchDxRefIdeal.τ).loc Cert.BranchDxRefIdeal.main_arg1) = m ((c.tc : Thread Cert.BranchDxIdeal.nD Cert.BranchDxIdeal.τ).loc Cert.BranchDxIdeal.main_arg1)) →
    ∃ (v0 : (c : Dev Cert.BranchDxIdeal.nD) → Buf (Elt Ideal) ((c.tc : Thread Cert.BranchDxIdeal.nD Cert.BranchDxIdeal.τ).loc Cert.BranchDxIdeal.main_v0)),
      θ_run (Cert.BranchDxIdeal.defs (F := Ideal)) (onTc (τ := Cert.BranchDxIdeal.τ) (Cert.BranchDxIdeal.main (F := Ideal))) ⟨m, fun _ => 0, g⟩ (fun r => ∀ c : Dev Cert.BranchDxIdeal.nD,
          r.2.mem ((c.tc : Thread Cert.BranchDxIdeal.nD Cert.BranchDxIdeal.τ).loc Cert.BranchDxIdeal.main_v0) = v0 c
          ∧ r.2.mem ((c.tc : Thread Cert.BranchDxIdeal.nD Cert.BranchDxIdeal.τ).loc Cert.BranchDxIdeal.main_arg0) = m ((c.tc : Thread Cert.BranchDxIdeal.nD Cert.BranchDxIdeal.τ).loc Cert.BranchDxIdeal.main_arg0)
          ∧ r.2.mem ((c.tc : Thread Cert.BranchDxIdeal.nD Cert.BranchDxIdeal.τ).loc Cert.BranchDxIdeal.main_arg1) = m ((c.tc : Thread Cert.BranchDxIdeal.nD Cert.BranchDxIdeal.τ).loc Cert.BranchDxIdeal.main_arg1))
      ∧ θ_run (Cert.BranchDxRefIdeal.defs (F := Ideal)) (onTc (τ := Cert.BranchDxRefIdeal.τ) (Cert.BranchDxRefIdeal.main (F := Ideal))) ⟨m', fun _ => 0, g'⟩ (fun r => ∀ c : Dev Cert.BranchDxRefIdeal.nD,
          r.2.mem ((c.tc : Thread Cert.BranchDxRefIdeal.nD Cert.BranchDxRefIdeal.τ).loc Cert.BranchDxRefIdeal.main_v4) = v0 c
          ∧ r.2.mem ((c.tc : Thread Cert.BranchDxRefIdeal.nD Cert.BranchDxRefIdeal.τ).loc Cert.BranchDxRefIdeal.main_arg0) = m' ((c.tc : Thread Cert.BranchDxRefIdeal.nD Cert.BranchDxRefIdeal.τ).loc Cert.BranchDxRefIdeal.main_arg0)
          ∧ r.2.mem ((c.tc : Thread Cert.BranchDxRefIdeal.nD Cert.BranchDxRefIdeal.τ).loc Cert.BranchDxRefIdeal.main_arg1) = m' ((c.tc : Thread Cert.BranchDxRefIdeal.nD Cert.BranchDxRefIdeal.τ).loc Cert.BranchDxRefIdeal.main_arg1))

def preserves_BranchDw_BranchDwIdeal : Prop :=
  True

def algebraic_BranchDwIdeal_BranchDwRefIdeal [hBranchDwIdeal : Cert.BranchDwIdeal.Facts] [hBranchDwRefIdeal : Cert.BranchDwRefIdeal.Facts] : Prop :=
  ∀ (m : (ℓ : Loc Cert.BranchDwIdeal.nD Cert.BranchDwIdeal.τ Cert.BranchDwIdeal.sig) → Buf (Elt Ideal) ℓ) (g : Dev Cert.BranchDwIdeal.nD → PrngReg)
    (m' : (ℓ : Loc Cert.BranchDwRefIdeal.nD Cert.BranchDwRefIdeal.τ Cert.BranchDwRefIdeal.sig) → Buf (Elt Ideal) ℓ) (g' : Dev Cert.BranchDwRefIdeal.nD → PrngReg), Pre_BranchDwIdeal m →
    (∀ c : Dev Cert.BranchDwIdeal.nD,
      m' ((c.tc : Thread Cert.BranchDwRefIdeal.nD Cert.BranchDwRefIdeal.τ).loc Cert.BranchDwRefIdeal.main_arg0) = m ((c.tc : Thread Cert.BranchDwIdeal.nD Cert.BranchDwIdeal.τ).loc Cert.BranchDwIdeal.main_arg0)
      ∧ m' ((c.tc : Thread Cert.BranchDwRefIdeal.nD Cert.BranchDwRefIdeal.τ).loc Cert.BranchDwRefIdeal.main_arg1) = m ((c.tc : Thread Cert.BranchDwIdeal.nD Cert.BranchDwIdeal.τ).loc Cert.BranchDwIdeal.main_arg1)) →
    ∃ (v0 : (c : Dev Cert.BranchDwIdeal.nD) → Buf (Elt Ideal) ((c.tc : Thread Cert.BranchDwIdeal.nD Cert.BranchDwIdeal.τ).loc Cert.BranchDwIdeal.main_v0)),
      θ_run (Cert.BranchDwIdeal.defs (F := Ideal)) (onTc (τ := Cert.BranchDwIdeal.τ) (Cert.BranchDwIdeal.main (F := Ideal))) ⟨m, fun _ => 0, g⟩ (fun r => ∀ c : Dev Cert.BranchDwIdeal.nD,
          r.2.mem ((c.tc : Thread Cert.BranchDwIdeal.nD Cert.BranchDwIdeal.τ).loc Cert.BranchDwIdeal.main_v0) = v0 c
          ∧ r.2.mem ((c.tc : Thread Cert.BranchDwIdeal.nD Cert.BranchDwIdeal.τ).loc Cert.BranchDwIdeal.main_arg0) = m ((c.tc : Thread Cert.BranchDwIdeal.nD Cert.BranchDwIdeal.τ).loc Cert.BranchDwIdeal.main_arg0)
          ∧ r.2.mem ((c.tc : Thread Cert.BranchDwIdeal.nD Cert.BranchDwIdeal.τ).loc Cert.BranchDwIdeal.main_arg1) = m ((c.tc : Thread Cert.BranchDwIdeal.nD Cert.BranchDwIdeal.τ).loc Cert.BranchDwIdeal.main_arg1))
      ∧ θ_run (Cert.BranchDwRefIdeal.defs (F := Ideal)) (onTc (τ := Cert.BranchDwRefIdeal.τ) (Cert.BranchDwRefIdeal.main (F := Ideal))) ⟨m', fun _ => 0, g'⟩ (fun r => ∀ c : Dev Cert.BranchDwRefIdeal.nD,
          r.2.mem ((c.tc : Thread Cert.BranchDwRefIdeal.nD Cert.BranchDwRefIdeal.τ).loc Cert.BranchDwRefIdeal.main_v5) = v0 c
          ∧ r.2.mem ((c.tc : Thread Cert.BranchDwRefIdeal.nD Cert.BranchDwRefIdeal.τ).loc Cert.BranchDwRefIdeal.main_arg0) = m' ((c.tc : Thread Cert.BranchDwRefIdeal.nD Cert.BranchDwRefIdeal.τ).loc Cert.BranchDwRefIdeal.main_arg0)
          ∧ r.2.mem ((c.tc : Thread Cert.BranchDwRefIdeal.nD Cert.BranchDwRefIdeal.τ).loc Cert.BranchDwRefIdeal.main_arg1) = m' ((c.tc : Thread Cert.BranchDwRefIdeal.nD Cert.BranchDwRefIdeal.τ).loc Cert.BranchDwRefIdeal.main_arg1))

def preserves_MergeB_MergeBIdeal : Prop :=
  True

def algebraic_MergeBIdeal_MergeBRefIdeal [hMergeBIdeal : Cert.MergeBIdeal.Facts] [hMergeBRefIdeal : Cert.MergeBRefIdeal.Facts] : Prop :=
  ∀ (m : (ℓ : Loc Cert.MergeBIdeal.nD Cert.MergeBIdeal.τ Cert.MergeBIdeal.sig) → Buf (Elt Ideal) ℓ) (g : Dev Cert.MergeBIdeal.nD → PrngReg)
    (m' : (ℓ : Loc Cert.MergeBRefIdeal.nD Cert.MergeBRefIdeal.τ Cert.MergeBRefIdeal.sig) → Buf (Elt Ideal) ℓ) (g' : Dev Cert.MergeBRefIdeal.nD → PrngReg), Pre_MergeBIdeal m →
    (∀ c : Dev Cert.MergeBIdeal.nD,
      m' ((c.tc : Thread Cert.MergeBRefIdeal.nD Cert.MergeBRefIdeal.τ).loc Cert.MergeBRefIdeal.main_arg0) = m ((c.tc : Thread Cert.MergeBIdeal.nD Cert.MergeBIdeal.τ).loc Cert.MergeBIdeal.main_arg0)
      ∧ m' ((c.tc : Thread Cert.MergeBRefIdeal.nD Cert.MergeBRefIdeal.τ).loc Cert.MergeBRefIdeal.main_arg1) = m ((c.tc : Thread Cert.MergeBIdeal.nD Cert.MergeBIdeal.τ).loc Cert.MergeBIdeal.main_arg1)
      ∧ m' ((c.tc : Thread Cert.MergeBRefIdeal.nD Cert.MergeBRefIdeal.τ).loc Cert.MergeBRefIdeal.main_arg2) = m ((c.tc : Thread Cert.MergeBIdeal.nD Cert.MergeBIdeal.τ).loc Cert.MergeBIdeal.main_arg2)
      ∧ m' ((c.tc : Thread Cert.MergeBRefIdeal.nD Cert.MergeBRefIdeal.τ).loc Cert.MergeBRefIdeal.main_arg3) = m ((c.tc : Thread Cert.MergeBIdeal.nD Cert.MergeBIdeal.τ).loc Cert.MergeBIdeal.main_arg3)
      ∧ m' ((c.tc : Thread Cert.MergeBRefIdeal.nD Cert.MergeBRefIdeal.τ).loc Cert.MergeBRefIdeal.main_arg4) = m ((c.tc : Thread Cert.MergeBIdeal.nD Cert.MergeBIdeal.τ).loc Cert.MergeBIdeal.main_arg4)
      ∧ m' ((c.tc : Thread Cert.MergeBRefIdeal.nD Cert.MergeBRefIdeal.τ).loc Cert.MergeBRefIdeal.main_arg5) = m ((c.tc : Thread Cert.MergeBIdeal.nD Cert.MergeBIdeal.τ).loc Cert.MergeBIdeal.main_arg5)) →
    ∃ (v0 : (c : Dev Cert.MergeBIdeal.nD) → Buf (Elt Ideal) ((c.tc : Thread Cert.MergeBIdeal.nD Cert.MergeBIdeal.τ).loc Cert.MergeBIdeal.main_v0_0)) (v1 : (c : Dev Cert.MergeBIdeal.nD) → Buf (Elt Ideal) ((c.tc : Thread Cert.MergeBIdeal.nD Cert.MergeBIdeal.τ).loc Cert.MergeBIdeal.main_v0_1)) (v2 : (c : Dev Cert.MergeBIdeal.nD) → Buf (Elt Ideal) ((c.tc : Thread Cert.MergeBIdeal.nD Cert.MergeBIdeal.τ).loc Cert.MergeBIdeal.main_v0_2)) (v3 : (c : Dev Cert.MergeBIdeal.nD) → Buf (Elt Ideal) ((c.tc : Thread Cert.MergeBIdeal.nD Cert.MergeBIdeal.τ).loc Cert.MergeBIdeal.main_v0_3)) (v4 : (c : Dev Cert.MergeBIdeal.nD) → Buf (Elt Ideal) ((c.tc : Thread Cert.MergeBIdeal.nD Cert.MergeBIdeal.τ).loc Cert.MergeBIdeal.main_v0_4)),
      θ_run (Cert.MergeBIdeal.defs (F := Ideal)) (onTc (τ := Cert.MergeBIdeal.τ) (Cert.MergeBIdeal.main (F := Ideal))) ⟨m, fun _ => 0, g⟩ (fun r => ∀ c : Dev Cert.MergeBIdeal.nD,
          r.2.mem ((c.tc : Thread Cert.MergeBIdeal.nD Cert.MergeBIdeal.τ).loc Cert.MergeBIdeal.main_v0_0) = v0 c
          ∧ r.2.mem ((c.tc : Thread Cert.MergeBIdeal.nD Cert.MergeBIdeal.τ).loc Cert.MergeBIdeal.main_v0_1) = v1 c
          ∧ r.2.mem ((c.tc : Thread Cert.MergeBIdeal.nD Cert.MergeBIdeal.τ).loc Cert.MergeBIdeal.main_v0_2) = v2 c
          ∧ r.2.mem ((c.tc : Thread Cert.MergeBIdeal.nD Cert.MergeBIdeal.τ).loc Cert.MergeBIdeal.main_v0_3) = v3 c
          ∧ r.2.mem ((c.tc : Thread Cert.MergeBIdeal.nD Cert.MergeBIdeal.τ).loc Cert.MergeBIdeal.main_v0_4) = v4 c
          ∧ r.2.mem ((c.tc : Thread Cert.MergeBIdeal.nD Cert.MergeBIdeal.τ).loc Cert.MergeBIdeal.main_arg0) = m ((c.tc : Thread Cert.MergeBIdeal.nD Cert.MergeBIdeal.τ).loc Cert.MergeBIdeal.main_arg0)
          ∧ r.2.mem ((c.tc : Thread Cert.MergeBIdeal.nD Cert.MergeBIdeal.τ).loc Cert.MergeBIdeal.main_arg1) = m ((c.tc : Thread Cert.MergeBIdeal.nD Cert.MergeBIdeal.τ).loc Cert.MergeBIdeal.main_arg1)
          ∧ r.2.mem ((c.tc : Thread Cert.MergeBIdeal.nD Cert.MergeBIdeal.τ).loc Cert.MergeBIdeal.main_arg2) = m ((c.tc : Thread Cert.MergeBIdeal.nD Cert.MergeBIdeal.τ).loc Cert.MergeBIdeal.main_arg2)
          ∧ r.2.mem ((c.tc : Thread Cert.MergeBIdeal.nD Cert.MergeBIdeal.τ).loc Cert.MergeBIdeal.main_arg3) = m ((c.tc : Thread Cert.MergeBIdeal.nD Cert.MergeBIdeal.τ).loc Cert.MergeBIdeal.main_arg3)
          ∧ r.2.mem ((c.tc : Thread Cert.MergeBIdeal.nD Cert.MergeBIdeal.τ).loc Cert.MergeBIdeal.main_arg4) = m ((c.tc : Thread Cert.MergeBIdeal.nD Cert.MergeBIdeal.τ).loc Cert.MergeBIdeal.main_arg4)
          ∧ r.2.mem ((c.tc : Thread Cert.MergeBIdeal.nD Cert.MergeBIdeal.τ).loc Cert.MergeBIdeal.main_arg5) = m ((c.tc : Thread Cert.MergeBIdeal.nD Cert.MergeBIdeal.τ).loc Cert.MergeBIdeal.main_arg5))
      ∧ θ_run (Cert.MergeBRefIdeal.defs (F := Ideal)) (onTc (τ := Cert.MergeBRefIdeal.τ) (Cert.MergeBRefIdeal.main (F := Ideal))) ⟨m', fun _ => 0, g'⟩ (fun r => ∀ c : Dev Cert.MergeBRefIdeal.nD,
          r.2.mem ((c.tc : Thread Cert.MergeBRefIdeal.nD Cert.MergeBRefIdeal.τ).loc Cert.MergeBRefIdeal.main_v54) = v0 c
          ∧ r.2.mem ((c.tc : Thread Cert.MergeBRefIdeal.nD Cert.MergeBRefIdeal.τ).loc Cert.MergeBRefIdeal.main_v55) = v1 c
          ∧ r.2.mem ((c.tc : Thread Cert.MergeBRefIdeal.nD Cert.MergeBRefIdeal.τ).loc Cert.MergeBRefIdeal.main_v56) = v2 c
          ∧ r.2.mem ((c.tc : Thread Cert.MergeBRefIdeal.nD Cert.MergeBRefIdeal.τ).loc Cert.MergeBRefIdeal.main_v57) = v3 c
          ∧ r.2.mem ((c.tc : Thread Cert.MergeBRefIdeal.nD Cert.MergeBRefIdeal.τ).loc Cert.MergeBRefIdeal.main_v58) = v4 c
          ∧ r.2.mem ((c.tc : Thread Cert.MergeBRefIdeal.nD Cert.MergeBRefIdeal.τ).loc Cert.MergeBRefIdeal.main_arg0) = m' ((c.tc : Thread Cert.MergeBRefIdeal.nD Cert.MergeBRefIdeal.τ).loc Cert.MergeBRefIdeal.main_arg0)
          ∧ r.2.mem ((c.tc : Thread Cert.MergeBRefIdeal.nD Cert.MergeBRefIdeal.τ).loc Cert.MergeBRefIdeal.main_arg1) = m' ((c.tc : Thread Cert.MergeBRefIdeal.nD Cert.MergeBRefIdeal.τ).loc Cert.MergeBRefIdeal.main_arg1)
          ∧ r.2.mem ((c.tc : Thread Cert.MergeBRefIdeal.nD Cert.MergeBRefIdeal.τ).loc Cert.MergeBRefIdeal.main_arg2) = m' ((c.tc : Thread Cert.MergeBRefIdeal.nD Cert.MergeBRefIdeal.τ).loc Cert.MergeBRefIdeal.main_arg2)
          ∧ r.2.mem ((c.tc : Thread Cert.MergeBRefIdeal.nD Cert.MergeBRefIdeal.τ).loc Cert.MergeBRefIdeal.main_arg3) = m' ((c.tc : Thread Cert.MergeBRefIdeal.nD Cert.MergeBRefIdeal.τ).loc Cert.MergeBRefIdeal.main_arg3)
          ∧ r.2.mem ((c.tc : Thread Cert.MergeBRefIdeal.nD Cert.MergeBRefIdeal.τ).loc Cert.MergeBRefIdeal.main_arg4) = m' ((c.tc : Thread Cert.MergeBRefIdeal.nD Cert.MergeBRefIdeal.τ).loc Cert.MergeBRefIdeal.main_arg4)
          ∧ r.2.mem ((c.tc : Thread Cert.MergeBRefIdeal.nD Cert.MergeBRefIdeal.τ).loc Cert.MergeBRefIdeal.main_arg5) = m' ((c.tc : Thread Cert.MergeBRefIdeal.nD Cert.MergeBRefIdeal.τ).loc Cert.MergeBRefIdeal.main_arg5))

def preserves_ShortB_ShortBIdeal : Prop :=
  True

def algebraic_ShortBIdeal_ShortBRefIdeal [hShortBIdeal : Cert.ShortBIdeal.Facts] [hShortBRefIdeal : Cert.ShortBRefIdeal.Facts] : Prop :=
  ∀ (m : (ℓ : Loc Cert.ShortBIdeal.nD Cert.ShortBIdeal.τ Cert.ShortBIdeal.sig) → Buf (Elt Ideal) ℓ) (g : Dev Cert.ShortBIdeal.nD → PrngReg)
    (m' : (ℓ : Loc Cert.ShortBRefIdeal.nD Cert.ShortBRefIdeal.τ Cert.ShortBRefIdeal.sig) → Buf (Elt Ideal) ℓ) (g' : Dev Cert.ShortBRefIdeal.nD → PrngReg), Pre_ShortBIdeal m →
    (∀ c : Dev Cert.ShortBIdeal.nD,
      m' ((c.tc : Thread Cert.ShortBRefIdeal.nD Cert.ShortBRefIdeal.τ).loc Cert.ShortBRefIdeal.main_arg0) = m ((c.tc : Thread Cert.ShortBIdeal.nD Cert.ShortBIdeal.τ).loc Cert.ShortBIdeal.main_arg0)
      ∧ m' ((c.tc : Thread Cert.ShortBRefIdeal.nD Cert.ShortBRefIdeal.τ).loc Cert.ShortBRefIdeal.main_arg1) = m ((c.tc : Thread Cert.ShortBIdeal.nD Cert.ShortBIdeal.τ).loc Cert.ShortBIdeal.main_arg1)
      ∧ m' ((c.tc : Thread Cert.ShortBRefIdeal.nD Cert.ShortBRefIdeal.τ).loc Cert.ShortBRefIdeal.main_arg2) = m ((c.tc : Thread Cert.ShortBIdeal.nD Cert.ShortBIdeal.τ).loc Cert.ShortBIdeal.main_arg2)) →
    ∃ (v0 : (c : Dev Cert.ShortBIdeal.nD) → Buf (Elt Ideal) ((c.tc : Thread Cert.ShortBIdeal.nD Cert.ShortBIdeal.τ).loc Cert.ShortBIdeal.main_v0_0)) (v1 : (c : Dev Cert.ShortBIdeal.nD) → Buf (Elt Ideal) ((c.tc : Thread Cert.ShortBIdeal.nD Cert.ShortBIdeal.τ).loc Cert.ShortBIdeal.main_v0_1)) (v2 : (c : Dev Cert.ShortBIdeal.nD) → Buf (Elt Ideal) ((c.tc : Thread Cert.ShortBIdeal.nD Cert.ShortBIdeal.τ).loc Cert.ShortBIdeal.main_v0_2)) (v3 : (c : Dev Cert.ShortBIdeal.nD) → Buf (Elt Ideal) ((c.tc : Thread Cert.ShortBIdeal.nD Cert.ShortBIdeal.τ).loc Cert.ShortBIdeal.main_v0_3)),
      θ_run (Cert.ShortBIdeal.defs (F := Ideal)) (onTc (τ := Cert.ShortBIdeal.τ) (Cert.ShortBIdeal.main (F := Ideal))) ⟨m, fun _ => 0, g⟩ (fun r => ∀ c : Dev Cert.ShortBIdeal.nD,
          r.2.mem ((c.tc : Thread Cert.ShortBIdeal.nD Cert.ShortBIdeal.τ).loc Cert.ShortBIdeal.main_v0_0) = v0 c
          ∧ r.2.mem ((c.tc : Thread Cert.ShortBIdeal.nD Cert.ShortBIdeal.τ).loc Cert.ShortBIdeal.main_v0_1) = v1 c
          ∧ r.2.mem ((c.tc : Thread Cert.ShortBIdeal.nD Cert.ShortBIdeal.τ).loc Cert.ShortBIdeal.main_v0_2) = v2 c
          ∧ r.2.mem ((c.tc : Thread Cert.ShortBIdeal.nD Cert.ShortBIdeal.τ).loc Cert.ShortBIdeal.main_v0_3) = v3 c
          ∧ r.2.mem ((c.tc : Thread Cert.ShortBIdeal.nD Cert.ShortBIdeal.τ).loc Cert.ShortBIdeal.main_arg0) = m ((c.tc : Thread Cert.ShortBIdeal.nD Cert.ShortBIdeal.τ).loc Cert.ShortBIdeal.main_arg0)
          ∧ r.2.mem ((c.tc : Thread Cert.ShortBIdeal.nD Cert.ShortBIdeal.τ).loc Cert.ShortBIdeal.main_arg1) = m ((c.tc : Thread Cert.ShortBIdeal.nD Cert.ShortBIdeal.τ).loc Cert.ShortBIdeal.main_arg1)
          ∧ r.2.mem ((c.tc : Thread Cert.ShortBIdeal.nD Cert.ShortBIdeal.τ).loc Cert.ShortBIdeal.main_arg2) = m ((c.tc : Thread Cert.ShortBIdeal.nD Cert.ShortBIdeal.τ).loc Cert.ShortBIdeal.main_arg2))
      ∧ θ_run (Cert.ShortBRefIdeal.defs (F := Ideal)) (onTc (τ := Cert.ShortBRefIdeal.τ) (Cert.ShortBRefIdeal.main (F := Ideal))) ⟨m', fun _ => 0, g'⟩ (fun r => ∀ c : Dev Cert.ShortBRefIdeal.nD,
          r.2.mem ((c.tc : Thread Cert.ShortBRefIdeal.nD Cert.ShortBRefIdeal.τ).loc Cert.ShortBRefIdeal.main_v155) = v0 c
          ∧ r.2.mem ((c.tc : Thread Cert.ShortBRefIdeal.nD Cert.ShortBRefIdeal.τ).loc Cert.ShortBRefIdeal.main_v156) = v1 c
          ∧ r.2.mem ((c.tc : Thread Cert.ShortBRefIdeal.nD Cert.ShortBRefIdeal.τ).loc Cert.ShortBRefIdeal.main_v157) = v2 c
          ∧ r.2.mem ((c.tc : Thread Cert.ShortBRefIdeal.nD Cert.ShortBRefIdeal.τ).loc Cert.ShortBRefIdeal.main_v141) = v3 c
          ∧ r.2.mem ((c.tc : Thread Cert.ShortBRefIdeal.nD Cert.ShortBRefIdeal.τ).loc Cert.ShortBRefIdeal.main_arg0) = m' ((c.tc : Thread Cert.ShortBRefIdeal.nD Cert.ShortBRefIdeal.τ).loc Cert.ShortBRefIdeal.main_arg0)
          ∧ r.2.mem ((c.tc : Thread Cert.ShortBRefIdeal.nD Cert.ShortBRefIdeal.τ).loc Cert.ShortBRefIdeal.main_arg1) = m' ((c.tc : Thread Cert.ShortBRefIdeal.nD Cert.ShortBRefIdeal.τ).loc Cert.ShortBRefIdeal.main_arg1)
          ∧ r.2.mem ((c.tc : Thread Cert.ShortBRefIdeal.nD Cert.ShortBRefIdeal.τ).loc Cert.ShortBRefIdeal.main_arg2) = m' ((c.tc : Thread Cert.ShortBRefIdeal.nD Cert.ShortBRefIdeal.τ).loc Cert.ShortBRefIdeal.main_arg2))

def preserves_Attn_AttnIdeal : Prop :=
  True

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v25) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_ShortF_ShortFIdeal : Prop :=
  True

def algebraic_ShortFIdeal_ShortFRefIdeal [hShortFIdeal : Cert.ShortFIdeal.Facts] [hShortFRefIdeal : Cert.ShortFRefIdeal.Facts] : Prop :=
  ∀ (m : (ℓ : Loc Cert.ShortFIdeal.nD Cert.ShortFIdeal.τ Cert.ShortFIdeal.sig) → Buf (Elt Ideal) ℓ) (g : Dev Cert.ShortFIdeal.nD → PrngReg)
    (m' : (ℓ : Loc Cert.ShortFRefIdeal.nD Cert.ShortFRefIdeal.τ Cert.ShortFRefIdeal.sig) → Buf (Elt Ideal) ℓ) (g' : Dev Cert.ShortFRefIdeal.nD → PrngReg), Pre_ShortFIdeal m →
    (∀ c : Dev Cert.ShortFIdeal.nD,
      m' ((c.tc : Thread Cert.ShortFRefIdeal.nD Cert.ShortFRefIdeal.τ).loc Cert.ShortFRefIdeal.main_arg0) = m ((c.tc : Thread Cert.ShortFIdeal.nD Cert.ShortFIdeal.τ).loc Cert.ShortFIdeal.main_arg0)
      ∧ m' ((c.tc : Thread Cert.ShortFRefIdeal.nD Cert.ShortFRefIdeal.τ).loc Cert.ShortFRefIdeal.main_arg1) = m ((c.tc : Thread Cert.ShortFIdeal.nD Cert.ShortFIdeal.τ).loc Cert.ShortFIdeal.main_arg1)) →
    ∃ (v0 : (c : Dev Cert.ShortFIdeal.nD) → Buf (Elt Ideal) ((c.tc : Thread Cert.ShortFIdeal.nD Cert.ShortFIdeal.τ).loc Cert.ShortFIdeal.main_v0)),
      θ_run (Cert.ShortFIdeal.defs (F := Ideal)) (onTc (τ := Cert.ShortFIdeal.τ) (Cert.ShortFIdeal.main (F := Ideal))) ⟨m, fun _ => 0, g⟩ (fun r => ∀ c : Dev Cert.ShortFIdeal.nD,
          r.2.mem ((c.tc : Thread Cert.ShortFIdeal.nD Cert.ShortFIdeal.τ).loc Cert.ShortFIdeal.main_v0) = v0 c
          ∧ r.2.mem ((c.tc : Thread Cert.ShortFIdeal.nD Cert.ShortFIdeal.τ).loc Cert.ShortFIdeal.main_arg0) = m ((c.tc : Thread Cert.ShortFIdeal.nD Cert.ShortFIdeal.τ).loc Cert.ShortFIdeal.main_arg0)
          ∧ r.2.mem ((c.tc : Thread Cert.ShortFIdeal.nD Cert.ShortFIdeal.τ).loc Cert.ShortFIdeal.main_arg1) = m ((c.tc : Thread Cert.ShortFIdeal.nD Cert.ShortFIdeal.τ).loc Cert.ShortFIdeal.main_arg1))
      ∧ θ_run (Cert.ShortFRefIdeal.defs (F := Ideal)) (onTc (τ := Cert.ShortFRefIdeal.τ) (Cert.ShortFRefIdeal.main (F := Ideal))) ⟨m', fun _ => 0, g'⟩ (fun r => ∀ c : Dev Cert.ShortFRefIdeal.nD,
          r.2.mem ((c.tc : Thread Cert.ShortFRefIdeal.nD Cert.ShortFRefIdeal.τ).loc Cert.ShortFRefIdeal.main_v63) = v0 c
          ∧ r.2.mem ((c.tc : Thread Cert.ShortFRefIdeal.nD Cert.ShortFRefIdeal.τ).loc Cert.ShortFRefIdeal.main_arg0) = m' ((c.tc : Thread Cert.ShortFRefIdeal.nD Cert.ShortFRefIdeal.τ).loc Cert.ShortFRefIdeal.main_arg0)
          ∧ r.2.mem ((c.tc : Thread Cert.ShortFRefIdeal.nD Cert.ShortFRefIdeal.τ).loc Cert.ShortFRefIdeal.main_arg1) = m' ((c.tc : Thread Cert.ShortFRefIdeal.nD Cert.ShortFRefIdeal.τ).loc Cert.ShortFRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v28) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_DnPrep_DnPrepIdeal : Prop :=
  True

def algebraic_DnPrepIdeal_DnPrepRefIdeal [hDnPrepIdeal : Cert.DnPrepIdeal.Facts] [hDnPrepRefIdeal : Cert.DnPrepRefIdeal.Facts] : Prop :=
  ∀ (m : (ℓ : Loc Cert.DnPrepIdeal.nD Cert.DnPrepIdeal.τ Cert.DnPrepIdeal.sig) → Buf (Elt Ideal) ℓ) (g : Dev Cert.DnPrepIdeal.nD → PrngReg)
    (m' : (ℓ : Loc Cert.DnPrepRefIdeal.nD Cert.DnPrepRefIdeal.τ Cert.DnPrepRefIdeal.sig) → Buf (Elt Ideal) ℓ) (g' : Dev Cert.DnPrepRefIdeal.nD → PrngReg), Pre_DnPrepIdeal m →
    (∀ c : Dev Cert.DnPrepIdeal.nD,
      m' ((c.tc : Thread Cert.DnPrepRefIdeal.nD Cert.DnPrepRefIdeal.τ).loc Cert.DnPrepRefIdeal.main_arg0) = m ((c.tc : Thread Cert.DnPrepIdeal.nD Cert.DnPrepIdeal.τ).loc Cert.DnPrepIdeal.main_arg0)
      ∧ m' ((c.tc : Thread Cert.DnPrepRefIdeal.nD Cert.DnPrepRefIdeal.τ).loc Cert.DnPrepRefIdeal.main_arg1) = m ((c.tc : Thread Cert.DnPrepIdeal.nD Cert.DnPrepIdeal.τ).loc Cert.DnPrepIdeal.main_arg1)
      ∧ m' ((c.tc : Thread Cert.DnPrepRefIdeal.nD Cert.DnPrepRefIdeal.τ).loc Cert.DnPrepRefIdeal.main_arg2) = m ((c.tc : Thread Cert.DnPrepIdeal.nD Cert.DnPrepIdeal.τ).loc Cert.DnPrepIdeal.main_arg2)
      ∧ m' ((c.tc : Thread Cert.DnPrepRefIdeal.nD Cert.DnPrepRefIdeal.τ).loc Cert.DnPrepRefIdeal.main_arg3) = m ((c.tc : Thread Cert.DnPrepIdeal.nD Cert.DnPrepIdeal.τ).loc Cert.DnPrepIdeal.main_arg3)) →
    ∃ (v0 : (c : Dev Cert.DnPrepIdeal.nD) → Buf (Elt Ideal) ((c.tc : Thread Cert.DnPrepIdeal.nD Cert.DnPrepIdeal.τ).loc Cert.DnPrepIdeal.main_v0_0)) (v1 : (c : Dev Cert.DnPrepIdeal.nD) → Buf (Elt Ideal) ((c.tc : Thread Cert.DnPrepIdeal.nD Cert.DnPrepIdeal.τ).loc Cert.DnPrepIdeal.main_v0_1)) (v2 : (c : Dev Cert.DnPrepIdeal.nD) → Buf (Elt Ideal) ((c.tc : Thread Cert.DnPrepIdeal.nD Cert.DnPrepIdeal.τ).loc Cert.DnPrepIdeal.main_v0_2)),
      θ_run (Cert.DnPrepIdeal.defs (F := Ideal)) (onTc (τ := Cert.DnPrepIdeal.τ) (Cert.DnPrepIdeal.main (F := Ideal))) ⟨m, fun _ => 0, g⟩ (fun r => ∀ c : Dev Cert.DnPrepIdeal.nD,
          r.2.mem ((c.tc : Thread Cert.DnPrepIdeal.nD Cert.DnPrepIdeal.τ).loc Cert.DnPrepIdeal.main_v0_0) = v0 c
          ∧ r.2.mem ((c.tc : Thread Cert.DnPrepIdeal.nD Cert.DnPrepIdeal.τ).loc Cert.DnPrepIdeal.main_v0_1) = v1 c
          ∧ r.2.mem ((c.tc : Thread Cert.DnPrepIdeal.nD Cert.DnPrepIdeal.τ).loc Cert.DnPrepIdeal.main_v0_2) = v2 c
          ∧ r.2.mem ((c.tc : Thread Cert.DnPrepIdeal.nD Cert.DnPrepIdeal.τ).loc Cert.DnPrepIdeal.main_arg0) = m ((c.tc : Thread Cert.DnPrepIdeal.nD Cert.DnPrepIdeal.τ).loc Cert.DnPrepIdeal.main_arg0)
          ∧ r.2.mem ((c.tc : Thread Cert.DnPrepIdeal.nD Cert.DnPrepIdeal.τ).loc Cert.DnPrepIdeal.main_arg1) = m ((c.tc : Thread Cert.DnPrepIdeal.nD Cert.DnPrepIdeal.τ).loc Cert.DnPrepIdeal.main_arg1)
          ∧ r.2.mem ((c.tc : Thread Cert.DnPrepIdeal.nD Cert.DnPrepIdeal.τ).loc Cert.DnPrepIdeal.main_arg2) = m ((c.tc : Thread Cert.DnPrepIdeal.nD Cert.DnPrepIdeal.τ).loc Cert.DnPrepIdeal.main_arg2)
          ∧ r.2.mem ((c.tc : Thread Cert.DnPrepIdeal.nD Cert.DnPrepIdeal.τ).loc Cert.DnPrepIdeal.main_arg3) = m ((c.tc : Thread Cert.DnPrepIdeal.nD Cert.DnPrepIdeal.τ).loc Cert.DnPrepIdeal.main_arg3))
      ∧ θ_run (Cert.DnPrepRefIdeal.defs (F := Ideal)) (onTc (τ := Cert.DnPrepRefIdeal.τ) (Cert.DnPrepRefIdeal.main (F := Ideal))) ⟨m', fun _ => 0, g'⟩ (fun r => ∀ c : Dev Cert.DnPrepRefIdeal.nD,
          r.2.mem ((c.tc : Thread Cert.DnPrepRefIdeal.nD Cert.DnPrepRefIdeal.τ).loc Cert.DnPrepRefIdeal.main_v174) = v0 c
          ∧ r.2.mem ((c.tc : Thread Cert.DnPrepRefIdeal.nD Cert.DnPrepRefIdeal.τ).loc Cert.DnPrepRefIdeal.main_v175) = v1 c
          ∧ r.2.mem ((c.tc : Thread Cert.DnPrepRefIdeal.nD Cert.DnPrepRefIdeal.τ).loc Cert.DnPrepRefIdeal.main_v153) = v2 c
          ∧ r.2.mem ((c.tc : Thread Cert.DnPrepRefIdeal.nD Cert.DnPrepRefIdeal.τ).loc Cert.DnPrepRefIdeal.main_arg0) = m' ((c.tc : Thread Cert.DnPrepRefIdeal.nD Cert.DnPrepRefIdeal.τ).loc Cert.DnPrepRefIdeal.main_arg0)
          ∧ r.2.mem ((c.tc : Thread Cert.DnPrepRefIdeal.nD Cert.DnPrepRefIdeal.τ).loc Cert.DnPrepRefIdeal.main_arg1) = m' ((c.tc : Thread Cert.DnPrepRefIdeal.nD Cert.DnPrepRefIdeal.τ).loc Cert.DnPrepRefIdeal.main_arg1)
          ∧ r.2.mem ((c.tc : Thread Cert.DnPrepRefIdeal.nD Cert.DnPrepRefIdeal.τ).loc Cert.DnPrepRefIdeal.main_arg2) = m' ((c.tc : Thread Cert.DnPrepRefIdeal.nD Cert.DnPrepRefIdeal.τ).loc Cert.DnPrepRefIdeal.main_arg2)
          ∧ r.2.mem ((c.tc : Thread Cert.DnPrepRefIdeal.nD Cert.DnPrepRefIdeal.τ).loc Cert.DnPrepRefIdeal.main_arg3) = m' ((c.tc : Thread Cert.DnPrepRefIdeal.nD Cert.DnPrepRefIdeal.τ).loc Cert.DnPrepRefIdeal.main_arg3))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)) →
    ∃ (v0 : (c : Dev Cert.WinIdeal.nD) → Buf (Elt Ideal) ((c.tc : Thread Cert.WinIdeal.nD Cert.WinIdeal.τ).loc Cert.WinIdeal.main_v0)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v3) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1))

def preserves_Mlp1_Mlp1Ideal : Prop :=
  True

def algebraic_Mlp1Ideal_Mlp1RefIdeal [hMlp1Ideal : Cert.Mlp1Ideal.Facts] [hMlp1RefIdeal : Cert.Mlp1RefIdeal.Facts] : Prop :=
  ∀ (m : (ℓ : Loc Cert.Mlp1Ideal.nD Cert.Mlp1Ideal.τ Cert.Mlp1Ideal.sig) → Buf (Elt Ideal) ℓ) (g : Dev Cert.Mlp1Ideal.nD → PrngReg)
    (m' : (ℓ : Loc Cert.Mlp1RefIdeal.nD Cert.Mlp1RefIdeal.τ Cert.Mlp1RefIdeal.sig) → Buf (Elt Ideal) ℓ) (g' : Dev Cert.Mlp1RefIdeal.nD → PrngReg), Pre_Mlp1Ideal m →
    (∀ c : Dev Cert.Mlp1Ideal.nD,
      m' ((c.tc : Thread Cert.Mlp1RefIdeal.nD Cert.Mlp1RefIdeal.τ).loc Cert.Mlp1RefIdeal.main_arg0) = m ((c.tc : Thread Cert.Mlp1Ideal.nD Cert.Mlp1Ideal.τ).loc Cert.Mlp1Ideal.main_arg0)
      ∧ m' ((c.tc : Thread Cert.Mlp1RefIdeal.nD Cert.Mlp1RefIdeal.τ).loc Cert.Mlp1RefIdeal.main_arg1) = m ((c.tc : Thread Cert.Mlp1Ideal.nD Cert.Mlp1Ideal.τ).loc Cert.Mlp1Ideal.main_arg1)) →
    ∃ (v0 : (c : Dev Cert.Mlp1Ideal.nD) → Buf (Elt Ideal) ((c.tc : Thread Cert.Mlp1Ideal.nD Cert.Mlp1Ideal.τ).loc Cert.Mlp1Ideal.main_v0_0)) (v1 : (c : Dev Cert.Mlp1Ideal.nD) → Buf (Elt Ideal) ((c.tc : Thread Cert.Mlp1Ideal.nD Cert.Mlp1Ideal.τ).loc Cert.Mlp1Ideal.main_v0_1)),
      θ_run (Cert.Mlp1Ideal.defs (F := Ideal)) (onTc (τ := Cert.Mlp1Ideal.τ) (Cert.Mlp1Ideal.main (F := Ideal))) ⟨m, fun _ => 0, g⟩ (fun r => ∀ c : Dev Cert.Mlp1Ideal.nD,
          r.2.mem ((c.tc : Thread Cert.Mlp1Ideal.nD Cert.Mlp1Ideal.τ).loc Cert.Mlp1Ideal.main_v0_0) = v0 c
          ∧ r.2.mem ((c.tc : Thread Cert.Mlp1Ideal.nD Cert.Mlp1Ideal.τ).loc Cert.Mlp1Ideal.main_v0_1) = v1 c
          ∧ r.2.mem ((c.tc : Thread Cert.Mlp1Ideal.nD Cert.Mlp1Ideal.τ).loc Cert.Mlp1Ideal.main_arg0) = m ((c.tc : Thread Cert.Mlp1Ideal.nD Cert.Mlp1Ideal.τ).loc Cert.Mlp1Ideal.main_arg0)
          ∧ r.2.mem ((c.tc : Thread Cert.Mlp1Ideal.nD Cert.Mlp1Ideal.τ).loc Cert.Mlp1Ideal.main_arg1) = m ((c.tc : Thread Cert.Mlp1Ideal.nD Cert.Mlp1Ideal.τ).loc Cert.Mlp1Ideal.main_arg1))
      ∧ θ_run (Cert.Mlp1RefIdeal.defs (F := Ideal)) (onTc (τ := Cert.Mlp1RefIdeal.τ) (Cert.Mlp1RefIdeal.main (F := Ideal))) ⟨m', fun _ => 0, g'⟩ (fun r => ∀ c : Dev Cert.Mlp1RefIdeal.nD,
          r.2.mem ((c.tc : Thread Cert.Mlp1RefIdeal.nD Cert.Mlp1RefIdeal.τ).loc Cert.Mlp1RefIdeal.main_v2) = v0 c
          ∧ r.2.mem ((c.tc : Thread Cert.Mlp1RefIdeal.nD Cert.Mlp1RefIdeal.τ).loc Cert.Mlp1RefIdeal.main_v5) = v1 c
          ∧ r.2.mem ((c.tc : Thread Cert.Mlp1RefIdeal.nD Cert.Mlp1RefIdeal.τ).loc Cert.Mlp1RefIdeal.main_arg0) = m' ((c.tc : Thread Cert.Mlp1RefIdeal.nD Cert.Mlp1RefIdeal.τ).loc Cert.Mlp1RefIdeal.main_arg0)
          ∧ r.2.mem ((c.tc : Thread Cert.Mlp1RefIdeal.nD Cert.Mlp1RefIdeal.τ).loc Cert.Mlp1RefIdeal.main_arg1) = m' ((c.tc : Thread Cert.Mlp1RefIdeal.nD Cert.Mlp1RefIdeal.τ).loc Cert.Mlp1RefIdeal.main_arg1))

def preserves_Mlp2_Mlp2Ideal : Prop :=
  True

def algebraic_Mlp2Ideal_Mlp2RefIdeal [hMlp2Ideal : Cert.Mlp2Ideal.Facts] [hMlp2RefIdeal : Cert.Mlp2RefIdeal.Facts] : Prop :=
  ∀ (m : (ℓ : Loc Cert.Mlp2Ideal.nD Cert.Mlp2Ideal.τ Cert.Mlp2Ideal.sig) → Buf (Elt Ideal) ℓ) (g : Dev Cert.Mlp2Ideal.nD → PrngReg)
    (m' : (ℓ : Loc Cert.Mlp2RefIdeal.nD Cert.Mlp2RefIdeal.τ Cert.Mlp2RefIdeal.sig) → Buf (Elt Ideal) ℓ) (g' : Dev Cert.Mlp2RefIdeal.nD → PrngReg), Pre_Mlp2Ideal m →
    (∀ c : Dev Cert.Mlp2Ideal.nD,
      m' ((c.tc : Thread Cert.Mlp2RefIdeal.nD Cert.Mlp2RefIdeal.τ).loc Cert.Mlp2RefIdeal.main_arg0) = m ((c.tc : Thread Cert.Mlp2Ideal.nD Cert.Mlp2Ideal.τ).loc Cert.Mlp2Ideal.main_arg0)
      ∧ m' ((c.tc : Thread Cert.Mlp2RefIdeal.nD Cert.Mlp2RefIdeal.τ).loc Cert.Mlp2RefIdeal.main_arg1) = m ((c.tc : Thread Cert.Mlp2Ideal.nD Cert.Mlp2Ideal.τ).loc Cert.Mlp2Ideal.main_arg1)) →
    ∃ (v0 : (c : Dev Cert.Mlp2Ideal.nD) → Buf (Elt Ideal) ((c.tc : Thread Cert.Mlp2Ideal.nD Cert.Mlp2Ideal.τ).loc Cert.Mlp2Ideal.main_v0)),
      θ_run (Cert.Mlp2Ideal.defs (F := Ideal)) (onTc (τ := Cert.Mlp2Ideal.τ) (Cert.Mlp2Ideal.main (F := Ideal))) ⟨m, fun _ => 0, g⟩ (fun r => ∀ c : Dev Cert.Mlp2Ideal.nD,
          r.2.mem ((c.tc : Thread Cert.Mlp2Ideal.nD Cert.Mlp2Ideal.τ).loc Cert.Mlp2Ideal.main_v0) = v0 c
          ∧ r.2.mem ((c.tc : Thread Cert.Mlp2Ideal.nD Cert.Mlp2Ideal.τ).loc Cert.Mlp2Ideal.main_arg0) = m ((c.tc : Thread Cert.Mlp2Ideal.nD Cert.Mlp2Ideal.τ).loc Cert.Mlp2Ideal.main_arg0)
          ∧ r.2.mem ((c.tc : Thread Cert.Mlp2Ideal.nD Cert.Mlp2Ideal.τ).loc Cert.Mlp2Ideal.main_arg1) = m ((c.tc : Thread Cert.Mlp2Ideal.nD Cert.Mlp2Ideal.τ).loc Cert.Mlp2Ideal.main_arg1))
      ∧ θ_run (Cert.Mlp2RefIdeal.defs (F := Ideal)) (onTc (τ := Cert.Mlp2RefIdeal.τ) (Cert.Mlp2RefIdeal.main (F := Ideal))) ⟨m', fun _ => 0, g'⟩ (fun r => ∀ c : Dev Cert.Mlp2RefIdeal.nD,
          r.2.mem ((c.tc : Thread Cert.Mlp2RefIdeal.nD Cert.Mlp2RefIdeal.τ).loc Cert.Mlp2RefIdeal.main_v2) = v0 c
          ∧ r.2.mem ((c.tc : Thread Cert.Mlp2RefIdeal.nD Cert.Mlp2RefIdeal.τ).loc Cert.Mlp2RefIdeal.main_arg0) = m' ((c.tc : Thread Cert.Mlp2RefIdeal.nD Cert.Mlp2RefIdeal.τ).loc Cert.Mlp2RefIdeal.main_arg0)
          ∧ r.2.mem ((c.tc : Thread Cert.Mlp2RefIdeal.nD Cert.Mlp2RefIdeal.τ).loc Cert.Mlp2RefIdeal.main_arg1) = m' ((c.tc : Thread Cert.Mlp2RefIdeal.nD Cert.Mlp2RefIdeal.τ).loc Cert.Mlp2RefIdeal.main_arg1))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)) →
    ∃ (v0 : (c : Dev Cert.WoutIdeal.nD) → Buf (Elt Ideal) ((c.tc : Thread Cert.WoutIdeal.nD Cert.WoutIdeal.τ).loc Cert.WoutIdeal.main_v0)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v0) = v0 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v2) = v0 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1))

def preserves_Branch_BranchIdeal : Prop :=
  True

def algebraic_BranchIdeal_BranchRefIdeal [hBranchIdeal : Cert.BranchIdeal.Facts] [hBranchRefIdeal : Cert.BranchRefIdeal.Facts] : Prop :=
  ∀ (m : (ℓ : Loc Cert.BranchIdeal.nD Cert.BranchIdeal.τ Cert.BranchIdeal.sig) → Buf (Elt Ideal) ℓ) (g : Dev Cert.BranchIdeal.nD → PrngReg)
    (m' : (ℓ : Loc Cert.BranchRefIdeal.nD Cert.BranchRefIdeal.τ Cert.BranchRefIdeal.sig) → Buf (Elt Ideal) ℓ) (g' : Dev Cert.BranchRefIdeal.nD → PrngReg), Pre_BranchIdeal m →
    (∀ c : Dev Cert.BranchIdeal.nD,
      m' ((c.tc : Thread Cert.BranchRefIdeal.nD Cert.BranchRefIdeal.τ).loc Cert.BranchRefIdeal.main_arg0) = m ((c.tc : Thread Cert.BranchIdeal.nD Cert.BranchIdeal.τ).loc Cert.BranchIdeal.main_arg0)
      ∧ m' ((c.tc : Thread Cert.BranchRefIdeal.nD Cert.BranchRefIdeal.τ).loc Cert.BranchRefIdeal.main_arg1) = m ((c.tc : Thread Cert.BranchIdeal.nD Cert.BranchIdeal.τ).loc Cert.BranchIdeal.main_arg1)) →
    ∃ (v0 : (c : Dev Cert.BranchIdeal.nD) → Buf (Elt Ideal) ((c.tc : Thread Cert.BranchIdeal.nD Cert.BranchIdeal.τ).loc Cert.BranchIdeal.main_v0)),
      θ_run (Cert.BranchIdeal.defs (F := Ideal)) (onTc (τ := Cert.BranchIdeal.τ) (Cert.BranchIdeal.main (F := Ideal))) ⟨m, fun _ => 0, g⟩ (fun r => ∀ c : Dev Cert.BranchIdeal.nD,
          r.2.mem ((c.tc : Thread Cert.BranchIdeal.nD Cert.BranchIdeal.τ).loc Cert.BranchIdeal.main_v0) = v0 c
          ∧ r.2.mem ((c.tc : Thread Cert.BranchIdeal.nD Cert.BranchIdeal.τ).loc Cert.BranchIdeal.main_arg0) = m ((c.tc : Thread Cert.BranchIdeal.nD Cert.BranchIdeal.τ).loc Cert.BranchIdeal.main_arg0)
          ∧ r.2.mem ((c.tc : Thread Cert.BranchIdeal.nD Cert.BranchIdeal.τ).loc Cert.BranchIdeal.main_arg1) = m ((c.tc : Thread Cert.BranchIdeal.nD Cert.BranchIdeal.τ).loc Cert.BranchIdeal.main_arg1))
      ∧ θ_run (Cert.BranchRefIdeal.defs (F := Ideal)) (onTc (τ := Cert.BranchRefIdeal.τ) (Cert.BranchRefIdeal.main (F := Ideal))) ⟨m', fun _ => 0, g'⟩ (fun r => ∀ c : Dev Cert.BranchRefIdeal.nD,
          r.2.mem ((c.tc : Thread Cert.BranchRefIdeal.nD Cert.BranchRefIdeal.τ).loc Cert.BranchRefIdeal.main_v3) = v0 c
          ∧ r.2.mem ((c.tc : Thread Cert.BranchRefIdeal.nD Cert.BranchRefIdeal.τ).loc Cert.BranchRefIdeal.main_arg0) = m' ((c.tc : Thread Cert.BranchRefIdeal.nD Cert.BranchRefIdeal.τ).loc Cert.BranchRefIdeal.main_arg0)
          ∧ r.2.mem ((c.tc : Thread Cert.BranchRefIdeal.nD Cert.BranchRefIdeal.τ).loc Cert.BranchRefIdeal.main_arg1) = m' ((c.tc : Thread Cert.BranchRefIdeal.nD Cert.BranchRefIdeal.τ).loc Cert.BranchRefIdeal.main_arg1))

def Claim : Prop :=
  ∃ (hKernel : Cert.Kernel.Facts) (hKernelIdeal : Cert.KernelIdeal.Facts) (hReferenceIdeal : Cert.ReferenceIdeal.Facts) (hWinDx : Cert.WinDx.Facts) (hWinDxIdeal : Cert.WinDxIdeal.Facts) (hWinDxRefIdeal : Cert.WinDxRefIdeal.Facts) (hWinDw : Cert.WinDw.Facts) (hWinDwIdeal : Cert.WinDwIdeal.Facts) (hWinDwRefIdeal : Cert.WinDwRefIdeal.Facts) (hMlp2Dx : Cert.Mlp2Dx.Facts) (hMlp2DxIdeal : Cert.Mlp2DxIdeal.Facts) (hMlp2DxRefIdeal : Cert.Mlp2DxRefIdeal.Facts) (hMlp2Dw : Cert.Mlp2Dw.Facts) (hMlp2DwIdeal : Cert.Mlp2DwIdeal.Facts) (hMlp2DwRefIdeal : Cert.Mlp2DwRefIdeal.Facts) (hMlp1Dx : Cert.Mlp1Dx.Facts) (hMlp1DxIdeal : Cert.Mlp1DxIdeal.Facts) (hMlp1DxRefIdeal : Cert.Mlp1DxRefIdeal.Facts) (hMlp1Dw : Cert.Mlp1Dw.Facts) (hMlp1DwIdeal : Cert.Mlp1DwIdeal.Facts) (hMlp1DwRefIdeal : Cert.Mlp1DwRefIdeal.Facts) (hWoutDx : Cert.WoutDx.Facts) (hWoutDxIdeal : Cert.WoutDxIdeal.Facts) (hWoutDxRefIdeal : Cert.WoutDxRefIdeal.Facts) (hWoutDw : Cert.WoutDw.Facts) (hWoutDwIdeal : Cert.WoutDwIdeal.Facts) (hWoutDwRefIdeal : Cert.WoutDwRefIdeal.Facts) (hBranchDx : Cert.BranchDx.Facts) (hBranchDxIdeal : Cert.BranchDxIdeal.Facts) (hBranchDxRefIdeal : Cert.BranchDxRefIdeal.Facts) (hBranchDw : Cert.BranchDw.Facts) (hBranchDwIdeal : Cert.BranchDwIdeal.Facts) (hBranchDwRefIdeal : Cert.BranchDwRefIdeal.Facts) (hMergeB : Cert.MergeB.Facts) (hMergeBIdeal : Cert.MergeBIdeal.Facts) (hMergeBRefIdeal : Cert.MergeBRefIdeal.Facts) (hShortB : Cert.ShortB.Facts) (hShortBIdeal : Cert.ShortBIdeal.Facts) (hShortBRefIdeal : Cert.ShortBRefIdeal.Facts) (hAttn : Cert.Attn.Facts) (hAttnIdeal : Cert.AttnIdeal.Facts) (hAttnRefIdeal : Cert.AttnRefIdeal.Facts) (hShortF : Cert.ShortF.Facts) (hShortFIdeal : Cert.ShortFIdeal.Facts) (hShortFRefIdeal : Cert.ShortFRefIdeal.Facts) (hMerge : Cert.Merge.Facts) (hMergeIdeal : Cert.MergeIdeal.Facts) (hMergeRefIdeal : Cert.MergeRefIdeal.Facts) (hDnPrep : Cert.DnPrep.Facts) (hDnPrepIdeal : Cert.DnPrepIdeal.Facts) (hDnPrepRefIdeal : Cert.DnPrepRefIdeal.Facts) (hWin : Cert.Win.Facts) (hWinIdeal : Cert.WinIdeal.Facts) (hWinRefIdeal : Cert.WinRefIdeal.Facts) (hMlp1 : Cert.Mlp1.Facts) (hMlp1Ideal : Cert.Mlp1Ideal.Facts) (hMlp1RefIdeal : Cert.Mlp1RefIdeal.Facts) (hMlp2 : Cert.Mlp2.Facts) (hMlp2Ideal : Cert.Mlp2Ideal.Facts) (hMlp2RefIdeal : Cert.Mlp2RefIdeal.Facts) (hWout : Cert.Wout.Facts) (hWoutIdeal : Cert.WoutIdeal.Facts) (hWoutRefIdeal : Cert.WoutRefIdeal.Facts) (hBranch : Cert.Branch.Facts) (hBranchIdeal : Cert.BranchIdeal.Facts) (hBranchRefIdeal : Cert.BranchRefIdeal.Facts) (hPre_finite : Cert.Pre_finite.Facts) (hPre_finite_scores : Cert.Pre_finite_scores.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_WinDx (hWinDx := hWinDx)
    ∧ quiescent_WinDxIdeal (hWinDxIdeal := hWinDxIdeal)
    ∧ quiescent_WinDxRefIdeal (hWinDxRefIdeal := hWinDxRefIdeal)
    ∧ quiescent_WinDw (hWinDw := hWinDw)
    ∧ quiescent_WinDwIdeal (hWinDwIdeal := hWinDwIdeal)
    ∧ quiescent_WinDwRefIdeal (hWinDwRefIdeal := hWinDwRefIdeal)
    ∧ quiescent_Mlp2Dx (hMlp2Dx := hMlp2Dx)
    ∧ quiescent_Mlp2DxIdeal (hMlp2DxIdeal := hMlp2DxIdeal)
    ∧ quiescent_Mlp2DxRefIdeal (hMlp2DxRefIdeal := hMlp2DxRefIdeal)
    ∧ quiescent_Mlp2Dw (hMlp2Dw := hMlp2Dw)
    ∧ quiescent_Mlp2DwIdeal (hMlp2DwIdeal := hMlp2DwIdeal)
    ∧ quiescent_Mlp2DwRefIdeal (hMlp2DwRefIdeal := hMlp2DwRefIdeal)
    ∧ quiescent_Mlp1Dx (hMlp1Dx := hMlp1Dx)
    ∧ quiescent_Mlp1DxIdeal (hMlp1DxIdeal := hMlp1DxIdeal)
    ∧ quiescent_Mlp1DxRefIdeal (hMlp1DxRefIdeal := hMlp1DxRefIdeal)
    ∧ quiescent_Mlp1Dw (hMlp1Dw := hMlp1Dw)
    ∧ quiescent_Mlp1DwIdeal (hMlp1DwIdeal := hMlp1DwIdeal)
    ∧ quiescent_Mlp1DwRefIdeal (hMlp1DwRefIdeal := hMlp1DwRefIdeal)
    ∧ quiescent_WoutDx (hWoutDx := hWoutDx)
    ∧ quiescent_WoutDxIdeal (hWoutDxIdeal := hWoutDxIdeal)
    ∧ quiescent_WoutDxRefIdeal (hWoutDxRefIdeal := hWoutDxRefIdeal)
    ∧ quiescent_WoutDw (hWoutDw := hWoutDw)
    ∧ quiescent_WoutDwIdeal (hWoutDwIdeal := hWoutDwIdeal)
    ∧ quiescent_WoutDwRefIdeal (hWoutDwRefIdeal := hWoutDwRefIdeal)
    ∧ quiescent_BranchDx (hBranchDx := hBranchDx)
    ∧ quiescent_BranchDxIdeal (hBranchDxIdeal := hBranchDxIdeal)
    ∧ quiescent_BranchDxRefIdeal (hBranchDxRefIdeal := hBranchDxRefIdeal)
    ∧ quiescent_BranchDw (hBranchDw := hBranchDw)
    ∧ quiescent_BranchDwIdeal (hBranchDwIdeal := hBranchDwIdeal)
    ∧ quiescent_BranchDwRefIdeal (hBranchDwRefIdeal := hBranchDwRefIdeal)
    ∧ quiescent_MergeB (hMergeB := hMergeB)
    ∧ quiescent_MergeBIdeal (hMergeBIdeal := hMergeBIdeal)
    ∧ quiescent_MergeBRefIdeal (hMergeBRefIdeal := hMergeBRefIdeal)
    ∧ quiescent_ShortB (hShortB := hShortB)
    ∧ quiescent_ShortBIdeal (hShortBIdeal := hShortBIdeal)
    ∧ quiescent_ShortBRefIdeal (hShortBRefIdeal := hShortBRefIdeal)
    ∧ quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_ShortF (hShortF := hShortF)
    ∧ quiescent_ShortFIdeal (hShortFIdeal := hShortFIdeal)
    ∧ quiescent_ShortFRefIdeal (hShortFRefIdeal := hShortFRefIdeal)
    ∧ quiescent_Merge (hMerge := hMerge)
    ∧ quiescent_MergeIdeal (hMergeIdeal := hMergeIdeal)
    ∧ quiescent_MergeRefIdeal (hMergeRefIdeal := hMergeRefIdeal)
    ∧ quiescent_DnPrep (hDnPrep := hDnPrep)
    ∧ quiescent_DnPrepIdeal (hDnPrepIdeal := hDnPrepIdeal)
    ∧ quiescent_DnPrepRefIdeal (hDnPrepRefIdeal := hDnPrepRefIdeal)
    ∧ quiescent_Win (hWin := hWin)
    ∧ quiescent_WinIdeal (hWinIdeal := hWinIdeal)
    ∧ quiescent_WinRefIdeal (hWinRefIdeal := hWinRefIdeal)
    ∧ quiescent_Mlp1 (hMlp1 := hMlp1)
    ∧ quiescent_Mlp1Ideal (hMlp1Ideal := hMlp1Ideal)
    ∧ quiescent_Mlp1RefIdeal (hMlp1RefIdeal := hMlp1RefIdeal)
    ∧ quiescent_Mlp2 (hMlp2 := hMlp2)
    ∧ quiescent_Mlp2Ideal (hMlp2Ideal := hMlp2Ideal)
    ∧ quiescent_Mlp2RefIdeal (hMlp2RefIdeal := hMlp2RefIdeal)
    ∧ quiescent_Wout (hWout := hWout)
    ∧ quiescent_WoutIdeal (hWoutIdeal := hWoutIdeal)
    ∧ quiescent_WoutRefIdeal (hWoutRefIdeal := hWoutRefIdeal)
    ∧ quiescent_Branch (hBranch := hBranch)
    ∧ quiescent_BranchIdeal (hBranchIdeal := hBranchIdeal)
    ∧ quiescent_BranchRefIdeal (hBranchRefIdeal := hBranchRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_WinDx_WinDxIdeal
    ∧ algebraic_WinDxIdeal_WinDxRefIdeal (hWinDxIdeal := hWinDxIdeal) (hWinDxRefIdeal := hWinDxRefIdeal)
    ∧ preserves_WinDw_WinDwIdeal
    ∧ algebraic_WinDwIdeal_WinDwRefIdeal (hWinDwIdeal := hWinDwIdeal) (hWinDwRefIdeal := hWinDwRefIdeal)
    ∧ preserves_Mlp2Dx_Mlp2DxIdeal
    ∧ algebraic_Mlp2DxIdeal_Mlp2DxRefIdeal (hMlp2DxIdeal := hMlp2DxIdeal) (hMlp2DxRefIdeal := hMlp2DxRefIdeal)
    ∧ preserves_Mlp2Dw_Mlp2DwIdeal
    ∧ algebraic_Mlp2DwIdeal_Mlp2DwRefIdeal (hMlp2DwIdeal := hMlp2DwIdeal) (hMlp2DwRefIdeal := hMlp2DwRefIdeal)
    ∧ preserves_Mlp1Dx_Mlp1DxIdeal
    ∧ algebraic_Mlp1DxIdeal_Mlp1DxRefIdeal (hMlp1DxIdeal := hMlp1DxIdeal) (hMlp1DxRefIdeal := hMlp1DxRefIdeal)
    ∧ preserves_Mlp1Dw_Mlp1DwIdeal
    ∧ algebraic_Mlp1DwIdeal_Mlp1DwRefIdeal (hMlp1DwIdeal := hMlp1DwIdeal) (hMlp1DwRefIdeal := hMlp1DwRefIdeal)
    ∧ preserves_WoutDx_WoutDxIdeal
    ∧ algebraic_WoutDxIdeal_WoutDxRefIdeal (hWoutDxIdeal := hWoutDxIdeal) (hWoutDxRefIdeal := hWoutDxRefIdeal)
    ∧ preserves_WoutDw_WoutDwIdeal
    ∧ algebraic_WoutDwIdeal_WoutDwRefIdeal (hWoutDwIdeal := hWoutDwIdeal) (hWoutDwRefIdeal := hWoutDwRefIdeal)
    ∧ preserves_BranchDx_BranchDxIdeal
    ∧ algebraic_BranchDxIdeal_BranchDxRefIdeal (hBranchDxIdeal := hBranchDxIdeal) (hBranchDxRefIdeal := hBranchDxRefIdeal)
    ∧ preserves_BranchDw_BranchDwIdeal
    ∧ algebraic_BranchDwIdeal_BranchDwRefIdeal (hBranchDwIdeal := hBranchDwIdeal) (hBranchDwRefIdeal := hBranchDwRefIdeal)
    ∧ preserves_MergeB_MergeBIdeal
    ∧ algebraic_MergeBIdeal_MergeBRefIdeal (hMergeBIdeal := hMergeBIdeal) (hMergeBRefIdeal := hMergeBRefIdeal)
    ∧ preserves_ShortB_ShortBIdeal
    ∧ algebraic_ShortBIdeal_ShortBRefIdeal (hShortBIdeal := hShortBIdeal) (hShortBRefIdeal := hShortBRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_ShortF_ShortFIdeal
    ∧ algebraic_ShortFIdeal_ShortFRefIdeal (hShortFIdeal := hShortFIdeal) (hShortFRefIdeal := hShortFRefIdeal)
    ∧ preserves_Merge_MergeIdeal
    ∧ algebraic_MergeIdeal_MergeRefIdeal (hMergeIdeal := hMergeIdeal) (hMergeRefIdeal := hMergeRefIdeal)
    ∧ preserves_DnPrep_DnPrepIdeal
    ∧ algebraic_DnPrepIdeal_DnPrepRefIdeal (hDnPrepIdeal := hDnPrepIdeal) (hDnPrepRefIdeal := hDnPrepRefIdeal)
    ∧ preserves_Win_WinIdeal
    ∧ algebraic_WinIdeal_WinRefIdeal (hWinIdeal := hWinIdeal) (hWinRefIdeal := hWinRefIdeal)
    ∧ preserves_Mlp1_Mlp1Ideal
    ∧ algebraic_Mlp1Ideal_Mlp1RefIdeal (hMlp1Ideal := hMlp1Ideal) (hMlp1RefIdeal := hMlp1RefIdeal)
    ∧ preserves_Mlp2_Mlp2Ideal
    ∧ algebraic_Mlp2Ideal_Mlp2RefIdeal (hMlp2Ideal := hMlp2Ideal) (hMlp2RefIdeal := hMlp2RefIdeal)
    ∧ preserves_Wout_WoutIdeal
    ∧ algebraic_WoutIdeal_WoutRefIdeal (hWoutIdeal := hWoutIdeal) (hWoutRefIdeal := hWoutRefIdeal)
    ∧ preserves_Branch_BranchIdeal
    ∧ algebraic_BranchIdeal_BranchRefIdeal (hBranchIdeal := hBranchIdeal) (hBranchRefIdeal := hBranchRefIdeal)
-- ==== Pre_finite.lean ====
abbrev S4x2304x512 : Shape := ⟨3, ![4, 2304, 512]⟩
abbrev S4x2304x128 : Shape := ⟨3, ![4, 2304, 128]⟩
abbrev S4x2304x10240 : Shape := ⟨3, ![4, 2304, 10240]⟩
abbrev S4x2048x512 : Shape := ⟨3, ![4, 2048, 512]⟩
abbrev S_ : Shape := ⟨0, ![]⟩

class Facts : Prop where
  bitsLt_bf16_f32 : FTy.bits .bf16 < FTy.bits .f32
  slices_S4x2304x512_S4x2048x512_0_256_0 : S4x2304x512.Slices ![0, 256, 0] S4x2048x512
  bcast_S_S4x2048x512 : S_.BroadcastsInDim S4x2048x512 (![] : Fin 0 → Fin S4x2048x512.rank)
  bcast_S_S4x2304x128 : S_.BroadcastsInDim S4x2304x128 (![] : Fin 0 → Fin S4x2304x128.rank)
  slices_S4x2304x10240_S4x2304x128_0_0_9856 : S4x2304x10240.Slices ![0, 0, 9856] S4x2304x128

variable [Facts]

def fn {F : FTy → Type} [FloatOps F] (main_arg0 : FVec F S4x2304x512 .bf16) (main_arg1 : FVec F S4x2304x128 .bf16) (main_arg2 : FVec F S4x2304x10240 .bf16) (main_arg3 : FVec F S4x2048x512 .f32) : IVec S4x2048x512 1 × IVec S4x2304x128 1 × IVec S4x2304x128 1 × IVec S4x2048x512 1 :=
  let main_v0 : FVec F S4x2304x512 .f32 := (extf .f32 · bitsLt_bf16_f32) main_arg0
  let main_v1 : FVec F S4x2048x512 .f32 := (extractStridedSlice S4x2048x512 ![0, 256, 0] · slices_S4x2304x512_S4x2048x512_0_256_0) main_v0
  let main_v2 : FVec F S4x2048x512 .f32 := Host.absf main_v1
  let main_cst : FVec F S_ .f32 := constant S_ .f32 0x7F800000#32
  let main_v3 : FVec F S4x2048x512 .f32 := broadcastInDim S4x2048x512 ![] bcast_S_S4x2048x512 main_cst
  let main_v4 : IVec S4x2048x512 1 := cmpf .olt main_v2 main_v3
  let main_v5 : FVec F S4x2304x128 .f32 := (extf .f32 · bitsLt_bf16_f32) main_arg1
  let main_v6 : FVec F S4x2304x128 .f32 := Host.absf main_v5
  let main_cst_0 : FVec F S_ .f32 := constant S_ .f32 0x7F800000#32
  let main_v7 : FVec F S4x2304x128 .f32 := broadcastInDim S4x2304x128 ![] bcast_S_S4x2304x128 main_cst_0
  let main_v8 : IVec S4x2304x128 1 := cmpf .olt main_v6 main_v7
  let main_v9 : FVec F S4x2304x10240 .f32 := (extf .f32 · bitsLt_bf16_f32) main_arg2
  let main_v10 : FVec F S4x2304x128 .f32 := (extractStridedSlice S4x2304x128 ![0, 0, 9856] · slices_S4x2304x10240_S4x2304x128_0_0_9856) main_v9
  let main_v11 : FVec F S4x2304x128 .f32 := Host.absf main_v10
  let main_cst_1 : FVec F S_ .f32 := constant S_ .f32 0x7F800000#32
  let main_v12 : FVec F S4x2304x128 .f32 := broadcastInDim S4x2304x128 ![] bcast_S_S4x2304x128 main_cst_1
  let main_v13 : IVec S4x2304x128 1 := cmpf .olt main_v11 main_v12
  let main_v14 : FVec F S4x2048x512 .f32 := Host.absf main_arg3
  let main_cst_2 : FVec F S_ .f32 := constant S_ .f32 0x7F800000#32
  let main_v15 : FVec F S4x2048x512 .f32 := broadcastInDim S4x2048x512 ![] bcast_S_S4x2048x512 main_cst_2
  let main_v16 : IVec S4x2048x512 1 := cmpf .olt main_v14 main_v15
  (main_v4, main_v8, main_v13, main_v16)
-- ==== Pre_finite_scores.lean ====
abbrev S4x2304x512 : Shape := ⟨3, ![4, 2304, 512]⟩
abbrev S4x2304x128 : Shape := ⟨3, ![4, 2304, 128]⟩
abbrev S4x2304x10240 : Shape := ⟨3, ![4, 2304, 10240]⟩
abbrev S4x2048x512 : Shape := ⟨3, ![4, 2048, 512]⟩
abbrev S_ : Shape := ⟨0, ![]⟩

class Facts : Prop where
  bitsLt_bf16_f32 : FTy.bits .bf16 < FTy.bits .f32
  slices_S4x2304x512_S4x2048x512_0_256_0 : S4x2304x512.Slices ![0, 256, 0] S4x2048x512
  bcast_S_S4x2048x512 : S_.BroadcastsInDim S4x2048x512 (![] : Fin 0 → Fin S4x2048x512.rank)
  bcast_S_S4x2304x128 : S_.BroadcastsInDim S4x2304x128 (![] : Fin 0 → Fin S4x2304x128.rank)

variable [Facts]

def fn {F : FTy → Type} [FloatOps F] (main_arg0 : FVec F S4x2304x512 .bf16) (main_arg1 : FVec F S4x2304x128 .bf16) (main_arg2 : FVec F S4x2304x10240 .bf16) : IVec S4x2048x512 1 × IVec S4x2304x128 1 :=
  let main_v0 : FVec F S4x2304x512 .f32 := (extf .f32 · bitsLt_bf16_f32) main_arg0
  let main_v1 : FVec F S4x2048x512 .f32 := (extractStridedSlice S4x2048x512 ![0, 256, 0] · slices_S4x2304x512_S4x2048x512_0_256_0) main_v0
  let main_v2 : FVec F S4x2048x512 .f32 := Host.absf main_v1
  let main_cst : FVec F S_ .f32 := constant S_ .f32 0x7F800000#32
  let main_v3 : FVec F S4x2048x512 .f32 := broadcastInDim S4x2048x512 ![] bcast_S_S4x2048x512 main_cst
  let main_v4 : IVec S4x2048x512 1 := cmpf .olt main_v2 main_v3
  let main_v5 : FVec F S4x2304x128 .f32 := (extf .f32 · bitsLt_bf16_f32) main_arg1
  let main_v6 : FVec F S4x2304x128 .f32 := Host.absf main_v5
  let main_cst_0 : FVec F S_ .f32 := constant S_ .f32 0x7F800000#32
  let main_v7 : FVec F S4x2304x128 .f32 := broadcastInDim S4x2304x128 ![] bcast_S_S4x2304x128 main_cst_0
  let main_v8 : IVec S4x2304x128 1 := cmpf .olt main_v6 main_v7
  (main_v4, main_v8)
-- ==== Kernel.lean ====
abbrev S4x2304x512 : Shape := ⟨3, ![4, 2304, 512]⟩
abbrev S4x2304x128 : Shape := ⟨3, ![4, 2304, 128]⟩
abbrev S4x2304x10240 : Shape := ⟨3, ![4, 2304, 10240]⟩
abbrev S4x2048x512 : Shape := ⟨3, ![4, 2048, 512]⟩
abbrev S1x128x512 : Shape := ⟨3, ![1, 128, 512]⟩
abbrev S1x2304x128 : Shape := ⟨3, ![1, 2304, 128]⟩
abbrev S1x128x64 : Shape := ⟨3, ![1, 128, 64]⟩
abbrev S128x64 : Shape := ⟨2, ![128, 64]⟩
abbrev S1x2304x64 : Shape := ⟨3, ![1, 2304, 64]⟩
abbrev S2304x64 : Shape := ⟨2, ![2304, 64]⟩
abbrev S512x64 : Shape := ⟨2, ![512, 64]⟩
abbrev S512x2304 : Shape := ⟨2, ![512, 2304]⟩
abbrev S512 : Shape := ⟨1, ![512]⟩
abbrev S512x1 : Shape := ⟨2, ![512, 1]⟩
abbrev S384x64 : Shape := ⟨2, ![384, 64]⟩
abbrev S256x64 : Shape := ⟨2, ![256, 64]⟩

abbrev nBuf : Space → Nat
  | .hbm => 7
  | .vmem => 14
  | .smem => 0
  | _ => 0

abbrev bufTy : (tb : Table) → Fin (tcTables nBuf tb) → BufTy
  | .hbm, ⟨0, _⟩ => ⟨S4x2304x512, .bf16⟩
  | .hbm, ⟨1, _⟩ => ⟨S4x2304x128, .bf16⟩
  | .hbm, ⟨2, _⟩ => ⟨S4x2304x10240, .bf16⟩
  | .hbm, ⟨3, _⟩ => ⟨S4x2048x512, .f32⟩
  | .hbm, ⟨4, _⟩ => ⟨S4x2048x512, .f32⟩
  | .hbm, ⟨5, _⟩ => ⟨S4x2304x128, .f32⟩
  | .hbm, ⟨6, _⟩ => ⟨S4x2304x128, .f32⟩
  | .local _ .vmem, ⟨0, _⟩ => ⟨S1x128x512, .bf16⟩
  | .local _ .vmem, ⟨1, _⟩ => ⟨S1x128x512, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x128x512, .f32⟩
  | .local _ .vmem, ⟨7, _⟩ => ⟨S1x128x512, .f32⟩
  | .local _ .vmem, ⟨8, _⟩ => ⟨S1x128x512, .f32⟩
  | .local _ .vmem, ⟨9, _⟩ => ⟨S1x128x512, .f32⟩
  | .local _ .vmem, ⟨10, _⟩ => ⟨S1x2304x128, .f32⟩
  | .local _ .vmem, ⟨11, _⟩ => ⟨S1x2304x128, .f32⟩
  | .local _ .vmem, ⟨12, _⟩ => ⟨S1x2304x128, .f32⟩
  | .local _ .vmem, ⟨13, _⟩ => ⟨S1x2304x128, .f32⟩
  | _, _ => ⟨S4x2304x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg1 : BitVec 32 := BitVec.ofNat 32 (i 1).val
  let c0_i32 : BitVec 32 := 0#32
  let v206 : BitVec 1 := Scalar.cmpi .eq arg1 c0_i32
  let v207 : BitVec 32 := Scalar.extui v206
  let c0_i32_111 : BitVec 32 := 0#32
  let v208 : BitVec 1 := Scalar.cmpi .ne v207 c0_i32_111
  v208

def k0_cond2 (i : grid0.Coords) : BitVec 1 :=
  let arg1 : BitVec 32 := BitVec.ofNat 32 (i 1).val
  let c0_i32 : BitVec 32 := 0#32
  let v206 : BitVec 1 := Scalar.cmpi .eq arg1 c0_i32
  let v_true : BitVec 1 := 1#1
  let v209 : BitVec 1 := Scalar.xori v206 v_true
  let v210 : BitVec 32 := Scalar.extui v209
  let c0_i32_112 : BitVec 32 := 0#32
  let v211 : BitVec 1 := Scalar.cmpi .ne v210 c0_i32_112
  v211

def k0_cond3 (i : grid0.Coords) : BitVec 1 :=
  let arg1 : BitVec 32 := BitVec.ofNat 32 (i 1).val
  let c0_i32_113 : BitVec 32 := 0#32
  let v212 : BitVec 1 := Scalar.cmpi .eq arg1 c0_i32_113
  let v213 : BitVec 32 := Scalar.extui v212
  let c0_i32_114 : BitVec 32 := 0#32
  let v214 : BitVec 1 := Scalar.cmpi .ne v213 c0_i32_114
  v214

def k0_cond4 (i : grid0.Coords) : BitVec 1 :=
  let arg1 : BitVec 32 := BitVec.ofNat 32 (i 1).val
  let c0_i32_113 : BitVec 32 := 0#32
  let v212 : BitVec 1 := Scalar.cmpi .eq arg1 c0_i32_113
  let true_115 : BitVec 1 := 1#1
  let v215 : BitVec 1 := Scalar.xori v212 true_115
  let v216 : BitVec 32 := Scalar.extui v215
  let c0_i32_116 : BitVec 32 := 0#32
  let v217 : BitVec 1 := Scalar.cmpi .ne v216 c0_i32_116
  v217

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c77_i32 : BitVec 32 := 77#32
  let c0_i32_0 : BitVec 32 := 0#32
  ![arg0.toNat, c0_i32.toNat, c77_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2304x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2304x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S4x2304x512 : Shape := ⟨3, ![4, 2304, 512]⟩
abbrev S4x2304x128 : Shape := ⟨3, ![4, 2304, 128]⟩
abbrev S4x2304x10240 : Shape := ⟨3, ![4, 2304, 10240]⟩
abbrev S4x2048x512 : Shape := ⟨3, ![4, 2048, 512]⟩
abbrev S4x2048x8x64 : Shape := ⟨4, ![4, 2048, 8, 64]⟩
abbrev S4x2304x2x64 : Shape := ⟨4, ![4, 2304, 2, 64]⟩
abbrev S4x2048x2x4x64 : Shape := ⟨5, ![4, 2048, 2, 4, 64]⟩
abbrev S4x2x2304x2048x4 : Shape := ⟨5, ![4, 2, 2304, 2048, 4]⟩
abbrev S4x2x4x2048x2304 : Shape := ⟨5, ![4, 2, 4, 2048, 2304]⟩
abbrev S_ : Shape := ⟨0, ![]⟩
abbrev S4x2x4x2048 : Shape := ⟨4, ![4, 2, 4, 2048]⟩
abbrev S4x2x4x2048x1 : Shape := ⟨5, ![4, 2, 4, 2048, 1]⟩
abbrev S4x2x64x4x2048 : Shape := ⟨5, ![4, 2, 64, 4, 2048]⟩
abbrev S4x2x64x2304 : Shape := ⟨4, ![4, 2, 64, 2304]⟩
abbrev S4x2x2048x4x64 : Shape := ⟨5, ![4, 2, 2048, 4, 64]⟩
abbrev S4x2x2304x64 : Shape := ⟨4, ![4, 2, 2304, 64]⟩

abbrev nBuf : Space → Nat
  | .hbm => 84
  | .vmem => 0
  | .smem => 0
  | _ => 0

abbrev bufTy : (tb : Table) → Fin (tcTables nBuf tb) → BufTy
  | .hbm, ⟨0, _⟩ => ⟨S4x2304x512, .bf16⟩
  | .hbm, ⟨1, _⟩ => ⟨S4x2304x128, .bf16⟩
  | .hbm, ⟨2, _⟩ => ⟨S4x2304x10240, .bf16⟩
  | .hbm, ⟨3, _⟩ => ⟨S4x2048x512, .f32⟩
  | .hbm, ⟨4, _⟩ => ⟨S4x2304x512, .f32⟩
  | .hbm, ⟨5, _⟩ => ⟨S4x2048x512, .f32⟩
  | .hbm, ⟨6, _⟩ => ⟨S4x2304x128, .f32⟩
  | .hbm, ⟨7, _⟩ => ⟨S4x2304x10240, .f32⟩
  | .hbm, ⟨8, _⟩ => ⟨S4x2304x128, .f32⟩
  | .hbm, ⟨9, _⟩ => ⟨S4x2048x8x64, .f32⟩
  | .hbm, ⟨10, _⟩ => ⟨S4x2304x2x64, .f32⟩
  | .hbm, ⟨11, _⟩ => ⟨S4x2304x2x64, .f32⟩
  | .hbm, ⟨12, _⟩ => ⟨S4x2048x2x4x64, .f32⟩
  | .hbm, ⟨13, _⟩ => ⟨S4x2x2304x2048x4, .f32⟩
  | .hbm, ⟨14, _⟩ => ⟨S4x2x4x2048x2304, .f32⟩
  | .hbm, ⟨15, _⟩ => ⟨S_, .f32⟩
  | .hbm, ⟨16, _⟩ => ⟨S4x2x4x2048, .f32⟩
  | .hbm, ⟨17, _⟩ => ⟨S4x2x4x2048x1, .f32⟩
  | .hbm, ⟨18, _⟩ => ⟨S4x2x4x2048x2304, .f32⟩
  | .hbm, ⟨19, _⟩ => ⟨S4x2x4x2048x2304, .i1⟩
  | .hbm, ⟨20, _⟩ => ⟨S4x2x4x2048x2304, .f32⟩
  | .hbm, ⟨21, _⟩ => ⟨S_, .f32⟩
  | .hbm, ⟨22, _⟩ => ⟨S4x2x4x2048, .f32⟩
  | .hbm, ⟨23, _⟩ => ⟨S_, .f32⟩
  | .hbm, ⟨24, _⟩ => ⟨S4x2x4x2048, .f32⟩
  | .hbm, ⟨25, _⟩ => ⟨S4x2x4x2048, .f32⟩
  | .hbm, ⟨26, _⟩ => ⟨S_, .f32⟩
  | .hbm, ⟨27, _⟩ => ⟨S4x2x4x2048, .f32⟩
  | .hbm, ⟨28, _⟩ => ⟨S4x2x4x2048, .i1⟩
  | .hbm, ⟨29, _⟩ => ⟨S_, .f32⟩
  | .hbm, ⟨30, _⟩ => ⟨S4x2x4x2048, .f32⟩
  | .hbm, ⟨31, _⟩ => ⟨S4x2x4x2048, .i1⟩
  | .hbm, ⟨32, _⟩ => ⟨S_, .f32⟩
  | .hbm, ⟨33, _⟩ => ⟨S4x2x4x2048, .f32⟩
  | .hbm, ⟨34, _⟩ => ⟨S_, .f32⟩
  | .hbm, ⟨35, _⟩ => ⟨S4x2x4x2048, .f32⟩
  | .hbm, ⟨36, _⟩ => ⟨S_, .f32⟩
  | .hbm, ⟨37, _⟩ => ⟨S4x2x4x2048, .f32⟩
  | .hbm, ⟨38, _⟩ => ⟨S4x2x4x2048, .f32⟩
  | .hbm, ⟨39, _⟩ => ⟨S4x2x4x2048, .f32⟩
  | .hbm, ⟨40, _⟩ => ⟨S4x2x4x2048x1, .f32⟩
  | .hbm, ⟨41, _⟩ => ⟨S4x2x4x2048x2304, .f32⟩
  | .hbm, ⟨42, _⟩ => ⟨S4x2x4x2048x2304, .f32⟩
  | .hbm, ⟨43, _⟩ => ⟨S4x2x4x2048x2304, .f32⟩
  | .hbm, ⟨44, _⟩ => ⟨S_, .f32⟩
  | .hbm, ⟨45, _⟩ => ⟨S4x2x4x2048, .f32⟩
  | .hbm, ⟨46, _⟩ => ⟨S4x2x4x2048x1, .f32⟩
  | .hbm, ⟨47, _⟩ => ⟨S4x2x4x2048x2304, .f32⟩
  | .hbm, ⟨48, _⟩ => ⟨S4x2x4x2048x2304, .f32⟩
  | .hbm, ⟨49, _⟩ => ⟨S4x2x4x2048x1, .f32⟩
  | .hbm, ⟨50, _⟩ => ⟨S_, .f32⟩
  | .hbm, ⟨51, _⟩ => ⟨S4x2x4x2048x1, .f32⟩
  | .hbm, ⟨52, _⟩ => ⟨S4x2x4x2048x1, .f32⟩
  | .hbm, ⟨53, _⟩ => ⟨S4x2x64x4x2048, .f32⟩
  | .hbm, ⟨54, _⟩ => ⟨S4x2048x2x4x64, .f32⟩
  | .hbm, ⟨55, _⟩ => ⟨S4x2048x512, .f32⟩
  | .hbm, ⟨56, _⟩ => ⟨S4x2048x2x4x64, .f32⟩
  | .hbm, ⟨57, _⟩ => ⟨S4x2x64x4x2048, .f32⟩
  | .hbm, ⟨58, _⟩ => ⟨S4x2x4x2048x2304, .f32⟩
  | .hbm, ⟨59, _⟩ => ⟨S4x2x64x2304, .f32⟩
  | .hbm, ⟨60, _⟩ => ⟨S4x2304x2x64, .f32⟩
  | .hbm, ⟨61, _⟩ => ⟨S4x2x4x2048x2304, .f32⟩
  | .hbm, ⟨62, _⟩ => ⟨S4x2x4x2048x2304, .f32⟩
  | .hbm, ⟨63, _⟩ => ⟨S4x2x4x2048x2304, .f32⟩
  | .hbm, ⟨64, _⟩ => ⟨S_, .f32⟩
  | .hbm, ⟨65, _⟩ => ⟨S4x2x4x2048, .f32⟩
  | .hbm, ⟨66, _⟩ => ⟨S4x2x4x2048x1, .f32⟩
  | .hbm, ⟨67, _⟩ => ⟨S4x2x4x2048x1, .f32⟩
  | .hbm, ⟨68, _⟩ => ⟨S4x2x4x2048x2304, .f32⟩
  | .hbm, ⟨69, _⟩ => ⟨S4x2x4x2048x2304, .f32⟩
  | .hbm, ⟨70, _⟩ => ⟨S_, .f32⟩
  | .hbm, ⟨71, _⟩ => ⟨S4x2x4x2048, .f32⟩
  | .hbm, ⟨72, _⟩ => ⟨S4x2x4x2048x2304, .f32⟩
  | .hbm, ⟨73, _⟩ => ⟨S4x2x4x2048x2304, .f32⟩
  | .hbm, ⟨74, _⟩ => ⟨S4x2x4x2048x2304, .f32⟩
  | .hbm, ⟨75, _⟩ => ⟨S4x2x2304x2048x4, .f32⟩
  | .hbm, ⟨76, _⟩ => ⟨S4x2x2048x4x64, .f32⟩
  | .hbm, ⟨77, _⟩ => ⟨S4x2048x2x4x64, .f32⟩
  | .hbm, ⟨78, _⟩ => ⟨S4x2x2304x64, .f32⟩
  | .hbm, ⟨79, _⟩ => ⟨S4x2304x2x64, .f32⟩
  | .hbm, ⟨80, _⟩ => ⟨S4x2048x8x64, .f32⟩
  | .hbm, ⟨81, _⟩ => ⟨S4x2304x128, .f32⟩
  | .hbm, ⟨82, _⟩ => ⟨S4x2304x128, .f32⟩
  | .hbm, ⟨83, _⟩ => ⟨S4x2048x512, .f32⟩
  | _, _ => ⟨S4x2304x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_cst_1 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_10 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩

abbrev nD : Nat := 1
abbrev τ : Topo := Topo.v7x

variable {F : FTy → Type} [FloatOps F]
-- ==== WinDx.lean ====
abbrev S9216x10240 : Shape := ⟨2, ![9216, 10240]⟩
abbrev S1024x10240 : Shape := ⟨2, ![1024, 10240]⟩
abbrev S9216x1024 : Shape := ⟨2, ![9216, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x10240, .bf16⟩
  | .hbm, ⟨1, _⟩ => ⟨S1024x10240, .bf16⟩
  | .hbm, ⟨2, _⟩ => ⟨S9216x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S9216x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 10], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WinDxRefIdeal.lean ====
abbrev S9216x10240 : Shape := ⟨2, ![9216, 10240]⟩
abbrev S1024x10240 : Shape := ⟨2, ![1024, 10240]⟩
abbrev S_ : Shape := ⟨0, ![]⟩
abbrev S9216x1024 : Shape := ⟨2, ![9216, 1024]⟩

abbrev nBuf : Space → Nat
  | .hbm => 8
  | .vmem => 0
  | .smem => 0
  | _ => 0

abbrev bufTy : (tb : Table) → Fin (tcTables nBuf tb) → BufTy
  | .hbm, ⟨0, _⟩ => ⟨S9216x10240, .bf16⟩
  | .hbm, ⟨1, _⟩ => ⟨S1024x10240, .bf16⟩
  | .hbm, ⟨2, _⟩ => ⟨S_, .f32⟩
  | .hbm, ⟨3, _⟩ => ⟨S9216x1024, .f32⟩
  | .hbm, ⟨4, _⟩ => ⟨S1024x10240, .f32⟩
  | .hbm, ⟨5, _⟩ => ⟨S9216x10240, .f32⟩
  | .hbm, ⟨6, _⟩ => ⟨S9216x10240, .f32⟩
  | .hbm, ⟨7, _⟩ => ⟨S9216x1024, .f32⟩
  | _, _ => ⟨S9216x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WinDw.lean ====
abbrev S9216x1024 : Shape := ⟨2, ![9216, 1024]⟩
abbrev S9216x10240 : Shape := ⟨2, ![9216, 10240]⟩
abbrev S1024x10240 : Shape := ⟨2, ![1024, 10240]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S9216x10240, .bf16⟩
  | .hbm, ⟨2, _⟩ => ⟨S1024x10240, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 10, 9], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WinDwRefIdeal.lean ====
abbrev S9216x1024 : Shape := ⟨2, ![9216, 1024]⟩
abbrev S9216x10240 : Shape := ⟨2, ![9216, 10240]⟩
abbrev S_ : Shape := ⟨0, ![]⟩
abbrev S1024x10240 : Shape := ⟨2, ![1024, 10240]⟩
abbrev S10240x1024 : Shape := ⟨2, ![10240, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x10240, .bf16⟩
  | .hbm, ⟨2, _⟩ => ⟨S_, .f32⟩
  | .hbm, ⟨3, _⟩ => ⟨S1024x10240, .f32⟩
  | .hbm, ⟨4, _⟩ => ⟨S9216x1024, .f32⟩
  | .hbm, ⟨5, _⟩ => ⟨S9216x10240, .f32⟩
  | .hbm, ⟨6, _⟩ => ⟨S9216x10240, .f32⟩
  | .hbm, ⟨7, _⟩ => ⟨S10240x1024, .f32⟩
  | .hbm, ⟨8, _⟩ => ⟨S1024x10240, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Mlp2Dx.lean ====
abbrev S9216x1024 : Shape := ⟨2, ![9216, 1024]⟩
abbrev S4096x1024 : Shape := ⟨2, ![4096, 1024]⟩
abbrev S9216x4096 : Shape := ⟨2, ![9216, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S9216x1024, .bf16⟩
  | .hbm, ⟨1, _⟩ => ⟨S4096x1024, .bf16⟩
  | .hbm, ⟨2, _⟩ => ⟨S9216x4096, .f32⟩
  | .hbm, ⟨3, _⟩ => ⟨S9216x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![9, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Mlp2DxRefIdeal.lean ====
abbrev S9216x1024 : Shape := ⟨2, ![9216, 1024]⟩
abbrev S4096x1024 : Shape := ⟨2, ![4096, 1024]⟩
abbrev S9216x4096 : Shape := ⟨2, ![9216, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S4096x1024, .bf16⟩
  | .hbm, ⟨2, _⟩ => ⟨S9216x4096, .f32⟩
  | .hbm, ⟨3, _⟩ => ⟨S4096x1024, .f32⟩
  | .hbm, ⟨4, _⟩ => ⟨S_, .f32⟩
  | .hbm, ⟨5, _⟩ => ⟨S9216x4096, .f32⟩
  | .hbm, ⟨6, _⟩ => ⟨S9216x4096, .f32⟩
  | .hbm, ⟨7, _⟩ => ⟨S_, .f32⟩
  | .hbm, ⟨8, _⟩ => ⟨S9216x4096, .f32⟩
  | .hbm, ⟨9, _⟩ => ⟨S9216x4096, .i1⟩
  | .hbm, ⟨10, _⟩ => ⟨S_, .f32⟩
  | .hbm, ⟨11, _⟩ => ⟨S9216x4096, .f32⟩
  | .hbm, ⟨12, _⟩ => ⟨S9216x4096, .f32⟩
  | .hbm, ⟨13, _⟩ => ⟨S_, .f32⟩
  | .hbm, ⟨14, _⟩ => ⟨S9216x4096, .f32⟩
  | .hbm, ⟨15, _⟩ => ⟨S9216x4096, .f32⟩
  | .hbm, ⟨16, _⟩ => ⟨S9216x1024, .f32⟩
  | .hbm, ⟨17, _⟩ => ⟨S9216x1024, .f32⟩
  | .hbm, ⟨18, _⟩ => ⟨S9216x4096, .f32⟩
  | .hbm, ⟨19, _⟩ => ⟨S9216x4096, .f32⟩
  | .hbm, ⟨20, _⟩ => ⟨S_, .f32⟩
  | .hbm, ⟨21, _⟩ => ⟨S9216x4096, .f32⟩
  | .hbm, ⟨22, _⟩ => ⟨S9216x4096, .f32⟩
  | .hbm, ⟨23, _⟩ => ⟨S9216x4096, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Mlp2Dw.lean ====
abbrev S9216x4096 : Shape := ⟨2, ![9216, 4096]⟩
abbrev S9216x1024 : Shape := ⟨2, ![9216, 1024]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S9216x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 9], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mlp2DwRefIdeal.lean ====
abbrev S9216x4096 : Shape := ⟨2, ![9216, 4096]⟩
abbrev S9216x1024 : Shape := ⟨2, ![9216, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S9216x1024, .bf16⟩
  | .hbm, ⟨2, _⟩ => ⟨S_, .f32⟩
  | .hbm, ⟨3, _⟩ => ⟨S4096x1024, .f32⟩
  | .hbm, ⟨4, _⟩ => ⟨S9216x4096, .f32⟩
  | .hbm, ⟨5, _⟩ => ⟨S9216x1024, .f32⟩
  | .hbm, ⟨6, _⟩ => ⟨S9216x1024, .f32⟩
  | .hbm, ⟨7, _⟩ => ⟨S1024x4096, .f32⟩
  | .hbm, ⟨8, _⟩ => ⟨S4096x1024, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Mlp1Dx.lean ====
abbrev S9216x4096 : Shape := ⟨2, ![9216, 4096]⟩
abbrev S1024x4096 : Shape := ⟨2, ![1024, 4096]⟩
abbrev S9216x1024 : Shape := ⟨2, ![9216, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S1024x4096, .bf16⟩
  | .hbm, ⟨2, _⟩ => ⟨S9216x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mlp1DxRefIdeal.lean ====
abbrev S9216x4096 : Shape := ⟨2, ![9216, 4096]⟩
abbrev S1024x4096 : Shape := ⟨2, ![1024, 4096]⟩
abbrev S_ : Shape := ⟨0, ![]⟩
abbrev S9216x1024 : Shape := ⟨2, ![9216, 1024]⟩

abbrev nBuf : Space → Nat
  | .hbm => 8
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S1024x4096, .bf16⟩
  | .hbm, ⟨2, _⟩ => ⟨S_, .f32⟩
  | .hbm, ⟨3, _⟩ => ⟨S9216x1024, .f32⟩
  | .hbm, ⟨4, _⟩ => ⟨S1024x4096, .f32⟩
  | .hbm, ⟨5, _⟩ => ⟨S9216x4096, .f32⟩
  | .hbm, ⟨6, _⟩ => ⟨S9216x4096, .f32⟩
  | .hbm, ⟨7, _⟩ => ⟨S9216x1024, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Mlp1Dw.lean ====
abbrev S9216x1024 : Shape := ⟨2, ![9216, 1024]⟩
abbrev S9216x4096 : Shape := ⟨2, ![9216, 4096]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S9216x4096, .bf16⟩
  | .hbm, ⟨2, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 9], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mlp1DwRefIdeal.lean ====
abbrev S9216x1024 : Shape := ⟨2, ![9216, 1024]⟩
abbrev S9216x4096 : Shape := ⟨2, ![9216, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x4096, .bf16⟩
  | .hbm, ⟨2, _⟩ => ⟨S_, .f32⟩
  | .hbm, ⟨3, _⟩ => ⟨S1024x4096, .f32⟩
  | .hbm, ⟨4, _⟩ => ⟨S9216x1024, .f32⟩
  | .hbm, ⟨5, _⟩ => ⟨S9216x4096, .f32⟩
  | .hbm, ⟨6, _⟩ => ⟨S9216x4096, .f32⟩
  | .hbm, ⟨7, _⟩ => ⟨S4096x1024, .f32⟩
  | .hbm, ⟨8, _⟩ => ⟨S1024x4096, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== WoutDx.lean ====
abbrev S9216x1024 : Shape := ⟨2, ![9216, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoutDxRefIdeal.lean ====
abbrev S9216x1024 : Shape := ⟨2, ![9216, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S_, .f32⟩
  | .hbm, ⟨3, _⟩ => ⟨S9216x1024, .f32⟩
  | .hbm, ⟨4, _⟩ => ⟨S1024x1024, .f32⟩
  | .hbm, ⟨5, _⟩ => ⟨S9216x1024, .f32⟩
  | .hbm, ⟨6, _⟩ => ⟨S9216x1024, .f32⟩
  | .hbm, ⟨7, _⟩ => ⟨S9216x1024, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== WoutDw.lean ====
abbrev S9216x1024 : Shape := ⟨2, ![9216, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 9], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WoutDwRefIdeal.lean ====
abbrev S9216x1024 : Shape := ⟨2, ![9216, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S9216x1024, .bf16⟩
  | .hbm, ⟨2, _⟩ => ⟨S_, .f32⟩
  | .hbm, ⟨3, _⟩ => ⟨S1024x1024, .f32⟩
  | .hbm, ⟨4, _⟩ => ⟨S9216x1024, .f32⟩
  | .hbm, ⟨5, _⟩ => ⟨S9216x1024, .f32⟩
  | .hbm, ⟨6, _⟩ => ⟨S9216x1024, .f32⟩
  | .hbm, ⟨7, _⟩ => ⟨S1024x1024, .f32⟩
  | .hbm, ⟨8, _⟩ => ⟨S1024x1024, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== BranchDx.lean ====
abbrev S9216x1024 : Shape := ⟨2, ![9216, 1024]⟩
abbrev S512x1024 : Shape := ⟨2, ![512, 1024]⟩
abbrev S9216x512 : Shape := ⟨2, ![9216, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S512x1024, .bf16⟩
  | .hbm, ⟨2, _⟩ => ⟨S9216x512, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .f32⟩
  | .local _ .vmem, ⟨4, _⟩ => ⟨S1024x512, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchDxRefIdeal.lean ====
abbrev S9216x1024 : Shape := ⟨2, ![9216, 1024]⟩
abbrev S512x1024 : Shape := ⟨2, ![512, 1024]⟩
abbrev S_ : Shape := ⟨0, ![]⟩
abbrev S9216x512 : Shape := ⟨2, ![9216, 512]⟩

abbrev nBuf : Space → Nat
  | .hbm => 8
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S512x1024, .bf16⟩
  | .hbm, ⟨2, _⟩ => ⟨S_, .f32⟩
  | .hbm, ⟨3, _⟩ => ⟨S9216x512, .f32⟩
  | .hbm, ⟨4, _⟩ => ⟨S512x1024, .f32⟩
  | .hbm, ⟨5, _⟩ => ⟨S9216x1024, .f32⟩
  | .hbm, ⟨6, _⟩ => ⟨S9216x1024, .f32⟩
  | .hbm, ⟨7, _⟩ => ⟨S9216x512, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== BranchDw.lean ====
abbrev S9216x512 : Shape := ⟨2, ![9216, 512]⟩
abbrev S9216x1024 : Shape := ⟨2, ![9216, 1024]⟩
abbrev S512x1024 : Shape := ⟨2, ![512, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x512, .bf16⟩
  | .hbm, ⟨1, _⟩ => ⟨S9216x1024, .bf16⟩
  | .hbm, ⟨2, _⟩ => ⟨S512x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | _, _ => ⟨S9216x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 9], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== BranchDwRefIdeal.lean ====
abbrev S9216x512 : Shape := ⟨2, ![9216, 512]⟩
abbrev S9216x1024 : Shape := ⟨2, ![9216, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S9216x512, .bf16⟩
  | .hbm, ⟨1, _⟩ => ⟨S9216x1024, .bf16⟩
  | .hbm, ⟨2, _⟩ => ⟨S_, .f32⟩
  | .hbm, ⟨3, _⟩ => ⟨S512x1024, .f32⟩
  | .hbm, ⟨4, _⟩ => ⟨S9216x512, .f32⟩
  | .hbm, ⟨5, _⟩ => ⟨S9216x1024, .f32⟩
  | .hbm, ⟨6, _⟩ => ⟨S9216x1024, .f32⟩
  | .hbm, ⟨7, _⟩ => ⟨S1024x512, .f32⟩
  | .hbm, ⟨8, _⟩ => ⟨S512x1024, .f32⟩
  | _, _ => ⟨S9216x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MergeB.lean ====
abbrev S4x2304x1024 : Shape := ⟨3, ![4, 2304, 1024]⟩
abbrev S4x2304x10240 : Shape := ⟨3, ![4, 2304, 10240]⟩
abbrev S4x2304x4096 : Shape := ⟨3, ![4, 2304, 4096]⟩
abbrev S1x256x1024 : Shape := ⟨3, ![1, 256, 1024]⟩
abbrev S1x256x4096 : Shape := ⟨3, ![1, 256, 4096]⟩
abbrev S256x1024 : Shape := ⟨2, ![256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x1024, .bf16⟩
  | .hbm, ⟨2, _⟩ => ⟨S4x2304x1024, .bf16⟩
  | .hbm, ⟨3, _⟩ => ⟨S4x2304x1024, .bf16⟩
  | .hbm, ⟨4, _⟩ => ⟨S4x2304x10240, .bf16⟩
  | .hbm, ⟨5, _⟩ => ⟨S4x2304x1024, .f32⟩
  | .hbm, ⟨6, _⟩ => ⟨S4x2304x1024, .bf16⟩
  | .hbm, ⟨7, _⟩ => ⟨S4x2304x1024, .bf16⟩
  | .hbm, ⟨8, _⟩ => ⟨S4x2304x1024, .bf16⟩
  | .hbm, ⟨9, _⟩ => ⟨S4x2304x1024, .bf16⟩
  | .hbm, ⟨10, _⟩ => ⟨S4x2304x4096, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x4096, .bf16⟩
  | .local _ .vmem, ⟨9, _⟩ => ⟨S1x256x4096, .bf16⟩
  | .local _ .vmem, ⟨10, _⟩ => ⟨S1x256x1024, .f32⟩
  | .local _ .vmem, ⟨11, _⟩ => ⟨S1x256x1024, .f32⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .bf16⟩
  | .local _ .vmem, ⟨19, _⟩ => ⟨S1x256x1024, .bf16⟩
  | .local _ .vmem, ⟨20, _⟩ => ⟨S1x256x4096, .bf16⟩
  | .local _ .vmem, ⟨21, _⟩ => ⟨S1x256x4096, .bf16⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== MergeBRefIdeal.lean ====
abbrev S4x2304x1024 : Shape := ⟨3, ![4, 2304, 1024]⟩
abbrev S4x2304x10240 : Shape := ⟨3, ![4, 2304, 10240]⟩
abbrev S4x2304x4096 : Shape := ⟨3, ![4, 2304, 4096]⟩
abbrev S4x2304x4x1024 : Shape := ⟨4, ![4, 2304, 4, 1024]⟩
abbrev S_ : Shape := ⟨0, ![]⟩
abbrev S4x2304x1x1024 : Shape := ⟨4, ![4, 2304, 1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x1024, .bf16⟩
  | .hbm, ⟨2, _⟩ => ⟨S4x2304x1024, .bf16⟩
  | .hbm, ⟨3, _⟩ => ⟨S4x2304x1024, .bf16⟩
  | .hbm, ⟨4, _⟩ => ⟨S4x2304x10240, .bf16⟩
  | .hbm, ⟨5, _⟩ => ⟨S4x2304x1024, .f32⟩
  | .hbm, ⟨6, _⟩ => ⟨S4x2304x1024, .f32⟩
  | .hbm, ⟨7, _⟩ => ⟨S4x2304x1024, .f32⟩
  | .hbm, ⟨8, _⟩ => ⟨S4x2304x1024, .f32⟩
  | .hbm, ⟨9, _⟩ => ⟨S4x2304x1024, .f32⟩
  | .hbm, ⟨10, _⟩ => ⟨S4x2304x10240, .f32⟩
  | .hbm, ⟨11, _⟩ => ⟨S4x2304x4096, .f32⟩
  | .hbm, ⟨12, _⟩ => ⟨S4x2304x4x1024, .f32⟩
  | .hbm, ⟨13, _⟩ => ⟨S4x2304x4x1024, .f32⟩
  | .hbm, ⟨14, _⟩ => ⟨S4x2304x4x1024, .f32⟩
  | .hbm, ⟨15, _⟩ => ⟨S_, .f32⟩
  | .hbm, ⟨16, _⟩ => ⟨S4x2304x4x1024, .f32⟩
  | .hbm, ⟨17, _⟩ => ⟨S4x2304x4x1024, .f32⟩
  | .hbm, ⟨18, _⟩ => ⟨S_, .f32⟩
  | .hbm, ⟨19, _⟩ => ⟨S4x2304x4x1024, .f32⟩
  | .hbm, ⟨20, _⟩ => ⟨S4x2304x4x1024, .f32⟩
  | .hbm, ⟨21, _⟩ => ⟨S_, .f32⟩
  | .hbm, ⟨22, _⟩ => ⟨S4x2304x4x1024, .f32⟩
  | .hbm, ⟨23, _⟩ => ⟨S4x2304x4x1024, .f32⟩
  | .hbm, ⟨24, _⟩ => ⟨S4x2304x4x1024, .f32⟩
  | .hbm, ⟨25, _⟩ => ⟨S4x2304x1x1024, .f32⟩
  | .hbm, ⟨26, _⟩ => ⟨S4x2304x1024, .f32⟩
  | .hbm, ⟨27, _⟩ => ⟨S4x2304x1024, .f32⟩
  | .hbm, ⟨28, _⟩ => ⟨S4x2304x1x1024, .f32⟩
  | .hbm, ⟨29, _⟩ => ⟨S4x2304x1024, .f32⟩
  | .hbm, ⟨30, _⟩ => ⟨S4x2304x1024, .f32⟩
  | .hbm, ⟨31, _⟩ => ⟨S4x2304x1024, .f32⟩
  | .hbm, ⟨32, _⟩ => ⟨S4x2304x1x1024, .f32⟩
  | .hbm, ⟨33, _⟩ => ⟨S4x2304x1024, .f32⟩
  | .hbm, ⟨34, _⟩ => ⟨S4x2304x1024, .f32⟩
  | .hbm, ⟨35, _⟩ => ⟨S4x2304x1024, .f32⟩
  | .hbm, ⟨36, _⟩ => ⟨S4x2304x1x1024, .f32⟩
  | .hbm, ⟨37, _⟩ => ⟨S4x2304x1024, .f32⟩
  | .hbm, ⟨38, _⟩ => ⟨S4x2304x1024, .f32⟩
  | .hbm, ⟨39, _⟩ => ⟨S4x2304x1024, .f32⟩
  | .hbm, ⟨40, _⟩ => ⟨S4x2304x1024, .f32⟩
  | .hbm, ⟨41, _⟩ => ⟨S4x2304x1024, .f32⟩
  | .hbm, ⟨42, _⟩ => ⟨S4x2304x1024, .f32⟩
  | .hbm, ⟨43, _⟩ => ⟨S4x2304x1024, .f32⟩
  | .hbm, ⟨44, _⟩ => ⟨S4x2304x1x1024, .f32⟩
  | .hbm, ⟨45, _⟩ => ⟨S_, .f32⟩
  | .hbm, ⟨46, _⟩ => ⟨S4x2304x4x1024, .f32⟩
  | .hbm, ⟨47, _⟩ => ⟨S4x2304x1024, .f32⟩
  | .hbm, ⟨48, _⟩ => ⟨S4x2304x1024, .f32⟩
  | .hbm, ⟨49, _⟩ => ⟨S4x2304x1x1024, .f32⟩
  | .hbm, ⟨50, _⟩ => ⟨S_, .f32⟩
  | .hbm, ⟨51, _⟩ => ⟨S4x2304x4x1024, .f32⟩
  | .hbm, ⟨52, _⟩ => ⟨S4x2304x4x1024, .f32⟩
  | .hbm, ⟨53, _⟩ => ⟨S4x2304x1024, .f32⟩
  | .hbm, ⟨54, _⟩ => ⟨S4x2304x1024, .f32⟩
  | .hbm, ⟨55, _⟩ => ⟨S4x2304x1x1024, .f32⟩
  | .hbm, ⟨56, _⟩ => ⟨S_, .f32⟩
  | .hbm, ⟨57, _⟩ => ⟨S4x2304x4x1024, .f32⟩
  | .hbm, ⟨58, _⟩ => ⟨S4x2304x4x1024, .f32⟩
  | .hbm, ⟨59, _⟩ => ⟨S4x2304x1024, .f32⟩
  | .hbm, ⟨60, _⟩ => ⟨S4x2304x1024, .f32⟩
  | .hbm, ⟨61, _⟩ => ⟨S4x2304x1x1024, .f32⟩
  | .hbm, ⟨62, _⟩ => ⟨S_, .f32⟩
  | .hbm, ⟨63, _⟩ => ⟨S4x2304x4x1024, .f32⟩
  | .hbm, ⟨64, _⟩ => ⟨S4x2304x4x1024, .f32⟩
  | .hbm, ⟨65, _⟩ => ⟨S4x2304x4x1024, .f32⟩
  | .hbm, ⟨66, _⟩ => ⟨S4x2304x4096, .f32⟩
  | .hbm, ⟨67, _⟩ => ⟨S4x2304x1024, .bf16⟩
  | .hbm, ⟨68, _⟩ => ⟨S4x2304x1024, .bf16⟩
  | .hbm, ⟨69, _⟩ => ⟨S4x2304x1024, .bf16⟩
  | .hbm, ⟨70, _⟩ => ⟨S4x2304x1024, .bf16⟩
  | .hbm, ⟨71, _⟩ => ⟨S4x2304x4096, .bf16⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_2 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_5 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩

abbrev nD : Nat := 1
abbrev τ : Topo := Topo.v7x

variable {F : FTy → Type} [FloatOps F]
-- ==== ShortB.lean ====
abbrev S4x2304x10240 : Shape := ⟨3, ![4, 2304, 10240]⟩
abbrev S3x512 : Shape := ⟨2, ![3, 512]⟩
abbrev S4x2304x512 : Shape := ⟨3, ![4, 2304, 512]⟩
abbrev S1x2304x128 : Shape := ⟨3, ![1, 2304, 128]⟩
abbrev S3x128 : Shape := ⟨2, ![3, 128]⟩
abbrev S2304x128 : Shape := ⟨2, ![2304, 128]⟩
abbrev S1x128 : Shape := ⟨2, ![1, 128]⟩
abbrev S128 : Shape := ⟨1, ![128]⟩
abbrev S2x128 : Shape := ⟨2, ![2, 128]⟩

abbrev nBuf : Space → Nat
  | .hbm => 7
  | .vmem => 18
  | .smem => 0
  | _ => 0

abbrev bufTy : (tb : Table) → Fin (tcTables nBuf tb) → BufTy
  | .hbm, ⟨0, _⟩ => ⟨S4x2304x10240, .bf16⟩
  | .hbm, ⟨1, _⟩ => ⟨S3x512, .f32⟩
  | .hbm, ⟨2, _⟩ => ⟨S4x2304x512, .f32⟩
  | .hbm, ⟨3, _⟩ => ⟨S4x2304x512, .bf16⟩
  | .hbm, ⟨4, _⟩ => ⟨S4x2304x512, .bf16⟩
  | .hbm, ⟨5, _⟩ => ⟨S4x2304x512, .bf16⟩
  | .hbm, ⟨6, _⟩ => ⟨S3x512, .f32⟩
  | .local _ .vmem, ⟨0, _⟩ => ⟨S1x2304x128, .bf16⟩
  | .local _ .vmem, ⟨1, _⟩ => ⟨S1x2304x128, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S3x128, .f32⟩
  | .local _ .vmem, ⟨7, _⟩ => ⟨S3x128, .f32⟩
  | .local _ .vmem, ⟨8, _⟩ => ⟨S1x2304x128, .f32⟩
  | .local _ .vmem, ⟨9, _⟩ => ⟨S1x2304x128, .f32⟩
  | .local _ .vmem, ⟨10, _⟩ => ⟨S1x2304x128, .bf16⟩
  | .local _ .vmem, ⟨11, _⟩ => ⟨S1x2304x128, .bf16⟩
  | .local _ .vmem, ⟨12, _⟩ => ⟨S1x2304x128, .bf16⟩
  | .local _ .vmem, ⟨13, _⟩ => ⟨S1x2304x128, .bf16⟩
  | .local _ .vmem, ⟨14, _⟩ => ⟨S1x2304x128, .bf16⟩
  | .local _ .vmem, ⟨15, _⟩ => ⟨S1x2304x128, .bf16⟩
  | .local _ .vmem, ⟨16, _⟩ => ⟨S3x128, .f32⟩
  | .local _ .vmem, ⟨17, _⟩ => ⟨S3x128, .f32⟩
  | _, _ => ⟨S4x2304x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32_38 : BitVec 32 := 0#32
  let v103 : BitVec 1 := Scalar.cmpi .eq arg1 c0_i32_38
  let v104 : BitVec 32 := Scalar.extui v103
  let c0_i32_39 : BitVec 32 := 0#32
  let v105 : BitVec 1 := Scalar.cmpi .ne v104 c0_i32_39
  v105

def k0_cond2 (i : grid0.Coords) : BitVec 1 :=
  let arg1 : BitVec 32 := BitVec.ofNat 32 (i 1).val
  let c0_i32_38 : BitVec 32 := 0#32
  let v103 : BitVec 1 := Scalar.cmpi .eq arg1 c0_i32_38
  let v_true : BitVec 1 := 1#1
  let v106 : BitVec 1 := Scalar.xori v103 v_true
  let v107 : BitVec 32 := Scalar.extui v106
  let c0_i32_40 : BitVec 32 := 0#32
  let v108 : BitVec 1 := Scalar.cmpi .ne v107 c0_i32_40
  v108

def cc0_transform_0 (i : grid0.Coords) : Fin 3 → Nat :=
  let arg0 : BitVec 32 := BitVec.ofNat 32 (i 0).val
  let arg1 : BitVec 32 := BitVec.ofNat 32 (i 1).val
  let c60_i32 : BitVec 32 := 60#32
  let v0 : BitVec 32 := Scalar.addi c60_i32 arg0
  let c0_i32 : BitVec 32 := 0#32
  let c0_i32_0 : BitVec 32 := 0#32
  ![arg1.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c68_i32 : BitVec 32 := 68#32
  let v0 : BitVec 32 := Scalar.addi c68_i32 arg0
  let c0_i32 : BitVec 32 := 0#32
  let c0_i32_0 : BitVec 32 := 0#32
  ![arg1.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x2304x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2304x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2304x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2304x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2304x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ShortBRefIdeal.lean ====
abbrev S4x2304x10240 : Shape := ⟨3, ![4, 2304, 10240]⟩
abbrev S3x512 : Shape := ⟨2, ![3, 512]⟩
abbrev S4x2304x512 : Shape := ⟨3, ![4, 2304, 512]⟩
abbrev S4x256x512 : Shape := ⟨3, ![4, 256, 512]⟩
abbrev S4x1x512 : Shape := ⟨3, ![4, 1, 512]⟩
abbrev S_ : Shape := ⟨0, ![]⟩
abbrev S4x258x512 : Shape := ⟨3, ![4, 258, 512]⟩
abbrev S1x512 : Shape := ⟨2, ![1, 512]⟩
abbrev S512 : Shape := ⟨1, ![512]⟩
abbrev S1x1x512 : Shape := ⟨3, ![1, 1, 512]⟩
abbrev S4x2048x512 : Shape := ⟨3, ![4, 2048, 512]⟩
abbrev S4x2050x512 : Shape := ⟨3, ![4, 2050, 512]⟩

abbrev nBuf : Space → Nat
  | .hbm => 197
  | .vmem => 0
  | .smem => 0
  | _ => 0

abbrev hbmTy0_0 (i : Nat) : BufTy := match i % 128 with
  | 0 => ⟨S4x2304x10240, .bf16⟩
  | 1 => ⟨S3x512, .f32⟩
  | 2 => ⟨S4x2304x512, .f32⟩
  | 3 => ⟨S4x2304x10240, .f32⟩
  | 4 => ⟨S4x2304x512, .f32⟩
  | 5 => ⟨S4x2304x10240, .f32⟩
  | 6 => ⟨S4x2304x512, .f32⟩
  | 7 => ⟨S4x2304x10240, .f32⟩
  | 8 => ⟨S4x2304x512, .f32⟩
  | 9 => ⟨S4x256x512, .f32⟩
  | 10 => ⟨S4x256x512, .f32⟩
  | 11 => ⟨S4x256x512, .f32⟩
  | 12 => ⟨S4x256x512, .f32⟩
  | 13 => ⟨S4x1x512, .f32⟩
  | 14 => ⟨S_, .f32⟩
  | 15 => ⟨S4x1x512, .f32⟩
  | 16 => ⟨S4x258x512, .f32⟩
  | 17 => ⟨S_, .f32⟩
  | 18 => ⟨S4x1x512, .f32⟩
  | 19 => ⟨S_, .f32⟩
  | 20 => ⟨S4x1x512, .f32⟩
  | 21 => ⟨S4x256x512, .f32⟩
  | 22 => ⟨S1x512, .f32⟩
  | 23 => ⟨S512, .f32⟩
  | 24 => ⟨S1x1x512, .f32⟩
  | 25 => ⟨S4x256x512, .f32⟩
  | 26 => ⟨S4x256x512, .f32⟩
  | 27 => ⟨S4x256x512, .f32⟩
  | 28 => ⟨S1x512, .f32⟩
  | 29 => ⟨S512, .f32⟩
  | 30 => ⟨S1x1x512, .f32⟩
  | 31 => ⟨S4x256x512, .f32⟩
  | 32 => ⟨S4x256x512, .f32⟩
  | 33 => ⟨S4x256x512, .f32⟩
  | 34 => ⟨S4x256x512, .f32⟩
  | 35 => ⟨S1x512, .f32⟩
  | 36 => ⟨S512, .f32⟩
  | 37 => ⟨S1x1x512, .f32⟩
  | 38 => ⟨S4x256x512, .f32⟩
  | 39 => ⟨S4x256x512, .f32⟩
  | 40 => ⟨S4x256x512, .f32⟩
  | 41 => ⟨S4x256x512, .f32⟩
  | 42 => ⟨S4x2048x512, .f32⟩
  | 43 => ⟨S4x2048x512, .f32⟩
  | 44 => ⟨S4x2048x512, .f32⟩
  | 45 => ⟨S4x2048x512, .f32⟩
  | 46 => ⟨S4x1x512, .f32⟩
  | 47 => ⟨S_, .f32⟩
  | 48 => ⟨S4x1x512, .f32⟩
  | 49 => ⟨S4x2050x512, .f32⟩
  | 50 => ⟨S_, .f32⟩
  | 51 => ⟨S4x1x512, .f32⟩
  | 52 => ⟨S_, .f32⟩
  | 53 => ⟨S4x1x512, .f32⟩
  | 54 => ⟨S4x2048x512, .f32⟩
  | 55 => ⟨S1x512, .f32⟩
  | 56 => ⟨S512, .f32⟩
  | 57 => ⟨S1x1x512, .f32⟩
  | 58 => ⟨S4x2048x512, .f32⟩
  | 59 => ⟨S4x2048x512, .f32⟩
  | 60 => ⟨S4x2048x512, .f32⟩
  | 61 => ⟨S1x512, .f32⟩
  | 62 => ⟨S512, .f32⟩
  | 63 => ⟨S1x1x512, .f32⟩
  | 64 => ⟨S4x2048x512, .f32⟩
  | 65 => ⟨S4x2048x512, .f32⟩
  | 66 => ⟨S4x2048x512, .f32⟩
  | 67 => ⟨S4x2048x512, .f32⟩
  | 68 => ⟨S1x512, .f32⟩
  | 69 => ⟨S512, .f32⟩
  | 70 => ⟨S1x1x512, .f32⟩
  | 71 => ⟨S4x2048x512, .f32⟩
  | 72 => ⟨S4x2048x512, .f32⟩
  | 73 => ⟨S4x2048x512, .f32⟩
  | 74 => ⟨S4x2048x512, .f32⟩
  | 75 => ⟨S4x2304x512, .f32⟩
  | 76 => ⟨S4x256x512, .f32⟩
  | 77 => ⟨S4x2048x512, .f32⟩
  | 78 => ⟨S4x2048x512, .f32⟩
  | 79 => ⟨S4x2048x512, .f32⟩
  | 80 => ⟨S4x2048x512, .f32⟩
  | 81 => ⟨S_, .f32⟩
  | 82 => ⟨S512, .f32⟩
  | 83 => ⟨S1x1x512, .f32⟩
  | 84 => ⟨S4x2048x512, .f32⟩
  | 85 => ⟨S4x2048x512, .f32⟩
  | 86 => ⟨S_, .f32⟩
  | 87 => ⟨S512, .f32⟩
  | 88 => ⟨S1x512, .f32⟩
  | 89 => ⟨S_, .f32⟩
  | 90 => ⟨S3x512, .f32⟩
  | 91 => ⟨S_, .f32⟩
  | 92 => ⟨S4x2050x512, .f32⟩
  | 93 => ⟨S4x2048x512, .f32⟩
  | 94 => ⟨S_, .f32⟩
  | 95 => ⟨S512, .f32⟩
  | 96 => ⟨S1x1x512, .f32⟩
  | 97 => ⟨S4x2048x512, .f32⟩
  | 98 => ⟨S4x2048x512, .f32⟩
  | 99 => ⟨S_, .f32⟩
  | 100 => ⟨S512, .f32⟩
  | 101 => ⟨S1x512, .f32⟩
  | 102 => ⟨S_, .f32⟩
  | 103 => ⟨S3x512, .f32⟩
  | 104 => ⟨S3x512, .f32⟩
  | 105 => ⟨S_, .f32⟩
  | 106 => ⟨S4x2050x512, .f32⟩
  | 107 => ⟨S4x2050x512, .f32⟩
  | 108 => ⟨S4x2048x512, .f32⟩
  | 109 => ⟨S_, .f32⟩
  | 110 => ⟨S512, .f32⟩
  | 111 => ⟨S1x1x512, .f32⟩
  | 112 => ⟨S4x2048x512, .f32⟩
  | 113 => ⟨S4x2048x512, .f32⟩
  | 114 => ⟨S_, .f32⟩
  | 115 => ⟨S512, .f32⟩
  | 116 => ⟨S1x512, .f32⟩
  | 117 => ⟨S_, .f32⟩
  | 118 => ⟨S3x512, .f32⟩
  | 119 => ⟨S3x512, .f32⟩
  | 120 => ⟨S_, .f32⟩
  | 121 => ⟨S4x2050x512, .f32⟩
  | 122 => ⟨S4x2050x512, .f32⟩
  | 123 => ⟨S4x1x512, .f32⟩
  | 124 => ⟨S4x2048x512, .f32⟩
  | 125 => ⟨S4x1x512, .f32⟩
  | 126 => ⟨S4x2048x512, .f32⟩
  | 127 => ⟨S4x2048x512, .f32⟩
  | _ => ⟨S4x2304x10240, .bf16⟩

abbrev hbmTy0_1 (i : Nat) : BufTy := match i % 128 with
  | 0 => ⟨S_, .f32⟩
  | 1 => ⟨S4x2304x512, .f32⟩
  | 2 => ⟨S_, .f32⟩
  | 3 => ⟨S4x2304x512, .f32⟩
  | 4 => ⟨S_, .f32⟩
  | 5 => ⟨S4x2304x512, .f32⟩
  | 6 => ⟨S4x256x512, .f32⟩
  | 7 => ⟨S4x256x512, .f32⟩
  | 8 => ⟨S4x256x512, .f32⟩
  | 9 => ⟨S_, .f32⟩
  | 10 => ⟨S512, .f32⟩
  | 11 => ⟨S1x1x512, .f32⟩
  | 12 => ⟨S4x256x512, .f32⟩
  | 13 => ⟨S4x256x512, .f32⟩
  | 14 => ⟨S_, .f32⟩
  | 15 => ⟨S512, .f32⟩
  | 16 => ⟨S1x512, .f32⟩
  | 17 => ⟨S_, .f32⟩
  | 18 => ⟨S3x512, .f32⟩
  | 19 => ⟨S3x512, .f32⟩
  | 20 => ⟨S_, .f32⟩
  | 21 => ⟨S4x258x512, .f32⟩
  | 22 => ⟨S4x256x512, .f32⟩
  | 23 => ⟨S_, .f32⟩
  | 24 => ⟨S512, .f32⟩
  | 25 => ⟨S1x1x512, .f32⟩
  | 26 => ⟨S4x256x512, .f32⟩
  | 27 => ⟨S4x256x512, .f32⟩
  | 28 => ⟨S_, .f32⟩
  | 29 => ⟨S512, .f32⟩
  | 30 => ⟨S1x512, .f32⟩
  | 31 => ⟨S_, .f32⟩
  | 32 => ⟨S3x512, .f32⟩
  | 33 => ⟨S3x512, .f32⟩
  | 34 => ⟨S_, .f32⟩
  | 35 => ⟨S4x258x512, .f32⟩
  | 36 => ⟨S4x258x512, .f32⟩
  | 37 => ⟨S4x256x512, .f32⟩
  | 38 => ⟨S_, .f32⟩
  | 39 => ⟨S512, .f32⟩
  | 40 => ⟨S1x1x512, .f32⟩
  | 41 => ⟨S4x256x512, .f32⟩
  | 42 => ⟨S4x256x512, .f32⟩
  | 43 => ⟨S_, .f32⟩
  | 44 => ⟨S512, .f32⟩
  | 45 => ⟨S1x512, .f32⟩
  | 46 => ⟨S_, .f32⟩
  | 47 => ⟨S3x512, .f32⟩
  | 48 => ⟨S3x512, .f32⟩
  | 49 => ⟨S_, .f32⟩
  | 50 => ⟨S4x258x512, .f32⟩
  | 51 => ⟨S4x258x512, .f32⟩
  | 52 => ⟨S4x1x512, .f32⟩
  | 53 => ⟨S4x256x512, .f32⟩
  | 54 => ⟨S4x1x512, .f32⟩
  | 55 => ⟨S4x256x512, .f32⟩
  | 56 => ⟨S4x256x512, .f32⟩
  | 57 => ⟨S_, .f32⟩
  | 58 => ⟨S4x2304x512, .f32⟩
  | 59 => ⟨S4x2304x512, .f32⟩
  | 60 => ⟨S_, .f32⟩
  | 61 => ⟨S4x2304x512, .f32⟩
  | 62 => ⟨S4x2304x512, .f32⟩
  | 63 => ⟨S_, .f32⟩
  | 64 => ⟨S4x2304x512, .f32⟩
  | 65 => ⟨S4x2304x512, .f32⟩
  | 66 => ⟨S4x2304x512, .bf16⟩
  | 67 => ⟨S4x2304x512, .bf16⟩
  | 68 => ⟨S4x2304x512, .bf16⟩
  | _ => ⟨S4x2304x10240, .bf16⟩

abbrev hbmTy (i : Nat) : BufTy := match i / 128 with
  | 0 => hbmTy0_0 i
  | 1 => hbmTy0_1 i
  | _ => ⟨S4x2304x10240, .bf16⟩

abbrev bufTy : (tb : Table) → Fin (tcTables nBuf tb) → BufTy
  | .hbm, ⟨i, _⟩ => hbmTy i
  | _, _ => ⟨S4x2304x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_2 : Ref sig .tc := ⟨.hbm, 47, rfl⟩
abbrev main_v41 : Ref sig .tc := ⟨.hbm, 48, rfl⟩
abbrev main_v42 : Ref sig .tc := ⟨.hbm, 49, rfl⟩
abbrev main_cst_3 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_cst_5 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_cst_6 : Ref sig .tc := ⟨.hbm, 86, rfl⟩
abbrev main_v76 : Ref sig .tc := ⟨.hbm, 87, rfl⟩
abbrev main_v77 : Ref sig .tc := ⟨.hbm, 88, rfl⟩
abbrev main_cst_7 : Ref sig .tc := ⟨.hbm, 89, rfl⟩
abbrev main_v78 : Ref sig .tc := ⟨.hbm, 90, rfl⟩
abbrev main_cst_8 : Ref sig .tc := ⟨.hbm, 91, rfl⟩
abbrev main_v79 : Ref sig .tc := ⟨.hbm, 92, rfl⟩
abbrev main_v80 : Ref sig .tc := ⟨.hbm, 93, rfl⟩
abbrev main_cst_9 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_cst_10 : Ref sig .tc := ⟨.hbm, 99, rfl⟩
abbrev main_v85 : Ref sig .tc := ⟨.hbm, 100, rfl⟩
abbrev main_v86 : Ref sig .tc := ⟨.hbm, 101, rfl⟩
abbrev main_cst_11 : Ref sig .tc := ⟨.hbm, 102, rfl⟩
abbrev main_v87 : Ref sig .tc := ⟨.hbm, 103, rfl⟩
abbrev main_v88 : Ref sig .tc := ⟨.hbm, 104, rfl⟩
abbrev main_cst_12 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_cst_13 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_cst_14 : Ref sig .tc := ⟨.hbm, 114, rfl⟩
abbrev main_v96 : Ref sig .tc := ⟨.hbm, 115, rfl⟩
abbrev main_v97 : Ref sig .tc := ⟨.hbm, 116, rfl⟩
abbrev main_cst_15 : Ref sig .tc := ⟨.hbm, 117, rfl⟩
abbrev main_v98 : Ref sig .tc := ⟨.hbm, 118, rfl⟩
abbrev main_v99 : Ref sig .tc := ⟨.hbm, 119, rfl⟩
abbrev main_cst_16 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_cst_17 : Ref sig .tc := ⟨.hbm, 128, rfl⟩
abbrev main_v107 : Ref sig .tc := ⟨.hbm, 129, rfl⟩
abbrev main_cst_18 : Ref sig .tc := ⟨.hbm, 130, rfl⟩
abbrev main_v108 : Ref sig .tc := ⟨.hbm, 131, rfl⟩
abbrev main_cst_19 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_cst_20 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_cst_21 : Ref sig .tc := ⟨.hbm, 142, rfl⟩
abbrev main_v117 : Ref sig .tc := ⟨.hbm, 143, rfl⟩
abbrev main_v118 : Ref sig .tc := ⟨.hbm, 144, rfl⟩
abbrev main_cst_22 : Ref sig .tc := ⟨.hbm, 145, rfl⟩
abbrev main_v119 : Ref sig .tc := ⟨.hbm, 146, rfl⟩
abbrev main_v120 : Ref sig .tc := ⟨.hbm, 147, rfl⟩
abbrev main_cst_23 : Ref sig .tc := ⟨.hbm, 148, rfl⟩
abbrev main_v121 : Ref sig .tc := ⟨.hbm, 149, rfl⟩
abbrev main_v122 : Ref sig .tc := ⟨.hbm, 150, rfl⟩
abbrev main_cst_24 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_cst_25 : Ref sig .tc := ⟨.hbm, 156, rfl⟩
abbrev main_v127 : Ref sig .tc := ⟨.hbm, 157, rfl⟩
abbrev main_v128 : Ref sig .tc := ⟨.hbm, 158, rfl⟩
abbrev main_cst_26 : Ref sig .tc := ⟨.hbm, 159, rfl⟩
abbrev main_v129 : Ref sig .tc := ⟨.hbm, 160, rfl⟩
abbrev main_v130 : Ref sig .tc := ⟨.hbm, 161, rfl⟩
abbrev main_cst_27 : Ref sig .tc := ⟨.hbm, 162, rfl⟩
abbrev main_v131 : Ref sig .tc := ⟨.hbm, 163, rfl⟩
abbrev main_v132 : Ref sig .tc := ⟨.hbm, 164, rfl⟩
abbrev main_v133 : Ref sig .tc := ⟨.hbm, 165, rfl⟩
abbrev main_cst_28 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_cst_29 : Ref sig .tc := ⟨.hbm, 171, rfl⟩
abbrev main_v138 : Ref sig .tc := ⟨.hbm, 172, rfl⟩
abbrev main_v139 : Ref sig .tc := ⟨.hbm, 173, rfl⟩
abbrev main_cst_30 : Ref sig .tc := ⟨.hbm, 174, rfl⟩
abbrev main_v140 : Ref sig .tc := ⟨.hbm, 175, rfl⟩
abbrev main_v141 : Ref sig .tc := ⟨.hbm, 176, rfl⟩
abbrev main_cst_31 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_cst_32 : Ref sig .tc := ⟨.hbm, 185, rfl⟩
abbrev main_v149 : Ref sig .tc := ⟨.hbm, 186, rfl⟩
abbrev main_v150 : Ref sig .tc := ⟨.hbm, 187, rfl⟩
abbrev main_cst_33 : Ref sig .tc := ⟨.hbm, 188, rfl⟩
abbrev main_v151 : Ref sig .tc := ⟨.hbm, 189, rfl⟩
abbrev main_v152 : Ref sig .tc := ⟨.hbm, 190, rfl⟩
abbrev main_cst_34 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩

abbrev nD : Nat := 1
abbrev τ : Topo := Topo.v7x

variable {F : FTy → Type} [FloatOps F]
-- ==== Attn.lean ====
abbrev S4x2304x512 : Shape := ⟨3, ![4, 2304, 512]⟩
abbrev S4x2304x128 : Shape := ⟨3, ![4, 2304, 128]⟩
abbrev S4x2304x10240 : Shape := ⟨3, ![4, 2304, 10240]⟩
abbrev S4x2048x512 : Shape := ⟨3, ![4, 2048, 512]⟩
abbrev S1x128x512 : Shape := ⟨3, ![1, 128, 512]⟩
abbrev S1x2304x128 : Shape := ⟨3, ![1, 2304, 128]⟩
abbrev S1x128x64 : Shape := ⟨3, ![1, 128, 64]⟩
abbrev S128x64 : Shape := ⟨2, ![128, 64]⟩
abbrev S1x2304x64 : Shape := ⟨3, ![1, 2304, 64]⟩
abbrev S2304x64 : Shape := ⟨2, ![2304, 64]⟩
abbrev S512x64 : Shape := ⟨2, ![512, 64]⟩
abbrev S512x2304 : Shape := ⟨2, ![512, 2304]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S4x2304x512, .bf16⟩
  | .hbm, ⟨1, _⟩ => ⟨S4x2304x128, .bf16⟩
  | .hbm, ⟨2, _⟩ => ⟨S4x2304x10240, .bf16⟩
  | .hbm, ⟨3, _⟩ => ⟨S4x2048x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S1x128x512, .bf16⟩
  | .local _ .vmem, ⟨7, _⟩ => ⟨S1x128x512, .bf16⟩
  | _, _ => ⟨S4x2304x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c77_i32 : BitVec 32 := 77#32
  let c0_i32_0 : BitVec 32 := 0#32
  ![arg0.toNat, c0_i32.toNat, c77_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttnRefIdeal.lean ====
abbrev S4x2304x512 : Shape := ⟨3, ![4, 2304, 512]⟩
abbrev S4x2304x128 : Shape := ⟨3, ![4, 2304, 128]⟩
abbrev S4x2304x10240 : Shape := ⟨3, ![4, 2304, 10240]⟩
abbrev S4x2048x512 : Shape := ⟨3, ![4, 2048, 512]⟩
abbrev S4x2048x8x64 : Shape := ⟨4, ![4, 2048, 8, 64]⟩
abbrev S4x2304x2x64 : Shape := ⟨4, ![4, 2304, 2, 64]⟩
abbrev S4x2048x2x4x64 : Shape := ⟨5, ![4, 2048, 2, 4, 64]⟩
abbrev S4x2x2304x2048x4 : Shape := ⟨5, ![4, 2, 2304, 2048, 4]⟩
abbrev S4x2x4x2048x2304 : Shape := ⟨5, ![4, 2, 4, 2048, 2304]⟩
abbrev S_ : Shape := ⟨0, ![]⟩
abbrev S4x2x4x2048 : Shape := ⟨4, ![4, 2, 4, 2048]⟩
abbrev S4x2x4x2048x1 : Shape := ⟨5, ![4, 2, 4, 2048, 1]⟩
abbrev S4x2x64x4x2048 : Shape := ⟨5, ![4, 2, 64, 4, 2048]⟩

abbrev nBuf : Space → Nat
  | .hbm => 32
  | .vmem => 0
  | .smem => 0
  | _ => 0

abbrev bufTy : (tb : Table) → Fin (tcTables nBuf tb) → BufTy
  | .hbm, ⟨0, _⟩ => ⟨S4x2304x512, .bf16⟩
  | .hbm, ⟨1, _⟩ => ⟨S4x2304x128, .bf16⟩
  | .hbm, ⟨2, _⟩ => ⟨S4x2304x10240, .bf16⟩
  | .hbm, ⟨3, _⟩ => ⟨S4x2304x512, .f32⟩
  | .hbm, ⟨4, _⟩ => ⟨S4x2048x512, .f32⟩
  | .hbm, ⟨5, _⟩ => ⟨S4x2304x128, .f32⟩
  | .hbm, ⟨6, _⟩ => ⟨S4x2304x10240, .f32⟩
  | .hbm, ⟨7, _⟩ => ⟨S4x2304x128, .f32⟩
  | .hbm, ⟨8, _⟩ => ⟨S4x2048x8x64, .f32⟩
  | .hbm, ⟨9, _⟩ => ⟨S4x2304x2x64, .f32⟩
  | .hbm, ⟨10, _⟩ => ⟨S4x2304x2x64, .f32⟩
  | .hbm, ⟨11, _⟩ => ⟨S4x2048x2x4x64, .f32⟩
  | .hbm, ⟨12, _⟩ => ⟨S4x2x2304x2048x4, .f32⟩
  | .hbm, ⟨13, _⟩ => ⟨S4x2x4x2048x2304, .f32⟩
  | .hbm, ⟨14, _⟩ => ⟨S_, .f32⟩
  | .hbm, ⟨15, _⟩ => ⟨S4x2x4x2048, .f32⟩
  | .hbm, ⟨16, _⟩ => ⟨S_, .f32⟩
  | .hbm, ⟨17, _⟩ => ⟨S4x2x4x2048, .f32⟩
  | .hbm, ⟨18, _⟩ => ⟨S4x2x4x2048, .f32⟩
  | .hbm, ⟨19, _⟩ => ⟨S4x2x4x2048x1, .f32⟩
  | .hbm, ⟨20, _⟩ => ⟨S4x2x4x2048x2304, .f32⟩
  | .hbm, ⟨21, _⟩ => ⟨S4x2x4x2048x2304, .f32⟩
  | .hbm, ⟨22, _⟩ => ⟨S4x2x4x2048x2304, .f32⟩
  | .hbm, ⟨23, _⟩ => ⟨S_, .f32⟩
  | .hbm, ⟨24, _⟩ => ⟨S4x2x4x2048, .f32⟩
  | .hbm, ⟨25, _⟩ => ⟨S4x2x4x2048x1, .f32⟩
  | .hbm, ⟨26, _⟩ => ⟨S4x2x4x2048x2304, .f32⟩
  | .hbm, ⟨27, _⟩ => ⟨S4x2x4x2048x2304, .f32⟩
  | .hbm, ⟨28, _⟩ => ⟨S4x2x64x4x2048, .f32⟩
  | .hbm, ⟨29, _⟩ => ⟨S4x2048x2x4x64, .f32⟩
  | .hbm, ⟨30, _⟩ => ⟨S4x2048x512, .f32⟩
  | .hbm, ⟨31, _⟩ => ⟨S4x2048x512, .bf16⟩
  | _, _ => ⟨S4x2304x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== ShortF.lean ====
abbrev S4x2304x10240 : Shape := ⟨3, ![4, 2304, 10240]⟩
abbrev S3x512 : Shape := ⟨2, ![3, 512]⟩
abbrev S4x2304x512 : Shape := ⟨3, ![4, 2304, 512]⟩
abbrev S1x2304x128 : Shape := ⟨3, ![1, 2304, 128]⟩
abbrev S3x128 : Shape := ⟨2, ![3, 128]⟩
abbrev S2304x128 : Shape := ⟨2, ![2304, 128]⟩
abbrev S1x128 : Shape := ⟨2, ![1, 128]⟩

abbrev nBuf : Space → Nat
  | .hbm => 3
  | .vmem => 10
  | .smem => 0
  | _ => 0

abbrev bufTy : (tb : Table) → Fin (tcTables nBuf tb) → BufTy
  | .hbm, ⟨0, _⟩ => ⟨S4x2304x10240, .bf16⟩
  | .hbm, ⟨1, _⟩ => ⟨S3x512, .f32⟩
  | .hbm, ⟨2, _⟩ => ⟨S4x2304x512, .bf16⟩
  | .local _ .vmem, ⟨0, _⟩ => ⟨S1x2304x128, .bf16⟩
  | .local _ .vmem, ⟨1, _⟩ => ⟨S1x2304x128, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S3x128, .f32⟩
  | .local _ .vmem, ⟨7, _⟩ => ⟨S3x128, .f32⟩
  | .local _ .vmem, ⟨8, _⟩ => ⟨S1x2304x128, .bf16⟩
  | .local _ .vmem, ⟨9, _⟩ => ⟨S1x2304x128, .bf16⟩
  | _, _ => ⟨S4x2304x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c60_i32 : BitVec 32 := 60#32
  let v0 : BitVec 32 := Scalar.addi c60_i32 arg0
  let c0_i32 : BitVec 32 := 0#32
  let c0_i32_0 : BitVec 32 := 0#32
  ![arg1.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c68_i32 : BitVec 32 := 68#32
  let v0 : BitVec 32 := Scalar.addi c68_i32 arg0
  let c0_i32 : BitVec 32 := 0#32
  let c0_i32_0 : BitVec 32 := 0#32
  ![arg1.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2304x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2304x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ShortFRefIdeal.lean ====
abbrev S4x2304x10240 : Shape := ⟨3, ![4, 2304, 10240]⟩
abbrev S3x512 : Shape := ⟨2, ![3, 512]⟩
abbrev S4x2304x512 : Shape := ⟨3, ![4, 2304, 512]⟩
abbrev S4x256x512 : Shape := ⟨3, ![4, 256, 512]⟩
abbrev S4x1x512 : Shape := ⟨3, ![4, 1, 512]⟩
abbrev S_ : Shape := ⟨0, ![]⟩
abbrev S4x258x512 : Shape := ⟨3, ![4, 258, 512]⟩
abbrev S1x512 : Shape := ⟨2, ![1, 512]⟩
abbrev S512 : Shape := ⟨1, ![512]⟩
abbrev S1x1x512 : Shape := ⟨3, ![1, 1, 512]⟩
abbrev S4x2048x512 : Shape := ⟨3, ![4, 2048, 512]⟩
abbrev S4x2050x512 : Shape := ⟨3, ![4, 2050, 512]⟩

abbrev nBuf : Space → Nat
  | .hbm => 68
  | .vmem => 0
  | .smem => 0
  | _ => 0

abbrev bufTy : (tb : Table) → Fin (tcTables nBuf tb) → BufTy
  | .hbm, ⟨0, _⟩ => ⟨S4x2304x10240, .bf16⟩
  | .hbm, ⟨1, _⟩ => ⟨S3x512, .f32⟩
  | .hbm, ⟨2, _⟩ => ⟨S4x2304x10240, .f32⟩
  | .hbm, ⟨3, _⟩ => ⟨S4x2304x512, .f32⟩
  | .hbm, ⟨4, _⟩ => ⟨S4x2304x10240, .f32⟩
  | .hbm, ⟨5, _⟩ => ⟨S4x2304x512, .f32⟩
  | .hbm, ⟨6, _⟩ => ⟨S4x2304x10240, .f32⟩
  | .hbm, ⟨7, _⟩ => ⟨S4x2304x512, .f32⟩
  | .hbm, ⟨8, _⟩ => ⟨S4x256x512, .f32⟩
  | .hbm, ⟨9, _⟩ => ⟨S4x256x512, .f32⟩
  | .hbm, ⟨10, _⟩ => ⟨S4x256x512, .f32⟩
  | .hbm, ⟨11, _⟩ => ⟨S4x256x512, .f32⟩
  | .hbm, ⟨12, _⟩ => ⟨S4x1x512, .f32⟩
  | .hbm, ⟨13, _⟩ => ⟨S_, .f32⟩
  | .hbm, ⟨14, _⟩ => ⟨S4x1x512, .f32⟩
  | .hbm, ⟨15, _⟩ => ⟨S4x258x512, .f32⟩
  | .hbm, ⟨16, _⟩ => ⟨S4x256x512, .f32⟩
  | .hbm, ⟨17, _⟩ => ⟨S1x512, .f32⟩
  | .hbm, ⟨18, _⟩ => ⟨S512, .f32⟩
  | .hbm, ⟨19, _⟩ => ⟨S1x1x512, .f32⟩
  | .hbm, ⟨20, _⟩ => ⟨S4x256x512, .f32⟩
  | .hbm, ⟨21, _⟩ => ⟨S4x256x512, .f32⟩
  | .hbm, ⟨22, _⟩ => ⟨S4x256x512, .f32⟩
  | .hbm, ⟨23, _⟩ => ⟨S1x512, .f32⟩
  | .hbm, ⟨24, _⟩ => ⟨S512, .f32⟩
  | .hbm, ⟨25, _⟩ => ⟨S1x1x512, .f32⟩
  | .hbm, ⟨26, _⟩ => ⟨S4x256x512, .f32⟩
  | .hbm, ⟨27, _⟩ => ⟨S4x256x512, .f32⟩
  | .hbm, ⟨28, _⟩ => ⟨S4x256x512, .f32⟩
  | .hbm, ⟨29, _⟩ => ⟨S4x256x512, .f32⟩
  | .hbm, ⟨30, _⟩ => ⟨S1x512, .f32⟩
  | .hbm, ⟨31, _⟩ => ⟨S512, .f32⟩
  | .hbm, ⟨32, _⟩ => ⟨S1x1x512, .f32⟩
  | .hbm, ⟨33, _⟩ => ⟨S4x256x512, .f32⟩
  | .hbm, ⟨34, _⟩ => ⟨S4x256x512, .f32⟩
  | .hbm, ⟨35, _⟩ => ⟨S4x256x512, .f32⟩
  | .hbm, ⟨36, _⟩ => ⟨S4x256x512, .f32⟩
  | .hbm, ⟨37, _⟩ => ⟨S4x2048x512, .f32⟩
  | .hbm, ⟨38, _⟩ => ⟨S4x2048x512, .f32⟩
  | .hbm, ⟨39, _⟩ => ⟨S4x2048x512, .f32⟩
  | .hbm, ⟨40, _⟩ => ⟨S4x2048x512, .f32⟩
  | .hbm, ⟨41, _⟩ => ⟨S4x1x512, .f32⟩
  | .hbm, ⟨42, _⟩ => ⟨S_, .f32⟩
  | .hbm, ⟨43, _⟩ => ⟨S4x1x512, .f32⟩
  | .hbm, ⟨44, _⟩ => ⟨S4x2050x512, .f32⟩
  | .hbm, ⟨45, _⟩ => ⟨S4x2048x512, .f32⟩
  | .hbm, ⟨46, _⟩ => ⟨S1x512, .f32⟩
  | .hbm, ⟨47, _⟩ => ⟨S512, .f32⟩
  | .hbm, ⟨48, _⟩ => ⟨S1x1x512, .f32⟩
  | .hbm, ⟨49, _⟩ => ⟨S4x2048x512, .f32⟩
  | .hbm, ⟨50, _⟩ => ⟨S4x2048x512, .f32⟩
  | .hbm, ⟨51, _⟩ => ⟨S4x2048x512, .f32⟩
  | .hbm, ⟨52, _⟩ => ⟨S1x512, .f32⟩
  | .hbm, ⟨53, _⟩ => ⟨S512, .f32⟩
  | .hbm, ⟨54, _⟩ => ⟨S1x1x512, .f32⟩
  | .hbm, ⟨55, _⟩ => ⟨S4x2048x512, .f32⟩
  | .hbm, ⟨56, _⟩ => ⟨S4x2048x512, .f32⟩
  | .hbm, ⟨57, _⟩ => ⟨S4x2048x512, .f32⟩
  | .hbm, ⟨58, _⟩ => ⟨S4x2048x512, .f32⟩
  | .hbm, ⟨59, _⟩ => ⟨S1x512, .f32⟩
  | .hbm, ⟨60, _⟩ => ⟨S512, .f32⟩
  | .hbm, ⟨61, _⟩ => ⟨S1x1x512, .f32⟩
  | .hbm, ⟨62, _⟩ => ⟨S4x2048x512, .f32⟩
  | .hbm, ⟨63, _⟩ => ⟨S4x2048x512, .f32⟩
  | .hbm, ⟨64, _⟩ => ⟨S4x2048x512, .f32⟩
  | .hbm, ⟨65, _⟩ => ⟨S4x2048x512, .f32⟩
  | .hbm, ⟨66, _⟩ => ⟨S4x2304x512, .f32⟩
  | .hbm, ⟨67, _⟩ => ⟨S4x2304x512, .bf16⟩
  | _, _ => ⟨S4x2304x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_v33 : Ref sig .tc := ⟨.hbm, 36, rfl⟩
abbrev main_v34 : Ref sig .tc := ⟨.hbm, 37, rfl⟩
abbrev main_v35 : Ref sig .tc := ⟨.hbm, 38, rfl⟩
abbrev main_v36 : Ref sig .tc := ⟨.hbm, 39, rfl⟩
abbrev main_v37 : Ref sig .tc := ⟨.hbm, 40, rfl⟩
abbrev main_v38 : Ref sig .tc := ⟨.hbm, 41, rfl⟩
abbrev main_cst_0 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩

abbrev nD : Nat := 1
abbrev τ : Topo := Topo.v7x

variable {F : FTy → Type} [FloatOps F]
-- ==== Merge.lean ====
abbrev S4x2304x1024 : Shape := ⟨3, ![4, 2304, 1024]⟩
abbrev S4x2304x10240 : Shape := ⟨3, ![4, 2304, 10240]⟩
abbrev S1x256x1024 : Shape := ⟨3, ![1, 256, 1024]⟩
abbrev S1x256x4096 : Shape := ⟨3, ![1, 256, 4096]⟩
abbrev S256x1024 : Shape := ⟨2, ![256, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x1024, .bf16⟩
  | .hbm, ⟨2, _⟩ => ⟨S4x2304x1024, .bf16⟩
  | .hbm, ⟨3, _⟩ => ⟨S4x2304x1024, .bf16⟩
  | .hbm, ⟨4, _⟩ => ⟨S4x2304x10240, .bf16⟩
  | .hbm, ⟨5, _⟩ => ⟨S4x2304x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x4096, .bf16⟩
  | .local _ .vmem, ⟨9, _⟩ => ⟨S1x256x4096, .bf16⟩
  | .local _ .vmem, ⟨10, _⟩ => ⟨S1x256x1024, .bf16⟩
  | .local _ .vmem, ⟨11, _⟩ => ⟨S1x256x1024, .bf16⟩
  | _, _ => ⟨S4x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== MergeRefIdeal.lean ====
abbrev S4x2304x1024 : Shape := ⟨3, ![4, 2304, 1024]⟩
abbrev S4x2304x10240 : Shape := ⟨3, ![4, 2304, 10240]⟩
abbrev S4x2304x4096 : Shape := ⟨3, ![4, 2304, 4096]⟩
abbrev S4x2304x4x1024 : Shape := ⟨4, ![4, 2304, 4, 1024]⟩
abbrev S_ : Shape := ⟨0, ![]⟩
abbrev S4x2304x1x1024 : Shape := ⟨4, ![4, 2304, 1, 1024]⟩

abbrev nBuf : Space → Nat
  | .hbm => 36
  | .vmem => 0
  | .smem => 0
  | _ => 0

abbrev bufTy : (tb : Table) → Fin (tcTables nBuf tb) → BufTy
  | .hbm, ⟨0, _⟩ => ⟨S4x2304x1024, .bf16⟩
  | .hbm, ⟨1, _⟩ => ⟨S4x2304x1024, .bf16⟩
  | .hbm, ⟨2, _⟩ => ⟨S4x2304x1024, .bf16⟩
  | .hbm, ⟨3, _⟩ => ⟨S4x2304x1024, .bf16⟩
  | .hbm, ⟨4, _⟩ => ⟨S4x2304x10240, .bf16⟩
  | .hbm, ⟨5, _⟩ => ⟨S4x2304x1024, .f32⟩
  | .hbm, ⟨6, _⟩ => ⟨S4x2304x1024, .f32⟩
  | .hbm, ⟨7, _⟩ => ⟨S4x2304x1024, .f32⟩
  | .hbm, ⟨8, _⟩ => ⟨S4x2304x1024, .f32⟩
  | .hbm, ⟨9, _⟩ => ⟨S4x2304x10240, .f32⟩
  | .hbm, ⟨10, _⟩ => ⟨S4x2304x4096, .f32⟩
  | .hbm, ⟨11, _⟩ => ⟨S4x2304x4x1024, .f32⟩
  | .hbm, ⟨12, _⟩ => ⟨S4x2304x4x1024, .f32⟩
  | .hbm, ⟨13, _⟩ => ⟨S4x2304x4x1024, .f32⟩
  | .hbm, ⟨14, _⟩ => ⟨S_, .f32⟩
  | .hbm, ⟨15, _⟩ => ⟨S4x2304x4x1024, .f32⟩
  | .hbm, ⟨16, _⟩ => ⟨S4x2304x4x1024, .f32⟩
  | .hbm, ⟨17, _⟩ => ⟨S_, .f32⟩
  | .hbm, ⟨18, _⟩ => ⟨S4x2304x4x1024, .f32⟩
  | .hbm, ⟨19, _⟩ => ⟨S4x2304x4x1024, .f32⟩
  | .hbm, ⟨20, _⟩ => ⟨S4x2304x1x1024, .f32⟩
  | .hbm, ⟨21, _⟩ => ⟨S4x2304x1024, .f32⟩
  | .hbm, ⟨22, _⟩ => ⟨S4x2304x1024, .f32⟩
  | .hbm, ⟨23, _⟩ => ⟨S4x2304x1x1024, .f32⟩
  | .hbm, ⟨24, _⟩ => ⟨S4x2304x1024, .f32⟩
  | .hbm, ⟨25, _⟩ => ⟨S4x2304x1024, .f32⟩
  | .hbm, ⟨26, _⟩ => ⟨S4x2304x1024, .f32⟩
  | .hbm, ⟨27, _⟩ => ⟨S4x2304x1x1024, .f32⟩
  | .hbm, ⟨28, _⟩ => ⟨S4x2304x1024, .f32⟩
  | .hbm, ⟨29, _⟩ => ⟨S4x2304x1024, .f32⟩
  | .hbm, ⟨30, _⟩ => ⟨S4x2304x1024, .f32⟩
  | .hbm, ⟨31, _⟩ => ⟨S4x2304x1x1024, .f32⟩
  | .hbm, ⟨32, _⟩ => ⟨S4x2304x1024, .f32⟩
  | .hbm, ⟨33, _⟩ => ⟨S4x2304x1024, .f32⟩
  | .hbm, ⟨34, _⟩ => ⟨S4x2304x1024, .f32⟩
  | .hbm, ⟨35, _⟩ => ⟨S4x2304x1024, .bf16⟩
  | _, _ => ⟨S4x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== DnPrep.lean ====
abbrev S4x2304x10240 : Shape := ⟨3, ![4, 2304, 10240]⟩
abbrev S3x512 : Shape := ⟨2, ![3, 512]⟩
abbrev S4x2304x512 : Shape := ⟨3, ![4, 2304, 512]⟩
abbrev S1x2304x128 : Shape := ⟨3, ![1, 2304, 128]⟩
abbrev S3x128 : Shape := ⟨2, ![3, 128]⟩
abbrev S2304x128 : Shape := ⟨2, ![2304, 128]⟩
abbrev S1x128 : Shape := ⟨2, ![1, 128]⟩
abbrev S2304 : Shape := ⟨1, ![2304]⟩
abbrev S2304x1 : Shape := ⟨2, ![2304, 1]⟩

abbrev nBuf : Space → Nat
  | .hbm => 7
  | .vmem => 18
  | .smem => 0
  | _ => 0

abbrev bufTy : (tb : Table) → Fin (tcTables nBuf tb) → BufTy
  | .hbm, ⟨0, _⟩ => ⟨S4x2304x10240, .bf16⟩
  | .hbm, ⟨1, _⟩ => ⟨S3x512, .f32⟩
  | .hbm, ⟨2, _⟩ => ⟨S3x512, .f32⟩
  | .hbm, ⟨3, _⟩ => ⟨S3x512, .f32⟩
  | .hbm, ⟨4, _⟩ => ⟨S4x2304x512, .f32⟩
  | .hbm, ⟨5, _⟩ => ⟨S4x2304x512, .f32⟩
  | .hbm, ⟨6, _⟩ => ⟨S4x2304x512, .f32⟩
  | .local _ .vmem, ⟨0, _⟩ => ⟨S1x2304x128, .bf16⟩
  | .local _ .vmem, ⟨1, _⟩ => ⟨S1x2304x128, .bf16⟩
  | .local _ .vmem, ⟨2, _⟩ => ⟨S1x2304x128, .bf16⟩
  | .local _ .vmem, ⟨3, _⟩ => ⟨S1x2304x128, .bf16⟩
  | .local _ .vmem, ⟨4, _⟩ => ⟨S1x2304x128, .bf16⟩
  | .local _ .vmem, ⟨5, _⟩ => ⟨S1x2304x128, .bf16⟩
  | .local _ .vmem, ⟨6, _⟩ => ⟨S3x128, .f32⟩
  | .local _ .vmem, ⟨7, _⟩ => ⟨S3x128, .f32⟩
  | .local _ .vmem, ⟨8, _⟩ => ⟨S3x128, .f32⟩
  | .local _ .vmem, ⟨9, _⟩ => ⟨S3x128, .f32⟩
  | .local _ .vmem, ⟨10, _⟩ => ⟨S3x128, .f32⟩
  | .local _ .vmem, ⟨11, _⟩ => ⟨S3x128, .f32⟩
  | .local _ .vmem, ⟨12, _⟩ => ⟨S1x2304x128, .f32⟩
  | .local _ .vmem, ⟨13, _⟩ => ⟨S1x2304x128, .f32⟩
  | .local _ .vmem, ⟨14, _⟩ => ⟨S1x2304x128, .f32⟩
  | .local _ .vmem, ⟨15, _⟩ => ⟨S1x2304x128, .f32⟩
  | .local _ .vmem, ⟨16, _⟩ => ⟨S1x2304x128, .f32⟩
  | .local _ .vmem, ⟨17, _⟩ => ⟨S1x2304x128, .f32⟩
  | _, _ => ⟨S4x2304x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c36_i32 : BitVec 32 := 36#32
  let v0 : BitVec 32 := Scalar.addi c36_i32 arg0
  let c0_i32 : BitVec 32 := 0#32
  let c0_i32_0 : BitVec 32 := 0#32
  ![arg1.toNat, c0_i32.toNat, v0.toNat]

def cc0_transform_1 (i : grid0.Coords) : Fin 3 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg0
  let c0_i32 : BitVec 32 := 0#32
  let c0_i32_0 : BitVec 32 := 0#32
  ![arg1.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c44_i32 : BitVec 32 := 44#32
  let v0 : BitVec 32 := Scalar.addi c44_i32 arg0
  let c0_i32 : BitVec 32 := 0#32
  let c0_i32_0 : BitVec 32 := 0#32
  ![arg1.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x2304x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S3x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2304x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2304x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2304x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== DnPrepRefIdeal.lean ====
abbrev S4x2304x10240 : Shape := ⟨3, ![4, 2304, 10240]⟩
abbrev S3x512 : Shape := ⟨2, ![3, 512]⟩
abbrev S4x2304x512 : Shape := ⟨3, ![4, 2304, 512]⟩
abbrev S4x256x512 : Shape := ⟨3, ![4, 256, 512]⟩
abbrev S4x1x512 : Shape := ⟨3, ![4, 1, 512]⟩
abbrev S_ : Shape := ⟨0, ![]⟩
abbrev S4x258x512 : Shape := ⟨3, ![4, 258, 512]⟩
abbrev S1x512 : Shape := ⟨2, ![1, 512]⟩
abbrev S512 : Shape := ⟨1, ![512]⟩
abbrev S1x1x512 : Shape := ⟨3, ![1, 1, 512]⟩
abbrev S4x2048x512 : Shape := ⟨3, ![4, 2048, 512]⟩
abbrev S4x2050x512 : Shape := ⟨3, ![4, 2050, 512]⟩
abbrev S4x2304x4x128 : Shape := ⟨4, ![4, 2304, 4, 128]⟩
abbrev S4x2304x4 : Shape := ⟨3, ![4, 2304, 4]⟩
abbrev S4x2304x4x1 : Shape := ⟨4, ![4, 2304, 4, 1]⟩

abbrev nBuf : Space → Nat
  | .hbm => 215
  | .vmem => 0
  | .smem => 0
  | _ => 0

abbrev hbmTy0_0 (i : Nat) : BufTy := match i % 128 with
  | 0 => ⟨S4x2304x10240, .bf16⟩
  | 1 => ⟨S3x512, .f32⟩
  | 2 => ⟨S3x512, .f32⟩
  | 3 => ⟨S3x512, .f32⟩
  | 4 => ⟨S4x2304x10240, .f32⟩
  | 5 => ⟨S4x2304x512, .f32⟩
  | 6 => ⟨S4x256x512, .f32⟩
  | 7 => ⟨S4x1x512, .f32⟩
  | 8 => ⟨S_, .f32⟩
  | 9 => ⟨S4x1x512, .f32⟩
  | 10 => ⟨S4x258x512, .f32⟩
  | 11 => ⟨S4x256x512, .f32⟩
  | 12 => ⟨S1x512, .f32⟩
  | 13 => ⟨S512, .f32⟩
  | 14 => ⟨S1x1x512, .f32⟩
  | 15 => ⟨S4x256x512, .f32⟩
  | 16 => ⟨S4x256x512, .f32⟩
  | 17 => ⟨S4x256x512, .f32⟩
  | 18 => ⟨S1x512, .f32⟩
  | 19 => ⟨S512, .f32⟩
  | 20 => ⟨S1x1x512, .f32⟩
  | 21 => ⟨S4x256x512, .f32⟩
  | 22 => ⟨S4x256x512, .f32⟩
  | 23 => ⟨S4x256x512, .f32⟩
  | 24 => ⟨S4x256x512, .f32⟩
  | 25 => ⟨S1x512, .f32⟩
  | 26 => ⟨S512, .f32⟩
  | 27 => ⟨S1x1x512, .f32⟩
  | 28 => ⟨S4x256x512, .f32⟩
  | 29 => ⟨S4x256x512, .f32⟩
  | 30 => ⟨S4x256x512, .f32⟩
  | 31 => ⟨S4x2048x512, .f32⟩
  | 32 => ⟨S4x1x512, .f32⟩
  | 33 => ⟨S_, .f32⟩
  | 34 => ⟨S4x1x512, .f32⟩
  | 35 => ⟨S4x2050x512, .f32⟩
  | 36 => ⟨S4x2048x512, .f32⟩
  | 37 => ⟨S1x512, .f32⟩
  | 38 => ⟨S512, .f32⟩
  | 39 => ⟨S1x1x512, .f32⟩
  | 40 => ⟨S4x2048x512, .f32⟩
  | 41 => ⟨S4x2048x512, .f32⟩
  | 42 => ⟨S4x2048x512, .f32⟩
  | 43 => ⟨S1x512, .f32⟩
  | 44 => ⟨S512, .f32⟩
  | 45 => ⟨S1x1x512, .f32⟩
  | 46 => ⟨S4x2048x512, .f32⟩
  | 47 => ⟨S4x2048x512, .f32⟩
  | 48 => ⟨S4x2048x512, .f32⟩
  | 49 => ⟨S4x2048x512, .f32⟩
  | 50 => ⟨S1x512, .f32⟩
  | 51 => ⟨S512, .f32⟩
  | 52 => ⟨S1x1x512, .f32⟩
  | 53 => ⟨S4x2048x512, .f32⟩
  | 54 => ⟨S4x2048x512, .f32⟩
  | 55 => ⟨S4x2048x512, .f32⟩
  | 56 => ⟨S4x2304x512, .f32⟩
  | 57 => ⟨S4x2304x512, .f32⟩
  | 58 => ⟨S4x2304x512, .f32⟩
  | 59 => ⟨S_, .f32⟩
  | 60 => ⟨S4x2304x512, .f32⟩
  | 61 => ⟨S4x2304x512, .f32⟩
  | 62 => ⟨S_, .f32⟩
  | 63 => ⟨S4x2304x512, .f32⟩
  | 64 => ⟨S4x2304x512, .f32⟩
  | 65 => ⟨S4x2304x512, .f32⟩
  | 66 => ⟨S4x2304x512, .f32⟩
  | 67 => ⟨S4x256x512, .f32⟩
  | 68 => ⟨S4x1x512, .f32⟩
  | 69 => ⟨S_, .f32⟩
  | 70 => ⟨S4x1x512, .f32⟩
  | 71 => ⟨S4x258x512, .f32⟩
  | 72 => ⟨S4x256x512, .f32⟩
  | 73 => ⟨S1x512, .f32⟩
  | 74 => ⟨S512, .f32⟩
  | 75 => ⟨S1x1x512, .f32⟩
  | 76 => ⟨S4x256x512, .f32⟩
  | 77 => ⟨S4x256x512, .f32⟩
  | 78 => ⟨S4x256x512, .f32⟩
  | 79 => ⟨S1x512, .f32⟩
  | 80 => ⟨S512, .f32⟩
  | 81 => ⟨S1x1x512, .f32⟩
  | 82 => ⟨S4x256x512, .f32⟩
  | 83 => ⟨S4x256x512, .f32⟩
  | 84 => ⟨S4x256x512, .f32⟩
  | 85 => ⟨S4x256x512, .f32⟩
  | 86 => ⟨S1x512, .f32⟩
  | 87 => ⟨S512, .f32⟩
  | 88 => ⟨S1x1x512, .f32⟩
  | 89 => ⟨S4x256x512, .f32⟩
  | 90 => ⟨S4x256x512, .f32⟩
  | 91 => ⟨S4x256x512, .f32⟩
  | 92 => ⟨S4x2048x512, .f32⟩
  | 93 => ⟨S4x1x512, .f32⟩
  | 94 => ⟨S_, .f32⟩
  | 95 => ⟨S4x1x512, .f32⟩
  | 96 => ⟨S4x2050x512, .f32⟩
  | 97 => ⟨S4x2048x512, .f32⟩
  | 98 => ⟨S1x512, .f32⟩
  | 99 => ⟨S512, .f32⟩
  | 100 => ⟨S1x1x512, .f32⟩
  | 101 => ⟨S4x2048x512, .f32⟩
  | 102 => ⟨S4x2048x512, .f32⟩
  | 103 => ⟨S4x2048x512, .f32⟩
  | 104 => ⟨S1x512, .f32⟩
  | 105 => ⟨S512, .f32⟩
  | 106 => ⟨S1x1x512, .f32⟩
  | 107 => ⟨S4x2048x512, .f32⟩
  | 108 => ⟨S4x2048x512, .f32⟩
  | 109 => ⟨S4x2048x512, .f32⟩
  | 110 => ⟨S4x2048x512, .f32⟩
  | 111 => ⟨S1x512, .f32⟩
  | 112 => ⟨S512, .f32⟩
  | 113 => ⟨S1x1x512, .f32⟩
  | 114 => ⟨S4x2048x512, .f32⟩
  | 115 => ⟨S4x2048x512, .f32⟩
  | 116 => ⟨S4x2048x512, .f32⟩
  | 117 => ⟨S4x2304x512, .f32⟩
  | 118 => ⟨S4x2304x512, .f32⟩
  | 119 => ⟨S4x2304x512, .f32⟩
  | 120 => ⟨S_, .f32⟩
  | 121 => ⟨S4x2304x512, .f32⟩
  | 122 => ⟨S4x2304x512, .f32⟩
  | 123 => ⟨S_, .f32⟩
  | 124 => ⟨S4x2304x512, .f32⟩
  | 125 => ⟨S4x2304x512, .f32⟩
  | 126 => ⟨S4x2304x512, .f32⟩
  | 127 => ⟨S4x2304x512, .f32⟩
  | _ => ⟨S4x2304x10240, .bf16⟩

abbrev hbmTy0_1 (i : Nat) : BufTy := match i % 128 with
  | 0 => ⟨S4x256x512, .f32⟩
  | 1 => ⟨S4x1x512, .f32⟩
  | 2 => ⟨S_, .f32⟩
  | 3 => ⟨S4x1x512, .f32⟩
  | 4 => ⟨S4x258x512, .f32⟩
  | 5 => ⟨S4x256x512, .f32⟩
  | 6 => ⟨S1x512, .f32⟩
  | 7 => ⟨S512, .f32⟩
  | 8 => ⟨S1x1x512, .f32⟩
  | 9 => ⟨S4x256x512, .f32⟩
  | 10 => ⟨S4x256x512, .f32⟩
  | 11 => ⟨S4x256x512, .f32⟩
  | 12 => ⟨S1x512, .f32⟩
  | 13 => ⟨S512, .f32⟩
  | 14 => ⟨S1x1x512, .f32⟩
  | 15 => ⟨S4x256x512, .f32⟩
  | 16 => ⟨S4x256x512, .f32⟩
  | 17 => ⟨S4x256x512, .f32⟩
  | 18 => ⟨S4x256x512, .f32⟩
  | 19 => ⟨S1x512, .f32⟩
  | 20 => ⟨S512, .f32⟩
  | 21 => ⟨S1x1x512, .f32⟩
  | 22 => ⟨S4x256x512, .f32⟩
  | 23 => ⟨S4x256x512, .f32⟩
  | 24 => ⟨S4x256x512, .f32⟩
  | 25 => ⟨S4x2048x512, .f32⟩
  | 26 => ⟨S4x1x512, .f32⟩
  | 27 => ⟨S_, .f32⟩
  | 28 => ⟨S4x1x512, .f32⟩
  | 29 => ⟨S4x2050x512, .f32⟩
  | 30 => ⟨S4x2048x512, .f32⟩
  | 31 => ⟨S1x512, .f32⟩
  | 32 => ⟨S512, .f32⟩
  | 33 => ⟨S1x1x512, .f32⟩
  | 34 => ⟨S4x2048x512, .f32⟩
  | 35 => ⟨S4x2048x512, .f32⟩
  | 36 => ⟨S4x2048x512, .f32⟩
  | 37 => ⟨S1x512, .f32⟩
  | 38 => ⟨S512, .f32⟩
  | 39 => ⟨S1x1x512, .f32⟩
  | 40 => ⟨S4x2048x512, .f32⟩
  | 41 => ⟨S4x2048x512, .f32⟩
  | 42 => ⟨S4x2048x512, .f32⟩
  | 43 => ⟨S4x2048x512, .f32⟩
  | 44 => ⟨S1x512, .f32⟩
  | 45 => ⟨S512, .f32⟩
  | 46 => ⟨S1x1x512, .f32⟩
  | 47 => ⟨S4x2048x512, .f32⟩
  | 48 => ⟨S4x2048x512, .f32⟩
  | 49 => ⟨S4x2048x512, .f32⟩
  | 50 => ⟨S4x2304x512, .f32⟩
  | 51 => ⟨S4x2304x512, .f32⟩
  | 52 => ⟨S4x2304x512, .f32⟩
  | 53 => ⟨S_, .f32⟩
  | 54 => ⟨S4x2304x512, .f32⟩
  | 55 => ⟨S4x2304x512, .f32⟩
  | 56 => ⟨S_, .f32⟩
  | 57 => ⟨S4x2304x512, .f32⟩
  | 58 => ⟨S4x2304x512, .f32⟩
  | 59 => ⟨S4x2304x512, .f32⟩
  | 60 => ⟨S4x2304x4x128, .f32⟩
  | 61 => ⟨S4x2304x4x128, .f32⟩
  | 62 => ⟨S_, .f32⟩
  | 63 => ⟨S4x2304x4, .f32⟩
  | 64 => ⟨S4x2304x4x1, .f32⟩
  | 65 => ⟨S_, .f32⟩
  | 66 => ⟨S4x2304x4x1, .f32⟩
  | 67 => ⟨S4x2304x4x1, .f32⟩
  | 68 => ⟨S4x2304x4x1, .f32⟩
  | 69 => ⟨S4x2304x4x128, .f32⟩
  | 70 => ⟨S4x2304x4x128, .f32⟩
  | 71 => ⟨S_, .f32⟩
  | 72 => ⟨S4x2304x4x128, .f32⟩
  | 73 => ⟨S4x2304x4x128, .f32⟩
  | 74 => ⟨S4x2304x4x128, .f32⟩
  | 75 => ⟨S4x2304x4x128, .f32⟩
  | 76 => ⟨S_, .f32⟩
  | 77 => ⟨S4x2304x4, .f32⟩
  | 78 => ⟨S4x2304x4x1, .f32⟩
  | 79 => ⟨S_, .f32⟩
  | 80 => ⟨S4x2304x4x1, .f32⟩
  | 81 => ⟨S4x2304x4x1, .f32⟩
  | 82 => ⟨S4x2304x4x1, .f32⟩
  | 83 => ⟨S4x2304x4x128, .f32⟩
  | 84 => ⟨S4x2304x4x128, .f32⟩
  | 85 => ⟨S4x2304x512, .f32⟩
  | 86 => ⟨S4x2304x512, .f32⟩
  | _ => ⟨S4x2304x10240, .bf16⟩

abbrev hbmTy (i : Nat) : BufTy := match i / 128 with
  | 0 => hbmTy0_0 i
  | 1 => hbmTy0_1 i
  | _ => ⟨S4x2304x10240, .bf16⟩

abbrev bufTy : (tb : Table) → Fin (tcTables nBuf tb) → BufTy
  | .hbm, ⟨i, _⟩ => hbmTy i
  | _, _ => ⟨S4x2304x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_0 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_call0_v5 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_1 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_cst_2 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_call1_v0 : Ref sig .tc := ⟨.hbm, 118, rfl⟩
abbrev main_call1_v1 : Ref sig .tc := ⟨.hbm, 119, rfl⟩
abbrev main_call1_cst : Ref sig .tc := ⟨.hbm, 120, rfl⟩
abbrev main_call1_v2 : Ref sig .tc := ⟨.hbm, 121, rfl⟩
abbrev main_call1_v3 : Ref sig .tc := ⟨.hbm, 122, rfl⟩
abbrev main_call1_cst_0 : Ref sig .tc := ⟨.hbm, 123, rfl⟩
abbrev main_call1_v4 : Ref sig .tc := ⟨.hbm, 124, rfl⟩
abbrev main_call1_v5 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_3 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_cst_4 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_call2_v0 : Ref sig .tc := ⟨.hbm, 179, rfl⟩
abbrev main_call2_v1 : Ref sig .tc := ⟨.hbm, 180, rfl⟩
abbrev main_call2_cst : Ref sig .tc := ⟨.hbm, 181, rfl⟩
abbrev main_call2_v2 : Ref sig .tc := ⟨.hbm, 182, rfl⟩
abbrev main_call2_v3 : Ref sig .tc := ⟨.hbm, 183, rfl⟩
abbrev main_call2_cst_0 : Ref sig .tc := ⟨.hbm, 184, rfl⟩
abbrev main_call2_v4 : Ref sig .tc := ⟨.hbm, 185, rfl⟩
abbrev main_call2_v5 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_cst_5 : Ref sig .tc := ⟨.hbm, 190, rfl⟩
abbrev main_v156 : Ref sig .tc := ⟨.hbm, 191, rfl⟩
abbrev main_v157 : Ref sig .tc := ⟨.hbm, 192, rfl⟩
abbrev main_cst_6 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_cst_7 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_cst_8 : Ref sig .tc := ⟨.hbm, 204, rfl⟩
abbrev main_v167 : Ref sig .tc := ⟨.hbm, 205, rfl⟩
abbrev main_v168 : Ref sig .tc := ⟨.hbm, 206, rfl⟩
abbrev main_cst_9 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩

abbrev nD : Nat := 1
abbrev τ : Topo := Topo.v7x

variable {F : FTy → Type} [FloatOps F]
-- ==== Win.lean ====
abbrev S9216x1024 : Shape := ⟨2, ![9216, 1024]⟩
abbrev S1024x10240 : Shape := ⟨2, ![1024, 10240]⟩
abbrev S9216x10240 : Shape := ⟨2, ![9216, 10240]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x1024, .bf16⟩
  | .hbm, ⟨1, _⟩ => ⟨S1024x10240, .bf16⟩
  | .hbm, ⟨2, _⟩ => ⟨S9216x10240, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WinRefIdeal.lean ====
abbrev S9216x1024 : Shape := ⟨2, ![9216, 1024]⟩
abbrev S1024x10240 : Shape := ⟨2, ![1024, 10240]⟩
abbrev S9216x10240 : Shape := ⟨2, ![9216, 10240]⟩

abbrev nBuf : Space → Nat
  | .hbm => 6
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x10240, .bf16⟩
  | .hbm, ⟨2, _⟩ => ⟨S9216x1024, .f32⟩
  | .hbm, ⟨3, _⟩ => ⟨S1024x10240, .f32⟩
  | .hbm, ⟨4, _⟩ => ⟨S9216x10240, .f32⟩
  | .hbm, ⟨5, _⟩ => ⟨S9216x10240, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Mlp1.lean ====
abbrev S9216x1024 : Shape := ⟨2, ![9216, 1024]⟩
abbrev S1024x4096 : Shape := ⟨2, ![1024, 4096]⟩
abbrev S9216x4096 : Shape := ⟨2, ![9216, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S9216x1024, .bf16⟩
  | .hbm, ⟨1, _⟩ => ⟨S1024x4096, .bf16⟩
  | .hbm, ⟨2, _⟩ => ⟨S9216x4096, .f32⟩
  | .hbm, ⟨3, _⟩ => ⟨S9216x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![9, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Mlp1RefIdeal.lean ====
abbrev S9216x1024 : Shape := ⟨2, ![9216, 1024]⟩
abbrev S1024x4096 : Shape := ⟨2, ![1024, 4096]⟩
abbrev S9216x4096 : Shape := ⟨2, ![9216, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x4096, .bf16⟩
  | .hbm, ⟨2, _⟩ => ⟨S9216x1024, .f32⟩
  | .hbm, ⟨3, _⟩ => ⟨S1024x4096, .f32⟩
  | .hbm, ⟨4, _⟩ => ⟨S9216x4096, .f32⟩
  | .hbm, ⟨5, _⟩ => ⟨S_, .f32⟩
  | .hbm, ⟨6, _⟩ => ⟨S9216x4096, .f32⟩
  | .hbm, ⟨7, _⟩ => ⟨S9216x4096, .f32⟩
  | .hbm, ⟨8, _⟩ => ⟨S9216x4096, .f32⟩
  | .hbm, ⟨9, _⟩ => ⟨S9216x4096, .bf16⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Mlp2.lean ====
abbrev S9216x4096 : Shape := ⟨2, ![9216, 4096]⟩
abbrev S4096x1024 : Shape := ⟨2, ![4096, 1024]⟩
abbrev S9216x1024 : Shape := ⟨2, ![9216, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S9216x4096, .bf16⟩
  | .hbm, ⟨1, _⟩ => ⟨S4096x1024, .bf16⟩
  | .hbm, ⟨2, _⟩ => ⟨S9216x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![9, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mlp2RefIdeal.lean ====
abbrev S9216x4096 : Shape := ⟨2, ![9216, 4096]⟩
abbrev S4096x1024 : Shape := ⟨2, ![4096, 1024]⟩
abbrev S9216x1024 : Shape := ⟨2, ![9216, 1024]⟩

abbrev nBuf : Space → Nat
  | .hbm => 5
  | .vmem => 0
  | .smem => 0
  | _ => 0

abbrev bufTy : (tb : Table) → Fin (tcTables nBuf tb) → BufTy
  | .hbm, ⟨0, _⟩ => ⟨S9216x4096, .bf16⟩
  | .hbm, ⟨1, _⟩ => ⟨S4096x1024, .bf16⟩
  | .hbm, ⟨2, _⟩ => ⟨S9216x4096, .f32⟩
  | .hbm, ⟨3, _⟩ => ⟨S4096x1024, .f32⟩
  | .hbm, ⟨4, _⟩ => ⟨S9216x1024, .f32⟩
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Wout.lean ====
abbrev S9216x1024 : Shape := ⟨2, ![9216, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S9216x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== WoutRefIdeal.lean ====
abbrev S9216x1024 : Shape := ⟨2, ![9216, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S9216x1024, .bf16⟩
  | .hbm, ⟨1, _⟩ => ⟨S1024x1024, .bf16⟩
  | .hbm, ⟨2, _⟩ => ⟨S9216x1024, .f32⟩
  | .hbm, ⟨3, _⟩ => ⟨S1024x1024, .f32⟩
  | .hbm, ⟨4, _⟩ => ⟨S9216x1024, .f32⟩
  | _, _ => ⟨S9216x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Branch.lean ====
abbrev S9216x512 : Shape := ⟨2, ![9216, 512]⟩
abbrev S512x1024 : Shape := ⟨2, ![512, 1024]⟩
abbrev S9216x1024 : Shape := ⟨2, ![9216, 1024]⟩
abbrev S1024x512 : Shape := ⟨2, ![1024, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S9216x512, .bf16⟩
  | .hbm, ⟨1, _⟩ => ⟨S512x1024, .bf16⟩
  | .hbm, ⟨2, _⟩ => ⟨S9216x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1024x1024, .bf16⟩
  | .local _ .vmem, ⟨4, _⟩ => ⟨S1024x1024, .bf16⟩
  | _, _ => ⟨S9216x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== BranchRefIdeal.lean ====
abbrev S9216x512 : Shape := ⟨2, ![9216, 512]⟩
abbrev S512x1024 : Shape := ⟨2, ![512, 1024]⟩
abbrev S9216x1024 : Shape := ⟨2, ![9216, 1024]⟩

abbrev nBuf : Space → Nat
  | .hbm => 6
  | .vmem => 0
  | .smem => 0
  | _ => 0

abbrev bufTy : (tb : Table) → Fin (tcTables nBuf tb) → BufTy
  | .hbm, ⟨0, _⟩ => ⟨S9216x512, .bf16⟩
  | .hbm, ⟨1, _⟩ => ⟨S512x1024, .bf16⟩
  | .hbm, ⟨2, _⟩ => ⟨S9216x512, .f32⟩
  | .hbm, ⟨3, _⟩ => ⟨S512x1024, .f32⟩
  | .hbm, ⟨4, _⟩ => ⟨S9216x1024, .f32⟩
  | .hbm, ⟨5, _⟩ => ⟨S9216x1024, .bf16⟩
  | _, _ => ⟨S9216x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Finite.lean ====
/- Finite numbers among the extended reals: a sum, a quotient, an exponential and a maximum of finitely many finite numbers
   is the real one, as an extended real. -/
module

public import Idealize.ShloMosaic.PureOps.Ideal
public import Idealize.ShloMosaic.PureOps.Ideal.Laws

@[expose] public section

noncomputable section

open scoped BigOperators

namespace Cert.Fin

open Idealize.ShloMosaic

/-- A finite sum of finite numbers is the real sum. -/
theorem sum_coe {ι : Type*} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A finite number over a finite nonzero one is the real quotient. -/
theorem div_coe {y : ℝ} (h : y ≠ 0) (x : ℝ) : Ideal.div (x : EReal) (y : EReal) = ((x / y : ℝ) : EReal) := by
  rw [Ideal.div_coe h, ← EReal.coe_mul]; congr 1; ring

/-- The maximum, from minus infinity, of finitely many finite numbers, at least one, is some finite number. -/
theorem fold_max_coe {ι : Type*} (s : Finset ι) (hs : s.Nonempty) (f : ι → ℝ) :
    ∃ M : ℝ, s.fold max (⊥ : EReal) (fun i => (f i : EReal)) = (M : EReal) := by
  classical
  induction hs using Finset.Nonempty.cons_induction with
  | singleton a => exact ⟨f a, by simp⟩
  | cons a s ha _ ih =>
    obtain ⟨M, hM⟩ := ih
    exact ⟨max (f a) M, by rw [Finset.fold_cons, hM]; exact (EReal.coe_strictMono.monotone.map_max).symm⟩

/-- An extended real whose absolute value is below plus infinity is a real number. -/
theorem exists_coe {x : EReal} (h : max x (-x) < ⊤) : ∃ r : ℝ, x = (r : EReal) := by
  induction x with
  | bot => simp at h
  | top => simp at h
  | coe r => exact ⟨r, rfl⟩

/-- The word of plus infinity at 32 bits. -/
theorem ofBits_inf : Ideal.ofBits .f32 0x7F800000#32 = ⊤ := by
  simp [Ideal.ofBits, Ideal.ieee]

/-- The word of minus infinity at 32 bits. -/
theorem ofBits_neg_inf : Ideal.ofBits .f32 0xFF800000#32 = ⊥ := by
  simp [Ideal.ofBits, Ideal.ieee]

end Cert.Fin

end
-- ==== Proof.Softmax.lean ====
/- One query's attention and its gradient, over the real numbers. `sc` is the query's score with a key, `pr` its
   probability (the softmax of the scores), `gr` the cotangent of that probability, `ds` the cotangent of the score. Beside
   them the two ways the sums are taken: from the unnormalised exponentials, shifted by any number `M`. -/
module

public import Mathlib.Analysis.SpecialFunctions.Exp
public import Mathlib.Algebra.BigOperators.Field

@[expose] public section

noncomputable section

open scoped BigOperators

namespace Cert.Soft

variable {K D : ℕ}

/-- The score of the query `q` with key `κ`. -/
def sc (q : Fin D → ℝ) (k : Fin K → Fin D → ℝ) (κ : Fin K) : ℝ := ∑ d, q d * k κ d

/-- The probability of key `κ`. -/
def pr (q : Fin D → ℝ) (k : Fin K → Fin D → ℝ) (κ : Fin K) : ℝ := Real.exp (sc q k κ) / ∑ κ', Real.exp (sc q k κ')

/-- The cotangent of the probability of key `κ`: the output's cotangent against the key's value. -/
def gr (ct : Fin D → ℝ) (v : Fin K → Fin D → ℝ) (κ : Fin K) : ℝ := ∑ d, ct d * v κ d

/-- The cotangent of the score of key `κ`: the softmax's gradient. -/
def ds (q : Fin D → ℝ) (k v : Fin K → Fin D → ℝ) (ct : Fin D → ℝ) (κ : Fin K) : ℝ :=
  pr q k κ * (gr ct v κ - ∑ κ', pr q k κ' * gr ct v κ')

/-- The exponential of a score shifted by `M`. -/
def ex (q : Fin D → ℝ) (k : Fin K → Fin D → ℝ) (M : ℝ) (κ : Fin K) : ℝ := Real.exp (sc q k κ - M)

/-- The sum of the shifted exponentials. -/
def tot (q : Fin D → ℝ) (k : Fin K → Fin D → ℝ) (M : ℝ) : ℝ := ∑ κ, ex q k M κ

theorem tot_pos [NeZero K] (q : Fin D → ℝ) (k : Fin K → Fin D → ℝ) (M : ℝ) : 0 < tot q k M :=
  Finset.sum_pos (fun _ _ => Real.exp_pos _) ⟨0, Finset.mem_univ _⟩

theorem tot_ne [NeZero K] (q : Fin D → ℝ) (k : Fin K → Fin D → ℝ) (M : ℝ) : tot q k M ≠ 0 := (tot_pos q k M).ne'

/-- The shift cancels in the quotient. -/
theorem ex_div_tot (q : Fin D → ℝ) (k : Fin K → Fin D → ℝ) (M : ℝ) (κ : Fin K) :
    ex q k M κ / tot q k M = pr q k κ := by
  have h : ∀ κ, ex q k M κ = Real.exp (sc q k κ) * Real.exp (-M) := fun κ => by
    rw [ex, sub_eq_add_neg, Real.exp_add]
  unfold tot pr
  simp only [h]
  rw [← Finset.sum_mul]
  exact mul_div_mul_right _ _ (Real.exp_pos _).ne'

/-- The score's cotangent as the kernel takes it: from the unnormalised output, the reciprocal of the sum inside the
cotangent, and one subtraction per row. -/
theorem ds_of_rows [NeZero K] (q : Fin D → ℝ) (k v : Fin K → Fin D → ℝ) (ct : Fin D → ℝ) (M : ℝ) (κ : Fin K) :
    ((0 - (∑ d, (∑ κ', ex q k M κ' * v κ' d) * ct d) * (1 / (tot q k M * tot q k M)) * 1)
        + ∑ d, ct d * (1 / tot q k M) * v κ d) * ex q k M κ = ds q k v ct κ := by
  have hl := tot_ne q k M
  have h1 : ∑ d, (∑ κ', ex q k M κ' * v κ' d) * ct d = ∑ κ', ex q k M κ' * gr ct v κ' := by
    simp only [gr, Finset.sum_mul, Finset.mul_sum]
    rw [Finset.sum_comm]
    exact Finset.sum_congr rfl fun _ _ => Finset.sum_congr rfl fun _ _ => by ring
  have h2 : ∑ d, ct d * (1 / tot q k M) * v κ d = gr ct v κ / tot q k M := by
    rw [gr, Finset.sum_div]
    exact Finset.sum_congr rfl fun _ _ => by ring
  have h3 : ∑ κ', pr q k κ' * gr ct v κ' = (∑ κ', ex q k M κ' * gr ct v κ') / tot q k M := by
    rw [Finset.sum_div]
    exact Finset.sum_congr rfl fun κ' _ => by rw [← ex_div_tot q k M κ']; ring
  rw [ds, h1, h2, h3, ← ex_div_tot q k M κ]
  field_simp
  ring

/-- The score's cotangent as differentiating the softmax takes it: the quotient's cotangent, and the sum's through the
derivative of the reciprocal. -/
theorem ds_of_quotient [NeZero K] (q : Fin D → ℝ) (k v : Fin K → Fin D → ℝ) (ct : Fin D → ℝ) (M : ℝ) (κ : Fin K) :
    (gr ct v κ / tot q k M
        + (0 + -(∑ κ', gr ct v κ' * (1 / (tot q k M * tot q k M)) * ex q k M κ'))) * ex q k M κ = ds q k v ct κ := by
  have hl := tot_ne q k M
  have h3 : ∑ κ', pr q k κ' * gr ct v κ' = (∑ κ', ex q k M κ' * gr ct v κ') / tot q k M := by
    rw [Finset.sum_div]
    exact Finset.sum_congr rfl fun κ' _ => by rw [← ex_div_tot q k M κ']; ring
  have h4 : ∑ κ', gr ct v κ' * (1 / (tot q k M * tot q k M)) * ex q k M κ'
      = (∑ κ', ex q k M κ' * gr ct v κ') / (tot q k M * tot q k M) := by
    rw [Finset.sum_div]
    exact Finset.sum_congr rfl fun κ' _ => by ring
  rw [ds, h3, h4, ← ex_div_tot q k M κ]
  field_simp
  ring

/-- The probability times the cotangent, from the exponential and the scaled cotangent. -/
theorem ex_mul_scaled (q : Fin D → ℝ) (k : Fin K → Fin D → ℝ) (M c : ℝ) (κ : Fin K) :
    ex q k M κ * (c * (1 / tot q k M)) = pr q k κ * c := by
  rw [← ex_div_tot q k M κ]; ring

end Cert.Soft

end
-- ==== Proof.Stage.lean ====
/- The kernel's operations on whole blocks of finite numbers: each, read at an index, is the operation on the real numbers
   the operands hold. -/
module

public import proofs.«01_k».proof.Proof.Finite
public import proofs.«01_k».proof.Proof.Softmax
public import proofs.«01_k».proof.Proof.Gen.KernelIdeal
public import Idealize.ShloMosaic.Lib.Pointwise
public import Idealize.ShloMosaic.Lib.ValueIdx
public import Idealize.ShloMosaic.Lib.IdealHost
public import Idealize.ShloMosaic.Lib.Pipeline.Value
public import Idealize.ShloMosaic.PureOps.Ideal.Laws

@[expose] public section

noncomputable section

open scoped BigOperators

namespace Cert.KernelIdeal.Stage

open Cert.KernelIdeal Cert.KernelIdeal.Gen
open Idealize.ShloMosaic
open Idealize.ShloMosaic.ValueIdx (addf_apply subf_apply mulf_apply divf_apply)

/-- The matrix `x` holds the real numbers `f`. -/
def Holds {m n : ℕ} {φ : FTy} (x : FVec Ideal ⟨2, ![m, n]⟩ φ) (f : Fin m → Fin n → ℝ) : Prop :=
  ∀ r c, x (ix2 r c) = (f r c : EReal)

variable {φ₁ φ₂ : FTy}

/-- Scores: rows of one matrix against rows of the other. -/
theorem holds_scores {x : FVec Ideal S512x64 φ₁} {y : FVec Ideal S2304x64 φ₂} {q : Fin 512 → Fin 64 → ℝ} {k : Fin 2304 → Fin 64 → ℝ}
    (hx : Holds x q) (hy : Holds y k) :
    Holds (matmul dot_S512x64_S2304x64_S512x2304_1_1_0_0_n_n none x y (constant S512x2304 .f32 0x00000000#32) : FVec Ideal S512x2304 .f32)
      (fun r κ => ∑ d, q r d * k κ d) := fun r κ => by
  simp only [pointwise, Ideal.ofBits_zero_f32, zero_add]
  rw [← Cert.Fin.sum_coe]
  exact Finset.sum_congr rfl fun d _ => by rw [EReal.coe_mul]; exact congrArg₂ (· * ·) (hx r d) (hy κ d)

/-- A plain product. -/
theorem holds_out {x : FVec Ideal S512x2304 φ₁} {y : FVec Ideal S2304x64 φ₂} {e : Fin 512 → Fin 2304 → ℝ} {v : Fin 2304 → Fin 64 → ℝ}
    (hx : Holds x e) (hy : Holds y v) :
    Holds (matmul dot_S512x2304_S2304x64_S512x64_1_0_0_1_n_n none x y (constant S512x64 .f32 0x00000000#32) : FVec Ideal S512x64 .f32)
      (fun r d => ∑ κ, e r κ * v κ d) := fun r d => by
  simp only [pointwise, Ideal.ofBits_zero_f32, zero_add]
  rw [← Cert.Fin.sum_coe]
  exact Finset.sum_congr rfl fun κ _ => by rw [EReal.coe_mul]; exact congrArg₂ (· * ·) (hx r κ) (hy κ d)

/-- A product over the rows of both matrices. -/
theorem holds_rows {x : FVec Ideal S512x2304 φ₁} {y : FVec Ideal S512x64 φ₂} {e : Fin 512 → Fin 2304 → ℝ} {c : Fin 512 → Fin 64 → ℝ}
    (hx : Holds x e) (hy : Holds y c) :
    Holds (matmul dot_S512x2304_S512x64_S2304x64_0_0_1_1_n_n none x y (constant S2304x64 .f32 0x00000000#32) : FVec Ideal S2304x64 .f32)
      (fun κ d => ∑ r, e r κ * c r d) := fun κ d => by
  simp only [pointwise, Ideal.ofBits_zero_f32, zero_add]
  rw [← Cert.Fin.sum_coe]
  exact Finset.sum_congr rfl fun r _ => by rw [EReal.coe_mul]; exact congrArg₂ (· * ·) (hx r κ) (hy r d)

theorem lift_row {m n : ℕ} (h : Shape.Reduces ⟨2, ![m, n]⟩ [1] ⟨1, ![m]⟩) (r : Fin m) (c : Fin n) : h.lift (ix1 r) c = ix2 r c := by
  funext a; apply Fin.ext
  match a with
  | ⟨0, _⟩ => rfl
  | ⟨1, _⟩ => rfl

/-- A vector of row values, as a column. -/
theorem column_apply (x : FVec Ideal S512 .f32) (r : Fin 512) (z : Fin 1) :
    (shapeCast S512x1 x shapeCasts_S512_S512x1 : FVec Ideal S512x1 .f32) (ix2 r z) = x (ix1 r) := by
  refine shapeCast_apply _ _ _ _ ?_
  rw [show z = 0 from Subsingleton.elim _ _]
  rfl

/-- The rows' sums, as a column. -/
theorem holds_rowSum {x : FVec Ideal S512x2304 .f32} {e : Fin 512 → Fin 2304 → ℝ} (hx : Holds x e) :
    Holds (shapeCast S512x1 (multiReduction .add [1] S512 x 0x00000000#32 reduces_S512x2304_S512 (.inl rfl) rfl) shapeCasts_S512_S512x1
      : FVec Ideal S512x1 .f32) (fun r _ => ∑ κ, e r κ) := fun r z => by
  rw [column_apply]
  refine (Ideal.multiReduction_add_single _ _ _ _ _ _).trans ?_
  rw [← Cert.Fin.sum_coe]
  exact Finset.sum_congr rfl fun κ _ => (congrArg x (lift_row _ r κ)).trans (hx r κ)

theorem holds_rowSum64 {x : FVec Ideal S512x64 .f32} {e : Fin 512 → Fin 64 → ℝ} (hx : Holds x e) :
    Holds (shapeCast S512x1 (multiReduction .add [1] S512 x 0x00000000#32 reduces_S512x64_S512 (.inl rfl) rfl) shapeCasts_S512_S512x1
      : FVec Ideal S512x1 .f32) (fun r _ => ∑ κ, e r κ) := fun r z => by
  rw [column_apply]
  refine (Ideal.multiReduction_add_single _ _ _ _ _ _).trans ?_
  rw [← Cert.Fin.sum_coe]
  exact Finset.sum_congr rfl fun κ _ => (congrArg x (lift_row _ r κ)).trans (hx r κ)

theorem holds_rowSum1 {x : FVec Ideal S512x1 .f32} {e : Fin 512 → Fin 1 → ℝ} (hx : Holds x e) :
    Holds (shapeCast S512x1 (multiReduction .add [1] S512 x 0x00000000#32 reduces_S512x1_S512 (.inl rfl) rfl) shapeCasts_S512_S512x1
      : FVec Ideal S512x1 .f32) (fun r _ => e r 0) := fun r z => by
  rw [column_apply]
  refine (Ideal.multiReduction_add_single _ _ _ _ _ _).trans ?_
  refine (Fin.sum_univ_one _).trans ?_
  exact (congrArg x (lift_row _ r 0)).trans (hx r 0)

/-- The rows' maxima are finite. -/
theorem exists_rowMax {x : FVec Ideal S512x2304 .f32} {s : Fin 512 → Fin 2304 → ℝ} (hx : Holds x s) :
    ∃ M : Fin 512 → ℝ, Holds (shapeCast S512x1 (multiReduction .maximumf [1] S512 x 0xFF800000#32 reduces_S512x2304_S512 (.inl rfl) rfl)
      shapeCasts_S512_S512x1 : FVec Ideal S512x1 .f32) (fun r _ => M r) := by
  have h : ∀ r : Fin 512, ∃ M : ℝ, (multiReduction .maximumf [1] S512 x 0xFF800000#32 reduces_S512x2304_S512 (.inl rfl) rfl
      : FVec Ideal S512 .f32) (ix1 r) = (M : EReal) := fun r => by
    obtain ⟨M, hM⟩ := Cert.Fin.fold_max_coe (Finset.univ : Finset (Fin 2304)) ⟨0, Finset.mem_univ _⟩ (s r)
    refine ⟨M, (Ideal.multiReduction_maximumf_single _ _ _ _ _ _).trans (Eq.trans ?_ hM)⟩
    have e : (x ∘ (reduces_S512x2304_S512).lift (ix1 r)) = fun κ => (s r κ : EReal) :=
      funext fun κ => (congrArg x (lift_row _ r κ)).trans (hx r κ)
    rw [e]
    show Finset.fold max (Ideal.ofBits .f32 0xFF800000#32) _ _ = _
    rw [Cert.Fin.ofBits_neg_inf]
    rfl
  choose M hM using h
  exact ⟨M, fun r z => (column_apply _ r z).trans (hM r)⟩

/-- A column along the rows. -/
theorem holds_alongRows {x : FVec Ideal S512x1 .f32} {c : Fin 512 → Fin 1 → ℝ} (hx : Holds x c) :
    Holds (broadcastTo S512x2304 x broadcasts_S512x1_S512x2304 : FVec Ideal S512x2304 .f32) (fun r _ => c r 0) := fun r κ => by
  simp only [pointwise]
  exact hx r 0

theorem holds_alongRows64 {x : FVec Ideal S512x1 .f32} {c : Fin 512 → Fin 1 → ℝ} (hx : Holds x c) :
    Holds (broadcastTo S512x64 x broadcasts_S512x1_S512x64 : FVec Ideal S512x64 .f32) (fun r _ => c r 0) := fun r κ => by
  simp only [pointwise]
  exact hx r 0

section Elementwise
variable {m n : ℕ} {x y : FVec Ideal ⟨2, ![m, n]⟩ .f32} {f g : Fin m → Fin n → ℝ}

theorem holds_add (hx : Holds x f) (hy : Holds y g) : Holds (addf x y) (fun r c => f r c + g r c) := fun r c => by
  rw [addf_apply, hx, hy, EReal.coe_add]

theorem holds_sub (hx : Holds x f) (hy : Holds y g) : Holds (subf x y) (fun r c => f r c - g r c) := fun r c => by
  rw [subf_apply, hx, hy, EReal.coe_sub]

theorem holds_mul (hx : Holds x f) (hy : Holds y g) : Holds (mulf x y) (fun r c => f r c * g r c) := fun r c => by
  rw [mulf_apply, hx, hy, EReal.coe_mul]

theorem holds_div (hx : Holds x f) (hy : Holds y g) (h0 : ∀ r c, g r c ≠ 0) : Holds (divf x y) (fun r c => f r c / g r c) := fun r c => by
  rw [divf_apply, hx, hy, Cert.Fin.div_coe (h0 r c)]

theorem holds_exp (hx : Holds x f) : Holds (exp x) (fun r c => Real.exp (f r c)) := fun r c => by
  show Ideal.exp (x (ix2 r c)) = _
  rw [hx, Ideal.exp_coe]

theorem holds_one : Holds (broadcast ⟨2, ![m, n]⟩ (Scalar.ofBits .f32 0x3F800000#32) : FVec Ideal ⟨2, ![m, n]⟩ .f32) (fun _ _ => 1) :=
  fun r c => by
    show Ideal.ofBits .f32 0x3F800000#32 = _
    rw [Ideal.ofBits_one_f32]; rfl

theorem holds_zero : Holds (broadcast ⟨2, ![m, n]⟩ (Scalar.ofBits .f32 0x00000000#32) : FVec Ideal ⟨2, ![m, n]⟩ .f32) (fun _ _ => 0) :=
  fun r c => by
    show Ideal.ofBits .f32 0x00000000#32 = _
    rw [Ideal.ofBits_zero_f32]; rfl

/-- A change of format leaves what a matrix holds. -/
theorem holds_narrow (hx : Holds x f) (h : FTy.bits .bf16 < FTy.bits .f32) : Holds (truncf .bf16 x h) f := fun r c => hx r c

theorem holds_wide {w : FVec Ideal ⟨2, ![m, n]⟩ .bf16} (hw : Holds w f) (h : FTy.bits .bf16 < FTy.bits .f32) : Holds (extf .f32 w h) f :=
  fun r c => hw r c

end Elementwise

theorem Holds.of_eq {m n : ℕ} {φ : FTy} {x : FVec Ideal ⟨2, ![m, n]⟩ φ} {f g : Fin m → Fin n → ℝ} (hx : Holds x f) (h : ∀ r c, f r c = g r c) :
    Holds x g := fun r c => (hx r c).trans (congrArg _ (h r c))

end Cert.KernelIdeal.Stage

end
-- ==== Proof.Block.lean ====
/- What one block of the attention's backward kernel computes, per key-value group: four heads' queries, one above the
   other, against the group's keys and values. -/
module

public import proofs.«01_k».proof.Proof.Stage
public import proofs.«01_k».proof.Proof.Gen.KernelIdeal.Skeleton

@[expose] public section

noncomputable section

open scoped BigOperators

namespace Cert.KernelIdeal.Block

open Cert.KernelIdeal Cert.KernelIdeal.Gen Cert.KernelIdeal.Stage
open Idealize.ShloMosaic
open Idealize.ShloMosaic.ValueIdx (addf_apply subf_apply mulf_apply divf_apply)

/-- Row `i` of the `j`-th of four heads. -/
def row (j : Fin 4) (i : Fin 128) : Fin 512 := ⟨128 * j.val + i.val, by omega⟩

/-- Four heads one above the other hold the heads' rows. -/
theorem holds_stack {a b c d : FVec Ideal S128x64 .f32} {q : Fin 512 → Fin 64 → ℝ}
    (ha : Holds a fun i => q (row 0 i)) (hb : Holds b fun i => q (row 1 i))
    (hc : Holds c fun i => q (row 2 i)) (hd : Holds d fun i => q (row 3 i)) :
    Holds (concatenate S512x64 0 [⟨S128x64, a⟩, ⟨S128x64, b⟩, ⟨S128x64, c⟩, ⟨S128x64, d⟩]
      concatenates_S128x64_S128x64_S128x64_S128x64_S512x64_d0 : FVec Ideal S512x64 .f32) q := fun r e => by
  simp only [pointwise]
  split
  · refine (ha _ _).trans (congrArg _ (congrArg₂ q (Fin.ext ?_) (Fin.ext ?_))) <;> simp [row]
  · split
    · rename_i h1 h2
      simp at h1 h2
      refine (hb _ _).trans (congrArg _ (congrArg₂ q (Fin.ext ?_) (Fin.ext ?_))) <;> simp [row]
      omega
    · split
      · rename_i h1 h2 h3
        simp at h1 h2 h3
        refine (hc _ _).trans (congrArg _ (congrArg₂ q (Fin.ext ?_) (Fin.ext ?_))) <;> simp [row]
        omega
      · rename_i h1 h2 h3
        simp at h1 h2 h3
        refine (hd _ _).trans (congrArg _ (congrArg₂ q (Fin.ext ?_) (Fin.ext ?_))) <;> simp [row]
        omega

/-- The last three heads' cotangents, each among rows of zeros, added: the first head's rows are zero. -/
theorem holds_pad {a b c : FVec Ideal S128x64 .f32} {q : Fin 512 → Fin 64 → ℝ}
    (ha : Holds a fun i => q (row 1 i)) (hb : Holds b fun i => q (row 2 i)) (hc : Holds c fun i => q (row 3 i)) :
    Holds (k0_pay43 a b c : FVec Ideal S512x64 .f32) (fun r e => if r.val < 128 then 0 else q r e) := fun r e => by
  unfold k0_pay43
  simp only [pointwise]
  have A : ∀ (i : Fin 128) (e' : Fin 64), 128 + i.val = r.val → e'.val = e.val → a (ix2 i e') = (q r e : EReal) := fun i e' h h' =>
    (ha i e').trans (congrArg _ (congrArg₂ q (Fin.ext (by simp [row]; omega)) (Fin.ext h')))
  have B : ∀ (i : Fin 128) (e' : Fin 64), 256 + i.val = r.val → e'.val = e.val → b (ix2 i e') = (q r e : EReal) := fun i e' h h' =>
    (hb i e').trans (congrArg _ (congrArg₂ q (Fin.ext (by simp [row]; omega)) (Fin.ext h')))
  have C : ∀ (i : Fin 128) (e' : Fin 64), 384 + i.val = r.val → e'.val = e.val → c (ix2 i e') = (q r e : EReal) := fun i e' h h' =>
    (hc i e').trans (congrArg _ (congrArg₂ q (Fin.ext (by simp [row]; omega)) (Fin.ext h')))
  by_cases h1 : r.val < 128
  · simp [h1, show r.val < 384 by omega, show r.val < 256 by omega]
  · by_cases h2 : r.val < 256
    · simp only [h1, h2, show r.val < 384 by omega, dite_true, dite_false, if_false, zero_add, add_zero]
      exact A _ _ (by simp; omega) (by simp)
    · by_cases h3 : r.val < 384
      · simp only [h1, h2, h3, dite_true, dite_false, if_false, zero_add, add_zero]
        exact B _ _ (by simp; omega) (by simp)
      · simp only [h1, h2, h3, dite_true, dite_false, if_false, zero_add, add_zero]
        exact C _ _ (by simp; omega) (by simp)

/-- The first head's cotangent above rows of zeros. -/
theorem holds_top {a : FVec Ideal S128x64 .f32} {q : Fin 512 → Fin 64 → ℝ} (ha : Holds a fun i => q (row 0 i)) :
    Holds (k0_pay44 a : FVec Ideal S512x64 .f32) (fun r e => if r.val < 128 then q r e else 0) := fun r e => by
  unfold k0_pay44
  simp only [pointwise]
  by_cases h1 : r.val < 128
  · simp only [h1, dite_true, if_true]
    exact (ha _ _).trans (congrArg _ (congrArg₂ q (Fin.ext (by simp [row])) (Fin.ext (by simp))))
  · simp [h1]

/-- The four heads' cotangents. -/
theorem holds_ct {a b c d : FVec Ideal S128x64 .f32} {q : Fin 512 → Fin 64 → ℝ}
    (ha : Holds a fun i => q (row 0 i)) (hb : Holds b fun i => q (row 1 i))
    (hc : Holds c fun i => q (row 2 i)) (hd : Holds d fun i => q (row 3 i)) :
    Holds (k0_pay45 (k0_pay43 b c d) (k0_pay44 a) : FVec Ideal S512x64 .f32) q :=
  (holds_add (holds_pad hb hc hd) (holds_top ha)).of_eq fun r e => by
    by_cases h : r.val < 128 <;> simp [h]

/-! ## One group: queries `q` (512 rows), keys `k`, values `v`, cotangent `ct` -/

section Group

variable {q ct : Fin 512 → Fin 64 → ℝ} {k v : Fin 2304 → Fin 64 → ℝ}

/-- The unnormalised exponentials, each row's scores shifted by some finite number. -/
theorem exists_exps {Q : FVec Ideal S512x64 .f32} {Kb : FVec Ideal S2304x64 .f32} (hQ : Holds Q q) (hK : Holds Kb k) :
    ∃ M : Fin 512 → ℝ, Holds (exp (subf (matmul dot_S512x64_S2304x64_S512x2304_1_1_0_0_n_n none (truncf .bf16 Q bitsLt_bf16_f32)
          (truncf .bf16 Kb bitsLt_bf16_f32) (constant S512x2304 .f32 0x00000000#32))
        (broadcastTo S512x2304 (shapeCast S512x1 (multiReduction .maximumf [1] S512
          (matmul dot_S512x64_S2304x64_S512x2304_1_1_0_0_n_n none (truncf .bf16 Q bitsLt_bf16_f32)
            (truncf .bf16 Kb bitsLt_bf16_f32) (constant S512x2304 .f32 0x00000000#32))
          0xFF800000#32 reduces_S512x2304_S512 (.inl rfl) rfl) shapeCasts_S512_S512x1) broadcasts_S512x1_S512x2304))
        : FVec Ideal S512x2304 .f32) (fun r κ => Soft.ex (q r) k (M r) κ) := by
  have hs := holds_scores (holds_narrow hQ bitsLt_bf16_f32) (holds_narrow hK bitsLt_bf16_f32)
  obtain ⟨M, hM⟩ := exists_rowMax hs
  exact ⟨M, holds_exp (holds_sub hs (holds_alongRows hM))⟩

variable {M : Fin 512 → ℝ} {E : FVec Ideal S512x2304 .f32} {O : FVec Ideal S512x64 .f32} {L R L2 : FVec Ideal S512x1 .f32}
  {C : FVec Ideal S512x64 .f32} {Kb Vb : FVec Ideal S2304x64 .f32} {Q : FVec Ideal S512x64 .f32}

/-- One over the rows' sums. -/
theorem holds_recip (hL : Holds L fun r _ => Soft.tot (q r) k (M r)) :
    Holds (divf (broadcast S512x1 (Scalar.ofBits .f32 0x3F800000#32)) L : FVec Ideal S512x1 .f32) (fun r _ => 1 / Soft.tot (q r) k (M r)) :=
  holds_div holds_one hL fun r _ => Soft.tot_ne _ _ _

/-- One over the squares of the rows' sums. -/
theorem holds_recip2 (hL : Holds L fun r _ => Soft.tot (q r) k (M r)) :
    Holds (divf (broadcast S512x1 (Scalar.ofBits .f32 0x3F800000#32)) (mulf L L) : FVec Ideal S512x1 .f32)
      (fun r _ => 1 / (Soft.tot (q r) k (M r) * Soft.tot (q r) k (M r))) :=
  holds_div holds_one (holds_mul hL hL) fun r _ => mul_ne_zero (Soft.tot_ne _ _ _) (Soft.tot_ne _ _ _)

/-- The scaled cotangent. -/
theorem holds_scaled (hC : Holds C ct) (hR : Holds R fun r _ => 1 / Soft.tot (q r) k (M r)) :
    Holds (mulf C (broadcastTo S512x64 R broadcasts_S512x1_S512x64) : FVec Ideal S512x64 .f32)
      (fun r d => ct r d * (1 / Soft.tot (q r) k (M r))) := holds_mul hC (holds_alongRows64 hR)

/-- The values' gradient: over the group's queries, probability times cotangent. -/
theorem holds_dv (hE : Holds E fun r κ => Soft.ex (q r) k (M r) κ) (hC : Holds C ct) (hR : Holds R fun r _ => 1 / Soft.tot (q r) k (M r)) :
    Holds (matmul dot_S512x2304_S512x64_S2304x64_0_0_1_1_n_n none (truncf .bf16 E bitsLt_bf16_f32)
        (truncf .bf16 (mulf C (broadcastTo S512x64 R broadcasts_S512x1_S512x64)) bitsLt_bf16_f32) (constant S2304x64 .f32 0x00000000#32)
        : FVec Ideal S2304x64 .f32)
      (fun κ d => ∑ r, Soft.pr (q r) k κ * ct r d) :=
  (holds_rows (holds_narrow hE bitsLt_bf16_f32) (holds_narrow (holds_scaled hC hR) bitsLt_bf16_f32)).of_eq fun κ d =>
    Finset.sum_congr rfl fun r _ => Soft.ex_mul_scaled _ _ _ _ _

/-- The scores' cotangent. -/
theorem holds_ds (hE : Holds E fun r κ => Soft.ex (q r) k (M r) κ)
    (hO : Holds O fun r d => ∑ κ, Soft.ex (q r) k (M r) κ * v κ d) (hC : Holds C ct)
    (hR : Holds R fun r _ => 1 / Soft.tot (q r) k (M r))
    (hL2 : Holds L2 fun r _ => 1 / (Soft.tot (q r) k (M r) * Soft.tot (q r) k (M r))) (hV : Holds Vb v) :
    Holds (mulf (addf (broadcastTo S512x2304 (shapeCast S512x1 (multiReduction .add [1] S512
            (subf (broadcast S512x1 (Scalar.ofBits .f32 0x00000000#32)) (mulf (mulf (shapeCast S512x1 (multiReduction .add [1] S512
              (mulf O C) 0x00000000#32 reduces_S512x64_S512 (.inl rfl) rfl) shapeCasts_S512_S512x1) L2)
              (broadcast S512x1 (Scalar.ofBits .f32 0x3F800000#32))))
            0x00000000#32 reduces_S512x1_S512 (.inl rfl) rfl) shapeCasts_S512_S512x1) broadcasts_S512x1_S512x2304)
          (matmul dot_S512x64_S2304x64_S512x2304_1_1_0_0_n_n none
            (truncf .bf16 (mulf C (broadcastTo S512x64 R broadcasts_S512x1_S512x64)) bitsLt_bf16_f32)
            (truncf .bf16 Vb bitsLt_bf16_f32) (constant S512x2304 .f32 0x00000000#32))) E : FVec Ideal S512x2304 .f32)
      (fun r κ => Soft.ds (q r) k v (ct r) κ) :=
  (holds_mul (holds_add (holds_alongRows (holds_rowSum1 (holds_sub holds_zero
      (holds_mul (holds_mul (holds_rowSum64 (holds_mul hO hC)) hL2) holds_one))))
    (holds_scores (holds_narrow (holds_scaled hC hR) bitsLt_bf16_f32) (holds_narrow hV bitsLt_bf16_f32))) hE).of_eq fun r κ =>
      Soft.ds_of_rows (q r) k v (ct r) (M r) κ

end Group

/-! ## The payloads -/

section Payloads

variable {q ct : Fin 512 → Fin 64 → ℝ} {k v : Fin 2304 → Fin 64 → ℝ}
  {q0 q1 q2 q3 : FVec Ideal S128x64 .f32} {kb : FVec Ideal S2304x64 .bf16} {vb : Vec Ideal S1x2304x64 .bf16}
  {c0 c1 c2 c3 : FVec Ideal S128x64 .f32}

/-- What the first group's block computes: its queries' gradient, and its share of the keys' and the values'. -/
theorem group0 (h0 : Holds q0 fun i => q (row 0 i)) (h1 : Holds q1 fun i => q (row 1 i))
    (h2 : Holds q2 fun i => q (row 2 i)) (h3 : Holds q3 fun i => q (row 3 i)) (hk : Holds kb k) (hv : Holds (k0_pay13 vb) v)
    (g0 : Holds c0 fun i => ct (row 0 i)) (g1 : Holds c1 fun i => ct (row 1 i))
    (g2 : Holds c2 fun i => ct (row 2 i)) (g3 : Holds c3 fun i => ct (row 3 i)) :
    Holds (k0_pay49 (k0_pay11 kb) (k0_pay13 vb) (k0_pay16 q0 q1 q2 q3 kb) (k0_pay17 q0 q1 q2 q3 kb vb) (k0_pay19 q0 q1 q2 q3 kb)
        (k0_pay20 q0 q1 q2 q3 kb) (k0_pay43 c1 c2 c3) (k0_pay44 c0)) (fun r d => ∑ κ, Soft.ds (q r) k v (ct r) κ * k κ d)
    ∧ Holds (k0_pay50 (k0_pay13 vb) (k0_pay15 q0 q1 q2 q3) (k0_pay16 q0 q1 q2 q3 kb) (k0_pay17 q0 q1 q2 q3 kb vb)
        (k0_pay19 q0 q1 q2 q3 kb) (k0_pay20 q0 q1 q2 q3 kb) (k0_pay43 c1 c2 c3) (k0_pay44 c0))
        (fun κ d => ∑ r, Soft.ds (q r) k v (ct r) κ * q r d)
    ∧ Holds (k0_pay47 (k0_pay16 q0 q1 q2 q3 kb) (k0_pay19 q0 q1 q2 q3 kb) (k0_pay43 c1 c2 c3) (k0_pay44 c0))
        (fun κ d => ∑ r, Soft.pr (q r) k κ * ct r d) := by
  have hQ : Holds (k0_pay15 q0 q1 q2 q3) q := holds_stack h0 h1 h2 h3
  have hK : Holds (k0_pay11 kb) k := holds_wide hk bitsLt_bf16_f32
  obtain ⟨M, hE⟩ := exists_exps hQ hK
  change Holds (k0_pay16 q0 q1 q2 q3 kb) _ at hE
  have hL : Holds (k0_pay18 q0 q1 q2 q3 kb) fun r _ => Soft.tot (q r) k (M r) := holds_rowSum hE
  have hR : Holds (k0_pay19 q0 q1 q2 q3 kb) fun r _ => 1 / Soft.tot (q r) k (M r) := holds_recip hL
  have hR2 : Holds (k0_pay20 q0 q1 q2 q3 kb) fun r _ => 1 / (Soft.tot (q r) k (M r) * Soft.tot (q r) k (M r)) := holds_recip2 hL
  have hO : Holds (k0_pay17 q0 q1 q2 q3 kb vb) fun r d => ∑ κ, Soft.ex (q r) k (M r) κ * v κ d :=
    holds_out (holds_narrow hE bitsLt_bf16_f32) (holds_narrow hv bitsLt_bf16_f32)
  have hC : Holds (k0_pay45 (k0_pay43 c1 c2 c3) (k0_pay44 c0)) ct := holds_ct g0 g1 g2 g3
  have hD : Holds (k0_pay48 (k0_pay13 vb) (k0_pay16 q0 q1 q2 q3 kb) (k0_pay17 q0 q1 q2 q3 kb vb) (k0_pay19 q0 q1 q2 q3 kb)
      (k0_pay20 q0 q1 q2 q3 kb) (k0_pay43 c1 c2 c3) (k0_pay44 c0)) (fun r κ => Soft.ds (q r) k v (ct r) κ) :=
    holds_ds hE hO hC hR hR2 hv
  exact ⟨holds_out (holds_narrow hD bitsLt_bf16_f32) (holds_narrow hK bitsLt_bf16_f32),
    holds_rows (holds_narrow hD bitsLt_bf16_f32) (holds_narrow hQ bitsLt_bf16_f32), holds_dv hE hC hR⟩

/-- The second group's cotangent is put together like the first's, one head's shape cast later. -/
theorem holds_ct' {b c d : Vec Ideal S1x128x64 .f32}
    (g0 : Holds c0 fun i => ct (row 0 i)) (g1 : Holds (k0_pay27 b) fun i => ct (row 1 i))
    (g2 : Holds (k0_pay27 c) fun i => ct (row 2 i)) (g3 : Holds (k0_pay27 d) fun i => ct (row 3 i)) :
    Holds (k0_pay33 c0 (k0_pay32 b c d) (Scalar.ofBits .f32 0x00000000#32)) ct := holds_ct g0 g1 g2 g3

/-- What the second group's block computes. -/
theorem group1 {b c d : Vec Ideal S1x128x64 .f32} (h0 : Holds q0 fun i => q (row 0 i)) (h1 : Holds q1 fun i => q (row 1 i))
    (h2 : Holds q2 fun i => q (row 2 i)) (h3 : Holds q3 fun i => q (row 3 i)) (hk : Holds kb k) (hv : Holds (k0_pay14 vb) v)
    (g0 : Holds c0 fun i => ct (row 0 i)) (g1 : Holds (k0_pay27 b) fun i => ct (row 1 i))
    (g2 : Holds (k0_pay27 c) fun i => ct (row 2 i)) (g3 : Holds (k0_pay27 d) fun i => ct (row 3 i)) :
    Holds (k0_pay37 (k0_pay12 kb) (k0_pay14 vb) (k0_pay22 q0 q1 q2 q3 kb) (k0_pay23 q0 q1 q2 q3 kb vb) (k0_pay25 q0 q1 q2 q3 kb)
        (k0_pay26 (k0_pay24 q0 q1 q2 q3 kb)) c0 (k0_pay32 b c d) (Scalar.ofBits .f32 0x00000000#32))
        (fun r d => ∑ κ, Soft.ds (q r) k v (ct r) κ * k κ d)
    ∧ Holds (k0_pay38 (k0_pay14 vb) (k0_pay21 q0 q1 q2 q3) (k0_pay22 q0 q1 q2 q3 kb) (k0_pay23 q0 q1 q2 q3 kb vb)
        (k0_pay25 q0 q1 q2 q3 kb) (k0_pay26 (k0_pay24 q0 q1 q2 q3 kb)) c0 (k0_pay32 b c d) (Scalar.ofBits .f32 0x00000000#32))
        (fun κ d => ∑ r, Soft.ds (q r) k v (ct r) κ * q r d)
    ∧ Holds (k0_pay35 (k0_pay22 q0 q1 q2 q3 kb) (k0_pay25 q0 q1 q2 q3 kb) c0 (k0_pay32 b c d) (Scalar.ofBits .f32 0x00000000#32))
        (fun κ d => ∑ r, Soft.pr (q r) k κ * ct r d) := by
  have hQ : Holds (k0_pay21 q0 q1 q2 q3) q := holds_stack h0 h1 h2 h3
  have hK : Holds (k0_pay12 kb) k := holds_wide hk bitsLt_bf16_f32
  obtain ⟨M, hE⟩ := exists_exps hQ hK
  change Holds (k0_pay22 q0 q1 q2 q3 kb) _ at hE
  have hL : Holds (k0_pay24 q0 q1 q2 q3 kb) fun r _ => Soft.tot (q r) k (M r) := holds_rowSum hE
  have hR : Holds (k0_pay25 q0 q1 q2 q3 kb) fun r _ => 1 / Soft.tot (q r) k (M r) := holds_recip hL
  have hR2 : Holds (k0_pay26 (k0_pay24 q0 q1 q2 q3 kb)) fun r _ => 1 / (Soft.tot (q r) k (M r) * Soft.tot (q r) k (M r)) := holds_recip2 hL
  have hO : Holds (k0_pay23 q0 q1 q2 q3 kb vb) fun r d => ∑ κ, Soft.ex (q r) k (M r) κ * v κ d :=
    holds_out (holds_narrow hE bitsLt_bf16_f32) (holds_narrow hv bitsLt_bf16_f32)
  have hC := holds_ct' g0 g1 g2 g3
  have hD : Holds (k0_pay36 (k0_pay14 vb) (k0_pay22 q0 q1 q2 q3 kb) (k0_pay23 q0 q1 q2 q3 kb vb) (k0_pay25 q0 q1 q2 q3 kb)
      (k0_pay26 (k0_pay24 q0 q1 q2 q3 kb)) c0 (k0_pay32 b c d) (Scalar.ofBits .f32 0x00000000#32)) (fun r κ => Soft.ds (q r) k v (ct r) κ) :=
    holds_ds hE hO hC hR hR2 hv
  exact ⟨holds_out (holds_narrow hD bitsLt_bf16_f32) (holds_narrow hK bitsLt_bf16_f32),
    holds_rows (holds_narrow hD bitsLt_bf16_f32) (holds_narrow hQ bitsLt_bf16_f32), holds_dv hE hC hR⟩

end Payloads

end Cert.KernelIdeal.Block

end
-- ==== Proof.Outs.lean ====
/- What one run of the kernel's body leaves in its three output blocks, as the pieces it stores: eight heads of the queries'
   gradient, and two groups of the keys' and of the values', the first run of a batch storing and a later one adding. -/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Outs

open Cert.KernelIdeal Cert.KernelIdeal.Gen
open Idealize.ShloMosaic Idealize.ShloMosaic.TcCoe

variable {F : FTy → Type} [FloatOps F]

section Terms
variable (x0 : Vec F S1x128x512 .bf16) (x1 x2 : Vec F S1x2304x128 .bf16) (x3 : Vec F S1x128x512 .f32)

/-- Head 0's queries. -/
def qh0 : FVec F S128x64 .f32 := k0_pay1 (View.ld x0 (Rect.unit ![0, 0, 0] ![1, 128, 64] inb_S1x128x512_S1x128x64_0_0_0))

/-- Head 1's queries. -/
def qh1 : FVec F S128x64 .f32 := k0_pay2 (View.ld x0 (Rect.unit ![0, 0, 64] ![1, 128, 64] inb_S1x128x512_S1x128x64_0_0_64))

/-- Head 2's queries. -/
def qh2 : FVec F S128x64 .f32 := k0_pay3 (View.ld x0 (Rect.unit ![0, 0, 128] ![1, 128, 64] inb_S1x128x512_S1x128x64_0_0_128))

/-- Head 3's queries. -/
def qh3 : FVec F S128x64 .f32 := k0_pay4 (View.ld x0 (Rect.unit ![0, 0, 192] ![1, 128, 64] inb_S1x128x512_S1x128x64_0_0_192))

/-- Head 4's queries. -/
def qh4 : FVec F S128x64 .f32 := k0_pay5 (View.ld x0 (Rect.unit ![0, 0, 256] ![1, 128, 64] inb_S1x128x512_S1x128x64_0_0_256))

/-- Head 5's queries. -/
def qh5 : FVec F S128x64 .f32 := k0_pay6 (View.ld x0 (Rect.unit ![0, 0, 320] ![1, 128, 64] inb_S1x128x512_S1x128x64_0_0_320))

/-- Head 6's queries. -/
def qh6 : FVec F S128x64 .f32 := k0_pay7 (View.ld x0 (Rect.unit ![0, 0, 384] ![1, 128, 64] inb_S1x128x512_S1x128x64_0_0_384))

/-- Head 7's queries. -/
def qh7 : FVec F S128x64 .f32 := k0_pay8 (View.ld x0 (Rect.unit ![0, 0, 448] ![1, 128, 64] inb_S1x128x512_S1x128x64_0_0_448))

/-- Head 0's cotangent. -/
def ch0 : FVec F S128x64 .f32 := k0_pay27 (View.ld x3 (Rect.unit ![0, 0, 0] ![1, 128, 64] inb_S1x128x512_S1x128x64_0_0_0))

/-- Head 1's cotangent. -/
def ch1 : FVec F S128x64 .f32 := k0_pay28 (View.ld x3 (Rect.unit ![0, 0, 64] ![1, 128, 64] inb_S1x128x512_S1x128x64_0_0_64))

/-- Head 2's cotangent. -/
def ch2 : FVec F S128x64 .f32 := k0_pay29 (View.ld x3 (Rect.unit ![0, 0, 128] ![1, 128, 64] inb_S1x128x512_S1x128x64_0_0_128))

/-- Head 3's cotangent. -/
def ch3 : FVec F S128x64 .f32 := k0_pay30 (View.ld x3 (Rect.unit ![0, 0, 192] ![1, 128, 64] inb_S1x128x512_S1x128x64_0_0_192))

/-- Head 4's cotangent. -/
def ch4 : FVec F S128x64 .f32 := k0_pay31 (View.ld x3 (Rect.unit ![0, 0, 256] ![1, 128, 64] inb_S1x128x512_S1x128x64_0_0_256))

/-- Head 5's cotangent, as loaded. -/
def ch5 : Vec F S1x128x64 .f32 := View.ld x3 (Rect.unit ![0, 0, 320] ![1, 128, 64] inb_S1x128x512_S1x128x64_0_0_320)

/-- Head 6's cotangent, as loaded. -/
def ch6 : Vec F S1x128x64 .f32 := View.ld x3 (Rect.unit ![0, 0, 384] ![1, 128, 64] inb_S1x128x512_S1x128x64_0_0_384)

/-- Head 7's cotangent, as loaded. -/
def ch7 : Vec F S1x128x64 .f32 := View.ld x3 (Rect.unit ![0, 0, 448] ![1, 128, 64] inb_S1x128x512_S1x128x64_0_0_448)

/-- Group 0's keys. -/
def kg0 : FVec F S2304x64 .bf16 := k0_pay9 (View.ld x1 (Rect.unit ![0, 0, 0] ![1, 2304, 64] inb_S1x2304x128_S1x2304x64_0_0_0))

/-- Group 0's values, as loaded. -/
def vg0 : Vec F S1x2304x64 .bf16 := View.ld x2 (Rect.unit ![0, 0, 0] ![1, 2304, 64] inb_S1x2304x128_S1x2304x64_0_0_0)

/-- Group 1's keys. -/
def kg1 : FVec F S2304x64 .bf16 := k0_pay10 (View.ld x1 (Rect.unit ![0, 0, 64] ![1, 2304, 64] inb_S1x2304x128_S1x2304x64_0_0_64))

/-- Group 1's values, as loaded. -/
def vg1 : Vec F S1x2304x64 .bf16 := View.ld x2 (Rect.unit ![0, 0, 64] ![1, 2304, 64] inb_S1x2304x128_S1x2304x64_0_0_64)

/-- The first group's queries' gradient. -/
def dq0 : FVec F S512x64 .f32 := k0_pay49 (k0_pay11 (kg0 x1)) (k0_pay13 (vg0 x2)) (k0_pay16 (qh0 x0) (qh1 x0) (qh2 x0) (qh3 x0) (kg0 x1))
    (k0_pay17 (qh0 x0) (qh1 x0) (qh2 x0) (qh3 x0) (kg0 x1) (vg0 x2)) (k0_pay19 (qh0 x0) (qh1 x0) (qh2 x0) (qh3 x0) (kg0 x1))
    (k0_pay20 (qh0 x0) (qh1 x0) (qh2 x0) (qh3 x0) (kg0 x1)) (k0_pay43 (ch1 x3) (ch2 x3) (ch3 x3)) (k0_pay44 (ch0 x3))

/-- The first group's share of the keys' gradient. -/
def dk0 : FVec F S2304x64 .f32 := k0_pay50 (k0_pay13 (vg0 x2)) (k0_pay15 (qh0 x0) (qh1 x0) (qh2 x0) (qh3 x0)) (k0_pay16 (qh0 x0) (qh1 x0) (qh2 x0) (qh3 x0) (kg0 x1))
    (k0_pay17 (qh0 x0) (qh1 x0) (qh2 x0) (qh3 x0) (kg0 x1) (vg0 x2)) (k0_pay19 (qh0 x0) (qh1 x0) (qh2 x0) (qh3 x0) (kg0 x1))
    (k0_pay20 (qh0 x0) (qh1 x0) (qh2 x0) (qh3 x0) (kg0 x1)) (k0_pay43 (ch1 x3) (ch2 x3) (ch3 x3)) (k0_pay44 (ch0 x3))

/-- The first group's share of the values' gradient. -/
def dv0 : FVec F S2304x64 .f32 := k0_pay47 (k0_pay16 (qh0 x0) (qh1 x0) (qh2 x0) (qh3 x0) (kg0 x1)) (k0_pay19 (qh0 x0) (qh1 x0) (qh2 x0) (qh3 x0) (kg0 x1)) (k0_pay43 (ch1 x3) (ch2 x3) (ch3 x3)) (k0_pay44 (ch0 x3))

/-- The second group's queries' gradient. -/
def dq1 : FVec F S512x64 .f32 := k0_pay37 (k0_pay12 (kg1 x1)) (k0_pay14 (vg1 x2)) (k0_pay22 (qh4 x0) (qh5 x0) (qh6 x0) (qh7 x0) (kg1 x1))
    (k0_pay23 (qh4 x0) (qh5 x0) (qh6 x0) (qh7 x0) (kg1 x1) (vg1 x2)) (k0_pay25 (qh4 x0) (qh5 x0) (qh6 x0) (qh7 x0) (kg1 x1))
    (k0_pay26 (k0_pay24 (qh4 x0) (qh5 x0) (qh6 x0) (qh7 x0) (kg1 x1))) (ch4 x3) (k0_pay32 (ch5 x3) (ch6 x3) (ch7 x3)) (Scalar.ofBits .f32 0x00000000#32)

/-- The second group's share of the keys' gradient. -/
def dk1 : FVec F S2304x64 .f32 := k0_pay38 (k0_pay14 (vg1 x2)) (k0_pay21 (qh4 x0) (qh5 x0) (qh6 x0) (qh7 x0)) (k0_pay22 (qh4 x0) (qh5 x0) (qh6 x0) (qh7 x0) (kg1 x1))
    (k0_pay23 (qh4 x0) (qh5 x0) (qh6 x0) (qh7 x0) (kg1 x1) (vg1 x2)) (k0_pay25 (qh4 x0) (qh5 x0) (qh6 x0) (qh7 x0) (kg1 x1))
    (k0_pay26 (k0_pay24 (qh4 x0) (qh5 x0) (qh6 x0) (qh7 x0) (kg1 x1))) (ch4 x3) (k0_pay32 (ch5 x3) (ch6 x3) (ch7 x3)) (Scalar.ofBits .f32 0x00000000#32)

/-- The second group's share of the values' gradient. -/
def dv1 : FVec F S2304x64 .f32 := k0_pay35 (k0_pay22 (qh4 x0) (qh5 x0) (qh6 x0) (qh7 x0) (kg1 x1)) (k0_pay25 (qh4 x0) (qh5 x0) (qh6 x0) (qh7 x0) (kg1 x1)) (ch4 x3) (k0_pay32 (ch5 x3) (ch6 x3) (ch7 x3)) (Scalar.ofBits .f32 0x00000000#32)

/-- The eight heads' stores, the last one first. -/
def pieces4 : List (View.Piece (Elt F) S1x128x512 .f32) :=
  [⟨Rect.unit ![0, 0, 448] ![1, 128, 64] inb_S1x128x512_S1x128x64_0_0_448,
    shapeCast S1x128x64 (extractStridedSlice S128x64 ![384, 0] (dq1 x0 x1 x2 x3) slices_S512x64_o384_0_S128x64) shapeCasts_S128x64_S1x128x64⟩,
   ⟨Rect.unit ![0, 0, 384] ![1, 128, 64] inb_S1x128x512_S1x128x64_0_0_384,
    shapeCast S1x128x64 (extractStridedSlice S128x64 ![256, 0] (dq1 x0 x1 x2 x3) slices_S512x64_o256_0_S128x64) shapeCasts_S128x64_S1x128x64⟩,
   ⟨Rect.unit ![0, 0, 320] ![1, 128, 64] inb_S1x128x512_S1x128x64_0_0_320,
    shapeCast S1x128x64 (extractStridedSlice S128x64 ![128, 0] (dq1 x0 x1 x2 x3) slices_S512x64_o128_0_S128x64) shapeCasts_S128x64_S1x128x64⟩,
   ⟨Rect.unit ![0, 0, 256] ![1, 128, 64] inb_S1x128x512_S1x128x64_0_0_256,
    shapeCast S1x128x64 (extractStridedSlice S128x64 ![0, 0] (dq1 x0 x1 x2 x3) slices_S512x64_o0_0_S128x64) shapeCasts_S128x64_S1x128x64⟩,
   ⟨Rect.unit ![0, 0, 192] ![1, 128, 64] inb_S1x128x512_S1x128x64_0_0_192,
    shapeCast S1x128x64 (extractStridedSlice S128x64 ![384, 0] (dq0 x0 x1 x2 x3) slices_S512x64_o384_0_S128x64) shapeCasts_S128x64_S1x128x64⟩,
   ⟨Rect.unit ![0, 0, 128] ![1, 128, 64] inb_S1x128x512_S1x128x64_0_0_128,
    shapeCast S1x128x64 (extractStridedSlice S128x64 ![256, 0] (dq0 x0 x1 x2 x3) slices_S512x64_o256_0_S128x64) shapeCasts_S128x64_S1x128x64⟩,
   ⟨Rect.unit ![0, 0, 64] ![1, 128, 64] inb_S1x128x512_S1x128x64_0_0_64,
    shapeCast S1x128x64 (extractStridedSlice S128x64 ![128, 0] (dq0 x0 x1 x2 x3) slices_S512x64_o128_0_S128x64) shapeCasts_S128x64_S1x128x64⟩,
   ⟨Rect.unit ![0, 0, 0] ![1, 128, 64] inb_S1x128x512_S1x128x64_0_0_0,
    shapeCast S1x128x64 (extractStridedSlice S128x64 ![0, 0] (dq0 x0 x1 x2 x3) slices_S512x64_o0_0_S128x64) shapeCasts_S128x64_S1x128x64⟩]

end Terms

variable (c : Dev nD) (i : grid0.Coords) (a2 : Memref sig .tc .vmem S1x128x512 .bf16) (h2 : a2.IsWhole) (a3 : Memref sig .tc .vmem S1x2304x128 .bf16)
  (h3 : a3.IsWhole) (a4 : Memref sig .tc .vmem S1x2304x128 .bf16) (h4 : a4.IsWhole) (a5 : Memref sig .tc .vmem S1x128x512 .f32) (h5 : a5.IsWhole)
  (a6 : Memref sig .tc .vmem S1x128x512 .f32) (h6 : a6.IsWhole) (a7 : Memref sig .tc .vmem S1x2304x128 .f32) (h7 : a7.IsWhole)
  (a8 : Memref sig .tc .vmem S1x2304x128 .f32) (h8 : a8.IsWhole)

theorem out_A_4 (hc0 : cond0_0 i) (hc1 : ¬cond0_1 i) (hc2 : cond0_2 i) (hc3 : ¬cond0_3 i)
    (x0 : Vec F S1x128x512 .bf16) (x1 x2 : Vec F S1x2304x128 .bf16) (x3 : Vec F S1x128x512 .f32) :
    out0_A_4 c i a2 h2 a3 h3 a4 h4 a5 h5 a6 h6 a7 h7 a8 h8 hc0 hc1 hc2 hc3 x0 x1 x2 x3 = View.canon (pieces4 x0 x1 x2 x3) := by
  unfold out0_A_4
  rw [View.read_writes_eq_canon _ _ _ (cover0_A_4 c i a2 h2 a3 h3 a4 h4 a5 h5 a6 h6 a7 h7 a8 h8 hc0 hc1 hc2 hc3 x0 x1 x2 x3)]
  unfold kernelRun0_A
  dsimp only
  sl_unfold_words
  simp only [View.readAt_eq_ld, h2.read_unread, h3.read_unread, h4.read_unread, h5.read_unread, h6.read_unread, h7.read_unread, h8.read_unread]
  rfl

theorem out_A_5 (hc0 : cond0_0 i) (hc1 : ¬cond0_1 i) (hc2 : cond0_2 i) (hc3 : ¬cond0_3 i)
    (x0 : Vec F S1x128x512 .bf16) (x1 x2 : Vec F S1x2304x128 .bf16) (x3 : Vec F S1x128x512 .f32) :
    out0_A_5 c i a2 h2 a3 h3 a4 h4 a5 h5 a6 h6 a7 h7 a8 h8 hc0 hc1 hc2 hc3 x0 x1 x2 x3 = View.canon [⟨Rect.unit ![0, 0, 64] ![1, 2304, 64] inb_S1x2304x128_S1x2304x64_0_0_64,
        shapeCast S1x2304x64 (dk1 x0 x1 x2 x3) shapeCasts_S2304x64_S1x2304x64⟩,
      ⟨Rect.unit ![0, 0, 0] ![1, 2304, 64] inb_S1x2304x128_S1x2304x64_0_0_0,
        shapeCast S1x2304x64 (dk0 x0 x1 x2 x3) shapeCasts_S2304x64_S1x2304x64⟩] := by
  unfold out0_A_5
  rw [View.read_writes_eq_canon _ _ _ (cover0_A_5 c i a2 h2 a3 h3 a4 h4 a5 h5 a6 h6 a7 h7 a8 h8 hc0 hc1 hc2 hc3 x0 x1 x2 x3)]
  unfold kernelRun0_A
  dsimp only
  sl_unfold_words
  simp only [View.readAt_eq_ld, h2.read_unread, h3.read_unread, h4.read_unread, h5.read_unread, h6.read_unread, h7.read_unread, h8.read_unread]
  rfl

theorem out_A_6 (hc0 : cond0_0 i) (hc1 : ¬cond0_1 i) (hc2 : cond0_2 i) (hc3 : ¬cond0_3 i)
    (x0 : Vec F S1x128x512 .bf16) (x1 x2 : Vec F S1x2304x128 .bf16) (x3 : Vec F S1x128x512 .f32) :
    out0_A_6 c i a2 h2 a3 h3 a4 h4 a5 h5 a6 h6 a7 h7 a8 h8 hc0 hc1 hc2 hc3 x0 x1 x2 x3 = View.canon [⟨Rect.unit ![0, 0, 64] ![1, 2304, 64] inb_S1x2304x128_S1x2304x64_0_0_64,
        shapeCast S1x2304x64 (dv1 x0 x1 x3) shapeCasts_S2304x64_S1x2304x64⟩,
      ⟨Rect.unit ![0, 0, 0] ![1, 2304, 64] inb_S1x2304x128_S1x2304x64_0_0_0,
        shapeCast S1x2304x64 (dv0 x0 x1 x3) shapeCasts_S2304x64_S1x2304x64⟩] := by
  unfold out0_A_6
  rw [View.read_writes_eq_canon _ _ _ (cover0_A_6 c i a2 h2 a3 h3 a4 h4 a5 h5 a6 h6 a7 h7 a8 h8 hc0 hc1 hc2 hc3 x0 x1 x2 x3)]
  unfold kernelRun0_A
  dsimp only
  sl_unfold_words
  simp only [View.readAt_eq_ld, h2.read_unread, h3.read_unread, h4.read_unread, h5.read_unread, h6.read_unread, h7.read_unread, h8.read_unread]
  rfl

theorem out_B_4 (hc0 : ¬cond0_0 i) (hc1 : cond0_1 i) (hc2 : ¬cond0_2 i) (hc3 : cond0_3 i)
    (x0 : Vec F S1x128x512 .bf16) (x1 x2 : Vec F S1x2304x128 .bf16) (x3 : Vec F S1x128x512 .f32) (xo5 xo6 : Vec F S1x2304x128 .f32) :
    out0_B_4 c i a2 h2 a3 h3 a4 h4 a5 h5 a6 h6 a7 h7 a8 h8 hc0 hc1 hc2 hc3 x0 x1 x2 x3 xo5 xo6 = View.canon (pieces4 x0 x1 x2 x3) := by
  unfold out0_B_4
  rw [View.read_writes_eq_canon _ _ _ (cover0_B_4 c i a2 h2 a3 h3 a4 h4 a5 h5 a6 h6 a7 h7 a8 h8 hc0 hc1 hc2 hc3 x0 x1 x2 x3 xo5 xo6)]
  unfold kernelRun0_B
  dsimp only
  sl_unfold_words
  simp only [View.readAt_eq_ld, h2.read_unread, h3.read_unread, h4.read_unread, h5.read_unread, h6.read_unread, h7.read_unread, h8.read_unread]
  rfl

theorem out_B_5 (hc0 : ¬cond0_0 i) (hc1 : cond0_1 i) (hc2 : ¬cond0_2 i) (hc3 : cond0_3 i)
    (x0 : Vec F S1x128x512 .bf16) (x1 x2 : Vec F S1x2304x128 .bf16) (x3 : Vec F S1x128x512 .f32) (xo5 xo6 : Vec F S1x2304x128 .f32) :
    out0_B_5 c i a2 h2 a3 h3 a4 h4 a5 h5 a6 h6 a7 h7 a8 h8 hc0 hc1 hc2 hc3 x0 x1 x2 x3 xo5 xo6 = View.canon [⟨Rect.unit ![0, 0, 64] ![1, 2304, 64] inb_S1x2304x128_S1x2304x64_0_0_64,
        shapeCast S1x2304x64 (addf (shapeCast S2304x64 (View.ld xo5 (Rect.unit ![0, 0, 64] ![1, 2304, 64] inb_S1x2304x128_S1x2304x64_0_0_64)) shapeCasts_S1x2304x64_S2304x64) (dk1 x0 x1 x2 x3)) shapeCasts_S2304x64_S1x2304x64⟩,
      ⟨Rect.unit ![0, 0, 0] ![1, 2304, 64] inb_S1x2304x128_S1x2304x64_0_0_0,
        shapeCast S1x2304x64 (addf (shapeCast S2304x64 (View.ld xo5 (Rect.unit ![0, 0, 0] ![1, 2304, 64] inb_S1x2304x128_S1x2304x64_0_0_0)) shapeCasts_S1x2304x64_S2304x64) (dk0 x0 x1 x2 x3)) shapeCasts_S2304x64_S1x2304x64⟩] := by
  unfold out0_B_5
  rw [View.read_writes_eq_canon _ _ _ (cover0_B_5 c i a2 h2 a3 h3 a4 h4 a5 h5 a6 h6 a7 h7 a8 h8 hc0 hc1 hc2 hc3 x0 x1 x2 x3 xo5 xo6)]
  unfold kernelRun0_B
  dsimp only
  sl_unfold_words
  simp only [View.readAt_eq_ld, h2.read_unread, h3.read_unread, h4.read_unread, h5.read_unread, h6.read_unread, h7.read_unread, h8.read_unread]
  rfl

theorem out_B_6 (hc0 : ¬cond0_0 i) (hc1 : cond0_1 i) (hc2 : ¬cond0_2 i) (hc3 : cond0_3 i)
    (x0 : Vec F S1x128x512 .bf16) (x1 x2 : Vec F S1x2304x128 .bf16) (x3 : Vec F S1x128x512 .f32) (xo5 xo6 : Vec F S1x2304x128 .f32) :
    out0_B_6 c i a2 h2 a3 h3 a4 h4 a5 h5 a6 h6 a7 h7 a8 h8 hc0 hc1 hc2 hc3 x0 x1 x2 x3 xo5 xo6 = View.canon [⟨Rect.unit ![0, 0, 64] ![1, 2304, 64] inb_S1x2304x128_S1x2304x64_0_0_64,
        shapeCast S1x2304x64 (addf (shapeCast S2304x64 (View.ld xo6 (Rect.unit ![0, 0, 64] ![1, 2304, 64] inb_S1x2304x128_S1x2304x64_0_0_64)) shapeCasts_S1x2304x64_S2304x64) (dv1 x0 x1 x3)) shapeCasts_S2304x64_S1x2304x64⟩,
      ⟨Rect.unit ![0, 0, 0] ![1, 2304, 64] inb_S1x2304x128_S1x2304x64_0_0_0,
        shapeCast S1x2304x64 (addf (shapeCast S2304x64 (View.ld xo6 (Rect.unit ![0, 0, 0] ![1, 2304, 64] inb_S1x2304x128_S1x2304x64_0_0_0)) shapeCasts_S1x2304x64_S2304x64) (dv0 x0 x1 x3)) shapeCasts_S2304x64_S1x2304x64⟩] := by
  unfold out0_B_6
  rw [View.read_writes_eq_canon _ _ _ (cover0_B_6 c i a2 h2 a3 h3 a4 h4 a5 h5 a6 h6 a7 h7 a8 h8 hc0 hc1 hc2 hc3 x0 x1 x2 x3 xo5 xo6)]
  unfold kernelRun0_B
  dsimp only
  sl_unfold_words
  simp only [View.readAt_eq_ld, h2.read_unread, h3.read_unread, h4.read_unread, h5.read_unread, h6.read_unread, h7.read_unread, h8.read_unread]
  rfl

end Cert.KernelIdeal.Outs

end
-- ==== Proof.Entry.lean ====
/- What one run of the body leaves in its output blocks, entry by entry, when its input blocks hold real numbers. -/
module

public import proofs.«01_k».proof.Proof.Block
public import proofs.«01_k».proof.Proof.Outs
public import Idealize.ShloMosaic.Lib.Pipeline.ValueKit.Tiles

@[expose] public section

noncomputable section

open scoped BigOperators

namespace Cert.KernelIdeal.Entry

open Cert.KernelIdeal Cert.KernelIdeal.Gen Cert.KernelIdeal.Stage Cert.KernelIdeal.Block Cert.KernelIdeal.Outs
open Idealize.ShloMosaic
open Idealize.ShloMosaic.ValueIdx (addf_apply)

/-! ## Heads and groups of the lanes -/

/-- Head `h` of a row of 512 lanes. -/
def head {n : ℕ} (X : Fin n → Fin 512 → ℝ) (i : Fin n) (h : Fin 8) (d : Fin 64) : ℝ := X i ⟨64 * h.val + d.val, by omega⟩

/-- Group `g` of a row of 128 lanes. -/
def group {n : ℕ} (X : Fin n → Fin 128 → ℝ) (g : Fin 2) (κ : Fin n) (d : Fin 64) : ℝ := X κ ⟨64 * g.val + d.val, by omega⟩

/-- The position of a row of the stack in its block. -/
def pos (r : Fin 512) : Fin 128 := ⟨r.val % 128, Nat.mod_lt _ (by decide)⟩

/-- The head a row of group `g`'s stack belongs to. -/
def headOf (g : Fin 2) (r : Fin 512) : Fin 8 := ⟨4 * g.val + r.val / 128, by omega⟩

/-- The group of a head. -/
def groupOf (h : Fin 8) : Fin 2 := ⟨h.val / 4, by omega⟩

/-- The head of a lane. -/
def laneHead (c : Fin 512) : Fin 8 := ⟨c.val / 64, by omega⟩

/-- The group of a lane. -/
def laneGroup (c : Fin 128) : Fin 2 := ⟨c.val / 64, by omega⟩

/-- A lane's place in its head or group. -/
def lanePos {n : ℕ} (c : Fin n) : Fin 64 := ⟨c.val % 64, Nat.mod_lt _ (by decide)⟩

/-- The stack of group `g`'s four heads. -/
def stack (X : Fin 128 → Fin 512 → ℝ) (g : Fin 2) (r : Fin 512) : Fin 64 → ℝ := head X (pos r) (headOf g r)

theorem pos_row (j : Fin 4) (i : Fin 128) : pos (row j i) = i := Fin.ext (by show (128 * j.val + i.val) % 128 = i.val; omega)

theorem headOf_row (g : Fin 2) (j : Fin 4) (i : Fin 128) : headOf g (row j i) = ⟨4 * g.val + j.val, by omega⟩ :=
  Fin.ext (by show 4 * g.val + (128 * j.val + i.val) / 128 = 4 * g.val + j.val; omega)

theorem stack_row (X : Fin 128 → Fin 512 → ℝ) (g : Fin 2) (j : Fin 4) (i : Fin 128) :
    stack X g (row j i) = head X i ⟨4 * g.val + j.val, by omega⟩ := by
  unfold stack; rw [pos_row, headOf_row]

/-! ## Loads -/

/-- A window of 64 lanes, its unit axis dropped. -/
theorem load_apply {n w : ℕ} {e : EltTy} (x : Vec Ideal ⟨3, ![1, n, w]⟩ e) (o : ℕ) (inb)
    (h : Shape.ShapeCasts ⟨3, ![1, n, 64]⟩ ⟨2, ![n, 64]⟩) (r : Fin n) (d : Fin 64) (l : Fin w) (hl : l.val = o + d.val) :
    shapeCast ⟨2, ![n, 64]⟩ (View.ld x (Rect.unit ![0, 0, o] ![1, n, 64] inb)) h (ix2 r d) = x (ix3 0 r l) := by
  refine (shapeCast_dropUnit_apply ![n, 64] _ h (ix2 r d)).trans (View.ld_unit_apply_of x _ _ inb _ _ fun a => ?_)
  match a with
  | ⟨0, _⟩ => rfl
  | ⟨1, _⟩ => show r.val = 0 + r.val; omega
  | ⟨2, _⟩ => exact hl

section

variable {x0 : Vec Ideal S1x128x512 .bf16} {x1 x2 : Vec Ideal S1x2304x128 .bf16} {x3 : Vec Ideal S1x128x512 .f32}
variable {Q CT : Fin 128 → Fin 512 → ℝ} {K V : Fin 2304 → Fin 128 → ℝ}

theorem holds_q (hx : ∀ i c, x0 (ix3 0 i c) = (Q i c : EReal)) (g : Fin 2) (j : Fin 4) (o : ℕ) (ho : o = 64 * (4 * g.val + j.val)) (inb) :
    Holds (k0_pay1 (View.ld x0 (Rect.unit ![0, 0, o] ![1, 128, 64] inb))) fun i => stack Q g (row j i) := fun i d => by
  show _ = ((stack Q g (row j i) d : ℝ) : EReal)
  rw [stack_row]
  exact (load_apply x0 o inb shapeCasts_S1x128x64_S128x64 i d ⟨64 * (4 * g.val + j.val) + d.val, by omega⟩ (by simp only [ho])).trans (hx i _)

theorem holds_c (hx : ∀ i c, x3 (ix3 0 i c) = (CT i c : EReal)) (g : Fin 2) (j : Fin 4) (o : ℕ) (ho : o = 64 * (4 * g.val + j.val)) (inb) :
    Holds (k0_pay27 (View.ld x3 (Rect.unit ![0, 0, o] ![1, 128, 64] inb))) fun i => stack CT g (row j i) := fun i d => by
  show _ = ((stack CT g (row j i) d : ℝ) : EReal)
  rw [stack_row]
  exact (load_apply x3 o inb shapeCasts_S1x128x64_S128x64 i d ⟨64 * (4 * g.val + j.val) + d.val, by omega⟩ (by simp only [ho])).trans (hx i _)

theorem holds_k (hx : ∀ κ c, x1 (ix3 0 κ c) = (K κ c : EReal)) (g : Fin 2) (o : ℕ) (ho : o = 64 * g.val) (inb) :
    Holds (k0_pay9 (View.ld x1 (Rect.unit ![0, 0, o] ![1, 2304, 64] inb))) (group K g) := fun κ d =>
  (load_apply x1 o inb shapeCasts_S1x2304x64_S2304x64 κ d ⟨64 * g.val + d.val, by omega⟩ (by simp only [ho])).trans (hx κ _)

theorem holds_v (hx : ∀ κ c, x2 (ix3 0 κ c) = (V κ c : EReal)) (g : Fin 2) (o : ℕ) (ho : o = 64 * g.val) (inb) :
    Holds (k0_pay13 (View.ld x2 (Rect.unit ![0, 0, o] ![1, 2304, 64] inb))) (group V g) := fun κ d =>
  (load_apply x2 o inb shapeCasts_S1x2304x64_S2304x64 κ d ⟨64 * g.val + d.val, by omega⟩ (by simp only [ho])).trans (hx κ _)

/-! ## The shares of a block -/

/-- The queries' gradient at row `i`, lane `c`. -/
def dqB {n : ℕ} (Q CT : Fin n → Fin 512 → ℝ) (K V : Fin 2304 → Fin 128 → ℝ) (i : Fin n) (c : Fin 512) : ℝ :=
  ∑ κ, Soft.ds (head Q i (laneHead c)) (group K (groupOf (laneHead c))) (group V (groupOf (laneHead c))) (head CT i (laneHead c)) κ
    * group K (groupOf (laneHead c)) κ (lanePos c)

/-- What row `i` of head `h` adds to the keys' gradient. -/
def dkRow {n : ℕ} (Q CT : Fin n → Fin 512 → ℝ) (K V : Fin 2304 → Fin 128 → ℝ) (i : Fin n) (h : Fin 8) (κ : Fin 2304) (d : Fin 64) : ℝ :=
  Soft.ds (head Q i h) (group K (groupOf h)) (group V (groupOf h)) (head CT i h) κ * head Q i h d

/-- What row `i` of head `h` adds to the values' gradient. -/
def dvRow {n : ℕ} (Q CT : Fin n → Fin 512 → ℝ) (K : Fin 2304 → Fin 128 → ℝ) (i : Fin n) (h : Fin 8) (κ : Fin 2304) (d : Fin 64) : ℝ :=
  Soft.pr (head Q i h) (group K (groupOf h)) κ * head CT i h d

/-- The block's share of the keys' gradient at row `κ`, lane `c`. -/
def dkB (Q CT : Fin 128 → Fin 512 → ℝ) (K V : Fin 2304 → Fin 128 → ℝ) (κ : Fin 2304) (c : Fin 128) : ℝ :=
  ∑ r, dkRow Q CT K V (pos r) (headOf (laneGroup c) r) κ (lanePos c)

/-- The block's share of the values' gradient at row `κ`, lane `c`. -/
def dvB (Q CT : Fin 128 → Fin 512 → ℝ) (K : Fin 2304 → Fin 128 → ℝ) (κ : Fin 2304) (c : Fin 128) : ℝ :=
  ∑ r, dvRow Q CT K (pos r) (headOf (laneGroup c) r) κ (lanePos c)

theorem groupOf_headOf (g : Fin 2) (r : Fin 512) : groupOf (headOf g r) = g :=
  Fin.ext (by show (4 * g.val + r.val / 128) / 4 = g.val; omega)

section Blocks

variable (hq : ∀ i c, x0 (ix3 0 i c) = (Q i c : EReal)) (hk : ∀ κ c, x1 (ix3 0 κ c) = (K κ c : EReal))
  (hv : ∀ κ c, x2 (ix3 0 κ c) = (V κ c : EReal)) (hc : ∀ i c, x3 (ix3 0 i c) = (CT i c : EReal))

include hq hk hv hc

/-- What the block of group 0 computes. -/
theorem both0 : Holds (dq0 x0 x1 x2 x3) (fun r d => ∑ κ, Soft.ds (stack Q 0 r) (group K 0) (group V 0) (stack CT 0 r) κ * group K 0 κ d)
    ∧ Holds (dk0 x0 x1 x2 x3) (fun κ d => ∑ r, Soft.ds (stack Q 0 r) (group K 0) (group V 0) (stack CT 0 r) κ * stack Q 0 r d)
    ∧ Holds (dv0 x0 x1 x3) (fun κ d => ∑ r, Soft.pr (stack Q 0 r) (group K 0) κ * stack CT 0 r d) :=
  group0 (holds_q hq 0 0 0 rfl inb_S1x128x512_S1x128x64_0_0_0) (holds_q hq 0 1 64 rfl inb_S1x128x512_S1x128x64_0_0_64)
  (holds_q hq 0 2 128 rfl inb_S1x128x512_S1x128x64_0_0_128) (holds_q hq 0 3 192 rfl inb_S1x128x512_S1x128x64_0_0_192)
  (holds_k hk 0 0 rfl inb_S1x2304x128_S1x2304x64_0_0_0) (holds_v hv 0 0 rfl inb_S1x2304x128_S1x2304x64_0_0_0)
  (holds_c hc 0 0 0 rfl inb_S1x128x512_S1x128x64_0_0_0) (holds_c hc 0 1 64 rfl inb_S1x128x512_S1x128x64_0_0_64)
  (holds_c hc 0 2 128 rfl inb_S1x128x512_S1x128x64_0_0_128) (holds_c hc 0 3 192 rfl inb_S1x128x512_S1x128x64_0_0_192)

/-- What the block of group 1 computes. -/
theorem both1 : Holds (dq1 x0 x1 x2 x3) (fun r d => ∑ κ, Soft.ds (stack Q 1 r) (group K 1) (group V 1) (stack CT 1 r) κ * group K 1 κ d)
    ∧ Holds (dk1 x0 x1 x2 x3) (fun κ d => ∑ r, Soft.ds (stack Q 1 r) (group K 1) (group V 1) (stack CT 1 r) κ * stack Q 1 r d)
    ∧ Holds (dv1 x0 x1 x3) (fun κ d => ∑ r, Soft.pr (stack Q 1 r) (group K 1) κ * stack CT 1 r d) :=
  group1 (holds_q hq 1 0 256 rfl inb_S1x128x512_S1x128x64_0_0_256) (holds_q hq 1 1 320 rfl inb_S1x128x512_S1x128x64_0_0_320)
  (holds_q hq 1 2 384 rfl inb_S1x128x512_S1x128x64_0_0_384) (holds_q hq 1 3 448 rfl inb_S1x128x512_S1x128x64_0_0_448)
  (holds_k hk 1 64 rfl inb_S1x2304x128_S1x2304x64_0_0_64) (holds_v hv 1 64 rfl inb_S1x2304x128_S1x2304x64_0_0_64)
  (holds_c hc 1 0 256 rfl inb_S1x128x512_S1x128x64_0_0_256) (holds_c hc 1 1 320 rfl inb_S1x128x512_S1x128x64_0_0_320)
  (holds_c hc 1 2 384 rfl inb_S1x128x512_S1x128x64_0_0_384) (holds_c hc 1 3 448 rfl inb_S1x128x512_S1x128x64_0_0_448)

theorem holds_dq0 : Holds (dq0 x0 x1 x2 x3) fun r d => ∑ κ, Soft.ds (stack Q 0 r) (group K 0) (group V 0) (stack CT 0 r) κ * group K 0 κ d :=
  (both0 hq hk hv hc).1

theorem holds_dq1 : Holds (dq1 x0 x1 x2 x3) fun r d => ∑ κ, Soft.ds (stack Q 1 r) (group K 1) (group V 1) (stack CT 1 r) κ * group K 1 κ d :=
  (both1 hq hk hv hc).1

theorem holds_dk0 : Holds (dk0 x0 x1 x2 x3) fun κ d => ∑ r, Soft.ds (stack Q 0 r) (group K 0) (group V 0) (stack CT 0 r) κ * stack Q 0 r d :=
  (both0 hq hk hv hc).2.1

theorem holds_dk1 : Holds (dk1 x0 x1 x2 x3) fun κ d => ∑ r, Soft.ds (stack Q 1 r) (group K 1) (group V 1) (stack CT 1 r) κ * stack Q 1 r d :=
  (both1 hq hk hv hc).2.1

theorem holds_dv0 : Holds (dv0 x0 x1 x3) fun κ d => ∑ r, Soft.pr (stack Q 0 r) (group K 0) κ * stack CT 0 r d :=
  (both0 hq hk hv hc).2.2

theorem holds_dv1 : Holds (dv1 x0 x1 x3) fun κ d => ∑ r, Soft.pr (stack Q 1 r) (group K 1) κ * stack CT 1 r d :=
  (both1 hq hk hv hc).2.2

end Blocks

end

/-! ## The blocks read at an index -/

/-- The stored piece of one head, read at an index of the block. -/
theorem headPiece {D : FVec Ideal S512x64 .f32} {f : Fin 512 → Fin 64 → ℝ} (hD : Holds D f) (j : Fin 4) (o : ℕ) (ho : o = 128 * j.val)
    (hs : S512x64.Slices ![o, 0] S128x64) (x : S1x128x64.Idx) :
    shapeCast S1x128x64 (extractStridedSlice S128x64 ![o, 0] D hs) shapeCasts_S128x64_S1x128x64 x = (f (row j (x 1)) (x 2) : EReal) := by
  refine (shapeCast_addUnit_apply ![128, 64] _ shapeCasts_S128x64_S1x128x64 x).trans ?_
  refine (extractStridedSlice_apply ![o, 0] D hs _ (ix2 (row j (x 1)) (x 2)) fun a => ?_).trans (hD _ _)
  match a with
  | ⟨0, _⟩ => show 128 * j.val + (x 1).val = o + (x 1).val; rw [ho]
  | ⟨1, _⟩ => show (x 2).val = 0 + (x 2).val; omega

/-- The stored piece of one group, read at an index of the block. -/
theorem groupPiece {D : FVec Ideal S2304x64 .f32} {f : Fin 2304 → Fin 64 → ℝ} (hD : Holds D f) (x : S1x2304x64.Idx) :
    shapeCast S1x2304x64 D shapeCasts_S2304x64_S1x2304x64 x = (f (x 1) (x 2) : EReal) := by
  refine (shapeCast_addUnit_apply ![2304, 64] _ shapeCasts_S2304x64_S1x2304x64 x).trans ?_
  refine Eq.trans (congrArg D (funext fun a => ?_)) (hD (x 1) (x 2))
  match a with
  | ⟨0, _⟩ => rfl
  | ⟨1, _⟩ => rfl

section

variable {x0 : Vec Ideal S1x128x512 .bf16} {x1 x2 : Vec Ideal S1x2304x128 .bf16} {x3 : Vec Ideal S1x128x512 .f32}
variable {Q CT : Fin 128 → Fin 512 → ℝ} {K V : Fin 2304 → Fin 128 → ℝ}
variable (hq : ∀ i c, x0 (ix3 0 i c) = (Q i c : EReal)) (hk : ∀ κ c, x1 (ix3 0 κ c) = (K κ c : EReal))
  (hv : ∀ κ c, x2 (ix3 0 κ c) = (V κ c : EReal)) (hc : ∀ i c, x3 (ix3 0 i c) = (CT i c : EReal))

/-- The queries' gradient at a lane of head `4 g + j`. -/
theorem dqB_lane (g : Fin 2) (j : Fin 4) (i : Fin 128) (d : Fin 64) (c : Fin 512) (hcl : c.val = 64 * (4 * g.val + j.val) + d.val) :
    dqB Q CT K V i c = ∑ κ, Soft.ds (stack Q g (row j i)) (group K g) (group V g) (stack CT g (row j i)) κ * group K g κ d := by
  have e1 : laneHead c = ⟨4 * g.val + j.val, by omega⟩ := Fin.ext (by show c.val / 64 = 4 * g.val + j.val; omega)
  have e2 : groupOf (laneHead c) = g := by rw [e1]; exact Fin.ext (by show (4 * g.val + j.val) / 4 = g.val; omega)
  have e3 : lanePos c = d := Fin.ext (by show c.val % 64 = d.val; omega)
  unfold dqB
  rw [e2, e3, e1, stack_row, stack_row]

include hq hk hv hc

/-- The block of the queries' gradient. -/
theorem pieces4_apply (y : S1x128x512.Idx) : View.canon (pieces4 x0 x1 x2 x3) y = (dqB Q CT K V (y 1) (y 2) : EReal) := by
  have h0 := holds_dq0 hq hk hv hc
  have h1 := holds_dq1 hq hk hv hc
  have hy0 : (y 0).val < 1 := (y 0).isLt
  have hy1 : (y 1).val < 128 := (y 1).isLt
  have hy2 : (y 2).val < 512 := (y 2).isLt
  refine View.canon_apply_of_pieces (fun y => ((dqB Q CT K V (y 1) (y 2) : ℝ) : EReal)) (pieces4 x0 x1 x2 x3) ?_ y ?_
  · have key : ∀ (g : Fin 2) (D : FVec Ideal S512x64 .f32)
        (_ : Holds D fun r d => ∑ κ, Soft.ds (stack Q g r) (group K g) (group V g) (stack CT g r) κ * group K g κ d)
        (j : Fin 4) (o o' : ℕ) (_ : o = 128 * j.val) (_ : o' = 64 * (4 * g.val + j.val))
        (hs : S512x64.Slices ![o, 0] S128x64) (inb) (x : S1x128x64.Idx),
        shapeCast S1x128x64 (extractStridedSlice S128x64 ![o, 0] D hs) shapeCasts_S128x64_S1x128x64 x
          = ((dqB Q CT K V ((Rect.unit (s := S1x128x512) ![0, 0, o'] ![1, 128, 64] inb).emb x 1)
              ((Rect.unit (s := S1x128x512) ![0, 0, o'] ![1, 128, 64] inb).emb x 2) : ℝ) : EReal) := by
      intro g D hD j o o' ho ho' hs inb x
      refine (headPiece hD j o ho hs x).trans ?_
      have e1 : (Rect.unit (s := S1x128x512) ![0, 0, o'] ![1, 128, 64] inb).emb x 1 = x 1 :=
        Fin.ext ((Rect.idx_unit_val _ _ inb x 1).trans (Nat.zero_add _))
      have e2 : ((Rect.unit (s := S1x128x512) ![0, 0, o'] ![1, 128, 64] inb).emb x 2).val = o' + (x 2).val :=
        Rect.idx_unit_val _ _ inb x 2
      rw [e1]
      exact congrArg _ (dqB_lane g j (x 1) (x 2) _ (e2.trans (by rw [ho']))).symm
    intro p hp
    simp only [pieces4, List.mem_cons, List.not_mem_nil, or_false] at hp
    rcases hp with rfl | rfl | rfl | rfl | rfl | rfl | rfl | rfl
    · exact key 1 _ h1 3 384 448 rfl rfl slices_S512x64_o384_0_S128x64 inb_S1x128x512_S1x128x64_0_0_448
    · exact key 1 _ h1 2 256 384 rfl rfl slices_S512x64_o256_0_S128x64 inb_S1x128x512_S1x128x64_0_0_384
    · exact key 1 _ h1 1 128 320 rfl rfl slices_S512x64_o128_0_S128x64 inb_S1x128x512_S1x128x64_0_0_320
    · exact key 1 _ h1 0 0 256 rfl rfl slices_S512x64_o0_0_S128x64 inb_S1x128x512_S1x128x64_0_0_256
    · exact key 0 _ h0 3 384 192 rfl rfl slices_S512x64_o384_0_S128x64 inb_S1x128x512_S1x128x64_0_0_192
    · exact key 0 _ h0 2 256 128 rfl rfl slices_S512x64_o256_0_S128x64 inb_S1x128x512_S1x128x64_0_0_128
    · exact key 0 _ h0 1 128 64 rfl rfl slices_S512x64_o128_0_S128x64 inb_S1x128x512_S1x128x64_0_0_64
    · exact key 0 _ h0 0 0 0 rfl rfl slices_S512x64_o0_0_S128x64 inb_S1x128x512_S1x128x64_0_0_0
  · have mem : ∀ (o : ℕ) (inb), o ≤ (y 2).val → (y 2).val < o + 64 → y ∈ (Rect.unit (s := S1x128x512) ![0, 0, o] ![1, 128, 64] inb).set := by
      intro o inb ha hb
      rw [Rect.mem_set_unit]
      intro a
      match a with
      | ⟨0, _⟩ => exact ⟨Nat.zero_le _, by show (y 0).val < 0 + 1; omega⟩
      | ⟨1, _⟩ => exact ⟨Nat.zero_le _, by show (y 1).val < 0 + 128; omega⟩
      | ⟨2, _⟩ => exact ⟨ha, hb⟩
    unfold pieces4
    have hlt : (y 2).val / 64 < 8 := by omega
    rcases (by omega : (y 2).val / 64 = 7 ∨ (y 2).val / 64 = 6 ∨ (y 2).val / 64 = 5 ∨ (y 2).val / 64 = 4 ∨ (y 2).val / 64 = 3
      ∨ (y 2).val / 64 = 2 ∨ (y 2).val / 64 = 1 ∨ (y 2).val / 64 = 0) with h | h | h | h | h | h | h | h
    · exact ⟨_, List.mem_cons_self, mem 448 inb_S1x128x512_S1x128x64_0_0_448 (by omega) (by omega)⟩
    · exact ⟨_, List.mem_cons_of_mem _ List.mem_cons_self, mem 384 inb_S1x128x512_S1x128x64_0_0_384 (by omega) (by omega)⟩
    · exact ⟨_, List.mem_cons_of_mem _ (List.mem_cons_of_mem _ List.mem_cons_self), mem 320 inb_S1x128x512_S1x128x64_0_0_320 (by omega) (by omega)⟩
    · exact ⟨_, List.mem_cons_of_mem _ (List.mem_cons_of_mem _ (List.mem_cons_of_mem _ List.mem_cons_self)), mem 256 inb_S1x128x512_S1x128x64_0_0_256 (by omega) (by omega)⟩
    · exact ⟨_, List.mem_cons_of_mem _ (List.mem_cons_of_mem _ (List.mem_cons_of_mem _ (List.mem_cons_of_mem _ List.mem_cons_self))), mem 192 inb_S1x128x512_S1x128x64_0_0_192 (by omega) (by omega)⟩
    · exact ⟨_, List.mem_cons_of_mem _ (List.mem_cons_of_mem _ (List.mem_cons_of_mem _ (List.mem_cons_of_mem _ (List.mem_cons_of_mem _ List.mem_cons_self)))), mem 128 inb_S1x128x512_S1x128x64_0_0_128 (by omega) (by omega)⟩
    · exact ⟨_, List.mem_cons_of_mem _ (List.mem_cons_of_mem _ (List.mem_cons_of_mem _ (List.mem_cons_of_mem _ (List.mem_cons_of_mem _ (List.mem_cons_of_mem _ List.mem_cons_self))))), mem 64 inb_S1x128x512_S1x128x64_0_0_64 (by omega) (by omega)⟩
    · exact ⟨_, List.mem_cons_of_mem _ (List.mem_cons_of_mem _ (List.mem_cons_of_mem _ (List.mem_cons_of_mem _ (List.mem_cons_of_mem _ (List.mem_cons_of_mem _ (List.mem_cons_of_mem _ List.mem_cons_self)))))), mem 0 inb_S1x128x512_S1x128x64_0_0_0 (by omega) (by omega)⟩

omit hq hk hv hc

/-- Two stores, one per group, read at an index. -/
theorem twoGroups {D0 D1 : FVec Ideal S2304x64 .f32} (f : Fin 2304 → Fin 128 → ℝ) (h0 : Holds D0 (group f 0)) (h1 : Holds D1 (group f 1))
    (y : S1x2304x128.Idx) :
    (View.canon ([⟨Rect.unit ![0, 0, 64] ![1, 2304, 64] inb_S1x2304x128_S1x2304x64_0_0_64, shapeCast S1x2304x64 D1 shapeCasts_S2304x64_S1x2304x64⟩,
      ⟨Rect.unit ![0, 0, 0] ![1, 2304, 64] inb_S1x2304x128_S1x2304x64_0_0_0, shapeCast S1x2304x64 D0 shapeCasts_S2304x64_S1x2304x64⟩] :
        List (View.Piece (Elt Ideal) S1x2304x128 .f32)) : Vec Ideal S1x2304x128 .f32) y = (f (y 1) (y 2) : EReal) := by
  have hy0 : (y 0).val < 1 := (y 0).isLt
  have hy1 : (y 1).val < 2304 := (y 1).isLt
  have hy2 : (y 2).val < 128 := (y 2).isLt
  refine View.canon_apply_of_pieces (Val := Elt Ideal) (e := .f32) (fun y => ((f (y 1) (y 2) : ℝ) : EReal)) _ ?_ y ?_
  · have key : ∀ (g : Fin 2) (D : FVec Ideal S2304x64 .f32) (_ : Holds D (group f g)) (o : ℕ) (_ : o = 64 * g.val) (inb) (x : S1x2304x64.Idx),
        shapeCast S1x2304x64 D shapeCasts_S2304x64_S1x2304x64 x
          = ((f ((Rect.unit (s := S1x2304x128) ![0, 0, o] ![1, 2304, 64] inb).emb x 1)
              ((Rect.unit (s := S1x2304x128) ![0, 0, o] ![1, 2304, 64] inb).emb x 2) : ℝ) : EReal) := by
      intro g D hD o ho inb x
      refine (groupPiece hD x).trans ?_
      have e1 : (Rect.unit (s := S1x2304x128) ![0, 0, o] ![1, 2304, 64] inb).emb x 1 = x 1 :=
        Fin.ext ((Rect.idx_unit_val _ _ inb x 1).trans (Nat.zero_add _))
      have e2 : (Rect.unit (s := S1x2304x128) ![0, 0, o] ![1, 2304, 64] inb).emb x 2 = ⟨64 * g.val + (x 2).val, by have := (x 2).isLt; change (x 2).val < 64 at this; show 64 * g.val + (x 2).val < 128; omega⟩ :=
        Fin.ext ((Rect.idx_unit_val _ _ inb x 2).trans (by show o + (x 2).val = 64 * g.val + (x 2).val; omega))
      rw [e1, e2]; rfl
    intro p hp
    simp only [List.mem_cons, List.not_mem_nil, or_false] at hp
    rcases hp with rfl | rfl
    · exact key 1 _ h1 64 rfl inb_S1x2304x128_S1x2304x64_0_0_64
    · exact key 0 _ h0 0 rfl inb_S1x2304x128_S1x2304x64_0_0_0
  · have mem : ∀ (o : ℕ) (inb), o ≤ (y 2).val → (y 2).val < o + 64 → y ∈ (Rect.unit (s := S1x2304x128) ![0, 0, o] ![1, 2304, 64] inb).set := by
      intro o inb ha hb
      rw [Rect.mem_set_unit]
      intro a
      match a with
      | ⟨0, _⟩ => exact ⟨Nat.zero_le _, by show (y 0).val < 0 + 1; omega⟩
      | ⟨1, _⟩ => exact ⟨Nat.zero_le _, by show (y 1).val < 0 + 2304; omega⟩
      | ⟨2, _⟩ => exact ⟨ha, hb⟩
    by_cases h : (y 2).val < 64
    · exact ⟨_, List.mem_cons_of_mem _ List.mem_cons_self, mem 0 inb_S1x2304x128_S1x2304x64_0_0_0 (by omega) (by omega)⟩
    · exact ⟨_, List.mem_cons_self, mem 64 inb_S1x2304x128_S1x2304x64_0_0_64 (by omega) (by omega)⟩

theorem laneGroup_group (g : Fin 2) (d : Fin 64) (h : 64 * g.val + d.val < 128) : laneGroup ⟨64 * g.val + d.val, h⟩ = g :=
  Fin.ext (by show (64 * g.val + d.val) / 64 = g.val; omega)

theorem lanePos_group (g : Fin 2) (d : Fin 64) (h : 64 * g.val + d.val < 128) : lanePos (⟨64 * g.val + d.val, h⟩ : Fin 128) = d :=
  Fin.ext (by show (64 * g.val + d.val) % 64 = d.val; omega)

theorem group_dkB (g : Fin 2) (κ : Fin 2304) (d : Fin 64) :
    group (dkB Q CT K V) g κ d = ∑ r, Soft.ds (stack Q g r) (group K g) (group V g) (stack CT g r) κ * stack Q g r d := by
  unfold group dkB
  rw [laneGroup_group, lanePos_group]
  refine Finset.sum_congr rfl fun r _ => ?_
  unfold dkRow
  rw [groupOf_headOf]; rfl

theorem group_dvB (g : Fin 2) (κ : Fin 2304) (d : Fin 64) :
    group (dvB Q CT K) g κ d = ∑ r, Soft.pr (stack Q g r) (group K g) κ * stack CT g r d := by
  unfold group dvB
  rw [laneGroup_group, lanePos_group]
  refine Finset.sum_congr rfl fun r _ => ?_
  unfold dvRow
  rw [groupOf_headOf]; rfl

include hq hk hv hc

theorem holds_dk (g : Fin 2) : Holds (if g = 0 then dk0 x0 x1 x2 x3 else dk1 x0 x1 x2 x3) (group (dkB Q CT K V) g) := by
  match g with
  | 0 => exact (holds_dk0 hq hk hv hc).of_eq fun κ d => (group_dkB 0 κ d).symm
  | 1 => exact (holds_dk1 hq hk hv hc).of_eq fun κ d => (group_dkB 1 κ d).symm

theorem holds_dv (g : Fin 2) : Holds (if g = 0 then dv0 x0 x1 x3 else dv1 x0 x1 x3) (group (dvB Q CT K) g) := by
  match g with
  | 0 => exact (holds_dv0 hq hk hv hc).of_eq fun κ d => (group_dvB 0 κ d).symm
  | 1 => exact (holds_dv1 hq hk hv hc).of_eq fun κ d => (group_dvB 1 κ d).symm

omit hq hk hv hc

/-- What a later run finds in an output block, its group `g` read and the share added. -/
theorem holds_more {xo : Vec Ideal S1x2304x128 .f32} {f s : Fin 2304 → Fin 128 → ℝ} (ho : ∀ κ c, xo (ix3 0 κ c) = (f κ c : EReal))
    (g : Fin 2) (o : ℕ) (hg : o = 64 * g.val) (inb) {D : FVec Ideal S2304x64 .f32} (hD : Holds D (group s g)) :
    Holds (addf (shapeCast S2304x64 (View.ld xo (Rect.unit ![0, 0, o] ![1, 2304, 64] inb)) shapeCasts_S1x2304x64_S2304x64) D)
      (group (fun κ c => f κ c + s κ c) g) :=
  holds_add (f := group f g) (g := group s g)
    (fun κ d => (load_apply xo o inb shapeCasts_S1x2304x64_S2304x64 κ d ⟨64 * g.val + d.val, by omega⟩ (by simp only [hg])).trans (ho κ _)) hD

end

end Cert.KernelIdeal.Entry

end
-- ==== Proof.Array.lean ====
/- What the kernel's three arrays hold after its run, when its arguments hold real numbers. -/
module

public import proofs.«01_k».proof.Proof.Entry
public import proofs.«01_k».proof.Proof.Gen.KernelIdeal.Value

@[expose] public section

noncomputable section

open scoped BigOperators

namespace Cert.KernelIdeal.Array

open Cert.KernelIdeal Cert.KernelIdeal.Gen Cert.KernelIdeal.Entry Cert.KernelIdeal.Outs
open Idealize.ShloMosaic Idealize.ShloMosaic.TcCoe Idealize.SL.Sem
open Idealize.ShloMosaic.Pipeline (Dat)

/-- The batch of a grid point. -/
def bat (n : ℕ) : Fin 4 := ⟨n / 16 % 4, Nat.mod_lt _ (by decide)⟩

/-- Row `i` of the `j`-th block of 128. -/
def rowOf (j : ℕ) (i : Fin 128) : Fin 2048 := ⟨(128 * j + i.val) % 2048, Nat.mod_lt _ (by decide)⟩

/-- The `j`-th block of 128 rows. -/
def blk (X : Fin 2048 → Fin 512 → ℝ) (j : ℕ) (i : Fin 128) : Fin 512 → ℝ := X (rowOf j i)

/-! ## The windows' indices -/

theorem index0 : ∀ t : Fin cfg0.N, win0_0.index t 0 = t.val / 16 ∧ win0_0.index t 1 = t.val % 16 + 2 ∧ win0_0.index t 2 = 0 :=
  (by decide +kernel : ∀ t : Fin grid0.N, win0_0.index t 0 = t.val / 16 ∧ win0_0.index t 1 = t.val % 16 + 2 ∧ win0_0.index t 2 = 0)

theorem index1 : ∀ t : Fin cfg0.N, win0_1.index t 0 = t.val / 16 ∧ win0_1.index t 1 = 0 ∧ win0_1.index t 2 = 0 :=
  (by decide +kernel : ∀ t : Fin grid0.N, win0_1.index t 0 = t.val / 16 ∧ win0_1.index t 1 = 0 ∧ win0_1.index t 2 = 0)

theorem index2 : ∀ t : Fin cfg0.N, win0_2.index t 0 = t.val / 16 ∧ win0_2.index t 1 = 0 ∧ win0_2.index t 2 = 77 :=
  (by decide +kernel : ∀ t : Fin grid0.N, win0_2.index t 0 = t.val / 16 ∧ win0_2.index t 1 = 0 ∧ win0_2.index t 2 = 77)

theorem index3 : ∀ t : Fin cfg0.N, win0_3.index t 0 = t.val / 16 ∧ win0_3.index t 1 = t.val % 16 ∧ win0_3.index t 2 = 0 :=
  (by decide +kernel : ∀ t : Fin grid0.N, win0_3.index t 0 = t.val / 16 ∧ win0_3.index t 1 = t.val % 16 ∧ win0_3.index t 2 = 0)

theorem index4 : ∀ t : Fin cfg0.N, win0_4.index t 0 = t.val / 16 ∧ win0_4.index t 1 = t.val % 16 ∧ win0_4.index t 2 = 0 :=
  (by decide +kernel : ∀ t : Fin grid0.N, win0_4.index t 0 = t.val / 16 ∧ win0_4.index t 1 = t.val % 16 ∧ win0_4.index t 2 = 0)

theorem index5 : ∀ t : Fin cfg0.N, win0_5.index t 0 = t.val / 16 ∧ win0_5.index t 1 = 0 ∧ win0_5.index t 2 = 0 :=
  (by decide +kernel : ∀ t : Fin grid0.N, win0_5.index t 0 = t.val / 16 ∧ win0_5.index t 1 = 0 ∧ win0_5.index t 2 = 0)

theorem index6 : ∀ t : Fin cfg0.N, win0_6.index t 0 = t.val / 16 ∧ win0_6.index t 1 = 0 ∧ win0_6.index t 2 = 0 :=
  (by decide +kernel : ∀ t : Fin grid0.N, win0_6.index t 0 = t.val / 16 ∧ win0_6.index t 1 = 0 ∧ win0_6.index t 2 = 0)

variable (m : (ℓ : Loc nD τ sig) → Buf (Elt Ideal) ℓ)

/-- The arguments hold real numbers where the kernel reads them. -/
structure Reals (c : Dev nD) (q : Fin 4 → Fin 2048 → Fin 512 → ℝ) (k v : Fin 4 → Fin 2304 → Fin 128 → ℝ) (ct : Fin 4 → Fin 2048 → Fin 512 → ℝ) : Prop where
  q : ∀ b n l, (m ((c : Thread nD τ).loc main_arg0) : Vec Ideal S4x2304x512 .bf16) (ix3 b ⟨256 + n.val, by omega⟩ l) = (q b n l : EReal)
  k : ∀ b κ l, (m ((c : Thread nD τ).loc main_arg1) : Vec Ideal S4x2304x128 .bf16) (ix3 b κ l) = (k b κ l : EReal)
  v : ∀ b κ l, (m ((c : Thread nD τ).loc main_arg2) : Vec Ideal S4x2304x10240 .bf16) (ix3 b κ ⟨9856 + l.val, by omega⟩) = (v b κ l : EReal)
  ct : ∀ b n l, (m ((c : Thread nD τ).loc main_arg3) : Vec Ideal S4x2048x512 .f32) (ix3 b n l) = (ct b n l : EReal)

theorem lt_N (t : Fin cfg0.N) : t.val < 64 := lt_of_lt_of_eq t.isLt N_0

section

variable {m} {c : Dev nD} {q ct : Fin 4 → Fin 2048 → Fin 512 → ℝ} {k v : Fin 4 → Fin 2304 → Fin 128 → ℝ} (H : Reals m c q k v ct)
include H

theorem read_q (t : Fin cfg0.N) (i : Fin 128) (l : Fin 512) :
    (iblk m c 0 t : Vec Ideal S1x128x512 .bf16) (ix3 0 i l) = (blk (q (bat t.val)) (t.val % 16) i l : EReal) := by
  have ht := lt_N t
  obtain ⟨e0, e1, e2⟩ := index0 t
  refine Eq.trans ?_ (H.q (bat t.val) (rowOf (t.val % 16) i) l)
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val / 16 % 4; rw [e0]; omega
  | ⟨1, _⟩ => show win0_0.index t 1 * 128 + 1 * i.val = 256 + (128 * (t.val % 16) + i.val) % 2048; rw [e1]; omega
  | ⟨2, _⟩ => show win0_0.index t 2 * 512 + 1 * l.val = l.val; rw [e2]; omega

theorem read_k (t : Fin cfg0.N) (κ : Fin 2304) (l : Fin 128) :
    (iblk m c 1 t : Vec Ideal S1x2304x128 .bf16) (ix3 0 κ l) = (k (bat t.val) κ l : EReal) := by
  have ht := lt_N t
  obtain ⟨e0, e1, e2⟩ := index1 t
  refine Eq.trans ?_ (H.k (bat t.val) κ l)
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 16 % 4; rw [e0]; omega
  | ⟨1, _⟩ => show win0_1.index t 1 * 2304 + 1 * κ.val = κ.val; rw [e1]; omega
  | ⟨2, _⟩ => show win0_1.index t 2 * 128 + 1 * l.val = l.val; rw [e2]; omega

theorem read_v (t : Fin cfg0.N) (κ : Fin 2304) (l : Fin 128) :
    (iblk m c 2 t : Vec Ideal S1x2304x128 .bf16) (ix3 0 κ l) = (v (bat t.val) κ l : EReal) := by
  have ht := lt_N t
  obtain ⟨e0, e1, e2⟩ := index2 t
  refine Eq.trans ?_ (H.v (bat t.val) κ l)
  unfold iblk
  rw [View.read_apply]
  show V m c main_arg2 _ = m (c.tc.loc main_arg2) _
  unfold V
  congr 1
  funext a
  apply Fin.ext
  match a with
  | ⟨0, _⟩ => show win0_2.index t 0 * 1 + 1 * 0 = t.val / 16 % 4; rw [e0]; omega
  | ⟨1, _⟩ => show win0_2.index t 1 * 2304 + 1 * κ.val = κ.val; rw [e1]; omega
  | ⟨2, _⟩ => show win0_2.index t 2 * 128 + 1 * l.val = 9856 + l.val; rw [e2]; omega

theorem read_ct (t : Fin cfg0.N) (i : Fin 128) (l : Fin 512) :
    (iblk m c 3 t : Vec Ideal S1x128x512 .f32) (ix3 0 i l) = (blk (ct (bat t.val)) (t.val % 16) i l : EReal) := by
  have ht := lt_N t
  obtain ⟨e0, e1, e2⟩ := index3 t
  refine Eq.trans ?_ (H.ct (bat t.val) (rowOf (t.val % 16) i) l)
  unfold iblk
  rw [View.read_apply]
  show V m c main_arg3 _ = m (c.tc.loc main_arg3) _
  unfold V
  congr 1
  funext a
  apply Fin.ext
  match a with
  | ⟨0, _⟩ => show win0_3.index t 0 * 1 + 1 * 0 = t.val / 16 % 4; rw [e0]; omega
  | ⟨1, _⟩ => show win0_3.index t 1 * 128 + 1 * i.val = (128 * (t.val % 16) + i.val) % 2048; rw [e1]; omega
  | ⟨2, _⟩ => show win0_3.index t 2 * 512 + 1 * l.val = l.val; rw [e2]; omega

/-! ## What a grid point leaves -/

/-- The share of the keys' gradient at a grid point. -/
def dkAt (q ct : Fin 4 → Fin 2048 → Fin 512 → ℝ) (k v : Fin 4 → Fin 2304 → Fin 128 → ℝ) (b : Fin 4) (j : ℕ) : Fin 2304 → Fin 128 → ℝ :=
  dkB (blk (q b) j) (blk (ct b) j) (k b) (v b)

/-- The share of the values' gradient at a grid point. -/
def dvAt (q ct : Fin 4 → Fin 2048 → Fin 512 → ℝ) (k : Fin 4 → Fin 2304 → Fin 128 → ℝ) (b : Fin 4) (j : ℕ) : Fin 2304 → Fin 128 → ℝ :=
  dvB (blk (q b) j) (blk (ct b) j) (k b)

theorem out_q (t : Fin cfg0.N) (y : S1x128x512.Idx) :
    (outsAt0 m c t.val t.isLt).1 y
      = (dqB (blk (q (bat t.val)) (t.val % 16)) (blk (ct (bat t.val)) (t.val % 16)) (k (bat t.val)) (v (bat t.val)) (y 1) (y 2) : EReal) := by
  by_cases h : t.val % 16 = 0
  · rw [outsAt0_A m c t h (by omega) h (by omega)]
    dsimp only
    rw [out_A_4]
    exact pieces4_apply (read_q H t) (read_k H t) (read_v H t) (read_ct H t) y
  · rw [outsAt0_B m c t h (by omega) h (by omega)]
    dsimp only
    rw [out_B_4]
    exact pieces4_apply (read_q H t) (read_k H t) (read_v H t) (read_ct H t) y

theorem out_kv : ∀ (n : ℕ) (hn : n < cfg0.N),
    (∀ κ l, (outsAt0 m c n hn).2.1 (ix3 0 κ l) = ((∑ j ∈ Finset.range (n % 16 + 1), dkAt q ct k v (bat n) j κ l : ℝ) : EReal))
    ∧ ∀ κ l, (outsAt0 m c n hn).2.2 (ix3 0 κ l) = ((∑ j ∈ Finset.range (n % 16 + 1), dvAt q ct k (bat n) j κ l : ℝ) : EReal) := by
  intro n
  induction n with
  | zero =>
    intro hn
    have e := outsAt0_A m c ⟨0, hn⟩ rfl (by dsimp only; omega) rfl (by dsimp only; omega)
    change outsAt0 m c 0 hn = _ at e
    rw [e]
    dsimp only
    rw [out_A_5, out_A_6]
    refine ⟨fun κ l => ?_, fun κ l => ?_⟩
    · rw [show (0 % 16 + 1 : ℕ) = 1 from rfl, Finset.sum_range_one]
      exact twoGroups _ (holds_dk (read_q H ⟨0, hn⟩) (read_k H ⟨0, hn⟩) (read_v H ⟨0, hn⟩) (read_ct H ⟨0, hn⟩) 0)
        (holds_dk (read_q H ⟨0, hn⟩) (read_k H ⟨0, hn⟩) (read_v H ⟨0, hn⟩) (read_ct H ⟨0, hn⟩) 1) (ix3 0 κ l)
    · rw [show (0 % 16 + 1 : ℕ) = 1 from rfl, Finset.sum_range_one]
      exact twoGroups _ (holds_dv (read_q H ⟨0, hn⟩) (read_k H ⟨0, hn⟩) (read_v H ⟨0, hn⟩) (read_ct H ⟨0, hn⟩) 0)
        (holds_dv (read_q H ⟨0, hn⟩) (read_k H ⟨0, hn⟩) (read_v H ⟨0, hn⟩) (read_ct H ⟨0, hn⟩) 1) (ix3 0 κ l)
  | succ n ih =>
    intro hn
    have kq := read_q H ⟨n + 1, hn⟩
    have kk := read_k H ⟨n + 1, hn⟩
    have kv := read_v H ⟨n + 1, hn⟩
    have kc := read_ct H ⟨n + 1, hn⟩
    by_cases h : (n + 1) % 16 = 0
    · have e := outsAt0_A m c ⟨n + 1, hn⟩ h (by dsimp only; omega) h (by dsimp only; omega)
      change outsAt0 m c (n + 1) hn = _ at e
      rw [e]
      dsimp only
      rw [out_A_5, out_A_6]
      refine ⟨fun κ l => ?_, fun κ l => ?_⟩
      · rw [h, zero_add, Finset.sum_range_one]
        dsimp only at kq kc
        rw [h] at kq kc
        exact twoGroups _ (holds_dk kq kk kv kc 0) (holds_dk kq kk kv kc 1) (ix3 0 κ l)
      · rw [h, zero_add, Finset.sum_range_one]
        dsimp only at kq kc
        rw [h] at kq kc
        exact twoGroups _ (holds_dv kq kk kv kc 0) (holds_dv kq kk kv kc 1) (ix3 0 κ l)
    · have e := outsAt0_B m c ⟨n + 1, hn⟩ h (by dsimp only; omega) h (by dsimp only; omega)
      change outsAt0 m c (n + 1) hn = _ at e
      rw [e]
      dsimp only
      rw [out_B_5, out_B_6]
      obtain ⟨i5, i6⟩ := ih (Nat.lt_of_succ_lt hn)
      have em : n % 16 + 1 = (n + 1) % 16 := by omega
      have eb : bat n = bat (n + 1) := Fin.ext (by show n / 16 % 4 = (n + 1) / 16 % 4; omega)
      rw [em, eb] at i5 i6
      refine ⟨fun κ l => ?_, fun κ l => ?_⟩
      · simp only [Finset.sum_range_succ _ ((n + 1) % 16)]
        exact twoGroups _ (holds_more i5 0 0 rfl inb_S1x2304x128_S1x2304x64_0_0_0 (holds_dk kq kk kv kc 0))
          (holds_more i5 1 64 rfl inb_S1x2304x128_S1x2304x64_0_0_64 (holds_dk kq kk kv kc 1)) (ix3 0 κ l)
      · simp only [Finset.sum_range_succ _ ((n + 1) % 16)]
        exact twoGroups _ (holds_more i6 0 0 rfl inb_S1x2304x128_S1x2304x64_0_0_0 (holds_dv kq kk kv kc 0))
          (holds_more i6 1 64 rfl inb_S1x2304x128_S1x2304x64_0_0_64 (holds_dv kq kk kv kc 1)) (ix3 0 κ l)

/-! ## The arrays -/

/-- The queries' gradient. -/
def dqArr (q ct : Fin 4 → Fin 2048 → Fin 512 → ℝ) (k v : Fin 4 → Fin 2304 → Fin 128 → ℝ) (y : S4x2048x512.Idx) : EReal :=
  (dqB (q (y 0)) (ct (y 0)) (k (y 0)) (v (y 0)) (y 1) (y 2) : ℝ)

/-- The keys' gradient. -/
def dkArr (q ct : Fin 4 → Fin 2048 → Fin 512 → ℝ) (k v : Fin 4 → Fin 2304 → Fin 128 → ℝ) (y : S4x2304x128.Idx) : EReal :=
  (∑ j ∈ Finset.range 16, dkAt q ct k v (y 0) j (y 1) (y 2) : ℝ)

/-- The values' gradient. -/
def dvArr (q ct : Fin 4 → Fin 2048 → Fin 512 → ℝ) (k : Fin 4 → Fin 2304 → Fin 128 → ℝ) (y : S4x2304x128.Idx) : EReal :=
  (∑ j ∈ Finset.range 16, dvAt q ct k (y 0) j (y 1) (y 2) : ℝ)

theorem final4 : (dats m 0 c).arrAt 4 cfg0.N = dqArr q ct k v := by
  refine (dats m 0 c).arrAt_eq_of_cover 4 (dqArr q ct k v) (fun t _ => ?_) fun y => ?_
  · have ht := lt_N t
    obtain ⟨e0, e1, e2⟩ := index4 t
    rw [Value.flushed4]
    funext y
    rw [View.read_apply]
    refine (out_q H t y).trans ?_
    have hy0 : (y 0).val < 1 := (y 0).isLt
    have hy1 : (y 1).val < 128 := (y 1).isLt
    have hy2 : (y 2).val < 512 := (y 2).isLt
    have d0 : (((cfg0.win 4).blk t).view.emb y : S4x2048x512.Idx) 0 = bat t.val := Fin.ext (by
      show win0_4.index t 0 * 1 + 1 * (y 0).val = t.val / 16 % 4; rw [e0]; omega)
    have d1 : (((cfg0.win 4).blk t).view.emb y : S4x2048x512.Idx) 1 = rowOf (t.val % 16) (y 1) := Fin.ext (by
      show win0_4.index t 1 * 128 + 1 * (y 1).val = (128 * (t.val % 16) + (y 1).val) % 2048; rw [e1]; omega)
    have d2 : (((cfg0.win 4).blk t).view.emb y : S4x2048x512.Idx) 2 = y 2 := Fin.ext (by
      show win0_4.index t 2 * 512 + 1 * (y 2).val = (y 2).val; rw [e2]; omega)
    unfold dqArr
    rw [d0, d1, d2]
    rfl
  · have h0 : (y 0 : Nat) < 4 := (y 0).isLt
    have h1 : (y 1 : Nat) < 2048 := (y 1).isLt
    have h2 : (y 2 : Nat) < 512 := (y 2).isLt
    have hN : cfg0.N = 64 := N_0
    let t : Fin cfg0.N := ⟨16 * (y 0).val + (y 1).val / 128, by omega⟩
    obtain ⟨e0, e1, e2⟩ := index4 t
    have ht : t.val = 16 * (y 0).val + (y 1).val / 128 := rfl
    refine ⟨t, flush0_4 t, ?_⟩
    show y ∈ ((View.whole main_v0_0).slice (win0_4.rect t)).set
    rw [View.set_slice_whole, Rect.mem_set_unit]
    intro a
    match a with
    | ⟨0, _⟩ =>
      show win0_4.index t 0 * 1 ≤ (y 0 : Nat) ∧ (y 0 : Nat) < win0_4.index t 0 * 1 + 1
      rw [e0]; omega
    | ⟨1, _⟩ =>
      show win0_4.index t 1 * 128 ≤ (y 1 : Nat) ∧ (y 1 : Nat) < win0_4.index t 1 * 128 + 128
      rw [e1]; omega
    | ⟨2, _⟩ =>
      show win0_4.index t 2 * 512 ≤ (y 2 : Nat) ∧ (y 2 : Nat) < win0_4.index t 2 * 512 + 512
      rw [e2]; omega

theorem final5 : (dats m 0 c).arrAt 5 cfg0.N = dkArr q ct k v := by
  refine (dats m 0 c).arrAt_eq_of_cover 5 (dkArr q ct k v) (fun t hf => ?_) fun y => ?_
  · have ht := lt_N t
    have hl := (flush0_5 t).mp hf
    obtain ⟨e0, e1, e2⟩ := index5 t
    rw [Value.flushed5]
    funext y
    rw [View.read_apply]
    have hy0 : (y 0).val < 1 := (y 0).isLt
    have hy1 : (y 1).val < 2304 := (y 1).isLt
    have hy2 : (y 2).val < 128 := (y 2).isLt
    have ey : (y : S1x2304x128.Idx) = ix3 0 (y 1) (y 2) := by
      funext a
      match a with
      | ⟨0, _⟩ => exact Fin.ext (by show (y 0).val = 0; omega)
      | ⟨1, _⟩ => rfl
      | ⟨2, _⟩ => rfl
    refine (congrArg ((outsAt0 m c t.val t.isLt).2.1 : S1x2304x128.Idx → EReal) ey).trans (((out_kv H t.val t.isLt).1 (y 1) (y 2)).trans ?_)
    have d0 : (((cfg0.win 5).blk t).view.emb y : S4x2304x128.Idx) 0 = bat t.val := Fin.ext (by
      show win0_5.index t 0 * 1 + 1 * (y 0).val = t.val / 16 % 4; rw [e0]; omega)
    have d1 : (((cfg0.win 5).blk t).view.emb y : S4x2304x128.Idx) 1 = y 1 := Fin.ext (by
      show win0_5.index t 1 * 2304 + 1 * (y 1).val = (y 1).val; rw [e1]; omega)
    have d2 : (((cfg0.win 5).blk t).view.emb y : S4x2304x128.Idx) 2 = y 2 := Fin.ext (by
      show win0_5.index t 2 * 128 + 1 * (y 2).val = (y 2).val; rw [e2]; omega)
    unfold dkArr
    rw [d0, d1, d2, hl]
    rfl
  · have h0 : (y 0 : Nat) < 4 := (y 0).isLt
    have h1 : (y 1 : Nat) < 2304 := (y 1).isLt
    have h2 : (y 2 : Nat) < 128 := (y 2).isLt
    have hN : cfg0.N = 64 := N_0
    let t : Fin cfg0.N := ⟨16 * (y 0).val + 15, by omega⟩
    obtain ⟨e0, e1, e2⟩ := index5 t
    have ht : t.val = 16 * (y 0).val + 15 := rfl
    refine ⟨t, (flush0_5 t).mpr (by omega), ?_⟩
    show y ∈ ((View.whole main_v0_1).slice (win0_5.rect t)).set
    rw [View.set_slice_whole, Rect.mem_set_unit]
    intro a
    match a with
    | ⟨0, _⟩ =>
      show win0_5.index t 0 * 1 ≤ (y 0 : Nat) ∧ (y 0 : Nat) < win0_5.index t 0 * 1 + 1
      rw [e0]; omega
    | ⟨1, _⟩ =>
      show win0_5.index t 1 * 2304 ≤ (y 1 : Nat) ∧ (y 1 : Nat) < win0_5.index t 1 * 2304 + 2304
      rw [e1]; omega
    | ⟨2, _⟩ =>
      show win0_5.index t 2 * 128 ≤ (y 2 : Nat) ∧ (y 2 : Nat) < win0_5.index t 2 * 128 + 128
      rw [e2]; omega

theorem final6 : (dats m 0 c).arrAt 6 cfg0.N = dvArr q ct k := by
  refine (dats m 0 c).arrAt_eq_of_cover 6 (dvArr q ct k) (fun t hf => ?_) fun y => ?_
  · have ht := lt_N t
    have hl := (flush0_6 t).mp hf
    obtain ⟨e0, e1, e2⟩ := index6 t
    rw [Value.flushed6]
    funext y
    rw [View.read_apply]
    have hy0 : (y 0).val < 1 := (y 0).isLt
    have hy1 : (y 1).val < 2304 := (y 1).isLt
    have hy2 : (y 2).val < 128 := (y 2).isLt
    have ey : (y : S1x2304x128.Idx) = ix3 0 (y 1) (y 2) := by
      funext a
      match a with
      | ⟨0, _⟩ => exact Fin.ext (by show (y 0).val = 0; omega)
      | ⟨1, _⟩ => rfl
      | ⟨2, _⟩ => rfl
    refine (congrArg ((outsAt0 m c t.val t.isLt).2.2 : S1x2304x128.Idx → EReal) ey).trans (((out_kv H t.val t.isLt).2 (y 1) (y 2)).trans ?_)
    have d0 : (((cfg0.win 6).blk t).view.emb y : S4x2304x128.Idx) 0 = bat t.val := Fin.ext (by
      show win0_6.index t 0 * 1 + 1 * (y 0).val = t.val / 16 % 4; rw [e0]; omega)
    have d1 : (((cfg0.win 6).blk t).view.emb y : S4x2304x128.Idx) 1 = y 1 := Fin.ext (by
      show win0_6.index t 1 * 2304 + 1 * (y 1).val = (y 1).val; rw [e1]; omega)
    have d2 : (((cfg0.win 6).blk t).view.emb y : S4x2304x128.Idx) 2 = y 2 := Fin.ext (by
      show win0_6.index t 2 * 128 + 1 * (y 2).val = (y 2).val; rw [e2]; omega)
    unfold dvArr
    rw [d0, d1, d2, hl]
    rfl
  · have h0 : (y 0 : Nat) < 4 := (y 0).isLt
    have h1 : (y 1 : Nat) < 2304 := (y 1).isLt
    have h2 : (y 2 : Nat) < 128 := (y 2).isLt
    have hN : cfg0.N = 64 := N_0
    let t : Fin cfg0.N := ⟨16 * (y 0).val + 15, by omega⟩
    obtain ⟨e0, e1, e2⟩ := index6 t
    have ht : t.val = 16 * (y 0).val + 15 := rfl
    refine ⟨t, (flush0_6 t).mpr (by omega), ?_⟩
    show y ∈ ((View.whole main_v0_2).slice (win0_6.rect t)).set
    rw [View.set_slice_whole, Rect.mem_set_unit]
    intro a
    match a with
    | ⟨0, _⟩ =>
      show win0_6.index t 0 * 1 ≤ (y 0 : Nat) ∧ (y 0 : Nat) < win0_6.index t 0 * 1 + 1
      rw [e0]; omega
    | ⟨1, _⟩ =>
      show win0_6.index t 1 * 2304 ≤ (y 1 : Nat) ∧ (y 1 : Nat) < win0_6.index t 1 * 2304 + 2304
      rw [e1]; omega
    | ⟨2, _⟩ =>
      show win0_6.index t 2 * 128 ≤ (y 2 : Nat) ∧ (y 2 : Nat) < win0_6.index t 2 * 128 + 128
      rw [e2]; omega

end

end Cert.KernelIdeal.Array

end
-- ==== Proof.Ref.lean ====
/- What the reference computes, stage by stage, when its arguments hold real numbers. -/
module

public import proofs.«01_k».proof.Proof.Entry
public import proofs.«01_k».proof.Proof.Gen.ReferenceIdeal.Read
public import Idealize.ShloMosaic.Lib.KernelVsHost
public import Idealize.ShloMosaic.Lib.TwoAxisContraction

@[expose] public section

noncomputable section

open scoped BigOperators

namespace Cert.ReferenceIdeal.Ref

open Cert.ReferenceIdeal Cert.ReferenceIdeal.Gen Cert.ReferenceIdeal.Read
open Cert.KernelIdeal.Entry (head group groupOf laneHead laneGroup lanePos dqB dkRow dvRow)
open Idealize.ShloMosaic Idealize.ShloMosaic.TcCoe

variable (x0 : (⟨S4x2304x512, .bf16⟩ : BufTy).Contents (Elt Ideal)) (x1 : (⟨S4x2304x128, .bf16⟩ : BufTy).Contents (Elt Ideal))
  (x2 : (⟨S4x2304x10240, .bf16⟩ : BufTy).Contents (Elt Ideal)) (x3 : (⟨S4x2048x512, .f32⟩ : BufTy).Contents (Elt Ideal))
variable (q ct : Fin 4 → Fin 2048 → Fin 512 → ℝ) (k v : Fin 4 → Fin 2304 → Fin 128 → ℝ)

/-- The `j`-th head of group `g`. -/
def hh (g : Fin 2) (j : Fin 4) : Fin 8 := ⟨4 * g.val + j.val, by omega⟩

theorem groupOf_hh (g : Fin 2) (j : Fin 4) : groupOf (hh g j) = g := Fin.ext (by show (4 * g.val + j.val) / 4 = g.val; omega)

/-- The arguments hold real numbers where the reference reads them. -/
structure Reals : Prop where
  q : ∀ b n l, x0 (ix3 b ⟨256 + n.val, by omega⟩ l) = (q b n l : EReal)
  k : ∀ b κ l, x1 (ix3 b κ l) = (k b κ l : EReal)
  v : ∀ b κ l, x2 (ix3 b κ ⟨9856 + l.val, by omega⟩) = (v b κ l : EReal)
  ct : ∀ b n l, x3 (ix3 b n l) = (ct b n l : EReal)

variable {x0 x1 x2 x3 q ct k v} (H : Reals x0 x1 x2 x3 q ct k v)
include H

/-! ## The arguments, by head -/

theorem keys (i : S4x2304x2x64.Idx) : val_main_v6 x1 i = (group (k (i 0)) (i 2) (i 1) (i 3) : EReal) := by
  have h0 : (i 0).val < 4 := (i 0).isLt
  have h1 : (i 1).val < 2304 := (i 1).isLt
  have h2 : (i 2).val < 2 := (i 2).isLt
  have h3 : (i 3).val < 64 := (i 3).isLt
  rw [val_main_v6_apply, val_main_v2_apply]
  refine Eq.trans (congrArg x1 (funext fun a => Fin.ext ?_)) (H.k (i 0) (i 1) ⟨64 * (i 2).val + (i 3).val, by omega⟩)
  match a with
  | ⟨0, _⟩ => show ((((i 0).val * 2304 + (i 1).val) * 2 + (i 2).val) * 64 + (i 3).val) / 294912 = (i 0).val; omega
  | ⟨1, _⟩ => show ((((i 0).val * 2304 + (i 1).val) * 2 + (i 2).val) * 64 + (i 3).val) / 128 % 2304 = (i 1).val; omega
  | ⟨2, _⟩ => show ((((i 0).val * 2304 + (i 1).val) * 2 + (i 2).val) * 64 + (i 3).val) % 128 = 64 * (i 2).val + (i 3).val; omega

theorem values (i : S4x2304x2x64.Idx) : val_main_v7 x2 i = (group (v (i 0)) (i 2) (i 1) (i 3) : EReal) := by
  have h0 : (i 0).val < 4 := (i 0).isLt
  have h1 : (i 1).val < 2304 := (i 1).isLt
  have h2 : (i 2).val < 2 := (i 2).isLt
  have h3 : (i 3).val < 64 := (i 3).isLt
  rw [val_main_v7_apply, val_main_v4_apply, val_main_v3_apply]
  refine Eq.trans (congrArg x2 (funext fun a => Fin.ext ?_)) (H.v (i 0) (i 1) ⟨64 * (i 2).val + (i 3).val, by omega⟩)
  match a with
  | ⟨0, _⟩ => show ((((i 0).val * 2304 + (i 1).val) * 2 + (i 2).val) * 64 + (i 3).val) / 294912 = (i 0).val; omega
  | ⟨1, _⟩ => show ((((i 0).val * 2304 + (i 1).val) * 2 + (i 2).val) * 64 + (i 3).val) / 128 % 2304 = (i 1).val; omega
  | ⟨2, _⟩ => show 9856 + ((((i 0).val * 2304 + (i 1).val) * 2 + (i 2).val) * 64 + (i 3).val) % 128 = 9856 + (64 * (i 2).val + (i 3).val); omega

theorem queries5 (i : S4x2048x8x64.Idx) : val_main_v5 x0 i = (head (q (i 0)) (i 1) (i 2) (i 3) : EReal) := by
  have h0 : (i 0).val < 4 := (i 0).isLt
  have h1 : (i 1).val < 2048 := (i 1).isLt
  have h2 : (i 2).val < 8 := (i 2).isLt
  have h3 : (i 3).val < 64 := (i 3).isLt
  rw [val_main_v5_apply, val_main_v1_apply, val_main_v0_apply]
  refine Eq.trans (congrArg x0 (funext fun a => Fin.ext ?_)) (H.q (i 0) (i 1) ⟨64 * (i 2).val + (i 3).val, by omega⟩)
  match a with
  | ⟨0, _⟩ => show ((((i 0).val * 2048 + (i 1).val) * 8 + (i 2).val) * 64 + (i 3).val) / 1048576 = (i 0).val; omega
  | ⟨1, _⟩ => show 256 + ((((i 0).val * 2048 + (i 1).val) * 8 + (i 2).val) * 64 + (i 3).val) / 512 % 2048 = 256 + (i 1).val; omega
  | ⟨2, _⟩ => show ((((i 0).val * 2048 + (i 1).val) * 8 + (i 2).val) * 64 + (i 3).val) % 512 = 64 * (i 2).val + (i 3).val; omega

theorem queries (i : S4x2048x2x4x64.Idx) : val_main_v8 x0 i = (head (q (i 0)) (i 1) (hh (i 2) (i 3)) (i 4) : EReal) := by
  have h0 : (i 0).val < 4 := (i 0).isLt
  have h1 : (i 1).val < 2048 := (i 1).isLt
  have h2 : (i 2).val < 2 := (i 2).isLt
  have h3 : (i 3).val < 4 := (i 3).isLt
  have h4 : (i 4).val < 64 := (i 4).isLt
  rw [val_main_v8_apply, queries5 H]
  have e0 : idx_main_v8 i 0 = i 0 := Fin.ext (by
    show (((((i 0).val * 2048 + (i 1).val) * 2 + (i 2).val) * 4 + (i 3).val) * 64 + (i 4).val) / 1048576 = (i 0).val; omega)
  have e1 : idx_main_v8 i 1 = i 1 := Fin.ext (by
    show (((((i 0).val * 2048 + (i 1).val) * 2 + (i 2).val) * 4 + (i 3).val) * 64 + (i 4).val) / 512 % 2048 = (i 1).val; omega)
  have e2 : idx_main_v8 i 2 = hh (i 2) (i 3) := Fin.ext (by
    show (((((i 0).val * 2048 + (i 1).val) * 2 + (i 2).val) * 4 + (i 3).val) * 64 + (i 4).val) / 64 % 8 = 4 * (i 2).val + (i 3).val; omega)
  have e3 : idx_main_v8 i 3 = i 4 := Fin.ext (by
    show (((((i 0).val * 2048 + (i 1).val) * 2 + (i 2).val) * 4 + (i 3).val) * 64 + (i 4).val) % 64 = (i 4).val; omega)
  rw [e0, e1, e2, e3]

theorem cots (i : S4x2x64x4x2048.Idx) : val_main_v43 x3 i = (head (ct (i 0)) (i 4) (hh (i 1) (i 3)) (i 2) : EReal) := by
  have h0 : (i 0).val < 4 := (i 0).isLt
  have h1 : (i 4).val < 2048 := (i 4).isLt
  have h2 : (i 1).val < 2 := (i 1).isLt
  have h3 : (i 3).val < 4 := (i 3).isLt
  have h4 : (i 2).val < 64 := (i 2).isLt
  rw [val_main_v43_apply, val_main_v42_apply]
  refine Eq.trans (congrArg x3 (funext fun a => Fin.ext ?_)) (H.ct (i 0) (i 4) ⟨64 * (4 * (i 1).val + (i 3).val) + (i 2).val, by omega⟩)
  match a with
  | ⟨0, _⟩ => show (((((i 0).val * 2048 + (i 4).val) * 2 + (i 1).val) * 4 + (i 3).val) * 64 + (i 2).val) / 1048576 = (i 0).val; omega
  | ⟨1, _⟩ => show (((((i 0).val * 2048 + (i 4).val) * 2 + (i 1).val) * 4 + (i 3).val) * 64 + (i 2).val) / 512 % 2048 = (i 4).val; omega
  | ⟨2, _⟩ => show (((((i 0).val * 2048 + (i 4).val) * 2 + (i 1).val) * 4 + (i 3).val) * 64 + (i 2).val) % 512 = 64 * (4 * (i 1).val + (i 3).val) + (i 2).val; omega

omit H

/-! ## Softmax and its gradient -/

/-- A row's queries. -/
def qr (q : Fin 4 → Fin 2048 → Fin 512 → ℝ) (b : Fin 4) (g : Fin 2) (h : Fin 4) (n : Fin 2048) : Fin 64 → ℝ := head (q b) n (hh g h)

/-- A group's keys or values. -/
def kr (k : Fin 4 → Fin 2304 → Fin 128 → ℝ) (b : Fin 4) (g : Fin 2) : Fin 2304 → Fin 64 → ℝ := group (k b) g

include H

theorem scores (i : S4x2x4x2048x2304.Idx) :
    val_main_v10 x0 x1 i = (Soft.sc (qr q (i 0) (i 1) (i 2) (i 3)) (kr k (i 0) (i 1)) (i 4) : EReal) := by
  rw [val_main_v10_apply, val_main_v9_apply]
  unfold Soft.sc
  rw [← Cert.Fin.sum_coe]
  refine Finset.sum_congr rfl fun d _ => ?_
  rw [keys H, queries H, ← EReal.coe_mul, mul_comm]
  rfl

theorem grads (i : S4x2x4x2048x2304.Idx) :
    val_main_v44 x2 x3 i = (Soft.gr (qr ct (i 0) (i 1) (i 2) (i 3)) (kr v (i 0) (i 1)) (i 4) : EReal) := by
  rw [val_main_v44_apply]
  unfold Soft.gr
  rw [← Cert.Fin.sum_coe]
  refine Finset.sum_congr rfl fun d _ => ?_
  rw [values H, cots H, ← EReal.coe_mul]
  rfl

/-- The rows' maxima are finite. -/
theorem exists_max : ∃ M : S4x2x4x2048.Idx → ℝ, ∀ i, val_main_v18 x0 x1 i = (M i : EReal) := by
  have hr : S4x2x4x2048x2304.Reduces [4] S4x2x4x2048 := by decide
  have h : ∀ i : S4x2x4x2048.Idx, ∃ M : ℝ, val_main_v11 x0 x1 i = (M : EReal) := fun i => by
    obtain ⟨M, hM⟩ := Cert.Fin.fold_max_coe (Finset.univ : Finset (Fin 2304)) ⟨0, Finset.mem_univ _⟩
      (fun κ => Soft.sc (qr q (i 0) (i 1) (i 2) (i 3)) (kr k (i 0) (i 1)) κ)
    refine ⟨M, ?_⟩
    unfold val_main_v11 val_main_cst
    refine (congrFun (hostReduce_maximumf_eq_multiReduction (val_main_v10 x0 x1) 0xFF800000#32
      reducesTo_S4x2x4x2048x2304_S4x2x4x2048_d4 h_S_ hr (.inl rfl) rfl) i).trans ?_
    refine (Ideal.multiReduction_maximumf_single _ _ _ _ _ _).trans (Eq.trans ?_ hM)
    have e : (val_main_v10 x0 x1 ∘ hr.lift i) = fun κ : Fin 2304 => ((Soft.sc (qr q (i 0) (i 1) (i 2) (i 3)) (kr k (i 0) (i 1)) κ : ℝ) : EReal) :=
      funext fun κ => (scores H (hr.lift i κ)).trans rfl
    rw [e]
    show Finset.fold max (Ideal.ofBits .f32 0xFF800000#32) _ _ = _
    rw [Cert.Fin.ofBits_neg_inf]
    rfl
  choose M hM using h
  refine ⟨M, fun i => ?_⟩
  rw [val_main_v18_apply, val_main_v17_apply, val_main_cst_1_apply, hM]
  show max (Ideal.ofBits .f32 0xFF800000#32) (M i : EReal) = _
  rw [Cert.Fin.ofBits_neg_inf, max_eq_right bot_le]

omit H

end Cert.ReferenceIdeal.Ref

end
-- ==== Proof.RefSoft.lean ====
/- The reference's softmax, its gradient and the three results, over the real numbers. -/
module

public import proofs.«01_k».proof.Proof.Ref

@[expose] public section

noncomputable section

open scoped BigOperators

namespace Cert.ReferenceIdeal.Ref

open Cert.ReferenceIdeal Cert.ReferenceIdeal.Gen Cert.ReferenceIdeal.Read
open Cert.KernelIdeal.Entry (head group groupOf laneHead laneGroup lanePos dqB dkRow dvRow)
open Idealize.ShloMosaic Idealize.ShloMosaic.TcCoe

variable {x0 : (⟨S4x2304x512, .bf16⟩ : BufTy).Contents (Elt Ideal)} {x1 : (⟨S4x2304x128, .bf16⟩ : BufTy).Contents (Elt Ideal)}
  {x2 : (⟨S4x2304x10240, .bf16⟩ : BufTy).Contents (Elt Ideal)} {x3 : (⟨S4x2048x512, .f32⟩ : BufTy).Contents (Elt Ideal)}
variable {q ct : Fin 4 → Fin 2048 → Fin 512 → ℝ} {k v : Fin 4 → Fin 2304 → Fin 128 → ℝ}
variable (H : Reals x0 x1 x2 x3 q ct k v) (M : S4x2x4x2048.Idx → ℝ) (hM : ∀ i, val_main_v18 x0 x1 i = (M i : EReal))

/-- The row an entry of a score array lies in. -/
abbrev rowIx (i : S4x2x4x2048x2304.Idx) : S4x2x4x2048.Idx := ix4 (i 0) (i 1) (i 2) (i 3)

include H hM

theorem exps (i : S4x2x4x2048x2304.Idx) :
    val_main_v31 x0 x1 i = (Soft.ex (qr q (i 0) (i 1) (i 2) (i 3)) (kr k (i 0) (i 1)) (M (rowIx i)) (i 4) : EReal) := by
  rw [val_main_v31_apply, val_main_v30_apply, scores H, val_main_v29_apply, val_main_v28_apply, hM]
  have e : idx_main_v28 (idx_main_v29 i) = rowIx i := funext fun a => Fin.ext (by
    match a with | ⟨0, _⟩ => rfl | ⟨1, _⟩ => rfl | ⟨2, _⟩ => rfl | ⟨3, _⟩ => rfl)
  rw [e]
  simp only [Ideal.hostUnary_exp_def]
  show Ideal.exp ((_ : EReal) - (_ : EReal)) = _
  rw [← EReal.coe_sub, Ideal.exp_coe]
  rfl

theorem tots (i : S4x2x4x2048.Idx) :
    val_main_v32 x0 x1 i = (Soft.tot (qr q (i 0) (i 1) (i 2) (i 3)) (kr k (i 0) (i 1)) (M (ix4 (i 0) (i 1) (i 2) (i 3))) : EReal) := by
  rw [val_main_v32_apply]
  unfold Soft.tot
  rw [← Cert.Fin.sum_coe]
  show Ideal.ofBits .f32 0x00000000#32 + _ = _
  rw [Ideal.ofBits_zero_f32, zero_add]
  exact Finset.sum_congr rfl fun κ _ => exps H M hM (idx_main_v32 i κ)

theorem tots33 (i : S4x2x4x2048x1.Idx) :
    val_main_v33 x0 x1 i = (Soft.tot (qr q (i 0) (i 1) (i 2) (i 3)) (kr k (i 0) (i 1)) (M (ix4 (i 0) (i 1) (i 2) (i 3))) : EReal) := by
  rw [val_main_v33_apply, tots H M hM]; rfl

theorem probs (i : S4x2x4x2048x2304.Idx) :
    val_main_v35 x0 x1 i = (Soft.pr (qr q (i 0) (i 1) (i 2) (i 3)) (kr k (i 0) (i 1)) (i 4) : EReal) := by
  rw [val_main_v35_apply, exps H M hM, val_main_v34_apply, tots33 H M hM]
  show Ideal.div (_ : EReal) (_ : EReal) = _
  rw [Cert.Fin.div_coe (Soft.tot_ne _ _ _)]
  exact congrArg _ (Soft.ex_div_tot _ _ _ _)

theorem rsq (i : S4x2x4x2048x1.Idx) :
    val_main_v38 x0 x1 i = ((1 / (Soft.tot (qr q (i 0) (i 1) (i 2) (i 3)) (kr k (i 0) (i 1)) (M (ix4 (i 0) (i 1) (i 2) (i 3)))
      * Soft.tot (qr q (i 0) (i 1) (i 2) (i 3)) (kr k (i 0) (i 1)) (M (ix4 (i 0) (i 1) (i 2) (i 3)))) : ℝ) : EReal) := by
  rw [val_main_v38_apply, val_main_v37_apply, val_main_cst_8_apply, val_main_v36_apply, tots33 H M hM]
  show Ideal.div (Ideal.ofBits .f32 0x3F800000#32) ((_ : EReal) * (_ : EReal)) = _
  rw [Ideal.ofBits_one_f32, ← EReal.coe_mul, ← EReal.coe_one, Cert.Fin.div_coe (mul_ne_zero (Soft.tot_ne _ _ _) (Soft.tot_ne _ _ _))]

theorem rowSums (i : S4x2x4x2048.Idx) :
    val_main_v50 x0 x1 x2 x3 i = ((∑ κ, Soft.gr (qr ct (i 0) (i 1) (i 2) (i 3)) (kr v (i 0) (i 1)) κ
      * (1 / (Soft.tot (qr q (i 0) (i 1) (i 2) (i 3)) (kr k (i 0) (i 1)) (M (ix4 (i 0) (i 1) (i 2) (i 3)))
      * Soft.tot (qr q (i 0) (i 1) (i 2) (i 3)) (kr k (i 0) (i 1)) (M (ix4 (i 0) (i 1) (i 2) (i 3)))))
      * Soft.ex (qr q (i 0) (i 1) (i 2) (i 3)) (kr k (i 0) (i 1)) (M (ix4 (i 0) (i 1) (i 2) (i 3))) κ : ℝ) : EReal) := by
  rw [val_main_v50_apply, ← Cert.Fin.sum_coe]
  show Ideal.ofBits .f32 0x00000000#32 + _ = _
  rw [Ideal.ofBits_zero_f32, zero_add]
  refine Finset.sum_congr rfl fun κ _ => ?_
  rw [val_main_v49_apply, val_main_v48_apply, grads H, val_main_v47_apply, rsq H M hM, exps H M hM]
  show ((_ : EReal) * (_ : EReal)) * (_ : EReal) = _
  rw [← EReal.coe_mul, ← EReal.coe_mul]
  rfl

theorem negSums (i : S4x2x4x2048.Idx) :
    val_main_v55 x0 x1 x2 x3 i = ((0 + -(∑ κ, Soft.gr (qr ct (i 0) (i 1) (i 2) (i 3)) (kr v (i 0) (i 1)) κ
      * (1 / (Soft.tot (qr q (i 0) (i 1) (i 2) (i 3)) (kr k (i 0) (i 1)) (M (ix4 (i 0) (i 1) (i 2) (i 3)))
      * Soft.tot (qr q (i 0) (i 1) (i 2) (i 3)) (kr k (i 0) (i 1)) (M (ix4 (i 0) (i 1) (i 2) (i 3)))))
      * Soft.ex (qr q (i 0) (i 1) (i 2) (i 3)) (kr k (i 0) (i 1)) (M (ix4 (i 0) (i 1) (i 2) (i 3))) κ) : ℝ) : EReal) := by
  rw [val_main_v55_apply, Fin.sum_univ_one, val_main_v52_apply, val_main_v51_apply, rowSums H M hM]
  have h0 : (i 0).val < 4 := (i 0).isLt
  have h1 : (i 1).val < 2 := (i 1).isLt
  have h2 : (i 2).val < 4 := (i 2).isLt
  have h3 : (i 3).val < 2048 := (i 3).isLt
  have e0 : idx_main_v51 (idx_main_v55 i 0) 0 = i 0 := Fin.ext (by first | rfl | (dsimp only [idx_main_v51, idx_main_v55]; omega))
  have e1 : idx_main_v51 (idx_main_v55 i 0) 1 = i 1 := Fin.ext (by first | rfl | (dsimp only [idx_main_v51, idx_main_v55]; omega))
  have e2 : idx_main_v51 (idx_main_v55 i 0) 2 = i 2 := Fin.ext (by first | rfl | (dsimp only [idx_main_v51, idx_main_v55]; omega))
  have e3 : idx_main_v51 (idx_main_v55 i 0) 3 = i 3 := Fin.ext (by first | rfl | (dsimp only [idx_main_v51, idx_main_v55]; omega))
  rw [e0, e1, e2, e3]
  show Ideal.ofBits .f32 0x00000000#32 + -(_ : EReal) = _
  rw [Ideal.ofBits_zero_f32, EReal.coe_add, EReal.coe_neg, EReal.coe_zero]

/-- The score's cotangent. -/
theorem dss (i : S4x2x4x2048x2304.Idx) :
    val_main_v58 x0 x1 x2 x3 i = (Soft.ds (qr q (i 0) (i 1) (i 2) (i 3)) (kr k (i 0) (i 1)) (kr v (i 0) (i 1))
      (qr ct (i 0) (i 1) (i 2) (i 3)) (i 4) : EReal) := by
  rw [val_main_v58_apply, val_main_v57_apply, val_main_v54_apply, grads H, val_main_v53_apply, tots33 H M hM,
    val_main_v56_apply, negSums H M hM, exps H M hM]
  show (Ideal.div (_ : EReal) (_ : EReal) + (_ : EReal)) * (_ : EReal) = _
  rw [Cert.Fin.div_coe (Soft.tot_ne _ _ _), ← EReal.coe_add, ← EReal.coe_mul]
  exact congrArg _ (Soft.ds_of_quotient _ _ _ _ _ _)

theorem ds59 (i : S4x2x2304x2048x4.Idx) :
    val_main_v59 x0 x1 x2 x3 i = (Soft.ds (qr q (i 0) (i 1) (i 4) (i 3)) (kr k (i 0) (i 1)) (kr v (i 0) (i 1))
      (qr ct (i 0) (i 1) (i 4) (i 3)) (i 2) : EReal) := by
  rw [val_main_v59_apply, dss H M hM]; rfl

/-! ## The queries' gradient -/

theorem dq60 (i : S4x2x2048x4x64.Idx) :
    val_main_v60 x0 x1 x2 x3 i = ((∑ κ, Soft.ds (qr q (i 0) (i 1) (i 3) (i 2)) (kr k (i 0) (i 1)) (kr v (i 0) (i 1))
      (qr ct (i 0) (i 1) (i 3) (i 2)) κ * kr k (i 0) (i 1) κ (i 4) : ℝ) : EReal) := by
  rw [val_main_v60_apply, ← Cert.Fin.sum_coe]
  refine Finset.sum_congr rfl fun κ _ => ?_
  rw [ds59 H M hM, keys H, ← EReal.coe_mul]
  rfl

theorem dq (i : S4x2048x512.Idx) : val_main_v67 x0 x1 x2 x3 i = (dqB (q (i 0)) (ct (i 0)) (k (i 0)) (v (i 0)) (i 1) (i 2) : EReal) := by
  have h0 : (i 0).val < 4 := (i 0).isLt
  have h1 : (i 1).val < 2048 := (i 1).isLt
  have h2 : (i 2).val < 512 := (i 2).isLt
  rw [val_main_v67_apply, val_main_v64_apply, val_main_v61_apply, dq60 H M hM]
  generalize hj : idx_main_v61 (idx_main_v64 (idx_main_v67 i)) = j
  have g0 : (idx_main_v67 i 0).val = (i 0).val := by
    show (((i 0).val * 2048 + (i 1).val) * 512 + (i 2).val) / 1048576 = _; omega
  have g1 : (idx_main_v67 i 1).val = (i 1).val := by
    show (((i 0).val * 2048 + (i 1).val) * 512 + (i 2).val) / 512 % 2048 = _; omega
  have g2 : (idx_main_v67 i 2).val = (i 2).val / 64 := by
    show (((i 0).val * 2048 + (i 1).val) * 512 + (i 2).val) / 64 % 8 = _; omega
  have g3 : (idx_main_v67 i 3).val = (i 2).val % 64 := by
    show (((i 0).val * 2048 + (i 1).val) * 512 + (i 2).val) % 64 = _; omega
  have e0 : j 0 = i 0 := Fin.ext (by
    rw [← hj]
    show ((((idx_main_v67 i 0).val * 2048 + (idx_main_v67 i 1).val) * 8 + (idx_main_v67 i 2).val) * 64 + (idx_main_v67 i 3).val) / 1048576 = _
    rw [g0, g1, g2, g3]; omega)
  have e2 : j 2 = i 1 := Fin.ext (by
    rw [← hj]
    show ((((idx_main_v67 i 0).val * 2048 + (idx_main_v67 i 1).val) * 8 + (idx_main_v67 i 2).val) * 64 + (idx_main_v67 i 3).val) / 512 % 2048 = _
    rw [g0, g1, g2, g3]; omega)
  have e1 : (j 1).val = (i 2).val / 256 := by
    rw [← hj]
    show ((((idx_main_v67 i 0).val * 2048 + (idx_main_v67 i 1).val) * 8 + (idx_main_v67 i 2).val) * 64 + (idx_main_v67 i 3).val) / 256 % 2 = _
    rw [g0, g1, g2, g3]; omega
  have e3 : (j 3).val = (i 2).val / 64 % 4 := by
    rw [← hj]
    show ((((idx_main_v67 i 0).val * 2048 + (idx_main_v67 i 1).val) * 8 + (idx_main_v67 i 2).val) * 64 + (idx_main_v67 i 3).val) / 64 % 4 = _
    rw [g0, g1, g2, g3]; omega
  have e4 : j 4 = lanePos (i 2) := Fin.ext (by
    rw [← hj]
    show ((((idx_main_v67 i 0).val * 2048 + (idx_main_v67 i 1).val) * 8 + (idx_main_v67 i 2).val) * 64 + (idx_main_v67 i 3).val) % 64 = (i 2).val % 64
    rw [g0, g1, g2, g3]; omega)
  have eh : hh (j 1) (j 3) = laneHead (i 2) := Fin.ext (by
    show 4 * (j 1).val + (j 3).val = (i 2).val / 64
    rw [e1, e3]; omega)
  have eg : j 1 = groupOf (laneHead (i 2)) := (groupOf_hh (j 1) (j 3)).symm.trans (congrArg groupOf eh)
  unfold dqB qr kr
  rw [e0, e2, e4, eh, eg]
  rfl

end Cert.ReferenceIdeal.Ref

end
-- ==== Proof.RefKV.lean ====
/- The gradients of the keys and the values: sums over a group's heads and over the queries. -/
module

public import proofs.«01_k».proof.Proof.RefSoft

@[expose] public section

noncomputable section

open scoped BigOperators

namespace Cert.ReferenceIdeal.Ref

open Cert.ReferenceIdeal Cert.ReferenceIdeal.Gen Cert.ReferenceIdeal.Read
open Cert.KernelIdeal.Entry (head group groupOf laneHead laneGroup lanePos dqB dkRow dvRow)
open Idealize.ShloMosaic Idealize.ShloMosaic.TcCoe

theorem l45_0 (i : S4x2x64x2304.Idx) (p : dot_S4x2x64x4x2048_S4x2x4x2048x2304_S4x2x64x2304_34_23_2_4_01_01.contr.Idx) :
    (dot_S4x2x64x4x2048_S4x2x4x2048x2304_S4x2x64x2304_34_23_2_4_01_01.lhsIdx i p 0).val = (i 0).val := by
  unfold DotDims.lhsIdx
  rw [dif_pos (show (0 : Fin S4x2x64x4x2048.rank) ∈ dot_S4x2x64x4x2048_S4x2x4x2048x2304_S4x2x64x2304_34_23_2_4_01_01.lhsBatch by decide)]
  rfl
theorem l45_1 (i : S4x2x64x2304.Idx) (p : dot_S4x2x64x4x2048_S4x2x4x2048x2304_S4x2x64x2304_34_23_2_4_01_01.contr.Idx) :
    (dot_S4x2x64x4x2048_S4x2x4x2048x2304_S4x2x64x2304_34_23_2_4_01_01.lhsIdx i p 1).val = (i 1).val := by
  unfold DotDims.lhsIdx
  rw [dif_pos (show (1 : Fin S4x2x64x4x2048.rank) ∈ dot_S4x2x64x4x2048_S4x2x4x2048x2304_S4x2x64x2304_34_23_2_4_01_01.lhsBatch by decide)]
  rfl
theorem l45_2 (i : S4x2x64x2304.Idx) (p : dot_S4x2x64x4x2048_S4x2x4x2048x2304_S4x2x64x2304_34_23_2_4_01_01.contr.Idx) :
    (dot_S4x2x64x4x2048_S4x2x4x2048x2304_S4x2x64x2304_34_23_2_4_01_01.lhsIdx i p 2).val = (i 2).val := by
  unfold DotDims.lhsIdx
  rw [dif_neg (show ¬(2 : Fin S4x2x64x4x2048.rank) ∈ dot_S4x2x64x4x2048_S4x2x4x2048x2304_S4x2x64x2304_34_23_2_4_01_01.lhsBatch by decide), dif_pos (show (2 : Fin S4x2x64x4x2048.rank) ∈ dot_S4x2x64x4x2048_S4x2x4x2048x2304_S4x2x64x2304_34_23_2_4_01_01.lhsNonContracting by decide)]
  rfl
theorem l45_3 (i : S4x2x64x2304.Idx) (p : dot_S4x2x64x4x2048_S4x2x4x2048x2304_S4x2x64x2304_34_23_2_4_01_01.contr.Idx) :
    (dot_S4x2x64x4x2048_S4x2x4x2048x2304_S4x2x64x2304_34_23_2_4_01_01.lhsIdx i p 3).val = (p ⟨0, by decide⟩).val := by
  unfold DotDims.lhsIdx
  rw [dif_neg (show ¬(3 : Fin S4x2x64x4x2048.rank) ∈ dot_S4x2x64x4x2048_S4x2x4x2048x2304_S4x2x64x2304_34_23_2_4_01_01.lhsBatch by decide), dif_neg (show ¬(3 : Fin S4x2x64x4x2048.rank) ∈ dot_S4x2x64x4x2048_S4x2x4x2048x2304_S4x2x64x2304_34_23_2_4_01_01.lhsNonContracting by decide)]
  rfl
theorem l45_4 (i : S4x2x64x2304.Idx) (p : dot_S4x2x64x4x2048_S4x2x4x2048x2304_S4x2x64x2304_34_23_2_4_01_01.contr.Idx) :
    (dot_S4x2x64x4x2048_S4x2x4x2048x2304_S4x2x64x2304_34_23_2_4_01_01.lhsIdx i p 4).val = (p ⟨1, by decide⟩).val := by
  unfold DotDims.lhsIdx
  rw [dif_neg (show ¬(4 : Fin S4x2x64x4x2048.rank) ∈ dot_S4x2x64x4x2048_S4x2x4x2048x2304_S4x2x64x2304_34_23_2_4_01_01.lhsBatch by decide), dif_neg (show ¬(4 : Fin S4x2x64x4x2048.rank) ∈ dot_S4x2x64x4x2048_S4x2x4x2048x2304_S4x2x64x2304_34_23_2_4_01_01.lhsNonContracting by decide)]
  rfl
theorem r45_0 (i : S4x2x64x2304.Idx) (p : dot_S4x2x64x4x2048_S4x2x4x2048x2304_S4x2x64x2304_34_23_2_4_01_01.contr.Idx) :
    (dot_S4x2x64x4x2048_S4x2x4x2048x2304_S4x2x64x2304_34_23_2_4_01_01.rhsIdx i p 0).val = (i 0).val := by
  unfold DotDims.rhsIdx
  rw [dif_pos (show (0 : Fin S4x2x4x2048x2304.rank) ∈ dot_S4x2x64x4x2048_S4x2x4x2048x2304_S4x2x64x2304_34_23_2_4_01_01.rhsBatch by decide)]
  rfl
theorem r45_1 (i : S4x2x64x2304.Idx) (p : dot_S4x2x64x4x2048_S4x2x4x2048x2304_S4x2x64x2304_34_23_2_4_01_01.contr.Idx) :
    (dot_S4x2x64x4x2048_S4x2x4x2048x2304_S4x2x64x2304_34_23_2_4_01_01.rhsIdx i p 1).val = (i 1).val := by
  unfold DotDims.rhsIdx
  rw [dif_pos (show (1 : Fin S4x2x4x2048x2304.rank) ∈ dot_S4x2x64x4x2048_S4x2x4x2048x2304_S4x2x64x2304_34_23_2_4_01_01.rhsBatch by decide)]
  rfl
theorem r45_2 (i : S4x2x64x2304.Idx) (p : dot_S4x2x64x4x2048_S4x2x4x2048x2304_S4x2x64x2304_34_23_2_4_01_01.contr.Idx) :
    (dot_S4x2x64x4x2048_S4x2x4x2048x2304_S4x2x64x2304_34_23_2_4_01_01.rhsIdx i p 2).val = (p ⟨0, by decide⟩).val := by
  unfold DotDims.rhsIdx
  rw [dif_neg (show ¬(2 : Fin S4x2x4x2048x2304.rank) ∈ dot_S4x2x64x4x2048_S4x2x4x2048x2304_S4x2x64x2304_34_23_2_4_01_01.rhsBatch by decide), dif_neg (show ¬(2 : Fin S4x2x4x2048x2304.rank) ∈ dot_S4x2x64x4x2048_S4x2x4x2048x2304_S4x2x64x2304_34_23_2_4_01_01.rhsNonContracting by decide)]
  rfl
theorem r45_3 (i : S4x2x64x2304.Idx) (p : dot_S4x2x64x4x2048_S4x2x4x2048x2304_S4x2x64x2304_34_23_2_4_01_01.contr.Idx) :
    (dot_S4x2x64x4x2048_S4x2x4x2048x2304_S4x2x64x2304_34_23_2_4_01_01.rhsIdx i p 3).val = (p ⟨1, by decide⟩).val := by
  unfold DotDims.rhsIdx
  rw [dif_neg (show ¬(3 : Fin S4x2x4x2048x2304.rank) ∈ dot_S4x2x64x4x2048_S4x2x4x2048x2304_S4x2x64x2304_34_23_2_4_01_01.rhsBatch by decide), dif_neg (show ¬(3 : Fin S4x2x4x2048x2304.rank) ∈ dot_S4x2x64x4x2048_S4x2x4x2048x2304_S4x2x64x2304_34_23_2_4_01_01.rhsNonContracting by decide)]
  rfl
theorem r45_4 (i : S4x2x64x2304.Idx) (p : dot_S4x2x64x4x2048_S4x2x4x2048x2304_S4x2x64x2304_34_23_2_4_01_01.contr.Idx) :
    (dot_S4x2x64x4x2048_S4x2x4x2048x2304_S4x2x64x2304_34_23_2_4_01_01.rhsIdx i p 4).val = (i 3).val := by
  unfold DotDims.rhsIdx
  rw [dif_neg (show ¬(4 : Fin S4x2x4x2048x2304.rank) ∈ dot_S4x2x64x4x2048_S4x2x4x2048x2304_S4x2x64x2304_34_23_2_4_01_01.rhsBatch by decide), dif_pos (show (4 : Fin S4x2x4x2048x2304.rank) ∈ dot_S4x2x64x4x2048_S4x2x4x2048x2304_S4x2x64x2304_34_23_2_4_01_01.rhsNonContracting by decide)]
  rfl

theorem dot45 (y0 : S4x2x64x4x2048.Idx → EReal) (y1 : S4x2x4x2048x2304.Idx → EReal) (i : S4x2x64x2304.Idx) :
    Host.dotGeneral (F := Ideal) (φ₁ := .f32) (φ₂ := .f32) dot_S4x2x64x4x2048_S4x2x4x2048x2304_S4x2x64x2304_34_23_2_4_01_01 none y0 y1 i
      = ∑ a : Fin 4, ∑ b : Fin 2048, y0 (ix5 (i 0) (i 1) (i 2) a b) * y1 (ix5 (i 0) (i 1) a b (i 3)) := by
  simp only [Host.dotGeneral]
  rw [Ideal.dotGeneral_apply, ValueIdx.sum_contr2 dot_S4x2x64x4x2048_S4x2x4x2048x2304_S4x2x64x2304_34_23_2_4_01_01 4 2048 rfl rfl rfl]
  refine Finset.sum_congr rfl fun a _ => Finset.sum_congr rfl fun b _ => ?_
  have h0 := ValueIdx.contrEquiv2_symm_val0 dot_S4x2x64x4x2048_S4x2x4x2048x2304_S4x2x64x2304_34_23_2_4_01_01 4 2048 rfl rfl rfl (a, b)
  have h1 := ValueIdx.contrEquiv2_symm_val1 dot_S4x2x64x4x2048_S4x2x4x2048x2304_S4x2x64x2304_34_23_2_4_01_01 4 2048 rfl rfl rfl (a, b)
  refine congrArg₂ (· * ·) (congrArg y0 (funext fun x => Fin.ext ?_)) (congrArg y1 (funext fun x => Fin.ext ?_))
  · match x with
    | ⟨0, _⟩ => exact l45_0 _ _
    | ⟨1, _⟩ => exact l45_1 _ _
    | ⟨2, _⟩ => exact l45_2 _ _
    | ⟨3, _⟩ => exact (l45_3 _ _).trans h0
    | ⟨4, _⟩ => exact (l45_4 _ _).trans h1
  · match x with
    | ⟨0, _⟩ => exact r45_0 _ _
    | ⟨1, _⟩ => exact r45_1 _ _
    | ⟨2, _⟩ => exact (r45_2 _ _).trans h0
    | ⟨3, _⟩ => exact (r45_3 _ _).trans h1
    | ⟨4, _⟩ => exact r45_4 _ _
theorem l62_0 (i : S4x2x2304x64.Idx) (p : dot_S4x2x2304x2048x4_S4x2048x2x4x64_S4x2x2304x64_34_13_2_4_01_02.contr.Idx) :
    (dot_S4x2x2304x2048x4_S4x2048x2x4x64_S4x2x2304x64_34_13_2_4_01_02.lhsIdx i p 0).val = (i 0).val := by
  unfold DotDims.lhsIdx
  rw [dif_pos (show (0 : Fin S4x2x2304x2048x4.rank) ∈ dot_S4x2x2304x2048x4_S4x2048x2x4x64_S4x2x2304x64_34_13_2_4_01_02.lhsBatch by decide)]
  rfl
theorem l62_1 (i : S4x2x2304x64.Idx) (p : dot_S4x2x2304x2048x4_S4x2048x2x4x64_S4x2x2304x64_34_13_2_4_01_02.contr.Idx) :
    (dot_S4x2x2304x2048x4_S4x2048x2x4x64_S4x2x2304x64_34_13_2_4_01_02.lhsIdx i p 1).val = (i 1).val := by
  unfold DotDims.lhsIdx
  rw [dif_pos (show (1 : Fin S4x2x2304x2048x4.rank) ∈ dot_S4x2x2304x2048x4_S4x2048x2x4x64_S4x2x2304x64_34_13_2_4_01_02.lhsBatch by decide)]
  rfl
theorem l62_2 (i : S4x2x2304x64.Idx) (p : dot_S4x2x2304x2048x4_S4x2048x2x4x64_S4x2x2304x64_34_13_2_4_01_02.contr.Idx) :
    (dot_S4x2x2304x2048x4_S4x2048x2x4x64_S4x2x2304x64_34_13_2_4_01_02.lhsIdx i p 2).val = (i 2).val := by
  unfold DotDims.lhsIdx
  rw [dif_neg (show ¬(2 : Fin S4x2x2304x2048x4.rank) ∈ dot_S4x2x2304x2048x4_S4x2048x2x4x64_S4x2x2304x64_34_13_2_4_01_02.lhsBatch by decide), dif_pos (show (2 : Fin S4x2x2304x2048x4.rank) ∈ dot_S4x2x2304x2048x4_S4x2048x2x4x64_S4x2x2304x64_34_13_2_4_01_02.lhsNonContracting by decide)]
  rfl
theorem l62_3 (i : S4x2x2304x64.Idx) (p : dot_S4x2x2304x2048x4_S4x2048x2x4x64_S4x2x2304x64_34_13_2_4_01_02.contr.Idx) :
    (dot_S4x2x2304x2048x4_S4x2048x2x4x64_S4x2x2304x64_34_13_2_4_01_02.lhsIdx i p 3).val = (p ⟨0, by decide⟩).val := by
  unfold DotDims.lhsIdx
  rw [dif_neg (show ¬(3 : Fin S4x2x2304x2048x4.rank) ∈ dot_S4x2x2304x2048x4_S4x2048x2x4x64_S4x2x2304x64_34_13_2_4_01_02.lhsBatch by decide), dif_neg (show ¬(3 : Fin S4x2x2304x2048x4.rank) ∈ dot_S4x2x2304x2048x4_S4x2048x2x4x64_S4x2x2304x64_34_13_2_4_01_02.lhsNonContracting by decide)]
  rfl
theorem l62_4 (i : S4x2x2304x64.Idx) (p : dot_S4x2x2304x2048x4_S4x2048x2x4x64_S4x2x2304x64_34_13_2_4_01_02.contr.Idx) :
    (dot_S4x2x2304x2048x4_S4x2048x2x4x64_S4x2x2304x64_34_13_2_4_01_02.lhsIdx i p 4).val = (p ⟨1, by decide⟩).val := by
  unfold DotDims.lhsIdx
  rw [dif_neg (show ¬(4 : Fin S4x2x2304x2048x4.rank) ∈ dot_S4x2x2304x2048x4_S4x2048x2x4x64_S4x2x2304x64_34_13_2_4_01_02.lhsBatch by decide), dif_neg (show ¬(4 : Fin S4x2x2304x2048x4.rank) ∈ dot_S4x2x2304x2048x4_S4x2048x2x4x64_S4x2x2304x64_34_13_2_4_01_02.lhsNonContracting by decide)]
  rfl
theorem r62_0 (i : S4x2x2304x64.Idx) (p : dot_S4x2x2304x2048x4_S4x2048x2x4x64_S4x2x2304x64_34_13_2_4_01_02.contr.Idx) :
    (dot_S4x2x2304x2048x4_S4x2048x2x4x64_S4x2x2304x64_34_13_2_4_01_02.rhsIdx i p 0).val = (i 0).val := by
  unfold DotDims.rhsIdx
  rw [dif_pos (show (0 : Fin S4x2048x2x4x64.rank) ∈ dot_S4x2x2304x2048x4_S4x2048x2x4x64_S4x2x2304x64_34_13_2_4_01_02.rhsBatch by decide)]
  rfl
theorem r62_1 (i : S4x2x2304x64.Idx) (p : dot_S4x2x2304x2048x4_S4x2048x2x4x64_S4x2x2304x64_34_13_2_4_01_02.contr.Idx) :
    (dot_S4x2x2304x2048x4_S4x2048x2x4x64_S4x2x2304x64_34_13_2_4_01_02.rhsIdx i p 1).val = (p ⟨0, by decide⟩).val := by
  unfold DotDims.rhsIdx
  rw [dif_neg (show ¬(1 : Fin S4x2048x2x4x64.rank) ∈ dot_S4x2x2304x2048x4_S4x2048x2x4x64_S4x2x2304x64_34_13_2_4_01_02.rhsBatch by decide), dif_neg (show ¬(1 : Fin S4x2048x2x4x64.rank) ∈ dot_S4x2x2304x2048x4_S4x2048x2x4x64_S4x2x2304x64_34_13_2_4_01_02.rhsNonContracting by decide)]
  rfl
theorem r62_2 (i : S4x2x2304x64.Idx) (p : dot_S4x2x2304x2048x4_S4x2048x2x4x64_S4x2x2304x64_34_13_2_4_01_02.contr.Idx) :
    (dot_S4x2x2304x2048x4_S4x2048x2x4x64_S4x2x2304x64_34_13_2_4_01_02.rhsIdx i p 2).val = (i 1).val := by
  unfold DotDims.rhsIdx
  rw [dif_pos (show (2 : Fin S4x2048x2x4x64.rank) ∈ dot_S4x2x2304x2048x4_S4x2048x2x4x64_S4x2x2304x64_34_13_2_4_01_02.rhsBatch by decide)]
  rfl
theorem r62_3 (i : S4x2x2304x64.Idx) (p : dot_S4x2x2304x2048x4_S4x2048x2x4x64_S4x2x2304x64_34_13_2_4_01_02.contr.Idx) :
    (dot_S4x2x2304x2048x4_S4x2048x2x4x64_S4x2x2304x64_34_13_2_4_01_02.rhsIdx i p 3).val = (p ⟨1, by decide⟩).val := by
  unfold DotDims.rhsIdx
  rw [dif_neg (show ¬(3 : Fin S4x2048x2x4x64.rank) ∈ dot_S4x2x2304x2048x4_S4x2048x2x4x64_S4x2x2304x64_34_13_2_4_01_02.rhsBatch by decide), dif_neg (show ¬(3 : Fin S4x2048x2x4x64.rank) ∈ dot_S4x2x2304x2048x4_S4x2048x2x4x64_S4x2x2304x64_34_13_2_4_01_02.rhsNonContracting by decide)]
  rfl
theorem r62_4 (i : S4x2x2304x64.Idx) (p : dot_S4x2x2304x2048x4_S4x2048x2x4x64_S4x2x2304x64_34_13_2_4_01_02.contr.Idx) :
    (dot_S4x2x2304x2048x4_S4x2048x2x4x64_S4x2x2304x64_34_13_2_4_01_02.rhsIdx i p 4).val = (i 3).val := by
  unfold DotDims.rhsIdx
  rw [dif_neg (show ¬(4 : Fin S4x2048x2x4x64.rank) ∈ dot_S4x2x2304x2048x4_S4x2048x2x4x64_S4x2x2304x64_34_13_2_4_01_02.rhsBatch by decide), dif_pos (show (4 : Fin S4x2048x2x4x64.rank) ∈ dot_S4x2x2304x2048x4_S4x2048x2x4x64_S4x2x2304x64_34_13_2_4_01_02.rhsNonContracting by decide)]
  rfl

theorem dot62 (y0 : S4x2x2304x2048x4.Idx → EReal) (y1 : S4x2048x2x4x64.Idx → EReal) (i : S4x2x2304x64.Idx) :
    Host.dotGeneral (F := Ideal) (φ₁ := .f32) (φ₂ := .f32) dot_S4x2x2304x2048x4_S4x2048x2x4x64_S4x2x2304x64_34_13_2_4_01_02 none y0 y1 i
      = ∑ a : Fin 2048, ∑ b : Fin 4, y0 (ix5 (i 0) (i 1) (i 2) a b) * y1 (ix5 (i 0) a (i 1) b (i 3)) := by
  simp only [Host.dotGeneral]
  rw [Ideal.dotGeneral_apply, ValueIdx.sum_contr2 dot_S4x2x2304x2048x4_S4x2048x2x4x64_S4x2x2304x64_34_13_2_4_01_02 2048 4 rfl rfl rfl]
  refine Finset.sum_congr rfl fun a _ => Finset.sum_congr rfl fun b _ => ?_
  have h0 := ValueIdx.contrEquiv2_symm_val0 dot_S4x2x2304x2048x4_S4x2048x2x4x64_S4x2x2304x64_34_13_2_4_01_02 2048 4 rfl rfl rfl (a, b)
  have h1 := ValueIdx.contrEquiv2_symm_val1 dot_S4x2x2304x2048x4_S4x2048x2x4x64_S4x2x2304x64_34_13_2_4_01_02 2048 4 rfl rfl rfl (a, b)
  refine congrArg₂ (· * ·) (congrArg y0 (funext fun x => Fin.ext ?_)) (congrArg y1 (funext fun x => Fin.ext ?_))
  · match x with
    | ⟨0, _⟩ => exact l62_0 _ _
    | ⟨1, _⟩ => exact l62_1 _ _
    | ⟨2, _⟩ => exact l62_2 _ _
    | ⟨3, _⟩ => exact (l62_3 _ _).trans h0
    | ⟨4, _⟩ => exact (l62_4 _ _).trans h1
  · match x with
    | ⟨0, _⟩ => exact r62_0 _ _
    | ⟨1, _⟩ => exact (r62_1 _ _).trans h0
    | ⟨2, _⟩ => exact r62_2 _ _
    | ⟨3, _⟩ => exact (r62_3 _ _).trans h1
    | ⟨4, _⟩ => exact r62_4 _ _

theorem dvRow_hh {n : ℕ} (Q CT : Fin n → Fin 512 → ℝ) (K : Fin 2304 → Fin 128 → ℝ) (i : Fin n) (g : Fin 2) (h : Fin 4) (κ : Fin 2304) (d : Fin 64) :
    dvRow Q CT K i (hh g h) κ d = Soft.pr (head Q i (hh g h)) (group K g) κ * head CT i (hh g h) d := by
  unfold dvRow; rw [groupOf_hh]

theorem dkRow_hh {n : ℕ} (Q CT : Fin n → Fin 512 → ℝ) (K V : Fin 2304 → Fin 128 → ℝ) (i : Fin n) (g : Fin 2) (h : Fin 4) (κ : Fin 2304) (d : Fin 64) :
    dkRow Q CT K V i (hh g h) κ d = Soft.ds (head Q i (hh g h)) (group K g) (group V g) (head CT i (hh g h)) κ * head Q i (hh g h) d := by
  unfold dkRow; rw [groupOf_hh]

variable {x0 : (⟨S4x2304x512, .bf16⟩ : BufTy).Contents (Elt Ideal)} {x1 : (⟨S4x2304x128, .bf16⟩ : BufTy).Contents (Elt Ideal)}
  {x2 : (⟨S4x2304x10240, .bf16⟩ : BufTy).Contents (Elt Ideal)} {x3 : (⟨S4x2048x512, .f32⟩ : BufTy).Contents (Elt Ideal)}
variable {q ct : Fin 4 → Fin 2048 → Fin 512 → ℝ} {k v : Fin 4 → Fin 2304 → Fin 128 → ℝ}
variable (H : Reals x0 x1 x2 x3 q ct k v) (M : S4x2x4x2048.Idx → ℝ) (hM : ∀ i, val_main_v18 x0 x1 i = (M i : EReal))
include H hM

theorem dv45 (i : S4x2x64x2304.Idx) :
    val_main_v45 x0 x1 x3 i = ((∑ h : Fin 4, ∑ n : Fin 2048, dvRow (q (i 0)) (ct (i 0)) (k (i 0)) n (hh (i 1) h) (i 3) (i 2) : ℝ) : EReal) := by
  unfold val_main_v45
  rw [dot45, ← Cert.Fin.sum_coe]
  refine Finset.sum_congr rfl fun h _ => ?_
  rw [← Cert.Fin.sum_coe]
  refine Finset.sum_congr rfl fun n _ => ?_
  rw [cots H, probs H M hM, ← EReal.coe_mul]
  exact congrArg _ ((mul_comm _ _).trans (dvRow_hh (q (i 0)) (ct (i 0)) (k (i 0)) n (i 1) h (i 3) (i 2)).symm)

theorem dk62 (i : S4x2x2304x64.Idx) :
    val_main_v62 x0 x1 x2 x3 i = ((∑ n : Fin 2048, ∑ h : Fin 4, dkRow (q (i 0)) (ct (i 0)) (k (i 0)) (v (i 0)) n (hh (i 1) h) (i 2) (i 3) : ℝ) : EReal) := by
  unfold val_main_v62
  rw [dot62, ← Cert.Fin.sum_coe]
  refine Finset.sum_congr rfl fun n _ => ?_
  rw [← Cert.Fin.sum_coe]
  refine Finset.sum_congr rfl fun h _ => ?_
  rw [ds59 H M hM, queries H, ← EReal.coe_mul]
  exact congrArg _ (dkRow_hh (q (i 0)) (ct (i 0)) (k (i 0)) (v (i 0)) n (i 1) h (i 2) (i 3)).symm

theorem dv (i : S4x2304x128.Idx) :
    val_main_v65 x0 x1 x3 i = ((∑ h : Fin 4, ∑ n : Fin 2048, dvRow (q (i 0)) (ct (i 0)) (k (i 0)) n (hh (laneGroup (i 2)) h) (i 1) (lanePos (i 2)) : ℝ) : EReal) := by
  have h0 : (i 0).val < 4 := (i 0).isLt
  have h1 : (i 1).val < 2304 := (i 1).isLt
  have h2 : (i 2).val < 128 := (i 2).isLt
  rw [val_main_v65_apply, val_main_v46_apply, dv45 H M hM]
  have e0 : idx_main_v46 (idx_main_v65 i) 0 = i 0 := Fin.ext (by
    show (((i 0).val * 2304 + (i 1).val) * 128 + (i 2).val) / 294912 = _; omega)
  have e3 : idx_main_v46 (idx_main_v65 i) 3 = i 1 := Fin.ext (by
    show (((i 0).val * 2304 + (i 1).val) * 128 + (i 2).val) / 128 % 2304 = _; omega)
  have e1 : idx_main_v46 (idx_main_v65 i) 1 = laneGroup (i 2) := Fin.ext (by
    show (((i 0).val * 2304 + (i 1).val) * 128 + (i 2).val) / 64 % 2 = (i 2).val / 64; omega)
  have e2 : idx_main_v46 (idx_main_v65 i) 2 = lanePos (i 2) := Fin.ext (by
    show (((i 0).val * 2304 + (i 1).val) * 128 + (i 2).val) % 64 = (i 2).val % 64; omega)
  rw [e0, e1, e2, e3]

theorem dk (i : S4x2304x128.Idx) :
    val_main_v66 x0 x1 x2 x3 i = ((∑ n : Fin 2048, ∑ h : Fin 4, dkRow (q (i 0)) (ct (i 0)) (k (i 0)) (v (i 0)) n (hh (laneGroup (i 2)) h) (i 1) (lanePos (i 2)) : ℝ) : EReal) := by
  have h0 : (i 0).val < 4 := (i 0).isLt
  have h1 : (i 1).val < 2304 := (i 1).isLt
  have h2 : (i 2).val < 128 := (i 2).isLt
  rw [val_main_v66_apply, val_main_v63_apply, dk62 H M hM]
  have e0 : idx_main_v63 (idx_main_v66 i) 0 = i 0 := Fin.ext (by
    show (((i 0).val * 2304 + (i 1).val) * 128 + (i 2).val) / 294912 = _; omega)
  have e3 : idx_main_v63 (idx_main_v66 i) 2 = i 1 := Fin.ext (by
    show (((i 0).val * 2304 + (i 1).val) * 128 + (i 2).val) / 128 % 2304 = _; omega)
  have e1 : idx_main_v63 (idx_main_v66 i) 1 = laneGroup (i 2) := Fin.ext (by
    show (((i 0).val * 2304 + (i 1).val) * 128 + (i 2).val) / 64 % 2 = (i 2).val / 64; omega)
  have e2 : idx_main_v63 (idx_main_v66 i) 3 = lanePos (i 2) := Fin.ext (by
    show (((i 0).val * 2304 + (i 1).val) * 128 + (i 2).val) % 64 = (i 2).val % 64; omega)
  rw [e0, e1, e2, e3]

end Cert.ReferenceIdeal.Ref

end
-- ==== Proof.Equal.lean ====
/- The kernel's sums over blocks of rows are the reference's sums over rows and heads. -/
module

public import proofs.«01_k».proof.Proof.Array
public import proofs.«01_k».proof.Proof.RefKV

@[expose] public section

noncomputable section

open scoped BigOperators

namespace Cert.Equal

open Cert.KernelIdeal.Entry Cert.KernelIdeal.Array
open Cert.ReferenceIdeal.Ref (hh)

/-- A row of a block's four heads is a head and a row of the block. -/
def rowEquiv : Fin 512 ≃ Fin 4 × Fin 128 where
  toFun r := (⟨r.val / 128, by omega⟩, pos r)
  invFun p := ⟨128 * p.1.val + p.2.val, by omega⟩
  left_inv r := Fin.ext (by show 128 * (r.val / 128) + r.val % 128 = r.val; omega)
  right_inv p := Prod.ext (Fin.ext (by show (128 * p.1.val + p.2.val) / 128 = p.1.val; omega))
    (Fin.ext (by show (128 * p.1.val + p.2.val) % 128 = p.2.val; omega))

/-- A row is a block and a row of the block. -/
def blockEquiv : Fin 2048 ≃ Fin 16 × Fin 128 where
  toFun n := (⟨n.val / 128, by omega⟩, ⟨n.val % 128, by omega⟩)
  invFun p := rowOf p.1.val p.2
  left_inv n := Fin.ext (by show (128 * (n.val / 128) + n.val % 128) % 2048 = n.val; omega)
  right_inv p := Prod.ext (Fin.ext (by show (128 * p.1.val + p.2.val) % 2048 / 128 = p.1.val; omega))
    (Fin.ext (by show (128 * p.1.val + p.2.val) % 2048 % 128 = p.2.val; omega))

/-- The sum over a group's heads and all rows, block by block. -/
theorem sum_blocks (f : Fin 2048 → Fin 8 → ℝ) (g : Fin 2) :
    ∑ j ∈ Finset.range 16, ∑ r : Fin 512, f (rowOf j (pos r)) (headOf g r) = ∑ n : Fin 2048, ∑ h : Fin 4, f n (hh g h) := by
  have e : ∀ j, ∑ r : Fin 512, f (rowOf j (pos r)) (headOf g r) = ∑ i : Fin 128, ∑ h : Fin 4, f (rowOf j i) (hh g h) := fun j => by
    rw [Finset.sum_comm, ← Fintype.sum_prod_type' (f := fun (h : Fin 4) (i : Fin 128) => f (rowOf j i) (hh g h)), ← Equiv.sum_comp rowEquiv]
    rfl
  simp only [e]
  rw [Finset.sum_range (fun j => ∑ i : Fin 128, ∑ h : Fin 4, f (rowOf j i) (hh g h)),
    ← Fintype.sum_prod_type' (f := fun (j : Fin 16) (i : Fin 128) => ∑ h : Fin 4, f (rowOf j.val i) (hh g h)),
    ← Equiv.sum_comp blockEquiv.symm]
  rfl

variable (q ct : Fin 4 → Fin 2048 → Fin 512 → ℝ) (k v : Fin 4 → Fin 2304 → Fin 128 → ℝ)

theorem dk_eq (b : Fin 4) (κ : Fin 2304) (c : Fin 128) :
    ∑ j ∈ Finset.range 16, dkAt q ct k v b j κ c
      = ∑ n : Fin 2048, ∑ h : Fin 4, dkRow (q b) (ct b) (k b) (v b) n (hh (laneGroup c) h) κ (lanePos c) :=
  sum_blocks (fun n h => dkRow (q b) (ct b) (k b) (v b) n h κ (lanePos c)) (laneGroup c)

theorem dv_eq (b : Fin 4) (κ : Fin 2304) (c : Fin 128) :
    ∑ j ∈ Finset.range 16, dvAt q ct k b j κ c
      = ∑ h : Fin 4, ∑ n : Fin 2048, dvRow (q b) (ct b) (k b) n (hh (laneGroup c) h) κ (lanePos c) :=
  (sum_blocks (fun n h => dvRow (q b) (ct b) (k b) n h κ (lanePos c)) (laneGroup c)).trans Finset.sum_comm

end Cert.Equal

end
-- ==== Proof.Pre.lean ====
/- What the precondition says: the arguments hold real numbers where the kernel reads them. -/
module

public import proofs.«01_k».proof.Pre_finite
public import proofs.«01_k».proof.Proof.Finite
public import Idealize.ShloMosaic.Lib.Pointwise

@[expose] public section

noncomputable section

namespace Cert.Pre_finite

open Idealize.ShloMosaic

instance facts : Facts where
  bitsLt_bf16_f32 := by decide
  slices_S4x2304x512_S4x2048x512_0_256_0 := by decide
  bcast_S_S4x2048x512 := by decide
  bcast_S_S4x2304x128 := by decide
  slices_S4x2304x10240_S4x2304x128_0_0_9856 := by decide

/-- A comparison of an absolute value with infinity that holds: the value is a real number. -/
theorem exists_real {x y : EReal} (hy : y = Ideal.ofBits .f32 0x7F800000#32)
    (h : FloatOps.cmpf (F := Ideal) (φ := .f32) .olt (FloatOps.hostAbsf (F := Ideal) (φ := .f32) x) y = 1#1) : ∃ r : ℝ, x = r := by
  refine Cert.Fin.exists_coe ?_
  rw [hy, Cert.Fin.ofBits_inf] at h
  by_contra hn
  have e : FloatOps.cmpf (F := Ideal) (φ := .f32) .olt (FloatOps.hostAbsf (F := Ideal) (φ := .f32) x) ⊤ = 0#1 := by
    show Ideal.cmp .olt (max x (-x)) ⊤ = 0#1
    unfold Ideal.cmp
    simp [hn]
  rw [e] at h
  exact absurd h (by decide)

variable (x0 : FVec Ideal S4x2304x512 .bf16) (x1 : FVec Ideal S4x2304x128 .bf16) (x2 : FVec Ideal S4x2304x10240 .bf16) (x3 : FVec Ideal S4x2048x512 .f32)

theorem real_q (h : (fn x0 x1 x2 x3).1 = fun _ => 1#1) (b : Fin 4) (n : Fin 2048) (l : Fin 512) :
    ∃ r : ℝ, x0 (ix3 b ⟨256 + n.val, by omega⟩ l) = (r : EReal) := by
  have h' : FloatOps.cmpf (F := Ideal) (φ := .f32) .olt (FloatOps.hostAbsf (extractStridedSlice S4x2048x512 ![0, 256, 0]
      (extf .f32 x0 facts.bitsLt_bf16_f32) facts.slices_S4x2304x512_S4x2048x512_0_256_0 (ix3 b n l))) (Ideal.ofBits .f32 0x7F800000#32) = 1#1 := congrFun h (ix3 b n l)
  obtain ⟨r, hr⟩ := exists_real rfl h'
  refine ⟨r, ?_⟩
  rw [← hr]
  exact (extractStridedSlice_apply ![0, 256, 0] (extf .f32 x0 facts.bitsLt_bf16_f32) _ (ix3 b n l) (ix3 b ⟨256 + n.val, by omega⟩ l) (fun a => match a with
    | ⟨0, _⟩ => by show b.val = 0 + b.val; omega
    | ⟨1, _⟩ => by show 256 + n.val = 256 + n.val; omega
    | ⟨2, _⟩ => by show l.val = 0 + l.val; omega)).symm

theorem real_k (h : (fn x0 x1 x2 x3).2.1 = fun _ => 1#1) (b : Fin 4) (κ : Fin 2304) (l : Fin 128) :
    ∃ r : ℝ, x1 (ix3 b κ l) = (r : EReal) :=
  exists_real (x := x1 (ix3 b κ l)) rfl (congrFun h (ix3 b κ l))

theorem real_v (h : (fn x0 x1 x2 x3).2.2.1 = fun _ => 1#1) (b : Fin 4) (κ : Fin 2304) (l : Fin 128) :
    ∃ r : ℝ, x2 (ix3 b κ ⟨9856 + l.val, by omega⟩) = (r : EReal) := by
  have h' : FloatOps.cmpf (F := Ideal) (φ := .f32) .olt (FloatOps.hostAbsf (extractStridedSlice S4x2304x128 ![0, 0, 9856]
      (extf .f32 x2 facts.bitsLt_bf16_f32) facts.slices_S4x2304x10240_S4x2304x128_0_0_9856 (ix3 b κ l))) (Ideal.ofBits .f32 0x7F800000#32) = 1#1 := congrFun h (ix3 b κ l)
  obtain ⟨r, hr⟩ := exists_real rfl h'
  refine ⟨r, ?_⟩
  rw [← hr]
  exact (extractStridedSlice_apply ![0, 0, 9856] (extf .f32 x2 facts.bitsLt_bf16_f32) _ (ix3 b κ l) (ix3 b κ ⟨9856 + l.val, by omega⟩) (fun a => match a with
    | ⟨0, _⟩ => by show b.val = 0 + b.val; omega
    | ⟨1, _⟩ => by show κ.val = 0 + κ.val; omega
    | ⟨2, _⟩ => by show 9856 + l.val = 9856 + l.val; omega)).symm

theorem real_ct (h : (fn x0 x1 x2 x3).2.2.2 = fun _ => 1#1) (b : Fin 4) (n : Fin 2048) (l : Fin 512) :
    ∃ r : ℝ, x3 (ix3 b n l) = (r : EReal) :=
  exists_real (x := x3 (ix3 b n l)) rfl (congrFun h (ix3 b n l))

end Cert.Pre_finite

end
-- ==== Proof.AttnEqual.lean ====
/- The attention's claim: the kernel's three arrays are the reference's three results. -/
module

public import proofs.«01_k».proof.Defs
public import proofs.«01_k».proof.Proof.Equal
public import proofs.«01_k».proof.Proof.Pre
public import proofs.«01_k».proof.Proof.Gen.ReferenceIdeal.Run
public import Idealize.ShloMosaic.Lib.Claim

@[expose] public section

noncomputable section

namespace Cert.Equal

open Idealize.ShloMosaic Idealize.ShloMosaic.TcCoe Idealize.SL.Sem

/-- Four arrays that the precondition holds of, as real numbers. -/
theorem exists_reals {x0 : FVec Ideal Cert.Pre_finite.S4x2304x512 .bf16} {x1 : FVec Ideal Cert.Pre_finite.S4x2304x128 .bf16}
    {x2 : FVec Ideal Cert.Pre_finite.S4x2304x10240 .bf16} {x3 : FVec Ideal Cert.Pre_finite.S4x2048x512 .f32}
    (h : (Cert.Pre_finite.fn x0 x1 x2 x3).1 = (fun _ => 1#1) ∧ (Cert.Pre_finite.fn x0 x1 x2 x3).2.1 = (fun _ => 1#1)
      ∧ (Cert.Pre_finite.fn x0 x1 x2 x3).2.2.1 = (fun _ => 1#1) ∧ (Cert.Pre_finite.fn x0 x1 x2 x3).2.2.2 = (fun _ => 1#1)) :
    ∃ (q : Fin 4 → Fin 2048 → Fin 512 → ℝ) (k v : Fin 4 → Fin 2304 → Fin 128 → ℝ) (ct : Fin 4 → Fin 2048 → Fin 512 → ℝ),
      Cert.ReferenceIdeal.Ref.Reals x0 x1 x2 x3 q ct k v := by
  have hq := Cert.Pre_finite.real_q x0 x1 x2 x3 h.1
  have hk := Cert.Pre_finite.real_k x0 x1 x2 x3 h.2.1
  have hv := Cert.Pre_finite.real_v x0 x1 x2 x3 h.2.2.1
  have hct := Cert.Pre_finite.real_ct x0 x1 x2 x3 h.2.2.2
  choose q hq using hq
  choose k hk using hk
  choose v hv using hv
  choose ct hct using hct
  exact ⟨q, k, v, ct, hq, hk, hv, hct⟩

section

open Cert.ReferenceIdeal Cert.ReferenceIdeal.Read Cert.ReferenceIdeal.Ref

variable {x0 : (⟨Cert.ReferenceIdeal.S4x2304x512, .bf16⟩ : BufTy).Contents (Elt Ideal)} {x1 : (⟨Cert.ReferenceIdeal.S4x2304x128, .bf16⟩ : BufTy).Contents (Elt Ideal)}
  {x2 : (⟨Cert.ReferenceIdeal.S4x2304x10240, .bf16⟩ : BufTy).Contents (Elt Ideal)} {x3 : (⟨Cert.ReferenceIdeal.S4x2048x512, .f32⟩ : BufTy).Contents (Elt Ideal)}
variable {q ct : Fin 4 → Fin 2048 → Fin 512 → ℝ} {k v : Fin 4 → Fin 2304 → Fin 128 → ℝ} (H : Reals x0 x1 x2 x3 q ct k v)
include H

theorem ref_dq : val_main_v67 x0 x1 x2 x3 = Cert.KernelIdeal.Array.dqArr q ct k v := funext fun y => by
  obtain ⟨M, hM⟩ := exists_max H
  exact dq H M hM y

theorem ref_dk : val_main_v66 x0 x1 x2 x3 = Cert.KernelIdeal.Array.dkArr q ct k v := funext fun y => by
  obtain ⟨M, hM⟩ := exists_max H
  exact (dk H M hM y).trans (congrArg _ (dk_eq q ct k v (y 0) (y 1) (y 2)).symm)

theorem ref_dv : val_main_v65 x0 x1 x3 = Cert.KernelIdeal.Array.dvArr q ct k := funext fun y => by
  obtain ⟨M, hM⟩ := exists_max H
  exact (dv H M hM y).trans (congrArg _ (dv_eq q ct k (y 0) (y 1) (y 2)).symm)

end

/-- The kernel and the reference end with equal results. -/
theorem algebraic : Cert.algebraic_KernelIdeal_ReferenceIdeal_pre_finite := by
  intro m g m' g' hP hagree
  have hR := fun c => exists_reals (hP c)
  choose q k v ct H using hR
  have hK : ∀ c, Cert.KernelIdeal.Array.Reals m c (q c) (k c) (v c) (ct c) := fun c => ⟨(H c).q, (H c).k, (H c).v, (H c).ct⟩
  refine ⟨fun c => Cert.KernelIdeal.Array.dqArr (q c) (ct c) (k c) (v c), fun c => Cert.KernelIdeal.Array.dkArr (q c) (ct c) (k c) (v c),
    fun c => Cert.KernelIdeal.Array.dvArr (q c) (ct c) (k c), ?_, ?_⟩
  · refine (θ_run Cert.KernelIdeal.defs _ _).mono (fun r h c => ?_) (Cert.KernelIdeal.Value.run_blocks m g)
    obtain ⟨h4, h5, h6, h⟩ := h c
    exact ⟨h4.trans (Cert.KernelIdeal.Array.final4 (hK c)), h5.trans (Cert.KernelIdeal.Array.final5 (hK c)),
      h6.trans (Cert.KernelIdeal.Array.final6 (hK c)), h⟩
  · refine (θ_run Cert.ReferenceIdeal.defs _ _).mono (fun r h c => ?_) (Cert.ReferenceIdeal.Value.run m' g')
    obtain ⟨h67, h66, h65, h⟩ := h c
    obtain ⟨a0, a1, a2, a3⟩ := hagree c
    refine ⟨?_, ?_, ?_, h⟩
    · refine (h67.trans (Cert.ReferenceIdeal.Read.val_main_v67_eq m' c)).trans ?_
      rw [a0, a1, a2, a3]
      exact ref_dq (H c)
    · refine (h66.trans (Cert.ReferenceIdeal.Read.val_main_v66_eq m' c)).trans ?_
      rw [a0, a1, a2, a3]
      exact ref_dk (H c)
    · refine (h65.trans (Cert.ReferenceIdeal.Read.val_main_v65_eq _ _ _)).trans ?_
      rw [a0, a1, a3]
      exact ref_dv (H c)

/-- The reference's frame: its run without its results; it declares no semaphore. -/
theorem frame_ref : Cert.quiescent_ReferenceIdeal := fun m g _ =>
  (θ_run Cert.ReferenceIdeal.defs _ _).mono (fun r h => ⟨fun c => (h c).2.2.2, sem_eq_zero_of_no_sems (by decide) r.2⟩)
    (Cert.ReferenceIdeal.Value.run m g)

end Cert.Equal

end
-- ==== Proof.Product.lean ====
/- A product of two matrices taken block by block over the summed axis, as sums over the extended reals. -/
module

public import Mathlib.Data.EReal.Operations
public import Mathlib.Algebra.BigOperators.Fin
public import Mathlib.Algebra.BigOperators.Intervals

@[expose] public section

noncomputable section

open scoped BigOperators

namespace Cert.Product

/-- An entry of a matrix at two natural numbers, and 0 outside it. -/
def at2 {a b : ℕ} (X : Fin a → Fin b → EReal) (i j : ℕ) : EReal :=
  if h : i < a ∧ j < b then X ⟨i, h.1⟩ ⟨j, h.2⟩ else 0

theorem at2_eq {a b : ℕ} (X : Fin a → Fin b → EReal) {i j : ℕ} (hi : i < a) (hj : j < b) : at2 X i j = X ⟨i, hi⟩ ⟨j, hj⟩ :=
  dif_pos ⟨hi, hj⟩

theorem at2_fin {a b : ℕ} (X : Fin a → Fin b → EReal) (i : Fin a) (j : Fin b) : at2 X i.val j.val = X i j :=
  at2_eq X i.isLt j.isLt

/-- An accumulator that starts a block of `nk` points with the sum of the first `T` terms, and adds the next `T` terms at each
    further point of the block, holds at each point the sum of all terms so far. -/
theorem accumulate {ι : Type} {N nk : ℕ} (T : ℕ) (hnk : 0 < nk) (o : (n : ℕ) → n < N → ι → EReal) (f : ℕ → ι → ℕ → EReal)
    (hsame : ∀ n, (n + 1) % nk ≠ 0 → f (n + 1) = f n)
    (hfirst : ∀ n h y, n % nk = 0 → o n h y = ∑ x : Fin T, f n y x.val)
    (hnext : ∀ n h y, (n + 1) % nk ≠ 0 →
      o (n + 1) h y = o n (Nat.lt_of_succ_lt h) y + ∑ x : Fin T, f (n + 1) y (T * ((n + 1) % nk) + x.val)) :
    ∀ n h y, o n h y = ∑ q ∈ Finset.range (T * (n % nk + 1)), f n y q := by
  have first : ∀ n h y, n % nk = 0 → o n h y = ∑ q ∈ Finset.range (T * (n % nk + 1)), f n y q := fun n h y e => by
    rw [hfirst n h y e, e, zero_add, Nat.mul_one, Finset.sum_range]
  intro n
  induction n with
  | zero => exact fun h y => first 0 h y (Nat.zero_mod _)
  | succ n ih =>
    intro h y
    by_cases e : (n + 1) % nk = 0
    · exact first _ h y e
    · have em : (n + 1) % nk = n % nk + 1 := by
        have d := Nat.div_add_mod n nk
        have l := Nat.mod_lt n hnk
        have s : n + 1 = n % nk + 1 + nk * (n / nk) := by omega
        rcases Nat.lt_or_ge (n % nk + 1) nk with g | g
        · rw [s, Nat.add_mul_mod_self_left, Nat.mod_eq_of_lt g]
        · exfalso
          apply e
          have : n % nk + 1 = nk := by omega
          rw [s, this, Nat.add_mul_mod_self_left, Nat.mod_self]
      rw [hnext n h y e, ih, hsame n e, em, Nat.mul_add T (n % nk + 1) 1, Nat.mul_one, Finset.sum_range_add,
        Finset.sum_range (fun x => f n y (T * (n % nk + 1) + x))]

/-- The rows of two matrices multiplied over the whole summed axis. -/
theorem rows {a b n : ℕ} (X : Fin a → Fin n → EReal) (Y : Fin b → Fin n → EReal) (i : Fin a) (j : Fin b) :
    ∑ q ∈ Finset.range n, at2 X i.val q * at2 Y j.val q = ∑ k : Fin n, X i k * Y j k := by
  rw [Finset.sum_range]
  exact Finset.sum_congr rfl fun k _ => by rw [at2_fin, at2_fin]

/-- The columns of two matrices multiplied over the whole summed axis. -/
theorem columns {a b n : ℕ} (X : Fin n → Fin a → EReal) (Y : Fin n → Fin b → EReal) (i : Fin a) (j : Fin b) :
    ∑ q ∈ Finset.range n, at2 X q i.val * at2 Y q j.val = ∑ k : Fin n, X k i * Y k j := by
  rw [Finset.sum_range]
  exact Finset.sum_congr rfl fun k _ => by rw [at2_fin, at2_fin]

/-- The rows of one matrix multiplied with the columns of another over the whole summed axis. -/
theorem rowsColumns {a b n : ℕ} (X : Fin a → Fin n → EReal) (Y : Fin n → Fin b → EReal) (i : Fin a) (j : Fin b) :
    ∑ q ∈ Finset.range n, at2 X i.val q * at2 Y q j.val = ∑ k : Fin n, X i k * Y k j := by
  rw [Finset.sum_range]
  exact Finset.sum_congr rfl fun k _ => by rw [at2_fin, at2_fin]

end Cert.Product

end
-- ==== Proof.WinDx.lean ====
/- The gradient of the input projection by its input: the blocked product is the whole product. -/
module

public import proofs.«01_k».proof.Defs
public import proofs.«01_k».proof.Proof.Product
public import proofs.«01_k».proof.Proof.Gen.WinDxIdeal.Value
public import proofs.«01_k».proof.Proof.Gen.WinDxRefIdeal.Read
public import Idealize.ShloMosaic.Lib.Pointwise

@[expose] public section

noncomputable section

open scoped BigOperators

namespace Cert.WinDxIdeal.Whole

open Cert.WinDxIdeal Cert.WinDxIdeal.Gen Cert.Product
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- A point that starts a block of the result leaves the product of its two blocks. -/
theorem out_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (hc0 : cond0_0 i) (hc1 : ¬cond0_1 i) (x0 x1 : Vec Ideal S1024x1024 .bf16) :
    out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz]
  simp only [View.readAt_eq_ld, h3.read_unread, h4.read_unread, View.ld_unit_zero (S := S1024x1024) hz]

/-- Each further point adds the product of its two blocks. -/
theorem out_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (hc0 : ¬cond0_0 i) (hc1 : cond0_1 i) (x0 x1 : Vec Ideal S1024x1024 .bf16) (xo : Vec Ideal S1024x1024 .f32) :
    out0_B_2 c i a3 h3 a4 h4 a5 h5 hc0 hc1 x0 x1 xo = k0_pay2 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero hz]
  simp only [View.readAt_eq_ld, h3.read_unread, h4.read_unread, h5.read_unread, View.ld_unit_zero (S := S1024x1024) hz]

/-- An entry of the product of two blocks. -/
theorem pay1_apply (x0 x1 : Vec Ideal S1024x1024 .bf16) (r s : Fin 1024) :
    k0_pay1 x0 x1 (ix2 r s) = ∑ k : Fin 1024, x0 (ix2 r k) * x1 (ix2 s k) := by
  unfold k0_pay1
  simp only [pointwise, zero_add]

/-- The product of two blocks, added to what was there. -/
theorem pay2_apply (x0 x1 : Vec Ideal S1024x1024 .bf16) (xo : Vec Ideal S1024x1024 .f32) (r s : Fin 1024) :
    k0_pay2 x0 x1 xo (ix2 r s) = xo (ix2 r s) + ∑ k : Fin 1024, x0 (ix2 r k) * x1 (ix2 s k) :=
  by
  unfold k0_pay2
  simp only [pointwise, shapeCast_self]
  exact congrArg (xo (ix2 r s) + ·) (pay1_apply x0 x1 r s)

/-! ## The windows' blocks -/

theorem lt_N (t : Fin cfg0.N) : t.val < 90 := lt_of_lt_of_eq t.isLt N_0

theorem index0 : ∀ t : Fin cfg0.N, win0_0.index t 0 = t.val / 10 ∧ win0_0.index t 1 = t.val % 10 :=
  (by decide +kernel : ∀ t : Fin grid0.N, win0_0.index t 0 = t.val / 10 ∧ win0_0.index t 1 = t.val % 10)

theorem index1 : ∀ t : Fin cfg0.N, win0_1.index t 0 = 0 ∧ win0_1.index t 1 = t.val % 10 :=
  (by decide +kernel : ∀ t : Fin grid0.N, win0_1.index t 0 = 0 ∧ win0_1.index t 1 = t.val % 10)

theorem index2 : ∀ t : Fin cfg0.N, win0_2.index t 0 = t.val / 10 ∧ win0_2.index t 1 = 0 :=
  (by decide +kernel : ∀ t : Fin grid0.N, win0_2.index t 0 = t.val / 10 ∧ win0_2.index t 1 = 0)

variable (m : (ℓ : Loc nD τ sig) → Buf (Elt Ideal) ℓ) (c : Dev nD)

/-- The two arguments, as matrices. -/
def X (i : Fin 9216) (k : Fin 10240) : EReal := (m ((c : Thread nD τ).loc main_arg0) : Vec Ideal S9216x10240 .bf16) (ix2 i k)
def Y (i : Fin 1024) (k : Fin 10240) : EReal := (m ((c : Thread nD τ).loc main_arg1) : Vec Ideal S1024x10240 .bf16) (ix2 i k)

theorem read_x (t : Fin cfg0.N) (r k : Fin 1024) :
    (iblk m c 0 t : Vec Ideal S1024x1024 .bf16) (ix2 r k) = at2 (X m c) (1024 * (t.val / 10) + r.val) (1024 * (t.val % 10) + k.val) := by
  have ht := lt_N t
  obtain ⟨e0, e1⟩ := index0 t
  rw [at2_eq _ (by omega) (by omega)]
  unfold iblk X
  rw [View.read_apply]
  show V m c main_arg0 _ = m (c.tc.loc main_arg0) _
  unfold V
  congr 1
  funext a
  apply Fin.ext
  match a with
  | ⟨0, _⟩ => show win0_0.index t 0 * 1024 + 1 * r.val = 1024 * (t.val / 10) + r.val; rw [e0]; omega
  | ⟨1, _⟩ => show win0_0.index t 1 * 1024 + 1 * k.val = 1024 * (t.val % 10) + k.val; rw [e1]; omega

theorem read_y (t : Fin cfg0.N) (s k : Fin 1024) :
    (iblk m c 1 t : Vec Ideal S1024x1024 .bf16) (ix2 s k) = at2 (Y m c) s.val (1024 * (t.val % 10) + k.val) := by
  have ht := lt_N t
  obtain ⟨e0, e1⟩ := index1 t
  rw [at2_eq _ (by omega) (by omega)]
  unfold iblk Y
  rw [View.read_apply]
  show V m c main_arg1 _ = m (c.tc.loc main_arg1) _
  unfold V
  congr 1
  funext a
  apply Fin.ext
  match a with
  | ⟨0, _⟩ => show win0_1.index t 0 * 1024 + 1 * s.val = s.val; rw [e0]; omega
  | ⟨1, _⟩ => show win0_1.index t 1 * 1024 + 1 * k.val = 1024 * (t.val % 10) + k.val; rw [e1]; omega

/-- The terms of an entry of the block that point `n` works on. -/
def term (n : ℕ) (y : Fin 1024 × Fin 1024) (q : ℕ) : EReal := at2 (X m c) (1024 * (n / 10) + y.1.val) q * at2 (Y m c) y.2.val q

/-- What a point leaves: the terms of all points of its block so far. -/
theorem outs (n : ℕ) (h : n < cfg0.N) (y : Fin 1024 × Fin 1024) :
    outsAt0 m c n h (ix2 y.1 y.2) = ∑ q ∈ Finset.range (1024 * (n % 10 + 1)), term m c n y q := by
  refine accumulate (nk := 10) 1024 (by decide) (fun n h y => outsAt0 m c n h (ix2 y.1 y.2)) (term m c) ?_ ?_ ?_ n h y
  · intro n e
    unfold term
    rw [show (n + 1) / 10 = n / 10 by omega]
  · intro n h y e
    have eA := outsAt0_A m c ⟨n, h⟩ e (by dsimp only; omega)
    change outsAt0 m c n h = _ at eA
    rw [eA, out_A, pay1_apply]
    refine Finset.sum_congr rfl fun k _ => ?_
    rw [read_x, read_y, e, Nat.mul_zero, Nat.zero_add]
    rfl
  · intro n h y e
    have eB := outsAt0_B m c ⟨n + 1, h⟩ e (by dsimp only; omega)
    change outsAt0 m c (n + 1) h = _ at eB
    rw [eB, out_B, pay2_apply]
    refine congrArg₂ (· + ·) rfl (Finset.sum_congr rfl fun k _ => ?_)
    rw [read_x, read_y]
    rfl

/-- The whole product. -/
def result (y : S9216x1024.Idx) : EReal := ∑ q ∈ Finset.range 10240, at2 (X m c) (y 0).val q * at2 (Y m c) (y 1).val q

theorem result_at {y : S9216x1024.Idx} {i j : ℕ} (hi : (y 0).val = i) (hj : (y 1).val = j) :
    result m c y = ∑ q ∈ Finset.range 10240, at2 (X m c) i q * at2 (Y m c) j q := by
  subst hi hj; rfl

theorem final : (dats m 0 c).arrAt 2 cfg0.N = result m c := by
  refine (dats m 0 c).arrAt_eq_of_cover 2 (result m c) (fun t hf => ?_) fun y => ?_
  · have ht := lt_N t
    have h9 := (flush0_2 t).mp hf
    obtain ⟨e0, e1⟩ := index2 t
    rw [Value.flushed2]
    funext y
    rw [View.read_apply]
    have hy0 : (y 0).val < 1024 := (y 0).isLt
    have hy1 : (y 1).val < 1024 := (y 1).isLt
    have ey : (y : S1024x1024.Idx) = ix2 ⟨(y 0).val, hy0⟩ ⟨(y 1).val, hy1⟩ := funext fun a => by fin_cases a <;> rfl
    refine ((congrArg (outsAt0 m c t.val t.isLt) ey).trans (outs m c t.val t.isLt (⟨(y 0).val, hy0⟩, ⟨(y 1).val, hy1⟩))).trans ?_
    rw [h9, show (1024 * (9 + 1) : ℕ) = 10240 by norm_num]
    have d0 : ((((cfg0.win 2).blk t).view.emb y : S9216x1024.Idx) 0).val = 1024 * (t.val / 10) + (y 0).val := by
      show win0_2.index t 0 * 1024 + 1 * (y 0).val = 1024 * (t.val / 10) + (y 0).val
      rw [e0]; omega
    have d1 : ((((cfg0.win 2).blk t).view.emb y : S9216x1024.Idx) 1).val = (y 1).val := by
      show win0_2.index t 1 * 1024 + 1 * (y 1).val = (y 1).val
      rw [e1]; omega
    exact (result_at m c d0 d1).symm.trans (cast_eq _ _).symm
  · have h0 : (y 0 : Nat) < 9216 := (y 0).isLt
    have h1 : (y 1 : Nat) < 1024 := (y 1).isLt
    have hN : cfg0.N = 90 := N_0
    let t : Fin cfg0.N := ⟨10 * ((y 0).val / 1024) + 9, by omega⟩
    obtain ⟨e0, e1⟩ := index2 t
    have ht : t.val = 10 * ((y 0).val / 1024) + 9 := rfl
    refine ⟨t, (flush0_2 t).mpr (by omega), ?_⟩
    show y ∈ ((View.whole main_v0).slice (win0_2.rect t)).set
    rw [View.set_slice_whole, Rect.mem_set_unit]
    intro a
    match a with
    | ⟨0, _⟩ =>
      show win0_2.index t 0 * 1024 ≤ (y 0 : Nat) ∧ (y 0 : Nat) < win0_2.index t 0 * 1024 + 1024
      rw [e0]; omega
    | ⟨1, _⟩ =>
      show win0_2.index t 1 * 1024 ≤ (y 1 : Nat) ∧ (y 1 : Nat) < win0_2.index t 1 * 1024 + 1024
      rw [e1]; omega

end Cert.WinDxIdeal.Whole

namespace Cert.WinDxRefIdeal.Whole

open Cert.WinDxRefIdeal Cert.WinDxRefIdeal.Gen
open Idealize.ShloMosaic Idealize.ShloMosaic.TcCoe Idealize.SL.Sem

/-- The reference leaves its arguments as they were, and every counter at zero. -/
theorem frame : Cert.quiescent_WinDxRefIdeal := fun m g _ =>
  (θ_run _ _ _).mono (fun r h => ⟨fun c => (h c).2, sem_eq_zero_of_no_sems (by decide) r.2⟩) (Value.run (F := Ideal) m g)

end Cert.WinDxRefIdeal.Whole

namespace Cert.WinDx

open Idealize.ShloMosaic Idealize.ShloMosaic.TcCoe Idealize.SL.Sem

/-- The kernel's result is the reference's. -/
theorem algebraic : Cert.algebraic_WinDxIdeal_WinDxRefIdeal := fun m g m' g' _ hargs =>
  ⟨fun c => WinDxIdeal.Whole.result m c,
    (θ_run _ _ _).mono (fun r h c => ⟨(h c).1.trans (WinDxIdeal.Whole.final m c), (h c).2⟩) (WinDxIdeal.Value.run_blocks (F := Ideal) m g),
    (θ_run _ _ _).mono (fun r h c => ⟨(h c).1.trans (by
      funext y
      refine (Cert.WinDxRefIdeal.Read.val_main_v4_apply _ _ y).trans ?_
      refine Eq.trans ?_ (Product.rows (WinDxIdeal.Whole.X m c) (WinDxIdeal.Whole.Y m c) (y 0) (y 1)).symm
      refine Finset.sum_congr rfl fun k _ => congrArg₂ (· * ·) ?_ ?_
      · exact (congrFun (hargs c).1 _).trans (congrArg (m (c.tc.loc WinDxIdeal.main_arg0)) (funext fun a => by
          match a with
          | ⟨0, _⟩ => rfl
          | ⟨1, _⟩ => rfl))
      · exact (congrFun (hargs c).2 _).trans (congrArg (m (c.tc.loc WinDxIdeal.main_arg1)) (funext fun a => by
          match a with
          | ⟨0, _⟩ => rfl
          | ⟨1, _⟩ => rfl))), (h c).2⟩) (Cert.WinDxRefIdeal.Value.run (F := Ideal) m' g')⟩

end Cert.WinDx

end
-- ==== Proof.WinDw.lean ====
/- The gradient of the input projection by its weight: the blocked product is the whole product. -/
module

public import proofs.«01_k».proof.Defs
public import proofs.«01_k».proof.Proof.Product
public import proofs.«01_k».proof.Proof.Gen.WinDwIdeal.Value
public import proofs.«01_k».proof.Proof.Gen.WinDwRefIdeal.Read
public import Idealize.ShloMosaic.Lib.Pointwise

@[expose] public section

noncomputable section

open scoped BigOperators

namespace Cert.WinDwIdeal.Whole

open Cert.WinDwIdeal Cert.WinDwIdeal.Gen Cert.Product
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- A point that starts a block of the result leaves the product of its two blocks. -/
theorem out_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (hc0 : cond0_0 i) (hc1 : ¬cond0_1 i) (x0 x1 : Vec Ideal S1024x1024 .bf16) :
    out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz]
  simp only [View.readAt_eq_ld, h3.read_unread, h4.read_unread, View.ld_unit_zero (S := S1024x1024) hz]

/-- Each further point adds the product of its two blocks. -/
theorem out_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (hc0 : ¬cond0_0 i) (hc1 : cond0_1 i) (x0 x1 : Vec Ideal S1024x1024 .bf16) (xo : Vec Ideal S1024x1024 .f32) :
    out0_B_2 c i a3 h3 a4 h4 a5 h5 hc0 hc1 x0 x1 xo = k0_pay2 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero hz]
  simp only [View.readAt_eq_ld, h3.read_unread, h4.read_unread, h5.read_unread, View.ld_unit_zero (S := S1024x1024) hz]

/-- An entry of the product of two blocks. -/
theorem pay1_apply (x0 x1 : Vec Ideal S1024x1024 .bf16) (r s : Fin 1024) :
    k0_pay1 x0 x1 (ix2 r s) = ∑ k : Fin 1024, x0 (ix2 k r) * x1 (ix2 k s) := by
  unfold k0_pay1
  simp only [pointwise, zero_add]

/-- The product of two blocks, added to what was there. -/
theorem pay2_apply (x0 x1 : Vec Ideal S1024x1024 .bf16) (xo : Vec Ideal S1024x1024 .f32) (r s : Fin 1024) :
    k0_pay2 x0 x1 xo (ix2 r s) = xo (ix2 r s) + ∑ k : Fin 1024, x0 (ix2 k r) * x1 (ix2 k s) :=
  by
  unfold k0_pay2
  simp only [pointwise, shapeCast_self]
  exact congrArg (xo (ix2 r s) + ·) (pay1_apply x0 x1 r s)

/-! ## The windows' blocks -/

theorem lt_N (t : Fin cfg0.N) : t.val < 90 := lt_of_lt_of_eq t.isLt N_0

theorem index0 : ∀ t : Fin cfg0.N, win0_0.index t 0 = t.val % 9 ∧ win0_0.index t 1 = 0 :=
  (by decide +kernel : ∀ t : Fin grid0.N, win0_0.index t 0 = t.val % 9 ∧ win0_0.index t 1 = 0)

theorem index1 : ∀ t : Fin cfg0.N, win0_1.index t 0 = t.val % 9 ∧ win0_1.index t 1 = t.val / 9 :=
  (by decide +kernel : ∀ t : Fin grid0.N, win0_1.index t 0 = t.val % 9 ∧ win0_1.index t 1 = t.val / 9)

theorem index2 : ∀ t : Fin cfg0.N, win0_2.index t 0 = 0 ∧ win0_2.index t 1 = t.val / 9 :=
  (by decide +kernel : ∀ t : Fin grid0.N, win0_2.index t 0 = 0 ∧ win0_2.index t 1 = t.val / 9)

variable (m : (ℓ : Loc nD τ sig) → Buf (Elt Ideal) ℓ) (c : Dev nD)

/-- The two arguments, as matrices. -/
def X (k : Fin 9216) (i : Fin 1024) : EReal := (m ((c : Thread nD τ).loc main_arg0) : Vec Ideal S9216x1024 .bf16) (ix2 k i)
def Y (k : Fin 9216) (i : Fin 10240) : EReal := (m ((c : Thread nD τ).loc main_arg1) : Vec Ideal S9216x10240 .bf16) (ix2 k i)

theorem read_x (t : Fin cfg0.N) (k r : Fin 1024) :
    (iblk m c 0 t : Vec Ideal S1024x1024 .bf16) (ix2 k r) = at2 (X m c) (1024 * (t.val % 9) + k.val) r.val := by
  have ht := lt_N t
  obtain ⟨e0, e1⟩ := index0 t
  rw [at2_eq _ (by omega) (by omega)]
  unfold iblk X
  rw [View.read_apply]
  show V m c main_arg0 _ = m (c.tc.loc main_arg0) _
  unfold V
  congr 1
  funext a
  apply Fin.ext
  match a with
  | ⟨0, _⟩ => show win0_0.index t 0 * 1024 + 1 * k.val = 1024 * (t.val % 9) + k.val; rw [e0]; omega
  | ⟨1, _⟩ => show win0_0.index t 1 * 1024 + 1 * r.val = r.val; rw [e1]; omega

theorem read_y (t : Fin cfg0.N) (k s : Fin 1024) :
    (iblk m c 1 t : Vec Ideal S1024x1024 .bf16) (ix2 k s) = at2 (Y m c) (1024 * (t.val % 9) + k.val) (1024 * (t.val / 9) + s.val) := by
  have ht := lt_N t
  obtain ⟨e0, e1⟩ := index1 t
  rw [at2_eq _ (by omega) (by omega)]
  unfold iblk Y
  rw [View.read_apply]
  show V m c main_arg1 _ = m (c.tc.loc main_arg1) _
  unfold V
  congr 1
  funext a
  apply Fin.ext
  match a with
  | ⟨0, _⟩ => show win0_1.index t 0 * 1024 + 1 * k.val = 1024 * (t.val % 9) + k.val; rw [e0]; omega
  | ⟨1, _⟩ => show win0_1.index t 1 * 1024 + 1 * s.val = 1024 * (t.val / 9) + s.val; rw [e1]; omega

/-- The terms of an entry of the block that point `n` works on. -/
def term (n : ℕ) (y : Fin 1024 × Fin 1024) (q : ℕ) : EReal := at2 (X m c) q y.1.val * at2 (Y m c) q (1024 * (n / 9) + y.2.val)

/-- What a point leaves: the terms of all points of its block so far. -/
theorem outs (n : ℕ) (h : n < cfg0.N) (y : Fin 1024 × Fin 1024) :
    outsAt0 m c n h (ix2 y.1 y.2) = ∑ q ∈ Finset.range (1024 * (n % 9 + 1)), term m c n y q := by
  refine accumulate (nk := 9) 1024 (by decide) (fun n h y => outsAt0 m c n h (ix2 y.1 y.2)) (term m c) ?_ ?_ ?_ n h y
  · intro n e
    unfold term
    rw [show (n + 1) / 9 = n / 9 by omega]
  · intro n h y e
    have eA := outsAt0_A m c ⟨n, h⟩ e (by dsimp only; omega)
    change outsAt0 m c n h = _ at eA
    rw [eA, out_A, pay1_apply]
    refine Finset.sum_congr rfl fun k _ => ?_
    rw [read_x, read_y, e, Nat.mul_zero, Nat.zero_add]
    rfl
  · intro n h y e
    have eB := outsAt0_B m c ⟨n + 1, h⟩ e (by dsimp only; omega)
    change outsAt0 m c (n + 1) h = _ at eB
    rw [eB, out_B, pay2_apply]
    refine congrArg₂ (· + ·) rfl (Finset.sum_congr rfl fun k _ => ?_)
    rw [read_x, read_y]
    rfl

/-- The whole product. -/
def result (y : S1024x10240.Idx) : EReal := ∑ q ∈ Finset.range 9216, at2 (X m c) q (y 0).val * at2 (Y m c) q (y 1).val

theorem result_at {y : S1024x10240.Idx} {i j : ℕ} (hi : (y 0).val = i) (hj : (y 1).val = j) :
    result m c y = ∑ q ∈ Finset.range 9216, at2 (X m c) q i * at2 (Y m c) q j := by
  subst hi hj; rfl

theorem final : (dats m 0 c).arrAt 2 cfg0.N = result m c := by
  refine (dats m 0 c).arrAt_eq_of_cover 2 (result m c) (fun t hf => ?_) fun y => ?_
  · have ht := lt_N t
    have h9 := (flush0_2 t).mp hf
    obtain ⟨e0, e1⟩ := index2 t
    rw [Value.flushed2]
    funext y
    rw [View.read_apply]
    have hy0 : (y 0).val < 1024 := (y 0).isLt
    have hy1 : (y 1).val < 1024 := (y 1).isLt
    have ey : (y : S1024x1024.Idx) = ix2 ⟨(y 0).val, hy0⟩ ⟨(y 1).val, hy1⟩ := funext fun a => by fin_cases a <;> rfl
    refine ((congrArg (outsAt0 m c t.val t.isLt) ey).trans (outs m c t.val t.isLt (⟨(y 0).val, hy0⟩, ⟨(y 1).val, hy1⟩))).trans ?_
    rw [h9, show (1024 * (8 + 1) : ℕ) = 9216 by norm_num]
    have d0 : ((((cfg0.win 2).blk t).view.emb y : S1024x10240.Idx) 0).val = (y 0).val := by
      show win0_2.index t 0 * 1024 + 1 * (y 0).val = (y 0).val
      rw [e0]; omega
    have d1 : ((((cfg0.win 2).blk t).view.emb y : S1024x10240.Idx) 1).val = 1024 * (t.val / 9) + (y 1).val := by
      show win0_2.index t 1 * 1024 + 1 * (y 1).val = 1024 * (t.val / 9) + (y 1).val
      rw [e1]; omega
    exact (result_at m c d0 d1).symm.trans (cast_eq _ _).symm
  · have h0 : (y 0 : Nat) < 1024 := (y 0).isLt
    have h1 : (y 1 : Nat) < 10240 := (y 1).isLt
    have hN : cfg0.N = 90 := N_0
    let t : Fin cfg0.N := ⟨9 * ((y 1).val / 1024) + 8, by omega⟩
    obtain ⟨e0, e1⟩ := index2 t
    have ht : t.val = 9 * ((y 1).val / 1024) + 8 := rfl
    refine ⟨t, (flush0_2 t).mpr (by omega), ?_⟩
    show y ∈ ((View.whole main_v0).slice (win0_2.rect t)).set
    rw [View.set_slice_whole, Rect.mem_set_unit]
    intro a
    match a with
    | ⟨0, _⟩ =>
      show win0_2.index t 0 * 1024 ≤ (y 0 : Nat) ∧ (y 0 : Nat) < win0_2.index t 0 * 1024 + 1024
      rw [e0]; omega
    | ⟨1, _⟩ =>
      show win0_2.index t 1 * 1024 ≤ (y 1 : Nat) ∧ (y 1 : Nat) < win0_2.index t 1 * 1024 + 1024
      rw [e1]; omega

end Cert.WinDwIdeal.Whole

namespace Cert.WinDwRefIdeal.Whole

open Cert.WinDwRefIdeal Cert.WinDwRefIdeal.Gen
open Idealize.ShloMosaic Idealize.ShloMosaic.TcCoe Idealize.SL.Sem

/-- The reference leaves its arguments as they were, and every counter at zero. -/
theorem frame : Cert.quiescent_WinDwRefIdeal := fun m g _ =>
  (θ_run _ _ _).mono (fun r h => ⟨fun c => (h c).2, sem_eq_zero_of_no_sems (by decide) r.2⟩) (Value.run (F := Ideal) m g)

end Cert.WinDwRefIdeal.Whole

namespace Cert.WinDw

open Idealize.ShloMosaic Idealize.ShloMosaic.TcCoe Idealize.SL.Sem

/-- The kernel's result is the reference's. -/
theorem algebraic : Cert.algebraic_WinDwIdeal_WinDwRefIdeal := fun m g m' g' _ hargs =>
  ⟨fun c => WinDwIdeal.Whole.result m c,
    (θ_run _ _ _).mono (fun r h c => ⟨(h c).1.trans (WinDwIdeal.Whole.final m c), (h c).2⟩) (WinDwIdeal.Value.run_blocks (F := Ideal) m g),
    (θ_run _ _ _).mono (fun r h c => ⟨(h c).1.trans (by
      funext y
      refine ((Cert.WinDwRefIdeal.Read.val_main_v5_apply _ _ y).trans (Cert.WinDwRefIdeal.Read.val_main_v4_apply _ _ _)).trans ?_
      refine Eq.trans ?_ (Product.columns (WinDwIdeal.Whole.X m c) (WinDwIdeal.Whole.Y m c) (y 0) (y 1)).symm
      refine Finset.sum_congr rfl fun k _ => (EReal.mul_comm _ _).trans (congrArg₂ (· * ·) ?_ ?_)
      · exact (congrFun (hargs c).1 _).trans (congrArg (m (c.tc.loc WinDwIdeal.main_arg0)) (funext fun a => by
          match a with
          | ⟨0, _⟩ => rfl
          | ⟨1, _⟩ => rfl))
      · exact (congrFun (hargs c).2 _).trans (congrArg (m (c.tc.loc WinDwIdeal.main_arg1)) (funext fun a => by
          match a with
          | ⟨0, _⟩ => rfl
          | ⟨1, _⟩ => rfl))), (h c).2⟩) (Cert.WinDwRefIdeal.Value.run (F := Ideal) m' g')⟩

end Cert.WinDw

end
-- ==== Proof.Mlp2Dx.lean ====
/- The gradient of the MLP's squared ReLU and second product by the ReLU's input: the blocked result is the whole result. -/
module

public import proofs.«01_k».proof.Defs
public import proofs.«01_k».proof.Proof.Product
public import proofs.«01_k».proof.Proof.Gen.Mlp2DxIdeal.Value
public import proofs.«01_k».proof.Proof.Gen.Mlp2DxRefIdeal.Read
public import Idealize.ShloMosaic.Lib.Pointwise

@[expose] public section

noncomputable section

open scoped BigOperators

namespace Cert.Mlp2DxIdeal.Whole

open Cert.Mlp2DxIdeal Cert.Mlp2DxIdeal.Gen Cert.Product
open Idealize.ShloMosaic Idealize.ShloMosaic.TcCoe Idealize.SL.Sem
open Idealize.ShloMosaic.Pipeline (Dat)

/-- The factor 2 of the derivative of the square. -/
def two : EReal := Scalar.ofBits (F := Ideal) .f32 0x40000000#32

theorem hz : (![0, 0] : Fin 2 → Nat) = fun _ => 0 := funext fun a => by fin_cases a <;> rfl

/-- What a point leaves. -/
theorem out_apply (x0 x1 : Vec Ideal S1024x1024 .bf16) (x2 : Vec Ideal S1024x1024 .f32) : out0_3 x0 x1 x2 = k0_pay1 x0 x1 x2 := by
  unfold out0_3
  rw [View.canon_unit_zero hz]
  simp only [View.ld_unit_zero (S := S1024x1024) hz]

/-- An entry of the product of two blocks, times the squared ReLU's derivative. -/
theorem pay1_apply (x0 x1 : Vec Ideal S1024x1024 .bf16) (x2 : Vec Ideal S1024x1024 .f32) (r s : Fin 1024) :
    (k0_pay1 x0 x1 x2 (ix2 r s) : EReal) =
      (∑ k : Fin 1024, x0 (ix2 r k) * x1 (ix2 s k)) * (two * max (x2 (ix2 r s) : EReal) 0) := by
  unfold k0_pay1
  simp only [pointwise, zero_add]
  rfl

/-! ## The windows' blocks -/

theorem lt_N (t : Fin cfg0.N) : t.val < 36 := lt_of_lt_of_eq t.isLt N_0

theorem index0 : ∀ t : Fin cfg0.N, win0_0.index t 0 = t.val / 4 ∧ win0_0.index t 1 = 0 :=
  (by decide +kernel : ∀ t : Fin grid0.N, win0_0.index t 0 = t.val / 4 ∧ win0_0.index t 1 = 0)

theorem index1 : ∀ t : Fin cfg0.N, win0_1.index t 0 = t.val % 4 ∧ win0_1.index t 1 = 0 :=
  (by decide +kernel : ∀ t : Fin grid0.N, win0_1.index t 0 = t.val % 4 ∧ win0_1.index t 1 = 0)

theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

theorem index3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)

variable (m : (ℓ : Loc nD τ sig) → Buf (Elt Ideal) ℓ) (c : Dev nD)

/-- The three arguments, as matrices. -/
def X (i : Fin 9216) (k : Fin 1024) : EReal := (m ((c : Thread nD τ).loc main_arg0) : Vec Ideal S9216x1024 .bf16) (ix2 i k)
def Y (i : Fin 4096) (k : Fin 1024) : EReal := (m ((c : Thread nD τ).loc main_arg1) : Vec Ideal S4096x1024 .bf16) (ix2 i k)
def Z (i : Fin 9216) (k : Fin 4096) : EReal := (m ((c : Thread nD τ).loc main_arg2) : Vec Ideal S9216x4096 .f32) (ix2 i k)

theorem read_x (t : Fin cfg0.N) (r k : Fin 1024) :
    (iblk m c 0 t : Vec Ideal S1024x1024 .bf16) (ix2 r k) = at2 (X m c) (1024 * (t.val / 4) + r.val) k.val := by
  have ht := lt_N t
  obtain ⟨e0, e1⟩ := index0 t
  rw [at2_eq _ (by omega) (by omega)]
  unfold iblk X
  rw [View.read_apply]
  show V m c main_arg0 _ = m (c.tc.loc main_arg0) _
  unfold V
  congr 1
  funext a
  apply Fin.ext
  match a with
  | ⟨0, _⟩ => show win0_0.index t 0 * 1024 + 1 * r.val = 1024 * (t.val / 4) + r.val; rw [e0]; omega
  | ⟨1, _⟩ => show win0_0.index t 1 * 1024 + 1 * k.val = k.val; rw [e1]; omega

theorem read_y (t : Fin cfg0.N) (s k : Fin 1024) :
    (iblk m c 1 t : Vec Ideal S1024x1024 .bf16) (ix2 s k) = at2 (Y m c) (1024 * (t.val % 4) + s.val) k.val := by
  have ht := lt_N t
  obtain ⟨e0, e1⟩ := index1 t
  rw [at2_eq _ (by omega) (by omega)]
  unfold iblk Y
  rw [View.read_apply]
  show V m c main_arg1 _ = m (c.tc.loc main_arg1) _
  unfold V
  congr 1
  funext a
  apply Fin.ext
  match a with
  | ⟨0, _⟩ => show win0_1.index t 0 * 1024 + 1 * s.val = 1024 * (t.val % 4) + s.val; rw [e0]; omega
  | ⟨1, _⟩ => show win0_1.index t 1 * 1024 + 1 * k.val = k.val; rw [e1]; omega

theorem read_z (t : Fin cfg0.N) (r s : Fin 1024) :
    (iblk m c 2 t : Vec Ideal S1024x1024 .f32) (ix2 r s) = at2 (Z m c) (1024 * (t.val / 4) + r.val) (1024 * (t.val % 4) + s.val) := by
  have ht := lt_N t
  obtain ⟨e0, e1⟩ := index2 t
  rw [at2_eq _ (by omega) (by omega)]
  unfold iblk Z
  rw [View.read_apply]
  show V m c main_arg2 _ = m (c.tc.loc main_arg2) _
  unfold V
  congr 1
  funext a
  apply Fin.ext
  match a with
  | ⟨0, _⟩ => show win0_2.index t 0 * 1024 + 1 * r.val = 1024 * (t.val / 4) + r.val; rw [e0]; omega
  | ⟨1, _⟩ => show win0_2.index t 1 * 1024 + 1 * s.val = 1024 * (t.val % 4) + s.val; rw [e1]; omega

/-- The whole result at two natural numbers. -/
def value (i j : ℕ) : EReal :=
  (∑ q ∈ Finset.range 1024, at2 (X m c) i q * at2 (Y m c) j q) * (two * max (at2 (Z m c) i j) 0)

/-- What a point leaves is its block of the whole result. -/
theorem out_at (t : Fin cfg0.N) (r s : Fin 1024) :
    (out0_3 (iblk m c 0 t) (iblk m c 1 t) (iblk m c 2 t) (ix2 r s) : EReal) = value m c (1024 * (t.val / 4) + r.val) (1024 * (t.val % 4) + s.val) := by
  rw [out_apply, pay1_apply, read_z]
  unfold value
  rw [Finset.sum_range]
  refine congrArg (· * _) (Finset.sum_congr rfl fun k _ => ?_)
  rw [read_x, read_y]

/-- The whole result. -/
def result (y : S9216x4096.Idx) : EReal := value m c (y 0).val (y 1).val

theorem result_at {y : S9216x4096.Idx} {i j : ℕ} (hi : (y 0).val = i) (hj : (y 1).val = j) : result m c y = value m c i j := by
  subst hi hj; rfl

theorem result_fin (y : S9216x4096.Idx) :
    result m c y = (∑ k : Fin 1024, X m c (y 0) k * Y m c (y 1) k) * (two * max (Z m c (y 0) (y 1)) 0) := by
  unfold result value
  exact congrArg₂ (fun s a : EReal => s * (two * max a 0)) (rows (X m c) (Y m c) (y 0) (y 1)) (at2_fin (Z m c) (y 0) (y 1))

theorem final : (dats m 0 c).arrAt 3 cfg0.N = result m c := by
  refine (dats m 0 c).arrAt_eq_of_cover 3 (result m c) (fun t hf => ?_) fun y => ?_
  · have ht := lt_N t
    obtain ⟨e0, e1⟩ := index3 t
    rw [Value.flushed3]
    funext y
    rw [View.read_apply]
    have hy0 : (y 0).val < 1024 := (y 0).isLt
    have hy1 : (y 1).val < 1024 := (y 1).isLt
    have ey : (y : S1024x1024.Idx) = ix2 ⟨(y 0).val, hy0⟩ ⟨(y 1).val, hy1⟩ := funext fun a => by fin_cases a <;> rfl
    refine ((congrArg (out0_3 (iblk m c 0 t) (iblk m c 1 t) (iblk m c 2 t)) ey).trans (out_at m c t ⟨(y 0).val, hy0⟩ ⟨(y 1).val, hy1⟩)).trans ?_
    have d0 : ((((cfg0.win 3).blk t).view.emb y : S9216x4096.Idx) 0).val = 1024 * (t.val / 4) + (y 0).val := by
      show win0_3.index t 0 * 1024 + 1 * (y 0).val = 1024 * (t.val / 4) + (y 0).val
      rw [e0]; omega
    have d1 : ((((cfg0.win 3).blk t).view.emb y : S9216x4096.Idx) 1).val = 1024 * (t.val % 4) + (y 1).val := by
      show win0_3.index t 1 * 1024 + 1 * (y 1).val = 1024 * (t.val % 4) + (y 1).val
      rw [e1]; omega
    exact (result_at m c d0 d1).symm.trans (cast_eq _ _).symm
  · have h0 : (y 0 : Nat) < 9216 := (y 0).isLt
    have h1 : (y 1 : Nat) < 4096 := (y 1).isLt
    have hN : cfg0.N = 36 := N_0
    let t : Fin cfg0.N := ⟨4 * ((y 0).val / 1024) + (y 1).val / 1024, by omega⟩
    obtain ⟨e0, e1⟩ := index3 t
    have ht : t.val = 4 * ((y 0).val / 1024) + (y 1).val / 1024 := rfl
    refine ⟨t, flush0_3 t, ?_⟩
    show y ∈ ((View.whole main_v0).slice (win0_3.rect t)).set
    rw [View.set_slice_whole, Rect.mem_set_unit]
    intro a
    match a with
    | ⟨0, _⟩ =>
      show win0_3.index t 0 * 1024 ≤ (y 0 : Nat) ∧ (y 0 : Nat) < win0_3.index t 0 * 1024 + 1024
      rw [e0]; omega
    | ⟨1, _⟩ =>
      show win0_3.index t 1 * 1024 ≤ (y 1 : Nat) ∧ (y 1 : Nat) < win0_3.index t 1 * 1024 + 1024
      rw [e1]; omega

end Cert.Mlp2DxIdeal.Whole

namespace Cert.Mlp2DxRefIdeal.Whole

open Cert.Mlp2DxRefIdeal Cert.Mlp2DxRefIdeal.Gen
open Idealize.ShloMosaic Idealize.ShloMosaic.TcCoe Idealize.SL.Sem

/-- The reference leaves its arguments as they were, and every counter at zero. -/
theorem frame : Cert.quiescent_Mlp2DxRefIdeal := fun m g _ =>
  (θ_run _ _ _).mono (fun r h => ⟨fun c => (h c).2, sem_eq_zero_of_no_sems (by decide) r.2⟩) (Value.run (F := Ideal) m g)

/-- A product times the squared ReLU's derivative is 0 where the ReLU's input is not positive. -/
theorem select_eq (p t a : EReal) : (if a > 0 then p * (t * max a 0) else 0) = p * (t * max a 0) := by
  split
  · rfl
  · next h => rw [max_eq_right (not_lt.mp h), mul_zero, mul_zero]

/-- An entry of the reference: the product times the derivative where the ReLU's input is positive, and 0 elsewhere. -/
theorem val_apply (x0 : Vec Ideal S9216x1024 .bf16) (x1 : Vec Ideal S4096x1024 .bf16) (x2 : Vec Ideal S9216x4096 .f32) (y : S9216x4096.Idx) :
    (Read.val_main_v14 (F := Ideal) x0 x1 x2 y : EReal) =
      (∑ k : Fin 1024, (x0 (Read.lidx_main_v10 y k) : EReal) * x1 (Read.ridx_main_v10 y k)) * (Mlp2DxIdeal.Whole.two * max (x2 y : EReal) 0) := by
  rw [Read.val_main_v14_apply, Read.val_main_v13_apply, Read.val_main_v11_apply, Read.val_main_v10_apply, Read.val_main_v3_apply,
    Read.val_main_v7_apply, Read.val_main_v1_apply, Read.val_main_v2_apply, Read.val_main_v12_apply, Read.val_main_v6_apply,
    Read.val_main_call0_v0_apply, Read.val_main_call0_cst_apply,
    Read.val_main_cst_apply, Read.val_main_cst_2_apply, Read.val_main_cst_1_apply]
  simp only [pointwise]
  exact select_eq _ Mlp2DxIdeal.Whole.two (x2 y)

end Cert.Mlp2DxRefIdeal.Whole

namespace Cert.Mlp2Dx

open Idealize.ShloMosaic Idealize.ShloMosaic.TcCoe Idealize.SL.Sem

/-- The kernel's result is the reference's. -/
theorem algebraic : Cert.algebraic_Mlp2DxIdeal_Mlp2DxRefIdeal := fun m g m' g' _ hargs =>
  ⟨fun c => Mlp2DxIdeal.Whole.result m c,
    (θ_run _ _ _).mono (fun r h c => ⟨(h c).1.trans (Mlp2DxIdeal.Whole.final m c), (h c).2⟩) (Mlp2DxIdeal.Value.run_blocks (F := Ideal) m g),
    (θ_run _ _ _).mono (fun r h c => ⟨(h c).1.trans (by
      funext y
      refine (Cert.Mlp2DxRefIdeal.Whole.val_apply _ _ _ y).trans ?_
      refine Eq.trans ?_ (Mlp2DxIdeal.Whole.result_fin m c y).symm
      refine congrArg₂ (· * ·) (Finset.sum_congr rfl fun k _ => congrArg₂ (· * ·) ?_ ?_) (congrArg (fun a : EReal => Mlp2DxIdeal.Whole.two * max a 0) ?_)
      · exact (congrFun (hargs c).1 _).trans (congrArg (m (c.tc.loc Mlp2DxIdeal.main_arg0)) (funext fun a => by
          match a with
          | ⟨0, _⟩ => rfl
          | ⟨1, _⟩ => rfl))
      · exact (congrFun (hargs c).2.1 _).trans (congrArg (m (c.tc.loc Mlp2DxIdeal.main_arg1)) (funext fun a => by
          match a with
          | ⟨0, _⟩ => rfl
          | ⟨1, _⟩ => rfl))
      · exact (congrFun (hargs c).2.2 _).trans (congrArg (m (c.tc.loc Mlp2DxIdeal.main_arg2)) (funext fun a => by
          match a with
          | ⟨0, _⟩ => rfl
          | ⟨1, _⟩ => rfl))), (h c).2⟩) (Cert.Mlp2DxRefIdeal.Value.run (F := Ideal) m' g')⟩

end Cert.Mlp2Dx

end
-- ==== Proof.Mlp2Dw.lean ====
/- The gradient of the MLP's second product by its weight: the blocked product is the whole product. -/
module

public import proofs.«01_k».proof.Defs
public import proofs.«01_k».proof.Proof.Product
public import proofs.«01_k».proof.Proof.Gen.Mlp2DwIdeal.Value
public import proofs.«01_k».proof.Proof.Gen.Mlp2DwRefIdeal.Read
public import Idealize.ShloMosaic.Lib.Pointwise

@[expose] public section

noncomputable section

open scoped BigOperators

namespace Cert.Mlp2DwIdeal.Whole

open Cert.Mlp2DwIdeal Cert.Mlp2DwIdeal.Gen Cert.Product
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- A point that starts a block of the result leaves the product of its two blocks. -/
theorem out_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (hc0 : cond0_0 i) (hc1 : ¬cond0_1 i) (x0 x1 : Vec Ideal S1024x1024 .bf16) :
    out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz]
  simp only [View.readAt_eq_ld, h3.read_unread, h4.read_unread, View.ld_unit_zero (S := S1024x1024) hz]

/-- Each further point adds the product of its two blocks. -/
theorem out_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (hc0 : ¬cond0_0 i) (hc1 : cond0_1 i) (x0 x1 : Vec Ideal S1024x1024 .bf16) (xo : Vec Ideal S1024x1024 .f32) :
    out0_B_2 c i a3 h3 a4 h4 a5 h5 hc0 hc1 x0 x1 xo = k0_pay2 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero hz]
  simp only [View.readAt_eq_ld, h3.read_unread, h4.read_unread, h5.read_unread, View.ld_unit_zero (S := S1024x1024) hz]

/-- An entry of the product of two blocks. -/
theorem pay1_apply (x0 x1 : Vec Ideal S1024x1024 .bf16) (r s : Fin 1024) :
    k0_pay1 x0 x1 (ix2 r s) = ∑ k : Fin 1024, x0 (ix2 k r) * x1 (ix2 k s) := by
  unfold k0_pay1
  simp only [pointwise, zero_add]

/-- The product of two blocks, added to what was there. -/
theorem pay2_apply (x0 x1 : Vec Ideal S1024x1024 .bf16) (xo : Vec Ideal S1024x1024 .f32) (r s : Fin 1024) :
    k0_pay2 x0 x1 xo (ix2 r s) = xo (ix2 r s) + ∑ k : Fin 1024, x0 (ix2 k r) * x1 (ix2 k s) :=
  by
  unfold k0_pay2
  simp only [pointwise, shapeCast_self]
  exact congrArg (xo (ix2 r s) + ·) (pay1_apply x0 x1 r s)

/-! ## The windows' blocks -/

theorem lt_N (t : Fin cfg0.N) : t.val < 36 := lt_of_lt_of_eq t.isLt N_0

theorem index0 : ∀ t : Fin cfg0.N, win0_0.index t 0 = t.val % 9 ∧ win0_0.index t 1 = t.val / 9 :=
  (by decide +kernel : ∀ t : Fin grid0.N, win0_0.index t 0 = t.val % 9 ∧ win0_0.index t 1 = t.val / 9)

theorem index1 : ∀ t : Fin cfg0.N, win0_1.index t 0 = t.val % 9 ∧ win0_1.index t 1 = 0 :=
  (by decide +kernel : ∀ t : Fin grid0.N, win0_1.index t 0 = t.val % 9 ∧ win0_1.index t 1 = 0)

theorem index2 : ∀ t : Fin cfg0.N, win0_2.index t 0 = t.val / 9 ∧ win0_2.index t 1 = 0 :=
  (by decide +kernel : ∀ t : Fin grid0.N, win0_2.index t 0 = t.val / 9 ∧ win0_2.index t 1 = 0)

variable (m : (ℓ : Loc nD τ sig) → Buf (Elt Ideal) ℓ) (c : Dev nD)

/-- The two arguments, as matrices. -/
def X (k : Fin 9216) (i : Fin 4096) : EReal := (m ((c : Thread nD τ).loc main_arg0) : Vec Ideal S9216x4096 .bf16) (ix2 k i)
def Y (k : Fin 9216) (i : Fin 1024) : EReal := (m ((c : Thread nD τ).loc main_arg1) : Vec Ideal S9216x1024 .bf16) (ix2 k i)

theorem read_x (t : Fin cfg0.N) (k r : Fin 1024) :
    (iblk m c 0 t : Vec Ideal S1024x1024 .bf16) (ix2 k r) = at2 (X m c) (1024 * (t.val % 9) + k.val) (1024 * (t.val / 9) + r.val) := by
  have ht := lt_N t
  obtain ⟨e0, e1⟩ := index0 t
  rw [at2_eq _ (by omega) (by omega)]
  unfold iblk X
  rw [View.read_apply]
  show V m c main_arg0 _ = m (c.tc.loc main_arg0) _
  unfold V
  congr 1
  funext a
  apply Fin.ext
  match a with
  | ⟨0, _⟩ => show win0_0.index t 0 * 1024 + 1 * k.val = 1024 * (t.val % 9) + k.val; rw [e0]; omega
  | ⟨1, _⟩ => show win0_0.index t 1 * 1024 + 1 * r.val = 1024 * (t.val / 9) + r.val; rw [e1]; omega

theorem read_y (t : Fin cfg0.N) (k s : Fin 1024) :
    (iblk m c 1 t : Vec Ideal S1024x1024 .bf16) (ix2 k s) = at2 (Y m c) (1024 * (t.val % 9) + k.val) s.val := by
  have ht := lt_N t
  obtain ⟨e0, e1⟩ := index1 t
  rw [at2_eq _ (by omega) (by omega)]
  unfold iblk Y
  rw [View.read_apply]
  show V m c main_arg1 _ = m (c.tc.loc main_arg1) _
  unfold V
  congr 1
  funext a
  apply Fin.ext
  match a with
  | ⟨0, _⟩ => show win0_1.index t 0 * 1024 + 1 * k.val = 1024 * (t.val % 9) + k.val; rw [e0]; omega
  | ⟨1, _⟩ => show win0_1.index t 1 * 1024 + 1 * s.val = s.val; rw [e1]; omega

/-- The terms of an entry of the block that point `n` works on. -/
def term (n : ℕ) (y : Fin 1024 × Fin 1024) (q : ℕ) : EReal := at2 (X m c) q (1024 * (n / 9) + y.1.val) * at2 (Y m c) q y.2.val

/-- What a point leaves: the terms of all points of its block so far. -/
theorem outs (n : ℕ) (h : n < cfg0.N) (y : Fin 1024 × Fin 1024) :
    outsAt0 m c n h (ix2 y.1 y.2) = ∑ q ∈ Finset.range (1024 * (n % 9 + 1)), term m c n y q := by
  refine accumulate (nk := 9) 1024 (by decide) (fun n h y => outsAt0 m c n h (ix2 y.1 y.2)) (term m c) ?_ ?_ ?_ n h y
  · intro n e
    unfold term
    rw [show (n + 1) / 9 = n / 9 by omega]
  · intro n h y e
    have eA := outsAt0_A m c ⟨n, h⟩ e (by dsimp only; omega)
    change outsAt0 m c n h = _ at eA
    rw [eA, out_A, pay1_apply]
    refine Finset.sum_congr rfl fun k _ => ?_
    rw [read_x, read_y, e, Nat.mul_zero, Nat.zero_add]
    rfl
  · intro n h y e
    have eB := outsAt0_B m c ⟨n + 1, h⟩ e (by dsimp only; omega)
    change outsAt0 m c (n + 1) h = _ at eB
    rw [eB, out_B, pay2_apply]
    refine congrArg₂ (· + ·) rfl (Finset.sum_congr rfl fun k _ => ?_)
    rw [read_x, read_y]
    rfl

/-- The whole product. -/
def result (y : S4096x1024.Idx) : EReal := ∑ q ∈ Finset.range 9216, at2 (X m c) q (y 0).val * at2 (Y m c) q (y 1).val

theorem result_at {y : S4096x1024.Idx} {i j : ℕ} (hi : (y 0).val = i) (hj : (y 1).val = j) :
    result m c y = ∑ q ∈ Finset.range 9216, at2 (X m c) q i * at2 (Y m c) q j := by
  subst hi hj; rfl

theorem final : (dats m 0 c).arrAt 2 cfg0.N = result m c := by
  refine (dats m 0 c).arrAt_eq_of_cover 2 (result m c) (fun t hf => ?_) fun y => ?_
  · have ht := lt_N t
    have h9 := (flush0_2 t).mp hf
    obtain ⟨e0, e1⟩ := index2 t
    rw [Value.flushed2]
    funext y
    rw [View.read_apply]
    have hy0 : (y 0).val < 1024 := (y 0).isLt
    have hy1 : (y 1).val < 1024 := (y 1).isLt
    have ey : (y : S1024x1024.Idx) = ix2 ⟨(y 0).val, hy0⟩ ⟨(y 1).val, hy1⟩ := funext fun a => by fin_cases a <;> rfl
    refine ((congrArg (outsAt0 m c t.val t.isLt) ey).trans (outs m c t.val t.isLt (⟨(y 0).val, hy0⟩, ⟨(y 1).val, hy1⟩))).trans ?_
    rw [h9, show (1024 * (8 + 1) : ℕ) = 9216 by norm_num]
    have d0 : ((((cfg0.win 2).blk t).view.emb y : S4096x1024.Idx) 0).val = 1024 * (t.val / 9) + (y 0).val := by
      show win0_2.index t 0 * 1024 + 1 * (y 0).val = 1024 * (t.val / 9) + (y 0).val
      rw [e0]; omega
    have d1 : ((((cfg0.win 2).blk t).view.emb y : S4096x1024.Idx) 1).val = (y 1).val := by
      show win0_2.index t 1 * 1024 + 1 * (y 1).val = (y 1).val
      rw [e1]; omega
    exact (result_at m c d0 d1).symm.trans (cast_eq _ _).symm
  · have h0 : (y 0 : Nat) < 4096 := (y 0).isLt
    have h1 : (y 1 : Nat) < 1024 := (y 1).isLt
    have hN : cfg0.N = 36 := N_0
    let t : Fin cfg0.N := ⟨9 * ((y 0).val / 1024) + 8, by omega⟩
    obtain ⟨e0, e1⟩ := index2 t
    have ht : t.val = 9 * ((y 0).val / 1024) + 8 := rfl
    refine ⟨t, (flush0_2 t).mpr (by omega), ?_⟩
    show y ∈ ((View.whole main_v0).slice (win0_2.rect t)).set
    rw [View.set_slice_whole, Rect.mem_set_unit]
    intro a
    match a with
    | ⟨0, _⟩ =>
      show win0_2.index t 0 * 1024 ≤ (y 0 : Nat) ∧ (y 0 : Nat) < win0_2.index t 0 * 1024 + 1024
      rw [e0]; omega
    | ⟨1, _⟩ =>
      show win0_2.index t 1 * 1024 ≤ (y 1 : Nat) ∧ (y 1 : Nat) < win0_2.index t 1 * 1024 + 1024
      rw [e1]; omega

end Cert.Mlp2DwIdeal.Whole

namespace Cert.Mlp2DwRefIdeal.Whole

open Cert.Mlp2DwRefIdeal Cert.Mlp2DwRefIdeal.Gen
open Idealize.ShloMosaic Idealize.ShloMosaic.TcCoe Idealize.SL.Sem

/-- The reference leaves its arguments as they were, and every counter at zero. -/
theorem frame : Cert.quiescent_Mlp2DwRefIdeal := fun m g _ =>
  (θ_run _ _ _).mono (fun r h => ⟨fun c => (h c).2, sem_eq_zero_of_no_sems (by decide) r.2⟩) (Value.run (F := Ideal) m g)

end Cert.Mlp2DwRefIdeal.Whole

namespace Cert.Mlp2Dw

open Idealize.ShloMosaic Idealize.ShloMosaic.TcCoe Idealize.SL.Sem

/-- The kernel's result is the reference's. -/
theorem algebraic : Cert.algebraic_Mlp2DwIdeal_Mlp2DwRefIdeal := fun m g m' g' _ hargs =>
  ⟨fun c => Mlp2DwIdeal.Whole.result m c,
    (θ_run _ _ _).mono (fun r h c => ⟨(h c).1.trans (Mlp2DwIdeal.Whole.final m c), (h c).2⟩) (Mlp2DwIdeal.Value.run_blocks (F := Ideal) m g),
    (θ_run _ _ _).mono (fun r h c => ⟨(h c).1.trans (by
      funext y
      refine ((Cert.Mlp2DwRefIdeal.Read.val_main_v5_apply _ _ y).trans (Cert.Mlp2DwRefIdeal.Read.val_main_v4_apply _ _ _)).trans ?_
      refine Eq.trans ?_ (Product.columns (Mlp2DwIdeal.Whole.X m c) (Mlp2DwIdeal.Whole.Y m c) (y 0) (y 1)).symm
      refine Finset.sum_congr rfl fun k _ => (EReal.mul_comm _ _).trans (congrArg₂ (· * ·) ?_ ?_)
      · exact (congrFun (hargs c).1 _).trans (congrArg (m (c.tc.loc Mlp2DwIdeal.main_arg0)) (funext fun a => by
          match a with
          | ⟨0, _⟩ => rfl
          | ⟨1, _⟩ => rfl))
      · exact (congrFun (hargs c).2 _).trans (congrArg (m (c.tc.loc Mlp2DwIdeal.main_arg1)) (funext fun a => by
          match a with
          | ⟨0, _⟩ => rfl
          | ⟨1, _⟩ => rfl))), (h c).2⟩) (Cert.Mlp2DwRefIdeal.Value.run (F := Ideal) m' g')⟩

end Cert.Mlp2Dw

end
-- ==== Proof.Mlp1Dx.lean ====
/- The gradient of the MLP's first product by its input: the blocked product is the whole product. -/
module

public import proofs.«01_k».proof.Defs
public import proofs.«01_k».proof.Proof.Product
public import proofs.«01_k».proof.Proof.Gen.Mlp1DxIdeal.Value
public import proofs.«01_k».proof.Proof.Gen.Mlp1DxRefIdeal.Read
public import Idealize.ShloMosaic.Lib.Pointwise

@[expose] public section

noncomputable section

open scoped BigOperators

namespace Cert.Mlp1DxIdeal.Whole

open Cert.Mlp1DxIdeal Cert.Mlp1DxIdeal.Gen Cert.Product
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- A point that starts a block of the result leaves the product of its two blocks. -/
theorem out_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (hc0 : cond0_0 i) (hc1 : ¬cond0_1 i) (x0 x1 : Vec Ideal S1024x1024 .bf16) :
    out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz]
  simp only [View.readAt_eq_ld, h3.read_unread, h4.read_unread, View.ld_unit_zero (S := S1024x1024) hz]

/-- Each further point adds the product of its two blocks. -/
theorem out_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (hc0 : ¬cond0_0 i) (hc1 : cond0_1 i) (x0 x1 : Vec Ideal S1024x1024 .bf16) (xo : Vec Ideal S1024x1024 .f32) :
    out0_B_2 c i a3 h3 a4 h4 a5 h5 hc0 hc1 x0 x1 xo = k0_pay2 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero hz]
  simp only [View.readAt_eq_ld, h3.read_unread, h4.read_unread, h5.read_unread, View.ld_unit_zero (S := S1024x1024) hz]

/-- An entry of the product of two blocks. -/
theorem pay1_apply (x0 x1 : Vec Ideal S1024x1024 .bf16) (r s : Fin 1024) :
    k0_pay1 x0 x1 (ix2 r s) = ∑ k : Fin 1024, x0 (ix2 r k) * x1 (ix2 s k) := by
  unfold k0_pay1
  simp only [pointwise, zero_add]

/-- The product of two blocks, added to what was there. -/
theorem pay2_apply (x0 x1 : Vec Ideal S1024x1024 .bf16) (xo : Vec Ideal S1024x1024 .f32) (r s : Fin 1024) :
    k0_pay2 x0 x1 xo (ix2 r s) = xo (ix2 r s) + ∑ k : Fin 1024, x0 (ix2 r k) * x1 (ix2 s k) :=
  by
  unfold k0_pay2
  simp only [pointwise, shapeCast_self]
  exact congrArg (xo (ix2 r s) + ·) (pay1_apply x0 x1 r s)

/-! ## The windows' blocks -/

theorem lt_N (t : Fin cfg0.N) : t.val < 36 := lt_of_lt_of_eq t.isLt N_0

theorem index0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)

theorem index1 : ∀ t : Fin cfg0.N, win0_1.index t 0 = 0 ∧ win0_1.index t 1 = t.val % 4 :=
  (by decide +kernel : ∀ t : Fin grid0.N, win0_1.index t 0 = 0 ∧ win0_1.index t 1 = t.val % 4)

theorem index2 : ∀ t : Fin cfg0.N, win0_2.index t 0 = t.val / 4 ∧ win0_2.index t 1 = 0 :=
  (by decide +kernel : ∀ t : Fin grid0.N, win0_2.index t 0 = t.val / 4 ∧ win0_2.index t 1 = 0)

variable (m : (ℓ : Loc nD τ sig) → Buf (Elt Ideal) ℓ) (c : Dev nD)

/-- The two arguments, as matrices. -/
def X (i : Fin 9216) (k : Fin 4096) : EReal := (m ((c : Thread nD τ).loc main_arg0) : Vec Ideal S9216x4096 .bf16) (ix2 i k)
def Y (i : Fin 1024) (k : Fin 4096) : EReal := (m ((c : Thread nD τ).loc main_arg1) : Vec Ideal S1024x4096 .bf16) (ix2 i k)

theorem read_x (t : Fin cfg0.N) (r k : Fin 1024) :
    (iblk m c 0 t : Vec Ideal S1024x1024 .bf16) (ix2 r k) = at2 (X m c) (1024 * (t.val / 4) + r.val) (1024 * (t.val % 4) + k.val) := by
  have ht := lt_N t
  obtain ⟨e0, e1⟩ := index0 t
  rw [at2_eq _ (by omega) (by omega)]
  unfold iblk X
  rw [View.read_apply]
  show V m c main_arg0 _ = m (c.tc.loc main_arg0) _
  unfold V
  congr 1
  funext a
  apply Fin.ext
  match a with
  | ⟨0, _⟩ => show win0_0.index t 0 * 1024 + 1 * r.val = 1024 * (t.val / 4) + r.val; rw [e0]; omega
  | ⟨1, _⟩ => show win0_0.index t 1 * 1024 + 1 * k.val = 1024 * (t.val % 4) + k.val; rw [e1]; omega

theorem read_y (t : Fin cfg0.N) (s k : Fin 1024) :
    (iblk m c 1 t : Vec Ideal S1024x1024 .bf16) (ix2 s k) = at2 (Y m c) s.val (1024 * (t.val % 4) + k.val) := by
  have ht := lt_N t
  obtain ⟨e0, e1⟩ := index1 t
  rw [at2_eq _ (by omega) (by omega)]
  unfold iblk Y
  rw [View.read_apply]
  show V m c main_arg1 _ = m (c.tc.loc main_arg1) _
  unfold V
  congr 1
  funext a
  apply Fin.ext
  match a with
  | ⟨0, _⟩ => show win0_1.index t 0 * 1024 + 1 * s.val = s.val; rw [e0]; omega
  | ⟨1, _⟩ => show win0_1.index t 1 * 1024 + 1 * k.val = 1024 * (t.val % 4) + k.val; rw [e1]; omega

/-- The terms of an entry of the block that point `n` works on. -/
def term (n : ℕ) (y : Fin 1024 × Fin 1024) (q : ℕ) : EReal := at2 (X m c) (1024 * (n / 4) + y.1.val) q * at2 (Y m c) y.2.val q

/-- What a point leaves: the terms of all points of its block so far. -/
theorem outs (n : ℕ) (h : n < cfg0.N) (y : Fin 1024 × Fin 1024) :
    outsAt0 m c n h (ix2 y.1 y.2) = ∑ q ∈ Finset.range (1024 * (n % 4 + 1)), term m c n y q := by
  refine accumulate (nk := 4) 1024 (by decide) (fun n h y => outsAt0 m c n h (ix2 y.1 y.2)) (term m c) ?_ ?_ ?_ n h y
  · intro n e
    unfold term
    rw [show (n + 1) / 4 = n / 4 by omega]
  · intro n h y e
    have eA := outsAt0_A m c ⟨n, h⟩ e (by dsimp only; omega)
    change outsAt0 m c n h = _ at eA
    rw [eA, out_A, pay1_apply]
    refine Finset.sum_congr rfl fun k _ => ?_
    rw [read_x, read_y, e, Nat.mul_zero, Nat.zero_add]
    rfl
  · intro n h y e
    have eB := outsAt0_B m c ⟨n + 1, h⟩ e (by dsimp only; omega)
    change outsAt0 m c (n + 1) h = _ at eB
    rw [eB, out_B, pay2_apply]
    refine congrArg₂ (· + ·) rfl (Finset.sum_congr rfl fun k _ => ?_)
    rw [read_x, read_y]
    rfl

/-- The whole product. -/
def result (y : S9216x1024.Idx) : EReal := ∑ q ∈ Finset.range 4096, at2 (X m c) (y 0).val q * at2 (Y m c) (y 1).val q

theorem result_at {y : S9216x1024.Idx} {i j : ℕ} (hi : (y 0).val = i) (hj : (y 1).val = j) :
    result m c y = ∑ q ∈ Finset.range 4096, at2 (X m c) i q * at2 (Y m c) j q := by
  subst hi hj; rfl

theorem final : (dats m 0 c).arrAt 2 cfg0.N = result m c := by
  refine (dats m 0 c).arrAt_eq_of_cover 2 (result m c) (fun t hf => ?_) fun y => ?_
  · have ht := lt_N t
    have h9 := (flush0_2 t).mp hf
    obtain ⟨e0, e1⟩ := index2 t
    rw [Value.flushed2]
    funext y
    rw [View.read_apply]
    have hy0 : (y 0).val < 1024 := (y 0).isLt
    have hy1 : (y 1).val < 1024 := (y 1).isLt
    have ey : (y : S1024x1024.Idx) = ix2 ⟨(y 0).val, hy0⟩ ⟨(y 1).val, hy1⟩ := funext fun a => by fin_cases a <;> rfl
    refine ((congrArg (outsAt0 m c t.val t.isLt) ey).trans (outs m c t.val t.isLt (⟨(y 0).val, hy0⟩, ⟨(y 1).val, hy1⟩))).trans ?_
    rw [h9, show (1024 * (3 + 1) : ℕ) = 4096 by norm_num]
    have d0 : ((((cfg0.win 2).blk t).view.emb y : S9216x1024.Idx) 0).val = 1024 * (t.val / 4) + (y 0).val := by
      show win0_2.index t 0 * 1024 + 1 * (y 0).val = 1024 * (t.val / 4) + (y 0).val
      rw [e0]; omega
    have d1 : ((((cfg0.win 2).blk t).view.emb y : S9216x1024.Idx) 1).val = (y 1).val := by
      show win0_2.index t 1 * 1024 + 1 * (y 1).val = (y 1).val
      rw [e1]; omega
    exact (result_at m c d0 d1).symm.trans (cast_eq _ _).symm
  · have h0 : (y 0 : Nat) < 9216 := (y 0).isLt
    have h1 : (y 1 : Nat) < 1024 := (y 1).isLt
    have hN : cfg0.N = 36 := N_0
    let t : Fin cfg0.N := ⟨4 * ((y 0).val / 1024) + 3, by omega⟩
    obtain ⟨e0, e1⟩ := index2 t
    have ht : t.val = 4 * ((y 0).val / 1024) + 3 := rfl
    refine ⟨t, (flush0_2 t).mpr (by omega), ?_⟩
    show y ∈ ((View.whole main_v0).slice (win0_2.rect t)).set
    rw [View.set_slice_whole, Rect.mem_set_unit]
    intro a
    match a with
    | ⟨0, _⟩ =>
      show win0_2.index t 0 * 1024 ≤ (y 0 : Nat) ∧ (y 0 : Nat) < win0_2.index t 0 * 1024 + 1024
      rw [e0]; omega
    | ⟨1, _⟩ =>
      show win0_2.index t 1 * 1024 ≤ (y 1 : Nat) ∧ (y 1 : Nat) < win0_2.index t 1 * 1024 + 1024
      rw [e1]; omega

end Cert.Mlp1DxIdeal.Whole

namespace Cert.Mlp1DxRefIdeal.Whole

open Cert.Mlp1DxRefIdeal Cert.Mlp1DxRefIdeal.Gen
open Idealize.ShloMosaic Idealize.ShloMosaic.TcCoe Idealize.SL.Sem

/-- The reference leaves its arguments as they were, and every counter at zero. -/
theorem frame : Cert.quiescent_Mlp1DxRefIdeal := fun m g _ =>
  (θ_run _ _ _).mono (fun r h => ⟨fun c => (h c).2, sem_eq_zero_of_no_sems (by decide) r.2⟩) (Value.run (F := Ideal) m g)

end Cert.Mlp1DxRefIdeal.Whole

namespace Cert.Mlp1Dx

open Idealize.ShloMosaic Idealize.ShloMosaic.TcCoe Idealize.SL.Sem

/-- The kernel's result is the reference's. -/
theorem algebraic : Cert.algebraic_Mlp1DxIdeal_Mlp1DxRefIdeal := fun m g m' g' _ hargs =>
  ⟨fun c => Mlp1DxIdeal.Whole.result m c,
    (θ_run _ _ _).mono (fun r h c => ⟨(h c).1.trans (Mlp1DxIdeal.Whole.final m c), (h c).2⟩) (Mlp1DxIdeal.Value.run_blocks (F := Ideal) m g),
    (θ_run _ _ _).mono (fun r h c => ⟨(h c).1.trans (by
      funext y
      refine (Cert.Mlp1DxRefIdeal.Read.val_main_v4_apply _ _ y).trans ?_
      refine Eq.trans ?_ (Product.rows (Mlp1DxIdeal.Whole.X m c) (Mlp1DxIdeal.Whole.Y m c) (y 0) (y 1)).symm
      refine Finset.sum_congr rfl fun k _ => congrArg₂ (· * ·) ?_ ?_
      · exact (congrFun (hargs c).1 _).trans (congrArg (m (c.tc.loc Mlp1DxIdeal.main_arg0)) (funext fun a => by
          match a with
          | ⟨0, _⟩ => rfl
          | ⟨1, _⟩ => rfl))
      · exact (congrFun (hargs c).2 _).trans (congrArg (m (c.tc.loc Mlp1DxIdeal.main_arg1)) (funext fun a => by
          match a with
          | ⟨0, _⟩ => rfl
          | ⟨1, _⟩ => rfl))), (h c).2⟩) (Cert.Mlp1DxRefIdeal.Value.run (F := Ideal) m' g')⟩

end Cert.Mlp1Dx

end
-- ==== Proof.Mlp1Dw.lean ====
/- The gradient of the MLP's first product by its weight: the blocked product is the whole product. -/
module

public import proofs.«01_k».proof.Defs
public import proofs.«01_k».proof.Proof.Product
public import proofs.«01_k».proof.Proof.Gen.Mlp1DwIdeal.Value
public import proofs.«01_k».proof.Proof.Gen.Mlp1DwRefIdeal.Read
public import Idealize.ShloMosaic.Lib.Pointwise

@[expose] public section

noncomputable section

open scoped BigOperators

namespace Cert.Mlp1DwIdeal.Whole

open Cert.Mlp1DwIdeal Cert.Mlp1DwIdeal.Gen Cert.Product
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- A point that starts a block of the result leaves the product of its two blocks. -/
theorem out_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (hc0 : cond0_0 i) (hc1 : ¬cond0_1 i) (x0 x1 : Vec Ideal S1024x1024 .bf16) :
    out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz]
  simp only [View.readAt_eq_ld, h3.read_unread, h4.read_unread, View.ld_unit_zero (S := S1024x1024) hz]

/-- Each further point adds the product of its two blocks. -/
theorem out_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (hc0 : ¬cond0_0 i) (hc1 : cond0_1 i) (x0 x1 : Vec Ideal S1024x1024 .bf16) (xo : Vec Ideal S1024x1024 .f32) :
    out0_B_2 c i a3 h3 a4 h4 a5 h5 hc0 hc1 x0 x1 xo = k0_pay2 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero hz]
  simp only [View.readAt_eq_ld, h3.read_unread, h4.read_unread, h5.read_unread, View.ld_unit_zero (S := S1024x1024) hz]

/-- An entry of the product of two blocks. -/
theorem pay1_apply (x0 x1 : Vec Ideal S1024x1024 .bf16) (r s : Fin 1024) :
    k0_pay1 x0 x1 (ix2 r s) = ∑ k : Fin 1024, x0 (ix2 k r) * x1 (ix2 k s) := by
  unfold k0_pay1
  simp only [pointwise, zero_add]

/-- The product of two blocks, added to what was there. -/
theorem pay2_apply (x0 x1 : Vec Ideal S1024x1024 .bf16) (xo : Vec Ideal S1024x1024 .f32) (r s : Fin 1024) :
    k0_pay2 x0 x1 xo (ix2 r s) = xo (ix2 r s) + ∑ k : Fin 1024, x0 (ix2 k r) * x1 (ix2 k s) :=
  by
  unfold k0_pay2
  simp only [pointwise, shapeCast_self]
  exact congrArg (xo (ix2 r s) + ·) (pay1_apply x0 x1 r s)

/-! ## The windows' blocks -/

theorem lt_N (t : Fin cfg0.N) : t.val < 36 := lt_of_lt_of_eq t.isLt N_0

theorem index0 : ∀ t : Fin cfg0.N, win0_0.index t 0 = t.val % 9 ∧ win0_0.index t 1 = 0 :=
  (by decide +kernel : ∀ t : Fin grid0.N, win0_0.index t 0 = t.val % 9 ∧ win0_0.index t 1 = 0)

theorem index1 : ∀ t : Fin cfg0.N, win0_1.index t 0 = t.val % 9 ∧ win0_1.index t 1 = t.val / 9 :=
  (by decide +kernel : ∀ t : Fin grid0.N, win0_1.index t 0 = t.val % 9 ∧ win0_1.index t 1 = t.val / 9)

theorem index2 : ∀ t : Fin cfg0.N, win0_2.index t 0 = 0 ∧ win0_2.index t 1 = t.val / 9 :=
  (by decide +kernel : ∀ t : Fin grid0.N, win0_2.index t 0 = 0 ∧ win0_2.index t 1 = t.val / 9)

variable (m : (ℓ : Loc nD τ sig) → Buf (Elt Ideal) ℓ) (c : Dev nD)

/-- The two arguments, as matrices. -/
def X (k : Fin 9216) (i : Fin 1024) : EReal := (m ((c : Thread nD τ).loc main_arg0) : Vec Ideal S9216x1024 .bf16) (ix2 k i)
def Y (k : Fin 9216) (i : Fin 4096) : EReal := (m ((c : Thread nD τ).loc main_arg1) : Vec Ideal S9216x4096 .bf16) (ix2 k i)

theorem read_x (t : Fin cfg0.N) (k r : Fin 1024) :
    (iblk m c 0 t : Vec Ideal S1024x1024 .bf16) (ix2 k r) = at2 (X m c) (1024 * (t.val % 9) + k.val) r.val := by
  have ht := lt_N t
  obtain ⟨e0, e1⟩ := index0 t
  rw [at2_eq _ (by omega) (by omega)]
  unfold iblk X
  rw [View.read_apply]
  show V m c main_arg0 _ = m (c.tc.loc main_arg0) _
  unfold V
  congr 1
  funext a
  apply Fin.ext
  match a with
  | ⟨0, _⟩ => show win0_0.index t 0 * 1024 + 1 * k.val = 1024 * (t.val % 9) + k.val; rw [e0]; omega
  | ⟨1, _⟩ => show win0_0.index t 1 * 1024 + 1 * r.val = r.val; rw [e1]; omega

theorem read_y (t : Fin cfg0.N) (k s : Fin 1024) :
    (iblk m c 1 t : Vec Ideal S1024x1024 .bf16) (ix2 k s) = at2 (Y m c) (1024 * (t.val % 9) + k.val) (1024 * (t.val / 9) + s.val) := by
  have ht := lt_N t
  obtain ⟨e0, e1⟩ := index1 t
  rw [at2_eq _ (by omega) (by omega)]
  unfold iblk Y
  rw [View.read_apply]
  show V m c main_arg1 _ = m (c.tc.loc main_arg1) _
  unfold V
  congr 1
  funext a
  apply Fin.ext
  match a with
  | ⟨0, _⟩ => show win0_1.index t 0 * 1024 + 1 * k.val = 1024 * (t.val % 9) + k.val; rw [e0]; omega
  | ⟨1, _⟩ => show win0_1.index t 1 * 1024 + 1 * s.val = 1024 * (t.val / 9) + s.val; rw [e1]; omega

/-- The terms of an entry of the block that point `n` works on. -/
def term (n : ℕ) (y : Fin 1024 × Fin 1024) (q : ℕ) : EReal := at2 (X m c) q y.1.val * at2 (Y m c) q (1024 * (n / 9) + y.2.val)

/-- What a point leaves: the terms of all points of its block so far. -/
theorem outs (n : ℕ) (h : n < cfg0.N) (y : Fin 1024 × Fin 1024) :
    outsAt0 m c n h (ix2 y.1 y.2) = ∑ q ∈ Finset.range (1024 * (n % 9 + 1)), term m c n y q := by
  refine accumulate (nk := 9) 1024 (by decide) (fun n h y => outsAt0 m c n h (ix2 y.1 y.2)) (term m c) ?_ ?_ ?_ n h y
  · intro n e
    unfold term
    rw [show (n + 1) / 9 = n / 9 by omega]
  · intro n h y e
    have eA := outsAt0_A m c ⟨n, h⟩ e (by dsimp only; omega)
    change outsAt0 m c n h = _ at eA
    rw [eA, out_A, pay1_apply]
    refine Finset.sum_congr rfl fun k _ => ?_
    rw [read_x, read_y, e, Nat.mul_zero, Nat.zero_add]
    rfl
  · intro n h y e
    have eB := outsAt0_B m c ⟨n + 1, h⟩ e (by dsimp only; omega)
    change outsAt0 m c (n + 1) h = _ at eB
    rw [eB, out_B, pay2_apply]
    refine congrArg₂ (· + ·) rfl (Finset.sum_congr rfl fun k _ => ?_)
    rw [read_x, read_y]
    rfl

/-- The whole product. -/
def result (y : S1024x4096.Idx) : EReal := ∑ q ∈ Finset.range 9216, at2 (X m c) q (y 0).val * at2 (Y m c) q (y 1).val

theorem result_at {y : S1024x4096.Idx} {i j : ℕ} (hi : (y 0).val = i) (hj : (y 1).val = j) :
    result m c y = ∑ q ∈ Finset.range 9216, at2 (X m c) q i * at2 (Y m c) q j := by
  subst hi hj; rfl

theorem final : (dats m 0 c).arrAt 2 cfg0.N = result m c := by
  refine (dats m 0 c).arrAt_eq_of_cover 2 (result m c) (fun t hf => ?_) fun y => ?_
  · have ht := lt_N t
    have h9 := (flush0_2 t).mp hf
    obtain ⟨e0, e1⟩ := index2 t
    rw [Value.flushed2]
    funext y
    rw [View.read_apply]
    have hy0 : (y 0).val < 1024 := (y 0).isLt
    have hy1 : (y 1).val < 1024 := (y 1).isLt
    have ey : (y : S1024x1024.Idx) = ix2 ⟨(y 0).val, hy0⟩ ⟨(y 1).val, hy1⟩ := funext fun a => by fin_cases a <;> rfl
    refine ((congrArg (outsAt0 m c t.val t.isLt) ey).trans (outs m c t.val t.isLt (⟨(y 0).val, hy0⟩, ⟨(y 1).val, hy1⟩))).trans ?_
    rw [h9, show (1024 * (8 + 1) : ℕ) = 9216 by norm_num]
    have d0 : ((((cfg0.win 2).blk t).view.emb y : S1024x4096.Idx) 0).val = (y 0).val := by
      show win0_2.index t 0 * 1024 + 1 * (y 0).val = (y 0).val
      rw [e0]; omega
    have d1 : ((((cfg0.win 2).blk t).view.emb y : S1024x4096.Idx) 1).val = 1024 * (t.val / 9) + (y 1).val := by
      show win0_2.index t 1 * 1024 + 1 * (y 1).val = 1024 * (t.val / 9) + (y 1).val
      rw [e1]; omega
    exact (result_at m c d0 d1).symm.trans (cast_eq _ _).symm
  · have h0 : (y 0 : Nat) < 1024 := (y 0).isLt
    have h1 : (y 1 : Nat) < 4096 := (y 1).isLt
    have hN : cfg0.N = 36 := N_0
    let t : Fin cfg0.N := ⟨9 * ((y 1).val / 1024) + 8, by omega⟩
    obtain ⟨e0, e1⟩ := index2 t
    have ht : t.val = 9 * ((y 1).val / 1024) + 8 := rfl
    refine ⟨t, (flush0_2 t).mpr (by omega), ?_⟩
    show y ∈ ((View.whole main_v0).slice (win0_2.rect t)).set
    rw [View.set_slice_whole, Rect.mem_set_unit]
    intro a
    match a with
    | ⟨0, _⟩ =>
      show win0_2.index t 0 * 1024 ≤ (y 0 : Nat) ∧ (y 0 : Nat) < win0_2.index t 0 * 1024 + 1024
      rw [e0]; omega
    | ⟨1, _⟩ =>
      show win0_2.index t 1 * 1024 ≤ (y 1 : Nat) ∧ (y 1 : Nat) < win0_2.index t 1 * 1024 + 1024
      rw [e1]; omega

end Cert.Mlp1DwIdeal.Whole

namespace Cert.Mlp1DwRefIdeal.Whole

open Cert.Mlp1DwRefIdeal Cert.Mlp1DwRefIdeal.Gen
open Idealize.ShloMosaic Idealize.ShloMosaic.TcCoe Idealize.SL.Sem

/-- The reference leaves its arguments as they were, and every counter at zero. -/
theorem frame : Cert.quiescent_Mlp1DwRefIdeal := fun m g _ =>
  (θ_run _ _ _).mono (fun r h => ⟨fun c => (h c).2, sem_eq_zero_of_no_sems (by decide) r.2⟩) (Value.run (F := Ideal) m g)

end Cert.Mlp1DwRefIdeal.Whole

namespace Cert.Mlp1Dw

open Idealize.ShloMosaic Idealize.ShloMosaic.TcCoe Idealize.SL.Sem

/-- The kernel's result is the reference's. -/
theorem algebraic : Cert.algebraic_Mlp1DwIdeal_Mlp1DwRefIdeal := fun m g m' g' _ hargs =>
  ⟨fun c => Mlp1DwIdeal.Whole.result m c,
    (θ_run _ _ _).mono (fun r h c => ⟨(h c).1.trans (Mlp1DwIdeal.Whole.final m c), (h c).2⟩) (Mlp1DwIdeal.Value.run_blocks (F := Ideal) m g),
    (θ_run _ _ _).mono (fun r h c => ⟨(h c).1.trans (by
      funext y
      refine ((Cert.Mlp1DwRefIdeal.Read.val_main_v5_apply _ _ y).trans (Cert.Mlp1DwRefIdeal.Read.val_main_v4_apply _ _ _)).trans ?_
      refine Eq.trans ?_ (Product.columns (Mlp1DwIdeal.Whole.X m c) (Mlp1DwIdeal.Whole.Y m c) (y 0) (y 1)).symm
      refine Finset.sum_congr rfl fun k _ => (EReal.mul_comm _ _).trans (congrArg₂ (· * ·) ?_ ?_)
      · exact (congrFun (hargs c).1 _).trans (congrArg (m (c.tc.loc Mlp1DwIdeal.main_arg0)) (funext fun a => by
          match a with
          | ⟨0, _⟩ => rfl
          | ⟨1, _⟩ => rfl))
      · exact (congrFun (hargs c).2 _).trans (congrArg (m (c.tc.loc Mlp1DwIdeal.main_arg1)) (funext fun a => by
          match a with
          | ⟨0, _⟩ => rfl
          | ⟨1, _⟩ => rfl))), (h c).2⟩) (Cert.Mlp1DwRefIdeal.Value.run (F := Ideal) m' g')⟩

end Cert.Mlp1Dw

end
-- ==== Proof.WoutDx.lean ====
/- The gradient of the output product by its input: the blocked product is the whole product. -/
module

public import proofs.«01_k».proof.Defs
public import proofs.«01_k».proof.Proof.Product
public import proofs.«01_k».proof.Proof.Gen.WoutDxIdeal.Value
public import proofs.«01_k».proof.Proof.Gen.WoutDxRefIdeal.Read
public import Idealize.ShloMosaic.Lib.Pointwise

@[expose] public section

noncomputable section

open scoped BigOperators

namespace Cert.WoutDxIdeal.Whole

open Cert.WoutDxIdeal Cert.WoutDxIdeal.Gen Cert.Product
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- What a point leaves. -/
theorem out_eq (x0 : Vec Ideal S1024x1024 .bf16) (x1 : Vec Ideal S1024x1024 .bf16) : out0_2 x0 x1 = k0_pay1 x0 x1 := by
  unfold out0_2
  rw [View.canon_unit_zero hz]
  simp only [View.ld_unit_zero (S := S1024x1024) hz]

/-- An entry of the product of two blocks. -/
theorem pay1_apply (x0 : Vec Ideal S1024x1024 .bf16) (x1 : Vec Ideal S1024x1024 .bf16) (r : Fin 1024) (s : Fin 1024) :
    (k0_pay1 x0 x1 (ix2 r s) : EReal) = ∑ k : Fin 1024, (x0 (ix2 r k) : EReal) * x1 (ix2 s k) := by
  unfold k0_pay1
  simp only [pointwise, zero_add]

/-! ## The windows' blocks -/

theorem lt_N (t : Fin cfg0.N) : t.val < 9 := lt_of_lt_of_eq t.isLt N_0

theorem index0 : ∀ t : Fin cfg0.N, win0_0.index t 0 = t.val ∧ win0_0.index t 1 = 0 :=
  (by decide +kernel : ∀ t : Fin grid0.N, win0_0.index t 0 = t.val ∧ win0_0.index t 1 = 0)

theorem index1 : ∀ t : Fin cfg0.N, win0_1.index t 0 = 0 ∧ win0_1.index t 1 = 0 :=
  (by decide +kernel : ∀ t : Fin grid0.N, win0_1.index t 0 = 0 ∧ win0_1.index t 1 = 0)

theorem index2 : ∀ t : Fin cfg0.N, win0_2.index t 0 = t.val ∧ win0_2.index t 1 = 0 :=
  (by decide +kernel : ∀ t : Fin grid0.N, win0_2.index t 0 = t.val ∧ win0_2.index t 1 = 0)

variable (m : (ℓ : Loc nD τ sig) → Buf (Elt Ideal) ℓ) (c : Dev nD)

/-- The two arguments, as matrices. -/
def X (i : Fin 9216) (j : Fin 1024) : EReal := (m ((c : Thread nD τ).loc main_arg0) : Vec Ideal S9216x1024 .bf16) (ix2 i j)
def Y (i : Fin 1024) (j : Fin 1024) : EReal := (m ((c : Thread nD τ).loc main_arg1) : Vec Ideal S1024x1024 .bf16) (ix2 i j)

theorem read_x (t : Fin cfg0.N) (r : Fin 1024) (k : Fin 1024) :
    (iblk m c 0 t : Vec Ideal S1024x1024 .bf16) (ix2 r k) = at2 (X m c) (1024 * t.val + r.val) k.val := by
  have ht := lt_N t
  obtain ⟨e0, e1⟩ := index0 t
  rw [at2_eq _ (by omega) (by omega)]
  unfold iblk X
  rw [View.read_apply]
  show V m c main_arg0 _ = m (c.tc.loc main_arg0) _
  unfold V
  congr 1
  funext a
  apply Fin.ext
  match a with
  | ⟨0, _⟩ => show win0_0.index t 0 * 1024 + 1 * r.val = 1024 * t.val + r.val; rw [e0]; omega
  | ⟨1, _⟩ => show win0_0.index t 1 * 1024 + 1 * k.val = k.val; rw [e1]; omega

theorem read_y (t : Fin cfg0.N) (s : Fin 1024) (k : Fin 1024) :
    (iblk m c 1 t : Vec Ideal S1024x1024 .bf16) (ix2 s k) = at2 (Y m c) s.val k.val := by
  have ht := lt_N t
  obtain ⟨e0, e1⟩ := index1 t
  rw [at2_eq _ (by omega) (by omega)]
  unfold iblk Y
  rw [View.read_apply]
  show V m c main_arg1 _ = m (c.tc.loc main_arg1) _
  unfold V
  congr 1
  funext a
  apply Fin.ext
  match a with
  | ⟨0, _⟩ => show win0_1.index t 0 * 1024 + 1 * s.val = s.val; rw [e0]; omega
  | ⟨1, _⟩ => show win0_1.index t 1 * 1024 + 1 * k.val = k.val; rw [e1]; omega

/-- The whole product. -/
def result (y : S9216x1024.Idx) : EReal := ∑ q ∈ Finset.range 1024, at2 (X m c) (y 0).val q * at2 (Y m c) (y 1).val q

theorem result_at {y : S9216x1024.Idx} {i j : ℕ} (hi : (y 0).val = i) (hj : (y 1).val = j) :
    result m c y = ∑ q ∈ Finset.range 1024, at2 (X m c) i q * at2 (Y m c) j q := by
  subst hi hj; rfl

/-- What a point leaves is its block of the whole product. -/
theorem out_at (t : Fin cfg0.N) (r : Fin 1024) (s : Fin 1024) :
    (out0_2 (iblk m c 0 t) (iblk m c 1 t) (ix2 r s) : EReal) =
      ∑ q ∈ Finset.range 1024, at2 (X m c) (1024 * t.val + r.val) q * at2 (Y m c) s.val q := by
  rw [out_eq, pay1_apply, Finset.sum_range]
  exact Finset.sum_congr rfl fun k _ => by rw [read_x, read_y]

theorem final : (dats m 0 c).arrAt 2 cfg0.N = result m c := by
  refine (dats m 0 c).arrAt_eq_of_cover 2 (result m c) (fun t hf => ?_) fun y => ?_
  · have ht := lt_N t
    obtain ⟨e0, e1⟩ := index2 t
    rw [Value.flushed2]
    funext y
    rw [View.read_apply]
    have hy0 : (y 0).val < 1024 := (y 0).isLt
    have hy1 : (y 1).val < 1024 := (y 1).isLt
    have ey : (y : S1024x1024.Idx) = ix2 ⟨(y 0).val, hy0⟩ ⟨(y 1).val, hy1⟩ := funext fun a => by fin_cases a <;> rfl
    refine ((congrArg (out0_2 (iblk m c 0 t) (iblk m c 1 t)) ey).trans (out_at m c t ⟨(y 0).val, hy0⟩ ⟨(y 1).val, hy1⟩)).trans ?_
    have d0 : ((((cfg0.win 2).blk t).view.emb y : S9216x1024.Idx) 0).val = 1024 * t.val + (y 0).val := by
      show win0_2.index t 0 * 1024 + 1 * (y 0).val = 1024 * t.val + (y 0).val
      rw [e0]; omega
    have d1 : ((((cfg0.win 2).blk t).view.emb y : S9216x1024.Idx) 1).val = (y 1).val := by
      show win0_2.index t 1 * 1024 + 1 * (y 1).val = (y 1).val
      rw [e1]; omega
    exact (result_at m c d0 d1).symm.trans (cast_eq _ _).symm
  · have h0 : (y 0 : Nat) < 9216 := (y 0).isLt
    have h1 : (y 1 : Nat) < 1024 := (y 1).isLt
    have hN : cfg0.N = 9 := N_0
    let t : Fin cfg0.N := ⟨((y 0).val / 1024), by omega⟩
    obtain ⟨e0, e1⟩ := index2 t
    have ht : t.val = ((y 0).val / 1024) := rfl
    refine ⟨t, flush0_2 t, ?_⟩
    show y ∈ ((View.whole main_v0).slice (win0_2.rect t)).set
    rw [View.set_slice_whole, Rect.mem_set_unit]
    intro a
    match a with
    | ⟨0, _⟩ =>
      show win0_2.index t 0 * 1024 ≤ (y 0 : Nat) ∧ (y 0 : Nat) < win0_2.index t 0 * 1024 + 1024
      rw [e0]; omega
    | ⟨1, _⟩ =>
      show win0_2.index t 1 * 1024 ≤ (y 1 : Nat) ∧ (y 1 : Nat) < win0_2.index t 1 * 1024 + 1024
      rw [e1]; omega

end Cert.WoutDxIdeal.Whole

namespace Cert.WoutDxRefIdeal.Whole

open Cert.WoutDxRefIdeal Cert.WoutDxRefIdeal.Gen
open Idealize.ShloMosaic Idealize.ShloMosaic.TcCoe Idealize.SL.Sem

/-- The reference leaves its arguments as they were, and every counter at zero. -/
theorem frame : Cert.quiescent_WoutDxRefIdeal := fun m g _ =>
  (θ_run _ _ _).mono (fun r h => ⟨fun c => (h c).2, sem_eq_zero_of_no_sems (by decide) r.2⟩) (Value.run (F := Ideal) m g)

end Cert.WoutDxRefIdeal.Whole

namespace Cert.WoutDx

open Idealize.ShloMosaic Idealize.ShloMosaic.TcCoe Idealize.SL.Sem

/-- The kernel's result is the reference's. -/
theorem algebraic : Cert.algebraic_WoutDxIdeal_WoutDxRefIdeal := fun m g m' g' _ hargs =>
  ⟨fun c => WoutDxIdeal.Whole.result m c,
    (θ_run _ _ _).mono (fun r h c => ⟨(h c).1.trans (WoutDxIdeal.Whole.final m c), (h c).2⟩) (WoutDxIdeal.Value.run_blocks (F := Ideal) m g),
    (θ_run _ _ _).mono (fun r h c => ⟨(h c).1.trans (by
      funext y
      refine (Cert.WoutDxRefIdeal.Read.val_main_v4_apply _ _ y).trans ?_
      refine Eq.trans ?_ (Product.rows (WoutDxIdeal.Whole.X m c) (WoutDxIdeal.Whole.Y m c) (y 0) (y 1)).symm
      refine Finset.sum_congr rfl fun k _ => congrArg₂ (· * ·) ?_ ?_
      · exact (congrFun (hargs c).1 _).trans (congrArg (m (c.tc.loc WoutDxIdeal.main_arg0)) (funext fun a => by
          match a with
          | ⟨0, _⟩ => rfl
          | ⟨1, _⟩ => rfl))
      · exact (congrFun (hargs c).2 _).trans (congrArg (m (c.tc.loc WoutDxIdeal.main_arg1)) (funext fun a => by
          match a with
          | ⟨0, _⟩ => rfl
          | ⟨1, _⟩ => rfl))), (h c).2⟩) (Cert.WoutDxRefIdeal.Value.run (F := Ideal) m' g')⟩

end Cert.WoutDx

end
-- ==== Proof.WoutDw.lean ====
/- The gradient of the output product by its weight: the blocked product is the whole product. -/
module

public import proofs.«01_k».proof.Defs
public import proofs.«01_k».proof.Proof.Product
public import proofs.«01_k».proof.Proof.Gen.WoutDwIdeal.Value
public import proofs.«01_k».proof.Proof.Gen.WoutDwRefIdeal.Read
public import Idealize.ShloMosaic.Lib.Pointwise

@[expose] public section

noncomputable section

open scoped BigOperators

namespace Cert.WoutDwIdeal.Whole

open Cert.WoutDwIdeal Cert.WoutDwIdeal.Gen Cert.Product
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- A point that starts a block of the result leaves the product of its two blocks. -/
theorem out_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (hc0 : cond0_0 i) (hc1 : ¬cond0_1 i) (x0 : Vec Ideal S1024x1024 .bf16) (x1 : Vec Ideal S1024x1024 .bf16) :
    out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz]
  simp only [View.readAt_eq_ld, h3.read_unread, h4.read_unread, View.ld_unit_zero (S := S1024x1024) hz]

/-- Each further point adds the product of its two blocks. -/
theorem out_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (hc0 : ¬cond0_0 i) (hc1 : cond0_1 i) (x0 : Vec Ideal S1024x1024 .bf16) (x1 : Vec Ideal S1024x1024 .bf16) (xo : Vec Ideal S1024x1024 .f32) :
    out0_B_2 c i a3 h3 a4 h4 a5 h5 hc0 hc1 x0 x1 xo = k0_pay2 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero hz]
  simp only [View.readAt_eq_ld, h3.read_unread, h4.read_unread, h5.read_unread, View.ld_unit_zero (S := S1024x1024) hz]

/-- An entry of the product of two blocks. -/
theorem pay1_apply (x0 : Vec Ideal S1024x1024 .bf16) (x1 : Vec Ideal S1024x1024 .bf16) (r : Fin 1024) (s : Fin 1024) :
    (k0_pay1 x0 x1 (ix2 r s) : EReal) = ∑ k : Fin 1024, (x0 (ix2 k r) : EReal) * x1 (ix2 k s) := by
  unfold k0_pay1
  simp only [pointwise, zero_add]

/-- The product of two blocks, added to what was there. -/
theorem pay2_apply (x0 : Vec Ideal S1024x1024 .bf16) (x1 : Vec Ideal S1024x1024 .bf16) (xo : Vec Ideal S1024x1024 .f32) (r : Fin 1024) (s : Fin 1024) :
    k0_pay2 x0 x1 xo (ix2 r s) = xo (ix2 r s) + ∑ k : Fin 1024, (x0 (ix2 k r) : EReal) * x1 (ix2 k s) := by
  unfold k0_pay2
  simp only [pointwise, shapeCast_self]
  exact congrArg (xo (ix2 r s) + ·) (pay1_apply x0 x1 r s)

/-! ## The windows' blocks -/

theorem lt_N (t : Fin cfg0.N) : t.val < 9 := lt_of_lt_of_eq t.isLt N_0

theorem index0 : ∀ t : Fin cfg0.N, win0_0.index t 0 = t.val % 9 ∧ win0_0.index t 1 = 0 :=
  (by decide +kernel : ∀ t : Fin grid0.N, win0_0.index t 0 = t.val % 9 ∧ win0_0.index t 1 = 0)

theorem index1 : ∀ t : Fin cfg0.N, win0_1.index t 0 = t.val % 9 ∧ win0_1.index t 1 = 0 :=
  (by decide +kernel : ∀ t : Fin grid0.N, win0_1.index t 0 = t.val % 9 ∧ win0_1.index t 1 = 0)

theorem index2 : ∀ t : Fin cfg0.N, win0_2.index t 0 = 0 ∧ win0_2.index t 1 = 0 :=
  (by decide +kernel : ∀ t : Fin grid0.N, win0_2.index t 0 = 0 ∧ win0_2.index t 1 = 0)

variable (m : (ℓ : Loc nD τ sig) → Buf (Elt Ideal) ℓ) (c : Dev nD)

/-- The two arguments, as matrices. -/
def X (i : Fin 9216) (j : Fin 1024) : EReal := (m ((c : Thread nD τ).loc main_arg0) : Vec Ideal S9216x1024 .bf16) (ix2 i j)
def Y (i : Fin 9216) (j : Fin 1024) : EReal := (m ((c : Thread nD τ).loc main_arg1) : Vec Ideal S9216x1024 .bf16) (ix2 i j)

theorem read_x (t : Fin cfg0.N) (k : Fin 1024) (r : Fin 1024) :
    (iblk m c 0 t : Vec Ideal S1024x1024 .bf16) (ix2 k r) = at2 (X m c) (1024 * (t.val % 9) + k.val) r.val := by
  have ht := lt_N t
  obtain ⟨e0, e1⟩ := index0 t
  rw [at2_eq _ (by omega) (by omega)]
  unfold iblk X
  rw [View.read_apply]
  show V m c main_arg0 _ = m (c.tc.loc main_arg0) _
  unfold V
  congr 1
  funext a
  apply Fin.ext
  match a with
  | ⟨0, _⟩ => show win0_0.index t 0 * 1024 + 1 * k.val = 1024 * (t.val % 9) + k.val; rw [e0]; omega
  | ⟨1, _⟩ => show win0_0.index t 1 * 1024 + 1 * r.val = r.val; rw [e1]; omega

theorem read_y (t : Fin cfg0.N) (k : Fin 1024) (s : Fin 1024) :
    (iblk m c 1 t : Vec Ideal S1024x1024 .bf16) (ix2 k s) = at2 (Y m c) (1024 * (t.val % 9) + k.val) s.val := by
  have ht := lt_N t
  obtain ⟨e0, e1⟩ := index1 t
  rw [at2_eq _ (by omega) (by omega)]
  unfold iblk Y
  rw [View.read_apply]
  show V m c main_arg1 _ = m (c.tc.loc main_arg1) _
  unfold V
  congr 1
  funext a
  apply Fin.ext
  match a with
  | ⟨0, _⟩ => show win0_1.index t 0 * 1024 + 1 * k.val = 1024 * (t.val % 9) + k.val; rw [e0]; omega
  | ⟨1, _⟩ => show win0_1.index t 1 * 1024 + 1 * s.val = s.val; rw [e1]; omega

/-- The terms of an entry of the block that point `n` works on. -/
def term (n : ℕ) (y : Fin 1024 × Fin 1024) (q : ℕ) : EReal := at2 (X m c) q y.1.val * at2 (Y m c) q y.2.val

/-- What a point leaves: the terms of all points of its block so far. -/
theorem outs (n : ℕ) (h : n < cfg0.N) (y : Fin 1024 × Fin 1024) :
    outsAt0 m c n h (ix2 y.1 y.2) = ∑ q ∈ Finset.range (1024 * (n % 9 + 1)), term m c n y q := by
  refine accumulate (nk := 9) 1024 (by decide) (fun n h y => outsAt0 m c n h (ix2 y.1 y.2)) (term m c) ?_ ?_ ?_ n h y
  · intro n e
    unfold term
    rfl
  · intro n h y e
    have hn := lt_N ⟨n, h⟩
    have eA := outsAt0_A m c ⟨n, h⟩ e (by dsimp only at hn ⊢; omega)
    change outsAt0 m c n h = _ at eA
    rw [eA, out_A, pay1_apply]
    refine Finset.sum_congr rfl fun k _ => ?_
    rw [read_x, read_y, e, Nat.mul_zero, Nat.zero_add]
    rfl
  · intro n h y e
    have hn := lt_N ⟨n + 1, h⟩
    have eB := outsAt0_B m c ⟨n + 1, h⟩ e (by dsimp only at hn ⊢; omega)
    change outsAt0 m c (n + 1) h = _ at eB
    rw [eB, out_B, pay2_apply]
    refine congrArg₂ (· + ·) rfl (Finset.sum_congr rfl fun k _ => ?_)
    rw [read_x, read_y]
    rfl

/-- The whole product. -/
def result (y : S1024x1024.Idx) : EReal := ∑ q ∈ Finset.range 9216, at2 (X m c) q (y 0).val * at2 (Y m c) q (y 1).val

theorem result_at {y : S1024x1024.Idx} {i j : ℕ} (hi : (y 0).val = i) (hj : (y 1).val = j) :
    result m c y = ∑ q ∈ Finset.range 9216, at2 (X m c) q i * at2 (Y m c) q j := by
  subst hi hj; rfl

theorem final : (dats m 0 c).arrAt 2 cfg0.N = result m c := by
  refine (dats m 0 c).arrAt_eq_of_cover 2 (result m c) (fun t hf => ?_) fun y => ?_
  · have ht := lt_N t
    have h9 := (flush0_2 t).mp hf
    obtain ⟨e0, e1⟩ := index2 t
    rw [Value.flushed2]
    funext y
    rw [View.read_apply]
    have hy0 : (y 0).val < 1024 := (y 0).isLt
    have hy1 : (y 1).val < 1024 := (y 1).isLt
    have ey : (y : S1024x1024.Idx) = ix2 ⟨(y 0).val, hy0⟩ ⟨(y 1).val, hy1⟩ := funext fun a => by fin_cases a <;> rfl
    refine ((congrArg (outsAt0 m c t.val t.isLt) ey).trans (outs m c t.val t.isLt (⟨(y 0).val, hy0⟩, ⟨(y 1).val, hy1⟩))).trans ?_
    rw [h9, show (1024 * (8 + 1) : ℕ) = 9216 by norm_num]
    have d0 : ((((cfg0.win 2).blk t).view.emb y : S1024x1024.Idx) 0).val = (y 0).val := by
      show win0_2.index t 0 * 1024 + 1 * (y 0).val = (y 0).val
      rw [e0]; omega
    have d1 : ((((cfg0.win 2).blk t).view.emb y : S1024x1024.Idx) 1).val = (y 1).val := by
      show win0_2.index t 1 * 1024 + 1 * (y 1).val = (y 1).val
      rw [e1]; omega
    exact (result_at m c d0 d1).symm.trans (cast_eq _ _).symm
  · have h0 : (y 0 : Nat) < 1024 := (y 0).isLt
    have h1 : (y 1 : Nat) < 1024 := (y 1).isLt
    have hN : cfg0.N = 9 := N_0
    let t : Fin cfg0.N := ⟨8, by omega⟩
    obtain ⟨e0, e1⟩ := index2 t
    have ht : t.val = 8 := rfl
    refine ⟨t, (flush0_2 t).mpr (by omega), ?_⟩
    show y ∈ ((View.whole main_v0).slice (win0_2.rect t)).set
    rw [View.set_slice_whole, Rect.mem_set_unit]
    intro a
    match a with
    | ⟨0, _⟩ =>
      show win0_2.index t 0 * 1024 ≤ (y 0 : Nat) ∧ (y 0 : Nat) < win0_2.index t 0 * 1024 + 1024
      rw [e0]; omega
    | ⟨1, _⟩ =>
      show win0_2.index t 1 * 1024 ≤ (y 1 : Nat) ∧ (y 1 : Nat) < win0_2.index t 1 * 1024 + 1024
      rw [e1]; omega

end Cert.WoutDwIdeal.Whole

namespace Cert.WoutDwRefIdeal.Whole

open Cert.WoutDwRefIdeal Cert.WoutDwRefIdeal.Gen
open Idealize.ShloMosaic Idealize.ShloMosaic.TcCoe Idealize.SL.Sem

/-- The reference leaves its arguments as they were, and every counter at zero. -/
theorem frame : Cert.quiescent_WoutDwRefIdeal := fun m g _ =>
  (θ_run _ _ _).mono (fun r h => ⟨fun c => (h c).2, sem_eq_zero_of_no_sems (by decide) r.2⟩) (Value.run (F := Ideal) m g)

end Cert.WoutDwRefIdeal.Whole

namespace Cert.WoutDw

open Idealize.ShloMosaic Idealize.ShloMosaic.TcCoe Idealize.SL.Sem

/-- The kernel's result is the reference's. -/
theorem algebraic : Cert.algebraic_WoutDwIdeal_WoutDwRefIdeal := fun m g m' g' _ hargs =>
  ⟨fun c => WoutDwIdeal.Whole.result m c,
    (θ_run _ _ _).mono (fun r h c => ⟨(h c).1.trans (WoutDwIdeal.Whole.final m c), (h c).2⟩) (WoutDwIdeal.Value.run_blocks (F := Ideal) m g),
    (θ_run _ _ _).mono (fun r h c => ⟨(h c).1.trans (by
      funext y
      refine ((Cert.WoutDwRefIdeal.Read.val_main_v5_apply _ _ y).trans (Cert.WoutDwRefIdeal.Read.val_main_v4_apply _ _ _)).trans ?_
      refine Eq.trans ?_ (Product.columns (WoutDwIdeal.Whole.X m c) (WoutDwIdeal.Whole.Y m c) (y 0) (y 1)).symm
      refine Finset.sum_congr rfl fun k _ => (EReal.mul_comm _ _).trans (congrArg₂ (· * ·) ?_ ?_)
      · exact (congrFun (hargs c).1 _).trans (congrArg (m (c.tc.loc WoutDwIdeal.main_arg0)) (funext fun a => by
          match a with
          | ⟨0, _⟩ => rfl
          | ⟨1, _⟩ => rfl))
      · exact (congrFun (hargs c).2 _).trans (congrArg (m (c.tc.loc WoutDwIdeal.main_arg1)) (funext fun a => by
          match a with
          | ⟨0, _⟩ => rfl
          | ⟨1, _⟩ => rfl))), (h c).2⟩) (Cert.WoutDwRefIdeal.Value.run (F := Ideal) m' g')⟩

end Cert.WoutDw

end
-- ==== Proof.BranchDx.lean ====
/- The gradient of a branch's product by its input: the blocked product is the whole product. -/
module

public import proofs.«01_k».proof.Defs
public import proofs.«01_k».proof.Proof.Product
public import proofs.«01_k».proof.Proof.Gen.BranchDxIdeal.Value
public import proofs.«01_k».proof.Proof.Gen.BranchDxRefIdeal.Read
public import Idealize.ShloMosaic.Lib.Pointwise

@[expose] public section

noncomputable section

open scoped BigOperators

namespace Cert.BranchDxIdeal.Whole

open Cert.BranchDxIdeal Cert.BranchDxIdeal.Gen Cert.Product
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- What a point leaves. -/
theorem out_eq (x0 : Vec Ideal S1024x1024 .bf16) (x1 : Vec Ideal S512x1024 .bf16) : out0_2 x0 x1 = k0_pay1 x0 x1 := by
  unfold out0_2
  rw [View.canon_unit_zero hz]
  simp only [View.ld_unit_zero (S := S1024x1024) hz, View.ld_unit_zero (S := S512x1024) hz]

/-- An entry of the product of two blocks. -/
theorem pay1_apply (x0 : Vec Ideal S1024x1024 .bf16) (x1 : Vec Ideal S512x1024 .bf16) (r : Fin 1024) (s : Fin 512) :
    (k0_pay1 x0 x1 (ix2 r s) : EReal) = ∑ k : Fin 1024, (x0 (ix2 r k) : EReal) * x1 (ix2 s k) := by
  unfold k0_pay1
  simp only [pointwise, zero_add]

/-! ## The windows' blocks -/

theorem lt_N (t : Fin cfg0.N) : t.val < 9 := lt_of_lt_of_eq t.isLt N_0

theorem index0 : ∀ t : Fin cfg0.N, win0_0.index t 0 = t.val ∧ win0_0.index t 1 = 0 :=
  (by decide +kernel : ∀ t : Fin grid0.N, win0_0.index t 0 = t.val ∧ win0_0.index t 1 = 0)

theorem index1 : ∀ t : Fin cfg0.N, win0_1.index t 0 = 0 ∧ win0_1.index t 1 = 0 :=
  (by decide +kernel : ∀ t : Fin grid0.N, win0_1.index t 0 = 0 ∧ win0_1.index t 1 = 0)

theorem index2 : ∀ t : Fin cfg0.N, win0_2.index t 0 = t.val ∧ win0_2.index t 1 = 0 :=
  (by decide +kernel : ∀ t : Fin grid0.N, win0_2.index t 0 = t.val ∧ win0_2.index t 1 = 0)

variable (m : (ℓ : Loc nD τ sig) → Buf (Elt Ideal) ℓ) (c : Dev nD)

/-- The two arguments, as matrices. -/
def X (i : Fin 9216) (j : Fin 1024) : EReal := (m ((c : Thread nD τ).loc main_arg0) : Vec Ideal S9216x1024 .bf16) (ix2 i j)
def Y (i : Fin 512) (j : Fin 1024) : EReal := (m ((c : Thread nD τ).loc main_arg1) : Vec Ideal S512x1024 .bf16) (ix2 i j)

theorem read_x (t : Fin cfg0.N) (r : Fin 1024) (k : Fin 1024) :
    (iblk m c 0 t : Vec Ideal S1024x1024 .bf16) (ix2 r k) = at2 (X m c) (1024 * t.val + r.val) k.val := by
  have ht := lt_N t
  obtain ⟨e0, e1⟩ := index0 t
  rw [at2_eq _ (by omega) (by omega)]
  unfold iblk X
  rw [View.read_apply]
  show V m c main_arg0 _ = m (c.tc.loc main_arg0) _
  unfold V
  congr 1
  funext a
  apply Fin.ext
  match a with
  | ⟨0, _⟩ => show win0_0.index t 0 * 1024 + 1 * r.val = 1024 * t.val + r.val; rw [e0]; omega
  | ⟨1, _⟩ => show win0_0.index t 1 * 1024 + 1 * k.val = k.val; rw [e1]; omega

theorem read_y (t : Fin cfg0.N) (s : Fin 512) (k : Fin 1024) :
    (iblk m c 1 t : Vec Ideal S512x1024 .bf16) (ix2 s k) = at2 (Y m c) s.val k.val := by
  have ht := lt_N t
  obtain ⟨e0, e1⟩ := index1 t
  rw [at2_eq _ (by omega) (by omega)]
  unfold iblk Y
  rw [View.read_apply]
  show V m c main_arg1 _ = m (c.tc.loc main_arg1) _
  unfold V
  congr 1
  funext a
  apply Fin.ext
  match a with
  | ⟨0, _⟩ => show win0_1.index t 0 * 512 + 1 * s.val = s.val; rw [e0]; omega
  | ⟨1, _⟩ => show win0_1.index t 1 * 1024 + 1 * k.val = k.val; rw [e1]; omega

/-- The whole product. -/
def result (y : S9216x512.Idx) : EReal := ∑ q ∈ Finset.range 1024, at2 (X m c) (y 0).val q * at2 (Y m c) (y 1).val q

theorem result_at {y : S9216x512.Idx} {i j : ℕ} (hi : (y 0).val = i) (hj : (y 1).val = j) :
    result m c y = ∑ q ∈ Finset.range 1024, at2 (X m c) i q * at2 (Y m c) j q := by
  subst hi hj; rfl

/-- What a point leaves is its block of the whole product. -/
theorem out_at (t : Fin cfg0.N) (r : Fin 1024) (s : Fin 512) :
    (out0_2 (iblk m c 0 t) (iblk m c 1 t) (ix2 r s) : EReal) =
      ∑ q ∈ Finset.range 1024, at2 (X m c) (1024 * t.val + r.val) q * at2 (Y m c) s.val q := by
  rw [out_eq, pay1_apply, Finset.sum_range]
  exact Finset.sum_congr rfl fun k _ => by rw [read_x, read_y]

theorem final : (dats m 0 c).arrAt 2 cfg0.N = result m c := by
  refine (dats m 0 c).arrAt_eq_of_cover 2 (result m c) (fun t hf => ?_) fun y => ?_
  · have ht := lt_N t
    obtain ⟨e0, e1⟩ := index2 t
    rw [Value.flushed2]
    funext y
    rw [View.read_apply]
    have hy0 : (y 0).val < 1024 := (y 0).isLt
    have hy1 : (y 1).val < 512 := (y 1).isLt
    have ey : (y : S1024x512.Idx) = ix2 ⟨(y 0).val, hy0⟩ ⟨(y 1).val, hy1⟩ := funext fun a => by fin_cases a <;> rfl
    refine ((congrArg (out0_2 (iblk m c 0 t) (iblk m c 1 t)) ey).trans (out_at m c t ⟨(y 0).val, hy0⟩ ⟨(y 1).val, hy1⟩)).trans ?_
    have d0 : ((((cfg0.win 2).blk t).view.emb y : S9216x512.Idx) 0).val = 1024 * t.val + (y 0).val := by
      show win0_2.index t 0 * 1024 + 1 * (y 0).val = 1024 * t.val + (y 0).val
      rw [e0]; omega
    have d1 : ((((cfg0.win 2).blk t).view.emb y : S9216x512.Idx) 1).val = (y 1).val := by
      show win0_2.index t 1 * 512 + 1 * (y 1).val = (y 1).val
      rw [e1]; omega
    exact (result_at m c d0 d1).symm.trans (cast_eq _ _).symm
  · have h0 : (y 0 : Nat) < 9216 := (y 0).isLt
    have h1 : (y 1 : Nat) < 512 := (y 1).isLt
    have hN : cfg0.N = 9 := N_0
    let t : Fin cfg0.N := ⟨((y 0).val / 1024), by omega⟩
    obtain ⟨e0, e1⟩ := index2 t
    have ht : t.val = ((y 0).val / 1024) := rfl
    refine ⟨t, flush0_2 t, ?_⟩
    show y ∈ ((View.whole main_v0).slice (win0_2.rect t)).set
    rw [View.set_slice_whole, Rect.mem_set_unit]
    intro a
    match a with
    | ⟨0, _⟩ =>
      show win0_2.index t 0 * 1024 ≤ (y 0 : Nat) ∧ (y 0 : Nat) < win0_2.index t 0 * 1024 + 1024
      rw [e0]; omega
    | ⟨1, _⟩ =>
      show win0_2.index t 1 * 512 ≤ (y 1 : Nat) ∧ (y 1 : Nat) < win0_2.index t 1 * 512 + 512
      rw [e1]; omega

end Cert.BranchDxIdeal.Whole

namespace Cert.BranchDxRefIdeal.Whole

open Cert.BranchDxRefIdeal Cert.BranchDxRefIdeal.Gen
open Idealize.ShloMosaic Idealize.ShloMosaic.TcCoe Idealize.SL.Sem

/-- The reference leaves its arguments as they were, and every counter at zero. -/
theorem frame : Cert.quiescent_BranchDxRefIdeal := fun m g _ =>
  (θ_run _ _ _).mono (fun r h => ⟨fun c => (h c).2, sem_eq_zero_of_no_sems (by decide) r.2⟩) (Value.run (F := Ideal) m g)

end Cert.BranchDxRefIdeal.Whole

namespace Cert.BranchDx

open Idealize.ShloMosaic Idealize.ShloMosaic.TcCoe Idealize.SL.Sem

/-- The kernel's result is the reference's. -/
theorem algebraic : Cert.algebraic_BranchDxIdeal_BranchDxRefIdeal := fun m g m' g' _ hargs =>
  ⟨fun c => BranchDxIdeal.Whole.result m c,
    (θ_run _ _ _).mono (fun r h c => ⟨(h c).1.trans (BranchDxIdeal.Whole.final m c), (h c).2⟩) (BranchDxIdeal.Value.run_blocks (F := Ideal) m g),
    (θ_run _ _ _).mono (fun r h c => ⟨(h c).1.trans (by
      funext y
      refine (Cert.BranchDxRefIdeal.Read.val_main_v4_apply _ _ y).trans ?_
      refine Eq.trans ?_ (Product.rows (BranchDxIdeal.Whole.X m c) (BranchDxIdeal.Whole.Y m c) (y 0) (y 1)).symm
      refine Finset.sum_congr rfl fun k _ => congrArg₂ (· * ·) ?_ ?_
      · exact (congrFun (hargs c).1 _).trans (congrArg (m (c.tc.loc BranchDxIdeal.main_arg0)) (funext fun a => by
          match a with
          | ⟨0, _⟩ => rfl
          | ⟨1, _⟩ => rfl))
      · exact (congrFun (hargs c).2 _).trans (congrArg (m (c.tc.loc BranchDxIdeal.main_arg1)) (funext fun a => by
          match a with
          | ⟨0, _⟩ => rfl
          | ⟨1, _⟩ => rfl))), (h c).2⟩) (Cert.BranchDxRefIdeal.Value.run (F := Ideal) m' g')⟩

end Cert.BranchDx

end
-- ==== Proof.BranchDw.lean ====
/- The gradient of a branch's product by its weight: the blocked product is the whole product. -/
module

public import proofs.«01_k».proof.Defs
public import proofs.«01_k».proof.Proof.Product
public import proofs.«01_k».proof.Proof.Gen.BranchDwIdeal.Value
public import proofs.«01_k».proof.Proof.Gen.BranchDwRefIdeal.Read
public import Idealize.ShloMosaic.Lib.Pointwise

@[expose] public section

noncomputable section

open scoped BigOperators

namespace Cert.BranchDwIdeal.Whole

open Cert.BranchDwIdeal Cert.BranchDwIdeal.Gen Cert.Product
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- A point that starts a block of the result leaves the product of its two blocks. -/
theorem out_A (c : Dev nD) (i : grid0.Coords) (a3 : Memref sig .tc .vmem S1024x512 .bf16) (h3 : a3.IsWhole)
    (a4 : Memref sig .tc .vmem S1024x1024 .bf16) (h4 : a4.IsWhole) (a5 : Memref sig .tc .vmem S512x1024 .f32) (h5 : a5.IsWhole)
    (hc0 : cond0_0 i) (hc1 : ¬cond0_1 i) (x0 : Vec Ideal S1024x512 .bf16) (x1 : Vec Ideal S1024x1024 .bf16) :
    out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz]
  simp only [View.readAt_eq_ld, h3.read_unread, h4.read_unread, View.ld_unit_zero (S := S1024x512) hz, View.ld_unit_zero (S := S1024x1024) hz]

/-- Each further point adds the product of its two blocks. -/
theorem out_B (c : Dev nD) (i : grid0.Coords) (a3 : Memref sig .tc .vmem S1024x512 .bf16) (h3 : a3.IsWhole)
    (a4 : Memref sig .tc .vmem S1024x1024 .bf16) (h4 : a4.IsWhole) (a5 : Memref sig .tc .vmem S512x1024 .f32) (h5 : a5.IsWhole)
    (hc0 : ¬cond0_0 i) (hc1 : cond0_1 i) (x0 : Vec Ideal S1024x512 .bf16) (x1 : Vec Ideal S1024x1024 .bf16) (xo : Vec Ideal S512x1024 .f32) :
    out0_B_2 c i a3 h3 a4 h4 a5 h5 hc0 hc1 x0 x1 xo = k0_pay2 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero hz]
  simp only [View.readAt_eq_ld, h3.read_unread, h4.read_unread, h5.read_unread, View.ld_unit_zero (S := S1024x512) hz, View.ld_unit_zero (S := S1024x1024) hz, View.ld_unit_zero (S := S512x1024) hz]

/-- An entry of the product of two blocks. -/
theorem pay1_apply (x0 : Vec Ideal S1024x512 .bf16) (x1 : Vec Ideal S1024x1024 .bf16) (r : Fin 512) (s : Fin 1024) :
    (k0_pay1 x0 x1 (ix2 r s) : EReal) = ∑ k : Fin 1024, (x0 (ix2 k r) : EReal) * x1 (ix2 k s) := by
  unfold k0_pay1
  simp only [pointwise, zero_add]

/-- The product of two blocks, added to what was there. -/
theorem pay2_apply (x0 : Vec Ideal S1024x512 .bf16) (x1 : Vec Ideal S1024x1024 .bf16) (xo : Vec Ideal S512x1024 .f32) (r : Fin 512) (s : Fin 1024) :
    k0_pay2 x0 x1 xo (ix2 r s) = xo (ix2 r s) + ∑ k : Fin 1024, (x0 (ix2 k r) : EReal) * x1 (ix2 k s) := by
  unfold k0_pay2
  simp only [pointwise, shapeCast_self]
  exact congrArg (xo (ix2 r s) + ·) (pay1_apply x0 x1 r s)

/-! ## The windows' blocks -/

theorem lt_N (t : Fin cfg0.N) : t.val < 9 := lt_of_lt_of_eq t.isLt N_0

theorem index0 : ∀ t : Fin cfg0.N, win0_0.index t 0 = t.val % 9 ∧ win0_0.index t 1 = 0 :=
  (by decide +kernel : ∀ t : Fin grid0.N, win0_0.index t 0 = t.val % 9 ∧ win0_0.index t 1 = 0)

theorem index1 : ∀ t : Fin cfg0.N, win0_1.index t 0 = t.val % 9 ∧ win0_1.index t 1 = 0 :=
  (by decide +kernel : ∀ t : Fin grid0.N, win0_1.index t 0 = t.val % 9 ∧ win0_1.index t 1 = 0)

theorem index2 : ∀ t : Fin cfg0.N, win0_2.index t 0 = 0 ∧ win0_2.index t 1 = 0 :=
  (by decide +kernel : ∀ t : Fin grid0.N, win0_2.index t 0 = 0 ∧ win0_2.index t 1 = 0)

variable (m : (ℓ : Loc nD τ sig) → Buf (Elt Ideal) ℓ) (c : Dev nD)

/-- The two arguments, as matrices. -/
def X (i : Fin 9216) (j : Fin 512) : EReal := (m ((c : Thread nD τ).loc main_arg0) : Vec Ideal S9216x512 .bf16) (ix2 i j)
def Y (i : Fin 9216) (j : Fin 1024) : EReal := (m ((c : Thread nD τ).loc main_arg1) : Vec Ideal S9216x1024 .bf16) (ix2 i j)

theorem read_x (t : Fin cfg0.N) (k : Fin 1024) (r : Fin 512) :
    (iblk m c 0 t : Vec Ideal S1024x512 .bf16) (ix2 k r) = at2 (X m c) (1024 * (t.val % 9) + k.val) r.val := by
  have ht := lt_N t
  obtain ⟨e0, e1⟩ := index0 t
  rw [at2_eq _ (by omega) (by omega)]
  unfold iblk X
  rw [View.read_apply]
  show V m c main_arg0 _ = m (c.tc.loc main_arg0) _
  unfold V
  congr 1
  funext a
  apply Fin.ext
  match a with
  | ⟨0, _⟩ => show win0_0.index t 0 * 1024 + 1 * k.val = 1024 * (t.val % 9) + k.val; rw [e0]; omega
  | ⟨1, _⟩ => show win0_0.index t 1 * 512 + 1 * r.val = r.val; rw [e1]; omega

theorem read_y (t : Fin cfg0.N) (k : Fin 1024) (s : Fin 1024) :
    (iblk m c 1 t : Vec Ideal S1024x1024 .bf16) (ix2 k s) = at2 (Y m c) (1024 * (t.val % 9) + k.val) s.val := by
  have ht := lt_N t
  obtain ⟨e0, e1⟩ := index1 t
  rw [at2_eq _ (by omega) (by omega)]
  unfold iblk Y
  rw [View.read_apply]
  show V m c main_arg1 _ = m (c.tc.loc main_arg1) _
  unfold V
  congr 1
  funext a
  apply Fin.ext
  match a with
  | ⟨0, _⟩ => show win0_1.index t 0 * 1024 + 1 * k.val = 1024 * (t.val % 9) + k.val; rw [e0]; omega
  | ⟨1, _⟩ => show win0_1.index t 1 * 1024 + 1 * s.val = s.val; rw [e1]; omega

/-- The terms of an entry of the block that point `n` works on. -/
def term (n : ℕ) (y : Fin 512 × Fin 1024) (q : ℕ) : EReal := at2 (X m c) q y.1.val * at2 (Y m c) q y.2.val

/-- What a point leaves: the terms of all points of its block so far. -/
theorem outs (n : ℕ) (h : n < cfg0.N) (y : Fin 512 × Fin 1024) :
    outsAt0 m c n h (ix2 y.1 y.2) = ∑ q ∈ Finset.range (1024 * (n % 9 + 1)), term m c n y q := by
  refine accumulate (nk := 9) 1024 (by decide) (fun n h y => outsAt0 m c n h (ix2 y.1 y.2)) (term m c) ?_ ?_ ?_ n h y
  · intro n e
    unfold term
    rfl
  · intro n h y e
    have hn := lt_N ⟨n, h⟩
    have eA := outsAt0_A m c ⟨n, h⟩ e (by dsimp only at hn ⊢; omega)
    change outsAt0 m c n h = _ at eA
    rw [eA, out_A, pay1_apply]
    refine Finset.sum_congr rfl fun k _ => ?_
    rw [read_x, read_y, e, Nat.mul_zero, Nat.zero_add]
    rfl
  · intro n h y e
    have hn := lt_N ⟨n + 1, h⟩
    have eB := outsAt0_B m c ⟨n + 1, h⟩ e (by dsimp only at hn ⊢; omega)
    change outsAt0 m c (n + 1) h = _ at eB
    rw [eB, out_B, pay2_apply]
    refine congrArg₂ (· + ·) rfl (Finset.sum_congr rfl fun k _ => ?_)
    rw [read_x, read_y]
    rfl

/-- The whole product. -/
def result (y : S512x1024.Idx) : EReal := ∑ q ∈ Finset.range 9216, at2 (X m c) q (y 0).val * at2 (Y m c) q (y 1).val

theorem result_at {y : S512x1024.Idx} {i j : ℕ} (hi : (y 0).val = i) (hj : (y 1).val = j) :
    result m c y = ∑ q ∈ Finset.range 9216, at2 (X m c) q i * at2 (Y m c) q j := by
  subst hi hj; rfl

theorem final : (dats m 0 c).arrAt 2 cfg0.N = result m c := by
  refine (dats m 0 c).arrAt_eq_of_cover 2 (result m c) (fun t hf => ?_) fun y => ?_
  · have ht := lt_N t
    have h9 := (flush0_2 t).mp hf
    obtain ⟨e0, e1⟩ := index2 t
    rw [Value.flushed2]
    funext y
    rw [View.read_apply]
    have hy0 : (y 0).val < 512 := (y 0).isLt
    have hy1 : (y 1).val < 1024 := (y 1).isLt
    have ey : (y : S512x1024.Idx) = ix2 ⟨(y 0).val, hy0⟩ ⟨(y 1).val, hy1⟩ := funext fun a => by fin_cases a <;> rfl
    refine ((congrArg (outsAt0 m c t.val t.isLt) ey).trans (outs m c t.val t.isLt (⟨(y 0).val, hy0⟩, ⟨(y 1).val, hy1⟩))).trans ?_
    rw [h9, show (1024 * (8 + 1) : ℕ) = 9216 by norm_num]
    have d0 : ((((cfg0.win 2).blk t).view.emb y : S512x1024.Idx) 0).val = (y 0).val := by
      show win0_2.index t 0 * 512 + 1 * (y 0).val = (y 0).val
      rw [e0]; omega
    have d1 : ((((cfg0.win 2).blk t).view.emb y : S512x1024.Idx) 1).val = (y 1).val := by
      show win0_2.index t 1 * 1024 + 1 * (y 1).val = (y 1).val
      rw [e1]; omega
    exact (result_at m c d0 d1).symm.trans (cast_eq _ _).symm
  · have h0 : (y 0 : Nat) < 512 := (y 0).isLt
    have h1 : (y 1 : Nat) < 1024 := (y 1).isLt
    have hN : cfg0.N = 9 := N_0
    let t : Fin cfg0.N := ⟨8, by omega⟩
    obtain ⟨e0, e1⟩ := index2 t
    have ht : t.val = 8 := rfl
    refine ⟨t, (flush0_2 t).mpr (by omega), ?_⟩
    show y ∈ ((View.whole main_v0).slice (win0_2.rect t)).set
    rw [View.set_slice_whole, Rect.mem_set_unit]
    intro a
    match a with
    | ⟨0, _⟩ =>
      show win0_2.index t 0 * 512 ≤ (y 0 : Nat) ∧ (y 0 : Nat) < win0_2.index t 0 * 512 + 512
      rw [e0]; omega
    | ⟨1, _⟩ =>
      show win0_2.index t 1 * 1024 ≤ (y 1 : Nat) ∧ (y 1 : Nat) < win0_2.index t 1 * 1024 + 1024
      rw [e1]; omega

end Cert.BranchDwIdeal.Whole

namespace Cert.BranchDwRefIdeal.Whole

open Cert.BranchDwRefIdeal Cert.BranchDwRefIdeal.Gen
open Idealize.ShloMosaic Idealize.ShloMosaic.TcCoe Idealize.SL.Sem

/-- The reference leaves its arguments as they were, and every counter at zero. -/
theorem frame : Cert.quiescent_BranchDwRefIdeal := fun m g _ =>
  (θ_run _ _ _).mono (fun r h => ⟨fun c => (h c).2, sem_eq_zero_of_no_sems (by decide) r.2⟩) (Value.run (F := Ideal) m g)

end Cert.BranchDwRefIdeal.Whole

namespace Cert.BranchDw

open Idealize.ShloMosaic Idealize.ShloMosaic.TcCoe Idealize.SL.Sem

/-- The kernel's result is the reference's. -/
theorem algebraic : Cert.algebraic_BranchDwIdeal_BranchDwRefIdeal := fun m g m' g' _ hargs =>
  ⟨fun c => BranchDwIdeal.Whole.result m c,
    (θ_run _ _ _).mono (fun r h c => ⟨(h c).1.trans (BranchDwIdeal.Whole.final m c), (h c).2⟩) (BranchDwIdeal.Value.run_blocks (F := Ideal) m g),
    (θ_run _ _ _).mono (fun r h c => ⟨(h c).1.trans (by
      funext y
      refine ((Cert.BranchDwRefIdeal.Read.val_main_v5_apply _ _ y).trans (Cert.BranchDwRefIdeal.Read.val_main_v4_apply _ _ _)).trans ?_
      refine Eq.trans ?_ (Product.columns (BranchDwIdeal.Whole.X m c) (BranchDwIdeal.Whole.Y m c) (y 0) (y 1)).symm
      refine Finset.sum_congr rfl fun k _ => (EReal.mul_comm _ _).trans (congrArg₂ (· * ·) ?_ ?_)
      · exact (congrFun (hargs c).1 _).trans (congrArg (m (c.tc.loc BranchDwIdeal.main_arg0)) (funext fun a => by
          match a with
          | ⟨0, _⟩ => rfl
          | ⟨1, _⟩ => rfl))
      · exact (congrFun (hargs c).2 _).trans (congrArg (m (c.tc.loc BranchDwIdeal.main_arg1)) (funext fun a => by
          match a with
          | ⟨0, _⟩ => rfl
          | ⟨1, _⟩ => rfl))), (h c).2⟩) (Cert.BranchDwRefIdeal.Value.run (F := Ideal) m' g')⟩

end Cert.BranchDw

end
-- ==== Proof.MergeBBlock.lean ====
/- What one run of the gated merge's backward body leaves in its five output blocks, at an index. -/
module

public import proofs.«01_k».proof.Defs
public import proofs.«01_k».proof.Proof.Gen.MergeBIdeal.Value
public import Idealize.ShloMosaic.Lib.Pointwise
public import Idealize.ShloMosaic.Lib.Tactic
public import Idealize.ShloMosaic.Lib.Pipeline.ValueKit.Tiles

@[expose] public section

set_option maxRecDepth 16384

noncomputable section

namespace Cert.MergeBIdeal.Whole

open Cert.MergeBIdeal Cert.MergeBIdeal.Gen
open Idealize.ShloMosaic Idealize.ShloMosaic.TcCoe Idealize.SL.Sem

theorem hz : (![0, 0, 0] : Fin 3 → Nat) = fun _ => 0 := funext fun a => by fin_cases a <;> rfl

/-- Dropping a block's unit axis. -/
theorem drop_at {α : Type} (X : S1x256x1024.Idx → α) (h : S1x256x1024.ShapeCasts S256x1024) (r : Fin 256) (l : Fin 1024) :
    shapeCast S256x1024 X h (ix2 r l) = X (ix3 0 r l) :=
  (shapeCast_dropUnit_apply ![256, 1024] X h (ix2 r l)).trans (congrArg X (funext fun a => by
    match a with
    | ⟨0, _⟩ => rfl
    | ⟨1, _⟩ => rfl
    | ⟨2, _⟩ => rfl))

/-- Adding it back. -/
theorem add_at {α : Type} (X : S256x1024.Idx → α) (h : S256x1024.ShapeCasts S1x256x1024) (r : Fin 256) (l : Fin 1024) :
    shapeCast S1x256x1024 X h (ix3 0 r l) = X (ix2 r l) :=
  (shapeCast_addUnit_apply ![256, 1024] X h (ix3 0 r l)).trans (congrArg X (funext fun a => by
    match a with
    | ⟨0, _⟩ => rfl
    | ⟨1, _⟩ => rfl))

/-- 1024 lanes of the gates' block. -/
theorem lanes_at (X : Vec Ideal S1x256x4096 .bf16) (o : ℕ) (inb : ∀ a, (![0, 0, o] : Fin 3 → ℕ) a + (![1, 256, 1024] : Fin 3 → ℕ) a ≤ S1x256x4096.size a)
    (r : Fin 256) (l : Fin 1024) (h : o + l.val < 4096) :
    (View.ld X (Rect.unit ![0, 0, o] ![1, 256, 1024] inb) : Vec Ideal S1x256x1024 .bf16) (ix3 0 r l) = X (ix3 0 r ⟨o + l.val, h⟩) :=
  View.ld_unit_apply_of X _ _ inb _ _ fun a => by
    match a with
    | ⟨0, _⟩ => rfl
    | ⟨1, _⟩ => exact (Nat.zero_add _).symm
    | ⟨2, _⟩ => rfl

/-- A gate's derivative by its input, at the gate. -/
def slope (s : EReal) : EReal := s * (1 - s)

section Pay
variable (Z P : Vec Ideal S1x256x1024 .bf16) (U : Vec Ideal S1x256x1024 .f32) (r : Fin 256) (l : Fin 1024)

/-- The gradient by each branch: the gate times the output's gradient. -/
theorem dp0_apply : (k0_pay24 (k0_pay11 Z) U (ix3 0 r l) : EReal) = Ideal.logistic (Z (ix3 0 r l)) * U (ix3 0 r l) := by
  unfold k0_pay24 k0_pay11 k0_pay18 k0_pay17
  simp only [add_at, drop_at, shapeCast_self, pointwise]
theorem dp1_apply : (k0_pay25 (k0_pay13 Z) U (ix3 0 r l) : EReal) = Ideal.logistic (Z (ix3 0 r l)) * U (ix3 0 r l) := by
  unfold k0_pay25 k0_pay13 k0_pay18 k0_pay17
  simp only [add_at, drop_at, shapeCast_self, pointwise]
theorem dp2_apply : (k0_pay26 (k0_pay9 Z) U (ix3 0 r l) : EReal) = Ideal.logistic (Z (ix3 0 r l)) * U (ix3 0 r l) := by
  unfold k0_pay26 k0_pay15 k0_pay9 k0_pay18 k0_pay17
  simp only [add_at, drop_at, shapeCast_self, pointwise]
theorem dp3_apply : (k0_pay27 (k0_pay10 Z) U (ix3 0 r l) : EReal) = Ideal.logistic (Z (ix3 0 r l)) * U (ix3 0 r l) := by
  unfold k0_pay27 k0_pay16 k0_pay10 k0_pay19 k0_pay17
  simp only [add_at, drop_at, shapeCast_self, pointwise]

/-- The gradient by each gate's input. -/
theorem dg0_apply : (k0_pay1 (k0_pay23 (k0_pay5 P) (k0_pay12 Z) U) (ix3 0 r l) : EReal) =
    U (ix3 0 r l) * P (ix3 0 r l) * slope (Ideal.logistic (Z (ix3 0 r l))) := by
  unfold k0_pay1 k0_pay23 k0_pay5 k0_pay12 k0_pay11 k0_pay18 k0_pay17
  simp only [add_at, drop_at, shapeCast_self, pointwise]
  rfl
theorem dg1_apply : (k0_pay2 (k0_pay22 (k0_pay6 P) (k0_pay14 Z) U) (ix3 0 r l) : EReal) =
    U (ix3 0 r l) * P (ix3 0 r l) * slope (Ideal.logistic (Z (ix3 0 r l))) := by
  unfold k0_pay2 k0_pay22 k0_pay6 k0_pay14 k0_pay13 k0_pay18 k0_pay17
  simp only [add_at, drop_at, shapeCast_self, pointwise]
  rfl
theorem dg2_apply : (k0_pay3 (k0_pay21 (k0_pay7 P) (k0_pay9 Z) U) (ix3 0 r l) : EReal) =
    U (ix3 0 r l) * P (ix3 0 r l) * slope (Ideal.logistic (Z (ix3 0 r l))) := by
  unfold k0_pay3 k0_pay21 k0_pay7 k0_pay15 k0_pay9 k0_pay18 k0_pay17
  simp only [add_at, drop_at, shapeCast_self, pointwise]
  rfl
theorem dg3_apply : (k0_pay4 (k0_pay20 (k0_pay8 P) (k0_pay10 Z) U) (ix3 0 r l) : EReal) =
    U (ix3 0 r l) * P (ix3 0 r l) * slope (Ideal.logistic (Z (ix3 0 r l))) := by
  unfold k0_pay4 k0_pay20 k0_pay8 k0_pay16 k0_pay10 k0_pay19 k0_pay17
  simp only [add_at, drop_at, shapeCast_self, pointwise]
  rfl

end Pay

/-- Index `l` of gate `k`'s lanes. -/
def lane (k : Fin 4) (l : Fin 1024) : Fin 4096 := ⟨1024 * k.val + l.val, by omega⟩

section Block
variable (x0 x1 x2 x3 : Vec Ideal S1x256x1024 .bf16) (x4 : Vec Ideal S1x256x4096 .bf16) (x5 : Vec Ideal S1x256x1024 .f32)

/-- The four branches' blocks. -/
def part (k : Fin 4) : Vec Ideal S1x256x1024 .bf16 := match k with
  | 0 => x0
  | 1 => x1
  | 2 => x2
  | 3 => x3

/-- Gate `k`'s lanes of the gates' block. -/
def gates0 : Vec Ideal S1x256x1024 .bf16 := View.ld x4 (Rect.unit ![0, 0, 0] ![1, 256, 1024] inb_S1x256x4096_S1x256x1024_0_0_0)
def gates1 : Vec Ideal S1x256x1024 .bf16 := View.ld x4 (Rect.unit ![0, 0, 1024] ![1, 256, 1024] inb_S1x256x4096_S1x256x1024_0_0_1024)
def gates2 : Vec Ideal S1x256x1024 .bf16 := View.ld x4 (Rect.unit ![0, 0, 2048] ![1, 256, 1024] inb_S1x256x4096_S1x256x1024_0_0_2048)
def gates3 : Vec Ideal S1x256x1024 .bf16 := View.ld x4 (Rect.unit ![0, 0, 3072] ![1, 256, 1024] inb_S1x256x4096_S1x256x1024_0_0_3072)

theorem gates0_at (r : Fin 256) (l : Fin 1024) : gates0 x4 (ix3 0 r l) = x4 (ix3 0 r (lane 0 l)) := lanes_at x4 0 _ r l (by omega)
theorem gates1_at (r : Fin 256) (l : Fin 1024) : gates1 x4 (ix3 0 r l) = x4 (ix3 0 r (lane 1 l)) := lanes_at x4 1024 _ r l (by omega)
theorem gates2_at (r : Fin 256) (l : Fin 1024) : gates2 x4 (ix3 0 r l) = x4 (ix3 0 r (lane 2 l)) := lanes_at x4 2048 _ r l (by omega)
theorem gates3_at (r : Fin 256) (l : Fin 1024) : gates3 x4 (ix3 0 r l) = x4 (ix3 0 r (lane 3 l)) := lanes_at x4 3072 _ r l (by omega)

/-- The gates' four stores, the last one first. -/
def pieces : List (View.Piece (Elt Ideal) S1x256x4096 .bf16) :=
  [⟨Rect.unit ![0, 0, 3072] ![1, 256, 1024] inb_S1x256x4096_S1x256x1024_0_0_3072, k0_pay4 (k0_pay20 (k0_pay8 x3) (k0_pay10 (gates3 x4)) x5)⟩,
   ⟨Rect.unit ![0, 0, 2048] ![1, 256, 1024] inb_S1x256x4096_S1x256x1024_0_0_2048, k0_pay3 (k0_pay21 (k0_pay7 x2) (k0_pay9 (gates2 x4)) x5)⟩,
   ⟨Rect.unit ![0, 0, 1024] ![1, 256, 1024] inb_S1x256x4096_S1x256x1024_0_0_1024, k0_pay2 (k0_pay22 (k0_pay6 x1) (k0_pay14 (gates1 x4)) x5)⟩,
   ⟨Rect.unit ![0, 0, 0] ![1, 256, 1024] inb_S1x256x4096_S1x256x1024_0_0_0, k0_pay1 (k0_pay23 (k0_pay5 x0) (k0_pay12 (gates0 x4)) x5)⟩]

/-- The block of the gates' gradient. -/
def dgates (y : S1x256x4096.Idx) : EReal :=
  x5 (ix3 0 (y 1) ⟨(y 2).val % 1024, Nat.mod_lt _ (by decide)⟩)
    * part x0 x1 x2 x3 ⟨(y 2).val / 1024, by have h : (y 2).val < 4096 := (y 2).isLt; omega⟩ (ix3 0 (y 1) ⟨(y 2).val % 1024, Nat.mod_lt _ (by decide)⟩)
    * slope (Ideal.logistic (x4 (ix3 0 (y 1) (y 2))))

/-- At gate `k`'s lane `l`. -/
theorem dgates_at (k : Fin 4) (r : Fin 256) (l : Fin 1024) (y : S1x256x4096.Idx) (h1 : y 1 = r) (h2 : y 2 = lane k l) :
    dgates x0 x1 x2 x3 x4 x5 y = x5 (ix3 0 r l) * part x0 x1 x2 x3 k (ix3 0 r l) * slope (Ideal.logistic (x4 (ix3 0 r (lane k l)))) := by
  have hv : (y 2).val = 1024 * k.val + l.val := congrArg Fin.val h2
  have e1 : (⟨(y 2).val % 1024, Nat.mod_lt _ (by decide)⟩ : Fin 1024) = l := Fin.ext (by show (y 2).val % 1024 = l.val; omega)
  have e2 : (⟨(y 2).val / 1024, by have h : (y 2).val < 4096 := (y 2).isLt; omega⟩ : Fin 4) = k := Fin.ext (by show (y 2).val / 1024 = k.val; omega)
  unfold dgates
  rw [e1, e2, h1, h2]

/-- The stores at an index. -/
theorem pieces_apply (y : S1x256x4096.Idx) : View.canon (pieces x0 x1 x2 x3 x4 x5) y = dgates x0 x1 x2 x3 x4 x5 y := by
  have hy0 : (y 0).val < 1 := (y 0).isLt
  have hy1 : (y 1).val < 256 := (y 1).isLt
  have hy2 : (y 2).val < 4096 := (y 2).isLt
  refine View.canon_apply_of_pieces (Val := Elt Ideal) (e := .bf16) (fun y => dgates x0 x1 x2 x3 x4 x5 y) (pieces x0 x1 x2 x3 x4 x5) ?_ y ?_
  · have key : ∀ (k : Fin 4) (W : Vec Ideal S1x256x1024 .bf16)
        (_ : ∀ r l, W (ix3 0 r l) = x5 (ix3 0 r l) * part x0 x1 x2 x3 k (ix3 0 r l) * slope (Ideal.logistic (x4 (ix3 0 r (lane k l)))))
        (o : ℕ) (_ : o = 1024 * k.val) (inb) (x : S1x256x1024.Idx),
        W x = dgates x0 x1 x2 x3 x4 x5 ((Rect.unit (s := S1x256x4096) ![0, 0, o] ![1, 256, 1024] inb).emb x) := by
      intro k W hW o ho inb x
      have hx0 : (x 0).val < 1 := (x 0).isLt
      have ex : x = ix3 0 (x 1) (x 2) := funext fun a => by
        match a with
        | ⟨0, _⟩ => exact Fin.ext (by show (x 0).val = 0; omega)
        | ⟨1, _⟩ => rfl
        | ⟨2, _⟩ => rfl
      refine ((congrArg W ex).trans (hW _ _)).trans (dgates_at x0 x1 x2 x3 x4 x5 k _ _ _ ?_ ?_).symm
      · exact Fin.ext ((Rect.idx_unit_val _ _ inb x 1).trans (Nat.zero_add _))
      · exact Fin.ext ((Rect.idx_unit_val _ _ inb x 2).trans (by show o + (x 2).val = 1024 * k.val + (x 2).val; omega))
    intro p hp
    simp only [pieces, List.mem_cons, List.not_mem_nil, or_false] at hp
    rcases hp with rfl | rfl | rfl | rfl
    · exact key 3 _ (fun r l => (dg3_apply (gates3 x4) x3 x5 r l).trans
        (congrArg (fun z => x5 (ix3 0 r l) * x3 (ix3 0 r l) * slope (Ideal.logistic z)) (gates3_at x4 r l))) 3072 rfl inb_S1x256x4096_S1x256x1024_0_0_3072
    · exact key 2 _ (fun r l => (dg2_apply (gates2 x4) x2 x5 r l).trans
        (congrArg (fun z => x5 (ix3 0 r l) * x2 (ix3 0 r l) * slope (Ideal.logistic z)) (gates2_at x4 r l))) 2048 rfl inb_S1x256x4096_S1x256x1024_0_0_2048
    · exact key 1 _ (fun r l => (dg1_apply (gates1 x4) x1 x5 r l).trans
        (congrArg (fun z => x5 (ix3 0 r l) * x1 (ix3 0 r l) * slope (Ideal.logistic z)) (gates1_at x4 r l))) 1024 rfl inb_S1x256x4096_S1x256x1024_0_0_1024
    · exact key 0 _ (fun r l => (dg0_apply (gates0 x4) x0 x5 r l).trans
        (congrArg (fun z => x5 (ix3 0 r l) * x0 (ix3 0 r l) * slope (Ideal.logistic z)) (gates0_at x4 r l))) 0 rfl inb_S1x256x4096_S1x256x1024_0_0_0
  · have mem : ∀ (o : ℕ) (inb), o ≤ (y 2).val → (y 2).val < o + 1024 → y ∈ (Rect.unit (s := S1x256x4096) ![0, 0, o] ![1, 256, 1024] inb).set := by
      intro o inb h1 h2
      rw [Rect.mem_set_unit]
      intro a
      match a with
      | ⟨0, _⟩ => show 0 ≤ (y 0 : ℕ) ∧ (y 0 : ℕ) < 0 + 1; omega
      | ⟨1, _⟩ => show 0 ≤ (y 1 : ℕ) ∧ (y 1 : ℕ) < 0 + 256; omega
      | ⟨2, _⟩ => exact ⟨h1, h2⟩
    have tl {α : Type} {p : α → Prop} {a : α} {l : List α} (h : ∃ x ∈ l, p x) : ∃ x ∈ a :: l, p x :=
      h.imp fun _ h => ⟨List.mem_cons_of_mem _ h.1, h.2⟩
    have hd {α : Type} {p : α → Prop} {a : α} {l : List α} (h : p a) : ∃ x ∈ a :: l, p x := ⟨a, List.mem_cons_self, h⟩
    unfold pieces
    rcases (by omega : (y 2).val / 1024 = 3 ∨ (y 2).val / 1024 = 2 ∨ (y 2).val / 1024 = 1 ∨ (y 2).val / 1024 = 0) with h | h | h | h
    · exact hd (mem 3072 inb_S1x256x4096_S1x256x1024_0_0_3072 (by omega) (by omega))
    · exact tl (hd (mem 2048 inb_S1x256x4096_S1x256x1024_0_0_2048 (by omega) (by omega)))
    · exact tl (tl (hd (mem 1024 inb_S1x256x4096_S1x256x1024_0_0_1024 (by omega) (by omega))))
    · exact tl (tl (tl (hd (mem 0 inb_S1x256x4096_S1x256x1024_0_0_0 (by omega) (by omega)))))

section Run
variable {x0 x1 x2 x3 x4 x5}
variable {c : Dev nD} {i : grid0.Coords}
  {a2 : Memref sig .tc .vmem S1x256x1024 .bf16} {h2 : a2.IsWhole} {a3 : Memref sig .tc .vmem S1x256x1024 .bf16} {h3 : a3.IsWhole}
  {a4 : Memref sig .tc .vmem S1x256x1024 .bf16} {h4 : a4.IsWhole} {a5 : Memref sig .tc .vmem S1x256x1024 .bf16} {h5 : a5.IsWhole}
  {a6 : Memref sig .tc .vmem S1x256x4096 .bf16} {h6 : a6.IsWhole} {a7 : Memref sig .tc .vmem S1x256x1024 .f32} {h7 : a7.IsWhole}
  {a8 : Memref sig .tc .vmem S1x256x1024 .bf16} {h8 : a8.IsWhole} {a9 : Memref sig .tc .vmem S1x256x1024 .bf16} {h9 : a9.IsWhole}
  {a10 : Memref sig .tc .vmem S1x256x1024 .bf16} {h10 : a10.IsWhole} {a11 : Memref sig .tc .vmem S1x256x1024 .bf16} {h11 : a11.IsWhole}
  {a12 : Memref sig .tc .vmem S1x256x4096 .bf16} {h12 : a12.IsWhole}

theorem out6 (r : Fin 256) (l : Fin 1024) :
    (out0_A_6 c i a2 h2 a3 h3 a4 h4 a5 h5 a6 h6 a7 h7 a8 h8 a9 h9 a10 h10 a11 h11 a12 h12 x0 x1 x2 x3 x4 x5 (ix3 0 r l) : EReal) =
      Ideal.logistic (x4 (ix3 0 r (lane 0 l))) * x5 (ix3 0 r l) := by
  unfold out0_A_6
  rw [View.read_writes_eq_canon _ _ _ (cover0_A_6 c i a2 h2 a3 h3 a4 h4 a5 h5 a6 h6 a7 h7 a8 h8 a9 h9 a10 h10 a11 h11 a12 h12 x0 x1 x2 x3 x4 x5)]
  unfold kernelRun0_A
  dsimp only
  sl_unfold_words
  simp only [View.readAt_eq_ld, h6.read_unread, h7.read_unread]
  rw [View.canon_unit_zero hz, View.ld_unit_zero hz]
  exact (dp0_apply (gates0 x4) x5 r l).trans (congrArg (fun z => Ideal.logistic z * x5 (ix3 0 r l)) (gates0_at x4 r l))

theorem out7 (r : Fin 256) (l : Fin 1024) :
    (out0_A_7 c i a2 h2 a3 h3 a4 h4 a5 h5 a6 h6 a7 h7 a8 h8 a9 h9 a10 h10 a11 h11 a12 h12 x0 x1 x2 x3 x4 x5 (ix3 0 r l) : EReal) =
      Ideal.logistic (x4 (ix3 0 r (lane 1 l))) * x5 (ix3 0 r l) := by
  unfold out0_A_7
  rw [View.read_writes_eq_canon _ _ _ (cover0_A_7 c i a2 h2 a3 h3 a4 h4 a5 h5 a6 h6 a7 h7 a8 h8 a9 h9 a10 h10 a11 h11 a12 h12 x0 x1 x2 x3 x4 x5)]
  unfold kernelRun0_A
  dsimp only
  sl_unfold_words
  simp only [View.readAt_eq_ld, h6.read_unread, h7.read_unread]
  rw [View.canon_unit_zero hz, View.ld_unit_zero hz]
  exact (dp1_apply (gates1 x4) x5 r l).trans (congrArg (fun z => Ideal.logistic z * x5 (ix3 0 r l)) (gates1_at x4 r l))

theorem out8 (r : Fin 256) (l : Fin 1024) :
    (out0_A_8 c i a2 h2 a3 h3 a4 h4 a5 h5 a6 h6 a7 h7 a8 h8 a9 h9 a10 h10 a11 h11 a12 h12 x0 x1 x2 x3 x4 x5 (ix3 0 r l) : EReal) =
      Ideal.logistic (x4 (ix3 0 r (lane 2 l))) * x5 (ix3 0 r l) := by
  unfold out0_A_8
  rw [View.read_writes_eq_canon _ _ _ (cover0_A_8 c i a2 h2 a3 h3 a4 h4 a5 h5 a6 h6 a7 h7 a8 h8 a9 h9 a10 h10 a11 h11 a12 h12 x0 x1 x2 x3 x4 x5)]
  unfold kernelRun0_A
  dsimp only
  sl_unfold_words
  simp only [View.readAt_eq_ld, h6.read_unread, h7.read_unread]
  rw [View.canon_unit_zero hz, View.ld_unit_zero hz]
  exact (dp2_apply (gates2 x4) x5 r l).trans (congrArg (fun z => Ideal.logistic z * x5 (ix3 0 r l)) (gates2_at x4 r l))

theorem out9 (r : Fin 256) (l : Fin 1024) :
    (out0_A_9 c i a2 h2 a3 h3 a4 h4 a5 h5 a6 h6 a7 h7 a8 h8 a9 h9 a10 h10 a11 h11 a12 h12 x0 x1 x2 x3 x4 x5 (ix3 0 r l) : EReal) =
      Ideal.logistic (x4 (ix3 0 r (lane 3 l))) * x5 (ix3 0 r l) := by
  unfold out0_A_9
  rw [View.read_writes_eq_canon _ _ _ (cover0_A_9 c i a2 h2 a3 h3 a4 h4 a5 h5 a6 h6 a7 h7 a8 h8 a9 h9 a10 h10 a11 h11 a12 h12 x0 x1 x2 x3 x4 x5)]
  unfold kernelRun0_A
  dsimp only
  sl_unfold_words
  simp only [View.readAt_eq_ld, h6.read_unread, h7.read_unread]
  rw [View.canon_unit_zero hz, View.ld_unit_zero hz]
  exact (dp3_apply (gates3 x4) x5 r l).trans (congrArg (fun z => Ideal.logistic z * x5 (ix3 0 r l)) (gates3_at x4 r l))

theorem out10 :
    out0_A_10 c i a2 h2 a3 h3 a4 h4 a5 h5 a6 h6 a7 h7 a8 h8 a9 h9 a10 h10 a11 h11 a12 h12 x0 x1 x2 x3 x4 x5 = dgates x0 x1 x2 x3 x4 x5 := by
  unfold out0_A_10
  rw [View.read_writes_eq_canon _ _ _ (cover0_A_10 c i a2 h2 a3 h3 a4 h4 a5 h5 a6 h6 a7 h7 a8 h8 a9 h9 a10 h10 a11 h11 a12 h12 x0 x1 x2 x3 x4 x5)]
  unfold kernelRun0_A
  dsimp only
  sl_unfold_words
  simp only [View.readAt_eq_ld, h2.read_unread, h3.read_unread, h4.read_unread, h5.read_unread, h6.read_unread, h7.read_unread]
  simp only [View.ld_unit_zero (S := S1x256x1024) hz]
  exact funext fun y => pieces_apply x0 x1 x2 x3 x4 x5 y

end Run

end Block

end Cert.MergeBIdeal.Whole

end
-- ==== Proof.MergeBRef.lean ====
/- What the gated merge's backward reference computes, at an index: the reference's four padded products, added up, hold at each
   gate's lanes that gate's product alone. -/
module

public import proofs.«01_k».proof.Proof.MergeBBlock
public import proofs.«01_k».proof.Proof.Gen.MergeBRefIdeal.Read
public import Idealize.ShloMosaic.Lib.KernelVsHost

@[expose] public section

set_option maxRecDepth 16384

noncomputable section

namespace Cert.MergeBRefIdeal.Whole

open Cert.MergeBRefIdeal Cert.MergeBRefIdeal.Read
open Cert.MergeBIdeal.Whole (slope)
open Idealize.ShloMosaic

/-- Lane `l` of gate `k`, in the array the gates lie in. -/
def gate (k : Fin 4) (l : Fin 1024) : Fin 10240 := ⟨1024 * k.val + l.val, by omega⟩

section

variable (P0 P1 P2 P3 : FVec Ideal S4x2304x1024 .bf16) (Z : FVec Ideal S4x2304x10240 .bf16) (U : FVec Ideal S4x2304x1024 .f32)

/-- The four branches. -/
def branch (k : Fin 4) : FVec Ideal S4x2304x1024 .bf16 := match k with
  | 0 => P0
  | 1 => P1
  | 2 => P2
  | 3 => P3

/-- The gradient by branch `k`: the gate times the output's gradient. -/
def dArr (k : Fin 4) (y : S4x2304x1024.Idx) : EReal := Ideal.logistic (Z (ix3 (y 0) (y 1) (gate k (y 2)))) * U y

/-- The gradient by the gates' inputs. -/
def gArr (y : S4x2304x4096.Idx) : EReal :=
  U (ix3 (y 0) (y 1) ⟨(y 2).val % 1024, Nat.mod_lt _ (by decide)⟩)
    * branch P0 P1 P2 P3 ⟨(y 2).val / 1024, by have h : (y 2).val < 4096 := (y 2).isLt; omega⟩
        (ix3 (y 0) (y 1) ⟨(y 2).val % 1024, Nat.mod_lt _ (by decide)⟩)
    * slope (Ideal.logistic (Z (ix3 (y 0) (y 1) ⟨(y 2).val, by have h : (y 2).val < 4096 := (y 2).isLt; omega⟩)))

/-! ## The gates -/

theorem gates_at (b : Fin 4) (n : Fin 2304) (k : Fin 4) (l : Fin 1024) :
    (val_main_v12 (F := Ideal) Z (ix4 b n k l) : EReal) = Ideal.logistic (Z (ix3 b n (gate k l))) := by
  have e : idx_main_v5 (idx_main_v6 (ix4 b n k l)) = ix3 b n (gate k l) := funext fun a => Fin.ext (by
    match a with
    | ⟨0, _⟩ => show (((b.val * 2304 + n.val) * 4 + k.val) * 1024 + l.val) / 9437184 = b.val; omega
    | ⟨1, _⟩ => show (((b.val * 2304 + n.val) * 4 + k.val) * 1024 + l.val) / 4096 % 2304 = n.val; omega
    | ⟨2, _⟩ => show (((b.val * 2304 + n.val) * 4 + k.val) * 1024 + l.val) % 4096 = 1024 * k.val + l.val; omega)
  simp only [val_main_v12_apply, val_main_v11_apply, val_main_cst_0_apply, val_main_v10_apply, val_main_v9_apply, val_main_cst_apply,
    val_main_v8_apply, val_main_v7_apply, val_main_v6_apply, val_main_v5_apply, val_main_v4_apply, e]
  show Ideal.div (Ideal.ofBits .f32 0x3F800000#32) (Ideal.ofBits .f32 0x3F800000#32 + Ideal.exp (-(Z (ix3 b n (gate k l))))) = _
  rw [Ideal.ofBits_one_f32]
  rfl

theorem slope_at (b : Fin 4) (n : Fin 2304) (k : Fin 4) (l : Fin 1024) :
    (val_main_v15 (F := Ideal) Z (ix4 b n k l) : EReal) = slope (Ideal.logistic (Z (ix3 b n (gate k l)))) := by
  simp only [val_main_v15_apply, val_main_v14_apply, val_main_v13_apply, val_main_cst_1_apply, gates_at]
  show _ * (Ideal.ofBits .f32 0x3F800000#32 - _) = _
  rw [Ideal.ofBits_one_f32]
  rfl

/-- An index whose unit axis is dropped. -/
theorem drop_unit (i : S4x2304x1024.Idx) (j : S4x2304x4x1024.Idx) (k : Fin 4)
    (h0 : (j 0).val = (((i 0).val * 2304 + (i 1).val) * 1024 + (i 2).val) / 2359296)
    (h1 : (j 1).val = (((i 0).val * 2304 + (i 1).val) * 1024 + (i 2).val) / 1024 % 2304) (h2 : (j 2).val = k.val)
    (h3 : (j 3).val = (((i 0).val * 2304 + (i 1).val) * 1024 + (i 2).val) % 1024) : j = ix4 (i 0) (i 1) k (i 2) := by
  have g0 : (i 0).val < 4 := (i 0).isLt
  have g1 : (i 1).val < 2304 := (i 1).isLt
  have g2 : (i 2).val < 1024 := (i 2).isLt
  refine funext fun a => Fin.ext ?_
  match a with
  | ⟨0, _⟩ => refine h0.trans ?_; show _ = (i 0).val; omega
  | ⟨1, _⟩ => refine h1.trans ?_; show _ = (i 1).val; omega
  | ⟨2, _⟩ => exact h2
  | ⟨3, _⟩ => refine h3.trans ?_; show _ = (i 2).val; omega

theorem ct31 : val_main_v31 (F := Ideal) U = U := by unfold val_main_v31; exact shapeCast_self _ _
theorem ct32 : val_main_v32 (F := Ideal) U = U := by unfold val_main_v32; exact shapeCast_self _ _

theorem result0 : (val_main_v54 (F := Ideal) Z U : S4x2304x1024.Idx → EReal) = dArr Z U 0 := funext fun i => by
  have e : idx_main_v16 (idx_main_v17 i) = ix4 (i 0) (i 1) 0 (i 2) := drop_unit i _ 0 rfl rfl rfl rfl
  show val_main_v17 (F := Ideal) Z i * val_main_v31 (F := Ideal) U i = _
  rw [ct31, val_main_v17_apply, val_main_v16_apply, e]
  exact congrArg (fun a : EReal => a * U i) (gates_at Z (i 0) (i 1) 0 (i 2))
theorem result1 : (val_main_v55 (F := Ideal) Z U : S4x2304x1024.Idx → EReal) = dArr Z U 1 := funext fun i => by
  have e : idx_main_v19 (idx_main_v20 i) = ix4 (i 0) (i 1) 1 (i 2) := drop_unit i _ 1 rfl rfl rfl rfl
  show val_main_v20 (F := Ideal) Z i * val_main_v31 (F := Ideal) U i = _
  rw [ct31, val_main_v20_apply, val_main_v19_apply, e]
  exact congrArg (fun a : EReal => a * U i) (gates_at Z (i 0) (i 1) 1 (i 2))
theorem result2 : (val_main_v56 (F := Ideal) Z U : S4x2304x1024.Idx → EReal) = dArr Z U 2 := funext fun i => by
  have e : idx_main_v23 (idx_main_v24 i) = ix4 (i 0) (i 1) 2 (i 2) := drop_unit i _ 2 rfl rfl rfl rfl
  show val_main_v24 (F := Ideal) Z i * val_main_v31 (F := Ideal) U i = _
  rw [ct31, val_main_v24_apply, val_main_v23_apply, e]
  exact congrArg (fun a : EReal => a * U i) (gates_at Z (i 0) (i 1) 2 (i 2))
theorem result3 : (val_main_v57 (F := Ideal) Z U : S4x2304x1024.Idx → EReal) = dArr Z U 3 := funext fun i => by
  have e : idx_main_v27 (idx_main_v28 i) = ix4 (i 0) (i 1) 3 (i 2) := drop_unit i _ 3 rfl rfl rfl rfl
  show val_main_v28 (F := Ideal) Z i * val_main_v32 (F := Ideal) U i = _
  rw [ct32, val_main_v28_apply, val_main_v27_apply, e]
  exact congrArg (fun a : EReal => a * U i) (gates_at Z (i 0) (i 1) 3 (i 2))

/-! ## The padded products -/

/-- An array padded with zeros along the gates' axis, at a gate. -/
theorem pad_at (Y : FVec Ideal S4x2304x1x1024 .f32) (v : FVec Ideal S_ .f32) (hv : ∀ i, (v i : EReal) = 0) (o h : ℕ)
    (hp : S4x2304x1x1024.Pads ![0, 0, o, 0] ![0, 0, h, 0] ![0, 0, 0, 0] S4x2304x4x1024) (hu : 0 < S_.numel)
    (b : Fin 4) (n : Fin 2304) (k : Fin 4) (l : Fin 1024) :
    (pad S4x2304x4x1024 ![0, 0, o, 0] ![0, 0, h, 0] ![0, 0, 0, 0] Y v hp hu (ix4 b n k l) : EReal) = if k.val = o then Y (ix4 b n 0 l) else 0 := by
  by_cases hk : k.val = o
  · rw [if_pos hk]
    refine pad_apply_of_inside _ _ _ Y v hp hu (ix4 b n k l) (ix4 b n 0 l) fun a => ?_
    match a with
    | ⟨0, _⟩ => show b.val = 0 + b.val * (0 + 1); omega
    | ⟨1, _⟩ => show n.val = 0 + n.val * (0 + 1); omega
    | ⟨2, _⟩ => show k.val = o + 0 * (0 + 1); omega
    | ⟨3, _⟩ => show l.val = 0 + l.val * (0 + 1); omega
  · rw [if_neg hk]
    refine (pad_apply_of_not_inside _ _ _ Y v hp hu (ix4 b n k l) (2 : Fin 4) fun hin => hk ?_).trans (hv _)
    have h1 : o ≤ k.val := hin.1
    have h3 : (k.val - o) / (0 + 1) < 1 := hin.2.2
    omega

theorem product3 (b : Fin 4) (n : Fin 2304) (l : Fin 1024) :
    (val_main_v35 (F := Ideal) P3 U (ix4 b n 0 l) : EReal) = U (ix3 b n l) * P3 (ix3 b n l) := by
  rw [val_main_v35_apply, val_main_v34_apply, ct32]
  exact congrArg (fun i => U i * P3 i) (eq_ix3 (idx_main_v35 (ix4 b n 0 l)))
theorem product2 (b : Fin 4) (n : Fin 2304) (l : Fin 1024) :
    (val_main_v39 (F := Ideal) P2 U (ix4 b n 0 l) : EReal) = U (ix3 b n l) * P2 (ix3 b n l) := by
  rw [val_main_v39_apply, val_main_v38_apply, ct31]
  exact congrArg (fun i => U i * P2 i) (eq_ix3 (idx_main_v39 (ix4 b n 0 l)))
theorem product1 (b : Fin 4) (n : Fin 2304) (l : Fin 1024) :
    (val_main_v44 (F := Ideal) P1 U (ix4 b n 0 l) : EReal) = U (ix3 b n l) * P1 (ix3 b n l) := by
  rw [val_main_v44_apply, val_main_v43_apply, ct31]
  exact congrArg (fun i => U i * P1 i) (eq_ix3 (idx_main_v44 (ix4 b n 0 l)))
theorem product0 (b : Fin 4) (n : Fin 2304) (l : Fin 1024) :
    (val_main_v49 (F := Ideal) P0 U (ix4 b n 0 l) : EReal) = U (ix3 b n l) * P0 (ix3 b n l) := by
  rw [val_main_v49_apply, val_main_v48_apply, ct31]
  exact congrArg (fun i => U i * P0 i) (eq_ix3 (idx_main_v49 (ix4 b n 0 l)))

/-- The padded products' sum: at gate `k`, its product. -/
theorem products_at (b : Fin 4) (n : Fin 2304) (k : Fin 4) (l : Fin 1024) :
    (val_main_v51 (F := Ideal) P0 P1 P2 P3 U (ix4 b n k l) : EReal) = U (ix3 b n l) * branch P0 P1 P2 P3 k (ix3 b n l) := by
  have e3 : (val_main_v36 (F := Ideal) P3 U (ix4 b n k l) : EReal) = _ :=
    pad_at (val_main_v35 (F := Ideal) P3 U) (val_main_cst_2 (F := Ideal)) (fun i => Ideal.ofBits_zero_f32) 3 0 _ _ b n k l
  have e2 : (val_main_v40 (F := Ideal) P2 U (ix4 b n k l) : EReal) = _ :=
    pad_at (val_main_v39 (F := Ideal) P2 U) (val_main_cst_3 (F := Ideal)) (fun i => Ideal.ofBits_zero_f32) 2 1 _ _ b n k l
  have e1 : (val_main_v45 (F := Ideal) P1 U (ix4 b n k l) : EReal) = _ :=
    pad_at (val_main_v44 (F := Ideal) P1 U) (val_main_cst_4 (F := Ideal)) (fun i => Ideal.ofBits_zero_f32) 1 2 _ _ b n k l
  have e0 : (val_main_v50 (F := Ideal) P0 U (ix4 b n k l) : EReal) = _ :=
    pad_at (val_main_v49 (F := Ideal) P0 U) (val_main_cst_5 (F := Ideal)) (fun i => Ideal.ofBits_zero_f32) 0 3 _ _ b n k l
  show ((val_main_v36 (F := Ideal) P3 U (ix4 b n k l) + val_main_v40 (F := Ideal) P2 U (ix4 b n k l) : EReal)
    + val_main_v45 (F := Ideal) P1 U (ix4 b n k l)) + val_main_v50 (F := Ideal) P0 U (ix4 b n k l) = _
  rw [e3, e2, e1, e0, product3, product2, product1, product0]
  match k with
  | 0 => simp [branch]
  | 1 => simp [branch]
  | 2 => simp [branch]
  | 3 => simp [branch]

theorem result4 : (val_main_v58 (F := Ideal) P0 P1 P2 P3 Z U : S4x2304x4096.Idx → EReal) = gArr P0 P1 P2 P3 Z U := funext fun i => by
  have g0 : (i 0).val < 4 := (i 0).isLt
  have g1 : (i 1).val < 2304 := (i 1).isLt
  have g2 : (i 2).val < 4096 := (i 2).isLt
  have e : idx_main_v53 i = ix4 (i 0) (i 1) ⟨(i 2).val / 1024, by omega⟩ ⟨(i 2).val % 1024, Nat.mod_lt _ (by decide)⟩ := funext fun a => Fin.ext (by
    match a with
    | ⟨0, _⟩ => show (((i 0).val * 2304 + (i 1).val) * 4096 + (i 2).val) / 9437184 = (i 0).val; omega
    | ⟨1, _⟩ => show (((i 0).val * 2304 + (i 1).val) * 4096 + (i 2).val) / 4096 % 2304 = (i 1).val; omega
    | ⟨2, _⟩ => show (((i 0).val * 2304 + (i 1).val) * 4096 + (i 2).val) / 1024 % 4 = (i 2).val / 1024; omega
    | ⟨3, _⟩ => show (((i 0).val * 2304 + (i 1).val) * 4096 + (i 2).val) % 1024 = (i 2).val % 1024; omega)
  have eg : gate ⟨(i 2).val / 1024, by omega⟩ ⟨(i 2).val % 1024, Nat.mod_lt _ (by decide)⟩ = ⟨(i 2).val, by omega⟩ := Fin.ext (by
    show 1024 * ((i 2).val / 1024) + (i 2).val % 1024 = (i 2).val; omega)
  show (val_main_v53 (F := Ideal) P0 P1 P2 P3 Z U i : EReal) = _
  rw [val_main_v53_apply, e]
  show (val_main_v51 (F := Ideal) P0 P1 P2 P3 U _ * val_main_v15 (F := Ideal) Z _ : EReal) = _
  refine (congrArg₂ (fun a b : EReal => a * b) (products_at P0 P1 P2 P3 U (i 0) (i 1) _ _) (slope_at Z (i 0) (i 1) _ _)).trans ?_
  rw [eg]
  rfl

end

end Cert.MergeBRefIdeal.Whole

end
-- ==== Proof.MergeB.lean ====
/- The gated merge's backward claim: the kernel's five arrays are the reference's results. -/
module

public import proofs.«01_k».proof.Defs
public import proofs.«01_k».proof.Proof.MergeBRef
public import proofs.«01_k».proof.Proof.Gen.MergeBIdeal.Value
public import proofs.«01_k».proof.Proof.Gen.MergeBRefIdeal.Run
public import Idealize.ShloMosaic.Lib.Claim

@[expose] public section

set_option maxRecDepth 16384

noncomputable section

namespace Cert.MergeBIdeal.Whole

open Cert.MergeBIdeal Cert.MergeBIdeal.Gen
open Cert.MergeBRefIdeal.Whole (branch dArr gArr gate)
open Idealize.ShloMosaic Idealize.ShloMosaic.TcCoe Idealize.SL.Sem
open Idealize.ShloMosaic.Pipeline (Dat)

/-! ## The windows' indices: one of four sequences, one of nine tiles of 256 rows -/

theorem index0 : ∀ t : Fin cfg0.N, win0_0.index t 0 = t.val / 9 ∧ win0_0.index t 1 = t.val % 9 ∧ win0_0.index t 2 = 0 :=
  (by decide +kernel : ∀ t : Fin grid0.N, win0_0.index t 0 = t.val / 9 ∧ win0_0.index t 1 = t.val % 9 ∧ win0_0.index t 2 = 0)
theorem index1 : ∀ t : Fin cfg0.N, win0_1.index t 0 = t.val / 9 ∧ win0_1.index t 1 = t.val % 9 ∧ win0_1.index t 2 = 0 :=
  (by decide +kernel : ∀ t : Fin grid0.N, win0_1.index t 0 = t.val / 9 ∧ win0_1.index t 1 = t.val % 9 ∧ win0_1.index t 2 = 0)
theorem index2 : ∀ t : Fin cfg0.N, win0_2.index t 0 = t.val / 9 ∧ win0_2.index t 1 = t.val % 9 ∧ win0_2.index t 2 = 0 :=
  (by decide +kernel : ∀ t : Fin grid0.N, win0_2.index t 0 = t.val / 9 ∧ win0_2.index t 1 = t.val % 9 ∧ win0_2.index t 2 = 0)
theorem index3 : ∀ t : Fin cfg0.N, win0_3.index t 0 = t.val / 9 ∧ win0_3.index t 1 = t.val % 9 ∧ win0_3.index t 2 = 0 :=
  (by decide +kernel : ∀ t : Fin grid0.N, win0_3.index t 0 = t.val / 9 ∧ win0_3.index t 1 = t.val % 9 ∧ win0_3.index t 2 = 0)
theorem index4 : ∀ t : Fin cfg0.N, win0_4.index t 0 = t.val / 9 ∧ win0_4.index t 1 = t.val % 9 ∧ win0_4.index t 2 = 0 :=
  (by decide +kernel : ∀ t : Fin grid0.N, win0_4.index t 0 = t.val / 9 ∧ win0_4.index t 1 = t.val % 9 ∧ win0_4.index t 2 = 0)
theorem index5 : ∀ t : Fin cfg0.N, win0_5.index t 0 = t.val / 9 ∧ win0_5.index t 1 = t.val % 9 ∧ win0_5.index t 2 = 0 :=
  (by decide +kernel : ∀ t : Fin grid0.N, win0_5.index t 0 = t.val / 9 ∧ win0_5.index t 1 = t.val % 9 ∧ win0_5.index t 2 = 0)
theorem index6 : ∀ t : Fin cfg0.N, win0_6.index t 0 = t.val / 9 ∧ win0_6.index t 1 = t.val % 9 ∧ win0_6.index t 2 = 0 :=
  (by decide +kernel : ∀ t : Fin grid0.N, win0_6.index t 0 = t.val / 9 ∧ win0_6.index t 1 = t.val % 9 ∧ win0_6.index t 2 = 0)
theorem index7 : ∀ t : Fin cfg0.N, win0_7.index t 0 = t.val / 9 ∧ win0_7.index t 1 = t.val % 9 ∧ win0_7.index t 2 = 0 :=
  (by decide +kernel : ∀ t : Fin grid0.N, win0_7.index t 0 = t.val / 9 ∧ win0_7.index t 1 = t.val % 9 ∧ win0_7.index t 2 = 0)
theorem index8 : ∀ t : Fin cfg0.N, win0_8.index t 0 = t.val / 9 ∧ win0_8.index t 1 = t.val % 9 ∧ win0_8.index t 2 = 0 :=
  (by decide +kernel : ∀ t : Fin grid0.N, win0_8.index t 0 = t.val / 9 ∧ win0_8.index t 1 = t.val % 9 ∧ win0_8.index t 2 = 0)
theorem index9 : ∀ t : Fin cfg0.N, win0_9.index t 0 = t.val / 9 ∧ win0_9.index t 1 = t.val % 9 ∧ win0_9.index t 2 = 0 :=
  (by decide +kernel : ∀ t : Fin grid0.N, win0_9.index t 0 = t.val / 9 ∧ win0_9.index t 1 = t.val % 9 ∧ win0_9.index t 2 = 0)
theorem index10 : ∀ t : Fin cfg0.N, win0_10.index t 0 = t.val / 9 ∧ win0_10.index t 1 = t.val % 9 ∧ win0_10.index t 2 = 0 :=
  (by decide +kernel : ∀ t : Fin grid0.N, win0_10.index t 0 = t.val / 9 ∧ win0_10.index t 1 = t.val % 9 ∧ win0_10.index t 2 = 0)

theorem lt_N (t : Fin cfg0.N) : t.val < 36 := lt_of_lt_of_eq t.isLt N_0

/-- The sequence a point works on, and its tile's rows. -/
def bat (t : ℕ) : Fin 4 := ⟨t / 9 % 4, Nat.mod_lt _ (by decide)⟩
def tok (t : ℕ) (r : Fin 256) : Fin 2304 := ⟨(256 * (t % 9) + r.val) % 2304, Nat.mod_lt _ (by decide)⟩

/-- A tile's index in the array. -/
theorem tile_ix {W B : ℕ} {t : ℕ} (ht : t < 36) {r : Fin 256} {l : ℕ} (hl : l < W) {n : Fin 3 → ℕ} (hn : n 0 = t / 9 ∧ n 1 = t % 9 ∧ n 2 = 0)
    {i : (⟨3, ![4, 2304, W]⟩ : Shape).Idx} (h0 : (i 0).val = n 0 * 1 + 1 * 0) (h1 : (i 1).val = n 1 * 256 + 1 * r.val)
    (h2 : (i 2).val = n 2 * B + 1 * l) : i = ix3 (bat t) (tok t r) ⟨l, hl⟩ := by
  obtain ⟨e0, e1, e2⟩ := hn
  refine funext fun a => Fin.ext ?_
  match a with
  | ⟨0, _⟩ => refine h0.trans ?_; show _ = t / 9 % 4; rw [e0]; omega
  | ⟨1, _⟩ => refine h1.trans ?_; show _ = (256 * (t % 9) + r.val) % 2304; rw [e1]; omega
  | ⟨2, _⟩ => refine h2.trans ?_; show _ = l; rw [e2]; omega

/-- The point whose tile an index of an array lies in. -/
def tileOf {W : ℕ} (y : (⟨3, ![4, 2304, W]⟩ : Shape).Idx) : Fin cfg0.N :=
  ⟨9 * (y 0).val + (y 1).val / 256, by
    have h0 : (y 0).val < 4 := (y 0).isLt
    have h1 : (y 1).val < 2304 := (y 1).isLt
    have hN : cfg0.N = 36 := N_0
    omega⟩

/-- It lies there. -/
theorem tile_mem {W : ℕ} (y : (⟨3, ![4, 2304, W]⟩ : Shape).Idx) {n : Fin 3 → ℕ}
    (hn : n 0 = (tileOf y).val / 9 ∧ n 1 = (tileOf y).val % 9 ∧ n 2 = 0) (a : Fin 3) :
    n a * (![1, 256, W] : Fin 3 → ℕ) a ≤ (y a).val ∧ (y a).val < n a * (![1, 256, W] : Fin 3 → ℕ) a + (![1, 256, W] : Fin 3 → ℕ) a := by
  obtain ⟨e0, e1, e2⟩ := hn
  have h0 : (y 0).val < 4 := (y 0).isLt
  have h1 : (y 1).val < 2304 := (y 1).isLt
  have h2 : (y 2).val < W := (y 2).isLt
  have ht : (tileOf y).val = 9 * (y 0).val + (y 1).val / 256 := rfl
  match a with
  | ⟨0, _⟩ => show n 0 * 1 ≤ (y 0).val ∧ (y 0).val < n 0 * 1 + 1; rw [e0]; omega
  | ⟨1, _⟩ => show n 1 * 256 ≤ (y 1).val ∧ (y 1).val < n 1 * 256 + 256; rw [e1]; omega
  | ⟨2, _⟩ => show n 2 * W ≤ (y 2).val ∧ (y 2).val < n 2 * W + W; rw [e2]; omega

/-- A block's index is a row and a lane. -/
theorem ix_form {B : ℕ} (y : (⟨3, ![1, 256, B]⟩ : Shape).Idx) : ∃ (r : Fin 256) (l : Fin B), y = ix3 0 r l :=
  ⟨y 1, y 2, funext fun a => by
    match a with
    | ⟨0, _⟩ => exact Fin.ext (by show (y 0).val = 0; have h : (y 0).val < 1 := (y 0).isLt; omega)
    | ⟨1, _⟩ => rfl
    | ⟨2, _⟩ => rfl⟩

variable (m : (ℓ : Loc nD τ sig) → Buf (Elt Ideal) ℓ) (c : Dev nD)

/-- The four branches, the array the gates lie in, and the output's gradient, as launched. -/
abbrev p0 : FVec Ideal S4x2304x1024 .bf16 := m ((c : Thread nD τ).loc main_arg0)
abbrev p1 : FVec Ideal S4x2304x1024 .bf16 := m ((c : Thread nD τ).loc main_arg1)
abbrev p2 : FVec Ideal S4x2304x1024 .bf16 := m ((c : Thread nD τ).loc main_arg2)
abbrev p3 : FVec Ideal S4x2304x1024 .bf16 := m ((c : Thread nD τ).loc main_arg3)
abbrev zA : FVec Ideal S4x2304x10240 .bf16 := m ((c : Thread nD τ).loc main_arg4)
abbrev uA : FVec Ideal S4x2304x1024 .f32 := m ((c : Thread nD τ).loc main_arg5)

/-! ## The blocks -/

variable {m c} (t : Fin cfg0.N)

theorem block0 (r : Fin 256) (l : Fin 1024) : (iblk m c 0 t : Vec Ideal S1x256x1024 .bf16) (ix3 0 r l) = p0 m c (ix3 (bat t.val) (tok t.val r) l) := by
  unfold iblk
  rw [View.read_apply]
  show V m c main_arg0 _ = m (c.tc.loc main_arg0) _
  unfold V
  exact congrArg (m (c.tc.loc main_arg0)) (tile_ix (lt_N t) l.isLt (index0 t) rfl rfl rfl)
theorem block1 (r : Fin 256) (l : Fin 1024) : (iblk m c 1 t : Vec Ideal S1x256x1024 .bf16) (ix3 0 r l) = p1 m c (ix3 (bat t.val) (tok t.val r) l) := by
  unfold iblk
  rw [View.read_apply]
  show V m c main_arg1 _ = m (c.tc.loc main_arg1) _
  unfold V
  exact congrArg (m (c.tc.loc main_arg1)) (tile_ix (lt_N t) l.isLt (index1 t) rfl rfl rfl)
theorem block2 (r : Fin 256) (l : Fin 1024) : (iblk m c 2 t : Vec Ideal S1x256x1024 .bf16) (ix3 0 r l) = p2 m c (ix3 (bat t.val) (tok t.val r) l) := by
  unfold iblk
  rw [View.read_apply]
  show V m c main_arg2 _ = m (c.tc.loc main_arg2) _
  unfold V
  exact congrArg (m (c.tc.loc main_arg2)) (tile_ix (lt_N t) l.isLt (index2 t) rfl rfl rfl)
theorem block3 (r : Fin 256) (l : Fin 1024) : (iblk m c 3 t : Vec Ideal S1x256x1024 .bf16) (ix3 0 r l) = p3 m c (ix3 (bat t.val) (tok t.val r) l) := by
  unfold iblk
  rw [View.read_apply]
  show V m c main_arg3 _ = m (c.tc.loc main_arg3) _
  unfold V
  exact congrArg (m (c.tc.loc main_arg3)) (tile_ix (lt_N t) l.isLt (index3 t) rfl rfl rfl)
theorem block5 (r : Fin 256) (l : Fin 1024) : (iblk m c 5 t : Vec Ideal S1x256x1024 .f32) (ix3 0 r l) = uA m c (ix3 (bat t.val) (tok t.val r) l) := by
  unfold iblk
  rw [View.read_apply]
  show V m c main_arg5 _ = m (c.tc.loc main_arg5) _
  unfold V
  exact congrArg (m (c.tc.loc main_arg5)) (tile_ix (lt_N t) l.isLt (index5 t) rfl rfl rfl)
theorem block4 (r : Fin 256) (l : Fin 4096) :
    (X0_4 m c t : Vec Ideal S1x256x4096 .bf16) (ix3 0 r l) = zA m c (ix3 (bat t.val) (tok t.val r) ⟨l.val, by omega⟩) := by
  unfold X0_4 Pipeline.Window.fill
  rw [dif_pos (moved0_4 t _)]
  unfold iblk
  rw [View.read_apply]
  show V m c main_arg4 _ = m (c.tc.loc main_arg4) _
  unfold V
  exact congrArg (m (c.tc.loc main_arg4)) (tile_ix (lt_N t) (lt_trans l.isLt (by decide)) (index4 t) rfl rfl rfl)

/-- The branches' blocks. -/
theorem parts_at (k : Fin 4) (r : Fin 256) (l : Fin 1024) :
    part (iblk m c 0 t) (iblk m c 1 t) (iblk m c 2 t) (iblk m c 3 t) k (ix3 0 r l)
      = branch (p0 m c) (p1 m c) (p2 m c) (p3 m c) k (ix3 (bat t.val) (tok t.val r) l) := by
  match k with
  | 0 => exact block0 t r l
  | 1 => exact block1 t r l
  | 2 => exact block2 t r l
  | 3 => exact block3 t r l

/-- A gate's block times the gradient's. -/
theorem tile_at (k : Fin 4) (r : Fin 256) (l : Fin 1024) :
    Ideal.logistic ((X0_4 m c t : Vec Ideal S1x256x4096 .bf16) (ix3 0 r (lane k l))) * (iblk m c 5 t : Vec Ideal S1x256x1024 .f32) (ix3 0 r l)
      = dArr (zA m c) (uA m c) k (ix3 (bat t.val) (tok t.val r) l) :=
  congrArg₂ (fun a b : EReal => Ideal.logistic a * b) (block4 t r (lane k l)) (block5 t r l)

/-! ## The arrays -/

variable (m c)

theorem final6 : (dats m 0 c).arrAt 6 cfg0.N = dArr (zA m c) (uA m c) 0 := by
  refine (dats m 0 c).arrAt_eq_of_cover 6 (dArr (zA m c) (uA m c) 0) (fun t _ => ?_) fun y => ⟨tileOf y, flush0_6 _, ?_⟩
  · rw [Value.flushed6_A]
    funext y
    rw [View.read_apply]
    obtain ⟨r, l, rfl⟩ := ix_form (B := 1024) y
    have e : (((cfg0.win 6).blk t).view.emb (ix3 0 r l) : S4x2304x1024.Idx) = ix3 (bat t.val) (tok t.val r) l :=
      tile_ix (lt_N t) l.isLt (index6 t) rfl rfl rfl
    exact ((out6 r l).trans (tile_at t 0 r l)).trans (congrArg (dArr (zA m c) (uA m c) 0) e.symm)
  · show y ∈ ((View.whole main_v0_0).slice (win0_6.rect (tileOf y))).set
    rw [View.set_slice_whole, Rect.mem_set_unit]
    exact tile_mem (W := 1024) y (index6 _)
theorem final7 : (dats m 0 c).arrAt 7 cfg0.N = dArr (zA m c) (uA m c) 1 := by
  refine (dats m 0 c).arrAt_eq_of_cover 7 (dArr (zA m c) (uA m c) 1) (fun t _ => ?_) fun y => ⟨tileOf y, flush0_7 _, ?_⟩
  · rw [Value.flushed7_A]
    funext y
    rw [View.read_apply]
    obtain ⟨r, l, rfl⟩ := ix_form (B := 1024) y
    have e : (((cfg0.win 7).blk t).view.emb (ix3 0 r l) : S4x2304x1024.Idx) = ix3 (bat t.val) (tok t.val r) l :=
      tile_ix (lt_N t) l.isLt (index7 t) rfl rfl rfl
    exact ((out7 r l).trans (tile_at t 1 r l)).trans (congrArg (dArr (zA m c) (uA m c) 1) e.symm)
  · show y ∈ ((View.whole main_v0_1).slice (win0_7.rect (tileOf y))).set
    rw [View.set_slice_whole, Rect.mem_set_unit]
    exact tile_mem (W := 1024) y (index7 _)
theorem final8 : (dats m 0 c).arrAt 8 cfg0.N = dArr (zA m c) (uA m c) 2 := by
  refine (dats m 0 c).arrAt_eq_of_cover 8 (dArr (zA m c) (uA m c) 2) (fun t _ => ?_) fun y => ⟨tileOf y, flush0_8 _, ?_⟩
  · rw [Value.flushed8_A]
    funext y
    rw [View.read_apply]
    obtain ⟨r, l, rfl⟩ := ix_form (B := 1024) y
    have e : (((cfg0.win 8).blk t).view.emb (ix3 0 r l) : S4x2304x1024.Idx) = ix3 (bat t.val) (tok t.val r) l :=
      tile_ix (lt_N t) l.isLt (index8 t) rfl rfl rfl
    exact ((out8 r l).trans (tile_at t 2 r l)).trans (congrArg (dArr (zA m c) (uA m c) 2) e.symm)
  · show y ∈ ((View.whole main_v0_2).slice (win0_8.rect (tileOf y))).set
    rw [View.set_slice_whole, Rect.mem_set_unit]
    exact tile_mem (W := 1024) y (index8 _)
theorem final9 : (dats m 0 c).arrAt 9 cfg0.N = dArr (zA m c) (uA m c) 3 := by
  refine (dats m 0 c).arrAt_eq_of_cover 9 (dArr (zA m c) (uA m c) 3) (fun t _ => ?_) fun y => ⟨tileOf y, flush0_9 _, ?_⟩
  · rw [Value.flushed9_A]
    funext y
    rw [View.read_apply]
    obtain ⟨r, l, rfl⟩ := ix_form (B := 1024) y
    have e : (((cfg0.win 9).blk t).view.emb (ix3 0 r l) : S4x2304x1024.Idx) = ix3 (bat t.val) (tok t.val r) l :=
      tile_ix (lt_N t) l.isLt (index9 t) rfl rfl rfl
    exact ((out9 r l).trans (tile_at t 3 r l)).trans (congrArg (dArr (zA m c) (uA m c) 3) e.symm)
  · show y ∈ ((View.whole main_v0_3).slice (win0_9.rect (tileOf y))).set
    rw [View.set_slice_whole, Rect.mem_set_unit]
    exact tile_mem (W := 1024) y (index9 _)
theorem final10 : (dats m 0 c).arrAt 10 cfg0.N = gArr (p0 m c) (p1 m c) (p2 m c) (p3 m c) (zA m c) (uA m c) := by
  refine (dats m 0 c).arrAt_eq_of_cover 10 (gArr (p0 m c) (p1 m c) (p2 m c) (p3 m c) (zA m c) (uA m c)) (fun t _ => ?_) fun y => ⟨tileOf y, flush0_10 _, ?_⟩
  · rw [Value.flushed10_A, out10]
    funext y
    rw [View.read_apply]
    obtain ⟨r, l, rfl⟩ := ix_form (B := 4096) y
    have e : (((cfg0.win 10).blk t).view.emb (ix3 0 r l) : S4x2304x4096.Idx) = ix3 (bat t.val) (tok t.val r) l :=
      tile_ix (lt_N t) l.isLt (index10 t) rfl rfl rfl
    refine Eq.trans ?_ (congrArg (gArr (p0 m c) (p1 m c) (p2 m c) (p3 m c) (zA m c) (uA m c)) e.symm)
    show dgates (iblk m c 0 t) (iblk m c 1 t) (iblk m c 2 t) (iblk m c 3 t) (X0_4 m c t) (iblk m c 5 t) (ix3 0 r l) = _
    exact congrArg₂ (· * ·) (congrArg₂ (· * ·) (block5 t r _) (parts_at t _ r _)) (congrArg (fun a => slope (Ideal.logistic a)) (block4 t r l))
  · show y ∈ ((View.whole main_v0_4).slice (win0_10.rect (tileOf y))).set
    rw [View.set_slice_whole, Rect.mem_set_unit]
    exact tile_mem (W := 4096) y (index10 _)

end Cert.MergeBIdeal.Whole

namespace Cert.MergeBRefIdeal.Whole

open Idealize.ShloMosaic Idealize.ShloMosaic.TcCoe Idealize.SL.Sem

/-- The reference's frame: its run without its results; it declares no semaphore. -/
theorem frame : Cert.quiescent_MergeBRefIdeal := fun m g _ =>
  (θ_run Cert.MergeBRefIdeal.defs _ _).mono (fun r h => ⟨fun c => (h c).2.2.2.2.2, sem_eq_zero_of_no_sems (by decide) r.2⟩)
    (Cert.MergeBRefIdeal.Value.run m g)

end Cert.MergeBRefIdeal.Whole

namespace Cert.MergeB

open Idealize.ShloMosaic Idealize.ShloMosaic.TcCoe Idealize.SL.Sem
open Cert.MergeBIdeal.Whole Cert.MergeBRefIdeal.Whole Cert.MergeBRefIdeal.Read

/-- The kernel and the reference end with equal results. -/
theorem algebraic : Cert.algebraic_MergeBIdeal_MergeBRefIdeal := by
  intro m g m' g' hP hagree
  refine ⟨fun c => dArr (zA m c) (uA m c) 0, fun c => dArr (zA m c) (uA m c) 1, fun c => dArr (zA m c) (uA m c) 2,
    fun c => dArr (zA m c) (uA m c) 3, fun c => gArr (p0 m c) (p1 m c) (p2 m c) (p3 m c) (zA m c) (uA m c), ?_, ?_⟩
  · refine (θ_run Cert.MergeBIdeal.defs _ _).mono (fun r h c => ?_) (Cert.MergeBIdeal.Value.run_blocks m g)
    obtain ⟨h6, h7, h8, h9, h10, h⟩ := h c
    exact ⟨h6.trans (final6 m c), h7.trans (final7 m c), h8.trans (final8 m c), h9.trans (final9 m c), h10.trans (final10 m c), h⟩
  · refine (θ_run Cert.MergeBRefIdeal.defs _ _).mono (fun r h c => ?_) (Cert.MergeBRefIdeal.Value.run m' g')
    obtain ⟨h0, h1, h2, h3, h4, h⟩ := h c
    obtain ⟨a0, a1, a2, a3, a4, a5⟩ := hagree c
    refine ⟨?_, ?_, ?_, ?_, ?_, h⟩
    · exact (h0.trans (val_main_v54_eq _ _)).trans (by rw [a4, a5]; exact result0 _ _)
    · exact (h1.trans (val_main_v55_eq _ _)).trans (by rw [a4, a5]; exact result1 _ _)
    · exact (h2.trans (val_main_v56_eq _ _)).trans (by rw [a4, a5]; exact result2 _ _)
    · exact (h3.trans (val_main_v57_eq _ _)).trans (by rw [a4, a5]; exact result3 _ _)
    · exact (h4.trans (val_main_v58_eq _ _ _ _ _ _)).trans (by rw [a0, a1, a2, a3, a4, a5]; exact result4 _ _ _ _ _ _)

end Cert.MergeB

end
-- ==== Proof.ShortRows.lean ====
/- The short convolution along a sequence, column by column: a row's two neighbours, none across the edge of the first 256 rows. -/
module

public import Idealize.ShloMosaic.Lib.Pointwise
public import Mathlib.Data.EReal.Operations

@[expose] public section

noncomputable section

open scoped BigOperators

namespace Cert.Short

/-- The row before, and zero at the start of a part. -/
def prev (f : ℕ → EReal) (t : ℕ) : EReal := if t = 0 ∨ t = 256 then 0 else f (t - 1)

/-- The row after, and zero at the end of a part. -/
def next (f : ℕ → EReal) (t : ℕ) : EReal := if t = 255 ∨ t = 2303 then 0 else f (t + 1)

/-- The convolution's three taps. -/
def tap (k : Fin 3) (f : ℕ → EReal) : ℕ → EReal := match k with
  | 0 => prev f
  | 1 => f
  | 2 => next f

/-- The convolution of a column. -/
def conv (w : Fin 3 → EReal) (u : ℕ → EReal) (t : ℕ) : EReal := w 0 * prev u t + w 1 * u t + w 2 * next u t

/-- Its transpose: what the convolution's gradient `g` leaves at a row. -/
def back (w : Fin 3 → EReal) (g : ℕ → EReal) (t : ℕ) : EReal :=
  prev (fun s => w 2 * g s) t + w 1 * g t + next (fun s => w 0 * g s) t

/-- The product of two columns. -/
def times (f g : ℕ → EReal) (t : ℕ) : EReal := f t * g t

/-- The gradient by tap `k`'s weight, from one sequence. -/
def weight (k : Fin 3) (g u : ℕ → EReal) : EReal := ∑ t ∈ Finset.range 2304, g t * tap k u t

/-- All rows are the first 256 and the further 2048. -/
theorem sum_parts (f : ℕ → EReal) :
    ∑ t ∈ Finset.range 2304, f t = ∑ n : Fin 2048, f (256 + n.val) + ∑ n : Fin 256, f n.val := by
  rw [show 2304 = 256 + 2048 from rfl, Finset.sum_range_add, Finset.sum_range, Finset.sum_range, add_comm]

end Cert.Short

end
-- ==== Proof.ShortBlock.lean ====
/- What one run of the short convolution's backward body leaves in its four output blocks, at an index. -/
module

public import proofs.«01_k».proof.Defs
public import proofs.«01_k».proof.Proof.ShortRows
public import proofs.«01_k».proof.Proof.Gen.ShortBIdeal.Value
public import Idealize.ShloMosaic.Lib.Pointwise
public import Idealize.ShloMosaic.Lib.KernelVsHost
public import Idealize.ShloMosaic.Lib.Tactic
public import Idealize.ShloMosaic.Lib.WordCmp
public import Idealize.ShloMosaic.Lib.Pipeline.ValueKit.Tiles

@[expose] public section

set_option maxRecDepth 16384

noncomputable section

open scoped BigOperators

namespace Cert.ShortBIdeal.Whole

open Cert.ShortBIdeal Cert.ShortBIdeal.Gen Cert.Short
open Idealize.ShloMosaic Idealize.ShloMosaic.TcCoe Idealize.SL.Sem

theorem hz3 : (![0, 0, 0] : Fin 3 → Nat) = fun _ => 0 := funext fun a => by fin_cases a <;> rfl
theorem hz2 : (![0, 0] : Fin 2 → Nat) = fun _ => 0 := funext fun a => by fin_cases a <;> rfl

/-- Dropping a block's unit axis. -/
theorem drop_at {α : Type} (X : S1x2304x128.Idx → α) (h : S1x2304x128.ShapeCasts S2304x128) (r : Fin 2304) (l : Fin 128) :
    shapeCast S2304x128 X h (ix2 r l) = X (ix3 0 r l) :=
  (shapeCast_dropUnit_apply ![2304, 128] X h (ix2 r l)).trans (congrArg X (funext fun a => by
    match a with
    | ⟨0, _⟩ => rfl
    | ⟨1, _⟩ => rfl
    | ⟨2, _⟩ => rfl))

/-- Adding it back. -/
theorem add_at {α : Type} (X : S2304x128.Idx → α) (h : S2304x128.ShapeCasts S1x2304x128) (r : Fin 2304) (l : Fin 128) :
    shapeCast S1x2304x128 X h (ix3 0 r l) = X (ix2 r l) :=
  (shapeCast_addUnit_apply ![2304, 128] X h (ix3 0 r l)).trans (congrArg X (funext fun a => by
    match a with
    | ⟨0, _⟩ => rfl
    | ⟨1, _⟩ => rfl))

/-- Row `t` of the sequence. -/
def row (t : ℕ) : Fin 2304 := ⟨t % 2304, Nat.mod_lt _ (by decide)⟩

theorem row_val (r : Fin 2304) : row r.val = r := Fin.ext (Nat.mod_eq_of_lt r.isLt)

/-- A column of an array, and of a block. -/
def col (X : S2304x128.Idx → EReal) (l : Fin 128) (t : ℕ) : EReal := X (ix2 (row t) l)
def bcol (X : S1x2304x128.Idx → EReal) (l : Fin 128) (t : ℕ) : EReal := X (ix3 0 (row t) l)
/-- A column of the weights' block. -/
def taps (W : S3x128.Idx → EReal) (l : Fin 128) (k : Fin 3) : EReal := W (ix2 k l)

theorem col_at (X : S2304x128.Idx → EReal) (r : Fin 2304) (l : Fin 128) : X (ix2 r l) = col X l r.val := by
  unfold col; rw [row_val]

/-- Whether a row is one of two given ones. -/
theorem edge_at (p q : ℕ) (hp : p < 2304) (hq : q < 2304) (h : S2304x128.Iotas .tc 32 [0]) (r : Fin 2304) (l : Fin 128) :
    ori (cmpi .eq (iota .tc S2304x128 32 [0] h) (broadcast S2304x128 (BitVec.ofNat 32 p)))
      (cmpi .eq (iota .tc S2304x128 32 [0] h) (broadcast S2304x128 (BitVec.ofNat 32 q))) (ix2 r l)
      = BitVec.ofBool (decide (r.val = p ∨ r.val = q)) := by
  have hr := r.isLt
  show IntOp.ori (IntOp.cmpi .eq (iota .tc S2304x128 32 [0] h (ix2 r l)) (BitVec.ofNat 32 p))
    (IntOp.cmpi .eq (iota .tc S2304x128 32 [0] h (ix2 r l)) (BitVec.ofNat 32 q)) = _
  rw [iota_single_apply]
  show IntOp.ori (IntOp.cmpi .eq (BitVec.ofNat 32 r.val) (BitVec.ofNat 32 p)) (IntOp.cmpi .eq (BitVec.ofNat 32 r.val) (BitVec.ofNat 32 q)) = _
  rw [WordCmp.cmpi_eq_ofNat (by omega) (by omega), WordCmp.cmpi_eq_ofNat (by omega) (by omega), WordCmp.ori_ofBool]
  exact congrArg BitVec.ofBool (by simp [Bool.decide_or])

/-- A value kept off two rows. -/
theorem keep_at (p q : ℕ) (c : IVec S2304x128 1) (r : Fin 2304) (l : Fin 128) (hc : c (ix2 r l) = BitVec.ofBool (decide (r.val = p ∨ r.val = q)))
    (X : FVec Ideal S2304x128 .f32) :
    (select c (broadcast S2304x128 (Scalar.ofBits (F := Ideal) .f32 0x00000000#32)) X (ix2 r l) : EReal) = if r.val = p ∨ r.val = q then 0 else X (ix2 r l) := by
  show Scalar.select (c (ix2 r l)) (Scalar.ofBits (F := Ideal) .f32 0x00000000#32) (X (ix2 r l)) = _
  rw [hc]
  by_cases h : r.val = p ∨ r.val = q
  · rw [if_pos h, decide_eq_true h]
    exact Ideal.ofBits_zero_f32
  · rw [if_neg h, decide_eq_false h]
    rfl

/-- Rows moved down by one. -/
theorem down_at (X : FVec Ideal S2304x128 .f32) (h : S2304x128.Iotas .tc 32 [0]) (hr : S2304x128.Rotates 0 none) (r : Fin 2304) (l : Fin 128) :
    (select (ori (cmpi .eq (iota .tc S2304x128 32 [0] h) (broadcast S2304x128 0#32)) (cmpi .eq (iota .tc S2304x128 32 [0] h) (broadcast S2304x128 256#32)))
      (broadcast S2304x128 (Scalar.ofBits (F := Ideal) .f32 0x00000000#32)) (dynamicRotate 0 1#32 none X hr) (ix2 r l) : EReal) = prev (col X l) r.val := by
  refine (keep_at 0 256 _ r l (edge_at 0 256 (by decide) (by decide) h r l) _).trans ?_
  unfold prev
  by_cases hc : r.val = 0 ∨ r.val = 256
  · rw [if_pos hc, if_pos hc]
  · rw [if_neg hc, if_neg hc]
    refine dynamicRotate_apply 0 1#32 X hr (ix2 r l) (ix2 (row (r.val - 1)) l) fun b => ?_
    have hlt := r.isLt
    match b with
    | ⟨0, _⟩ => show (r.val - 1) % 2304 = (r.val + 2304 - 1 % 2304) % 2304; omega
    | ⟨1, _⟩ => rfl

/-- Rows moved up by one. -/
theorem up_at (X : FVec Ideal S2304x128 .f32) (h : S2304x128.Iotas .tc 32 [0]) (hr : S2304x128.Rotates 0 none) (r : Fin 2304) (l : Fin 128) :
    (select (ori (cmpi .eq (iota .tc S2304x128 32 [0] h) (broadcast S2304x128 255#32)) (cmpi .eq (iota .tc S2304x128 32 [0] h) (broadcast S2304x128 2303#32)))
      (broadcast S2304x128 (Scalar.ofBits (F := Ideal) .f32 0x00000000#32)) (dynamicRotate 0 2303#32 none X hr) (ix2 r l) : EReal) = next (col X l) r.val := by
  refine (keep_at 255 2303 _ r l (edge_at 255 2303 (by decide) (by decide) h r l) _).trans ?_
  unfold next
  by_cases hc : r.val = 255 ∨ r.val = 2303
  · rw [if_pos hc, if_pos hc]
  · rw [if_neg hc, if_neg hc]
    refine dynamicRotate_apply 0 2303#32 X hr (ix2 r l) (ix2 (row (r.val + 1)) l) fun b => ?_
    have hlt := r.isLt
    match b with
    | ⟨0, _⟩ => show (r.val + 1) % 2304 = (r.val + 2304 - 2303 % 2304) % 2304; omega
    | ⟨1, _⟩ => rfl

/-- A row of weights, over all rows. -/
theorem spread_at (w : FVec Ideal S1x128 .f32) (h : S1x128.Broadcasts S2304x128) (r : Fin 2304) (l : Fin 128) :
    broadcastTo S2304x128 w h (ix2 r l) = w (ix2 0 l) :=
  broadcastTo_apply w h _ _ fun a => by
    match a with
    | ⟨0, _⟩ => rfl
    | ⟨1, _⟩ => rfl

/-- A column's sum. -/
theorem total_at (X : FVec Ideal S2304x128 .f32) (h : Shape.Reduces S2304x128 [0] S128) (hc : S128.ShapeCasts S1x128) (l : Fin 128) :
    (shapeCast S1x128 (multiReduction .add [0] S128 X 0x00000000#32 h (.inl rfl) rfl) hc (ix2 0 l) : EReal) = ∑ t ∈ Finset.range 2304, col X l t := by
  have e : (shapeCast S1x128 (multiReduction .add [0] S128 X 0x00000000#32 h (.inl rfl) rfl : FVec Ideal S128 .f32) hc : FVec Ideal S1x128 .f32) (ix2 0 l)
      = multiReduction .add [0] S128 X 0x00000000#32 h (.inl rfl) rfl (ix1 l) := shapeCast_apply _ _ _ _ (by
        rw [Shape.rowMajor_val_two, Shape.rowMajor_val_one]; exact (Nat.zero_add _).symm)
  refine e.trans ((Ideal.multiReduction_add_single _ _ _ _ _ _).trans ?_)
  rw [Finset.sum_range]
  refine Finset.sum_congr rfl fun t _ => ?_
  refine (congrArg X (?_ : h.lift (ix1 l) t = ix2 t l)).trans (col_at X t l)
  funext a; apply Fin.ext
  match a with
  | ⟨0, _⟩ => rfl
  | ⟨1, _⟩ => rfl

section Pay
variable (b c x : Vec Ideal S1x2304x128 .bf16) (w : Vec Ideal S3x128 .f32) (d : Vec Ideal S1x2304x128 .f32) (r : Fin 2304) (l : Fin 128)

theorem gate_at : (k0_pay7 b (ix2 r l) : EReal) = bcol b l r.val := by
  unfold k0_pay7 bcol; rw [row_val]; exact drop_at b _ r l
theorem up_gate_at : (k0_pay8 c (ix2 r l) : EReal) = bcol c l r.val := by
  unfold k0_pay8 bcol; rw [row_val]; exact drop_at c _ r l
theorem x_at : (k0_pay9 x (ix2 r l) : EReal) = bcol x l r.val := by
  unfold k0_pay9 bcol; rw [row_val]; exact drop_at x _ r l
theorem ct_at : (k0_pay18 d (ix2 r l) : EReal) = bcol d l r.val := by
  unfold k0_pay18 bcol; rw [row_val]; exact drop_at d _ r l

theorem bcol_row {X : S1x2304x128.Idx → EReal} {t : ℕ} : bcol X l (row t).val = bcol X l t := by
  unfold bcol row; simp only [Nat.mod_mod]

/-- The convolution's input. -/
theorem col_u : col (k0_pay10 c x) l = times (bcol c l) (bcol x l) := funext fun t => by
  unfold col k0_pay10 times
  exact congrArg₂ (fun p q : EReal => p * q) ((up_gate_at c (row t) l).trans (bcol_row l)) ((x_at x (row t) l).trans (bcol_row l))

/-- The convolution's gradient. -/
theorem col_g : col (k0_pay19 (k0_pay7 b) d) l = times (bcol b l) (bcol d l) := funext fun t => by
  unfold col k0_pay19 times
  exact congrArg₂ (fun p q : EReal => p * q) ((gate_at b (row t) l).trans (bcol_row l)) ((ct_at d (row t) l).trans (bcol_row l))

theorem w0_at : (k0_pay11 w (ix2 0 l) : EReal) = taps w l 0 := by
  unfold k0_pay11
  exact extractStridedSlice_apply ![0, 0] w slices_S3x128_o0_0_S1x128 (ix2 0 l : S1x128.Idx) (ix2 0 l : S3x128.Idx) fun a => by
    match a with
    | ⟨0, _⟩ => rfl
    | ⟨1, _⟩ => exact (Nat.zero_add _).symm
theorem w1_at : (k0_pay13 w (ix2 0 l) : EReal) = taps w l 1 := by
  unfold k0_pay13
  exact extractStridedSlice_apply ![1, 0] w slices_S3x128_o1_0_S1x128 (ix2 0 l : S1x128.Idx) (ix2 1 l : S3x128.Idx) fun a => by
    match a with
    | ⟨0, _⟩ => rfl
    | ⟨1, _⟩ => exact (Nat.zero_add _).symm
theorem w2_at : (k0_pay15 w (ix2 0 l) : EReal) = taps w l 2 := by
  unfold k0_pay15
  exact extractStridedSlice_apply ![2, 0] w slices_S3x128_o2_0_S1x128 (ix2 0 l : S1x128.Idx) (ix2 2 l : S3x128.Idx) fun a => by
    match a with
    | ⟨0, _⟩ => rfl
    | ⟨1, _⟩ => exact (Nat.zero_add _).symm

theorem prev_at : (k0_pay12 c x (ix2 r l) : EReal) = prev (times (bcol c l) (bcol x l)) r.val := by
  unfold k0_pay12
  exact (down_at (k0_pay10 c x) _ _ r l).trans (by rw [col_u])
theorem next_at : (k0_pay16 c x (ix2 r l) : EReal) = next (times (bcol c l) (bcol x l)) r.val := by
  unfold k0_pay16
  exact (up_at (k0_pay10 c x) _ _ r l).trans (by rw [col_u])

/-- The gradient by the gate after the convolution. -/
theorem db_at : (k0_pay3 (k0_pay20 (k0_pay14 c x w) (k0_pay17 c x w) d) (ix3 0 r l) : EReal) =
    bcol d l r.val * conv (taps w l) (times (bcol c l) (bcol x l)) r.val := by
  unfold k0_pay3 k0_pay20 k0_pay14 k0_pay17
  refine (add_at _ _ r l).trans ?_
  refine congrArg₂ (fun p q : EReal => p * q) (ct_at d r l) ?_
  refine congrArg₂ (fun p q : EReal => p + q) (congrArg₂ (fun p q : EReal => p + q) ?_ ?_) ?_
  · exact congrArg₂ (fun p q : EReal => p * q) ((spread_at _ _ r l).trans (w0_at w l)) (prev_at c x r l)
  · exact congrArg₂ (fun p q : EReal => p * q) ((spread_at _ _ r l).trans (w1_at w l)) ((col_at (k0_pay10 c x) r l).trans (congrFun (col_u c x l) _))
  · exact congrArg₂ (fun p q : EReal => p * q) ((spread_at _ _ r l).trans (w2_at w l)) (next_at c x r l)

/-- A weight times the convolution's gradient. -/
theorem col_wg (v : FVec Ideal S1x128 .f32) (k : Fin 3) (hv : v (ix2 0 l) = taps w l k) (h : S1x128.Broadcasts S2304x128) :
    col (mulf (broadcastTo S2304x128 v h) (k0_pay19 (k0_pay7 b) d)) l = fun s => taps w l k * times (bcol b l) (bcol d l) s := funext fun t => by
  unfold col
  exact congrArg₂ (fun p q : EReal => p * q) ((spread_at v h (row t) l).trans hv)
    (show col (k0_pay19 (k0_pay7 b) d) l t = _ from congrFun (col_g b d l) t)

/-- The gradient by the convolution's input. -/
theorem du_at : (k0_pay1 (k0_pay21 (k0_pay7 b) (k0_pay13 w) (k0_pay15 w) d) k0_pay24 (k0_pay25 (k0_pay7 b) (k0_pay11 w) d)
      (Scalar.ofBits (F := Ideal) .f32 0x00000000#32) (ix2 r l) : EReal) = back (taps w l) (times (bcol b l) (bcol d l)) r.val := by
  unfold k0_pay1 k0_pay21 k0_pay24 k0_pay25
  refine congrArg₂ (fun p q : EReal => p + q) (congrArg₂ (fun p q : EReal => p + q) ?_ ?_) ?_
  · exact (down_at _ _ _ r l).trans (by rw [col_wg b w d l _ 2 (w2_at w l)])
  · exact congrArg₂ (fun p q : EReal => p * q) ((spread_at _ _ r l).trans (w1_at w l))
      ((col_at (k0_pay19 (k0_pay7 b) d) r l).trans (congrFun (col_g b d l) _))
  · exact (up_at _ _ _ r l).trans (by rw [col_wg b w d l _ 0 (w0_at w l)])

/-- The gradient by the second input. -/
theorem dc_at : (k0_pay4 (k0_pay9 x) (k0_pay21 (k0_pay7 b) (k0_pay13 w) (k0_pay15 w) d) k0_pay24 (k0_pay25 (k0_pay7 b) (k0_pay11 w) d)
      (Scalar.ofBits (F := Ideal) .f32 0x00000000#32) (ix3 0 r l) : EReal) = back (taps w l) (times (bcol b l) (bcol d l)) r.val * bcol x l r.val := by
  unfold k0_pay4
  refine (add_at _ _ r l).trans ?_
  exact congrArg₂ (fun p q : EReal => p * q) (du_at b w d r l) (x_at x r l)

/-- The gradient by the third input. -/
theorem dx_at : (k0_pay5 (k0_pay8 c) (k0_pay21 (k0_pay7 b) (k0_pay13 w) (k0_pay15 w) d) k0_pay24 (k0_pay25 (k0_pay7 b) (k0_pay11 w) d)
      (Scalar.ofBits (F := Ideal) .f32 0x00000000#32) (ix3 0 r l) : EReal) = bcol c l r.val * back (taps w l) (times (bcol b l) (bcol d l)) r.val := by
  unfold k0_pay5
  refine (add_at _ _ r l).trans ?_
  exact congrArg₂ (fun p q : EReal => p * q) (up_gate_at c r l) (du_at b w d r l)

/-- The sum of a column times the convolution's gradient. -/
theorem weight_at (k : Fin 3) (X : FVec Ideal S2304x128 .f32) (hX : ∀ r : Fin 2304, (X (ix2 r l) : EReal) = tap k (times (bcol c l) (bcol x l)) r.val)
    (h : Shape.Reduces S2304x128 [0] S128) (hc : S128.ShapeCasts S1x128) :
    (shapeCast S1x128 (multiReduction .add [0] S128 (mulf (k0_pay19 (k0_pay7 b) d) X) 0x00000000#32 h (.inl rfl) rfl) hc (ix2 0 l) : EReal)
      = weight k (times (bcol b l) (bcol d l)) (times (bcol c l) (bcol x l)) := by
  refine (total_at _ h hc l).trans (Finset.sum_congr rfl fun t ht => ?_)
  have ht : t < 2304 := Finset.mem_range.mp ht
  have e : (row t).val = t := Nat.mod_eq_of_lt ht
  exact congrArg₂ (fun p q : EReal => p * q) (show col (k0_pay19 (k0_pay7 b) d) l t = _ from congrFun (col_g b d l) t)
    ((hX (row t)).trans (by rw [e]))

/-- A row below two, and a row above two. -/
theorem below_at (Z : FVec Ideal S2x128 .f32) (A : FVec Ideal S1x128 .f32) (h : Shape.Concatenates [S2x128, S1x128] S3x128 0) (l : Fin 128) :
    concatenate S3x128 0 [⟨S2x128, Z⟩, ⟨S1x128, A⟩] h (ix2 0 l) = Z (ix2 0 l) ∧ concatenate S3x128 0 [⟨S2x128, Z⟩, ⟨S1x128, A⟩] h (ix2 1 l) = Z (ix2 1 l)
      ∧ concatenate S3x128 0 [⟨S2x128, Z⟩, ⟨S1x128, A⟩] h (ix2 2 l) = A (ix2 0 l) :=
  ⟨concatenate_pair_apply_left 0 Z A h (ix2 0 l) rfl (ix2 0 l) fun b => by
      match b with
      | ⟨0, _⟩ => rfl
      | ⟨1, _⟩ => rfl,
    concatenate_pair_apply_left 0 Z A h (ix2 1 l) rfl (ix2 1 l) fun b => by
      match b with
      | ⟨0, _⟩ => rfl
      | ⟨1, _⟩ => rfl,
    concatenate_pair_apply_right 0 Z A h (ix2 2 l) rfl rfl (ix2 0 l) (fun b hb => by
      match b with
      | ⟨0, _⟩ => exact absurd rfl hb
      | ⟨1, _⟩ => rfl) rfl⟩
theorem above_at (A : FVec Ideal S1x128 .f32) (Z : FVec Ideal S2x128 .f32) (h : Shape.Concatenates [S1x128, S2x128] S3x128 0) (l : Fin 128) :
    concatenate S3x128 0 [⟨S1x128, A⟩, ⟨S2x128, Z⟩] h (ix2 0 l) = A (ix2 0 l) ∧ concatenate S3x128 0 [⟨S1x128, A⟩, ⟨S2x128, Z⟩] h (ix2 1 l) = Z (ix2 0 l)
      ∧ concatenate S3x128 0 [⟨S1x128, A⟩, ⟨S2x128, Z⟩] h (ix2 2 l) = Z (ix2 1 l) :=
  ⟨concatenate_pair_apply_left 0 A Z h (ix2 0 l) rfl (ix2 0 l) fun b => by
      match b with
      | ⟨0, _⟩ => rfl
      | ⟨1, _⟩ => rfl,
    concatenate_pair_apply_right 0 A Z h (ix2 1 l) rfl rfl (ix2 0 l) (fun b hb => by
      match b with
      | ⟨0, _⟩ => exact absurd rfl hb
      | ⟨1, _⟩ => rfl) rfl,
    concatenate_pair_apply_right 0 A Z h (ix2 2 l) rfl rfl (ix2 1 l) (fun b hb => by
      match b with
      | ⟨0, _⟩ => exact absurd rfl hb
      | ⟨1, _⟩ => rfl) rfl⟩
theorem two_at (A B : FVec Ideal S1x128 .f32) (h : Shape.Concatenates [S1x128, S1x128] S2x128 0) (l : Fin 128) :
    concatenate S2x128 0 [⟨S1x128, A⟩, ⟨S1x128, B⟩] h (ix2 0 l) = A (ix2 0 l) ∧ concatenate S2x128 0 [⟨S1x128, A⟩, ⟨S1x128, B⟩] h (ix2 1 l) = B (ix2 0 l) :=
  ⟨concatenate_pair_apply_left 0 A B h (ix2 0 l) rfl (ix2 0 l) fun b => by
      match b with
      | ⟨0, _⟩ => rfl
      | ⟨1, _⟩ => rfl,
    concatenate_pair_apply_right 0 A B h (ix2 1 l) rfl rfl (ix2 0 l) (fun b hb => by
      match b with
      | ⟨0, _⟩ => exact absurd rfl hb
      | ⟨1, _⟩ => rfl) rfl⟩

/-- Three rows, each put in its place among zeros. -/
theorem rows_at (A0 A1 A2 : FVec Ideal S1x128 .f32) (z : Ideal .f32) (hz : (z : EReal) = 0) (k : Fin 3) (l : Fin 128) :
    (addf (addf (concatenate S3x128 0 [⟨S2x128, (broadcast S2x128 z : FVec Ideal S2x128 .f32)⟩, ⟨S1x128, A2⟩] concatenates_S2x128_S1x128_S3x128_d0 : FVec Ideal S3x128 .f32)
      (concatenate S3x128 0 [⟨S2x128, (concatenate S2x128 0 [⟨S1x128, (broadcast S1x128 z : FVec Ideal S1x128 .f32)⟩, ⟨S1x128, A1⟩] concatenates_S1x128_S1x128_S2x128_d0 : FVec Ideal S2x128 .f32)⟩,
        ⟨S1x128, (broadcast S1x128 z : FVec Ideal S1x128 .f32)⟩] concatenates_S2x128_S1x128_S3x128_d0))
      (concatenate S3x128 0 [⟨S1x128, A0⟩, ⟨S2x128, (broadcast S2x128 z : FVec Ideal S2x128 .f32)⟩] concatenates_S1x128_S2x128_S3x128_d0) (ix2 k l) : EReal)
      = (match k with | 0 => A0 | 1 => A1 | 2 => A2) (ix2 0 l) := by
  have hz2 (i : S2x128.Idx) : ((broadcast S2x128 z : FVec Ideal S2x128 .f32) i : EReal) = 0 := hz
  have hz1 (i : S1x128.Idx) : ((broadcast S1x128 z : FVec Ideal S1x128 .f32) i : EReal) = 0 := hz
  generalize (broadcast S2x128 z : FVec Ideal S2x128 .f32) = Z2 at hz2 ⊢
  generalize (broadcast S1x128 z : FVec Ideal S1x128 .f32) = Z1 at hz1 ⊢
  obtain ⟨t0, t1⟩ := two_at Z1 A1 concatenates_S1x128_S1x128_S2x128_d0 l
  generalize (concatenate S2x128 0 [⟨S1x128, Z1⟩, ⟨S1x128, A1⟩] concatenates_S1x128_S1x128_S2x128_d0 : FVec Ideal S2x128 .f32) = T at t0 t1 ⊢
  obtain ⟨p0, p1, p2⟩ := below_at Z2 A2 concatenates_S2x128_S1x128_S3x128_d0 l
  obtain ⟨q0, q1, q2⟩ := below_at T Z1 concatenates_S2x128_S1x128_S3x128_d0 l
  obtain ⟨r0, r1, r2⟩ := above_at A0 Z2 concatenates_S1x128_S2x128_S3x128_d0 l
  show _ + _ + _ = _
  match k with
  | 0 => rw [p0, q0, r0, t0, hz2, hz1, zero_add, zero_add]
  | 1 => rw [p1, q1, r1, t1, hz2, hz2, zero_add, add_zero]
  | 2 => rw [p2, q2, r2, hz2, hz1, add_zero, add_zero]

/-- The three rows of the weights' gradient, from one sequence. -/
theorem dw_at (k : Fin 3) :
    (k0_pay2 (k0_pay22 (k0_pay7 b) (k0_pay10 c x) (k0_pay16 c x) d) (k0_pay23 (k0_pay7 b) (k0_pay12 c x) d) (ix2 k l) : EReal)
      = weight k (times (bcol b l) (bcol d l)) (times (bcol c l) (bcol x l)) := by
  unfold k0_pay2 k0_pay22 k0_pay23
  refine (rows_at _ _ _ _ Ideal.ofBits_zero_f32 k l).trans ?_
  match k with
  | 0 => exact weight_at b c x d l 0 (k0_pay12 c x) (fun r => prev_at c x r l) reduces_S2304x128_S128 shapeCasts_S128_S1x128
  | 1 => exact weight_at b c x d l 1 (k0_pay10 c x) (fun r => (col_at (k0_pay10 c x) r l).trans (congrFun (col_u c x l) _)) reduces_S2304x128_S128 shapeCasts_S128_S1x128
  | 2 => exact weight_at b c x d l 2 (k0_pay16 c x) (fun r => next_at c x r l) reduces_S2304x128_S128 shapeCasts_S128_S1x128

end Pay

section Run
variable {c : Dev nD} {i : grid0.Coords}
  {a2 : Memref sig .tc .vmem S1x2304x128 .bf16} {h2 : a2.IsWhole} {a3 : Memref sig .tc .vmem S1x2304x128 .bf16} {h3 : a3.IsWhole}
  {a4 : Memref sig .tc .vmem S1x2304x128 .bf16} {h4 : a4.IsWhole} {a5 : Memref sig .tc .vmem S3x128 .f32} {h5 : a5.IsWhole}
  {a6 : Memref sig .tc .vmem S1x2304x128 .f32} {h6 : a6.IsWhole} {a7 : Memref sig .tc .vmem S1x2304x128 .bf16} {h7 : a7.IsWhole}
  {a8 : Memref sig .tc .vmem S1x2304x128 .bf16} {h8 : a8.IsWhole} {a9 : Memref sig .tc .vmem S1x2304x128 .bf16} {h9 : a9.IsWhole}
  {a10 : Memref sig .tc .vmem S3x128 .f32} {h10 : a10.IsWhole}
  {hA0 : cond0_0 i} {hA1 : ¬cond0_1 i} {hB0 : ¬cond0_0 i} {hB1 : cond0_1 i}
  {x0 x1 x2 : Vec Ideal S1x2304x128 .bf16} {x3 : Vec Ideal S3x128 .f32} {x4 : Vec Ideal S1x2304x128 .f32} {xo : Vec Ideal S3x128 .f32}

/-- What a point leaves: the three gradients' blocks, and the weights' gradient, which further sequences add to. -/
theorem out5_A (r : Fin 2304) (l : Fin 128) :
    (out0_A_5 c i a2 h2 a3 h3 a4 h4 a5 h5 a6 h6 a7 h7 a8 h8 a9 h9 a10 h10 hA0 hA1 x0 x1 x2 x3 x4 (ix3 0 r l) : EReal) = bcol x4 l r.val * conv (taps x3 l) (times (bcol x1 l) (bcol x2 l)) r.val := by
  unfold out0_A_5
  rw [View.read_writes_eq_canon _ _ _ (cover0_A_5 c i a2 h2 a3 h3 a4 h4 a5 h5 a6 h6 a7 h7 a8 h8 a9 h9 a10 h10 hA0 hA1 x0 x1 x2 x3 x4)]
  unfold kernelRun0_A
  dsimp only
  sl_unfold_words
  simp only [View.readAt_eq_ld, h2.read_unread, h3.read_unread, h4.read_unread, h5.read_unread, h6.read_unread, h10.read_unread]
  rw [View.canon_unit_zero hz3]
  simp only [View.ld_unit_zero (S := S1x2304x128) hz3, View.ld_unit_zero (S := S3x128) hz2]
  exact db_at x1 x2 x3 x4 r l
theorem out6_A (r : Fin 2304) (l : Fin 128) :
    (out0_A_6 c i a2 h2 a3 h3 a4 h4 a5 h5 a6 h6 a7 h7 a8 h8 a9 h9 a10 h10 hA0 hA1 x0 x1 x2 x3 x4 (ix3 0 r l) : EReal) = back (taps x3 l) (times (bcol x0 l) (bcol x4 l)) r.val * bcol x2 l r.val := by
  unfold out0_A_6
  rw [View.read_writes_eq_canon _ _ _ (cover0_A_6 c i a2 h2 a3 h3 a4 h4 a5 h5 a6 h6 a7 h7 a8 h8 a9 h9 a10 h10 hA0 hA1 x0 x1 x2 x3 x4)]
  unfold kernelRun0_A
  dsimp only
  sl_unfold_words
  simp only [View.readAt_eq_ld, h2.read_unread, h3.read_unread, h4.read_unread, h5.read_unread, h6.read_unread, h10.read_unread]
  rw [View.canon_unit_zero hz3]
  simp only [View.ld_unit_zero (S := S1x2304x128) hz3, View.ld_unit_zero (S := S3x128) hz2]
  exact dc_at x0 x2 x3 x4 r l
theorem out7_A (r : Fin 2304) (l : Fin 128) :
    (out0_A_7 c i a2 h2 a3 h3 a4 h4 a5 h5 a6 h6 a7 h7 a8 h8 a9 h9 a10 h10 hA0 hA1 x0 x1 x2 x3 x4 (ix3 0 r l) : EReal) = bcol x1 l r.val * back (taps x3 l) (times (bcol x0 l) (bcol x4 l)) r.val := by
  unfold out0_A_7
  rw [View.read_writes_eq_canon _ _ _ (cover0_A_7 c i a2 h2 a3 h3 a4 h4 a5 h5 a6 h6 a7 h7 a8 h8 a9 h9 a10 h10 hA0 hA1 x0 x1 x2 x3 x4)]
  unfold kernelRun0_A
  dsimp only
  sl_unfold_words
  simp only [View.readAt_eq_ld, h2.read_unread, h3.read_unread, h4.read_unread, h5.read_unread, h6.read_unread, h10.read_unread]
  rw [View.canon_unit_zero hz3]
  simp only [View.ld_unit_zero (S := S1x2304x128) hz3, View.ld_unit_zero (S := S3x128) hz2]
  exact dx_at x0 x1 x3 x4 r l
theorem out8_A (k : Fin 3) (l : Fin 128) :
    (out0_A_8 c i a2 h2 a3 h3 a4 h4 a5 h5 a6 h6 a7 h7 a8 h8 a9 h9 a10 h10 hA0 hA1 x0 x1 x2 x3 x4 (ix2 k l) : EReal) = weight k (times (bcol x0 l) (bcol x4 l)) (times (bcol x1 l) (bcol x2 l)) := by
  unfold out0_A_8
  rw [View.read_writes_eq_canon _ _ _ (cover0_A_8 c i a2 h2 a3 h3 a4 h4 a5 h5 a6 h6 a7 h7 a8 h8 a9 h9 a10 h10 hA0 hA1 x0 x1 x2 x3 x4)]
  unfold kernelRun0_A
  dsimp only
  sl_unfold_words
  simp only [View.readAt_eq_ld, h2.read_unread, h3.read_unread, h4.read_unread, h5.read_unread, h6.read_unread, h10.read_unread]
  rw [View.canon_unit_zero hz2]
  simp only [View.ld_unit_zero (S := S1x2304x128) hz3, View.ld_unit_zero (S := S3x128) hz2]
  exact dw_at x0 x1 x2 x4 l k
theorem out5_B (r : Fin 2304) (l : Fin 128) :
    (out0_B_5 c i a2 h2 a3 h3 a4 h4 a5 h5 a6 h6 a7 h7 a8 h8 a9 h9 a10 h10 hB0 hB1 x0 x1 x2 x3 x4 xo (ix3 0 r l) : EReal) = bcol x4 l r.val * conv (taps x3 l) (times (bcol x1 l) (bcol x2 l)) r.val := by
  unfold out0_B_5
  rw [View.read_writes_eq_canon _ _ _ (cover0_B_5 c i a2 h2 a3 h3 a4 h4 a5 h5 a6 h6 a7 h7 a8 h8 a9 h9 a10 h10 hB0 hB1 x0 x1 x2 x3 x4 xo)]
  unfold kernelRun0_B
  dsimp only
  sl_unfold_words
  simp only [View.readAt_eq_ld, h2.read_unread, h3.read_unread, h4.read_unread, h5.read_unread, h6.read_unread, h10.read_unread]
  rw [View.canon_unit_zero hz3]
  simp only [View.ld_unit_zero (S := S1x2304x128) hz3, View.ld_unit_zero (S := S3x128) hz2]
  exact db_at x1 x2 x3 x4 r l
theorem out6_B (r : Fin 2304) (l : Fin 128) :
    (out0_B_6 c i a2 h2 a3 h3 a4 h4 a5 h5 a6 h6 a7 h7 a8 h8 a9 h9 a10 h10 hB0 hB1 x0 x1 x2 x3 x4 xo (ix3 0 r l) : EReal) = back (taps x3 l) (times (bcol x0 l) (bcol x4 l)) r.val * bcol x2 l r.val := by
  unfold out0_B_6
  rw [View.read_writes_eq_canon _ _ _ (cover0_B_6 c i a2 h2 a3 h3 a4 h4 a5 h5 a6 h6 a7 h7 a8 h8 a9 h9 a10 h10 hB0 hB1 x0 x1 x2 x3 x4 xo)]
  unfold kernelRun0_B
  dsimp only
  sl_unfold_words
  simp only [View.readAt_eq_ld, h2.read_unread, h3.read_unread, h4.read_unread, h5.read_unread, h6.read_unread, h10.read_unread]
  rw [View.canon_unit_zero hz3]
  simp only [View.ld_unit_zero (S := S1x2304x128) hz3, View.ld_unit_zero (S := S3x128) hz2]
  exact dc_at x0 x2 x3 x4 r l
theorem out7_B (r : Fin 2304) (l : Fin 128) :
    (out0_B_7 c i a2 h2 a3 h3 a4 h4 a5 h5 a6 h6 a7 h7 a8 h8 a9 h9 a10 h10 hB0 hB1 x0 x1 x2 x3 x4 xo (ix3 0 r l) : EReal) = bcol x1 l r.val * back (taps x3 l) (times (bcol x0 l) (bcol x4 l)) r.val := by
  unfold out0_B_7
  rw [View.read_writes_eq_canon _ _ _ (cover0_B_7 c i a2 h2 a3 h3 a4 h4 a5 h5 a6 h6 a7 h7 a8 h8 a9 h9 a10 h10 hB0 hB1 x0 x1 x2 x3 x4 xo)]
  unfold kernelRun0_B
  dsimp only
  sl_unfold_words
  simp only [View.readAt_eq_ld, h2.read_unread, h3.read_unread, h4.read_unread, h5.read_unread, h6.read_unread, h10.read_unread]
  rw [View.canon_unit_zero hz3]
  simp only [View.ld_unit_zero (S := S1x2304x128) hz3, View.ld_unit_zero (S := S3x128) hz2]
  exact dx_at x0 x1 x3 x4 r l
theorem out8_B (k : Fin 3) (l : Fin 128) :
    (out0_B_8 c i a2 h2 a3 h3 a4 h4 a5 h5 a6 h6 a7 h7 a8 h8 a9 h9 a10 h10 hB0 hB1 x0 x1 x2 x3 x4 xo (ix2 k l) : EReal) = xo (ix2 k l) + (weight k (times (bcol x0 l) (bcol x4 l)) (times (bcol x1 l) (bcol x2 l))) := by
  unfold out0_B_8
  rw [View.read_writes_eq_canon _ _ _ (cover0_B_8 c i a2 h2 a3 h3 a4 h4 a5 h5 a6 h6 a7 h7 a8 h8 a9 h9 a10 h10 hB0 hB1 x0 x1 x2 x3 x4 xo)]
  unfold kernelRun0_B
  dsimp only
  sl_unfold_words
  simp only [View.readAt_eq_ld, h2.read_unread, h3.read_unread, h4.read_unread, h5.read_unread, h6.read_unread, h10.read_unread]
  rw [View.canon_unit_zero hz2]
  simp only [View.ld_unit_zero (S := S1x2304x128) hz3, View.ld_unit_zero (S := S3x128) hz2]
  unfold k0_pay6
  simp only [shapeCast_self]
  exact congrArg (fun a : EReal => xo (ix2 k l) + a) (dw_at x0 x1 x2 x4 l k)

end Run

end Cert.ShortBIdeal.Whole

end
-- ==== Proof.ShortParts.lean ====
/- The pieces the short convolution's backward reference is made of, at an index: a part of a sequence with a zero row on either side,
   a part padded to a longer one, a sum over sequences and rows. -/
module

public import proofs.«01_k».proof.Proof.ShortBlock
public import proofs.«01_k».proof.Proof.Gen.ShortBRefIdeal.Read
public import Idealize.ShloMosaic.Lib.KernelVsHost

@[expose] public section

set_option maxRecDepth 16384

noncomputable section

open scoped BigOperators

namespace Cert.ShortBRefIdeal.Whole

open Cert.ShortBRefIdeal Cert.ShortBRefIdeal.Read Cert.Short
open Cert.ShortBIdeal.Whole (row row_val)
open Idealize.ShloMosaic

/-- A part of a sequence: `n` rows from row `o` on, whose first row has no row before it and whose last has none after it. -/
structure Part (o n : ℕ) : Prop where
  start : ∀ i < n, (o + i = 0 ∨ o + i = 256 ↔ i = 0)
  stop : ∀ i < n, (o + i = 255 ∨ o + i = 2303 ↔ i + 1 = n)
  fits : o + n ≤ 2304

theorem context : Part 0 256 := ⟨fun i h => by omega, fun i h => by omega, by omega⟩
theorem latent : Part 256 2048 := ⟨fun i h => by omega, fun i h => by omega, by omega⟩

/-- The array of four sequences of `n` rows. -/
abbrev Rows (n : ℕ) : Shape := ⟨3, ![4, n, 512]⟩

/-- A column of the input projection's output from lane `o` on. -/
def lane (o : ℕ) (d : Fin 512) : Fin 10240 := ⟨(o + d.val) % 10240, Nat.mod_lt _ (by decide)⟩
def zcol (Z : S4x2304x10240.Idx → EReal) (o : ℕ) (b : Fin 4) (d : Fin 512) (t : ℕ) : EReal := Z (ix3 b (row t) (lane o d))
/-- A column of the gradient, and of the weights. -/
def ucol (D : S4x2304x512.Idx → EReal) (b : Fin 4) (d : Fin 512) (t : ℕ) : EReal := D (ix3 b (row t) d)
def wcol (W : S3x512.Idx → EReal) (d : Fin 512) (k : Fin 3) : EReal := W (ix2 k d)

theorem lanes_at (Z : S4x2304x10240.Idx → EReal) (o : ℕ) (ho : o + 512 ≤ 10240) (h : S4x2304x10240.Slices ![0, 0, o] S4x2304x512)
    (b : Fin 4) (t : ℕ) (d : Fin 512) : extractStridedSlice S4x2304x512 ![0, 0, o] Z h (ix3 b (row t) d) = zcol Z o b d t :=
  extractStridedSlice_apply ![0, 0, o] Z h (ix3 b (row t) d : S4x2304x512.Idx) (ix3 b (row t) (lane o d) : S4x2304x10240.Idx) fun a => by
    match a with
    | ⟨0, _⟩ => show b.val = 0 + b.val; omega
    | ⟨1, _⟩ => show (row t).val = 0 + (row t).val; omega
    | ⟨2, _⟩ => show (o + d.val) % 10240 = o + d.val; omega

section

variable {o n : ℕ} (hP : Part o n)
include hP

theorem rows_at (X : S4x2304x512.Idx → EReal) (h : S4x2304x512.Slices ![0, o, 0] (Rows n)) (b : Fin 4) (i : Fin n) (d : Fin 512) :
    extractStridedSlice (Rows n) ![0, o, 0] X h (ix3 b i d) = X (ix3 b (row (o + i.val)) d) :=
  extractStridedSlice_apply ![0, o, 0] X h (ix3 b i d : (Rows n).Idx) (ix3 b (row (o + i.val)) d : S4x2304x512.Idx) fun a => by
    have := hP.fits
    match a with
    | ⟨0, _⟩ => show b.val = 0 + b.val; omega
    | ⟨1, _⟩ => show (o + i.val) % 2304 = o + i.val; omega
    | ⟨2, _⟩ => show d.val = 0 + d.val; omega

omit hP in
/-- A part with a zero row on either side. -/
theorem padded_at (z : S4x1x512.Idx → EReal) (hz : ∀ i, z i = 0) (X : (Rows n).Idx → EReal)
    (h : Shape.Concatenates [S4x1x512, Rows n, S4x1x512] (Rows (n + 2)) 1) (b : Fin 4) (k : Fin (n + 2)) (d : Fin 512) :
    concatenate (Rows (n + 2)) 1 [⟨S4x1x512, z⟩, ⟨Rows n, X⟩, ⟨S4x1x512, z⟩] h (ix3 b k d)
      = if hk : 1 ≤ k.val ∧ k.val < n + 1 then X (ix3 b ⟨k.val - 1, by omega⟩ d) else 0 := by
  by_cases hk : 1 ≤ k.val ∧ k.val < n + 1
  · rw [dif_pos hk]
    exact concatenate_apply_piece (t := Rows (n + 2)) 1 [⟨S4x1x512, z⟩, ⟨Rows n, X⟩, ⟨S4x1x512, z⟩] h (ix3 b k d) 1 (by decide : 1 < 3) (Rows n) X rfl rfl 1 rfl
      (ix3 b ⟨k.val - 1, by omega⟩ d) (fun a ha => by
        match a with
        | ⟨0, _⟩ => rfl
        | ⟨1, _⟩ => exact absurd rfl ha
        | ⟨2, _⟩ => rfl) (by show 1 + (k.val - 1) = k.val; omega)
  · rw [dif_neg hk]
    by_cases h0 : k.val = 0
    · exact (concatenate_apply_piece (t := Rows (n + 2)) 1 [⟨S4x1x512, z⟩, ⟨Rows n, X⟩, ⟨S4x1x512, z⟩] h (ix3 b k d) 0 (by decide : 0 < 3) S4x1x512 z rfl rfl 0 rfl
        (ix3 b 0 d) (fun a ha => by
          match a with
          | ⟨0, _⟩ => rfl
          | ⟨1, _⟩ => exact absurd rfl ha
          | ⟨2, _⟩ => rfl) (by show 0 + 0 = k.val; omega)).trans (hz _)
    · exact (concatenate_apply_piece (t := Rows (n + 2)) 1 [⟨S4x1x512, z⟩, ⟨Rows n, X⟩, ⟨S4x1x512, z⟩] h (ix3 b k d) 2 (by decide : 2 < 3) S4x1x512 z rfl rfl (1 + n) rfl
        (ix3 b 0 d) (fun a ha => by
          match a with
          | ⟨0, _⟩ => rfl
          | ⟨1, _⟩ => exact absurd rfl ha
          | ⟨2, _⟩ => rfl) (by show 1 + n + 0 = k.val; omega)).trans (hz _)

/-- Its `n` rows from row `k` on are the convolution's tap `k`. -/
theorem shifted_at (z : S4x1x512.Idx → EReal) (hz : ∀ i, z i = 0) (X : (Rows n).Idx → EReal)
    (h : Shape.Concatenates [S4x1x512, Rows n, S4x1x512] (Rows (n + 2)) 1) (k : Fin 3) (hs : (Rows (n + 2)).Slices ![0, k.val, 0] (Rows n))
    (b : Fin 4) (d : Fin 512) (u : ℕ → EReal) (hX : ∀ i : Fin n, X (ix3 b i d) = u (o + i.val)) (i : Fin n) :
    extractStridedSlice (Rows n) ![0, k.val, 0] (concatenate (Rows (n + 2)) 1 [⟨S4x1x512, z⟩, ⟨Rows n, X⟩, ⟨S4x1x512, z⟩] h) hs (ix3 b i d)
      = tap k u (o + i.val) := by
  refine (extractStridedSlice_apply ![0, k.val, 0] _ hs (ix3 b i d : (Rows n).Idx) (ix3 b ⟨k.val + i.val, by omega⟩ d : (Rows (n + 2)).Idx) fun a => by
    match a with
    | ⟨0, _⟩ => show b.val = 0 + b.val; omega
    | ⟨1, _⟩ => show k.val + i.val = k.val + i.val; rfl
    | ⟨2, _⟩ => show d.val = 0 + d.val; omega).trans ?_
  rw [padded_at z hz X h]
  have e0 := hP.start i.val i.isLt
  have e1 := hP.stop i.val i.isLt
  match k with
  | 0 =>
    show _ = prev u (o + i.val)
    unfold prev
    by_cases hi : i.val = 0
    · rw [if_pos (e0.mpr hi), dif_neg (by show ¬(1 ≤ 0 + i.val ∧ _); omega)]
    · rw [if_neg (fun q => hi (e0.mp q))]
      refine (dif_pos (show 1 ≤ 0 + i.val ∧ 0 + i.val < n + 1 by omega)).trans ((hX _).trans ?_)
      exact congrArg u (by show o + (0 + i.val - 1) = o + i.val - 1; omega)
  | 1 =>
    show _ = u (o + i.val)
    refine (dif_pos (show 1 ≤ 1 + i.val ∧ 1 + i.val < n + 1 by omega)).trans ((hX _).trans ?_)
    exact congrArg u (by show o + (1 + i.val - 1) = o + i.val; omega)
  | 2 =>
    show _ = next u (o + i.val)
    unfold next
    by_cases hi : i.val + 1 = n
    · rw [if_pos (e1.mpr hi), dif_neg (by show ¬(1 ≤ 2 + i.val ∧ 2 + i.val < n + 1); omega)]
    · rw [if_neg (fun q => hi (e1.mp q))]
      refine (dif_pos (show 1 ≤ 2 + i.val ∧ 2 + i.val < n + 1 by omega)).trans ((hX _).trans ?_)
      exact congrArg u (by show o + (2 + i.val - 1) = o + i.val + 1; omega)

omit hP in
/-- A part padded with zero rows, `j` of them before it. -/
theorem pad_at {N : ℕ} (Y : (Rows n).Idx → EReal) (v : S_.Idx → EReal) (hv : ∀ i, v i = 0) (j q : ℕ)
    (hp : (Rows n).Pads ![0, j, 0] ![0, q, 0] ![0, 0, 0] (Rows N)) (hu : 0 < S_.numel) (b : Fin 4) (d : Fin 512)
    (f : ℕ → EReal) (hY : ∀ i : Fin n, Y (ix3 b i d) = f (o + i.val)) (k : Fin N) :
    pad (Rows N) ![0, j, 0] ![0, q, 0] ![0, 0, 0] Y v hp hu (ix3 b k d) = if j ≤ k.val ∧ k.val < j + n then f (o + (k.val - j)) else 0 := by
  by_cases hk : j ≤ k.val ∧ k.val < j + n
  · rw [if_pos hk, ← hY ⟨k.val - j, by omega⟩]
    refine pad_apply_of_inside _ _ _ Y v hp hu (ix3 b k d) (ix3 b ⟨k.val - j, by omega⟩ d) fun a => ?_
    match a with
    | ⟨0, _⟩ => show b.val = 0 + b.val * (0 + 1); omega
    | ⟨1, _⟩ => show k.val = j + (k.val - j) * (0 + 1); omega
    | ⟨2, _⟩ => show d.val = 0 + d.val * (0 + 1); omega
  · rw [if_neg hk]
    refine (pad_apply_of_not_inside _ _ _ Y v hp hu (ix3 b k d) (1 : Fin 3) fun hin => hk ?_).trans (hv _)
    have h1 : j ≤ k.val := hin.1
    have h3 : (k.val - j) / (0 + 1) < n := hin.2.2
    omega

/-- The three padded products, added up: the convolution's transpose. -/
theorem back_at (v : S_.Idx → EReal) (hv : ∀ i, v i = 0) (hu : 0 < S_.numel) (Y0 Y1 Y2 : (Rows n).Idx → EReal)
    (p2 : (Rows n).Pads ![0, 2, 0] ![0, 0, 0] ![0, 0, 0] (Rows (n + 2))) (p1 : (Rows n).Pads ![0, 1, 0] ![0, 1, 0] ![0, 0, 0] (Rows (n + 2)))
    (p0 : (Rows n).Pads ![0, 0, 0] ![0, 2, 0] ![0, 0, 0] (Rows (n + 2))) (S : (Rows (n + 2)).Idx → EReal)
    (hS : ∀ y, S y = pad (Rows (n + 2)) ![0, 2, 0] ![0, 0, 0] ![0, 0, 0] Y2 v p2 hu y
      + pad (Rows (n + 2)) ![0, 1, 0] ![0, 1, 0] ![0, 0, 0] Y1 v p1 hu y + pad (Rows (n + 2)) ![0, 0, 0] ![0, 2, 0] ![0, 0, 0] Y0 v p0 hu y)
    (hs : (Rows (n + 2)).Slices ![0, 1, 0] (Rows n)) (b : Fin 4) (d : Fin 512) (w : Fin 3 → EReal) (g : ℕ → EReal)
    (h0 : ∀ i : Fin n, Y0 (ix3 b i d) = g (o + i.val) * w 0) (h1 : ∀ i : Fin n, Y1 (ix3 b i d) = g (o + i.val) * w 1)
    (h2 : ∀ i : Fin n, Y2 (ix3 b i d) = g (o + i.val) * w 2) (i : Fin n) :
    extractStridedSlice (Rows n) ![0, 1, 0] S hs (ix3 b i d) = back w g (o + i.val) := by
  refine (extractStridedSlice_apply ![0, 1, 0] S hs (ix3 b i d : (Rows n).Idx) (ix3 b ⟨1 + i.val, by omega⟩ d : (Rows (n + 2)).Idx) fun a => by
    match a with
    | ⟨0, _⟩ => show b.val = 0 + b.val; omega
    | ⟨1, _⟩ => rfl
    | ⟨2, _⟩ => show d.val = 0 + d.val; omega).trans ?_
  rw [hS, pad_at (o := o) Y2 v hv 2 0 p2 hu b d (fun s => g s * w 2) h2, pad_at (o := o) Y1 v hv 1 1 p1 hu b d (fun s => g s * w 1) h1,
    pad_at (o := o) Y0 v hv 0 2 p0 hu b d (fun s => g s * w 0) h0]
  have e0 := hP.start i.val i.isLt
  have e1 := hP.stop i.val i.isLt
  unfold back
  refine congrArg₂ (fun p q : EReal => p + q) (congrArg₂ (fun p q : EReal => p + q) ?_ ?_) ?_
  · unfold prev
    by_cases hi : i.val = 0
    · rw [if_pos (e0.mpr hi), if_neg (show ¬(2 ≤ 1 + i.val ∧ 1 + i.val < 2 + n) by omega)]
    · rw [if_neg (fun q => hi (e0.mp q)), if_pos (show 2 ≤ 1 + i.val ∧ 1 + i.val < 2 + n by omega), mul_comm]
      exact congrArg (fun s => w 2 * g s) (show o + (1 + i.val - 2) = o + i.val - 1 by omega)
  · rw [if_pos (show 1 ≤ 1 + i.val ∧ 1 + i.val < 1 + n by omega), mul_comm]
    exact congrArg (fun s => w 1 * g s) (show o + (1 + i.val - 1) = o + i.val by omega)
  · unfold next
    by_cases hi : i.val + 1 = n
    · rw [if_pos (e1.mpr hi), if_neg (show ¬(0 ≤ 1 + i.val ∧ 1 + i.val < 0 + n) by omega)]
    · rw [if_neg (fun q => hi (e1.mp q)), if_pos (show 0 ≤ 1 + i.val ∧ 1 + i.val < 0 + n by omega), mul_comm]
      exact congrArg (fun s => w 0 * g s) (show o + (1 + i.val - 0) = o + i.val + 1 by omega)

end

/-- Both parts, put back in their places. -/
theorem whole_at (v : S_.Idx → EReal) (hv : ∀ i, v i = 0) (hu : 0 < S_.numel) (Y : (Rows 2048).Idx → EReal) (Y' : (Rows 256).Idx → EReal)
    (p : (Rows 2048).Pads ![0, 256, 0] ![0, 0, 0] ![0, 0, 0] (Rows 2304)) (p' : (Rows 256).Pads ![0, 0, 0] ![0, 2048, 0] ![0, 0, 0] (Rows 2304))
    (b : Fin 4) (d : Fin 512) (f : ℕ → EReal) (h : ∀ i : Fin 2048, Y (ix3 b i d) = f (256 + i.val))
    (h' : ∀ i : Fin 256, Y' (ix3 b i d) = f (0 + i.val)) (k : Fin 2304) :
    pad (Rows 2304) ![0, 256, 0] ![0, 0, 0] ![0, 0, 0] Y v p hu (ix3 b k d) + pad (Rows 2304) ![0, 0, 0] ![0, 2048, 0] ![0, 0, 0] Y' v p' hu (ix3 b k d)
      = f k.val := by
  rw [pad_at (o := 256) Y v hv 256 0 p hu b d f h, pad_at (o := 0) Y' v hv 0 2048 p' hu b d f h']
  by_cases hk : k.val < 256
  · rw [if_neg (show ¬(256 ≤ k.val ∧ k.val < 256 + 2048) by omega), if_pos (show 0 ≤ k.val ∧ k.val < 0 + 256 by omega), zero_add]
    exact congrArg f (show 0 + (k.val - 0) = k.val by omega)
  · rw [if_pos (show 256 ≤ k.val ∧ k.val < 256 + 2048 by omega), if_neg (show ¬(0 ≤ k.val ∧ k.val < 0 + 256) by omega), add_zero]
    exact congrArg f (show 256 + (k.val - 256) = k.val by omega)

/-! ## The sums -/

/-- A sum over the first two axes. -/
theorem reduce_at {A B : ℕ} (x : FVec Ideal ⟨3, ![A, B, 512]⟩ .f32) (z : FVec Ideal S_ .f32) (hz : ∀ i, (z i : EReal) = 0)
    (h : (⟨3, ![A, B, 512]⟩ : Shape).ReducesTo [0, 1] S512) (hu : 0 < S_.numel) (d : Fin 512) :
    (Host.reduceAdd x z h hu (ix1 d) : EReal) = ∑ b : Fin A, ∑ t : Fin B, (x (ix3 b t d) : EReal) := by
  have hd : ∀ i, (h.drop i 0 : Nat) = i 2 := fun i => h.drop_apply_val_of_eq i 0 2 Nat.zero_lt_one rfl
  show z _ + ∑ i ∈ Finset.univ.filter (fun i => h.drop i = ix1 d), (x i : EReal) = _
  rw [hz, zero_add, ← Fintype.sum_prod_type']
  refine Finset.sum_nbij' (fun i => (i 0, i 1)) (fun p => ix3 p.1 p.2 d) (fun i _ => Finset.mem_univ _) (fun p _ => ?_) (fun i hi => ?_)
    (fun p _ => rfl) (fun i hi => ?_)
  · refine Finset.mem_filter.mpr ⟨Finset.mem_univ _, funext fun a => ?_⟩
    match a with
    | ⟨0, _⟩ => exact Fin.ext (hd _)
  all_goals
    have e : i = ix3 (i 0) (i 1) d := by
      have hi' := congrFun (Finset.mem_filter.mp hi).2 0
      refine funext fun a => ?_
      match a with
      | ⟨0, _⟩ => rfl
      | ⟨1, _⟩ => rfl
      | ⟨2, _⟩ => exact Fin.ext ((hd i).symm.trans (congrArg Fin.val hi'))
  · exact e.symm
  · exact congrArg x e

/-- The sum of a part's products over sequences and rows, as one row of the weights' gradient. -/
theorem total_at {n o : ℕ} (x : FVec Ideal (Rows n) .f32) (z z' : FVec Ideal S_ .f32) (hz : ∀ i, (z i : EReal) = 0) (hz' : ∀ i, (z' i : EReal) = 0)
    (h : (Rows n).ReducesTo [0, 1] S512) (hc : S512.ShapeCasts S1x1x512) (h' : S1x1x512.ReducesTo [0, 1] S512) (hu : 0 < S_.numel)
    (d : Fin 512) (p : Fin 4 → ℕ → EReal) (hx : ∀ b (i : Fin n), (x (ix3 b i d) : EReal) = p b (o + i.val)) :
    (Host.reduceAdd (shapeCast S1x1x512 (Host.reduceAdd x z h hu) hc) z' h' hu (ix1 d) : EReal) = ∑ b : Fin 4, ∑ i : Fin n, p b (o + i.val) := by
  rw [reduce_at (A := 1) (B := 1) _ z' hz' h' hu d, Fin.sum_univ_one, Fin.sum_univ_one]
  rw [shapeCast_apply _ hc (ix3 0 0 d : S1x1x512.Idx) (ix1 d : S512.Idx) (by
    rw [Shape.rowMajor_val_three, Shape.rowMajor_val_one]; show d.val = (0 * 1 + 0) * 512 + d.val; omega)]
  rw [reduce_at x z hz h hu d]
  exact Finset.sum_congr rfl fun b _ => Finset.sum_congr rfl fun i _ => hx b i

/-- One row padded to the three rows of the weights. -/
theorem tap_pad (Y : S1x512.Idx → EReal) (v : S_.Idx → EReal) (hv : ∀ i, v i = 0) (j q : ℕ) (hp : S1x512.Pads ![j, 0] ![q, 0] ![0, 0] S3x512)
    (hu : 0 < S_.numel) (k : Fin 3) (d : Fin 512) :
    pad S3x512 ![j, 0] ![q, 0] ![0, 0] Y v hp hu (ix2 k d) = if k.val = j then Y (ix2 0 d) else 0 := by
  by_cases hk : k.val = j
  · rw [if_pos hk]
    refine pad_apply_of_inside _ _ _ Y v hp hu (ix2 k d) (ix2 0 d) fun a => ?_
    match a with
    | ⟨0, _⟩ => show k.val = j + 0 * (0 + 1); omega
    | ⟨1, _⟩ => show d.val = 0 + d.val * (0 + 1); omega
  · rw [if_neg hk]
    refine (pad_apply_of_not_inside _ _ _ Y v hp hu (ix2 k d) (0 : Fin 2) fun hin => hk ?_).trans (hv _)
    have h1 : j ≤ k.val := hin.1
    have h3 : (k.val - j) / (0 + 1) < 1 := hin.2.2
    omega

/-- Such a row, in its place among the three. -/
theorem grad_row {n o : ℕ} (x : FVec Ideal (Rows n) .f32) (z z' v : FVec Ideal S_ .f32) (hz : ∀ i, (z i : EReal) = 0) (hz' : ∀ i, (z' i : EReal) = 0)
    (hv : ∀ i, (v i : EReal) = 0) (h : (Rows n).ReducesTo [0, 1] S512) (hc : S512.ShapeCasts S1x1x512) (h' : S1x1x512.ReducesTo [0, 1] S512)
    (hu : 0 < S_.numel) (hb : S512.BroadcastsInDim S1x512 ![1]) (j q : ℕ) (hp : S1x512.Pads ![j, 0] ![q, 0] ![0, 0] S3x512)
    (d : Fin 512) (p : Fin 4 → ℕ → EReal) (hx : ∀ b (i : Fin n), (x (ix3 b i d) : EReal) = p b (o + i.val)) (k : Fin 3) :
    (pad S3x512 ![j, 0] ![q, 0] ![0, 0] (broadcastInDim S1x512 ![1] hb (Host.reduceAdd (shapeCast S1x1x512 (Host.reduceAdd x z h hu) hc) z' h' hu))
      v hp hu (ix2 k d) : EReal) = if k.val = j then ∑ b : Fin 4, ∑ i : Fin n, p b (o + i.val) else 0 := by
  refine (tap_pad _ v hv j q hp hu k d).trans (congrArg (fun a : EReal => if k.val = j then a else 0) ?_)
  refine (broadcastInDim_apply _ hb _ (ix2 0 d : S1x512.Idx) (ix1 d : S512.Idx) (fun a => ?_)).trans (total_at x z z' hz hz' h hc h' hu d p hx)
  match a with
  | ⟨0, _⟩ => show d.val = if (512 : Nat) = 1 then 0 else d.val; rw [if_neg (by decide)]

/-- A row of the weights, spread over a part. -/
theorem taps_at {n : ℕ} (W : S3x512.Idx → EReal) (k : Fin 3) (h1 : S1x1x512.BroadcastsInDim (Rows n) ![0, 1, 2])
    (h2 : S512.BroadcastsInDim S1x1x512 ![2]) (h3 : S1x512.ShapeCasts S512) (h4 : S3x512.Slices ![k.val, 0] S1x512) (b : Fin 4) (i : Fin n) (d : Fin 512) :
    broadcastInDim (Rows n) ![0, 1, 2] h1 (broadcastInDim S1x1x512 ![2] h2 (shapeCast S512 (extractStridedSlice S1x512 ![k.val, 0] W h4) h3)) (ix3 b i d)
      = wcol W d k := by
  refine (broadcastInDim_apply _ h1 _ (ix3 b i d : (Rows n).Idx) (ix3 0 0 d : S1x1x512.Idx) (fun a => ?_)).trans ?_
  · match a with
    | ⟨0, _⟩ => show 0 = if (1 : Nat) = 1 then 0 else b.val; rw [if_pos rfl]
    | ⟨1, _⟩ => show 0 = if (1 : Nat) = 1 then 0 else i.val; rw [if_pos rfl]
    | ⟨2, _⟩ => show d.val = if (512 : Nat) = 1 then 0 else d.val; rw [if_neg (by decide)]
  refine (broadcastInDim_apply _ h2 _ (ix3 0 0 d : S1x1x512.Idx) (ix1 d : S512.Idx) (fun a => ?_)).trans ?_
  · match a with
    | ⟨0, _⟩ => show d.val = if (512 : Nat) = 1 then 0 else d.val; rw [if_neg (by decide)]
  refine (shapeCast_apply _ h3 (ix1 d : S512.Idx) (ix2 0 d : S1x512.Idx) (by
    rw [Shape.rowMajor_val_two, Shape.rowMajor_val_one]; show 0 * 512 + d.val = d.val; omega)).trans ?_
  refine (extractStridedSlice_apply ![k.val, 0] W h4 (ix2 0 d : S1x512.Idx) (ix2 k d : S3x512.Idx) fun a => ?_).trans rfl
  match a with
  | ⟨0, _⟩ => show k.val = k.val + 0; rfl
  | ⟨1, _⟩ => show d.val = 0 + d.val; omega

end Cert.ShortBRefIdeal.Whole

end
-- ==== Proof.ShortRef.lean ====
/- What the short convolution's backward reference computes, at an index: its two parts' results, put back in their places. -/
module

public import proofs.«01_k».proof.Proof.ShortParts

@[expose] public section

set_option maxRecDepth 16384

noncomputable section

open scoped BigOperators

namespace Cert.ShortBRefIdeal.Whole

open Cert.ShortBRefIdeal Cert.ShortBRefIdeal.Read Cert.Short
open Cert.ShortBIdeal.Whole (row row_val)
open Idealize.ShloMosaic

section

variable (Z : FVec Ideal S4x2304x10240 .bf16) (W : FVec Ideal S3x512 .f32) (U : FVec Ideal S4x2304x512 .f32)

/-- What is convolved, and the convolution's gradient: columns of products. -/
def fed (b : Fin 4) (d : Fin 512) : ℕ → EReal := times (zcol Z 8192 b d) (zcol Z 8704 b d)
def pulled (b : Fin 4) (d : Fin 512) : ℕ → EReal := times (zcol Z 7680 b d) (ucol U b d)

/-- The gradients by the three column groups, and by the weights. -/
def dbArr (y : S4x2304x512.Idx) : EReal := ucol U (y 0) (y 2) (y 1).val * conv (wcol W (y 2)) (fed Z (y 0) (y 2)) (y 1).val
def dcArr (y : S4x2304x512.Idx) : EReal := back (wcol W (y 2)) (pulled Z U (y 0) (y 2)) (y 1).val * zcol Z 8704 (y 0) (y 2) (y 1).val
def dxArr (y : S4x2304x512.Idx) : EReal := zcol Z 8192 (y 0) (y 2) (y 1).val * back (wcol W (y 2)) (pulled Z U (y 0) (y 2)) (y 1).val
def dwArr (y : S3x512.Idx) : EReal := ∑ b : Fin 4, weight (y 0) (pulled Z U b (y 1)) (fed Z b (y 1))

variable (b : Fin 4) (d : Fin 512)

theorem none (i : S_.Idx) : ((constant (F := Ideal) S_ .f32 0x00000000#32) i : EReal) = 0 := Ideal.ofBits_zero_f32

/-! ## The first 256 rows -/

section

variable (i : Fin 256)

theorem c_gate : (val_main_v6 (F := Ideal) Z (ix3 b i d) : EReal) = zcol Z 7680 b d (0 + i.val) :=
  (rows_at context (val_main_v1 (F := Ideal) Z) _ b i d).trans (lanes_at Z 7680 (by decide) _ b _ d)
theorem c_left : (val_main_v7 (F := Ideal) Z (ix3 b i d) : EReal) = zcol Z 8192 b d (0 + i.val) :=
  (rows_at context (val_main_v3 (F := Ideal) Z) _ b i d).trans (lanes_at Z 8192 (by decide) _ b _ d)
theorem c_right : (val_main_v8 (F := Ideal) Z (ix3 b i d) : EReal) = zcol Z 8704 b d (0 + i.val) :=
  (rows_at context (val_main_v5 (F := Ideal) Z) _ b i d).trans (lanes_at Z 8704 (by decide) _ b _ d)
theorem c_ct : (val_main_v67 (F := Ideal) U (ix3 b i d) : EReal) = ucol U b d (0 + i.val) := rows_at context U _ b i d
theorem c_fed : (val_main_v9 (F := Ideal) Z (ix3 b i d) : EReal) = fed Z b d (0 + i.val) :=
  congrArg₂ (fun p q : EReal => p * q) (c_left Z b d i) (c_right Z b d i)
theorem c_pulled : (val_main_v110 (F := Ideal) Z U (ix3 b i d) : EReal) = pulled Z U b d (0 + i.val) :=
  congrArg₂ (fun p q : EReal => p * q) (c_gate Z b d i) (c_ct U b d i)

theorem c_tap0 : (val_main_v15 (F := Ideal) Z (ix3 b i d) : EReal) = tap 0 (fed Z b d) (0 + i.val) :=
  shifted_at context (val_main_v11 (F := Ideal)) (fun _ => Ideal.ofBits_zero_f32) (val_main_v9 (F := Ideal) Z) _ 0 _ b d _ (c_fed Z b d) i
theorem c_tap1 : (val_main_v21 (F := Ideal) Z (ix3 b i d) : EReal) = tap 1 (fed Z b d) (0 + i.val) :=
  shifted_at context (val_main_v11 (F := Ideal)) (fun _ => Ideal.ofBits_zero_f32) (val_main_v9 (F := Ideal) Z) _ 1 _ b d _ (c_fed Z b d) i
theorem c_tap2 : (val_main_v28 (F := Ideal) Z (ix3 b i d) : EReal) = tap 2 (fed Z b d) (0 + i.val) :=
  shifted_at context (val_main_v11 (F := Ideal)) (fun _ => Ideal.ofBits_zero_f32) (val_main_v9 (F := Ideal) Z) _ 2 _ b d _ (c_fed Z b d) i

theorem c_w0 : (val_main_v19 (F := Ideal) W (ix3 b i d) : EReal) = wcol W d 0 := taps_at W 0 _ _ _ _ b i d
theorem c_w1 : (val_main_v25 (F := Ideal) W (ix3 b i d) : EReal) = wcol W d 1 := taps_at W 1 _ _ _ _ b i d
theorem c_w2 : (val_main_v32 (F := Ideal) W (ix3 b i d) : EReal) = wcol W d 2 := taps_at W 2 _ _ _ _ b i d

theorem c_conv : (val_main_v34 (F := Ideal) Z W (ix3 b i d) : EReal) = conv (wcol W d) (fed Z b d) (0 + i.val) :=
  congrArg₂ (fun p q : EReal => p + q)
    (congrArg₂ (fun p q : EReal => p + q) ((congrArg₂ (fun p q : EReal => p * q) (c_tap0 Z b d i) (c_w0 W b d i)).trans (mul_comm _ _))
      ((congrArg₂ (fun p q : EReal => p * q) (c_tap1 Z b d i) (c_w1 W b d i)).trans (mul_comm _ _)))
    ((congrArg₂ (fun p q : EReal => p * q) (c_tap2 Z b d i) (c_w2 W b d i)).trans (mul_comm _ _))

theorem c_back : (val_main_v145 (F := Ideal) Z W U (ix3 b i d) : EReal) = back (wcol W d) (pulled Z U b d) (0 + i.val) :=
  back_at context (constant (F := Ideal) S_ .f32 0x00000000#32) none (by decide) (val_main_v137 (F := Ideal) Z W U) (val_main_v126 (F := Ideal) Z W U)
    (val_main_v116 (F := Ideal) Z W U) _ _ _ (val_main_v143 (F := Ideal) Z W U) (fun y => rfl) _ b d (wcol W d) (pulled Z U b d)
    (fun i => congrArg₂ (fun p q : EReal => p * q) (c_pulled Z U b d i) (c_w0 W b d i))
    (fun i => congrArg₂ (fun p q : EReal => p * q) (c_pulled Z U b d i) (c_w1 W b d i))
    (fun i => congrArg₂ (fun p q : EReal => p * q) (c_pulled Z U b d i) (c_w2 W b d i)) i

end

/-! ## The further 2048 rows -/

section

variable (i : Fin 2048)

theorem l_gate : (val_main_v36 (F := Ideal) Z (ix3 b i d) : EReal) = zcol Z 7680 b d (256 + i.val) :=
  (rows_at latent (val_main_v1 (F := Ideal) Z) _ b i d).trans (lanes_at Z 7680 (by decide) _ b _ d)
theorem l_left : (val_main_v37 (F := Ideal) Z (ix3 b i d) : EReal) = zcol Z 8192 b d (256 + i.val) :=
  (rows_at latent (val_main_v3 (F := Ideal) Z) _ b i d).trans (lanes_at Z 8192 (by decide) _ b _ d)
theorem l_right : (val_main_v38 (F := Ideal) Z (ix3 b i d) : EReal) = zcol Z 8704 b d (256 + i.val) :=
  (rows_at latent (val_main_v5 (F := Ideal) Z) _ b i d).trans (lanes_at Z 8704 (by decide) _ b _ d)
theorem l_ct : (val_main_v68 (F := Ideal) U (ix3 b i d) : EReal) = ucol U b d (256 + i.val) := rows_at latent U _ b i d
theorem l_fed : (val_main_v39 (F := Ideal) Z (ix3 b i d) : EReal) = fed Z b d (256 + i.val) :=
  congrArg₂ (fun p q : EReal => p * q) (l_left Z b d i) (l_right Z b d i)
theorem l_pulled : (val_main_v69 (F := Ideal) Z U (ix3 b i d) : EReal) = pulled Z U b d (256 + i.val) :=
  congrArg₂ (fun p q : EReal => p * q) (l_gate Z b d i) (l_ct U b d i)

theorem l_tap0 : (val_main_v45 (F := Ideal) Z (ix3 b i d) : EReal) = tap 0 (fed Z b d) (256 + i.val) :=
  shifted_at latent (val_main_v41 (F := Ideal)) (fun _ => Ideal.ofBits_zero_f32) (val_main_v39 (F := Ideal) Z) _ 0 _ b d _ (l_fed Z b d) i
theorem l_tap1 : (val_main_v51 (F := Ideal) Z (ix3 b i d) : EReal) = tap 1 (fed Z b d) (256 + i.val) :=
  shifted_at latent (val_main_v41 (F := Ideal)) (fun _ => Ideal.ofBits_zero_f32) (val_main_v39 (F := Ideal) Z) _ 1 _ b d _ (l_fed Z b d) i
theorem l_tap2 : (val_main_v58 (F := Ideal) Z (ix3 b i d) : EReal) = tap 2 (fed Z b d) (256 + i.val) :=
  shifted_at latent (val_main_v41 (F := Ideal)) (fun _ => Ideal.ofBits_zero_f32) (val_main_v39 (F := Ideal) Z) _ 2 _ b d _ (l_fed Z b d) i

theorem l_w0 : (val_main_v49 (F := Ideal) W (ix3 b i d) : EReal) = wcol W d 0 := taps_at W 0 _ _ _ _ b i d
theorem l_w1 : (val_main_v55 (F := Ideal) W (ix3 b i d) : EReal) = wcol W d 1 := taps_at W 1 _ _ _ _ b i d
theorem l_w2 : (val_main_v62 (F := Ideal) W (ix3 b i d) : EReal) = wcol W d 2 := taps_at W 2 _ _ _ _ b i d

theorem l_conv : (val_main_v64 (F := Ideal) Z W (ix3 b i d) : EReal) = conv (wcol W d) (fed Z b d) (256 + i.val) :=
  congrArg₂ (fun p q : EReal => p + q)
    (congrArg₂ (fun p q : EReal => p + q) ((congrArg₂ (fun p q : EReal => p * q) (l_tap0 Z b d i) (l_w0 W b d i)).trans (mul_comm _ _))
      ((congrArg₂ (fun p q : EReal => p * q) (l_tap1 Z b d i) (l_w1 W b d i)).trans (mul_comm _ _)))
    ((congrArg₂ (fun p q : EReal => p * q) (l_tap2 Z b d i) (l_w2 W b d i)).trans (mul_comm _ _))

theorem l_back : (val_main_v103 (F := Ideal) Z W U (ix3 b i d) : EReal) = back (wcol W d) (pulled Z U b d) (256 + i.val) :=
  back_at latent (constant (F := Ideal) S_ .f32 0x00000000#32) none (by decide) (val_main_v95 (F := Ideal) Z W U) (val_main_v84 (F := Ideal) Z W U)
    (val_main_v75 (F := Ideal) Z W U) _ _ _ (val_main_v101 (F := Ideal) Z W U) (fun y => rfl) _ b d (wcol W d) (pulled Z U b d)
    (fun i => congrArg₂ (fun p q : EReal => p * q) (l_pulled Z U b d i) (l_w0 W b d i))
    (fun i => congrArg₂ (fun p q : EReal => p * q) (l_pulled Z U b d i) (l_w1 W b d i))
    (fun i => congrArg₂ (fun p q : EReal => p * q) (l_pulled Z U b d i) (l_w2 W b d i)) i

end

/-! ## The results -/

theorem result0 : (val_main_v155 (F := Ideal) Z W U : S4x2304x512.Idx → EReal) = dbArr Z W U := funext fun y => by
  rw [eq_ix3 y]
  exact whole_at (constant (F := Ideal) S_ .f32 0x00000000#32) none (by decide) (val_main_v70 (F := Ideal) Z W U) (val_main_v111 (F := Ideal) Z W U) _ _
    (y 0) (y 2) (fun t => ucol U (y 0) (y 2) t * conv (wcol W (y 2)) (fed Z (y 0) (y 2)) t)
    (fun i => congrArg₂ (fun p q : EReal => p * q) (l_ct U _ _ i) (l_conv Z W _ _ i))
    (fun i => congrArg₂ (fun p q : EReal => p * q) (c_ct U _ _ i) (c_conv Z W _ _ i)) (y 1)
theorem result1 : (val_main_v156 (F := Ideal) Z W U : S4x2304x512.Idx → EReal) = dcArr Z W U := funext fun y => by
  rw [eq_ix3 y]
  exact whole_at (constant (F := Ideal) S_ .f32 0x00000000#32) none (by decide) (val_main_v106 (F := Ideal) Z W U) (val_main_v148 (F := Ideal) Z W U) _ _
    (y 0) (y 2) (fun t => back (wcol W (y 2)) (pulled Z U (y 0) (y 2)) t * zcol Z 8704 (y 0) (y 2) t)
    (fun i => congrArg₂ (fun p q : EReal => p * q) (l_back Z W U _ _ i) (l_right Z _ _ i))
    (fun i => congrArg₂ (fun p q : EReal => p * q) (c_back Z W U _ _ i) (c_right Z _ _ i)) (y 1)
theorem result2 : (val_main_v157 (F := Ideal) Z W U : S4x2304x512.Idx → EReal) = dxArr Z W U := funext fun y => by
  rw [eq_ix3 y]
  exact whole_at (constant (F := Ideal) S_ .f32 0x00000000#32) none (by decide) (val_main_v105 (F := Ideal) Z W U) (val_main_v147 (F := Ideal) Z W U) _ _
    (y 0) (y 2) (fun t => zcol Z 8192 (y 0) (y 2) t * back (wcol W (y 2)) (pulled Z U (y 0) (y 2)) t)
    (fun i => congrArg₂ (fun p q : EReal => p * q) (l_left Z _ _ i) (l_back Z W U _ _ i))
    (fun i => congrArg₂ (fun p q : EReal => p * q) (c_left Z _ _ i) (c_back Z W U _ _ i)) (y 1)

/-- Both parts' products for a tap, summed. -/
theorem both_at (k : Fin 3) :
    ∑ b : Fin 4, ∑ i : Fin 2048, pulled Z U b d (256 + i.val) * tap k (fed Z b d) (256 + i.val)
      + ∑ b : Fin 4, ∑ i : Fin 256, pulled Z U b d (0 + i.val) * tap k (fed Z b d) (0 + i.val) = ∑ b : Fin 4, weight k (pulled Z U b d) (fed Z b d) := by
  rw [← Finset.sum_add_distrib]
  refine Finset.sum_congr rfl fun b _ => ?_
  unfold weight
  rw [sum_parts]
  simp only [Nat.zero_add]

theorem result3 : (val_main_v141 (F := Ideal) Z U : S3x512.Idx → EReal) = dwArr Z U := funext fun y => by
  obtain ⟨k, d, rfl⟩ : ∃ (k : Fin 3) (d : Fin 512), y = ix2 k d := ⟨y 0, y 1, eq_ix2 y⟩
  have e2 : (val_main_v78 (F := Ideal) Z U (ix2 k d) : EReal) = _ :=
    grad_row (val_main_v71 (F := Ideal) Z U) _ _ _ none none none _ _ _ (by decide) _ 2 0 _ d (fun b t => pulled Z U b d t * tap 2 (fed Z b d) t)
      (fun b i => (congrArg₂ (fun p q : EReal => p * q) (l_tap2 Z b d i) (l_pulled Z U b d i)).trans (mul_comm _ _)) k
  have e1 : (val_main_v87 (F := Ideal) Z U (ix2 k d) : EReal) = _ :=
    grad_row (val_main_v80 (F := Ideal) Z U) _ _ _ none none none _ _ _ (by decide) _ 1 1 _ d (fun b t => pulled Z U b d t * tap 1 (fed Z b d) t)
      (fun b i => (congrArg₂ (fun p q : EReal => p * q) (l_tap1 Z b d i) (l_pulled Z U b d i)).trans (mul_comm _ _)) k
  have e0 : (val_main_v98 (F := Ideal) Z U (ix2 k d) : EReal) = _ :=
    grad_row (val_main_v91 (F := Ideal) Z U) _ _ _ none none none _ _ _ (by decide) _ 0 2 _ d (fun b t => pulled Z U b d t * tap 0 (fed Z b d) t)
      (fun b i => (congrArg₂ (fun p q : EReal => p * q) (l_tap0 Z b d i) (l_pulled Z U b d i)).trans (mul_comm _ _)) k
  have f2 : (val_main_v119 (F := Ideal) Z U (ix2 k d) : EReal) = _ :=
    grad_row (val_main_v112 (F := Ideal) Z U) _ _ _ none none none _ _ _ (by decide) _ 2 0 _ d (fun b t => pulled Z U b d t * tap 2 (fed Z b d) t)
      (fun b i => (congrArg₂ (fun p q : EReal => p * q) (c_tap2 Z b d i) (c_pulled Z U b d i)).trans (mul_comm _ _)) k
  have f1 : (val_main_v129 (F := Ideal) Z U (ix2 k d) : EReal) = _ :=
    grad_row (val_main_v122 (F := Ideal) Z U) _ _ _ none none none _ _ _ (by decide) _ 1 1 _ d (fun b t => pulled Z U b d t * tap 1 (fed Z b d) t)
      (fun b i => (congrArg₂ (fun p q : EReal => p * q) (c_tap1 Z b d i) (c_pulled Z U b d i)).trans (mul_comm _ _)) k
  have f0 : (val_main_v140 (F := Ideal) Z U (ix2 k d) : EReal) = _ :=
    grad_row (val_main_v133 (F := Ideal) Z U) _ _ _ none none none _ _ _ (by decide) _ 0 2 _ d (fun b t => pulled Z U b d t * tap 0 (fed Z b d) t)
      (fun b i => (congrArg₂ (fun p q : EReal => p * q) (c_tap0 Z b d i) (c_pulled Z U b d i)).trans (mul_comm _ _)) k
  show ((val_main_v78 (F := Ideal) Z U (ix2 k d) + val_main_v87 (F := Ideal) Z U (ix2 k d) + val_main_v98 (F := Ideal) Z U (ix2 k d)
    + val_main_v119 (F := Ideal) Z U (ix2 k d) + val_main_v129 (F := Ideal) Z U (ix2 k d) + val_main_v140 (F := Ideal) Z U (ix2 k d) : EReal)) = _
  rw [e2, e1, e0, f2, f1, f0]
  refine Eq.trans ?_ (both_at Z U d k)
  match k with
  | 0 => simp
  | 1 => simp
  | 2 => simp

end

end Cert.ShortBRefIdeal.Whole

end
-- ==== Proof.ShortB.lean ====
/- The short convolution's backward claim: the kernel's four arrays are the reference's results. -/
module

public import proofs.«01_k».proof.Defs
public import proofs.«01_k».proof.Proof.ShortRef
public import proofs.«01_k».proof.Proof.Gen.ShortBIdeal.Value
public import proofs.«01_k».proof.Proof.Gen.ShortBRefIdeal.Run
public import Idealize.ShloMosaic.Lib.Claim

@[expose] public section

set_option maxRecDepth 16384

noncomputable section

open scoped BigOperators

namespace Cert.ShortBIdeal.Whole

open Cert.ShortBIdeal Cert.ShortBIdeal.Gen Cert.Short
open Cert.ShortBRefIdeal.Whole (lane zcol ucol wcol fed pulled dbArr dcArr dxArr dwArr)
open Idealize.ShloMosaic Idealize.ShloMosaic.TcCoe Idealize.SL.Sem
open Idealize.ShloMosaic.Pipeline (Dat)

/-! ## The windows' indices: one of four groups of 128 columns, one of four sequences -/

theorem index0 : ∀ t : Fin cfg0.N, win0_0.index t 0 = t.val % 4 ∧ win0_0.index t 1 = 0 ∧ win0_0.index t 2 = 60 + t.val / 4 :=
  (by decide +kernel : ∀ t : Fin grid0.N, win0_0.index t 0 = t.val % 4 ∧ win0_0.index t 1 = 0 ∧ win0_0.index t 2 = 60 + t.val / 4)
theorem index1 : ∀ t : Fin cfg0.N, win0_1.index t 0 = t.val % 4 ∧ win0_1.index t 1 = 0 ∧ win0_1.index t 2 = 64 + t.val / 4 :=
  (by decide +kernel : ∀ t : Fin grid0.N, win0_1.index t 0 = t.val % 4 ∧ win0_1.index t 1 = 0 ∧ win0_1.index t 2 = 64 + t.val / 4)
theorem index2 : ∀ t : Fin cfg0.N, win0_2.index t 0 = t.val % 4 ∧ win0_2.index t 1 = 0 ∧ win0_2.index t 2 = 68 + t.val / 4 :=
  (by decide +kernel : ∀ t : Fin grid0.N, win0_2.index t 0 = t.val % 4 ∧ win0_2.index t 1 = 0 ∧ win0_2.index t 2 = 68 + t.val / 4)
theorem index3 : ∀ t : Fin cfg0.N, win0_3.index t 0 = 0 ∧ win0_3.index t 1 = t.val / 4 :=
  (by decide +kernel : ∀ t : Fin grid0.N, win0_3.index t 0 = 0 ∧ win0_3.index t 1 = t.val / 4)
theorem index4 : ∀ t : Fin cfg0.N, win0_4.index t 0 = t.val % 4 ∧ win0_4.index t 1 = 0 ∧ win0_4.index t 2 = 0 + t.val / 4 :=
  (by decide +kernel : ∀ t : Fin grid0.N, win0_4.index t 0 = t.val % 4 ∧ win0_4.index t 1 = 0 ∧ win0_4.index t 2 = 0 + t.val / 4)
theorem index5 : ∀ t : Fin cfg0.N, win0_5.index t 0 = t.val % 4 ∧ win0_5.index t 1 = 0 ∧ win0_5.index t 2 = 0 + t.val / 4 :=
  (by decide +kernel : ∀ t : Fin grid0.N, win0_5.index t 0 = t.val % 4 ∧ win0_5.index t 1 = 0 ∧ win0_5.index t 2 = 0 + t.val / 4)
theorem index6 : ∀ t : Fin cfg0.N, win0_6.index t 0 = t.val % 4 ∧ win0_6.index t 1 = 0 ∧ win0_6.index t 2 = 0 + t.val / 4 :=
  (by decide +kernel : ∀ t : Fin grid0.N, win0_6.index t 0 = t.val % 4 ∧ win0_6.index t 1 = 0 ∧ win0_6.index t 2 = 0 + t.val / 4)
theorem index7 : ∀ t : Fin cfg0.N, win0_7.index t 0 = t.val % 4 ∧ win0_7.index t 1 = 0 ∧ win0_7.index t 2 = 0 + t.val / 4 :=
  (by decide +kernel : ∀ t : Fin grid0.N, win0_7.index t 0 = t.val % 4 ∧ win0_7.index t 1 = 0 ∧ win0_7.index t 2 = 0 + t.val / 4)
theorem index8 : ∀ t : Fin cfg0.N, win0_8.index t 0 = 0 ∧ win0_8.index t 1 = t.val / 4 :=
  (by decide +kernel : ∀ t : Fin grid0.N, win0_8.index t 0 = 0 ∧ win0_8.index t 1 = t.val / 4)

theorem lt_N (t : Fin cfg0.N) : t.val < 16 := lt_of_lt_of_eq t.isLt N_0

/-- The sequence a point works on, and its columns. -/
def bat (t : ℕ) : Fin 4 := ⟨t % 4, Nat.mod_lt _ (by decide)⟩
def ch (t : ℕ) (l : Fin 128) : Fin 512 := ⟨(128 * (t / 4) + l.val) % 512, Nat.mod_lt _ (by decide)⟩

/-- A block's index in an array. -/
theorem tile_ix {W : ℕ} {t o : ℕ} (ht : t < 16) {r : Fin 2304} {l : Fin 128} {n : Fin 3 → ℕ} (hn : n 0 = t % 4 ∧ n 1 = 0 ∧ n 2 = o + t / 4)
    {i : (⟨3, ![4, 2304, W]⟩ : Shape).Idx} (h0 : (i 0).val = n 0 * 1 + 1 * 0) (h1 : (i 1).val = n 1 * 2304 + 1 * r.val)
    (h2 : (i 2).val = n 2 * 128 + 1 * l.val) {j : Fin W} (hj : j.val = 128 * (o + t / 4) + l.val) : i = ix3 (bat t) r j := by
  obtain ⟨e0, e1, e2⟩ := hn
  refine funext fun a => Fin.ext ?_
  match a with
  | ⟨0, _⟩ => refine h0.trans ?_; show _ = t % 4; rw [e0]; omega
  | ⟨1, _⟩ => refine h1.trans ?_; show _ = r.val; rw [e1]; omega
  | ⟨2, _⟩ => refine h2.trans ?_; show _ = j.val; rw [e2, hj]; omega
theorem taps_ix {t : ℕ} (ht : t < 16) {k : Fin 3} {l : Fin 128} {n : Fin 2 → ℕ} (hn : n 0 = 0 ∧ n 1 = t / 4)
    {i : S3x512.Idx} (h0 : (i 0).val = n 0 * 3 + 1 * k.val) (h1 : (i 1).val = n 1 * 128 + 1 * l.val) : i = ix2 k (ch t l) := by
  obtain ⟨e0, e1⟩ := hn
  refine funext fun a => Fin.ext ?_
  match a with
  | ⟨0, _⟩ => refine h0.trans ?_; show _ = k.val; rw [e0]; omega
  | ⟨1, _⟩ => refine h1.trans ?_; show _ = (128 * (t / 4) + l.val) % 512; rw [e1]; omega

theorem ch_val {t : ℕ} (ht : t < 16) (l : Fin 128) : (ch t l).val = 128 * (0 + t / 4) + l.val := by
  show (128 * (t / 4) + l.val) % 512 = _; omega
theorem lane_val {t : ℕ} (ht : t < 16) (l : Fin 128) (o : ℕ) (ho : o ≤ 72) : (lane (128 * o) (ch t l)).val = 128 * (o + t / 4) + l.val := by
  show (128 * o + (128 * (t / 4) + l.val) % 512) % 10240 = _; omega

/-- The point whose block an index of an array lies in. -/
def tileOf (y : S4x2304x512.Idx) : Fin cfg0.N :=
  ⟨4 * ((y 2).val / 128) + (y 0).val, by
    have h0 : (y 0).val < 4 := (y 0).isLt
    have h2 : (y 2).val < 512 := (y 2).isLt
    have hN : cfg0.N = 16 := N_0
    omega⟩

/-- It lies there. -/
theorem tile_mem (y : S4x2304x512.Idx) {n : Fin 3 → ℕ} (hn : n 0 = (tileOf y).val % 4 ∧ n 1 = 0 ∧ n 2 = 0 + (tileOf y).val / 4) (a : Fin 3) :
    n a * (![1, 2304, 128] : Fin 3 → ℕ) a ≤ (y a).val ∧ (y a).val < n a * (![1, 2304, 128] : Fin 3 → ℕ) a + (![1, 2304, 128] : Fin 3 → ℕ) a := by
  obtain ⟨e0, e1, e2⟩ := hn
  have h0 : (y 0).val < 4 := (y 0).isLt
  have h1 : (y 1).val < 2304 := (y 1).isLt
  have h2 : (y 2).val < 512 := (y 2).isLt
  have ht : (tileOf y).val = 4 * ((y 2).val / 128) + (y 0).val := rfl
  match a with
  | ⟨0, _⟩ => show n 0 * 1 ≤ (y 0).val ∧ (y 0).val < n 0 * 1 + 1; rw [e0]; omega
  | ⟨1, _⟩ => show n 1 * 2304 ≤ (y 1).val ∧ (y 1).val < n 1 * 2304 + 2304; rw [e1]; omega
  | ⟨2, _⟩ => show n 2 * 128 ≤ (y 2).val ∧ (y 2).val < n 2 * 128 + 128; rw [e2]; omega

/-- The point that ends a column group's sum. -/
def lastOf (y : S3x512.Idx) : Fin cfg0.N :=
  ⟨4 * ((y 1).val / 128) + 3, by
    have h1 : (y 1).val < 512 := (y 1).isLt
    have hN : cfg0.N = 16 := N_0
    omega⟩
theorem last_mem (y : S3x512.Idx) {n : Fin 2 → ℕ} (hn : n 0 = 0 ∧ n 1 = (lastOf y).val / 4) (a : Fin 2) :
    n a * (![3, 128] : Fin 2 → ℕ) a ≤ (y a).val ∧ (y a).val < n a * (![3, 128] : Fin 2 → ℕ) a + (![3, 128] : Fin 2 → ℕ) a := by
  obtain ⟨e0, e1⟩ := hn
  have h0 : (y 0).val < 3 := (y 0).isLt
  have h1 : (y 1).val < 512 := (y 1).isLt
  have ht : (lastOf y).val = 4 * ((y 1).val / 128) + 3 := rfl
  match a with
  | ⟨0, _⟩ => show n 0 * 3 ≤ (y 0).val ∧ (y 0).val < n 0 * 3 + 3; rw [e0]; omega
  | ⟨1, _⟩ => show n 1 * 128 ≤ (y 1).val ∧ (y 1).val < n 1 * 128 + 128; rw [e1]; omega

/-- A block's index is a row and a column. -/
theorem ix_form (y : S1x2304x128.Idx) : ∃ (r : Fin 2304) (l : Fin 128), y = ix3 0 r l :=
  ⟨y 1, y 2, funext fun a => by
    match a with
    | ⟨0, _⟩ => exact Fin.ext (by show (y 0).val = 0; have h : (y 0).val < 1 := (y 0).isLt; omega)
    | ⟨1, _⟩ => rfl
    | ⟨2, _⟩ => rfl⟩

variable (m : (ℓ : Loc nD τ sig) → Buf (Elt Ideal) ℓ) (c : Dev nD)

/-- The input projection's output, the weights and the gradient, as launched. -/
abbrev zA : FVec Ideal S4x2304x10240 .bf16 := m ((c : Thread nD τ).loc main_arg0)
abbrev wA : FVec Ideal S3x512 .f32 := m ((c : Thread nD τ).loc main_arg1)
abbrev uA : FVec Ideal S4x2304x512 .f32 := m ((c : Thread nD τ).loc main_arg2)

/-! ## The blocks' columns -/

variable {m c} (t : Fin cfg0.N) (l : Fin 128)

theorem block0 : bcol (iblk m c 0 t : Vec Ideal S1x2304x128 .bf16) l = zcol (zA m c) 7680 (bat t.val) (ch t.val l) := funext fun s => by
  unfold bcol iblk
  rw [View.read_apply]
  show V m c main_arg0 _ = m (c.tc.loc main_arg0) _
  unfold V
  exact congrArg (m (c.tc.loc main_arg0)) (tile_ix (lt_N t) (index0 t) rfl rfl rfl (lane_val (lt_N t) l 60 (by decide)))
theorem block1 : bcol (iblk m c 1 t : Vec Ideal S1x2304x128 .bf16) l = zcol (zA m c) 8192 (bat t.val) (ch t.val l) := funext fun s => by
  unfold bcol iblk
  rw [View.read_apply]
  show V m c main_arg0 _ = m (c.tc.loc main_arg0) _
  unfold V
  exact congrArg (m (c.tc.loc main_arg0)) (tile_ix (lt_N t) (index1 t) rfl rfl rfl (lane_val (lt_N t) l 64 (by decide)))
theorem block2 : bcol (iblk m c 2 t : Vec Ideal S1x2304x128 .bf16) l = zcol (zA m c) 8704 (bat t.val) (ch t.val l) := funext fun s => by
  unfold bcol iblk
  rw [View.read_apply]
  show V m c main_arg0 _ = m (c.tc.loc main_arg0) _
  unfold V
  exact congrArg (m (c.tc.loc main_arg0)) (tile_ix (lt_N t) (index2 t) rfl rfl rfl (lane_val (lt_N t) l 68 (by decide)))
theorem block3 : taps (iblk m c 3 t : Vec Ideal S3x128 .f32) l = wcol (wA m c) (ch t.val l) := funext fun k => by
  unfold taps iblk
  rw [View.read_apply]
  show V m c main_arg1 _ = m (c.tc.loc main_arg1) _
  unfold V
  exact congrArg (m (c.tc.loc main_arg1)) (taps_ix (lt_N t) (index3 t) rfl rfl)
theorem block4 : bcol (iblk m c 4 t : Vec Ideal S1x2304x128 .f32) l = ucol (uA m c) (bat t.val) (ch t.val l) := funext fun s => by
  unfold bcol iblk
  rw [View.read_apply]
  show V m c main_arg2 _ = m (c.tc.loc main_arg2) _
  unfold V
  exact congrArg (m (c.tc.loc main_arg2)) (tile_ix (lt_N t) (index4 t) rfl rfl rfl (ch_val (lt_N t) l))

/-- What is convolved, and the convolution's gradient, of a point. -/
theorem fed_at : times (bcol (iblk m c 1 t : Vec Ideal S1x2304x128 .bf16) l) (bcol (iblk m c 2 t : Vec Ideal S1x2304x128 .bf16) l)
    = fed (zA m c) (bat t.val) (ch t.val l) := congrArg₂ times (block1 t l) (block2 t l)
theorem pulled_at : times (bcol (iblk m c 0 t : Vec Ideal S1x2304x128 .bf16) l) (bcol (iblk m c 4 t : Vec Ideal S1x2304x128 .f32) l)
    = pulled (zA m c) (uA m c) (bat t.val) (ch t.val l) := congrArg₂ times (block0 t l) (block4 t l)

/-- What a point computes, in the arrays' terms. -/
theorem db_tile (r : Fin 2304) : bcol (iblk m c 4 t : Vec Ideal S1x2304x128 .f32) l r.val * conv (taps (iblk m c 3 t : Vec Ideal S3x128 .f32) l)
      (times (bcol (iblk m c 1 t : Vec Ideal S1x2304x128 .bf16) l) (bcol (iblk m c 2 t : Vec Ideal S1x2304x128 .bf16) l)) r.val
    = dbArr (zA m c) (wA m c) (uA m c) (ix3 (bat t.val) r (ch t.val l)) := by
  rw [block4, block3, fed_at]; rfl
theorem dc_tile (r : Fin 2304) : back (taps (iblk m c 3 t : Vec Ideal S3x128 .f32) l)
      (times (bcol (iblk m c 0 t : Vec Ideal S1x2304x128 .bf16) l) (bcol (iblk m c 4 t : Vec Ideal S1x2304x128 .f32) l)) r.val
        * bcol (iblk m c 2 t : Vec Ideal S1x2304x128 .bf16) l r.val
    = dcArr (zA m c) (wA m c) (uA m c) (ix3 (bat t.val) r (ch t.val l)) := by
  rw [block2, block3, pulled_at]; rfl
theorem dx_tile (r : Fin 2304) : bcol (iblk m c 1 t : Vec Ideal S1x2304x128 .bf16) l r.val * back (taps (iblk m c 3 t : Vec Ideal S3x128 .f32) l)
      (times (bcol (iblk m c 0 t : Vec Ideal S1x2304x128 .bf16) l) (bcol (iblk m c 4 t : Vec Ideal S1x2304x128 .f32) l)) r.val
    = dxArr (zA m c) (wA m c) (uA m c) (ix3 (bat t.val) r (ch t.val l)) := by
  rw [block1, block3, pulled_at]; rfl
theorem dw_tile (k : Fin 3) : weight k
      (times (bcol (iblk m c 0 t : Vec Ideal S1x2304x128 .bf16) l) (bcol (iblk m c 4 t : Vec Ideal S1x2304x128 .f32) l))
      (times (bcol (iblk m c 1 t : Vec Ideal S1x2304x128 .bf16) l) (bcol (iblk m c 2 t : Vec Ideal S1x2304x128 .bf16) l))
    = weight k (pulled (zA m c) (uA m c) (bat t.val) (ch t.val l)) (fed (zA m c) (bat t.val) (ch t.val l)) := by
  rw [fed_at, pulled_at]

/-! ## The arrays -/

variable (m c)

theorem final5 : (dats m 0 c).arrAt 5 cfg0.N = dbArr (zA m c) (wA m c) (uA m c) := by
  refine (dats m 0 c).arrAt_eq_of_cover 5 (dbArr (zA m c) (wA m c) (uA m c)) (fun t _ => ?_) fun y => ⟨tileOf y, flush0_5 _, ?_⟩
  · by_cases h0 : t.val % 4 = 0
    · rw [Value.flushed5_A m c t h0 (by omega)]
      funext y
      rw [View.read_apply]
      obtain ⟨r, l, rfl⟩ := ix_form y
      have e : (((cfg0.win 5).blk t).view.emb (ix3 0 r l) : S4x2304x512.Idx) = ix3 (bat t.val) r (ch t.val l) :=
        tile_ix (lt_N t) (index5 t) rfl rfl rfl (ch_val (lt_N t) l)
      exact ((out5_A r l).trans (db_tile t l r)).trans (congrArg (dbArr (zA m c) (wA m c) (uA m c)) e.symm)
    · rw [Value.flushed5_B m c t h0 (by omega)]
      funext y
      rw [View.read_apply]
      obtain ⟨r, l, rfl⟩ := ix_form y
      have e : (((cfg0.win 5).blk t).view.emb (ix3 0 r l) : S4x2304x512.Idx) = ix3 (bat t.val) r (ch t.val l) :=
        tile_ix (lt_N t) (index5 t) rfl rfl rfl (ch_val (lt_N t) l)
      exact ((out5_B r l).trans (db_tile t l r)).trans (congrArg (dbArr (zA m c) (wA m c) (uA m c)) e.symm)
  · show y ∈ ((View.whole main_v0_0).slice (win0_5.rect (tileOf y))).set
    rw [View.set_slice_whole, Rect.mem_set_unit]
    exact tile_mem y (index5 _)
theorem final6 : (dats m 0 c).arrAt 6 cfg0.N = dcArr (zA m c) (wA m c) (uA m c) := by
  refine (dats m 0 c).arrAt_eq_of_cover 6 (dcArr (zA m c) (wA m c) (uA m c)) (fun t _ => ?_) fun y => ⟨tileOf y, flush0_6 _, ?_⟩
  · by_cases h0 : t.val % 4 = 0
    · rw [Value.flushed6_A m c t h0 (by omega)]
      funext y
      rw [View.read_apply]
      obtain ⟨r, l, rfl⟩ := ix_form y
      have e : (((cfg0.win 6).blk t).view.emb (ix3 0 r l) : S4x2304x512.Idx) = ix3 (bat t.val) r (ch t.val l) :=
        tile_ix (lt_N t) (index6 t) rfl rfl rfl (ch_val (lt_N t) l)
      exact ((out6_A r l).trans (dc_tile t l r)).trans (congrArg (dcArr (zA m c) (wA m c) (uA m c)) e.symm)
    · rw [Value.flushed6_B m c t h0 (by omega)]
      funext y
      rw [View.read_apply]
      obtain ⟨r, l, rfl⟩ := ix_form y
      have e : (((cfg0.win 6).blk t).view.emb (ix3 0 r l) : S4x2304x512.Idx) = ix3 (bat t.val) r (ch t.val l) :=
        tile_ix (lt_N t) (index6 t) rfl rfl rfl (ch_val (lt_N t) l)
      exact ((out6_B r l).trans (dc_tile t l r)).trans (congrArg (dcArr (zA m c) (wA m c) (uA m c)) e.symm)
  · show y ∈ ((View.whole main_v0_1).slice (win0_6.rect (tileOf y))).set
    rw [View.set_slice_whole, Rect.mem_set_unit]
    exact tile_mem y (index6 _)
theorem final7 : (dats m 0 c).arrAt 7 cfg0.N = dxArr (zA m c) (wA m c) (uA m c) := by
  refine (dats m 0 c).arrAt_eq_of_cover 7 (dxArr (zA m c) (wA m c) (uA m c)) (fun t _ => ?_) fun y => ⟨tileOf y, flush0_7 _, ?_⟩
  · by_cases h0 : t.val % 4 = 0
    · rw [Value.flushed7_A m c t h0 (by omega)]
      funext y
      rw [View.read_apply]
      obtain ⟨r, l, rfl⟩ := ix_form y
      have e : (((cfg0.win 7).blk t).view.emb (ix3 0 r l) : S4x2304x512.Idx) = ix3 (bat t.val) r (ch t.val l) :=
        tile_ix (lt_N t) (index7 t) rfl rfl rfl (ch_val (lt_N t) l)
      exact ((out7_A r l).trans (dx_tile t l r)).trans (congrArg (dxArr (zA m c) (wA m c) (uA m c)) e.symm)
    · rw [Value.flushed7_B m c t h0 (by omega)]
      funext y
      rw [View.read_apply]
      obtain ⟨r, l, rfl⟩ := ix_form y
      have e : (((cfg0.win 7).blk t).view.emb (ix3 0 r l) : S4x2304x512.Idx) = ix3 (bat t.val) r (ch t.val l) :=
        tile_ix (lt_N t) (index7 t) rfl rfl rfl (ch_val (lt_N t) l)
      exact ((out7_B r l).trans (dx_tile t l r)).trans (congrArg (dxArr (zA m c) (wA m c) (uA m c)) e.symm)
  · show y ∈ ((View.whole main_v0_2).slice (win0_7.rect (tileOf y))).set
    rw [View.set_slice_whole, Rect.mem_set_unit]
    exact tile_mem y (index7 _)

/-- A point's addition to the weights' gradient. -/
def share (n : ℕ) (k : Fin 3) (l : Fin 128) : EReal := weight k (pulled (zA m c) (uA m c) (bat n) (ch n l)) (fed (zA m c) (bat n) (ch n l))

/-- The first point of a column group leaves its share. -/
theorem first_at (n : ℕ) (hn : n < cfg0.N) (h : n % 4 = 0) (k : Fin 3) (l : Fin 128) :
    ((outsAt0 m c n hn).2.2.2 (ix2 k l) : EReal) = share m c n k l := by
  have e := outsAt0_A m c ⟨n, hn⟩ h (by dsimp only; omega)
  change outsAt0 m c n hn = _ at e
  rw [e]
  dsimp only
  exact (out8_A k l).trans (dw_tile ⟨n, hn⟩ l k)
/-- Each further one adds its share. -/
theorem further_at (n : ℕ) (hn : n + 1 < cfg0.N) (h : ¬(n + 1) % 4 = 0) (k : Fin 3) (l : Fin 128) :
    ((outsAt0 m c (n + 1) hn).2.2.2 (ix2 k l) : EReal) = (outsAt0 m c n (Nat.lt_of_succ_lt hn)).2.2.2 (ix2 k l) + share m c (n + 1) k l := by
  have e := outsAt0_B m c ⟨n + 1, hn⟩ h (by dsimp only; omega)
  change outsAt0 m c (n + 1) hn = _ at e
  refine (congrArg (fun o => (o.2.2.2 (ix2 k l) : EReal)) e).trans ?_
  dsimp only
  refine (out8_B k l).trans ?_
  exact (congrArg (fun a : EReal => (outsAt0 m c n (Nat.lt_of_succ_lt hn)).2.2.2 (ix2 k l) + a) (dw_tile ⟨n + 1, hn⟩ l k))

/-- A share names its sequence and its columns. -/
theorem share_at (q : ℕ) (s : Fin 4) (k : Fin 3) (l : Fin 128) {n : ℕ} (hn : n = 4 * q + s.val) :
    share m c n k l = weight k (pulled (zA m c) (uA m c) s (ch (4 * q + 3) l)) (fed (zA m c) s (ch (4 * q + 3) l)) := by
  have e1 : bat n = s := Fin.ext (by show n % 4 = s.val; omega)
  have e2 : ch n l = ch (4 * q + 3) l := Fin.ext (by
    show (128 * (n / 4) + l.val) % 512 = (128 * ((4 * q + 3) / 4) + l.val) % 512
    rw [show n / 4 = (4 * q + 3) / 4 by omega])
  unfold share
  rw [e1, e2]

theorem group_at (q : ℕ) (hn : 4 * q + 3 < cfg0.N) (k : Fin 3) (l : Fin 128) :
    ((outsAt0 m c (4 * q + 3) hn).2.2.2 (ix2 k l) : EReal) = dwArr (zA m c) (uA m c) (ix2 k (ch (4 * q + 3) l)) := by
  rw [further_at m c (4 * q + 2) hn (by omega), further_at m c (4 * q + 1) _ (by omega), further_at m c (4 * q) _ (by omega),
    first_at m c (4 * q) _ (by omega), share_at m c q 0 k l (n := 4 * q) rfl,
    share_at m c q 1 k l (n := 4 * q + 1) rfl, share_at m c q 2 k l (n := 4 * q + 1 + 1) rfl, share_at m c q 3 k l (n := 4 * q + 2 + 1) rfl]
  unfold dwArr
  rw [Fin.sum_univ_four]
  rfl

theorem final8 : (dats m 0 c).arrAt 8 cfg0.N = dwArr (zA m c) (uA m c) := by
  refine (dats m 0 c).arrAt_eq_of_cover 8 (dwArr (zA m c) (uA m c)) (fun t ht => ?_)
    fun y => ⟨lastOf y, (flush0_8 _).mpr (by show (4 * ((y 1).val / 128) + 3) % 4 = 3; omega), ?_⟩
  · have h3 := (flush0_8 t).mp ht
    obtain ⟨n, hn⟩ := t
    obtain ⟨q, rfl⟩ : ∃ q, n = 4 * q + 3 := ⟨n / 4, by dsimp only at h3; omega⟩
    rw [Value.flushed8]
    funext y
    rw [View.read_apply]
    obtain ⟨k, l, rfl⟩ : ∃ (k : Fin 3) (l : Fin 128), y = ix2 k l := ⟨y 0, y 1, eq_ix2 y⟩
    have e : (((cfg0.win 8).blk ⟨4 * q + 3, hn⟩).view.emb (ix2 k l) : S3x512.Idx) = ix2 k (ch (4 * q + 3) l) :=
      taps_ix (lt_N ⟨4 * q + 3, hn⟩) (index8 ⟨4 * q + 3, hn⟩) rfl rfl
    exact (group_at m c q hn k l).trans (congrArg (dwArr (zA m c) (uA m c)) e.symm)
  · show y ∈ ((View.whole main_v0_3).slice (win0_8.rect (lastOf y))).set
    rw [View.set_slice_whole, Rect.mem_set_unit]
    exact last_mem y (index8 _)

end Cert.ShortBIdeal.Whole

namespace Cert.ShortBRefIdeal.Whole

open Idealize.ShloMosaic Idealize.ShloMosaic.TcCoe Idealize.SL.Sem

/-- The reference's frame: its run without its results; it declares no semaphore. -/
theorem frame : Cert.quiescent_ShortBRefIdeal := fun m g _ =>
  (θ_run Cert.ShortBRefIdeal.defs _ _).mono (fun r h => ⟨fun c => (h c).2.2.2.2, sem_eq_zero_of_no_sems (by decide) r.2⟩)
    (Cert.ShortBRefIdeal.Value.run m g)

end Cert.ShortBRefIdeal.Whole

namespace Cert.ShortB

open Idealize.ShloMosaic Idealize.ShloMosaic.TcCoe Idealize.SL.Sem
open Cert.ShortBIdeal.Whole Cert.ShortBRefIdeal.Whole Cert.ShortBRefIdeal.Read

/-- The kernel and the reference end with equal results. -/
theorem algebraic : Cert.algebraic_ShortBIdeal_ShortBRefIdeal := by
  intro m g m' g' hP hagree
  refine ⟨fun c => dbArr (zA m c) (wA m c) (uA m c), fun c => dcArr (zA m c) (wA m c) (uA m c), fun c => dxArr (zA m c) (wA m c) (uA m c),
    fun c => dwArr (zA m c) (uA m c), ?_, ?_⟩
  · refine (θ_run Cert.ShortBIdeal.defs _ _).mono (fun r h c => ?_) (Cert.ShortBIdeal.Value.run_blocks m g)
    obtain ⟨h5, h6, h7, h8, h⟩ := h c
    exact ⟨h5.trans (final5 m c), h6.trans (final6 m c), h7.trans (final7 m c), h8.trans (final8 m c), h⟩
  · refine (θ_run Cert.ShortBRefIdeal.defs _ _).mono (fun r h c => ?_) (Cert.ShortBRefIdeal.Value.run m' g')
    obtain ⟨h0, h1, h2, h3, h⟩ := h c
    obtain ⟨a0, a1, a2⟩ := hagree c
    have z0 : StableHlo.launchContents m' c (Proc.tc.devRef Cert.ShortBRefIdeal.main_arg0) = zA m c := a0
    have z1 : StableHlo.launchContents m' c (Proc.tc.devRef Cert.ShortBRefIdeal.main_arg1) = wA m c := a1
    have z2 : StableHlo.launchContents m' c (Proc.tc.devRef Cert.ShortBRefIdeal.main_arg2) = uA m c := a2
    refine ⟨?_, ?_, ?_, ?_, h⟩
    · exact (h0.trans (val_main_v155_eq _)).trans (by rw [z0, z1, z2]; exact result0 _ _ _)
    · exact (h1.trans (val_main_v156_eq _)).trans (by rw [z0, z1, z2]; exact result1 _ _ _)
    · exact (h2.trans (val_main_v157_eq _)).trans (by rw [z0, z1, z2]; exact result2 _ _ _)
    · exact (h3.trans (val_main_v141_eq _)).trans (by rw [z0, z2]; exact result3 _ _)

end Cert.ShortB

end
-- ==== Proof.AttnBlock.lean ====
/- What one run of the attention's forward body leaves in its output block: for each of eight heads, the probabilities times
   the values. Queries and keys hold real numbers; the values may be any extended real numbers. The lemmas on stacks,
   exponentials and row sums are those of the backward body. -/
module

public import proofs.«01_k».proof.Proof.Entry
public import proofs.«01_k».proof.Proof.Gen.AttnIdeal.Frame

@[expose] public section

set_option maxRecDepth 16384

noncomputable section

open scoped BigOperators

namespace Cert.AttnIdeal.Whole

open Cert.AttnIdeal Cert.AttnIdeal.Gen
open Cert.KernelIdeal.Stage (Holds holds_scores holds_narrow holds_wide holds_rowSum holds_alongRows64)
open Cert.KernelIdeal.Block (row holds_stack exists_exps holds_recip)
open Cert.KernelIdeal.Entry (head group stack stack_row groupOf laneHead lanePos load_apply)
open Idealize.ShloMosaic
open Idealize.ShloMosaic.ValueIdx (mulf_apply)

/-! ## Sums scaled by a positive number -/

/-- A nonnegative real number multiplies a sum of extended real numbers term by term. -/
theorem sum_mul_coe {ι : Type} (s : Finset ι) (f : ι → EReal) (a : ℝ) (ha : 0 ≤ a) : (∑ i ∈ s, f i) * (a : EReal) = ∑ i ∈ s, f i * (a : EReal) := by
  classical
  induction s using Finset.induction_on with
  | empty => simp
  | insert i s hi ih =>
    rw [Finset.sum_insert hi, Finset.sum_insert hi, ← ih, mul_comm, mul_comm (f i), mul_comm (∑ i ∈ s, f i)]
    exact EReal.left_distrib_of_nonneg_of_ne_top (EReal.coe_nonneg.mpr ha) (EReal.coe_ne_top a) _ _

/-- The exponentials' product with the values, divided by the row's sum: the probabilities' product with the values. -/
theorem scaled (q : Fin 64 → ℝ) (k : Fin 2304 → Fin 64 → ℝ) (M : ℝ) (v : Fin 2304 → EReal) :
    (∑ κ, (Soft.ex q k M κ : EReal) * v κ) * ((1 / Soft.tot q k M : ℝ) : EReal) = ∑ κ, (Soft.pr q k κ : EReal) * v κ := by
  rw [sum_mul_coe _ _ _ (one_div_pos.mpr (Soft.tot_pos q k M)).le]
  refine Finset.sum_congr rfl fun κ _ => ?_
  rw [mul_right_comm, ← EReal.coe_mul, mul_one_div, Soft.ex_div_tot]

/-! ## One group -/

/-- A product of real weights with values. -/
theorem weighted {x : FVec Ideal S512x2304 .bf16} {y : FVec Ideal S2304x64 .bf16} {e : Fin 512 → Fin 2304 → ℝ} {v : Fin 2304 → Fin 64 → EReal}
    (hx : Holds x e) (hy : ∀ κ d, y (ix2 κ d) = v κ d) (r : Fin 512) (d : Fin 64) :
    (matmul dot_S512x2304_S2304x64_S512x64_1_0_0_1_n_n none x y (constant S512x64 .f32 0x00000000#32) : FVec Ideal S512x64 .f32) (ix2 r d)
      = ∑ κ, (e r κ : EReal) * v κ d := by
  simp only [pointwise, Ideal.ofBits_zero_f32, zero_add]
  exact Finset.sum_congr rfl fun κ _ => congrArg₂ (· * ·) (hx r κ) (hy κ d)

section Group

variable {q : Fin 512 → Fin 64 → ℝ} {k : Fin 2304 → Fin 64 → ℝ} {v : Fin 2304 → Fin 64 → EReal}
  {q0 q1 q2 q3 : FVec Ideal S128x64 .f32} {kb : FVec Ideal S2304x64 .bf16} {vb : Vec Ideal S1x2304x64 .bf16}

/-- The first group's output. -/
theorem group0_at (h0 : Holds q0 fun i => q (row 0 i)) (h1 : Holds q1 fun i => q (row 1 i))
    (h2 : Holds q2 fun i => q (row 2 i)) (h3 : Holds q3 fun i => q (row 3 i)) (hk : Holds kb k)
    (hv : ∀ κ d, (shapeCast S2304x64 vb shapeCasts_S1x2304x64_S2304x64 : FVec Ideal S2304x64 .bf16) (ix2 κ d) = v κ d)
    (r : Fin 512) (d : Fin 64) : k0_pay13 q0 q1 q2 q3 kb vb (ix2 r d) = ∑ κ, (Soft.pr (q r) k κ : EReal) * v κ d := by
  have hQ := holds_stack h0 h1 h2 h3
  have hK := holds_wide hk bitsLt_bf16_f32
  obtain ⟨M, hE⟩ := exists_exps hQ hK
  have hR := holds_alongRows64 (holds_recip (holds_rowSum hE))
  have hO := weighted (holds_narrow hE bitsLt_bf16_f32) hv r d
  exact (congrArg₂ (· * ·) hO (hR r d)).trans (scaled (q r) k (M r) fun κ => v κ d)

/-- The second group's output. -/
theorem group1_at (h0 : Holds q0 fun i => q (row 0 i)) (h1 : Holds q1 fun i => q (row 1 i))
    (h2 : Holds q2 fun i => q (row 2 i)) (h3 : Holds q3 fun i => q (row 3 i)) (hk : Holds kb k)
    (hv : ∀ κ d, (shapeCast S2304x64 vb shapeCasts_S1x2304x64_S2304x64 : FVec Ideal S2304x64 .bf16) (ix2 κ d) = v κ d)
    (r : Fin 512) (d : Fin 64) :
    k0_pay21 (k0_pay19 q0 q1 q2 q3 kb vb) (k0_pay20 q0 q1 q2 q3 kb) (Scalar.ofBits .f32 0x3F800000#32) (ix2 r d)
      = ∑ κ, (Soft.pr (q r) k κ : EReal) * v κ d :=
  group0_at h0 h1 h2 h3 hk hv r d

end Group

/-! ## The block -/

section

variable {x0 : Vec Ideal S1x128x512 .bf16} {x1 x2 : Vec Ideal S1x2304x128 .bf16}
  {Q : Fin 128 → Fin 512 → ℝ} {K : Fin 2304 → Fin 128 → ℝ}

/-- Head `4 g + j` of the queries. -/
theorem holds_q (hx : ∀ i c, x0 (ix3 0 i c) = (Q i c : EReal)) (g : Fin 2) (j : Fin 4) (o : ℕ) (ho : o = 64 * (4 * g.val + j.val)) (inb) :
    Holds (k0_pay3 (View.ld x0 (Rect.unit ![0, 0, o] ![1, 128, 64] inb))) fun i => stack Q g (row j i) := fun i d => by
  show _ = ((stack Q g (row j i) d : ℝ) : EReal)
  rw [stack_row]
  exact (load_apply x0 o inb shapeCasts_S1x128x64_S128x64 i d ⟨64 * (4 * g.val + j.val) + d.val, by omega⟩ (by simp only [ho])).trans (hx i _)

/-- Group `g` of the keys. -/
theorem holds_k (hx : ∀ κ c, x1 (ix3 0 κ c) = (K κ c : EReal)) (g : Fin 2) (o : ℕ) (ho : o = 64 * g.val) (inb) :
    Holds (k0_pay11 (View.ld x1 (Rect.unit ![0, 0, o] ![1, 2304, 64] inb))) (group K g) := fun κ d =>
  (load_apply x1 o inb shapeCasts_S1x2304x64_S2304x64 κ d ⟨64 * g.val + d.val, by omega⟩ (by simp only [ho])).trans (hx κ _)

/-- Group `g` of the values. -/
theorem at_v (x2 : Vec Ideal S1x2304x128 .bf16) (g : Fin 2) (o : ℕ) (ho : o = 64 * g.val) (inb) (κ : Fin 2304) (d : Fin 64) :
    (shapeCast S2304x64 (View.ld x2 (Rect.unit ![0, 0, o] ![1, 2304, 64] inb)) shapeCasts_S1x2304x64_S2304x64 : FVec Ideal S2304x64 .bf16) (ix2 κ d)
      = x2 (ix3 0 κ ⟨64 * g.val + d.val, by omega⟩) :=
  load_apply x2 o inb shapeCasts_S1x2304x64_S2304x64 κ d _ (by simp only [ho])

/-- The lane of the values a lane of the output reads. -/
def vLane (c : Fin 512) : Fin 128 := ⟨64 * (groupOf (laneHead c)).val + (lanePos c).val, by omega⟩

/-- The output at row `i`, lane `c`: the probabilities of the lane's head times the values. -/
def attB {n : ℕ} (Q : Fin n → Fin 512 → ℝ) (K : Fin 2304 → Fin 128 → ℝ) (V : Fin 2304 → Fin 128 → EReal) (i : Fin n) (c : Fin 512) : EReal :=
  ∑ κ, (Soft.pr (head Q i (laneHead c)) (group K (groupOf (laneHead c))) κ : EReal) * V κ (vLane c)

/-- A group's output, by row of the stack. -/
def grp (Q : Fin 128 → Fin 512 → ℝ) (K : Fin 2304 → Fin 128 → ℝ) (V : Fin 2304 → Fin 128 → EReal) (g : Fin 2) (r : Fin 512) (d : Fin 64) : EReal :=
  ∑ κ, (Soft.pr (stack Q g r) (group K g) κ : EReal) * V κ ⟨64 * g.val + d.val, by omega⟩

theorem attB_lane (V : Fin 2304 → Fin 128 → EReal) (g : Fin 2) (j : Fin 4) (i : Fin 128) (d : Fin 64) (c : Fin 512)
    (hcl : c.val = 64 * (4 * g.val + j.val) + d.val) : attB Q K V i c = grp Q K V g (row j i) d := by
  have e1 : laneHead c = ⟨4 * g.val + j.val, by omega⟩ := Fin.ext (by show c.val / 64 = 4 * g.val + j.val; omega)
  have e2 : groupOf (laneHead c) = g := by rw [e1]; exact Fin.ext (by show (4 * g.val + j.val) / 4 = g.val; omega)
  have e3 : vLane c = ⟨64 * g.val + d.val, by omega⟩ := Fin.ext (by
    show 64 * (groupOf (laneHead c)).val + c.val % 64 = 64 * g.val + d.val
    rw [e2]; omega)
  unfold attB grp
  rw [e3, e2, e1, stack_row]

/-- The stored piece of one head, read at an index. -/
theorem headPiece {D : FVec Ideal S512x64 .f32} {f : Fin 512 → Fin 64 → EReal} (hD : ∀ r d, D (ix2 r d) = f r d) (j : Fin 4) (o : ℕ)
    (ho : o = 128 * j.val) (hs : S512x64.Slices ![o, 0] S128x64) (x : S1x128x64.Idx) :
    (shapeCast S1x128x64 (truncf .bf16 (extractStridedSlice S128x64 ![o, 0] D hs) bitsLt_bf16_f32) shapeCasts_S128x64_S1x128x64
      : FVec Ideal S1x128x64 .bf16) x = f (row j (x 1)) (x 2) := by
  refine (shapeCast_addUnit_apply ![128, 64] _ shapeCasts_S128x64_S1x128x64 x).trans ?_
  show extractStridedSlice S128x64 ![o, 0] D hs (fun a => x a.succ) = _
  refine (extractStridedSlice_apply ![o, 0] D hs _ (ix2 (row j (x 1)) (x 2)) fun a => ?_).trans (hD _ _)
  match a with
  | ⟨0, _⟩ => show 128 * j.val + (x 1).val = o + (x 1).val; rw [ho]
  | ⟨1, _⟩ => show (x 2).val = 0 + (x 2).val; omega

/-- The stores' lanes cover the block. -/
theorem mem_lanes (y : S1x128x512.Idx) (o : ℕ) (inb) (ha : o ≤ (y 2).val) (hb : (y 2).val < o + 64) :
    y ∈ (Rect.unit (s := S1x128x512) ![0, 0, o] ![1, 128, 64] inb).set := by
  have hy0 : (y 0).val < 1 := (y 0).isLt
  have hy1 : (y 1).val < 128 := (y 1).isLt
  rw [Rect.mem_set_unit]
  intro a
  match a with
  | ⟨0, _⟩ => exact ⟨Nat.zero_le _, by show (y 0).val < 0 + 1; omega⟩
  | ⟨1, _⟩ => exact ⟨Nat.zero_le _, by show (y 1).val < 0 + 128; omega⟩
  | ⟨2, _⟩ => exact ⟨ha, hb⟩

/-- The values of a block. -/
def vals (x2 : Vec Ideal S1x2304x128 .bf16) (κ : Fin 2304) (l : Fin 128) : EReal := x2 (ix3 0 κ l)

/-- One head's rows of a group's output, as stored. -/
abbrev head1 (D : FVec Ideal S512x64 .f32) (o : Fin 2 → ℕ) (hs : S512x64.Slices o S128x64) : Vec Ideal S1x128x64 .bf16 :=
  shapeCast S1x128x64 (truncf .bf16 (extractStridedSlice S128x64 o D hs) bitsLt_bf16_f32) shapeCasts_S128x64_S1x128x64

/-- The eight stores, the last one first. -/
def pieces (D0 D1 : FVec Ideal S512x64 .f32) : List (View.Piece (Elt Ideal) S1x128x512 .bf16) :=
  [⟨Rect.unit ![0, 0, 448] ![1, 128, 64] inb_S1x128x512_S1x128x64_0_0_448, head1 D1 ![384, 0] slices_S512x64_o384_0_S128x64⟩,
   ⟨Rect.unit ![0, 0, 384] ![1, 128, 64] inb_S1x128x512_S1x128x64_0_0_384, head1 D1 ![256, 0] slices_S512x64_o256_0_S128x64⟩,
   ⟨Rect.unit ![0, 0, 320] ![1, 128, 64] inb_S1x128x512_S1x128x64_0_0_320, head1 D1 ![128, 0] slices_S512x64_o128_0_S128x64⟩,
   ⟨Rect.unit ![0, 0, 256] ![1, 128, 64] inb_S1x128x512_S1x128x64_0_0_256, head1 D1 ![0, 0] slices_S512x64_o0_0_S128x64⟩,
   ⟨Rect.unit ![0, 0, 192] ![1, 128, 64] inb_S1x128x512_S1x128x64_0_0_192, head1 D0 ![384, 0] slices_S512x64_o384_0_S128x64⟩,
   ⟨Rect.unit ![0, 0, 128] ![1, 128, 64] inb_S1x128x512_S1x128x64_0_0_128, head1 D0 ![256, 0] slices_S512x64_o256_0_S128x64⟩,
   ⟨Rect.unit ![0, 0, 64] ![1, 128, 64] inb_S1x128x512_S1x128x64_0_0_64, head1 D0 ![128, 0] slices_S512x64_o128_0_S128x64⟩,
   ⟨Rect.unit ![0, 0, 0] ![1, 128, 64] inb_S1x128x512_S1x128x64_0_0_0, head1 D0 ![0, 0] slices_S512x64_o0_0_S128x64⟩]

/-- One store's value at an index. -/
theorem key {V : Fin 2304 → Fin 128 → EReal} (g : Fin 2) (D : FVec Ideal S512x64 .f32) (hD : ∀ r d, D (ix2 r d) = grp Q K V g r d)
    (j : Fin 4) (o o' : ℕ) (ho : o = 128 * j.val) (ho' : o' = 64 * (4 * g.val + j.val))
    (hs : S512x64.Slices ![o, 0] S128x64) (inb) (x : S1x128x64.Idx) :
    head1 D ![o, 0] hs x
      = attB Q K V ((Rect.unit (s := S1x128x512) ![0, 0, o'] ![1, 128, 64] inb).emb x 1)
          ((Rect.unit (s := S1x128x512) ![0, 0, o'] ![1, 128, 64] inb).emb x 2) := by
  refine (headPiece hD j o ho hs x).trans ?_
  have e1 : (Rect.unit (s := S1x128x512) ![0, 0, o'] ![1, 128, 64] inb).emb x 1 = x 1 :=
    Fin.ext ((Rect.idx_unit_val _ _ inb x 1).trans (Nat.zero_add _))
  have e2 : ((Rect.unit (s := S1x128x512) ![0, 0, o'] ![1, 128, 64] inb).emb x 2).val = o' + (x 2).val :=
    Rect.idx_unit_val _ _ inb x 2
  rw [e1]
  exact (attB_lane V g j (x 1) (x 2) _ (e2.trans (by rw [ho']))).symm

theorem pieces_value {D0 D1 : FVec Ideal S512x64 .f32} {V : Fin 2304 → Fin 128 → EReal} (h0 : ∀ r d, D0 (ix2 r d) = grp Q K V 0 r d)
    (h1 : ∀ r d, D1 (ix2 r d) = grp Q K V 1 r d) (p : View.Piece (Elt Ideal) S1x128x512 .bf16) (hp : p ∈ pieces D0 D1) (x : p.1.shape.Idx) :
    p.2 x = attB Q K V (p.1.emb x 1) (p.1.emb x 2) := by
  simp only [pieces, List.mem_cons, List.not_mem_nil, or_false] at hp
  rcases hp with rfl | rfl | rfl | rfl | rfl | rfl | rfl | rfl
  · exact key 1 D1 h1 3 384 448 rfl rfl slices_S512x64_o384_0_S128x64 inb_S1x128x512_S1x128x64_0_0_448 x
  · exact key 1 D1 h1 2 256 384 rfl rfl slices_S512x64_o256_0_S128x64 inb_S1x128x512_S1x128x64_0_0_384 x
  · exact key 1 D1 h1 1 128 320 rfl rfl slices_S512x64_o128_0_S128x64 inb_S1x128x512_S1x128x64_0_0_320 x
  · exact key 1 D1 h1 0 0 256 rfl rfl slices_S512x64_o0_0_S128x64 inb_S1x128x512_S1x128x64_0_0_256 x
  · exact key 0 D0 h0 3 384 192 rfl rfl slices_S512x64_o384_0_S128x64 inb_S1x128x512_S1x128x64_0_0_192 x
  · exact key 0 D0 h0 2 256 128 rfl rfl slices_S512x64_o256_0_S128x64 inb_S1x128x512_S1x128x64_0_0_128 x
  · exact key 0 D0 h0 1 128 64 rfl rfl slices_S512x64_o128_0_S128x64 inb_S1x128x512_S1x128x64_0_0_64 x
  · exact key 0 D0 h0 0 0 0 rfl rfl slices_S512x64_o0_0_S128x64 inb_S1x128x512_S1x128x64_0_0_0 x

theorem pieces_cover (D0 D1 : FVec Ideal S512x64 .f32) (y : S1x128x512.Idx) : ∃ p ∈ pieces D0 D1, y ∈ p.1.set := by
  have tl {α : Type} {p : α → Prop} {a : α} {l : List α} (h : ∃ x ∈ l, p x) : ∃ x ∈ a :: l, p x :=
    h.imp fun _ h => ⟨List.mem_cons_of_mem _ h.1, h.2⟩
  have hd {α : Type} {p : α → Prop} {a : α} {l : List α} (h : p a) : ∃ x ∈ a :: l, p x := ⟨a, List.mem_cons_self, h⟩
  have hy2 : (y 2).val < 512 := (y 2).isLt
  unfold pieces
  rcases (by omega : (y 2).val / 64 = 7 ∨ (y 2).val / 64 = 6 ∨ (y 2).val / 64 = 5 ∨ (y 2).val / 64 = 4 ∨ (y 2).val / 64 = 3
    ∨ (y 2).val / 64 = 2 ∨ (y 2).val / 64 = 1 ∨ (y 2).val / 64 = 0) with h | h | h | h | h | h | h | h
  · exact hd (mem_lanes y 448 inb_S1x128x512_S1x128x64_0_0_448 (by omega) (by omega))
  · exact tl (hd (mem_lanes y 384 inb_S1x128x512_S1x128x64_0_0_384 (by omega) (by omega)))
  · exact tl (tl (hd (mem_lanes y 320 inb_S1x128x512_S1x128x64_0_0_320 (by omega) (by omega))))
  · exact tl (tl (tl (hd (mem_lanes y 256 inb_S1x128x512_S1x128x64_0_0_256 (by omega) (by omega)))))
  · exact tl (tl (tl (tl (hd (mem_lanes y 192 inb_S1x128x512_S1x128x64_0_0_192 (by omega) (by omega))))))
  · exact tl (tl (tl (tl (tl (hd (mem_lanes y 128 inb_S1x128x512_S1x128x64_0_0_128 (by omega) (by omega)))))))
  · exact tl (tl (tl (tl (tl (tl (hd (mem_lanes y 64 inb_S1x128x512_S1x128x64_0_0_64 (by omega) (by omega))))))))
  · exact tl (tl (tl (tl (tl (tl (tl (hd (mem_lanes y 0 inb_S1x128x512_S1x128x64_0_0_0 (by omega) (by omega)))))))))

/-- The first group's output on the block. -/
theorem first (hq : ∀ i c, x0 (ix3 0 i c) = (Q i c : EReal)) (hk : ∀ κ c, x1 (ix3 0 κ c) = (K κ c : EReal)) (r : Fin 512) (d : Fin 64) :
    k0_pay13 (k0_pay30 x0 x1 x2) (k0_pay31 x0 x1 x2) (k0_pay32 x0 x1 x2) (k0_pay33 x0 x1 x2) (k0_pay38 x0 x1 x2) (View.ld x2 r0_8) (ix2 r d)
      = grp Q K (vals x2) 0 r d :=
  group0_at (holds_q hq 0 0 0 rfl inb_S1x128x512_S1x128x64_0_0_0) (holds_q hq 0 1 64 rfl inb_S1x128x512_S1x128x64_0_0_64)
    (holds_q hq 0 2 128 rfl inb_S1x128x512_S1x128x64_0_0_128) (holds_q hq 0 3 192 rfl inb_S1x128x512_S1x128x64_0_0_192)
    (holds_k hk 0 0 rfl inb_S1x2304x128_S1x2304x64_0_0_0) (at_v x2 0 0 rfl inb_S1x2304x128_S1x2304x64_0_0_0) r d

/-- The second group's. -/
theorem second (hq : ∀ i c, x0 (ix3 0 i c) = (Q i c : EReal)) (hk : ∀ κ c, x1 (ix3 0 κ c) = (K κ c : EReal)) (r : Fin 512) (d : Fin 64) :
    k0_pay21 (k0_pay40 x0 x1 x2) (k0_pay41 x0 x1 x2) (Scalar.ofBits .f32 0x3F800000#32) (ix2 r d) = grp Q K (vals x2) 1 r d :=
  group1_at (holds_q hq 1 0 256 rfl inb_S1x128x512_S1x128x64_0_0_256) (holds_q hq 1 1 320 rfl inb_S1x128x512_S1x128x64_0_0_320)
    (holds_q hq 1 2 384 rfl inb_S1x128x512_S1x128x64_0_0_384) (holds_q hq 1 3 448 rfl inb_S1x128x512_S1x128x64_0_0_448)
    (holds_k hk 1 64 rfl inb_S1x2304x128_S1x2304x64_0_0_64) (at_v x2 1 64 rfl inb_S1x2304x128_S1x2304x64_0_0_64) r d

/-- The stores are the two groups' heads. -/
theorem out_pieces : out0_3 x0 x1 x2 = View.canon (pieces
    (k0_pay13 (k0_pay30 x0 x1 x2) (k0_pay31 x0 x1 x2) (k0_pay32 x0 x1 x2) (k0_pay33 x0 x1 x2) (k0_pay38 x0 x1 x2) (View.ld x2 r0_8))
    (k0_pay21 (k0_pay40 x0 x1 x2) (k0_pay41 x0 x1 x2) (Scalar.ofBits .f32 0x3F800000#32))) := rfl

/-- The stores at an index. -/
theorem out_value (hq : ∀ i c, x0 (ix3 0 i c) = (Q i c : EReal)) (hk : ∀ κ c, x1 (ix3 0 κ c) = (K κ c : EReal)) (y : S1x128x512.Idx) :
    (View.canon (pieces
    (k0_pay13 (k0_pay30 x0 x1 x2) (k0_pay31 x0 x1 x2) (k0_pay32 x0 x1 x2) (k0_pay33 x0 x1 x2) (k0_pay38 x0 x1 x2) (View.ld x2 r0_8))
    (k0_pay21 (k0_pay40 x0 x1 x2) (k0_pay41 x0 x1 x2) (Scalar.ofBits .f32 0x3F800000#32))) : Vec Ideal S1x128x512 .bf16) y = attB Q K (vals x2) (y 1) (y 2) := by
  have h0 := first (x2 := x2) hq hk
  have h1 := second (x2 := x2) hq hk
  generalize k0_pay13 (k0_pay30 x0 x1 x2) (k0_pay31 x0 x1 x2) (k0_pay32 x0 x1 x2) (k0_pay33 x0 x1 x2) (k0_pay38 x0 x1 x2) (View.ld x2 r0_8) = D0 at h0 ⊢
  generalize k0_pay21 (k0_pay40 x0 x1 x2) (k0_pay41 x0 x1 x2) (Scalar.ofBits .f32 0x3F800000#32) = D1 at h1 ⊢
  exact View.canon_apply_of_pieces (Val := Elt Ideal) (S := S1x128x512) (e := .bf16) (fun y : S1x128x512.Idx => attB Q K (vals x2) (y 1) (y 2)) (pieces D0 D1)
    (fun p hp x => pieces_value h0 h1 p hp x) y (pieces_cover D0 D1 y)

/-- The output block, from the arguments. -/
theorem out_apply (hq : ∀ i c, x0 (ix3 0 i c) = (Q i c : EReal)) (hk : ∀ κ c, x1 (ix3 0 κ c) = (K κ c : EReal)) (y : S1x128x512.Idx) :
    (out0_3 x0 x1 x2 : Vec Ideal S1x128x512 .bf16) y = attB Q K (vals x2) (y 1) (y 2) := by
  rw [out_pieces]
  exact out_value hq hk y

end

end Cert.AttnIdeal.Whole

end
-- ==== Proof.AttnFwdRef.lean ====
/- What the forward attention's reference computes: queries and keys hold real numbers, the values may be any extended real
   numbers. -/
module

public import proofs.«01_k».proof.Proof.AttnBlock
public import proofs.«01_k».proof.Proof.Ref
public import proofs.«01_k».proof.Proof.Gen.AttnRefIdeal.Read

@[expose] public section

noncomputable section

open scoped BigOperators

namespace Cert.AttnRefIdeal.Whole

open Cert.AttnRefIdeal Cert.AttnRefIdeal.Gen Cert.AttnRefIdeal.Read
open Cert.KernelIdeal.Entry (head group groupOf laneHead lanePos)
open Cert.AttnIdeal.Whole (attB vLane)
open Cert.ReferenceIdeal.Ref (hh groupOf_hh qr kr)
open Idealize.ShloMosaic Idealize.ShloMosaic.TcCoe

variable (x0 : (⟨S4x2304x512, .bf16⟩ : BufTy).Contents (Elt Ideal)) (x1 : (⟨S4x2304x128, .bf16⟩ : BufTy).Contents (Elt Ideal))
  (x2 : (⟨S4x2304x10240, .bf16⟩ : BufTy).Contents (Elt Ideal))
variable (q : Fin 4 → Fin 2048 → Fin 512 → ℝ) (k : Fin 4 → Fin 2304 → Fin 128 → ℝ)

/-- Queries and keys hold real numbers where the reference reads them. -/
structure Reals : Prop where
  q : ∀ b n l, x0 (ix3 b ⟨256 + n.val, by omega⟩ l) = (q b n l : EReal)
  k : ∀ b κ l, x1 (ix3 b κ l) = (k b κ l : EReal)

/-- The values of batch `b`. -/
def vals (b : Fin 4) (κ : Fin 2304) (l : Fin 128) : EReal := x2 (ix3 b κ ⟨9856 + l.val, by omega⟩)

/-! ## The arguments, by head -/

theorem values (i : S4x2304x2x64.Idx) : val_main_v7 x2 i = vals x2 (i 0) (i 1) ⟨64 * (i 2).val + (i 3).val,
    by have h2 : (i 2).val < 2 := (i 2).isLt; have h3 : (i 3).val < 64 := (i 3).isLt; omega⟩ := by
  have h0 : (i 0).val < 4 := (i 0).isLt
  have h1 : (i 1).val < 2304 := (i 1).isLt
  have h2 : (i 2).val < 2 := (i 2).isLt
  have h3 : (i 3).val < 64 := (i 3).isLt
  rw [val_main_v7_apply, val_main_v4_apply, val_main_v3_apply]
  refine congrArg x2 (funext fun a => Fin.ext ?_)
  match a with
  | ⟨0, _⟩ => show ((((i 0).val * 2304 + (i 1).val) * 2 + (i 2).val) * 64 + (i 3).val) / 294912 = (i 0).val; omega
  | ⟨1, _⟩ => show ((((i 0).val * 2304 + (i 1).val) * 2 + (i 2).val) * 64 + (i 3).val) / 128 % 2304 = (i 1).val; omega
  | ⟨2, _⟩ => show 9856 + ((((i 0).val * 2304 + (i 1).val) * 2 + (i 2).val) * 64 + (i 3).val) % 128 = 9856 + (64 * (i 2).val + (i 3).val); omega

variable {x0 x1 q k} (H : Reals x0 x1 q k)
include H

theorem keys (i : S4x2304x2x64.Idx) : val_main_v6 x1 i = (group (k (i 0)) (i 2) (i 1) (i 3) : EReal) := by
  have h0 : (i 0).val < 4 := (i 0).isLt
  have h1 : (i 1).val < 2304 := (i 1).isLt
  have h2 : (i 2).val < 2 := (i 2).isLt
  have h3 : (i 3).val < 64 := (i 3).isLt
  rw [val_main_v6_apply, val_main_v2_apply]
  refine Eq.trans (congrArg x1 (funext fun a => Fin.ext ?_)) (H.k (i 0) (i 1) ⟨64 * (i 2).val + (i 3).val, by omega⟩)
  match a with
  | ⟨0, _⟩ => show ((((i 0).val * 2304 + (i 1).val) * 2 + (i 2).val) * 64 + (i 3).val) / 294912 = (i 0).val; omega
  | ⟨1, _⟩ => show ((((i 0).val * 2304 + (i 1).val) * 2 + (i 2).val) * 64 + (i 3).val) / 128 % 2304 = (i 1).val; omega
  | ⟨2, _⟩ => show ((((i 0).val * 2304 + (i 1).val) * 2 + (i 2).val) * 64 + (i 3).val) % 128 = 64 * (i 2).val + (i 3).val; omega

theorem queries5 (i : S4x2048x8x64.Idx) : val_main_v5 x0 i = (head (q (i 0)) (i 1) (i 2) (i 3) : EReal) := by
  have h0 : (i 0).val < 4 := (i 0).isLt
  have h1 : (i 1).val < 2048 := (i 1).isLt
  have h2 : (i 2).val < 8 := (i 2).isLt
  have h3 : (i 3).val < 64 := (i 3).isLt
  rw [val_main_v5_apply, val_main_v1_apply, val_main_v0_apply]
  refine Eq.trans (congrArg x0 (funext fun a => Fin.ext ?_)) (H.q (i 0) (i 1) ⟨64 * (i 2).val + (i 3).val, by omega⟩)
  match a with
  | ⟨0, _⟩ => show ((((i 0).val * 2048 + (i 1).val) * 8 + (i 2).val) * 64 + (i 3).val) / 1048576 = (i 0).val; omega
  | ⟨1, _⟩ => show 256 + ((((i 0).val * 2048 + (i 1).val) * 8 + (i 2).val) * 64 + (i 3).val) / 512 % 2048 = 256 + (i 1).val; omega
  | ⟨2, _⟩ => show ((((i 0).val * 2048 + (i 1).val) * 8 + (i 2).val) * 64 + (i 3).val) % 512 = 64 * (i 2).val + (i 3).val; omega

theorem queries (i : S4x2048x2x4x64.Idx) : val_main_v8 x0 i = (head (q (i 0)) (i 1) (hh (i 2) (i 3)) (i 4) : EReal) := by
  have h0 : (i 0).val < 4 := (i 0).isLt
  have h1 : (i 1).val < 2048 := (i 1).isLt
  have h2 : (i 2).val < 2 := (i 2).isLt
  have h3 : (i 3).val < 4 := (i 3).isLt
  have h4 : (i 4).val < 64 := (i 4).isLt
  rw [val_main_v8_apply, queries5 H]
  have e0 : idx_main_v8 i 0 = i 0 := Fin.ext (by
    show (((((i 0).val * 2048 + (i 1).val) * 2 + (i 2).val) * 4 + (i 3).val) * 64 + (i 4).val) / 1048576 = (i 0).val; omega)
  have e1 : idx_main_v8 i 1 = i 1 := Fin.ext (by
    show (((((i 0).val * 2048 + (i 1).val) * 2 + (i 2).val) * 4 + (i 3).val) * 64 + (i 4).val) / 512 % 2048 = (i 1).val; omega)
  have e2 : idx_main_v8 i 2 = hh (i 2) (i 3) := Fin.ext (by
    show (((((i 0).val * 2048 + (i 1).val) * 2 + (i 2).val) * 4 + (i 3).val) * 64 + (i 4).val) / 64 % 8 = 4 * (i 2).val + (i 3).val; omega)
  have e3 : idx_main_v8 i 3 = i 4 := Fin.ext (by
    show (((((i 0).val * 2048 + (i 1).val) * 2 + (i 2).val) * 4 + (i 3).val) * 64 + (i 4).val) % 64 = (i 4).val; omega)
  rw [e0, e1, e2, e3]

/-! ## Softmax -/

theorem scores (i : S4x2x4x2048x2304.Idx) :
    val_main_v10 x0 x1 i = (Soft.sc (qr q (i 0) (i 1) (i 2) (i 3)) (kr k (i 0) (i 1)) (i 4) : EReal) := by
  rw [val_main_v10_apply, val_main_v9_apply]
  unfold Soft.sc
  rw [← Cert.Fin.sum_coe]
  refine Finset.sum_congr rfl fun d _ => ?_
  rw [keys H, queries H, ← EReal.coe_mul, mul_comm]
  rfl

/-- The rows' maxima are finite. -/
theorem exists_max : ∃ M : S4x2x4x2048.Idx → ℝ, ∀ i, val_main_v13 x0 x1 i = (M i : EReal) := by
  have hr : S4x2x4x2048x2304.Reduces [4] S4x2x4x2048 := by decide
  have h : ∀ i : S4x2x4x2048.Idx, ∃ M : ℝ, val_main_v11 x0 x1 i = (M : EReal) := fun i => by
    obtain ⟨M, hM⟩ := Cert.Fin.fold_max_coe (Finset.univ : Finset (Fin 2304)) ⟨0, Finset.mem_univ _⟩
      (fun κ => Soft.sc (qr q (i 0) (i 1) (i 2) (i 3)) (kr k (i 0) (i 1)) κ)
    refine ⟨M, ?_⟩
    unfold val_main_v11 val_main_cst
    refine (congrFun (hostReduce_maximumf_eq_multiReduction (val_main_v10 x0 x1) 0xFF800000#32
      reducesTo_S4x2x4x2048x2304_S4x2x4x2048_d4 h_S_ hr (.inl rfl) rfl) i).trans ?_
    refine (Ideal.multiReduction_maximumf_single _ _ _ _ _ _).trans (Eq.trans ?_ hM)
    have e : (val_main_v10 x0 x1 ∘ hr.lift i) = fun κ : Fin 2304 => ((Soft.sc (qr q (i 0) (i 1) (i 2) (i 3)) (kr k (i 0) (i 1)) κ : ℝ) : EReal) :=
      funext fun κ => (scores H (hr.lift i κ)).trans rfl
    rw [e]
    show Finset.fold max (Ideal.ofBits .f32 0xFF800000#32) _ _ = _
    rw [Cert.Fin.ofBits_neg_inf]
    rfl
  choose M hM using h
  refine ⟨M, fun i => ?_⟩
  rw [val_main_v13_apply, val_main_v12_apply, val_main_cst_0_apply, hM]
  show max (Ideal.ofBits .f32 0xFF800000#32) (M i : EReal) = _
  rw [Cert.Fin.ofBits_neg_inf, max_eq_right bot_le]

/-- The row an entry of a score array lies in. -/
abbrev rowIx (i : S4x2x4x2048x2304.Idx) : S4x2x4x2048.Idx := ix4 (i 0) (i 1) (i 2) (i 3)

section
variable (M : S4x2x4x2048.Idx → ℝ) (hM : ∀ i, val_main_v13 x0 x1 i = (M i : EReal))
include hM

theorem exps (i : S4x2x4x2048x2304.Idx) :
    val_main_v17 x0 x1 i = (Soft.ex (qr q (i 0) (i 1) (i 2) (i 3)) (kr k (i 0) (i 1)) (M (rowIx i)) (i 4) : EReal) := by
  rw [val_main_v17_apply, val_main_v16_apply, scores H, val_main_v15_apply, val_main_v14_apply, hM]
  have e : idx_main_v14 (idx_main_v15 i) = rowIx i := funext fun a => Fin.ext (by
    match a with | ⟨0, _⟩ => rfl | ⟨1, _⟩ => rfl | ⟨2, _⟩ => rfl | ⟨3, _⟩ => rfl)
  rw [e]
  simp only [Ideal.hostUnary_exp_def]
  show Ideal.exp ((_ : EReal) - (_ : EReal)) = _
  rw [← EReal.coe_sub, Ideal.exp_coe]
  rfl

theorem tots (i : S4x2x4x2048.Idx) :
    val_main_v18 x0 x1 i = (Soft.tot (qr q (i 0) (i 1) (i 2) (i 3)) (kr k (i 0) (i 1)) (M (ix4 (i 0) (i 1) (i 2) (i 3))) : EReal) := by
  rw [val_main_v18_apply]
  unfold Soft.tot
  rw [← Cert.Fin.sum_coe]
  show Ideal.ofBits .f32 0x00000000#32 + _ = _
  rw [Ideal.ofBits_zero_f32, zero_add]
  exact Finset.sum_congr rfl fun κ _ => exps H M hM (idx_main_v18 i κ)

theorem probs (i : S4x2x4x2048x2304.Idx) :
    val_main_v21 x0 x1 i = (Soft.pr (qr q (i 0) (i 1) (i 2) (i 3)) (kr k (i 0) (i 1)) (i 4) : EReal) := by
  rw [val_main_v21_apply, exps H M hM, val_main_v20_apply, val_main_v19_apply, tots H M hM]
  show Ideal.div (_ : EReal) (_ : EReal) = _
  rw [Cert.Fin.div_coe (Soft.tot_ne _ _ _)]
  exact congrArg _ (Soft.ex_div_tot _ _ _ _)

theorem out22 (i : S4x2x64x4x2048.Idx) :
    val_main_v22 x0 x1 x2 i = ∑ κ, (Soft.pr (qr q (i 0) (i 1) (i 3) (i 4)) (kr k (i 0) (i 1)) κ : EReal)
      * vals x2 (i 0) κ ⟨64 * (i 1).val + (i 2).val,
          by have h2 : (i 1).val < 2 := (i 1).isLt; have h3 : (i 2).val < 64 := (i 2).isLt; omega⟩ := by
  rw [val_main_v22_apply]
  refine Finset.sum_congr rfl fun κ _ => ?_
  rw [values, probs H M hM, mul_comm]
  rfl

end

/-- The result. -/
theorem result (i : S4x2048x512.Idx) : val_main_v25 x0 x1 x2 i = attB (q (i 0)) (k (i 0)) (vals x2 (i 0)) (i 1) (i 2) := by
  obtain ⟨M, hM⟩ := exists_max H
  have h0 : (i 0).val < 4 := (i 0).isLt
  have h1 : (i 1).val < 2048 := (i 1).isLt
  have h2 : (i 2).val < 512 := (i 2).isLt
  refine (val_main_v25_apply x0 x1 x2 i).trans ?_
  show val_main_v24 x0 x1 x2 i = _
  rw [val_main_v24_apply, val_main_v23_apply, out22 x2 H M hM]
  generalize hj : idx_main_v23 (idx_main_v24 i) = j
  have e0 : j 0 = i 0 := Fin.ext (by
    rw [← hj]; show (((i 0).val * 2048 + (i 1).val) * 512 + (i 2).val) / 1048576 = _; omega)
  have e4 : j 4 = i 1 := Fin.ext (by
    rw [← hj]; show (((i 0).val * 2048 + (i 1).val) * 512 + (i 2).val) / 512 % 2048 = _; omega)
  have e1 : (j 1).val = (i 2).val / 256 := by
    rw [← hj]; show (((i 0).val * 2048 + (i 1).val) * 512 + (i 2).val) / 256 % 2 = _; omega
  have e3 : (j 3).val = (i 2).val / 64 % 4 := by
    rw [← hj]; show (((i 0).val * 2048 + (i 1).val) * 512 + (i 2).val) / 64 % 4 = _; omega
  have e2 : (j 2).val = (i 2).val % 64 := by
    rw [← hj]; show (((i 0).val * 2048 + (i 1).val) * 512 + (i 2).val) % 64 = _; omega
  have eh : hh (j 1) (j 3) = laneHead (i 2) := Fin.ext (by
    show 4 * (j 1).val + (j 3).val = (i 2).val / 64
    rw [e1, e3]; omega)
  have eg : j 1 = groupOf (laneHead (i 2)) := (groupOf_hh (j 1) (j 3)).symm.trans (congrArg groupOf eh)
  have el : ∀ h, (⟨64 * (j 1).val + (j 2).val, h⟩ : Fin 128) = vLane (i 2) := fun h => Fin.ext (by
    show 64 * (j 1).val + (j 2).val = 64 * (groupOf (laneHead (i 2))).val + (i 2).val % 64
    rw [e2, eg])
  unfold attB
  rw [el]
  unfold qr kr
  rw [e0, e4, eh, eg]

end Cert.AttnRefIdeal.Whole

end
-- ==== Proof.AttnPre.lean ====
/- What the forward attention's precondition says: queries and keys hold real numbers where the kernel reads them. -/
module

public import proofs.«01_k».proof.Pre_finite_scores
public import proofs.«01_k».proof.Proof.Pre

@[expose] public section

noncomputable section

namespace Cert.Pre_finite_scores

open Idealize.ShloMosaic

instance facts : Facts where
  bitsLt_bf16_f32 := by decide
  slices_S4x2304x512_S4x2048x512_0_256_0 := by decide
  bcast_S_S4x2048x512 := by decide
  bcast_S_S4x2304x128 := by decide

variable (x0 : FVec Ideal S4x2304x512 .bf16) (x1 : FVec Ideal S4x2304x128 .bf16) (x2 : FVec Ideal S4x2304x10240 .bf16)

theorem real_q (h : (fn x0 x1 x2).1 = fun _ => 1#1) (b : Fin 4) (n : Fin 2048) (l : Fin 512) :
    ∃ r : ℝ, x0 (ix3 b ⟨256 + n.val, by omega⟩ l) = (r : EReal) := by
  have h' : FloatOps.cmpf (F := Ideal) (φ := .f32) .olt (FloatOps.hostAbsf (extractStridedSlice S4x2048x512 ![0, 256, 0]
      (extf .f32 x0 facts.bitsLt_bf16_f32) facts.slices_S4x2304x512_S4x2048x512_0_256_0 (ix3 b n l))) (Ideal.ofBits .f32 0x7F800000#32) = 1#1 := congrFun h (ix3 b n l)
  obtain ⟨r, hr⟩ := Cert.Pre_finite.exists_real rfl h'
  refine ⟨r, ?_⟩
  rw [← hr]
  exact (extractStridedSlice_apply ![0, 256, 0] (extf .f32 x0 facts.bitsLt_bf16_f32) _ (ix3 b n l) (ix3 b ⟨256 + n.val, by omega⟩ l) (fun a => match a with
    | ⟨0, _⟩ => by show b.val = 0 + b.val; omega
    | ⟨1, _⟩ => by show 256 + n.val = 256 + n.val; omega
    | ⟨2, _⟩ => by show l.val = 0 + l.val; omega)).symm

theorem real_k (h : (fn x0 x1 x2).2 = fun _ => 1#1) (b : Fin 4) (κ : Fin 2304) (l : Fin 128) :
    ∃ r : ℝ, x1 (ix3 b κ l) = (r : EReal) :=
  Cert.Pre_finite.exists_real (x := x1 (ix3 b κ l)) rfl (congrFun h (ix3 b κ l))

end Cert.Pre_finite_scores

end
-- ==== Proof.Attn.lean ====
/- The forward attention's claim: the kernel's array is the reference's result. -/
module

public import proofs.«01_k».proof.Proof.Array
public import proofs.«01_k».proof.Defs
public import proofs.«01_k».proof.Proof.AttnFwdRef
public import proofs.«01_k».proof.Proof.AttnPre
public import proofs.«01_k».proof.Proof.Gen.AttnIdeal.Value
public import proofs.«01_k».proof.Proof.Gen.AttnRefIdeal.Run
public import Idealize.ShloMosaic.Lib.Claim

@[expose] public section

noncomputable section

namespace Cert.AttnIdeal.Whole

open Cert.AttnIdeal Cert.AttnIdeal.Gen
open Idealize.ShloMosaic Idealize.ShloMosaic.TcCoe Idealize.SL.Sem
open Idealize.ShloMosaic.Pipeline (Dat)
open Cert.KernelIdeal.Array (bat rowOf blk)

/-! ## The windows' indices -/

theorem index0 : ∀ t : Fin cfg0.N, win0_0.index t 0 = t.val / 16 ∧ win0_0.index t 1 = t.val % 16 + 2 ∧ win0_0.index t 2 = 0 :=
  (by decide +kernel : ∀ t : Fin grid0.N, win0_0.index t 0 = t.val / 16 ∧ win0_0.index t 1 = t.val % 16 + 2 ∧ win0_0.index t 2 = 0)

theorem index1 : ∀ t : Fin cfg0.N, win0_1.index t 0 = t.val / 16 ∧ win0_1.index t 1 = 0 ∧ win0_1.index t 2 = 0 :=
  (by decide +kernel : ∀ t : Fin grid0.N, win0_1.index t 0 = t.val / 16 ∧ win0_1.index t 1 = 0 ∧ win0_1.index t 2 = 0)

theorem index2 : ∀ t : Fin cfg0.N, win0_2.index t 0 = t.val / 16 ∧ win0_2.index t 1 = 0 ∧ win0_2.index t 2 = 77 :=
  (by decide +kernel : ∀ t : Fin grid0.N, win0_2.index t 0 = t.val / 16 ∧ win0_2.index t 1 = 0 ∧ win0_2.index t 2 = 77)

theorem index3 : ∀ t : Fin cfg0.N, win0_3.index t 0 = t.val / 16 ∧ win0_3.index t 1 = t.val % 16 ∧ win0_3.index t 2 = 0 :=
  (by decide +kernel : ∀ t : Fin grid0.N, win0_3.index t 0 = t.val / 16 ∧ win0_3.index t 1 = t.val % 16 ∧ win0_3.index t 2 = 0)

theorem lt_N (t : Fin cfg0.N) : t.val < 64 := lt_of_lt_of_eq t.isLt N_0

variable (m : (ℓ : Loc nD τ sig) → Buf (Elt Ideal) ℓ) (c : Dev nD)

/-- The queries, the keys and the array the values lie in, as launched. -/
abbrev qArr : Vec Ideal S4x2304x512 .bf16 := m ((c : Thread nD τ).loc main_arg0)
abbrev kArr : Vec Ideal S4x2304x128 .bf16 := m ((c : Thread nD τ).loc main_arg1)
abbrev vArr : Vec Ideal S4x2304x10240 .bf16 := m ((c : Thread nD τ).loc main_arg2)

/-! ## The blocks -/

theorem block0 (t : Fin cfg0.N) (i : Fin 128) (l : Fin 512) :
    (iblk m c 0 t : Vec Ideal S1x128x512 .bf16) (ix3 0 i l) = qArr m c (ix3 (bat t.val) ⟨256 + (rowOf (t.val % 16) i).val, by omega⟩ l) := by
  have ht := lt_N t
  obtain ⟨e0, e1, e2⟩ := index0 t
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val / 16 % 4; rw [e0]; omega
  | ⟨1, _⟩ => show win0_0.index t 1 * 128 + 1 * i.val = 256 + (128 * (t.val % 16) + i.val) % 2048; rw [e1]; omega
  | ⟨2, _⟩ => show win0_0.index t 2 * 512 + 1 * l.val = l.val; rw [e2]; omega

theorem block1 (t : Fin cfg0.N) (κ : Fin 2304) (l : Fin 128) :
    (iblk m c 1 t : Vec Ideal S1x2304x128 .bf16) (ix3 0 κ l) = kArr m c (ix3 (bat t.val) κ l) := by
  have ht := lt_N t
  obtain ⟨e0, e1, e2⟩ := index1 t
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 16 % 4; rw [e0]; omega
  | ⟨1, _⟩ => show win0_1.index t 1 * 2304 + 1 * κ.val = κ.val; rw [e1]; omega
  | ⟨2, _⟩ => show win0_1.index t 2 * 128 + 1 * l.val = l.val; rw [e2]; omega

theorem block2 (t : Fin cfg0.N) (κ : Fin 2304) (l : Fin 128) :
    (iblk m c 2 t : Vec Ideal S1x2304x128 .bf16) (ix3 0 κ l) = vArr m c (ix3 (bat t.val) κ ⟨9856 + l.val, by omega⟩) := by
  have ht := lt_N t
  obtain ⟨e0, e1, e2⟩ := index2 t
  unfold iblk
  rw [View.read_apply]
  show V m c main_arg2 _ = m (c.tc.loc main_arg2) _
  unfold V
  congr 1
  funext a
  apply Fin.ext
  match a with
  | ⟨0, _⟩ => show win0_2.index t 0 * 1 + 1 * 0 = t.val / 16 % 4; rw [e0]; omega
  | ⟨1, _⟩ => show win0_2.index t 1 * 2304 + 1 * κ.val = κ.val; rw [e1]; omega
  | ⟨2, _⟩ => show win0_2.index t 2 * 128 + 1 * l.val = 9856 + l.val; rw [e2]; omega

/-! ## The array -/

/-- The output of the whole attention. -/
def oArr (q : Fin 4 → Fin 2048 → Fin 512 → ℝ) (k : Fin 4 → Fin 2304 → Fin 128 → ℝ) (v : Vec Ideal S4x2304x10240 .bf16) (y : S4x2048x512.Idx) : EReal :=
  attB (q (y 0)) (k (y 0)) (Cert.AttnRefIdeal.Whole.vals v (y 0)) (y 1) (y 2)

variable {m c} {q : Fin 4 → Fin 2048 → Fin 512 → ℝ} {k : Fin 4 → Fin 2304 → Fin 128 → ℝ}
  (H : Cert.AttnRefIdeal.Whole.Reals (qArr m c) (kArr m c) q k)
include H

theorem out_at (t : Fin cfg0.N) (y : S1x128x512.Idx) :
    out0_3 (iblk m c 0 t) (iblk m c 1 t) (iblk m c 2 t) y
      = attB (blk (q (bat t.val)) (t.val % 16)) (k (bat t.val)) (Cert.AttnRefIdeal.Whole.vals (vArr m c) (bat t.val)) (y 1) (y 2) := by
  refine (out_apply (Q := blk (q (bat t.val)) (t.val % 16)) (K := k (bat t.val))
    (fun i l => (block0 m c t i l).trans (H.q _ _ _)) (fun κ l => (block1 m c t κ l).trans (H.k _ _ _)) y).trans ?_
  have e : vals (iblk m c 2 t) = Cert.AttnRefIdeal.Whole.vals (vArr m c) (bat t.val) := funext fun κ => funext fun l => block2 m c t κ l
  rw [e]

theorem final3 : (dats m 0 c).arrAt 3 cfg0.N = oArr q k (vArr m c) := by
  refine (dats m 0 c).arrAt_eq_of_cover 3 (oArr q k (vArr m c)) (fun t _ => ?_) fun y => ?_
  · have ht := lt_N t
    obtain ⟨e0, e1, e2⟩ := index3 t
    rw [Value.flushed3]
    funext y
    rw [View.read_apply]
    refine (out_at H t y).trans ?_
    have hy0 : (y 0).val < 1 := (y 0).isLt
    have hy1 : (y 1).val < 128 := (y 1).isLt
    have hy2 : (y 2).val < 512 := (y 2).isLt
    have d0 : (((cfg0.win 3).blk t).view.emb y : S4x2048x512.Idx) 0 = bat t.val := Fin.ext (by
      show win0_3.index t 0 * 1 + 1 * (y 0).val = t.val / 16 % 4; rw [e0]; omega)
    have d1 : (((cfg0.win 3).blk t).view.emb y : S4x2048x512.Idx) 1 = rowOf (t.val % 16) (y 1) := Fin.ext (by
      show win0_3.index t 1 * 128 + 1 * (y 1).val = (128 * (t.val % 16) + (y 1).val) % 2048; rw [e1]; omega)
    have d2 : (((cfg0.win 3).blk t).view.emb y : S4x2048x512.Idx) 2 = y 2 := Fin.ext (by
      show win0_3.index t 2 * 512 + 1 * (y 2).val = (y 2).val; rw [e2]; omega)
    unfold oArr
    rw [d0, d1, d2]
    rfl
  · have h0 : (y 0 : Nat) < 4 := (y 0).isLt
    have h1 : (y 1 : Nat) < 2048 := (y 1).isLt
    have h2 : (y 2 : Nat) < 512 := (y 2).isLt
    have hN : cfg0.N = 64 := N_0
    let t : Fin cfg0.N := ⟨16 * (y 0).val + (y 1).val / 128, by omega⟩
    obtain ⟨e0, e1, e2⟩ := index3 t
    have ht : t.val = 16 * (y 0).val + (y 1).val / 128 := rfl
    refine ⟨t, flush0_3 t, ?_⟩
    show y ∈ ((View.whole main_v0).slice (win0_3.rect t)).set
    rw [View.set_slice_whole, Rect.mem_set_unit]
    intro a
    match a with
    | ⟨0, _⟩ =>
      show win0_3.index t 0 * 1 ≤ (y 0 : Nat) ∧ (y 0 : Nat) < win0_3.index t 0 * 1 + 1
      rw [e0]; omega
    | ⟨1, _⟩ =>
      show win0_3.index t 1 * 128 ≤ (y 1 : Nat) ∧ (y 1 : Nat) < win0_3.index t 1 * 128 + 128
      rw [e1]; omega
    | ⟨2, _⟩ =>
      show win0_3.index t 2 * 512 ≤ (y 2 : Nat) ∧ (y 2 : Nat) < win0_3.index t 2 * 512 + 512
      rw [e2]; omega

end Cert.AttnIdeal.Whole

namespace Cert.AttnRefIdeal.Whole

open Idealize.ShloMosaic Idealize.ShloMosaic.TcCoe Idealize.SL.Sem

/-- The reference's frame: its run without its result; it declares no semaphore. -/
theorem frame : Cert.quiescent_AttnRefIdeal := fun m g _ =>
  (θ_run Cert.AttnRefIdeal.defs _ _).mono (fun r h => ⟨fun c => (h c).2, sem_eq_zero_of_no_sems (by decide) r.2⟩)
    (Cert.AttnRefIdeal.Value.run m g)

end Cert.AttnRefIdeal.Whole

namespace Cert.Attn

open Idealize.ShloMosaic Idealize.ShloMosaic.TcCoe Idealize.SL.Sem

/-- Arrays that the precondition holds of, as real numbers. -/
theorem exists_reals {x0 : FVec Ideal Cert.Pre_finite_scores.S4x2304x512 .bf16} {x1 : FVec Ideal Cert.Pre_finite_scores.S4x2304x128 .bf16}
    {x2 : FVec Ideal Cert.Pre_finite_scores.S4x2304x10240 .bf16}
    (h : (Cert.Pre_finite_scores.fn x0 x1 x2).1 = (fun _ => 1#1) ∧ (Cert.Pre_finite_scores.fn x0 x1 x2).2 = (fun _ => 1#1)) :
    ∃ (q : Fin 4 → Fin 2048 → Fin 512 → ℝ) (k : Fin 4 → Fin 2304 → Fin 128 → ℝ), Cert.AttnRefIdeal.Whole.Reals x0 x1 q k := by
  have hq := Cert.Pre_finite_scores.real_q x0 x1 x2 h.1
  have hk := Cert.Pre_finite_scores.real_k x0 x1 x2 h.2
  choose q hq using hq
  choose k hk using hk
  exact ⟨q, k, hq, hk⟩

/-- The kernel and the reference end with equal results. -/
theorem algebraic : Cert.algebraic_AttnIdeal_AttnRefIdeal_pre_finite_scores := by
  intro m g m' g' hP hagree
  have hR := fun c => exists_reals (hP c)
  choose q k H using hR
  refine ⟨fun c => Cert.AttnIdeal.Whole.oArr (q c) (k c) (Cert.AttnIdeal.Whole.vArr m c), ?_, ?_⟩
  · refine (θ_run Cert.AttnIdeal.defs _ _).mono (fun r h c => ?_) (Cert.AttnIdeal.Value.run_blocks m g)
    obtain ⟨h3, h⟩ := h c
    exact ⟨h3.trans (Cert.AttnIdeal.Whole.final3 (H c)), h⟩
  · refine (θ_run Cert.AttnRefIdeal.defs _ _).mono (fun r h c => ?_) (Cert.AttnRefIdeal.Value.run m' g')
    obtain ⟨h25, h⟩ := h c
    obtain ⟨a0, a1, a2⟩ := hagree c
    refine ⟨?_, h⟩
    refine (h25.trans (Cert.AttnRefIdeal.Read.val_main_v25_eq _ _ _)).trans ?_
    rw [a0, a1, a2]
    exact funext fun y => Cert.AttnRefIdeal.Whole.result _ (H c) y

end Cert.Attn

end
-- ==== Proof.ShortF.lean ====
/- The short convolution's forward claim: a gate times the convolution of a product of two column groups, in the kernel and in the
   reference. -/
module

public import proofs.«01_k».proof.Defs
public import proofs.«01_k».proof.Proof.ShortB
public import proofs.«01_k».proof.Proof.Gen.ShortFIdeal.Value
public import proofs.«01_k».proof.Proof.Gen.ShortFRefIdeal.Run
public import proofs.«01_k».proof.Proof.Gen.ShortFRefIdeal.Read
public import Idealize.ShloMosaic.Lib.Claim

@[expose] public section

set_option maxRecDepth 16384

noncomputable section

/-! ## The reference -/

namespace Cert.ShortFRefIdeal.Whole

open Cert.ShortFRefIdeal Cert.ShortFRefIdeal.Read Cert.Short
open Cert.ShortBRefIdeal.Whole (zcol wcol fed context latent rows_at lanes_at shifted_at taps_at)
open Cert.ShortBIdeal.Whole (row row_val)
open Idealize.ShloMosaic Idealize.ShloMosaic.TcCoe Idealize.SL.Sem

section

variable (Z : FVec Ideal S4x2304x10240 .bf16) (W : FVec Ideal S3x512 .f32)

/-- The short convolution's output. -/
def yArr (y : S4x2304x512.Idx) : EReal :=
  zcol Z 7680 (y 0) (y 2) (y 1).val * conv (wcol W (y 2)) (fed Z (y 0) (y 2)) (y 1).val

variable (b : Fin 4) (d : Fin 512)

/-! The first 256 rows. -/

section

variable (i : Fin 256)

theorem c_gate : (val_main_v6 (F := Ideal) Z (ix3 b i d) : EReal) = zcol Z 7680 b d (0 + i.val) :=
  (rows_at context (val_main_v1 (F := Ideal) Z) _ b i d).trans (lanes_at Z 7680 (by decide) _ b _ d)
theorem c_fed : (val_main_v9 (F := Ideal) Z (ix3 b i d) : EReal) = fed Z b d (0 + i.val) :=
  congrArg₂ (fun p q : EReal => p * q)
    ((rows_at context (val_main_v3 (F := Ideal) Z) _ b i d).trans (lanes_at Z 8192 (by decide) _ b _ d))
    ((rows_at context (val_main_v5 (F := Ideal) Z) _ b i d).trans (lanes_at Z 8704 (by decide) _ b _ d))

theorem c_tap0 : (val_main_v13 (F := Ideal) Z (ix3 b i d) : EReal) = tap 0 (fed Z b d) (0 + i.val) :=
  shifted_at context (val_main_v11 (F := Ideal)) (fun _ => Ideal.ofBits_zero_f32) (val_main_v9 (F := Ideal) Z) _ 0 _ b d _ (c_fed Z b d) i
theorem c_tap1 : (val_main_v19 (F := Ideal) Z (ix3 b i d) : EReal) = tap 1 (fed Z b d) (0 + i.val) :=
  shifted_at context (val_main_v11 (F := Ideal)) (fun _ => Ideal.ofBits_zero_f32) (val_main_v9 (F := Ideal) Z) _ 1 _ b d _ (c_fed Z b d) i
theorem c_tap2 : (val_main_v26 (F := Ideal) Z (ix3 b i d) : EReal) = tap 2 (fed Z b d) (0 + i.val) :=
  shifted_at context (val_main_v11 (F := Ideal)) (fun _ => Ideal.ofBits_zero_f32) (val_main_v9 (F := Ideal) Z) _ 2 _ b d _ (c_fed Z b d) i

theorem c_w0 : (val_main_v17 (F := Ideal) W (ix3 b i d) : EReal) = wcol W d 0 := taps_at W 0 _ _ _ _ b i d
theorem c_w1 : (val_main_v23 (F := Ideal) W (ix3 b i d) : EReal) = wcol W d 1 := taps_at W 1 _ _ _ _ b i d
theorem c_w2 : (val_main_v30 (F := Ideal) W (ix3 b i d) : EReal) = wcol W d 2 := taps_at W 2 _ _ _ _ b i d

theorem c_y : (val_main_v33 (F := Ideal) Z W (ix3 b i d) : EReal) = zcol Z 7680 b d (0 + i.val) * conv (wcol W d) (fed Z b d) (0 + i.val) :=
  congrArg₂ (fun p q : EReal => p * q) (c_gate Z b d i) (congrArg₂ (fun p q : EReal => p + q)
    (congrArg₂ (fun p q : EReal => p + q) ((congrArg₂ (fun p q : EReal => p * q) (c_tap0 Z b d i) (c_w0 W b d i)).trans (mul_comm _ _))
      ((congrArg₂ (fun p q : EReal => p * q) (c_tap1 Z b d i) (c_w1 W b d i)).trans (mul_comm _ _)))
    ((congrArg₂ (fun p q : EReal => p * q) (c_tap2 Z b d i) (c_w2 W b d i)).trans (mul_comm _ _)))

end

/-! The further 2048 rows. -/

section

variable (i : Fin 2048)

theorem l_gate : (val_main_v34 (F := Ideal) Z (ix3 b i d) : EReal) = zcol Z 7680 b d (256 + i.val) :=
  (rows_at latent (val_main_v1 (F := Ideal) Z) _ b i d).trans (lanes_at Z 7680 (by decide) _ b _ d)
theorem l_fed : (val_main_v37 (F := Ideal) Z (ix3 b i d) : EReal) = fed Z b d (256 + i.val) :=
  congrArg₂ (fun p q : EReal => p * q)
    ((rows_at latent (val_main_v3 (F := Ideal) Z) _ b i d).trans (lanes_at Z 8192 (by decide) _ b _ d))
    ((rows_at latent (val_main_v5 (F := Ideal) Z) _ b i d).trans (lanes_at Z 8704 (by decide) _ b _ d))

theorem l_tap0 : (val_main_v41 (F := Ideal) Z (ix3 b i d) : EReal) = tap 0 (fed Z b d) (256 + i.val) :=
  shifted_at latent (val_main_v39 (F := Ideal)) (fun _ => Ideal.ofBits_zero_f32) (val_main_v37 (F := Ideal) Z) _ 0 _ b d _ (l_fed Z b d) i
theorem l_tap1 : (val_main_v47 (F := Ideal) Z (ix3 b i d) : EReal) = tap 1 (fed Z b d) (256 + i.val) :=
  shifted_at latent (val_main_v39 (F := Ideal)) (fun _ => Ideal.ofBits_zero_f32) (val_main_v37 (F := Ideal) Z) _ 1 _ b d _ (l_fed Z b d) i
theorem l_tap2 : (val_main_v54 (F := Ideal) Z (ix3 b i d) : EReal) = tap 2 (fed Z b d) (256 + i.val) :=
  shifted_at latent (val_main_v39 (F := Ideal)) (fun _ => Ideal.ofBits_zero_f32) (val_main_v37 (F := Ideal) Z) _ 2 _ b d _ (l_fed Z b d) i

theorem l_w0 : (val_main_v45 (F := Ideal) W (ix3 b i d) : EReal) = wcol W d 0 := taps_at W 0 _ _ _ _ b i d
theorem l_w1 : (val_main_v51 (F := Ideal) W (ix3 b i d) : EReal) = wcol W d 1 := taps_at W 1 _ _ _ _ b i d
theorem l_w2 : (val_main_v58 (F := Ideal) W (ix3 b i d) : EReal) = wcol W d 2 := taps_at W 2 _ _ _ _ b i d

theorem l_y : (val_main_v61 (F := Ideal) Z W (ix3 b i d) : EReal) = zcol Z 7680 b d (256 + i.val) * conv (wcol W d) (fed Z b d) (256 + i.val) :=
  congrArg₂ (fun p q : EReal => p * q) (l_gate Z b d i) (congrArg₂ (fun p q : EReal => p + q)
    (congrArg₂ (fun p q : EReal => p + q) ((congrArg₂ (fun p q : EReal => p * q) (l_tap0 Z b d i) (l_w0 W b d i)).trans (mul_comm _ _))
      ((congrArg₂ (fun p q : EReal => p * q) (l_tap1 Z b d i) (l_w1 W b d i)).trans (mul_comm _ _)))
    ((congrArg₂ (fun p q : EReal => p * q) (l_tap2 Z b d i) (l_w2 W b d i)).trans (mul_comm _ _)))

end

/-- Both parts, one after the other. -/
theorem result : (val_main_v63 (F := Ideal) Z W : S4x2304x512.Idx → EReal) = yArr Z W := funext fun y => by
  have h1 : (y 1).val < 2304 := (y 1).isLt
  show (val_main_v62 (F := Ideal) Z W y : EReal) = _
  unfold val_main_v62 yArr
  by_cases h : (y 1).val < 256
  · refine (concatenate_pair_apply_left 1 (val_main_v33 (F := Ideal) Z W) (val_main_v61 (F := Ideal) Z W) _ y rfl
      (ix3 (y 0) ⟨(y 1).val, h⟩ (y 2)) fun a => by
        match a with
        | ⟨0, _⟩ => rfl
        | ⟨1, _⟩ => rfl
        | ⟨2, _⟩ => rfl).trans ?_
    refine (c_y Z W (y 0) (y 2) ⟨(y 1).val, h⟩).trans ?_
    show zcol Z 7680 (y 0) (y 2) (0 + (y 1).val) * conv (wcol W (y 2)) (fed Z (y 0) (y 2)) (0 + (y 1).val) = _
    rw [Nat.zero_add]
  · refine (concatenate_pair_apply_right 1 (val_main_v33 (F := Ideal) Z W) (val_main_v61 (F := Ideal) Z W) _ y rfl rfl
      (ix3 (y 0) ⟨(y 1).val - 256, by omega⟩ (y 2)) (fun a ha => by
        match a with
        | ⟨0, _⟩ => rfl
        | ⟨1, _⟩ => exact absurd rfl ha
        | ⟨2, _⟩ => rfl) (by show (y 1).val - 256 + 256 = (y 1).val; omega)).trans ?_
    refine (l_y Z W (y 0) (y 2) ⟨(y 1).val - 256, by omega⟩).trans ?_
    show zcol Z 7680 (y 0) (y 2) (256 + ((y 1).val - 256)) * conv (wcol W (y 2)) (fed Z (y 0) (y 2)) (256 + ((y 1).val - 256)) = _
    rw [show 256 + ((y 1).val - 256) = (y 1).val by omega]

end

/-- The reference's frame: its run without its result; it declares no semaphore. -/
theorem frame : Cert.quiescent_ShortFRefIdeal := fun m g _ =>
  (θ_run Cert.ShortFRefIdeal.defs _ _).mono (fun r h => ⟨fun c => (h c).2, sem_eq_zero_of_no_sems (by decide) r.2⟩)
    (Cert.ShortFRefIdeal.Value.run m g)

end Cert.ShortFRefIdeal.Whole

/-! ## The kernel -/

namespace Cert.ShortFIdeal.Whole

open Cert.ShortFIdeal Cert.ShortFIdeal.Gen Cert.Short
open Cert.ShortBIdeal.Whole (hz2 hz3 drop_at add_at row row_val col bcol taps col_at down_at up_at spread_at bcol_row w0_at w1_at w2_at
  tile_ix taps_ix ix_form ch bat ch_val lane_val)
open Cert.ShortBRefIdeal.Whole (zcol wcol fed)
open Cert.ShortFRefIdeal.Whole (yArr)
open Idealize.ShloMosaic Idealize.ShloMosaic.TcCoe Idealize.SL.Sem
open Idealize.ShloMosaic.Pipeline (Dat)

section Pay

variable (b c x : Vec Ideal S1x2304x128 .bf16) (w : Vec Ideal S3x128 .f32) (r : Fin 2304) (l : Fin 128)

theorem gate_at : (k0_pay2 b (ix2 r l) : EReal) = bcol b l r.val := by
  unfold k0_pay2 bcol; rw [row_val]; exact drop_at b _ r l

/-- The convolution's input. -/
theorem col_u : col (k0_pay3 c x) l = times (bcol c l) (bcol x l) := Cert.ShortBIdeal.Whole.col_u c x l

/-- What a point stores. -/
theorem y_at : (k0_pay1 (k0_pay2 b) (k0_pay4 c x w) (k0_pay5 c x w) (ix3 0 r l) : EReal) =
    bcol b l r.val * conv (taps w l) (times (bcol c l) (bcol x l)) r.val := by
  unfold k0_pay1 k0_pay4 k0_pay5
  refine (add_at _ _ r l).trans ?_
  refine congrArg₂ (fun p q : EReal => p * q) (gate_at b r l) ?_
  refine congrArg₂ (fun p q : EReal => p + q) (congrArg₂ (fun p q : EReal => p + q) ?_ ?_) ?_
  · exact congrArg₂ (fun p q : EReal => p * q) ((spread_at _ _ r l).trans (w0_at w l)) ((down_at (k0_pay3 c x) _ _ r l).trans (by rw [col_u]))
  · exact congrArg₂ (fun p q : EReal => p * q) ((spread_at _ _ r l).trans (w1_at w l)) ((col_at (k0_pay3 c x) r l).trans (congrFun (col_u c x l) _))
  · exact congrArg₂ (fun p q : EReal => p * q) ((spread_at _ _ r l).trans (w2_at w l)) ((up_at (k0_pay3 c x) _ _ r l).trans (by rw [col_u]))

theorem out4 : (out0_4 b c x w (ix3 0 r l) : EReal) = bcol b l r.val * conv (taps w l) (times (bcol c l) (bcol x l)) r.val := by
  unfold out0_4
  rw [View.canon_unit_zero hz3]
  simp only [View.ld_unit_zero (S := S1x2304x128) hz3, View.ld_unit_zero (S := S3x128) hz2]
  exact y_at b c x w r l

end Pay

/-! The windows' indices: one of four groups of 128 columns, one of four sequences. -/

theorem index0 : ∀ t : Fin cfg0.N, win0_0.index t 0 = t.val % 4 ∧ win0_0.index t 1 = 0 ∧ win0_0.index t 2 = 60 + t.val / 4 :=
  (by decide +kernel : ∀ t : Fin grid0.N, win0_0.index t 0 = t.val % 4 ∧ win0_0.index t 1 = 0 ∧ win0_0.index t 2 = 60 + t.val / 4)
theorem index1 : ∀ t : Fin cfg0.N, win0_1.index t 0 = t.val % 4 ∧ win0_1.index t 1 = 0 ∧ win0_1.index t 2 = 64 + t.val / 4 :=
  (by decide +kernel : ∀ t : Fin grid0.N, win0_1.index t 0 = t.val % 4 ∧ win0_1.index t 1 = 0 ∧ win0_1.index t 2 = 64 + t.val / 4)
theorem index2 : ∀ t : Fin cfg0.N, win0_2.index t 0 = t.val % 4 ∧ win0_2.index t 1 = 0 ∧ win0_2.index t 2 = 68 + t.val / 4 :=
  (by decide +kernel : ∀ t : Fin grid0.N, win0_2.index t 0 = t.val % 4 ∧ win0_2.index t 1 = 0 ∧ win0_2.index t 2 = 68 + t.val / 4)
theorem index3 : ∀ t : Fin cfg0.N, win0_3.index t 0 = 0 ∧ win0_3.index t 1 = t.val / 4 :=
  (by decide +kernel : ∀ t : Fin grid0.N, win0_3.index t 0 = 0 ∧ win0_3.index t 1 = t.val / 4)
theorem index4 : ∀ t : Fin cfg0.N, win0_4.index t 0 = t.val % 4 ∧ win0_4.index t 1 = 0 ∧ win0_4.index t 2 = 0 + t.val / 4 :=
  (by decide +kernel : ∀ t : Fin grid0.N, win0_4.index t 0 = t.val % 4 ∧ win0_4.index t 1 = 0 ∧ win0_4.index t 2 = 0 + t.val / 4)

theorem lt_N (t : Fin cfg0.N) : t.val < 16 := lt_of_lt_of_eq t.isLt N_0

/-- The point whose block an index of the output lies in. -/
def tileOf (y : S4x2304x512.Idx) : Fin cfg0.N :=
  ⟨4 * ((y 2).val / 128) + (y 0).val, by
    have h0 : (y 0).val < 4 := (y 0).isLt
    have h2 : (y 2).val < 512 := (y 2).isLt
    have hN : cfg0.N = 16 := N_0
    omega⟩

variable (m : (ℓ : Loc nD τ sig) → Buf (Elt Ideal) ℓ) (c : Dev nD)

/-- The input projection's output and the weights, as launched. -/
abbrev zA : FVec Ideal S4x2304x10240 .bf16 := m ((c : Thread nD τ).loc main_arg0)
abbrev wA : FVec Ideal S3x512 .f32 := m ((c : Thread nD τ).loc main_arg1)

variable {m c} (t : Fin cfg0.N) (l : Fin 128)

theorem block0 : bcol (iblk m c 0 t : Vec Ideal S1x2304x128 .bf16) l = zcol (zA m c) 7680 (bat t.val) (ch t.val l) := funext fun s => by
  unfold bcol iblk
  rw [View.read_apply]
  show V m c main_arg0 _ = m (c.tc.loc main_arg0) _
  unfold V
  exact congrArg (m (c.tc.loc main_arg0)) (tile_ix (lt_N t) (index0 t) rfl rfl rfl (lane_val (lt_N t) l 60 (by decide)))
theorem block1 : bcol (iblk m c 1 t : Vec Ideal S1x2304x128 .bf16) l = zcol (zA m c) 8192 (bat t.val) (ch t.val l) := funext fun s => by
  unfold bcol iblk
  rw [View.read_apply]
  show V m c main_arg0 _ = m (c.tc.loc main_arg0) _
  unfold V
  exact congrArg (m (c.tc.loc main_arg0)) (tile_ix (lt_N t) (index1 t) rfl rfl rfl (lane_val (lt_N t) l 64 (by decide)))
theorem block2 : bcol (iblk m c 2 t : Vec Ideal S1x2304x128 .bf16) l = zcol (zA m c) 8704 (bat t.val) (ch t.val l) := funext fun s => by
  unfold bcol iblk
  rw [View.read_apply]
  show V m c main_arg0 _ = m (c.tc.loc main_arg0) _
  unfold V
  exact congrArg (m (c.tc.loc main_arg0)) (tile_ix (lt_N t) (index2 t) rfl rfl rfl (lane_val (lt_N t) l 68 (by decide)))
theorem block3 : taps (iblk m c 3 t : Vec Ideal S3x128 .f32) l = wcol (wA m c) (ch t.val l) := funext fun k => by
  unfold taps iblk
  rw [View.read_apply]
  show V m c main_arg1 _ = m (c.tc.loc main_arg1) _
  unfold V
  exact congrArg (m (c.tc.loc main_arg1)) (taps_ix (lt_N t) (index3 t) rfl rfl)

/-- A point's block is the output's. -/
theorem tile_at (r : Fin 2304) : (out0_4 (iblk m c 0 t) (iblk m c 1 t) (iblk m c 2 t) (iblk m c 3 t) (ix3 0 r l) : EReal)
    = yArr (zA m c) (wA m c) (ix3 (bat t.val) r (ch t.val l)) := by
  refine (out4 _ _ _ _ r l).trans ?_
  rw [block0, block1, block2, block3]; rfl

variable (m c)

theorem final : (dats m 0 c).arrAt 4 cfg0.N = yArr (zA m c) (wA m c) := by
  refine (dats m 0 c).arrAt_eq_of_cover 4 (yArr (zA m c) (wA m c)) (fun t _ => ?_) fun y => ⟨tileOf y, flush0_4 _, ?_⟩
  · rw [Value.flushed4]
    funext y
    rw [View.read_apply]
    obtain ⟨r, l, rfl⟩ := ix_form y
    have e : (((cfg0.win 4).blk t).view.emb (ix3 0 r l) : S4x2304x512.Idx) = ix3 (bat t.val) r (ch t.val l) :=
      tile_ix (lt_N t) (index4 t) rfl rfl rfl (ch_val (lt_N t) l)
    exact (tile_at t l r).trans (congrArg (yArr (zA m c) (wA m c)) e.symm)
  · show y ∈ ((View.whole main_v0).slice (win0_4.rect (tileOf y))).set
    rw [View.set_slice_whole, Rect.mem_set_unit]
    exact Cert.ShortBIdeal.Whole.tile_mem y (index4 (tileOf y))

end Cert.ShortFIdeal.Whole

namespace Cert.ShortF

open Idealize.ShloMosaic Idealize.ShloMosaic.TcCoe Idealize.SL.Sem
open Cert.ShortFIdeal.Whole Cert.ShortFRefIdeal.Whole Cert.ShortFRefIdeal.Read

/-- The kernel and the reference end with equal results. -/
theorem algebraic : Cert.algebraic_ShortFIdeal_ShortFRefIdeal := by
  intro m g m' g' hP hagree
  refine ⟨fun c => yArr (zA m c) (wA m c), ?_, ?_⟩
  · exact (θ_run Cert.ShortFIdeal.defs _ _).mono (fun r h c => ⟨(h c).1.trans (final m c), (h c).2⟩) (Cert.ShortFIdeal.Value.run_blocks m g)
  · refine (θ_run Cert.ShortFRefIdeal.defs _ _).mono (fun r h c => ⟨?_, (h c).2⟩) (Cert.ShortFRefIdeal.Value.run m' g')
    obtain ⟨a0, a1⟩ := hagree c
    have z0 : m' ((c.tc : Thread Cert.ShortFRefIdeal.nD Cert.ShortFRefIdeal.τ).loc Cert.ShortFRefIdeal.main_arg0) = zA m c := a0
    have z1 : m' ((c.tc : Thread Cert.ShortFRefIdeal.nD Cert.ShortFRefIdeal.τ).loc Cert.ShortFRefIdeal.main_arg1) = wA m c := a1
    exact ((h c).1.trans (val_main_v63_eq m' c)).trans (by rw [z0, z1]; exact result _ _)

end Cert.ShortF

end
-- ==== Proof.Merge.lean ====
/- The gated merge's forward claim: the four branches' products, each times its gate, added up, in the kernel and in the reference. -/
module

public import proofs.«01_k».proof.Defs
public import proofs.«01_k».proof.Proof.MergeB
public import proofs.«01_k».proof.Proof.Gen.MergeIdeal.Value
public import proofs.«01_k».proof.Proof.Gen.MergeRefIdeal.Run
public import proofs.«01_k».proof.Proof.Gen.MergeRefIdeal.Read
public import Idealize.ShloMosaic.Lib.Claim

@[expose] public section

set_option maxRecDepth 16384

noncomputable section

/-! ## The reference -/

namespace Cert.MergeRefIdeal.Whole

open Cert.MergeRefIdeal Cert.MergeRefIdeal.Read
open Cert.MergeBRefIdeal.Whole (gate drop_unit)
open Idealize.ShloMosaic Idealize.ShloMosaic.TcCoe Idealize.SL.Sem

section

variable (P0 P1 P2 P3 : FVec Ideal S4x2304x1024 .bf16) (Z : FVec Ideal S4x2304x10240 .bf16)

/-- A branch times its gate. -/
def gated (k : Fin 4) (P : FVec Ideal S4x2304x1024 .bf16) (y : S4x2304x1024.Idx) : EReal :=
  Ideal.logistic (Z (ix3 (y 0) (y 1) (gate k (y 2)))) * P y

/-- The merged branches. -/
def mArr (y : S4x2304x1024.Idx) : EReal := gated Z 0 P0 y + gated Z 1 P1 y + gated Z 2 P2 y + gated Z 3 P3 y

theorem gates_at (b : Fin 4) (n : Fin 2304) (k : Fin 4) (l : Fin 1024) :
    (val_main_v12 (F := Ideal) Z (ix4 b n k l) : EReal) = Ideal.logistic (Z (ix3 b n (gate k l))) := Cert.MergeBRefIdeal.Whole.gates_at Z b n k l

/-- A gate's array, its unit axis dropped, times a branch. -/
theorem product0 (i : S4x2304x1024.Idx) : (val_main_v15 (F := Ideal) P0 Z i : EReal) = gated Z 0 P0 i := by
  have e : idx_main_v13 (idx_main_v14 i) = ix4 (i 0) (i 1) 0 (i 2) := drop_unit i _ 0 rfl rfl rfl rfl
  show val_main_v14 (F := Ideal) Z i * P0 i = _
  rw [val_main_v14_apply, val_main_v13_apply, e]
  exact congrArg (fun a : EReal => a * P0 i) (gates_at Z (i 0) (i 1) 0 (i 2))
theorem product1 (i : S4x2304x1024.Idx) : (val_main_v18 (F := Ideal) P1 Z i : EReal) = gated Z 1 P1 i := by
  have e : idx_main_v16 (idx_main_v17 i) = ix4 (i 0) (i 1) 1 (i 2) := drop_unit i _ 1 rfl rfl rfl rfl
  show val_main_v17 (F := Ideal) Z i * P1 i = _
  rw [val_main_v17_apply, val_main_v16_apply, e]
  exact congrArg (fun a : EReal => a * P1 i) (gates_at Z (i 0) (i 1) 1 (i 2))
theorem product2 (i : S4x2304x1024.Idx) : (val_main_v22 (F := Ideal) P2 Z i : EReal) = gated Z 2 P2 i := by
  have e : idx_main_v20 (idx_main_v21 i) = ix4 (i 0) (i 1) 2 (i 2) := drop_unit i _ 2 rfl rfl rfl rfl
  show val_main_v21 (F := Ideal) Z i * P2 i = _
  rw [val_main_v21_apply, val_main_v20_apply, e]
  exact congrArg (fun a : EReal => a * P2 i) (gates_at Z (i 0) (i 1) 2 (i 2))
theorem product3 (i : S4x2304x1024.Idx) : (val_main_v26 (F := Ideal) P3 Z i : EReal) = gated Z 3 P3 i := by
  have e : idx_main_v24 (idx_main_v25 i) = ix4 (i 0) (i 1) 3 (i 2) := drop_unit i _ 3 rfl rfl rfl rfl
  show val_main_v25 (F := Ideal) Z i * P3 i = _
  rw [val_main_v25_apply, val_main_v24_apply, e]
  exact congrArg (fun a : EReal => a * P3 i) (gates_at Z (i 0) (i 1) 3 (i 2))

theorem result : (val_main_v28 (F := Ideal) P0 P1 P2 P3 Z : S4x2304x1024.Idx → EReal) = mArr P0 P1 P2 P3 Z := funext fun i =>
  congrArg₂ (fun p q : EReal => p + q) (congrArg₂ (fun p q : EReal => p + q)
    (congrArg₂ (fun p q : EReal => p + q) (product0 P0 Z i) (product1 P1 Z i)) (product2 P2 Z i)) (product3 P3 Z i)

end

/-- The reference's frame: its run without its result; it declares no semaphore. -/
theorem frame : Cert.quiescent_MergeRefIdeal := fun m g _ =>
  (θ_run Cert.MergeRefIdeal.defs _ _).mono (fun r h => ⟨fun c => (h c).2, sem_eq_zero_of_no_sems (by decide) r.2⟩)
    (Cert.MergeRefIdeal.Value.run m g)

end Cert.MergeRefIdeal.Whole

/-! ## The kernel -/

namespace Cert.MergeIdeal.Whole

open Cert.MergeIdeal Cert.MergeIdeal.Gen
open Cert.MergeBIdeal.Whole (hz drop_at add_at lane gates0 gates1 gates2 gates3 gates0_at gates1_at gates2_at gates3_at bat tok tile_ix ix_form)
open Cert.MergeRefIdeal.Whole (gated mArr)
open Idealize.ShloMosaic Idealize.ShloMosaic.TcCoe Idealize.SL.Sem
open Idealize.ShloMosaic.Pipeline (Dat)

/-- What a point stores. -/
theorem pay_at (P0 P1 P2 P3 G0 G1 G2 G3 : Vec Ideal S1x256x1024 .bf16) (r : Fin 256) (l : Fin 1024) :
    (k0_pay1 (k0_pay2 P0 P1 P2 G0 G1 G2) (k0_pay3 P3 G3) (ix3 0 r l) : EReal) =
      Ideal.logistic (G0 (ix3 0 r l)) * P0 (ix3 0 r l) + Ideal.logistic (G1 (ix3 0 r l)) * P1 (ix3 0 r l)
        + Ideal.logistic (G2 (ix3 0 r l)) * P2 (ix3 0 r l) + Ideal.logistic (G3 (ix3 0 r l)) * P3 (ix3 0 r l) := by
  unfold k0_pay1 k0_pay2 k0_pay3
  refine (add_at _ _ r l).trans ?_
  refine congrArg₂ (fun p q : EReal => p + q) (congrArg₂ (fun p q : EReal => p + q) (congrArg₂ (fun p q : EReal => p + q) ?_ ?_) ?_) ?_
  · exact congrArg₂ (fun p q : EReal => Ideal.logistic p * q) (drop_at G0 _ r l) (drop_at P0 _ r l)
  · exact congrArg₂ (fun p q : EReal => Ideal.logistic p * q) (drop_at G1 _ r l) (drop_at P1 _ r l)
  · exact congrArg₂ (fun p q : EReal => Ideal.logistic p * q) (drop_at G2 _ r l) (drop_at P2 _ r l)
  · exact congrArg₂ (fun p q : EReal => Ideal.logistic p * q) (drop_at G3 _ r l) (drop_at P3 _ r l)

section Run
variable {x0 x1 x2 x3 : Vec Ideal S1x256x1024 .bf16} {x4 : Vec Ideal S1x256x4096 .bf16}
  {c : Dev nD} {i : grid0.Coords}
  {a2 : Memref sig .tc .vmem S1x256x1024 .bf16} {h2 : a2.IsWhole} {a3 : Memref sig .tc .vmem S1x256x1024 .bf16} {h3 : a3.IsWhole}
  {a4 : Memref sig .tc .vmem S1x256x1024 .bf16} {h4 : a4.IsWhole} {a5 : Memref sig .tc .vmem S1x256x1024 .bf16} {h5 : a5.IsWhole}
  {a6 : Memref sig .tc .vmem S1x256x4096 .bf16} {h6 : a6.IsWhole} {a7 : Memref sig .tc .vmem S1x256x1024 .bf16} {h7 : a7.IsWhole}

/-- What a point leaves. -/
theorem out5 (r : Fin 256) (l : Fin 1024) :
    (out0_A_5 c i a2 h2 a3 h3 a4 h4 a5 h5 a6 h6 a7 h7 x0 x1 x2 x3 x4 (ix3 0 r l) : EReal) =
      Ideal.logistic (x4 (ix3 0 r (lane 0 l))) * x0 (ix3 0 r l) + Ideal.logistic (x4 (ix3 0 r (lane 1 l))) * x1 (ix3 0 r l)
        + Ideal.logistic (x4 (ix3 0 r (lane 2 l))) * x2 (ix3 0 r l) + Ideal.logistic (x4 (ix3 0 r (lane 3 l))) * x3 (ix3 0 r l) := by
  unfold out0_A_5
  rw [View.read_writes_eq_canon _ _ _ (cover0_A_5 c i a2 h2 a3 h3 a4 h4 a5 h5 a6 h6 a7 h7 x0 x1 x2 x3 x4)]
  unfold kernelRun0_A
  dsimp only
  sl_unfold_words
  simp only [View.readAt_eq_ld, h2.read_unread, h3.read_unread, h4.read_unread, h5.read_unread, h6.read_unread]
  rw [View.canon_unit_zero hz]
  simp only [View.ld_unit_zero (S := S1x256x1024) hz]
  refine (pay_at x0 x1 x2 x3 (gates0 x4) (gates1 x4) (gates2 x4) (gates3 x4) r l).trans ?_
  rw [gates0_at, gates1_at, gates2_at, gates3_at]

end Run

/-! The windows' indices: one of four sequences, one of nine tiles of 256 rows. -/

theorem index0 : ∀ t : Fin cfg0.N, win0_0.index t 0 = t.val / 9 ∧ win0_0.index t 1 = t.val % 9 ∧ win0_0.index t 2 = 0 :=
  (by decide +kernel : ∀ t : Fin grid0.N, win0_0.index t 0 = t.val / 9 ∧ win0_0.index t 1 = t.val % 9 ∧ win0_0.index t 2 = 0)
theorem index1 : ∀ t : Fin cfg0.N, win0_1.index t 0 = t.val / 9 ∧ win0_1.index t 1 = t.val % 9 ∧ win0_1.index t 2 = 0 :=
  (by decide +kernel : ∀ t : Fin grid0.N, win0_1.index t 0 = t.val / 9 ∧ win0_1.index t 1 = t.val % 9 ∧ win0_1.index t 2 = 0)
theorem index2 : ∀ t : Fin cfg0.N, win0_2.index t 0 = t.val / 9 ∧ win0_2.index t 1 = t.val % 9 ∧ win0_2.index t 2 = 0 :=
  (by decide +kernel : ∀ t : Fin grid0.N, win0_2.index t 0 = t.val / 9 ∧ win0_2.index t 1 = t.val % 9 ∧ win0_2.index t 2 = 0)
theorem index3 : ∀ t : Fin cfg0.N, win0_3.index t 0 = t.val / 9 ∧ win0_3.index t 1 = t.val % 9 ∧ win0_3.index t 2 = 0 :=
  (by decide +kernel : ∀ t : Fin grid0.N, win0_3.index t 0 = t.val / 9 ∧ win0_3.index t 1 = t.val % 9 ∧ win0_3.index t 2 = 0)
theorem index4 : ∀ t : Fin cfg0.N, win0_4.index t 0 = t.val / 9 ∧ win0_4.index t 1 = t.val % 9 ∧ win0_4.index t 2 = 0 :=
  (by decide +kernel : ∀ t : Fin grid0.N, win0_4.index t 0 = t.val / 9 ∧ win0_4.index t 1 = t.val % 9 ∧ win0_4.index t 2 = 0)
theorem index5 : ∀ t : Fin cfg0.N, win0_5.index t 0 = t.val / 9 ∧ win0_5.index t 1 = t.val % 9 ∧ win0_5.index t 2 = 0 :=
  (by decide +kernel : ∀ t : Fin grid0.N, win0_5.index t 0 = t.val / 9 ∧ win0_5.index t 1 = t.val % 9 ∧ win0_5.index t 2 = 0)

theorem lt_N (t : Fin cfg0.N) : t.val < 36 := lt_of_lt_of_eq t.isLt N_0

/-- The point whose tile an index of the output lies in. -/
def tileOf (y : S4x2304x1024.Idx) : Fin cfg0.N :=
  ⟨9 * (y 0).val + (y 1).val / 256, by
    have h0 : (y 0).val < 4 := (y 0).isLt
    have h1 : (y 1).val < 2304 := (y 1).isLt
    have hN : cfg0.N = 36 := N_0
    omega⟩

variable (m : (ℓ : Loc nD τ sig) → Buf (Elt Ideal) ℓ) (c : Dev nD)

/-- The four branches, and the array the gates lie in, as launched. -/
abbrev p0 : FVec Ideal S4x2304x1024 .bf16 := m ((c : Thread nD τ).loc main_arg0)
abbrev p1 : FVec Ideal S4x2304x1024 .bf16 := m ((c : Thread nD τ).loc main_arg1)
abbrev p2 : FVec Ideal S4x2304x1024 .bf16 := m ((c : Thread nD τ).loc main_arg2)
abbrev p3 : FVec Ideal S4x2304x1024 .bf16 := m ((c : Thread nD τ).loc main_arg3)
abbrev zA : FVec Ideal S4x2304x10240 .bf16 := m ((c : Thread nD τ).loc main_arg4)

variable {m c} (t : Fin cfg0.N)

theorem block0 (r : Fin 256) (l : Fin 1024) : (iblk m c 0 t : Vec Ideal S1x256x1024 .bf16) (ix3 0 r l) = p0 m c (ix3 (bat t.val) (tok t.val r) l) := by
  unfold iblk
  rw [View.read_apply]
  show V m c main_arg0 _ = m (c.tc.loc main_arg0) _
  unfold V
  exact congrArg (m (c.tc.loc main_arg0)) (tile_ix (lt_N t) l.isLt (index0 t) rfl rfl rfl)
theorem block1 (r : Fin 256) (l : Fin 1024) : (iblk m c 1 t : Vec Ideal S1x256x1024 .bf16) (ix3 0 r l) = p1 m c (ix3 (bat t.val) (tok t.val r) l) := by
  unfold iblk
  rw [View.read_apply]
  show V m c main_arg1 _ = m (c.tc.loc main_arg1) _
  unfold V
  exact congrArg (m (c.tc.loc main_arg1)) (tile_ix (lt_N t) l.isLt (index1 t) rfl rfl rfl)
theorem block2 (r : Fin 256) (l : Fin 1024) : (iblk m c 2 t : Vec Ideal S1x256x1024 .bf16) (ix3 0 r l) = p2 m c (ix3 (bat t.val) (tok t.val r) l) := by
  unfold iblk
  rw [View.read_apply]
  show V m c main_arg2 _ = m (c.tc.loc main_arg2) _
  unfold V
  exact congrArg (m (c.tc.loc main_arg2)) (tile_ix (lt_N t) l.isLt (index2 t) rfl rfl rfl)
theorem block3 (r : Fin 256) (l : Fin 1024) : (iblk m c 3 t : Vec Ideal S1x256x1024 .bf16) (ix3 0 r l) = p3 m c (ix3 (bat t.val) (tok t.val r) l) := by
  unfold iblk
  rw [View.read_apply]
  show V m c main_arg3 _ = m (c.tc.loc main_arg3) _
  unfold V
  exact congrArg (m (c.tc.loc main_arg3)) (tile_ix (lt_N t) l.isLt (index3 t) rfl rfl rfl)
theorem block4 (r : Fin 256) (l : Fin 4096) :
    (X0_4 m c t : Vec Ideal S1x256x4096 .bf16) (ix3 0 r l) = zA m c (ix3 (bat t.val) (tok t.val r) ⟨l.val, by omega⟩) := by
  unfold X0_4 Pipeline.Window.fill
  rw [dif_pos (moved0_4 t _)]
  unfold iblk
  rw [View.read_apply]
  show V m c main_arg4 _ = m (c.tc.loc main_arg4) _
  unfold V
  exact congrArg (m (c.tc.loc main_arg4)) (tile_ix (lt_N t) (lt_trans l.isLt (by decide)) (index4 t) rfl rfl rfl)

/-- A point's sum is the output's. -/
theorem tile_at (r : Fin 256) (l : Fin 1024) :
    Ideal.logistic ((X0_4 m c t : Vec Ideal S1x256x4096 .bf16) (ix3 0 r (lane 0 l))) * (iblk m c 0 t : Vec Ideal S1x256x1024 .bf16) (ix3 0 r l)
      + Ideal.logistic ((X0_4 m c t : Vec Ideal S1x256x4096 .bf16) (ix3 0 r (lane 1 l))) * (iblk m c 1 t : Vec Ideal S1x256x1024 .bf16) (ix3 0 r l)
      + Ideal.logistic ((X0_4 m c t : Vec Ideal S1x256x4096 .bf16) (ix3 0 r (lane 2 l))) * (iblk m c 2 t : Vec Ideal S1x256x1024 .bf16) (ix3 0 r l)
      + Ideal.logistic ((X0_4 m c t : Vec Ideal S1x256x4096 .bf16) (ix3 0 r (lane 3 l))) * (iblk m c 3 t : Vec Ideal S1x256x1024 .bf16) (ix3 0 r l)
      = mArr (p0 m c) (p1 m c) (p2 m c) (p3 m c) (zA m c) (ix3 (bat t.val) (tok t.val r) l) :=
  congrArg₂ (fun p q : EReal => p + q) (congrArg₂ (fun p q : EReal => p + q) (congrArg₂ (fun p q : EReal => p + q)
    (congrArg₂ (fun a b : EReal => Ideal.logistic a * b) (block4 t r (lane 0 l)) (block0 t r l))
    (congrArg₂ (fun a b : EReal => Ideal.logistic a * b) (block4 t r (lane 1 l)) (block1 t r l)))
    (congrArg₂ (fun a b : EReal => Ideal.logistic a * b) (block4 t r (lane 2 l)) (block2 t r l)))
    (congrArg₂ (fun a b : EReal => Ideal.logistic a * b) (block4 t r (lane 3 l)) (block3 t r l))

variable (m c)

theorem final : (dats m 0 c).arrAt 5 cfg0.N = mArr (p0 m c) (p1 m c) (p2 m c) (p3 m c) (zA m c) := by
  refine (dats m 0 c).arrAt_eq_of_cover 5 (mArr (p0 m c) (p1 m c) (p2 m c) (p3 m c) (zA m c)) (fun t _ => ?_) fun y => ⟨tileOf y, flush0_5 _, ?_⟩
  · rw [Value.flushed5_A]
    funext y
    rw [View.read_apply]
    obtain ⟨r, l, rfl⟩ := ix_form (B := 1024) y
    have e : (((cfg0.win 5).blk t).view.emb (ix3 0 r l) : S4x2304x1024.Idx) = ix3 (bat t.val) (tok t.val r) l :=
      tile_ix (lt_N t) l.isLt (index5 t) rfl rfl rfl
    exact ((out5 r l).trans (tile_at t r l)).trans (congrArg (mArr (p0 m c) (p1 m c) (p2 m c) (p3 m c) (zA m c)) e.symm)
  · show y ∈ ((View.whole main_v0).slice (win0_5.rect (tileOf y))).set
    rw [View.set_slice_whole, Rect.mem_set_unit]
    exact Cert.MergeBIdeal.Whole.tile_mem (W := 1024) y (index5 (tileOf y))

end Cert.MergeIdeal.Whole

namespace Cert.Merge

open Idealize.ShloMosaic Idealize.ShloMosaic.TcCoe Idealize.SL.Sem
open Cert.MergeIdeal.Whole Cert.MergeRefIdeal.Whole Cert.MergeRefIdeal.Read

/-- The kernel and the reference end with equal results. -/
theorem algebraic : Cert.algebraic_MergeIdeal_MergeRefIdeal := by
  intro m g m' g' hP hagree
  refine ⟨fun c => mArr (p0 m c) (p1 m c) (p2 m c) (p3 m c) (zA m c), ?_, ?_⟩
  · exact (θ_run Cert.MergeIdeal.defs _ _).mono (fun r h c => ⟨(h c).1.trans (final m c), (h c).2⟩) (Cert.MergeIdeal.Value.run_blocks m g)
  · refine (θ_run Cert.MergeRefIdeal.defs _ _).mono (fun r h c => ⟨?_, (h c).2⟩) (Cert.MergeRefIdeal.Value.run m' g')
    obtain ⟨a0, a1, a2, a3, a4⟩ := hagree c
    exact ((h c).1.trans (val_main_v28_eq _ _ _ _ _)).trans (by rw [a0, a1, a2, a3, a4]; exact result _ _ _ _ _)

end Cert.Merge

end
-- ==== Proof.DnPrepRef.lean ====
/- What the DeltaNet preparation's reference computes, at an index: the convolution of a column, its silu, and a head's 128 lanes divided
   by their length. -/
module

public import proofs.«01_k».proof.Defs
public import proofs.«01_k».proof.Proof.ShortParts
public import proofs.«01_k».proof.Proof.Gen.DnPrepRefIdeal.Run
public import proofs.«01_k».proof.Proof.Gen.DnPrepRefIdeal.Read
public import Idealize.ShloMosaic.Lib.Claim

@[expose] public section

set_option maxRecDepth 16384

noncomputable section

open scoped BigOperators

namespace Cert.Short

open Idealize.ShloMosaic

/-- A number times its logistic. -/
def silu (x : EReal) : EReal := x * Ideal.logistic x

/-- One of 128 lanes divided by their length, whose square has a small number added to it. -/
def unit (f : Fin 128 → EReal) (l : Fin 128) : EReal := f l * Ideal.rsqrt ((∑ j, f j * f j) + Ideal.ofBits .f32 0x358637BD#32)

/-- Lane `j` of head `h`, the head a column belongs to, and its lane there. -/
def hd (h : Fin 4) (j : Fin 128) : Fin 512 := ⟨128 * h.val + j.val, by omega⟩
def headOf (d : Fin 512) : Fin 4 := ⟨d.val / 128, by omega⟩
def laneOf (d : Fin 512) : Fin 128 := ⟨d.val % 128, by omega⟩

end Cert.Short

namespace Cert.DnPrepRefIdeal.Whole

open Cert.DnPrepRefIdeal Cert.DnPrepRefIdeal.Gen Cert.DnPrepRefIdeal.Read Cert.Short
open Cert.ShortBRefIdeal.Whole (zcol wcol Rows Part context latent rows_at lanes_at shifted_at taps_at)
open Cert.ShortBIdeal.Whole (row row_val)
open Idealize.ShloMosaic Idealize.ShloMosaic.TcCoe Idealize.SL.Sem

/-! ## One column -/

/-- A part's convolution. -/
theorem part_at {o n : ℕ} (hP : Part o n) (z : FVec Ideal S4x1x512 .f32) (hz : ∀ i, (z i : EReal) = 0) (X : FVec Ideal S4x2304x512 .f32)
    (W : FVec Ideal S3x512 .f32) (hr : S4x2304x512.Slices ![0, o, 0] (Rows n)) (hc : Shape.Concatenates [S4x1x512, Rows n, S4x1x512] (Rows (n + 2)) 1)
    (s0 : (Rows (n + 2)).Slices ![0, 0, 0] (Rows n)) (s1 : (Rows (n + 2)).Slices ![0, 1, 0] (Rows n)) (s2 : (Rows (n + 2)).Slices ![0, 2, 0] (Rows n))
    (h1 : S1x1x512.BroadcastsInDim (Rows n) ![0, 1, 2]) (h2 : S512.BroadcastsInDim S1x1x512 ![2]) (h3 : S1x512.ShapeCasts S512)
    (w0 : S3x512.Slices ![0, 0] S1x512) (w1 : S3x512.Slices ![1, 0] S1x512) (w2 : S3x512.Slices ![2, 0] S1x512) (b : Fin 4) (d : Fin 512)
    (u : ℕ → EReal) (hX : ∀ t, (X (ix3 b (row t) d) : EReal) = u t) (i : Fin n) :
    let P : FVec Ideal (Rows (n + 2)) .f32 := concatenate (Rows (n + 2)) 1 [⟨S4x1x512, z⟩, ⟨Rows n, extractStridedSlice (Rows n) ![0, o, 0] X hr⟩, ⟨S4x1x512, z⟩] hc
    let C : (k : ℕ) → S3x512.Slices ![k, 0] S1x512 → FVec Ideal (Rows n) .f32 := fun k w =>
      broadcastInDim (Rows n) ![0, 1, 2] h1 (broadcastInDim S1x1x512 ![2] h2 (shapeCast S512 (extractStridedSlice S1x512 ![k, 0] W w) h3))
    (addf (addf (mulf (extractStridedSlice (Rows n) ![0, 0, 0] P s0) (C 0 w0)) (mulf (extractStridedSlice (Rows n) ![0, 1, 0] P s1) (C 1 w1)))
      (mulf (extractStridedSlice (Rows n) ![0, 2, 0] P s2) (C 2 w2)) (ix3 b i d) : EReal) = conv (wcol W d) u (o + i.val) := by
  intro P C
  have hY : ∀ i : Fin n, (extractStridedSlice (Rows n) ![0, o, 0] X hr (ix3 b i d) : EReal) = u (o + i.val) := fun i => (rows_at hP X hr b i d).trans (hX _)
  refine congrArg₂ (fun p q : EReal => p + q) (congrArg₂ (fun p q : EReal => p + q) ?_ ?_) ?_
  · exact (congrArg₂ (fun p q : EReal => p * q) (shifted_at hP z hz _ hc 0 s0 b d u hY i) (taps_at W 0 h1 h2 h3 w0 b i d)).trans (mul_comm _ _)
  · exact (congrArg₂ (fun p q : EReal => p * q) (shifted_at hP z hz _ hc 1 s1 b d u hY i) (taps_at W 1 h1 h2 h3 w1 b i d)).trans (mul_comm _ _)
  · exact (congrArg₂ (fun p q : EReal => p * q) (shifted_at hP z hz _ hc 2 s2 b d u hY i) (taps_at W 2 h1 h2 h3 w2 b i d)).trans (mul_comm _ _)

/-- The two parts, one after the other. -/
theorem joined_at (Y : FVec Ideal S4x256x512 .f32) (Y' : FVec Ideal S4x2048x512 .f32) (h : Shape.Concatenates [S4x256x512, S4x2048x512] S4x2304x512 1)
    (b : Fin 4) (d : Fin 512) (f : ℕ → EReal) (hY : ∀ i : Fin 256, (Y (ix3 b i d) : EReal) = f (0 + i.val))
    (hY' : ∀ i : Fin 2048, (Y' (ix3 b i d) : EReal) = f (256 + i.val)) (r : Fin 2304) :
    (concatenate S4x2304x512 1 [⟨S4x256x512, Y⟩, ⟨S4x2048x512, Y'⟩] h (ix3 b r d) : EReal) = f r.val := by
  have h1 : r.val < 2304 := r.isLt
  by_cases hr : r.val < 256
  · refine (concatenate_pair_apply_left 1 Y Y' h (ix3 b r d) rfl (ix3 b ⟨r.val, hr⟩ d) fun a => by
      match a with
      | ⟨0, _⟩ => rfl
      | ⟨1, _⟩ => rfl
      | ⟨2, _⟩ => rfl).trans ((hY ⟨r.val, hr⟩).trans (congrArg f (by show 0 + r.val = r.val; omega)))
  · refine (concatenate_pair_apply_right 1 Y Y' h (ix3 b r d) rfl rfl (ix3 b ⟨r.val - 256, by omega⟩ d) (fun a ha => by
      match a with
      | ⟨0, _⟩ => rfl
      | ⟨1, _⟩ => exact absurd rfl ha
      | ⟨2, _⟩ => rfl) (by show r.val - 256 + 256 = r.val; omega)).trans ((hY' ⟨r.val - 256, by omega⟩).trans (congrArg f (by
        show 256 + (r.val - 256) = r.val; omega)))

/-- The silu as the host writes it. -/
theorem silu_at (X : FVec Ideal S4x2304x512 .f32) (h : S_.BroadcastsInDim S4x2304x512 ![]) (i : S4x2304x512.Idx) :
    (mulf X (Host.divf (broadcastInDim S4x2304x512 ![] h (constant S_ .f32 0x3F800000#32))
      (addf (broadcastInDim S4x2304x512 ![] h (constant S_ .f32 0x3F800000#32)) (Host.exp (Host.negf X)))) i : EReal) = silu (X i) := by
  have e : (broadcastInDim S4x2304x512 ![] h (constant (F := Ideal) S_ .f32 0x3F800000#32) i : EReal) = 1 := Ideal.ofBits_one_f32
  show (X i : EReal) * Ideal.div (broadcastInDim S4x2304x512 ![] h (constant (F := Ideal) S_ .f32 0x3F800000#32) i)
    (broadcastInDim S4x2304x512 ![] h (constant (F := Ideal) S_ .f32 0x3F800000#32) i + Ideal.exp (-(X i))) = _
  rw [e]; rfl

/-! ## One head -/

/-- The heads' lanes, each divided by their length. -/
def norms (X : FVec Ideal S4x2304x512 .f32) : FVec Ideal S4x2304x4x128 .f32 :=
  let H : FVec Ideal S4x2304x4x128 .f32 := shapeCast S4x2304x4x128 X shapeCasts_S4x2304x512_S4x2304x4x128
  mulf H (broadcastInDim S4x2304x4x128 ![0, 1, 2, 3] bcast_S4x2304x4x1_S4x2304x4x128_0_1_2_3 (Host.rsqrt (addf
    (broadcastInDim S4x2304x4x1 ![0, 1, 2] bcast_S4x2304x4_S4x2304x4x1_0_1_2 (Host.reduceAdd (mulf H H) (constant S_ .f32 0x00000000#32)
      reducesTo_S4x2304x4x128_S4x2304x4_d3 h_S_))
    (broadcastInDim S4x2304x4x1 ![] bcast_S_S4x2304x4x1 (constant S_ .f32 0x358637BD#32)))))

section

variable (X : FVec Ideal S4x2304x512 .f32) (b : Fin 4) (n : Fin 2304) (h : Fin 4)

theorem split_at (j : Fin 128) : (shapeCast S4x2304x4x128 X shapeCasts_S4x2304x512_S4x2304x4x128 (ix4 b n h j) : EReal) = X (ix3 b n (hd h j)) :=
  shapeCast_apply X shapeCasts_S4x2304x512_S4x2304x4x128 (ix4 b n h j : S4x2304x4x128.Idx) (ix3 b n (hd h j) : S4x2304x512.Idx) (by
    rw [Shape.rowMajor_val_three, Shape.rowMajor_val_four]
    show (b.val * 2304 + n.val) * 512 + (128 * h.val + j.val) = ((b.val * 2304 + n.val) * 4 + h.val) * 128 + j.val
    omega)

theorem squares_at (H : FVec Ideal S4x2304x4x128 .f32) :
    (Host.reduceAdd (mulf H H) (constant S_ .f32 0x00000000#32) reducesTo_S4x2304x4x128_S4x2304x4_d3 h_S_ (ix3 b n h) : EReal)
      = ∑ j : Fin 128, (H (ix4 b n h j) : EReal) * H (ix4 b n h j) := by
  generalize e : mulf H H = Y
  simp only [Host.reduceAdd, Ideal.hostReduceAdd_def]
  rw [Ideal.hostReduceAdd_single reducesTo_S4x2304x4x128_S4x2304x4_d3 (by decide)]
  refine (congrArg (· + _) (Ideal.ofBits_zero_f32 : Ideal.ofBits .f32 0x00000000#32 = 0)).trans ((zero_add _).trans ?_)
  refine Finset.sum_congr rfl fun k _ => ?_
  rw [← e]
  have i : ∀ y : S4x2304x4x128.Idx, y = ix4 b n h k → (mulf H H y : EReal) = (H (ix4 b n h k) : EReal) * H (ix4 b n h k) := fun y hy => by rw [hy]; rfl
  exact i _ (funext fun a => Fin.ext (by match a with | ⟨0, _⟩ => rfl | ⟨1, _⟩ => rfl | ⟨2, _⟩ => rfl | ⟨3, _⟩ => rfl))

theorem norms_at (f : Fin 128 → EReal) (hf : ∀ j, (X (ix3 b n (hd h j)) : EReal) = f j) (l : Fin 128) : (norms X (ix4 b n h l) : EReal) = unit f l := by
  unfold norms unit
  refine congrArg₂ (fun p q : EReal => p * q) ((split_at X b n h l).trans (hf l)) ?_
  refine (broadcastInDim_apply _ bcast_S4x2304x4x1_S4x2304x4x128_0_1_2_3 _ (ix4 b n h l : S4x2304x4x128.Idx) (ix4 b n h 0 : S4x2304x4x1.Idx) (fun a => by
    match a with
    | ⟨0, _⟩ => show b.val = if (4 : Nat) = 1 then 0 else b.val; rw [if_neg (by decide)]
    | ⟨1, _⟩ => show n.val = if (2304 : Nat) = 1 then 0 else n.val; rw [if_neg (by decide)]
    | ⟨2, _⟩ => show h.val = if (4 : Nat) = 1 then 0 else h.val; rw [if_neg (by decide)]
    | ⟨3, _⟩ => show 0 = if (1 : Nat) = 1 then 0 else l.val; rw [if_pos rfl])).trans ?_
  refine congrArg Ideal.rsqrt (congrArg₂ (fun p q : EReal => p + q) ?_ rfl)
  refine (broadcastInDim_apply _ bcast_S4x2304x4_S4x2304x4x1_0_1_2 _ (ix4 b n h 0 : S4x2304x4x1.Idx) (ix3 b n h : S4x2304x4.Idx) (fun a => by
    match a with
    | ⟨0, _⟩ => show b.val = if (4 : Nat) = 1 then 0 else b.val; rw [if_neg (by decide)]
    | ⟨1, _⟩ => show n.val = if (2304 : Nat) = 1 then 0 else n.val; rw [if_neg (by decide)]
    | ⟨2, _⟩ => show h.val = if (4 : Nat) = 1 then 0 else h.val; rw [if_neg (by decide)])).trans ?_
  refine (squares_at b n h _).trans (Finset.sum_congr rfl fun j _ => ?_)
  rw [split_at, hf]

/-- The heads joined again. -/
theorem join_at (Y : FVec Ideal S4x2304x4x128 .f32) (d : Fin 512) :
    (shapeCast S4x2304x512 Y shapeCasts_S4x2304x4x128_S4x2304x512 (ix3 b n d) : EReal) = Y (ix4 b n (headOf d) (laneOf d)) :=
  shapeCast_apply Y shapeCasts_S4x2304x4x128_S4x2304x512 (ix3 b n d : S4x2304x512.Idx) (ix4 b n (headOf d) (laneOf d) : S4x2304x4x128.Idx) (by
    rw [Shape.rowMajor_val_three, Shape.rowMajor_val_four]
    show ((b.val * 2304 + n.val) * 4 + d.val / 128) * 128 + d.val % 128 = (b.val * 2304 + n.val) * 512 + d.val
    omega)

end

/-! ## The three results -/

section

variable (Z : FVec Ideal S4x2304x10240 .bf16) (W : FVec Ideal S3x512 .f32)

/-- The silu of the convolution of a column of the input projection's output, from lane `o` on. -/
def act (o : ℕ) (b : Fin 4) (d : Fin 512) (t : ℕ) : EReal := silu (conv (wcol W d) (zcol Z o b d) t)

/-- A head's lanes of it, divided by their length. -/
def unitAct (o : ℕ) (y : S4x2304x512.Idx) : EReal := unit (fun j => act Z W o (y 0) (hd (headOf (y 2)) j) (y 1).val) (laneOf (y 2))

/-- The three results: q, also multiplied by a constant, k, and v. -/
def qArr (y : S4x2304x512.Idx) : EReal := unitAct Z W 4608 y * Ideal.ofBits .f32 0x3DB504F3#32
def kArr (y : S4x2304x512.Idx) : EReal := unitAct Z W 5120 y
def vArr (y : S4x2304x512.Idx) : EReal := act Z W 5632 (y 0) (y 2) (y 1).val

variable (b : Fin 4) (d : Fin 512) (r : Fin 2304)

theorem zero_row (i : S4x1x512.Idx) : (val_main_v4 (F := Ideal) i : EReal) = 0 := Ideal.ofBits_zero_f32

theorem q_conv : (val_main_v50 (F := Ideal) Z W (ix3 b r d) : EReal) = conv (wcol W d) (zcol Z 4608 b d) r.val :=
  joined_at (val_main_v25 (F := Ideal) Z W) (val_main_v49 (F := Ideal) Z W) _ b d _
    (part_at context (val_main_v4 (F := Ideal)) zero_row (val_main_v1 (F := Ideal) Z) W _ _ _ _ _ _ _ _ _ _ _ b d _ fun t => lanes_at Z 4608 (by decide) _ b t d)
    (part_at latent (val_main_v28 (F := Ideal)) zero_row (val_main_v1 (F := Ideal) Z) W _ _ _ _ _ _ _ _ _ _ _ b d _ fun t => lanes_at Z 4608 (by decide) _ b t d) r
theorem k_conv : (val_main_v101 (F := Ideal) Z W (ix3 b r d) : EReal) = conv (wcol W d) (zcol Z 5120 b d) r.val :=
  joined_at (val_main_v76 (F := Ideal) Z W) (val_main_v100 (F := Ideal) Z W) _ b d _
    (part_at context (val_main_v55 (F := Ideal)) zero_row (val_main_v52 (F := Ideal) Z) W _ _ _ _ _ _ _ _ _ _ _ b d _ fun t => lanes_at Z 5120 (by decide) _ b t d)
    (part_at latent (val_main_v79 (F := Ideal)) zero_row (val_main_v52 (F := Ideal) Z) W _ _ _ _ _ _ _ _ _ _ _ b d _ fun t => lanes_at Z 5120 (by decide) _ b t d) r
theorem v_conv : (val_main_v152 (F := Ideal) Z W (ix3 b r d) : EReal) = conv (wcol W d) (zcol Z 5632 b d) r.val :=
  joined_at (val_main_v127 (F := Ideal) Z W) (val_main_v151 (F := Ideal) Z W) _ b d _
    (part_at context (val_main_v106 (F := Ideal)) zero_row (val_main_v103 (F := Ideal) Z) W _ _ _ _ _ _ _ _ _ _ _ b d _ fun t => lanes_at Z 5632 (by decide) _ b t d)
    (part_at latent (val_main_v130 (F := Ideal)) zero_row (val_main_v103 (F := Ideal) Z) W _ _ _ _ _ _ _ _ _ _ _ b d _ fun t => lanes_at Z 5632 (by decide) _ b t d) r

theorem q_act : (val_main_v51 (F := Ideal) Z W (ix3 b r d) : EReal) = act Z W 4608 b d r.val :=
  (silu_at (val_main_v50 (F := Ideal) Z W) _ _).trans (congrArg silu (q_conv Z W b d r))
theorem k_act : (val_main_v102 (F := Ideal) Z W (ix3 b r d) : EReal) = act Z W 5120 b d r.val :=
  (silu_at (val_main_v101 (F := Ideal) Z W) _ _).trans (congrArg silu (k_conv Z W b d r))
theorem v_act : (val_main_v153 (F := Ideal) Z W (ix3 b r d) : EReal) = act Z W 5632 b d r.val :=
  (silu_at (val_main_v152 (F := Ideal) Z W) _ _).trans (congrArg silu (v_conv Z W b d r))

theorem ix_self (y : S4x2304x512.Idx) : y = ix3 (y 0) (y 1) (y 2) := funext fun a => by
  match a with
  | ⟨0, _⟩ => rfl
  | ⟨1, _⟩ => rfl
  | ⟨2, _⟩ => rfl

theorem result_q : (val_main_v174 (F := Ideal) Z W : S4x2304x512.Idx → EReal) = qArr Z W := funext fun y => by
  refine (congrArg (val_main_v174 (F := Ideal) Z W) (ix_self y)).trans ((join_at (y 0) (y 1) (val_main_v164 (F := Ideal) Z W) (y 2)).trans ?_)
  exact congrArg₂ (fun p q : EReal => p * q) (norms_at (val_main_v51 (F := Ideal) Z W) (y 0) (y 1) (headOf (y 2)) _
    (fun j => q_act Z W (y 0) (hd (headOf (y 2)) j) (y 1)) (laneOf (y 2))) rfl
theorem result_k : (val_main_v175 (F := Ideal) Z W : S4x2304x512.Idx → EReal) = kArr Z W := funext fun y => by
  refine (congrArg (val_main_v175 (F := Ideal) Z W) (ix_self y)).trans ((join_at (y 0) (y 1) (val_main_v173 (F := Ideal) Z W) (y 2)).trans ?_)
  exact norms_at (val_main_v102 (F := Ideal) Z W) (y 0) (y 1) (headOf (y 2)) _ (fun j => k_act Z W (y 0) (hd (headOf (y 2)) j) (y 1)) (laneOf (y 2))
theorem result_v : (val_main_v153 (F := Ideal) Z W : S4x2304x512.Idx → EReal) = vArr Z W := funext fun y =>
  (congrArg (val_main_v153 (F := Ideal) Z W) (ix_self y)).trans (v_act Z W (y 0) (y 2) (y 1))

end

/-- The reference's frame: its run without its results; it declares no semaphore. -/
theorem frame : Cert.quiescent_DnPrepRefIdeal := fun m g _ =>
  (θ_run Cert.DnPrepRefIdeal.defs _ _).mono (fun r h => ⟨fun c => (h c).2.2.2, sem_eq_zero_of_no_sems (by decide) r.2⟩)
    (Cert.DnPrepRefIdeal.Value.run m g)

end Cert.DnPrepRefIdeal.Whole

end
-- ==== Proof.DnPrep.lean ====
/- The DeltaNet preparation's forward claim: three column groups, each convolved along the sequence and put through a silu, two of them
   divided by the length of each head's 128 lanes, in the kernel and in the reference. -/
module

public import proofs.«01_k».proof.Defs
public import proofs.«01_k».proof.Proof.ShortB
public import proofs.«01_k».proof.Proof.DnPrepRef
public import proofs.«01_k».proof.Proof.Gen.DnPrepIdeal.Value
public import Idealize.ShloMosaic.Lib.Claim

@[expose] public section

set_option maxRecDepth 16384

noncomputable section

open scoped BigOperators

namespace Cert.DnPrepIdeal.Whole

open Cert.DnPrepIdeal Cert.DnPrepIdeal.Gen Cert.Short
open Cert.ShortBIdeal.Whole (hz2 hz3 drop_at add_at row row_val col bcol taps col_at down_at up_at spread_at bcol_row w0_at w1_at w2_at
  tile_ix taps_ix ix_form bat ch ch_val lane_val)
open Cert.ShortBRefIdeal.Whole (zcol wcol)
open Cert.DnPrepRefIdeal.Whole (act unitAct qArr kArr vArr)
open Idealize.ShloMosaic Idealize.ShloMosaic.TcCoe Idealize.SL.Sem
open Idealize.ShloMosaic.Pipeline (Dat)

/-! ## One block -/

/-- Row values, as a column. -/
theorem column_at (x : FVec Ideal S2304 .f32) (h : S2304.ShapeCasts S2304x1) (r : Fin 2304) : (shapeCast S2304x1 x h (ix2 r 0) : EReal) = x (ix1 r) :=
  shapeCast_apply x h (ix2 r 0 : S2304x1.Idx) (ix1 r : S2304.Idx) (by
    rw [Shape.rowMajor_val_two, Shape.rowMajor_val_one]; show r.val = r.val * 1 + 0; omega)

/-- A column, spread over the lanes. -/
theorem lanes_of (x : FVec Ideal S2304x1 .f32) (h : S2304x1.Broadcasts S2304x128) (r : Fin 2304) (l : Fin 128) :
    (broadcastTo S2304x128 x h (ix2 r l) : EReal) = x (ix2 r 0) :=
  broadcastTo_apply x h _ _ fun a => by
    match a with
    | ⟨0, _⟩ => rfl
    | ⟨1, _⟩ => rfl

/-- A row's sum. -/
theorem sum_at (X : FVec Ideal S2304x128 .f32) (h : Shape.Reduces S2304x128 [1] S2304) (r : Fin 2304) :
    (multiReduction .add [1] S2304 X 0x00000000#32 h (.inl rfl) rfl (ix1 r) : EReal) = ∑ j : Fin 128, (X (ix2 r j) : EReal) := by
  refine (Ideal.multiReduction_add_single _ _ _ _ _ _).trans (Finset.sum_congr rfl fun j _ => congrArg X (?_ : h.lift (ix1 r) j = ix2 r j))
  funext a; apply Fin.ext
  match a with
  | ⟨0, _⟩ => rfl
  | ⟨1, _⟩ => rfl

/-- A row divided by its length. -/
theorem unit_at (X : FVec Ideal S2304x128 .f32) (hs : Shape.Reduces S2304x128 [1] S2304) (hc : S2304.ShapeCasts S2304x1)
    (hb : S2304x1.Broadcasts S2304x128) (r : Fin 2304) (l : Fin 128) (f : Fin 128 → EReal) (hf : ∀ j, (X (ix2 r j) : EReal) = f j) :
    (mulf X (broadcastTo S2304x128 (rsqrt (addf (shapeCast S2304x1 (multiReduction .add [1] S2304 (mulf X X) 0x00000000#32 hs (.inl rfl) rfl) hc)
      (broadcast S2304x1 (Scalar.ofBits (F := Ideal) .f32 0x358637BD#32)))) hb) (ix2 r l) : EReal) = unit f l := by
  unfold unit
  refine congrArg₂ (fun p q : EReal => p * q) (hf l) ((lanes_of _ hb r l).trans ?_)
  refine congrArg Ideal.rsqrt (congrArg₂ (fun p q : EReal => p + q) ?_ rfl)
  refine (column_at _ hc r).trans ((sum_at _ hs r).trans (Finset.sum_congr rfl fun j _ => ?_))
  exact congrArg₂ (fun p q : EReal => p * q) (hf j) (hf j)

/-- The convolution of a column. -/
theorem conv_at (X : FVec Ideal S2304x128 .f32) (w : Vec Ideal S3x128 .f32) (u : ℕ → EReal) (l : Fin 128) (hX : col X l = u)
    (h : S2304x128.Iotas .tc 32 [0]) (hr : S2304x128.Rotates 0 none) (hb : S1x128.Broadcasts S2304x128)
    (s0 : S3x128.Slices ![0, 0] S1x128) (s1 : S3x128.Slices ![1, 0] S1x128) (s2 : S3x128.Slices ![2, 0] S1x128) (r : Fin 2304) :
    let D : FVec Ideal S2304x128 .f32 := select (ori (cmpi .eq (iota .tc S2304x128 32 [0] h) (broadcast S2304x128 0#32))
      (cmpi .eq (iota .tc S2304x128 32 [0] h) (broadcast S2304x128 256#32)))
      (broadcast S2304x128 (Scalar.ofBits (F := Ideal) .f32 0x00000000#32)) (dynamicRotate 0 1#32 none X hr)
    let U : FVec Ideal S2304x128 .f32 := select (ori (cmpi .eq (iota .tc S2304x128 32 [0] h) (broadcast S2304x128 255#32))
      (cmpi .eq (iota .tc S2304x128 32 [0] h) (broadcast S2304x128 2303#32)))
      (broadcast S2304x128 (Scalar.ofBits (F := Ideal) .f32 0x00000000#32)) (dynamicRotate 0 2303#32 none X hr)
    (addf (addf (mulf (broadcastTo S2304x128 (extractStridedSlice S1x128 ![0, 0] w s0) hb) D)
      (mulf (broadcastTo S2304x128 (extractStridedSlice S1x128 ![1, 0] w s1) hb) X))
      (mulf (broadcastTo S2304x128 (extractStridedSlice S1x128 ![2, 0] w s2) hb) U) (ix2 r l) : EReal) = conv (taps w l) u r.val := by
  intro D U
  subst hX
  refine congrArg₂ (fun p q : EReal => p + q) (congrArg₂ (fun p q : EReal => p + q) ?_ ?_) ?_
  · exact congrArg₂ (fun p q : EReal => p * q) ((spread_at _ hb r l).trans (w0_at w l)) (down_at X h hr r l)
  · exact congrArg₂ (fun p q : EReal => p * q) ((spread_at _ hb r l).trans (w1_at w l)) (col_at X r l)
  · exact congrArg₂ (fun p q : EReal => p * q) ((spread_at _ hb r l).trans (w2_at w l)) (up_at X h hr r l)

section Pay

variable (x : Vec Ideal S1x2304x128 .bf16) (w : Vec Ideal S3x128 .f32) (r : Fin 2304) (l : Fin 128)

/-- The silu of a block's convolution. -/
def blockAct (l : Fin 128) : EReal := silu (conv (taps w l) (bcol x l) r.val)

theorem col_q : col (k0_pay3 x) l = bcol x l := funext fun t => drop_at x _ (row t) l
theorem col_k : col (k0_pay4 x) l = bcol x l := funext fun t => drop_at x _ (row t) l
theorem col_v : col (k0_pay5 x) l = bcol x l := funext fun t => drop_at x _ (row t) l

theorem k_act : (k0_pay11 (k0_pay4 x) w (ix2 r l) : EReal) = blockAct x w r l :=
  congrArg silu (conv_at (k0_pay4 x) w (bcol x l) l (col_k x l) _ _ _ _ _ _ r)
theorem v_act : (k0_pay13 (k0_pay5 x) w (ix2 r l) : EReal) = blockAct x w r l :=
  congrArg silu (conv_at (k0_pay5 x) w (bcol x l) l (col_v x l) _ _ _ _ _ _ r)

/-- The first column group's silu, whose parts are computed apart. -/
def qAct : FVec Ideal S2304x128 .f32 :=
  let C : FVec Ideal S2304x128 .f32 := addf (k0_pay6 x w) (mulf (broadcastTo S2304x128 (k0_pay7 w) broadcasts_S1x128_S2304x128)
    (select k0_pay8 (broadcast S2304x128 (Scalar.ofBits (F := Ideal) .f32 0x00000000#32)) (k0_pay9 x)))
  mulf C (logistic C)

theorem q_act : (qAct x w (ix2 r l) : EReal) = blockAct x w r l :=
  congrArg silu (conv_at (k0_pay3 x) w (bcol x l) l (col_q x l) _ _ _ _ _ slices_S3x128_o2_0_S1x128 r)

theorem out6 (x1 x2 : Vec Ideal S1x2304x128 .bf16) (w1 w2 : Vec Ideal S3x128 .f32) :
    (out0_6 x x1 x2 w w1 w2 (ix3 0 r l) : EReal) = unit (blockAct x w r) l * Ideal.ofBits .f32 0x3DB504F3#32 := by
  unfold out0_6
  rw [View.canon_unit_zero hz3]
  simp only [View.ld_unit_zero (S := S1x2304x128) hz3, View.ld_unit_zero (S := S3x128) hz2]
  refine (add_at (k0_pay10 (k0_pay6 x w) (k0_pay7 w) k0_pay8 (k0_pay9 x)) shapeCasts_S2304x128_S1x2304x128 r l).trans ?_
  exact congrArg₂ (fun p q : EReal => p * q) (unit_at (qAct x w) _ _ _ r l _ fun j => q_act x w r j) rfl

theorem out7 (x0 x2 : Vec Ideal S1x2304x128 .bf16) (w0 w2 : Vec Ideal S3x128 .f32) :
    (out0_7 x0 x x2 w0 w w2 (ix3 0 r l) : EReal) = unit (blockAct x w r) l := by
  unfold out0_7
  rw [View.canon_unit_zero hz3]
  simp only [View.ld_unit_zero (S := S1x2304x128) hz3, View.ld_unit_zero (S := S3x128) hz2]
  refine (add_at (k0_pay12 (k0_pay11 (k0_pay4 x) w)) shapeCasts_S2304x128_S1x2304x128 r l).trans ?_
  exact unit_at (k0_pay11 (k0_pay4 x) w) _ _ _ r l _ fun j => k_act x w r j

theorem out8 (x0 x1 : Vec Ideal S1x2304x128 .bf16) (w0 w1 : Vec Ideal S3x128 .f32) :
    (out0_8 x0 x1 x w0 w1 w (ix3 0 r l) : EReal) = blockAct x w r l := by
  unfold out0_8
  rw [View.canon_unit_zero hz3]
  simp only [View.ld_unit_zero (S := S1x2304x128) hz3, View.ld_unit_zero (S := S3x128) hz2]
  exact (add_at _ _ r l).trans (v_act x w r l)

end Pay

/-! ## The windows' indices: one of four heads, one of four sequences -/

theorem index0 : ∀ t : Fin cfg0.N, win0_0.index t 0 = t.val % 4 ∧ win0_0.index t 1 = 0 ∧ win0_0.index t 2 = 36 + t.val / 4 :=
  (by decide +kernel : ∀ t : Fin grid0.N, win0_0.index t 0 = t.val % 4 ∧ win0_0.index t 1 = 0 ∧ win0_0.index t 2 = 36 + t.val / 4)
theorem index1 : ∀ t : Fin cfg0.N, win0_1.index t 0 = t.val % 4 ∧ win0_1.index t 1 = 0 ∧ win0_1.index t 2 = 40 + t.val / 4 :=
  (by decide +kernel : ∀ t : Fin grid0.N, win0_1.index t 0 = t.val % 4 ∧ win0_1.index t 1 = 0 ∧ win0_1.index t 2 = 40 + t.val / 4)
theorem index2 : ∀ t : Fin cfg0.N, win0_2.index t 0 = t.val % 4 ∧ win0_2.index t 1 = 0 ∧ win0_2.index t 2 = 44 + t.val / 4 :=
  (by decide +kernel : ∀ t : Fin grid0.N, win0_2.index t 0 = t.val % 4 ∧ win0_2.index t 1 = 0 ∧ win0_2.index t 2 = 44 + t.val / 4)
theorem index3 : ∀ t : Fin cfg0.N, win0_3.index t 0 = 0 ∧ win0_3.index t 1 = t.val / 4 :=
  (by decide +kernel : ∀ t : Fin grid0.N, win0_3.index t 0 = 0 ∧ win0_3.index t 1 = t.val / 4)
theorem index4 : ∀ t : Fin cfg0.N, win0_4.index t 0 = 0 ∧ win0_4.index t 1 = t.val / 4 :=
  (by decide +kernel : ∀ t : Fin grid0.N, win0_4.index t 0 = 0 ∧ win0_4.index t 1 = t.val / 4)
theorem index5 : ∀ t : Fin cfg0.N, win0_5.index t 0 = 0 ∧ win0_5.index t 1 = t.val / 4 :=
  (by decide +kernel : ∀ t : Fin grid0.N, win0_5.index t 0 = 0 ∧ win0_5.index t 1 = t.val / 4)
theorem index6 : ∀ t : Fin cfg0.N, win0_6.index t 0 = t.val % 4 ∧ win0_6.index t 1 = 0 ∧ win0_6.index t 2 = 0 + t.val / 4 :=
  (by decide +kernel : ∀ t : Fin grid0.N, win0_6.index t 0 = t.val % 4 ∧ win0_6.index t 1 = 0 ∧ win0_6.index t 2 = 0 + t.val / 4)
theorem index7 : ∀ t : Fin cfg0.N, win0_7.index t 0 = t.val % 4 ∧ win0_7.index t 1 = 0 ∧ win0_7.index t 2 = 0 + t.val / 4 :=
  (by decide +kernel : ∀ t : Fin grid0.N, win0_7.index t 0 = t.val % 4 ∧ win0_7.index t 1 = 0 ∧ win0_7.index t 2 = 0 + t.val / 4)
theorem index8 : ∀ t : Fin cfg0.N, win0_8.index t 0 = t.val % 4 ∧ win0_8.index t 1 = 0 ∧ win0_8.index t 2 = 0 + t.val / 4 :=
  (by decide +kernel : ∀ t : Fin grid0.N, win0_8.index t 0 = t.val % 4 ∧ win0_8.index t 1 = 0 ∧ win0_8.index t 2 = 0 + t.val / 4)

theorem lt_N (t : Fin cfg0.N) : t.val < 16 := lt_of_lt_of_eq t.isLt N_0

/-- The point whose block an index of a result lies in. -/
def tileOf (y : S4x2304x512.Idx) : Fin cfg0.N :=
  ⟨4 * ((y 2).val / 128) + (y 0).val, by
    have h0 : (y 0).val < 4 := (y 0).isLt
    have h2 : (y 2).val < 512 := (y 2).isLt
    have hN : cfg0.N = 16 := N_0
    omega⟩

/-- A point's columns are one head's. -/
theorem hd_ch {t : ℕ} (ht : t < 16) (l j : Fin 128) : hd (headOf (ch t l)) j = ch t j := Fin.ext (by
  show 128 * ((128 * (t / 4) + l.val) % 512 / 128) + j.val = (128 * (t / 4) + j.val) % 512
  omega)
theorem lane_ch {t : ℕ} (ht : t < 16) (l : Fin 128) : laneOf (ch t l) = l := Fin.ext (by
  show (128 * (t / 4) + l.val) % 512 % 128 = l.val
  omega)

variable (m : (ℓ : Loc nD τ sig) → Buf (Elt Ideal) ℓ) (c : Dev nD)

/-- The input projection's output and the three weights, as launched. -/
abbrev zA : FVec Ideal S4x2304x10240 .bf16 := m ((c : Thread nD τ).loc main_arg0)
abbrev wqA : FVec Ideal S3x512 .f32 := m ((c : Thread nD τ).loc main_arg1)
abbrev wkA : FVec Ideal S3x512 .f32 := m ((c : Thread nD τ).loc main_arg2)
abbrev wvA : FVec Ideal S3x512 .f32 := m ((c : Thread nD τ).loc main_arg3)

variable {m c} (t : Fin cfg0.N) (l : Fin 128)

theorem block0 : bcol (iblk m c 0 t : Vec Ideal S1x2304x128 .bf16) l = zcol (zA m c) 4608 (bat t.val) (ch t.val l) := funext fun s => by
  unfold bcol iblk
  rw [View.read_apply]
  show V m c main_arg0 _ = m (c.tc.loc main_arg0) _
  unfold V
  exact congrArg (m (c.tc.loc main_arg0)) (tile_ix (lt_N t) (index0 t) rfl rfl rfl (lane_val (lt_N t) l 36 (by decide)))
theorem block1 : bcol (iblk m c 1 t : Vec Ideal S1x2304x128 .bf16) l = zcol (zA m c) 5120 (bat t.val) (ch t.val l) := funext fun s => by
  unfold bcol iblk
  rw [View.read_apply]
  show V m c main_arg0 _ = m (c.tc.loc main_arg0) _
  unfold V
  exact congrArg (m (c.tc.loc main_arg0)) (tile_ix (lt_N t) (index1 t) rfl rfl rfl (lane_val (lt_N t) l 40 (by decide)))
theorem block2 : bcol (iblk m c 2 t : Vec Ideal S1x2304x128 .bf16) l = zcol (zA m c) 5632 (bat t.val) (ch t.val l) := funext fun s => by
  unfold bcol iblk
  rw [View.read_apply]
  show V m c main_arg0 _ = m (c.tc.loc main_arg0) _
  unfold V
  exact congrArg (m (c.tc.loc main_arg0)) (tile_ix (lt_N t) (index2 t) rfl rfl rfl (lane_val (lt_N t) l 44 (by decide)))
theorem block3 : taps (iblk m c 3 t : Vec Ideal S3x128 .f32) l = wcol (wqA m c) (ch t.val l) := funext fun k => by
  unfold taps iblk
  rw [View.read_apply]
  show V m c main_arg1 _ = m (c.tc.loc main_arg1) _
  unfold V
  exact congrArg (m (c.tc.loc main_arg1)) (taps_ix (lt_N t) (index3 t) rfl rfl)
theorem block4 : taps (iblk m c 4 t : Vec Ideal S3x128 .f32) l = wcol (wkA m c) (ch t.val l) := funext fun k => by
  unfold taps iblk
  rw [View.read_apply]
  show V m c main_arg2 _ = m (c.tc.loc main_arg2) _
  unfold V
  exact congrArg (m (c.tc.loc main_arg2)) (taps_ix (lt_N t) (index4 t) rfl rfl)
theorem block5 : taps (iblk m c 5 t : Vec Ideal S3x128 .f32) l = wcol (wvA m c) (ch t.val l) := funext fun k => by
  unfold taps iblk
  rw [View.read_apply]
  show V m c main_arg3 _ = m (c.tc.loc main_arg3) _
  unfold V
  exact congrArg (m (c.tc.loc main_arg3)) (taps_ix (lt_N t) (index5 t) rfl rfl)

/-- A head's block, divided by its lengths, is the result's. -/
theorem unit_tile (x : Vec Ideal S1x2304x128 .bf16) (w : Vec Ideal S3x128 .f32) (Z : FVec Ideal S4x2304x10240 .bf16) (W : FVec Ideal S3x512 .f32) (o : ℕ)
    (hx : ∀ l, bcol x l = zcol Z o (bat t.val) (ch t.val l)) (hw : ∀ l, taps w l = wcol W (ch t.val l)) (r : Fin 2304) :
    unit (blockAct x w r) l = unitAct Z W o (ix3 (bat t.val) r (ch t.val l)) := by
  have e : blockAct x w r = fun j => act Z W o (bat t.val) (hd (headOf (ch t.val l)) j) r.val := funext fun j => by
    rw [hd_ch (lt_N t)]
    unfold blockAct act
    rw [hx, hw]
  show _ = unit (fun j => act Z W o (bat t.val) (hd (headOf (ch t.val l)) j) r.val) (laneOf (ch t.val l))
  rw [← e, lane_ch (lt_N t)]

theorem q_tile (r : Fin 2304) : (out0_6 (iblk m c 0 t) (iblk m c 1 t) (iblk m c 2 t) (iblk m c 3 t) (iblk m c 4 t) (iblk m c 5 t) (ix3 0 r l) : EReal)
    = qArr (zA m c) (wqA m c) (ix3 (bat t.val) r (ch t.val l)) :=
  (out6 _ _ r l _ _ _ _).trans (congrArg (fun p : EReal => p * Ideal.ofBits .f32 0x3DB504F3#32)
    (unit_tile t l _ _ (zA m c) (wqA m c) 4608 (block0 t) (block3 t) r))
theorem k_tile (r : Fin 2304) : (out0_7 (iblk m c 0 t) (iblk m c 1 t) (iblk m c 2 t) (iblk m c 3 t) (iblk m c 4 t) (iblk m c 5 t) (ix3 0 r l) : EReal)
    = kArr (zA m c) (wkA m c) (ix3 (bat t.val) r (ch t.val l)) :=
  (out7 _ _ r l _ _ _ _).trans (unit_tile t l _ _ (zA m c) (wkA m c) 5120 (block1 t) (block4 t) r)
theorem v_tile (r : Fin 2304) : (out0_8 (iblk m c 0 t) (iblk m c 1 t) (iblk m c 2 t) (iblk m c 3 t) (iblk m c 4 t) (iblk m c 5 t) (ix3 0 r l) : EReal)
    = vArr (zA m c) (wvA m c) (ix3 (bat t.val) r (ch t.val l)) := by
  refine (out8 _ _ r l _ _ _ _).trans ?_
  unfold blockAct
  rw [block2, block5]; rfl

variable (m c)

theorem final6 : (dats m 0 c).arrAt 6 cfg0.N = qArr (zA m c) (wqA m c) := by
  refine (dats m 0 c).arrAt_eq_of_cover 6 (qArr (zA m c) (wqA m c)) (fun t _ => ?_) fun y => ⟨tileOf y, flush0_6 _, ?_⟩
  · rw [Value.flushed6]
    funext y
    rw [View.read_apply]
    obtain ⟨r, l, rfl⟩ := ix_form y
    have e : (((cfg0.win 6).blk t).view.emb (ix3 0 r l) : S4x2304x512.Idx) = ix3 (bat t.val) r (ch t.val l) :=
      tile_ix (lt_N t) (index6 t) rfl rfl rfl (ch_val (lt_N t) l)
    exact (q_tile t l r).trans (congrArg (qArr (zA m c) (wqA m c)) e.symm)
  · show y ∈ ((View.whole main_v0_0).slice (win0_6.rect (tileOf y))).set
    rw [View.set_slice_whole, Rect.mem_set_unit]
    exact Cert.ShortBIdeal.Whole.tile_mem y (index6 (tileOf y))

theorem final7 : (dats m 0 c).arrAt 7 cfg0.N = kArr (zA m c) (wkA m c) := by
  refine (dats m 0 c).arrAt_eq_of_cover 7 (kArr (zA m c) (wkA m c)) (fun t _ => ?_) fun y => ⟨tileOf y, flush0_7 _, ?_⟩
  · rw [Value.flushed7]
    funext y
    rw [View.read_apply]
    obtain ⟨r, l, rfl⟩ := ix_form y
    have e : (((cfg0.win 7).blk t).view.emb (ix3 0 r l) : S4x2304x512.Idx) = ix3 (bat t.val) r (ch t.val l) :=
      tile_ix (lt_N t) (index7 t) rfl rfl rfl (ch_val (lt_N t) l)
    exact (k_tile t l r).trans (congrArg (kArr (zA m c) (wkA m c)) e.symm)
  · show y ∈ ((View.whole main_v0_1).slice (win0_7.rect (tileOf y))).set
    rw [View.set_slice_whole, Rect.mem_set_unit]
    exact Cert.ShortBIdeal.Whole.tile_mem y (index7 (tileOf y))

theorem final8 : (dats m 0 c).arrAt 8 cfg0.N = vArr (zA m c) (wvA m c) := by
  refine (dats m 0 c).arrAt_eq_of_cover 8 (vArr (zA m c) (wvA m c)) (fun t _ => ?_) fun y => ⟨tileOf y, flush0_8 _, ?_⟩
  · rw [Value.flushed8]
    funext y
    rw [View.read_apply]
    obtain ⟨r, l, rfl⟩ := ix_form y
    have e : (((cfg0.win 8).blk t).view.emb (ix3 0 r l) : S4x2304x512.Idx) = ix3 (bat t.val) r (ch t.val l) :=
      tile_ix (lt_N t) (index8 t) rfl rfl rfl (ch_val (lt_N t) l)
    exact (v_tile t l r).trans (congrArg (vArr (zA m c) (wvA m c)) e.symm)
  · show y ∈ ((View.whole main_v0_2).slice (win0_8.rect (tileOf y))).set
    rw [View.set_slice_whole, Rect.mem_set_unit]
    exact Cert.ShortBIdeal.Whole.tile_mem y (index8 (tileOf y))

end Cert.DnPrepIdeal.Whole

namespace Cert.DnPrep

open Idealize.ShloMosaic Idealize.ShloMosaic.TcCoe Idealize.SL.Sem
open Cert.DnPrepIdeal.Whole Cert.DnPrepRefIdeal.Whole Cert.DnPrepRefIdeal.Read

/-- The kernel and the reference end with equal results. -/
theorem algebraic : Cert.algebraic_DnPrepIdeal_DnPrepRefIdeal := by
  intro m g m' g' hP hagree
  refine ⟨fun c => qArr (zA m c) (wqA m c), fun c => kArr (zA m c) (wkA m c), fun c => vArr (zA m c) (wvA m c), ?_, ?_⟩
  · exact (θ_run Cert.DnPrepIdeal.defs _ _).mono (fun r h c =>
      ⟨(h c).1.trans (final6 m c), (h c).2.1.trans (final7 m c), (h c).2.2.1.trans (final8 m c), (h c).2.2.2⟩) (Cert.DnPrepIdeal.Value.run_blocks m g)
  · refine (θ_run Cert.DnPrepRefIdeal.defs _ _).mono (fun r h c => ?_) (Cert.DnPrepRefIdeal.Value.run m' g')
    obtain ⟨h0, h1, h2, h⟩ := h c
    obtain ⟨a0, a1, a2, a3⟩ := hagree c
    have z0 : StableHlo.launchContents m' c (Proc.tc.devRef Cert.DnPrepRefIdeal.main_arg0) = zA m c := a0
    have z1 : StableHlo.launchContents m' c (Proc.tc.devRef Cert.DnPrepRefIdeal.main_arg1) = wqA m c := a1
    have z2 : StableHlo.launchContents m' c (Proc.tc.devRef Cert.DnPrepRefIdeal.main_arg2) = wkA m c := a2
    have z3 : StableHlo.launchContents m' c (Proc.tc.devRef Cert.DnPrepRefIdeal.main_arg3) = wvA m c := a3
    refine ⟨?_, ?_, ?_, h⟩
    · exact (h0.trans (val_main_v174_eq _)).trans (by rw [z0, z1]; exact result_q _ _)
    · exact (h1.trans (val_main_v175_eq _)).trans (by rw [z0, z2]; exact result_k _ _)
    · exact (h2.trans (val_main_v153_eq _)).trans (by rw [z0, z3]; exact result_v _ _)

end Cert.DnPrep

end
-- ==== Proof.Win.lean ====
/- The input projection: the blocked product is the whole product. -/
module

public import proofs.«01_k».proof.Defs
public import proofs.«01_k».proof.Proof.Product
public import proofs.«01_k».proof.Proof.Gen.WinIdeal.Value
public import proofs.«01_k».proof.Proof.Gen.WinRefIdeal.Read
public import Idealize.ShloMosaic.Lib.Pointwise

@[expose] public section

noncomputable section

open scoped BigOperators

namespace Cert.WinIdeal.Whole

open Cert.WinIdeal Cert.WinIdeal.Gen Cert.Product
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- What a point leaves. -/
theorem out_eq (x0 : Vec Ideal S1024x1024 .bf16) (x1 : Vec Ideal S1024x1024 .bf16) : out0_2 x0 x1 = k0_pay1 x0 x1 := by
  unfold out0_2
  rw [View.canon_unit_zero hz]
  simp only [View.ld_unit_zero (S := S1024x1024) hz]

/-- An entry of the product of two blocks. -/
theorem pay1_apply (x0 : Vec Ideal S1024x1024 .bf16) (x1 : Vec Ideal S1024x1024 .bf16) (r : Fin 1024) (s : Fin 1024) :
    (k0_pay1 x0 x1 (ix2 r s) : EReal) = ∑ k : Fin 1024, (x0 (ix2 r k) : EReal) * x1 (ix2 k s) := by
  unfold k0_pay1
  simp only [pointwise, zero_add]

/-! ## The windows' blocks -/

theorem lt_N (t : Fin cfg0.N) : t.val < 90 := lt_of_lt_of_eq t.isLt N_0

theorem index0 : ∀ t : Fin cfg0.N, win0_0.index t 0 = t.val / 10 ∧ win0_0.index t 1 = 0 :=
  (by decide +kernel : ∀ t : Fin grid0.N, win0_0.index t 0 = t.val / 10 ∧ win0_0.index t 1 = 0)

theorem index1 : ∀ t : Fin cfg0.N, win0_1.index t 0 = 0 ∧ win0_1.index t 1 = t.val % 10 :=
  (by decide +kernel : ∀ t : Fin grid0.N, win0_1.index t 0 = 0 ∧ win0_1.index t 1 = t.val % 10)

theorem index2 : ∀ t : Fin cfg0.N, win0_2.index t 0 = t.val / 10 ∧ win0_2.index t 1 = t.val % 10 :=
  (by decide +kernel : ∀ t : Fin grid0.N, win0_2.index t 0 = t.val / 10 ∧ win0_2.index t 1 = t.val % 10)

variable (m : (ℓ : Loc nD τ sig) → Buf (Elt Ideal) ℓ) (c : Dev nD)

/-- The two arguments, as matrices. -/
def X (i : Fin 9216) (j : Fin 1024) : EReal := (m ((c : Thread nD τ).loc main_arg0) : Vec Ideal S9216x1024 .bf16) (ix2 i j)
def Y (i : Fin 1024) (j : Fin 10240) : EReal := (m ((c : Thread nD τ).loc main_arg1) : Vec Ideal S1024x10240 .bf16) (ix2 i j)

theorem read_x (t : Fin cfg0.N) (r : Fin 1024) (k : Fin 1024) :
    (iblk m c 0 t : Vec Ideal S1024x1024 .bf16) (ix2 r k) = at2 (X m c) (1024 * (t.val / 10) + r.val) k.val := by
  have ht := lt_N t
  obtain ⟨e0, e1⟩ := index0 t
  rw [at2_eq _ (by omega) (by omega)]
  unfold iblk X
  rw [View.read_apply]
  show V m c main_arg0 _ = m (c.tc.loc main_arg0) _
  unfold V
  congr 1
  funext a
  apply Fin.ext
  match a with
  | ⟨0, _⟩ => show win0_0.index t 0 * 1024 + 1 * r.val = 1024 * (t.val / 10) + r.val; rw [e0]; omega
  | ⟨1, _⟩ => show win0_0.index t 1 * 1024 + 1 * k.val = k.val; rw [e1]; omega

theorem read_y (t : Fin cfg0.N) (k : Fin 1024) (s : Fin 1024) :
    (iblk m c 1 t : Vec Ideal S1024x1024 .bf16) (ix2 k s) = at2 (Y m c) k.val (1024 * (t.val % 10) + s.val) := by
  have ht := lt_N t
  obtain ⟨e0, e1⟩ := index1 t
  rw [at2_eq _ (by omega) (by omega)]
  unfold iblk Y
  rw [View.read_apply]
  show V m c main_arg1 _ = m (c.tc.loc main_arg1) _
  unfold V
  congr 1
  funext a
  apply Fin.ext
  match a with
  | ⟨0, _⟩ => show win0_1.index t 0 * 1024 + 1 * k.val = k.val; rw [e0]; omega
  | ⟨1, _⟩ => show win0_1.index t 1 * 1024 + 1 * s.val = 1024 * (t.val % 10) + s.val; rw [e1]; omega

/-- The whole product. -/
def result (y : S9216x10240.Idx) : EReal := ∑ q ∈ Finset.range 1024, at2 (X m c) (y 0).val q * at2 (Y m c) q (y 1).val

theorem result_at {y : S9216x10240.Idx} {i j : ℕ} (hi : (y 0).val = i) (hj : (y 1).val = j) :
    result m c y = ∑ q ∈ Finset.range 1024, at2 (X m c) i q * at2 (Y m c) q j := by
  subst hi hj; rfl

/-- What a point leaves is its block of the whole product. -/
theorem out_at (t : Fin cfg0.N) (r : Fin 1024) (s : Fin 1024) :
    (out0_2 (iblk m c 0 t) (iblk m c 1 t) (ix2 r s) : EReal) =
      ∑ q ∈ Finset.range 1024, at2 (X m c) (1024 * (t.val / 10) + r.val) q * at2 (Y m c) q (1024 * (t.val % 10) + s.val) := by
  rw [out_eq, pay1_apply, Finset.sum_range]
  exact Finset.sum_congr rfl fun k _ => by rw [read_x, read_y]

theorem final : (dats m 0 c).arrAt 2 cfg0.N = result m c := by
  refine (dats m 0 c).arrAt_eq_of_cover 2 (result m c) (fun t hf => ?_) fun y => ?_
  · have ht := lt_N t
    obtain ⟨e0, e1⟩ := index2 t
    rw [Value.flushed2]
    funext y
    rw [View.read_apply]
    have hy0 : (y 0).val < 1024 := (y 0).isLt
    have hy1 : (y 1).val < 1024 := (y 1).isLt
    have ey : (y : S1024x1024.Idx) = ix2 ⟨(y 0).val, hy0⟩ ⟨(y 1).val, hy1⟩ := funext fun a => by fin_cases a <;> rfl
    refine ((congrArg (out0_2 (iblk m c 0 t) (iblk m c 1 t)) ey).trans (out_at m c t ⟨(y 0).val, hy0⟩ ⟨(y 1).val, hy1⟩)).trans ?_
    have d0 : ((((cfg0.win 2).blk t).view.emb y : S9216x10240.Idx) 0).val = 1024 * (t.val / 10) + (y 0).val := by
      show win0_2.index t 0 * 1024 + 1 * (y 0).val = 1024 * (t.val / 10) + (y 0).val
      rw [e0]; omega
    have d1 : ((((cfg0.win 2).blk t).view.emb y : S9216x10240.Idx) 1).val = 1024 * (t.val % 10) + (y 1).val := by
      show win0_2.index t 1 * 1024 + 1 * (y 1).val = 1024 * (t.val % 10) + (y 1).val
      rw [e1]; omega
    exact (result_at m c d0 d1).symm.trans (cast_eq _ _).symm
  · have h0 : (y 0 : Nat) < 9216 := (y 0).isLt
    have h1 : (y 1 : Nat) < 10240 := (y 1).isLt
    have hN : cfg0.N = 90 := N_0
    let t : Fin cfg0.N := ⟨10 * ((y 0).val / 1024) + ((y 1).val / 1024), by omega⟩
    obtain ⟨e0, e1⟩ := index2 t
    have ht : t.val = 10 * ((y 0).val / 1024) + ((y 1).val / 1024) := rfl
    refine ⟨t, flush0_2 t, ?_⟩
    show y ∈ ((View.whole main_v0).slice (win0_2.rect t)).set
    rw [View.set_slice_whole, Rect.mem_set_unit]
    intro a
    match a with
    | ⟨0, _⟩ =>
      show win0_2.index t 0 * 1024 ≤ (y 0 : Nat) ∧ (y 0 : Nat) < win0_2.index t 0 * 1024 + 1024
      rw [e0]; omega
    | ⟨1, _⟩ =>
      show win0_2.index t 1 * 1024 ≤ (y 1 : Nat) ∧ (y 1 : Nat) < win0_2.index t 1 * 1024 + 1024
      rw [e1]; omega

end Cert.WinIdeal.Whole

namespace Cert.WinRefIdeal.Whole

open Cert.WinRefIdeal Cert.WinRefIdeal.Gen
open Idealize.ShloMosaic Idealize.ShloMosaic.TcCoe Idealize.SL.Sem

/-- The reference leaves its arguments as they were, and every counter at zero. -/
theorem frame : Cert.quiescent_WinRefIdeal := fun m g _ =>
  (θ_run _ _ _).mono (fun r h => ⟨fun c => (h c).2, sem_eq_zero_of_no_sems (by decide) r.2⟩) (Value.run (F := Ideal) m g)

end Cert.WinRefIdeal.Whole

namespace Cert.Win

open Idealize.ShloMosaic Idealize.ShloMosaic.TcCoe Idealize.SL.Sem

/-- The kernel's result is the reference's. -/
theorem algebraic : Cert.algebraic_WinIdeal_WinRefIdeal := fun m g m' g' _ hargs =>
  ⟨fun c => WinIdeal.Whole.result m c,
    (θ_run _ _ _).mono (fun r h c => ⟨(h c).1.trans (WinIdeal.Whole.final m c), (h c).2⟩) (WinIdeal.Value.run_blocks (F := Ideal) m g),
    (θ_run _ _ _).mono (fun r h c => ⟨(h c).1.trans (by
      funext y
      refine ((Cert.WinRefIdeal.Read.val_main_v3_apply _ _ y).trans (Cert.WinRefIdeal.Read.val_main_v2_apply _ _ y)).trans ?_
      refine Eq.trans ?_ (Product.rowsColumns (WinIdeal.Whole.X m c) (WinIdeal.Whole.Y m c) (y 0) (y 1)).symm
      refine Finset.sum_congr rfl fun k _ => congrArg₂ (· * ·) ?_ ?_
      · exact (congrFun (hargs c).1 _).trans (congrArg (m (c.tc.loc WinIdeal.main_arg0)) (funext fun a => by
          match a with
          | ⟨0, _⟩ => rfl
          | ⟨1, _⟩ => rfl))
      · exact (congrFun (hargs c).2 _).trans (congrArg (m (c.tc.loc WinIdeal.main_arg1)) (funext fun a => by
          match a with
          | ⟨0, _⟩ => rfl
          | ⟨1, _⟩ => rfl))), (h c).2⟩) (Cert.WinRefIdeal.Value.run (F := Ideal) m' g')⟩

end Cert.Win

end
-- ==== Proof.Mlp1.lean ====
/- The MLP's first product, and the square of its positive part: the blocked product is the whole product. -/
module

public import proofs.«01_k».proof.Defs
public import proofs.«01_k».proof.Proof.Product
public import proofs.«01_k».proof.Proof.Gen.Mlp1Ideal.Value
public import proofs.«01_k».proof.Proof.Gen.Mlp1RefIdeal.Read
public import Idealize.ShloMosaic.Lib.Pointwise

@[expose] public section

noncomputable section

open scoped BigOperators

namespace Cert.Mlp1Ideal.Whole

open Cert.Mlp1Ideal Cert.Mlp1Ideal.Gen Cert.Product
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- What a point leaves. -/
theorem out_eq (x0 : Vec Ideal S1024x1024 .bf16) (x1 : Vec Ideal S1024x1024 .bf16) : out0_2 x0 x1 = k0_pay1 x0 x1 := by
  unfold out0_2
  rw [View.canon_unit_zero hz]
  simp only [View.ld_unit_zero (S := S1024x1024) hz]

/-- What a point leaves in the second result. -/
theorem out_sq (x0 : Vec Ideal S1024x1024 .bf16) (x1 : Vec Ideal S1024x1024 .bf16) : out0_3 x0 x1 = k0_pay2 x0 x1 := by
  unfold out0_3
  rw [View.canon_unit_zero hz]
  simp only [View.ld_unit_zero (S := S1024x1024) hz]

/-- An entry of the product of two blocks. -/
theorem pay1_apply (x0 : Vec Ideal S1024x1024 .bf16) (x1 : Vec Ideal S1024x1024 .bf16) (r : Fin 1024) (s : Fin 1024) :
    (k0_pay1 x0 x1 (ix2 r s) : EReal) = ∑ k : Fin 1024, (x0 (ix2 r k) : EReal) * x1 (ix2 k s) := by
  unfold k0_pay1
  simp only [pointwise, zero_add]

/-- An entry of the square of the product's positive part. -/
theorem pay2_apply (x0 : Vec Ideal S1024x1024 .bf16) (x1 : Vec Ideal S1024x1024 .bf16) (r s : Fin 1024) :
    (k0_pay2 x0 x1 (ix2 r s) : EReal) = max (k0_pay1 x0 x1 (ix2 r s) : EReal) 0 * max (k0_pay1 x0 x1 (ix2 r s) : EReal) 0 := by
  unfold k0_pay2
  simp only [pointwise]

/-! ## The windows' blocks -/

theorem lt_N (t : Fin cfg0.N) : t.val < 36 := lt_of_lt_of_eq t.isLt N_0

theorem index0 : ∀ t : Fin cfg0.N, win0_0.index t 0 = t.val / 4 ∧ win0_0.index t 1 = 0 :=
  (by decide +kernel : ∀ t : Fin grid0.N, win0_0.index t 0 = t.val / 4 ∧ win0_0.index t 1 = 0)

theorem index1 : ∀ t : Fin cfg0.N, win0_1.index t 0 = 0 ∧ win0_1.index t 1 = t.val % 4 :=
  (by decide +kernel : ∀ t : Fin grid0.N, win0_1.index t 0 = 0 ∧ win0_1.index t 1 = t.val % 4)

theorem index2 : ∀ t : Fin cfg0.N, win0_2.index t 0 = t.val / 4 ∧ win0_2.index t 1 = t.val % 4 :=
  (by decide +kernel : ∀ t : Fin grid0.N, win0_2.index t 0 = t.val / 4 ∧ win0_2.index t 1 = t.val % 4)

theorem index3 : ∀ t : Fin cfg0.N, win0_3.index t 0 = t.val / 4 ∧ win0_3.index t 1 = t.val % 4 :=
  (by decide +kernel : ∀ t : Fin grid0.N, win0_3.index t 0 = t.val / 4 ∧ win0_3.index t 1 = t.val % 4)

variable (m : (ℓ : Loc nD τ sig) → Buf (Elt Ideal) ℓ) (c : Dev nD)

/-- The two arguments, as matrices. -/
def X (i : Fin 9216) (j : Fin 1024) : EReal := (m ((c : Thread nD τ).loc main_arg0) : Vec Ideal S9216x1024 .bf16) (ix2 i j)
def Y (i : Fin 1024) (j : Fin 4096) : EReal := (m ((c : Thread nD τ).loc main_arg1) : Vec Ideal S1024x4096 .bf16) (ix2 i j)

theorem read_x (t : Fin cfg0.N) (r : Fin 1024) (k : Fin 1024) :
    (iblk m c 0 t : Vec Ideal S1024x1024 .bf16) (ix2 r k) = at2 (X m c) (1024 * (t.val / 4) + r.val) k.val := by
  have ht := lt_N t
  obtain ⟨e0, e1⟩ := index0 t
  rw [at2_eq _ (by omega) (by omega)]
  unfold iblk X
  rw [View.read_apply]
  show V m c main_arg0 _ = m (c.tc.loc main_arg0) _
  unfold V
  congr 1
  funext a
  apply Fin.ext
  match a with
  | ⟨0, _⟩ => show win0_0.index t 0 * 1024 + 1 * r.val = 1024 * (t.val / 4) + r.val; rw [e0]; omega
  | ⟨1, _⟩ => show win0_0.index t 1 * 1024 + 1 * k.val = k.val; rw [e1]; omega

theorem read_y (t : Fin cfg0.N) (k : Fin 1024) (s : Fin 1024) :
    (iblk m c 1 t : Vec Ideal S1024x1024 .bf16) (ix2 k s) = at2 (Y m c) k.val (1024 * (t.val % 4) + s.val) := by
  have ht := lt_N t
  obtain ⟨e0, e1⟩ := index1 t
  rw [at2_eq _ (by omega) (by omega)]
  unfold iblk Y
  rw [View.read_apply]
  show V m c main_arg1 _ = m (c.tc.loc main_arg1) _
  unfold V
  congr 1
  funext a
  apply Fin.ext
  match a with
  | ⟨0, _⟩ => show win0_1.index t 0 * 1024 + 1 * k.val = k.val; rw [e0]; omega
  | ⟨1, _⟩ => show win0_1.index t 1 * 1024 + 1 * s.val = 1024 * (t.val % 4) + s.val; rw [e1]; omega

/-- The whole product. -/
def result (y : S9216x4096.Idx) : EReal := ∑ q ∈ Finset.range 1024, at2 (X m c) (y 0).val q * at2 (Y m c) q (y 1).val

theorem result_at {y : S9216x4096.Idx} {i j : ℕ} (hi : (y 0).val = i) (hj : (y 1).val = j) :
    result m c y = ∑ q ∈ Finset.range 1024, at2 (X m c) i q * at2 (Y m c) q j := by
  subst hi hj; rfl

/-- What a point leaves is its block of the whole product. -/
theorem out_at (t : Fin cfg0.N) (r : Fin 1024) (s : Fin 1024) :
    (out0_2 (iblk m c 0 t) (iblk m c 1 t) (ix2 r s) : EReal) =
      ∑ q ∈ Finset.range 1024, at2 (X m c) (1024 * (t.val / 4) + r.val) q * at2 (Y m c) q (1024 * (t.val % 4) + s.val) := by
  rw [out_eq, pay1_apply, Finset.sum_range]
  exact Finset.sum_congr rfl fun k _ => by rw [read_x, read_y]

theorem final : (dats m 0 c).arrAt 2 cfg0.N = result m c := by
  refine (dats m 0 c).arrAt_eq_of_cover 2 (result m c) (fun t hf => ?_) fun y => ?_
  · have ht := lt_N t
    obtain ⟨e0, e1⟩ := index2 t
    rw [Value.flushed2]
    funext y
    rw [View.read_apply]
    have hy0 : (y 0).val < 1024 := (y 0).isLt
    have hy1 : (y 1).val < 1024 := (y 1).isLt
    have ey : (y : S1024x1024.Idx) = ix2 ⟨(y 0).val, hy0⟩ ⟨(y 1).val, hy1⟩ := funext fun a => by fin_cases a <;> rfl
    refine ((congrArg (out0_2 (iblk m c 0 t) (iblk m c 1 t)) ey).trans (out_at m c t ⟨(y 0).val, hy0⟩ ⟨(y 1).val, hy1⟩)).trans ?_
    have d0 : ((((cfg0.win 2).blk t).view.emb y : S9216x4096.Idx) 0).val = 1024 * (t.val / 4) + (y 0).val := by
      show win0_2.index t 0 * 1024 + 1 * (y 0).val = 1024 * (t.val / 4) + (y 0).val
      rw [e0]; omega
    have d1 : ((((cfg0.win 2).blk t).view.emb y : S9216x4096.Idx) 1).val = 1024 * (t.val % 4) + (y 1).val := by
      show win0_2.index t 1 * 1024 + 1 * (y 1).val = 1024 * (t.val % 4) + (y 1).val
      rw [e1]; omega
    exact (result_at m c d0 d1).symm.trans (cast_eq _ _).symm
  · have h0 : (y 0 : Nat) < 9216 := (y 0).isLt
    have h1 : (y 1 : Nat) < 4096 := (y 1).isLt
    have hN : cfg0.N = 36 := N_0
    let t : Fin cfg0.N := ⟨4 * ((y 0).val / 1024) + ((y 1).val / 1024), by omega⟩
    obtain ⟨e0, e1⟩ := index2 t
    have ht : t.val = 4 * ((y 0).val / 1024) + ((y 1).val / 1024) := rfl
    refine ⟨t, flush0_2 t, ?_⟩
    show y ∈ ((View.whole main_v0_0).slice (win0_2.rect t)).set
    rw [View.set_slice_whole, Rect.mem_set_unit]
    intro a
    match a with
    | ⟨0, _⟩ =>
      show win0_2.index t 0 * 1024 ≤ (y 0 : Nat) ∧ (y 0 : Nat) < win0_2.index t 0 * 1024 + 1024
      rw [e0]; omega
    | ⟨1, _⟩ =>
      show win0_2.index t 1 * 1024 ≤ (y 1 : Nat) ∧ (y 1 : Nat) < win0_2.index t 1 * 1024 + 1024
      rw [e1]; omega

/-- The square of the product's positive part. -/
def square (y : S9216x4096.Idx) : EReal := max (result m c y) 0 * max (result m c y) 0

theorem square_at {y : S9216x4096.Idx} {i j : ℕ} (hi : (y 0).val = i) (hj : (y 1).val = j) :
    square m c y = max (∑ q ∈ Finset.range 1024, at2 (X m c) i q * at2 (Y m c) q j) 0 * max (∑ q ∈ Finset.range 1024, at2 (X m c) i q * at2 (Y m c) q j) 0 := by
  unfold square
  rw [result_at m c hi hj]

theorem out_sq_at (t : Fin cfg0.N) (r : Fin 1024) (s : Fin 1024) :
    (out0_3 (iblk m c 0 t) (iblk m c 1 t) (ix2 r s) : EReal) =
      max (∑ q ∈ Finset.range 1024, at2 (X m c) (1024 * (t.val / 4) + r.val) q * at2 (Y m c) q (1024 * (t.val % 4) + s.val)) 0
        * max (∑ q ∈ Finset.range 1024, at2 (X m c) (1024 * (t.val / 4) + r.val) q * at2 (Y m c) q (1024 * (t.val % 4) + s.val)) 0 := by
  have e := out_at m c t r s
  rw [out_eq] at e
  rw [out_sq, pay2_apply, e]

theorem final_sq : (dats m 0 c).arrAt 3 cfg0.N = square m c := by
  refine (dats m 0 c).arrAt_eq_of_cover 3 (square m c) (fun t hf => ?_) fun y => ?_
  · have ht := lt_N t
    obtain ⟨e0, e1⟩ := index3 t
    rw [Value.flushed3]
    funext y
    rw [View.read_apply]
    have hy0 : (y 0).val < 1024 := (y 0).isLt
    have hy1 : (y 1).val < 1024 := (y 1).isLt
    have ey : (y : S1024x1024.Idx) = ix2 ⟨(y 0).val, hy0⟩ ⟨(y 1).val, hy1⟩ := funext fun a => by fin_cases a <;> rfl
    refine ((congrArg (out0_3 (iblk m c 0 t) (iblk m c 1 t)) ey).trans (out_sq_at m c t ⟨(y 0).val, hy0⟩ ⟨(y 1).val, hy1⟩)).trans ?_
    have d0 : ((((cfg0.win 3).blk t).view.emb y : S9216x4096.Idx) 0).val = 1024 * (t.val / 4) + (y 0).val := by
      show win0_3.index t 0 * 1024 + 1 * (y 0).val = 1024 * (t.val / 4) + (y 0).val
      rw [e0]; omega
    have d1 : ((((cfg0.win 3).blk t).view.emb y : S9216x4096.Idx) 1).val = 1024 * (t.val % 4) + (y 1).val := by
      show win0_3.index t 1 * 1024 + 1 * (y 1).val = 1024 * (t.val % 4) + (y 1).val
      rw [e1]; omega
    exact (square_at m c d0 d1).symm.trans (cast_eq _ _).symm
  · have h0 : (y 0 : Nat) < 9216 := (y 0).isLt
    have h1 : (y 1 : Nat) < 4096 := (y 1).isLt
    have hN : cfg0.N = 36 := N_0
    let t : Fin cfg0.N := ⟨4 * ((y 0).val / 1024) + ((y 1).val / 1024), by omega⟩
    obtain ⟨e0, e1⟩ := index3 t
    have ht : t.val = 4 * ((y 0).val / 1024) + ((y 1).val / 1024) := rfl
    refine ⟨t, flush0_3 t, ?_⟩
    show y ∈ ((View.whole main_v0_1).slice (win0_3.rect t)).set
    rw [View.set_slice_whole, Rect.mem_set_unit]
    intro a
    match a with
    | ⟨0, _⟩ =>
      show win0_3.index t 0 * 1024 ≤ (y 0 : Nat) ∧ (y 0 : Nat) < win0_3.index t 0 * 1024 + 1024
      rw [e0]; omega
    | ⟨1, _⟩ =>
      show win0_3.index t 1 * 1024 ≤ (y 1 : Nat) ∧ (y 1 : Nat) < win0_3.index t 1 * 1024 + 1024
      rw [e1]; omega

end Cert.Mlp1Ideal.Whole

namespace Cert.Mlp1RefIdeal.Whole

open Cert.Mlp1RefIdeal Cert.Mlp1RefIdeal.Gen
open Idealize.ShloMosaic Idealize.ShloMosaic.TcCoe Idealize.SL.Sem

/-- The reference leaves its arguments as they were, and every counter at zero. -/
theorem frame : Cert.quiescent_Mlp1RefIdeal := fun m g _ =>
  (θ_run _ _ _).mono (fun r h => ⟨fun c => (h c).2.2, sem_eq_zero_of_no_sems (by decide) r.2⟩) (Value.run (F := Ideal) m g)

end Cert.Mlp1RefIdeal.Whole

namespace Cert.Mlp1

open Idealize.ShloMosaic Idealize.ShloMosaic.TcCoe Idealize.SL.Sem

/-- The reference's product is the kernel's. -/
theorem value_eq (m : (ℓ : Loc Mlp1Ideal.nD Mlp1Ideal.τ Mlp1Ideal.sig) → Buf (Elt Ideal) ℓ) (c : Dev Mlp1Ideal.nD)
    (x0 : Vec Ideal Mlp1RefIdeal.S9216x1024 .bf16) (x1 : Vec Ideal Mlp1RefIdeal.S1024x4096 .bf16)
    (h0 : x0 = m (c.tc.loc Mlp1Ideal.main_arg0)) (h1 : x1 = m (c.tc.loc Mlp1Ideal.main_arg1)) (y : Mlp1RefIdeal.S9216x4096.Idx) :
    (Mlp1RefIdeal.Read.val_main_v2 (F := Ideal) x0 x1 y : EReal) = Mlp1Ideal.Whole.result m c y := by
  refine (Mlp1RefIdeal.Read.val_main_v2_apply _ _ y).trans ?_
  refine Eq.trans ?_ (Product.rowsColumns (Mlp1Ideal.Whole.X m c) (Mlp1Ideal.Whole.Y m c) (y 0) (y 1)).symm
  refine Finset.sum_congr rfl fun k _ => congrArg₂ (· * ·) ?_ ?_
  · exact (congrFun h0 _).trans (congrArg (m (c.tc.loc Mlp1Ideal.main_arg0)) (funext fun a => by
      match a with
      | ⟨0, _⟩ => rfl
      | ⟨1, _⟩ => rfl))
  · exact (congrFun h1 _).trans (congrArg (m (c.tc.loc Mlp1Ideal.main_arg1)) (funext fun a => by
      match a with
      | ⟨0, _⟩ => rfl
      | ⟨1, _⟩ => rfl))

/-- The kernel's two results are the reference's. -/
theorem algebraic : Cert.algebraic_Mlp1Ideal_Mlp1RefIdeal := fun m g m' g' _ hargs =>
  ⟨fun c => Mlp1Ideal.Whole.result m c, fun c => Mlp1Ideal.Whole.square m c,
    (θ_run _ _ _).mono (fun r h c => ⟨(h c).1.trans (Mlp1Ideal.Whole.final m c), (h c).2.1.trans (Mlp1Ideal.Whole.final_sq m c), (h c).2.2⟩)
      (Mlp1Ideal.Value.run_blocks (F := Ideal) m g),
    (θ_run _ _ _).mono (fun r h c => ⟨(h c).1.trans (funext fun y => value_eq m c _ _ (hargs c).1 (hargs c).2 y),
      (h c).2.1.trans (by
        funext y
        refine (Mlp1RefIdeal.Read.val_main_v5_apply _ _ y).trans ?_
        rw [Mlp1RefIdeal.Read.val_main_v4_apply, Mlp1RefIdeal.Read.val_main_v3_apply, Mlp1RefIdeal.Read.val_main_call0_v0_apply,
          Mlp1RefIdeal.Read.val_main_call0_cst_apply]
        simp only [pointwise]
        exact congrArg (fun a : EReal => max a 0 * max a 0) (value_eq m c _ _ (hargs c).1 (hargs c).2 y)),
      (h c).2.2⟩) (Cert.Mlp1RefIdeal.Value.run (F := Ideal) m' g')⟩

end Cert.Mlp1

end
-- ==== Proof.Mlp2.lean ====
/- The MLP's second product: the blocked product is the whole product. -/
module

public import proofs.«01_k».proof.Defs
public import proofs.«01_k».proof.Proof.Product
public import proofs.«01_k».proof.Proof.Gen.Mlp2Ideal.Value
public import proofs.«01_k».proof.Proof.Gen.Mlp2RefIdeal.Read
public import Idealize.ShloMosaic.Lib.Pointwise

@[expose] public section

noncomputable section

open scoped BigOperators

namespace Cert.Mlp2Ideal.Whole

open Cert.Mlp2Ideal Cert.Mlp2Ideal.Gen Cert.Product
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- A point that starts a block of the result leaves the product of its two blocks. -/
theorem out_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (hc0 : cond0_0 i) (hc1 : ¬cond0_1 i) (x0 : Vec Ideal S1024x1024 .bf16) (x1 : Vec Ideal S1024x1024 .bf16) :
    out0_A_2 c i a3 h3 a4 h4 a5 h5 hc0 hc1 x0 x1 = k0_pay1 x0 x1 := by
  unfold out0_A_2
  rw [View.read_writes_eq_canon _ _ _ (cover0_A_2 c i a3 h3 a4 h4 a5 h5 hc0 hc1 x0 x1)]
  unfold kernelRun0_A
  dsimp only
  rw [View.canon_unit_zero hz]
  simp only [View.readAt_eq_ld, h3.read_unread, h4.read_unread, View.ld_unit_zero (S := S1024x1024) hz]

/-- Each further point adds the product of its two blocks. -/
theorem out_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (hc0 : ¬cond0_0 i) (hc1 : cond0_1 i) (x0 : Vec Ideal S1024x1024 .bf16) (x1 : Vec Ideal S1024x1024 .bf16) (xo : Vec Ideal S1024x1024 .f32) :
    out0_B_2 c i a3 h3 a4 h4 a5 h5 hc0 hc1 x0 x1 xo = k0_pay2 x0 x1 xo := by
  unfold out0_B_2
  rw [View.read_writes_eq_canon _ _ _ (cover0_B_2 c i a3 h3 a4 h4 a5 h5 hc0 hc1 x0 x1 xo)]
  unfold kernelRun0_B
  dsimp only
  rw [View.canon_unit_zero hz]
  simp only [View.readAt_eq_ld, h3.read_unread, h4.read_unread, h5.read_unread, View.ld_unit_zero (S := S1024x1024) hz]

/-- An entry of the product of two blocks. -/
theorem pay1_apply (x0 : Vec Ideal S1024x1024 .bf16) (x1 : Vec Ideal S1024x1024 .bf16) (r : Fin 1024) (s : Fin 1024) :
    (k0_pay1 x0 x1 (ix2 r s) : EReal) = ∑ k : Fin 1024, (x0 (ix2 r k) : EReal) * x1 (ix2 k s) := by
  unfold k0_pay1
  simp only [pointwise, zero_add]

/-- The product of two blocks, added to what was there. -/
theorem pay2_apply (x0 : Vec Ideal S1024x1024 .bf16) (x1 : Vec Ideal S1024x1024 .bf16) (xo : Vec Ideal S1024x1024 .f32) (r : Fin 1024) (s : Fin 1024) :
    k0_pay2 x0 x1 xo (ix2 r s) = xo (ix2 r s) + ∑ k : Fin 1024, (x0 (ix2 r k) : EReal) * x1 (ix2 k s) := by
  unfold k0_pay2
  simp only [pointwise, shapeCast_self]
  exact congrArg (xo (ix2 r s) + ·) (pay1_apply x0 x1 r s)

/-! ## The windows' blocks -/

theorem lt_N (t : Fin cfg0.N) : t.val < 36 := lt_of_lt_of_eq t.isLt N_0

theorem index0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)

theorem index1 : ∀ t : Fin cfg0.N, win0_1.index t 0 = t.val % 4 ∧ win0_1.index t 1 = 0 :=
  (by decide +kernel : ∀ t : Fin grid0.N, win0_1.index t 0 = t.val % 4 ∧ win0_1.index t 1 = 0)

theorem index2 : ∀ t : Fin cfg0.N, win0_2.index t 0 = t.val / 4 ∧ win0_2.index t 1 = 0 :=
  (by decide +kernel : ∀ t : Fin grid0.N, win0_2.index t 0 = t.val / 4 ∧ win0_2.index t 1 = 0)

variable (m : (ℓ : Loc nD τ sig) → Buf (Elt Ideal) ℓ) (c : Dev nD)

/-- The two arguments, as matrices. -/
def X (i : Fin 9216) (j : Fin 4096) : EReal := (m ((c : Thread nD τ).loc main_arg0) : Vec Ideal S9216x4096 .bf16) (ix2 i j)
def Y (i : Fin 4096) (j : Fin 1024) : EReal := (m ((c : Thread nD τ).loc main_arg1) : Vec Ideal S4096x1024 .bf16) (ix2 i j)

theorem read_x (t : Fin cfg0.N) (r : Fin 1024) (k : Fin 1024) :
    (iblk m c 0 t : Vec Ideal S1024x1024 .bf16) (ix2 r k) = at2 (X m c) (1024 * (t.val / 4) + r.val) (1024 * (t.val % 4) + k.val) := by
  have ht := lt_N t
  obtain ⟨e0, e1⟩ := index0 t
  rw [at2_eq _ (by omega) (by omega)]
  unfold iblk X
  rw [View.read_apply]
  show V m c main_arg0 _ = m (c.tc.loc main_arg0) _
  unfold V
  congr 1
  funext a
  apply Fin.ext
  match a with
  | ⟨0, _⟩ => show win0_0.index t 0 * 1024 + 1 * r.val = 1024 * (t.val / 4) + r.val; rw [e0]; omega
  | ⟨1, _⟩ => show win0_0.index t 1 * 1024 + 1 * k.val = 1024 * (t.val % 4) + k.val; rw [e1]; omega

theorem read_y (t : Fin cfg0.N) (k : Fin 1024) (s : Fin 1024) :
    (iblk m c 1 t : Vec Ideal S1024x1024 .bf16) (ix2 k s) = at2 (Y m c) (1024 * (t.val % 4) + k.val) s.val := by
  have ht := lt_N t
  obtain ⟨e0, e1⟩ := index1 t
  rw [at2_eq _ (by omega) (by omega)]
  unfold iblk Y
  rw [View.read_apply]
  show V m c main_arg1 _ = m (c.tc.loc main_arg1) _
  unfold V
  congr 1
  funext a
  apply Fin.ext
  match a with
  | ⟨0, _⟩ => show win0_1.index t 0 * 1024 + 1 * k.val = 1024 * (t.val % 4) + k.val; rw [e0]; omega
  | ⟨1, _⟩ => show win0_1.index t 1 * 1024 + 1 * s.val = s.val; rw [e1]; omega

/-- The terms of an entry of the block that point `n` works on. -/
def term (n : ℕ) (y : Fin 1024 × Fin 1024) (q : ℕ) : EReal := at2 (X m c) (1024 * (n / 4) + y.1.val) q * at2 (Y m c) q y.2.val

/-- What a point leaves: the terms of all points of its block so far. -/
theorem outs (n : ℕ) (h : n < cfg0.N) (y : Fin 1024 × Fin 1024) :
    outsAt0 m c n h (ix2 y.1 y.2) = ∑ q ∈ Finset.range (1024 * (n % 4 + 1)), term m c n y q := by
  refine accumulate (nk := 4) 1024 (by decide) (fun n h y => outsAt0 m c n h (ix2 y.1 y.2)) (term m c) ?_ ?_ ?_ n h y
  · intro n e
    unfold term
    rw [show (n + 1) / 4 = n / 4 by omega]
  · intro n h y e
    have eA := outsAt0_A m c ⟨n, h⟩ e (by dsimp only; omega)
    change outsAt0 m c n h = _ at eA
    rw [eA, out_A, pay1_apply]
    refine Finset.sum_congr rfl fun k _ => ?_
    rw [read_x, read_y, e, Nat.mul_zero, Nat.zero_add]
    rfl
  · intro n h y e
    have eB := outsAt0_B m c ⟨n + 1, h⟩ e (by dsimp only; omega)
    change outsAt0 m c (n + 1) h = _ at eB
    rw [eB, out_B, pay2_apply]
    refine congrArg₂ (· + ·) rfl (Finset.sum_congr rfl fun k _ => ?_)
    rw [read_x, read_y]
    rfl

/-- The whole product. -/
def result (y : S9216x1024.Idx) : EReal := ∑ q ∈ Finset.range 4096, at2 (X m c) (y 0).val q * at2 (Y m c) q (y 1).val

theorem result_at {y : S9216x1024.Idx} {i j : ℕ} (hi : (y 0).val = i) (hj : (y 1).val = j) :
    result m c y = ∑ q ∈ Finset.range 4096, at2 (X m c) i q * at2 (Y m c) q j := by
  subst hi hj; rfl

theorem final : (dats m 0 c).arrAt 2 cfg0.N = result m c := by
  refine (dats m 0 c).arrAt_eq_of_cover 2 (result m c) (fun t hf => ?_) fun y => ?_
  · have ht := lt_N t
    have h9 := (flush0_2 t).mp hf
    obtain ⟨e0, e1⟩ := index2 t
    rw [Value.flushed2]
    funext y
    rw [View.read_apply]
    have hy0 : (y 0).val < 1024 := (y 0).isLt
    have hy1 : (y 1).val < 1024 := (y 1).isLt
    have ey : (y : S1024x1024.Idx) = ix2 ⟨(y 0).val, hy0⟩ ⟨(y 1).val, hy1⟩ := funext fun a => by fin_cases a <;> rfl
    refine ((congrArg (outsAt0 m c t.val t.isLt) ey).trans (outs m c t.val t.isLt (⟨(y 0).val, hy0⟩, ⟨(y 1).val, hy1⟩))).trans ?_
    rw [h9, show (1024 * (3 + 1) : ℕ) = 4096 by norm_num]
    have d0 : ((((cfg0.win 2).blk t).view.emb y : S9216x1024.Idx) 0).val = 1024 * (t.val / 4) + (y 0).val := by
      show win0_2.index t 0 * 1024 + 1 * (y 0).val = 1024 * (t.val / 4) + (y 0).val
      rw [e0]; omega
    have d1 : ((((cfg0.win 2).blk t).view.emb y : S9216x1024.Idx) 1).val = (y 1).val := by
      show win0_2.index t 1 * 1024 + 1 * (y 1).val = (y 1).val
      rw [e1]; omega
    exact (result_at m c d0 d1).symm.trans (cast_eq _ _).symm
  · have h0 : (y 0 : Nat) < 9216 := (y 0).isLt
    have h1 : (y 1 : Nat) < 1024 := (y 1).isLt
    have hN : cfg0.N = 36 := N_0
    let t : Fin cfg0.N := ⟨4 * ((y 0).val / 1024) + 3, by omega⟩
    obtain ⟨e0, e1⟩ := index2 t
    have ht : t.val = 4 * ((y 0).val / 1024) + 3 := rfl
    refine ⟨t, (flush0_2 t).mpr (by omega), ?_⟩
    show y ∈ ((View.whole main_v0).slice (win0_2.rect t)).set
    rw [View.set_slice_whole, Rect.mem_set_unit]
    intro a
    match a with
    | ⟨0, _⟩ =>
      show win0_2.index t 0 * 1024 ≤ (y 0 : Nat) ∧ (y 0 : Nat) < win0_2.index t 0 * 1024 + 1024
      rw [e0]; omega
    | ⟨1, _⟩ =>
      show win0_2.index t 1 * 1024 ≤ (y 1 : Nat) ∧ (y 1 : Nat) < win0_2.index t 1 * 1024 + 1024
      rw [e1]; omega

end Cert.Mlp2Ideal.Whole

namespace Cert.Mlp2RefIdeal.Whole

open Cert.Mlp2RefIdeal Cert.Mlp2RefIdeal.Gen
open Idealize.ShloMosaic Idealize.ShloMosaic.TcCoe Idealize.SL.Sem

/-- The reference leaves its arguments as they were, and every counter at zero. -/
theorem frame : Cert.quiescent_Mlp2RefIdeal := fun m g _ =>
  (θ_run _ _ _).mono (fun r h => ⟨fun c => (h c).2, sem_eq_zero_of_no_sems (by decide) r.2⟩) (Value.run (F := Ideal) m g)

end Cert.Mlp2RefIdeal.Whole

namespace Cert.Mlp2

open Idealize.ShloMosaic Idealize.ShloMosaic.TcCoe Idealize.SL.Sem

/-- The kernel's result is the reference's. -/
theorem algebraic : Cert.algebraic_Mlp2Ideal_Mlp2RefIdeal := fun m g m' g' _ hargs =>
  ⟨fun c => Mlp2Ideal.Whole.result m c,
    (θ_run _ _ _).mono (fun r h c => ⟨(h c).1.trans (Mlp2Ideal.Whole.final m c), (h c).2⟩) (Mlp2Ideal.Value.run_blocks (F := Ideal) m g),
    (θ_run _ _ _).mono (fun r h c => ⟨(h c).1.trans (by
      funext y
      refine (Cert.Mlp2RefIdeal.Read.val_main_v2_apply _ _ y).trans ?_
      refine Eq.trans ?_ (Product.rowsColumns (Mlp2Ideal.Whole.X m c) (Mlp2Ideal.Whole.Y m c) (y 0) (y 1)).symm
      refine Finset.sum_congr rfl fun k _ => congrArg₂ (· * ·) ?_ ?_
      · exact (congrFun (hargs c).1 _).trans (congrArg (m (c.tc.loc Mlp2Ideal.main_arg0)) (funext fun a => by
          match a with
          | ⟨0, _⟩ => rfl
          | ⟨1, _⟩ => rfl))
      · exact (congrFun (hargs c).2 _).trans (congrArg (m (c.tc.loc Mlp2Ideal.main_arg1)) (funext fun a => by
          match a with
          | ⟨0, _⟩ => rfl
          | ⟨1, _⟩ => rfl))), (h c).2⟩) (Cert.Mlp2RefIdeal.Value.run (F := Ideal) m' g')⟩

end Cert.Mlp2

end
-- ==== Proof.Wout.lean ====
/- The output product: the blocked product is the whole product. -/
module

public import proofs.«01_k».proof.Defs
public import proofs.«01_k».proof.Proof.Product
public import proofs.«01_k».proof.Proof.Gen.WoutIdeal.Value
public import proofs.«01_k».proof.Proof.Gen.WoutRefIdeal.Read
public import Idealize.ShloMosaic.Lib.Pointwise

@[expose] public section

noncomputable section

open scoped BigOperators

namespace Cert.WoutIdeal.Whole

open Cert.WoutIdeal Cert.WoutIdeal.Gen Cert.Product
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- What a point leaves. -/
theorem out_eq (x0 : Vec Ideal S1024x1024 .bf16) (x1 : Vec Ideal S1024x1024 .bf16) : out0_2 x0 x1 = k0_pay1 x0 x1 := by
  unfold out0_2
  rw [View.canon_unit_zero hz]
  simp only [View.ld_unit_zero (S := S1024x1024) hz]

/-- An entry of the product of two blocks. -/
theorem pay1_apply (x0 : Vec Ideal S1024x1024 .bf16) (x1 : Vec Ideal S1024x1024 .bf16) (r : Fin 1024) (s : Fin 1024) :
    (k0_pay1 x0 x1 (ix2 r s) : EReal) = ∑ k : Fin 1024, (x0 (ix2 r k) : EReal) * x1 (ix2 k s) := by
  unfold k0_pay1
  simp only [pointwise, zero_add]

/-! ## The windows' blocks -/

theorem lt_N (t : Fin cfg0.N) : t.val < 9 := lt_of_lt_of_eq t.isLt N_0

theorem index0 : ∀ t : Fin cfg0.N, win0_0.index t 0 = t.val ∧ win0_0.index t 1 = 0 :=
  (by decide +kernel : ∀ t : Fin grid0.N, win0_0.index t 0 = t.val ∧ win0_0.index t 1 = 0)

theorem index1 : ∀ t : Fin cfg0.N, win0_1.index t 0 = 0 ∧ win0_1.index t 1 = 0 :=
  (by decide +kernel : ∀ t : Fin grid0.N, win0_1.index t 0 = 0 ∧ win0_1.index t 1 = 0)

theorem index2 : ∀ t : Fin cfg0.N, win0_2.index t 0 = t.val ∧ win0_2.index t 1 = 0 :=
  (by decide +kernel : ∀ t : Fin grid0.N, win0_2.index t 0 = t.val ∧ win0_2.index t 1 = 0)

variable (m : (ℓ : Loc nD τ sig) → Buf (Elt Ideal) ℓ) (c : Dev nD)

/-- The two arguments, as matrices. -/
def X (i : Fin 9216) (j : Fin 1024) : EReal := (m ((c : Thread nD τ).loc main_arg0) : Vec Ideal S9216x1024 .bf16) (ix2 i j)
def Y (i : Fin 1024) (j : Fin 1024) : EReal := (m ((c : Thread nD τ).loc main_arg1) : Vec Ideal S1024x1024 .bf16) (ix2 i j)

theorem read_x (t : Fin cfg0.N) (r : Fin 1024) (k : Fin 1024) :
    (iblk m c 0 t : Vec Ideal S1024x1024 .bf16) (ix2 r k) = at2 (X m c) (1024 * t.val + r.val) k.val := by
  have ht := lt_N t
  obtain ⟨e0, e1⟩ := index0 t
  rw [at2_eq _ (by omega) (by omega)]
  unfold iblk X
  rw [View.read_apply]
  show V m c main_arg0 _ = m (c.tc.loc main_arg0) _
  unfold V
  congr 1
  funext a
  apply Fin.ext
  match a with
  | ⟨0, _⟩ => show win0_0.index t 0 * 1024 + 1 * r.val = 1024 * t.val + r.val; rw [e0]; omega
  | ⟨1, _⟩ => show win0_0.index t 1 * 1024 + 1 * k.val = k.val; rw [e1]; omega

theorem read_y (t : Fin cfg0.N) (k : Fin 1024) (s : Fin 1024) :
    (iblk m c 1 t : Vec Ideal S1024x1024 .bf16) (ix2 k s) = at2 (Y m c) k.val s.val := by
  have ht := lt_N t
  obtain ⟨e0, e1⟩ := index1 t
  rw [at2_eq _ (by omega) (by omega)]
  unfold iblk Y
  rw [View.read_apply]
  show V m c main_arg1 _ = m (c.tc.loc main_arg1) _
  unfold V
  congr 1
  funext a
  apply Fin.ext
  match a with
  | ⟨0, _⟩ => show win0_1.index t 0 * 1024 + 1 * k.val = k.val; rw [e0]; omega
  | ⟨1, _⟩ => show win0_1.index t 1 * 1024 + 1 * s.val = s.val; rw [e1]; omega

/-- The whole product. -/
def result (y : S9216x1024.Idx) : EReal := ∑ q ∈ Finset.range 1024, at2 (X m c) (y 0).val q * at2 (Y m c) q (y 1).val

theorem result_at {y : S9216x1024.Idx} {i j : ℕ} (hi : (y 0).val = i) (hj : (y 1).val = j) :
    result m c y = ∑ q ∈ Finset.range 1024, at2 (X m c) i q * at2 (Y m c) q j := by
  subst hi hj; rfl

/-- What a point leaves is its block of the whole product. -/
theorem out_at (t : Fin cfg0.N) (r : Fin 1024) (s : Fin 1024) :
    (out0_2 (iblk m c 0 t) (iblk m c 1 t) (ix2 r s) : EReal) =
      ∑ q ∈ Finset.range 1024, at2 (X m c) (1024 * t.val + r.val) q * at2 (Y m c) q s.val := by
  rw [out_eq, pay1_apply, Finset.sum_range]
  exact Finset.sum_congr rfl fun k _ => by rw [read_x, read_y]

theorem final : (dats m 0 c).arrAt 2 cfg0.N = result m c := by
  refine (dats m 0 c).arrAt_eq_of_cover 2 (result m c) (fun t hf => ?_) fun y => ?_
  · have ht := lt_N t
    obtain ⟨e0, e1⟩ := index2 t
    rw [Value.flushed2]
    funext y
    rw [View.read_apply]
    have hy0 : (y 0).val < 1024 := (y 0).isLt
    have hy1 : (y 1).val < 1024 := (y 1).isLt
    have ey : (y : S1024x1024.Idx) = ix2 ⟨(y 0).val, hy0⟩ ⟨(y 1).val, hy1⟩ := funext fun a => by fin_cases a <;> rfl
    refine ((congrArg (out0_2 (iblk m c 0 t) (iblk m c 1 t)) ey).trans (out_at m c t ⟨(y 0).val, hy0⟩ ⟨(y 1).val, hy1⟩)).trans ?_
    have d0 : ((((cfg0.win 2).blk t).view.emb y : S9216x1024.Idx) 0).val = 1024 * t.val + (y 0).val := by
      show win0_2.index t 0 * 1024 + 1 * (y 0).val = 1024 * t.val + (y 0).val
      rw [e0]; omega
    have d1 : ((((cfg0.win 2).blk t).view.emb y : S9216x1024.Idx) 1).val = (y 1).val := by
      show win0_2.index t 1 * 1024 + 1 * (y 1).val = (y 1).val
      rw [e1]; omega
    exact (result_at m c d0 d1).symm.trans (cast_eq _ _).symm
  · have h0 : (y 0 : Nat) < 9216 := (y 0).isLt
    have h1 : (y 1 : Nat) < 1024 := (y 1).isLt
    have hN : cfg0.N = 9 := N_0
    let t : Fin cfg0.N := ⟨((y 0).val / 1024), by omega⟩
    obtain ⟨e0, e1⟩ := index2 t
    have ht : t.val = ((y 0).val / 1024) := rfl
    refine ⟨t, flush0_2 t, ?_⟩
    show y ∈ ((View.whole main_v0).slice (win0_2.rect t)).set
    rw [View.set_slice_whole, Rect.mem_set_unit]
    intro a
    match a with
    | ⟨0, _⟩ =>
      show win0_2.index t 0 * 1024 ≤ (y 0 : Nat) ∧ (y 0 : Nat) < win0_2.index t 0 * 1024 + 1024
      rw [e0]; omega
    | ⟨1, _⟩ =>
      show win0_2.index t 1 * 1024 ≤ (y 1 : Nat) ∧ (y 1 : Nat) < win0_2.index t 1 * 1024 + 1024
      rw [e1]; omega

end Cert.WoutIdeal.Whole

namespace Cert.WoutRefIdeal.Whole

open Cert.WoutRefIdeal Cert.WoutRefIdeal.Gen
open Idealize.ShloMosaic Idealize.ShloMosaic.TcCoe Idealize.SL.Sem

/-- The reference leaves its arguments as they were, and every counter at zero. -/
theorem frame : Cert.quiescent_WoutRefIdeal := fun m g _ =>
  (θ_run _ _ _).mono (fun r h => ⟨fun c => (h c).2, sem_eq_zero_of_no_sems (by decide) r.2⟩) (Value.run (F := Ideal) m g)

end Cert.WoutRefIdeal.Whole

namespace Cert.Wout

open Idealize.ShloMosaic Idealize.ShloMosaic.TcCoe Idealize.SL.Sem

/-- The kernel's result is the reference's. -/
theorem algebraic : Cert.algebraic_WoutIdeal_WoutRefIdeal := fun m g m' g' _ hargs =>
  ⟨fun c => WoutIdeal.Whole.result m c,
    (θ_run _ _ _).mono (fun r h c => ⟨(h c).1.trans (WoutIdeal.Whole.final m c), (h c).2⟩) (WoutIdeal.Value.run_blocks (F := Ideal) m g),
    (θ_run _ _ _).mono (fun r h c => ⟨(h c).1.trans (by
      funext y
      refine (Cert.WoutRefIdeal.Read.val_main_v2_apply _ _ y).trans ?_
      refine Eq.trans ?_ (Product.rowsColumns (WoutIdeal.Whole.X m c) (WoutIdeal.Whole.Y m c) (y 0) (y 1)).symm
      refine Finset.sum_congr rfl fun k _ => congrArg₂ (· * ·) ?_ ?_
      · exact (congrFun (hargs c).1 _).trans (congrArg (m (c.tc.loc WoutIdeal.main_arg0)) (funext fun a => by
          match a with
          | ⟨0, _⟩ => rfl
          | ⟨1, _⟩ => rfl))
      · exact (congrFun (hargs c).2 _).trans (congrArg (m (c.tc.loc WoutIdeal.main_arg1)) (funext fun a => by
          match a with
          | ⟨0, _⟩ => rfl
          | ⟨1, _⟩ => rfl))), (h c).2⟩) (Cert.WoutRefIdeal.Value.run (F := Ideal) m' g')⟩

end Cert.Wout

end
-- ==== Proof.Branch.lean ====
/- A branch's product: the blocked product is the whole product. -/
module

public import proofs.«01_k».proof.Defs
public import proofs.«01_k».proof.Proof.Product
public import proofs.«01_k».proof.Proof.Gen.BranchIdeal.Value
public import proofs.«01_k».proof.Proof.Gen.BranchRefIdeal.Read
public import Idealize.ShloMosaic.Lib.Pointwise

@[expose] public section

noncomputable section

open scoped BigOperators

namespace Cert.BranchIdeal.Whole

open Cert.BranchIdeal Cert.BranchIdeal.Gen Cert.Product
open Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- What a point leaves. -/
theorem out_eq (x0 : Vec Ideal S1024x512 .bf16) (x1 : Vec Ideal S512x1024 .bf16) : out0_2 x0 x1 = k0_pay1 x0 x1 := by
  unfold out0_2
  rw [View.canon_unit_zero hz]
  simp only [View.ld_unit_zero (S := S1024x512) hz, View.ld_unit_zero (S := S512x1024) hz]

/-- An entry of the product of two blocks. -/
theorem pay1_apply (x0 : Vec Ideal S1024x512 .bf16) (x1 : Vec Ideal S512x1024 .bf16) (r : Fin 1024) (s : Fin 1024) :
    (k0_pay1 x0 x1 (ix2 r s) : EReal) = ∑ k : Fin 512, (x0 (ix2 r k) : EReal) * x1 (ix2 k s) := by
  unfold k0_pay1
  simp only [pointwise, zero_add]

/-! ## The windows' blocks -/

theorem lt_N (t : Fin cfg0.N) : t.val < 9 := lt_of_lt_of_eq t.isLt N_0

theorem index0 : ∀ t : Fin cfg0.N, win0_0.index t 0 = t.val ∧ win0_0.index t 1 = 0 :=
  (by decide +kernel : ∀ t : Fin grid0.N, win0_0.index t 0 = t.val ∧ win0_0.index t 1 = 0)

theorem index1 : ∀ t : Fin cfg0.N, win0_1.index t 0 = 0 ∧ win0_1.index t 1 = 0 :=
  (by decide +kernel : ∀ t : Fin grid0.N, win0_1.index t 0 = 0 ∧ win0_1.index t 1 = 0)

theorem index2 : ∀ t : Fin cfg0.N, win0_2.index t 0 = t.val ∧ win0_2.index t 1 = 0 :=
  (by decide +kernel : ∀ t : Fin grid0.N, win0_2.index t 0 = t.val ∧ win0_2.index t 1 = 0)

variable (m : (ℓ : Loc nD τ sig) → Buf (Elt Ideal) ℓ) (c : Dev nD)

/-- The two arguments, as matrices. -/
def X (i : Fin 9216) (j : Fin 512) : EReal := (m ((c : Thread nD τ).loc main_arg0) : Vec Ideal S9216x512 .bf16) (ix2 i j)
def Y (i : Fin 512) (j : Fin 1024) : EReal := (m ((c : Thread nD τ).loc main_arg1) : Vec Ideal S512x1024 .bf16) (ix2 i j)

theorem read_x (t : Fin cfg0.N) (r : Fin 1024) (k : Fin 512) :
    (iblk m c 0 t : Vec Ideal S1024x512 .bf16) (ix2 r k) = at2 (X m c) (1024 * t.val + r.val) k.val := by
  have ht := lt_N t
  obtain ⟨e0, e1⟩ := index0 t
  rw [at2_eq _ (by omega) (by omega)]
  unfold iblk X
  rw [View.read_apply]
  show V m c main_arg0 _ = m (c.tc.loc main_arg0) _
  unfold V
  congr 1
  funext a
  apply Fin.ext
  match a with
  | ⟨0, _⟩ => show win0_0.index t 0 * 1024 + 1 * r.val = 1024 * t.val + r.val; rw [e0]; omega
  | ⟨1, _⟩ => show win0_0.index t 1 * 512 + 1 * k.val = k.val; rw [e1]; omega

theorem read_y (t : Fin cfg0.N) (k : Fin 512) (s : Fin 1024) :
    (iblk m c 1 t : Vec Ideal S512x1024 .bf16) (ix2 k s) = at2 (Y m c) k.val s.val := by
  have ht := lt_N t
  obtain ⟨e0, e1⟩ := index1 t
  rw [at2_eq _ (by omega) (by omega)]
  unfold iblk Y
  rw [View.read_apply]
  show V m c main_arg1 _ = m (c.tc.loc main_arg1) _
  unfold V
  congr 1
  funext a
  apply Fin.ext
  match a with
  | ⟨0, _⟩ => show win0_1.index t 0 * 512 + 1 * k.val = k.val; rw [e0]; omega
  | ⟨1, _⟩ => show win0_1.index t 1 * 1024 + 1 * s.val = s.val; rw [e1]; omega

/-- The whole product. -/
def result (y : S9216x1024.Idx) : EReal := ∑ q ∈ Finset.range 512, at2 (X m c) (y 0).val q * at2 (Y m c) q (y 1).val

theorem result_at {y : S9216x1024.Idx} {i j : ℕ} (hi : (y 0).val = i) (hj : (y 1).val = j) :
    result m c y = ∑ q ∈ Finset.range 512, at2 (X m c) i q * at2 (Y m c) q j := by
  subst hi hj; rfl

/-- What a point leaves is its block of the whole product. -/
theorem out_at (t : Fin cfg0.N) (r : Fin 1024) (s : Fin 1024) :
    (out0_2 (iblk m c 0 t) (iblk m c 1 t) (ix2 r s) : EReal) =
      ∑ q ∈ Finset.range 512, at2 (X m c) (1024 * t.val + r.val) q * at2 (Y m c) q s.val := by
  rw [out_eq, pay1_apply, Finset.sum_range]
  exact Finset.sum_congr rfl fun k _ => by rw [read_x, read_y]

theorem final : (dats m 0 c).arrAt 2 cfg0.N = result m c := by
  refine (dats m 0 c).arrAt_eq_of_cover 2 (result m c) (fun t hf => ?_) fun y => ?_
  · have ht := lt_N t
    obtain ⟨e0, e1⟩ := index2 t
    rw [Value.flushed2]
    funext y
    rw [View.read_apply]
    have hy0 : (y 0).val < 1024 := (y 0).isLt
    have hy1 : (y 1).val < 1024 := (y 1).isLt
    have ey : (y : S1024x1024.Idx) = ix2 ⟨(y 0).val, hy0⟩ ⟨(y 1).val, hy1⟩ := funext fun a => by fin_cases a <;> rfl
    refine ((congrArg (out0_2 (iblk m c 0 t) (iblk m c 1 t)) ey).trans (out_at m c t ⟨(y 0).val, hy0⟩ ⟨(y 1).val, hy1⟩)).trans ?_
    have d0 : ((((cfg0.win 2).blk t).view.emb y : S9216x1024.Idx) 0).val = 1024 * t.val + (y 0).val := by
      show win0_2.index t 0 * 1024 + 1 * (y 0).val = 1024 * t.val + (y 0).val
      rw [e0]; omega
    have d1 : ((((cfg0.win 2).blk t).view.emb y : S9216x1024.Idx) 1).val = (y 1).val := by
      show win0_2.index t 1 * 1024 + 1 * (y 1).val = (y 1).val
      rw [e1]; omega
    exact (result_at m c d0 d1).symm.trans (cast_eq _ _).symm
  · have h0 : (y 0 : Nat) < 9216 := (y 0).isLt
    have h1 : (y 1 : Nat) < 1024 := (y 1).isLt
    have hN : cfg0.N = 9 := N_0
    let t : Fin cfg0.N := ⟨((y 0).val / 1024), by omega⟩
    obtain ⟨e0, e1⟩ := index2 t
    have ht : t.val = ((y 0).val / 1024) := rfl
    refine ⟨t, flush0_2 t, ?_⟩
    show y ∈ ((View.whole main_v0).slice (win0_2.rect t)).set
    rw [View.set_slice_whole, Rect.mem_set_unit]
    intro a
    match a with
    | ⟨0, _⟩ =>
      show win0_2.index t 0 * 1024 ≤ (y 0 : Nat) ∧ (y 0 : Nat) < win0_2.index t 0 * 1024 + 1024
      rw [e0]; omega
    | ⟨1, _⟩ =>
      show win0_2.index t 1 * 1024 ≤ (y 1 : Nat) ∧ (y 1 : Nat) < win0_2.index t 1 * 1024 + 1024
      rw [e1]; omega

end Cert.BranchIdeal.Whole

namespace Cert.BranchRefIdeal.Whole

open Cert.BranchRefIdeal Cert.BranchRefIdeal.Gen
open Idealize.ShloMosaic Idealize.ShloMosaic.TcCoe Idealize.SL.Sem

/-- The reference leaves its arguments as they were, and every counter at zero. -/
theorem frame : Cert.quiescent_BranchRefIdeal := fun m g _ =>
  (θ_run _ _ _).mono (fun r h => ⟨fun c => (h c).2, sem_eq_zero_of_no_sems (by decide) r.2⟩) (Value.run (F := Ideal) m g)

end Cert.BranchRefIdeal.Whole

namespace Cert.Branch

open Idealize.ShloMosaic Idealize.ShloMosaic.TcCoe Idealize.SL.Sem

/-- The kernel's result is the reference's. -/
theorem algebraic : Cert.algebraic_BranchIdeal_BranchRefIdeal := fun m g m' g' _ hargs =>
  ⟨fun c => BranchIdeal.Whole.result m c,
    (θ_run _ _ _).mono (fun r h c => ⟨(h c).1.trans (BranchIdeal.Whole.final m c), (h c).2⟩) (BranchIdeal.Value.run_blocks (F := Ideal) m g),
    (θ_run _ _ _).mono (fun r h c => ⟨(h c).1.trans (by
      funext y
      refine ((Cert.BranchRefIdeal.Read.val_main_v3_apply _ _ y).trans (Cert.BranchRefIdeal.Read.val_main_v2_apply _ _ y)).trans ?_
      refine Eq.trans ?_ (Product.rowsColumns (BranchIdeal.Whole.X m c) (BranchIdeal.Whole.Y m c) (y 0) (y 1)).symm
      refine Finset.sum_congr rfl fun k _ => congrArg₂ (· * ·) ?_ ?_
      · exact (congrFun (hargs c).1 _).trans (congrArg (m (c.tc.loc BranchIdeal.main_arg0)) (funext fun a => by
          match a with
          | ⟨0, _⟩ => rfl
          | ⟨1, _⟩ => rfl))
      · exact (congrFun (hargs c).2 _).trans (congrArg (m (c.tc.loc BranchIdeal.main_arg1)) (funext fun a => by
          match a with
          | ⟨0, _⟩ => rfl
          | ⟨1, _⟩ => rfl))), (h c).2⟩) (Cert.BranchRefIdeal.Value.run (F := Ideal) m' g')⟩

end Cert.Branch

end
-- ==== Proof.lean ====
/- The certificate: the frames of the programs and their references, and that each kernel's results are its reference's. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.AttnEqual
public import proofs.«01_k».proof.Proof.Gen.WinDx
public import proofs.«01_k».proof.Proof.Gen.WinDx.Frame
public import proofs.«01_k».proof.Proof.Gen.WinDxIdeal
public import proofs.«01_k».proof.Proof.Gen.WinDxIdeal.Frame
public import proofs.«01_k».proof.Proof.Gen.WinDxRefIdeal
public import proofs.«01_k».proof.Proof.WinDx
public import proofs.«01_k».proof.Proof.Gen.WinDw
public import proofs.«01_k».proof.Proof.Gen.WinDw.Frame
public import proofs.«01_k».proof.Proof.Gen.WinDwIdeal
public import proofs.«01_k».proof.Proof.Gen.WinDwIdeal.Frame
public import proofs.«01_k».proof.Proof.Gen.WinDwRefIdeal
public import proofs.«01_k».proof.Proof.WinDw
public import proofs.«01_k».proof.Proof.Gen.Mlp2Dx
public import proofs.«01_k».proof.Proof.Gen.Mlp2Dx.Frame
public import proofs.«01_k».proof.Proof.Gen.Mlp2DxIdeal
public import proofs.«01_k».proof.Proof.Gen.Mlp2DxIdeal.Frame
public import proofs.«01_k».proof.Proof.Gen.Mlp2DxRefIdeal
public import proofs.«01_k».proof.Proof.Mlp2Dx
public import proofs.«01_k».proof.Proof.Gen.Mlp2Dw
public import proofs.«01_k».proof.Proof.Gen.Mlp2Dw.Frame
public import proofs.«01_k».proof.Proof.Gen.Mlp2DwIdeal
public import proofs.«01_k».proof.Proof.Gen.Mlp2DwIdeal.Frame
public import proofs.«01_k».proof.Proof.Gen.Mlp2DwRefIdeal
public import proofs.«01_k».proof.Proof.Mlp2Dw
public import proofs.«01_k».proof.Proof.Gen.Mlp1Dx
public import proofs.«01_k».proof.Proof.Gen.Mlp1Dx.Frame
public import proofs.«01_k».proof.Proof.Gen.Mlp1DxIdeal
public import proofs.«01_k».proof.Proof.Gen.Mlp1DxIdeal.Frame
public import proofs.«01_k».proof.Proof.Gen.Mlp1DxRefIdeal
public import proofs.«01_k».proof.Proof.Mlp1Dx
public import proofs.«01_k».proof.Proof.Gen.Mlp1Dw
public import proofs.«01_k».proof.Proof.Gen.Mlp1Dw.Frame
public import proofs.«01_k».proof.Proof.Gen.Mlp1DwIdeal
public import proofs.«01_k».proof.Proof.Gen.Mlp1DwIdeal.Frame
public import proofs.«01_k».proof.Proof.Gen.Mlp1DwRefIdeal
public import proofs.«01_k».proof.Proof.Mlp1Dw
public import proofs.«01_k».proof.Proof.Gen.WoutDx
public import proofs.«01_k».proof.Proof.Gen.WoutDx.Frame
public import proofs.«01_k».proof.Proof.Gen.WoutDxIdeal
public import proofs.«01_k».proof.Proof.Gen.WoutDxIdeal.Frame
public import proofs.«01_k».proof.Proof.Gen.WoutDxRefIdeal
public import proofs.«01_k».proof.Proof.WoutDx
public import proofs.«01_k».proof.Proof.Gen.WoutDw
public import proofs.«01_k».proof.Proof.Gen.WoutDw.Frame
public import proofs.«01_k».proof.Proof.Gen.WoutDwIdeal
public import proofs.«01_k».proof.Proof.Gen.WoutDwIdeal.Frame
public import proofs.«01_k».proof.Proof.Gen.WoutDwRefIdeal
public import proofs.«01_k».proof.Proof.WoutDw
public import proofs.«01_k».proof.Proof.Gen.BranchDx
public import proofs.«01_k».proof.Proof.Gen.BranchDx.Frame
public import proofs.«01_k».proof.Proof.Gen.BranchDxIdeal
public import proofs.«01_k».proof.Proof.Gen.BranchDxIdeal.Frame
public import proofs.«01_k».proof.Proof.Gen.BranchDxRefIdeal
public import proofs.«01_k».proof.Proof.BranchDx
public import proofs.«01_k».proof.Proof.Gen.BranchDw
public import proofs.«01_k».proof.Proof.Gen.BranchDw.Frame
public import proofs.«01_k».proof.Proof.Gen.BranchDwIdeal
public import proofs.«01_k».proof.Proof.Gen.BranchDwIdeal.Frame
public import proofs.«01_k».proof.Proof.Gen.BranchDwRefIdeal
public import proofs.«01_k».proof.Proof.BranchDw
public import proofs.«01_k».proof.Proof.Gen.MergeB
public import proofs.«01_k».proof.Proof.Gen.MergeB.Frame
public import proofs.«01_k».proof.Proof.Gen.MergeBIdeal
public import proofs.«01_k».proof.Proof.Gen.MergeBIdeal.Frame
public import proofs.«01_k».proof.Proof.Gen.MergeBRefIdeal
public import proofs.«01_k».proof.Proof.MergeB
public import proofs.«01_k».proof.Proof.Gen.ShortB
public import proofs.«01_k».proof.Proof.Gen.ShortB.Frame
public import proofs.«01_k».proof.Proof.Gen.ShortBIdeal
public import proofs.«01_k».proof.Proof.Gen.ShortBIdeal.Frame
public import proofs.«01_k».proof.Proof.Gen.ShortBRefIdeal
public import proofs.«01_k».proof.Proof.ShortB
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnRefIdeal
public import proofs.«01_k».proof.Proof.Attn
public import proofs.«01_k».proof.Proof.Gen.ShortF
public import proofs.«01_k».proof.Proof.Gen.ShortF.Frame
public import proofs.«01_k».proof.Proof.Gen.ShortFIdeal
public import proofs.«01_k».proof.Proof.Gen.ShortFIdeal.Frame
public import proofs.«01_k».proof.Proof.Gen.ShortFRefIdeal
public import proofs.«01_k».proof.Proof.ShortF
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeRefIdeal
public import proofs.«01_k».proof.Proof.Merge
public import proofs.«01_k».proof.Proof.Gen.DnPrep
public import proofs.«01_k».proof.Proof.Gen.DnPrep.Frame
public import proofs.«01_k».proof.Proof.Gen.DnPrepIdeal
public import proofs.«01_k».proof.Proof.Gen.DnPrepIdeal.Frame
public import proofs.«01_k».proof.Proof.Gen.DnPrepRefIdeal
public import proofs.«01_k».proof.Proof.DnPrep
public import proofs.«01_k».proof.Proof.Gen.Win
public import proofs.«01_k».proof.Proof.Gen.Win.Frame
public import proofs.«01_k».proof.Proof.Gen.WinIdeal
public import proofs.«01_k».proof.Proof.Gen.WinIdeal.Frame
public import proofs.«01_k».proof.Proof.Gen.WinRefIdeal
public import proofs.«01_k».proof.Proof.Win
public import proofs.«01_k».proof.Proof.Gen.Mlp1
public import proofs.«01_k».proof.Proof.Gen.Mlp1.Frame
public import proofs.«01_k».proof.Proof.Gen.Mlp1Ideal
public import proofs.«01_k».proof.Proof.Gen.Mlp1Ideal.Frame
public import proofs.«01_k».proof.Proof.Gen.Mlp1RefIdeal
public import proofs.«01_k».proof.Proof.Mlp1
public import proofs.«01_k».proof.Proof.Gen.Mlp2
public import proofs.«01_k».proof.Proof.Gen.Mlp2.Frame
public import proofs.«01_k».proof.Proof.Gen.Mlp2Ideal
public import proofs.«01_k».proof.Proof.Gen.Mlp2Ideal.Frame
public import proofs.«01_k».proof.Proof.Gen.Mlp2RefIdeal
public import proofs.«01_k».proof.Proof.Mlp2
public import proofs.«01_k».proof.Proof.Gen.Wout
public import proofs.«01_k».proof.Proof.Gen.Wout.Frame
public import proofs.«01_k».proof.Proof.Gen.WoutIdeal
public import proofs.«01_k».proof.Proof.Gen.WoutIdeal.Frame
public import proofs.«01_k».proof.Proof.Gen.WoutRefIdeal
public import proofs.«01_k».proof.Proof.Wout
public import proofs.«01_k».proof.Proof.Gen.Branch
public import proofs.«01_k».proof.Proof.Gen.Branch.Frame
public import proofs.«01_k».proof.Proof.Gen.BranchIdeal
public import proofs.«01_k».proof.Proof.Gen.BranchIdeal.Frame
public import proofs.«01_k».proof.Proof.Gen.BranchRefIdeal
public import proofs.«01_k».proof.Proof.Branch

@[expose] public section

noncomputable section

namespace Cert.Proof

theorem claim : Cert.Claim :=
  ⟨Cert.Kernel.Gen.facts, Cert.KernelIdeal.Gen.facts, Cert.ReferenceIdeal.Gen.facts,
    Cert.WinDx.Gen.facts, Cert.WinDxIdeal.Gen.facts, Cert.WinDxRefIdeal.Gen.facts,
    Cert.WinDw.Gen.facts, Cert.WinDwIdeal.Gen.facts, Cert.WinDwRefIdeal.Gen.facts,
    Cert.Mlp2Dx.Gen.facts, Cert.Mlp2DxIdeal.Gen.facts, Cert.Mlp2DxRefIdeal.Gen.facts,
    Cert.Mlp2Dw.Gen.facts, Cert.Mlp2DwIdeal.Gen.facts, Cert.Mlp2DwRefIdeal.Gen.facts,
    Cert.Mlp1Dx.Gen.facts, Cert.Mlp1DxIdeal.Gen.facts, Cert.Mlp1DxRefIdeal.Gen.facts,
    Cert.Mlp1Dw.Gen.facts, Cert.Mlp1DwIdeal.Gen.facts, Cert.Mlp1DwRefIdeal.Gen.facts,
    Cert.WoutDx.Gen.facts, Cert.WoutDxIdeal.Gen.facts, Cert.WoutDxRefIdeal.Gen.facts,
    Cert.WoutDw.Gen.facts, Cert.WoutDwIdeal.Gen.facts, Cert.WoutDwRefIdeal.Gen.facts,
    Cert.BranchDx.Gen.facts, Cert.BranchDxIdeal.Gen.facts, Cert.BranchDxRefIdeal.Gen.facts,
    Cert.BranchDw.Gen.facts, Cert.BranchDwIdeal.Gen.facts, Cert.BranchDwRefIdeal.Gen.facts,
    Cert.MergeB.Gen.facts, Cert.MergeBIdeal.Gen.facts, Cert.MergeBRefIdeal.Gen.facts,
    Cert.ShortB.Gen.facts, Cert.ShortBIdeal.Gen.facts, Cert.ShortBRefIdeal.Gen.facts,
    Cert.Attn.Gen.facts, Cert.AttnIdeal.Gen.facts, Cert.AttnRefIdeal.Gen.facts,
    Cert.ShortF.Gen.facts, Cert.ShortFIdeal.Gen.facts, Cert.ShortFRefIdeal.Gen.facts,
    Cert.Merge.Gen.facts, Cert.MergeIdeal.Gen.facts, Cert.MergeRefIdeal.Gen.facts,
    Cert.DnPrep.Gen.facts, Cert.DnPrepIdeal.Gen.facts, Cert.DnPrepRefIdeal.Gen.facts,
    Cert.Win.Gen.facts, Cert.WinIdeal.Gen.facts, Cert.WinRefIdeal.Gen.facts,
    Cert.Mlp1.Gen.facts, Cert.Mlp1Ideal.Gen.facts, Cert.Mlp1RefIdeal.Gen.facts,
    Cert.Mlp2.Gen.facts, Cert.Mlp2Ideal.Gen.facts, Cert.Mlp2RefIdeal.Gen.facts,
    Cert.Wout.Gen.facts, Cert.WoutIdeal.Gen.facts, Cert.WoutRefIdeal.Gen.facts,
    Cert.Branch.Gen.facts, Cert.BranchIdeal.Gen.facts, Cert.BranchRefIdeal.Gen.facts,
    Cert.Pre_finite.facts, Cert.Pre_finite_scores.facts,
    fun m g _ => Cert.Kernel.Gen.frame m g,
    fun m g _ => Cert.KernelIdeal.Gen.frame m g,
    fun m g _ => Cert.KernelIdeal.Gen.frame m g,
    Cert.Equal.frame_ref,
    fun m g _ => Cert.Equal.frame_ref m g trivial,
    fun m g _ => Cert.WinDx.Gen.frame m g, fun m g _ => Cert.WinDxIdeal.Gen.frame m g, Cert.WinDxRefIdeal.Whole.frame,
    fun m g _ => Cert.WinDw.Gen.frame m g, fun m g _ => Cert.WinDwIdeal.Gen.frame m g, Cert.WinDwRefIdeal.Whole.frame,
    fun m g _ => Cert.Mlp2Dx.Gen.frame m g, fun m g _ => Cert.Mlp2DxIdeal.Gen.frame m g, Cert.Mlp2DxRefIdeal.Whole.frame,
    fun m g _ => Cert.Mlp2Dw.Gen.frame m g, fun m g _ => Cert.Mlp2DwIdeal.Gen.frame m g, Cert.Mlp2DwRefIdeal.Whole.frame,
    fun m g _ => Cert.Mlp1Dx.Gen.frame m g, fun m g _ => Cert.Mlp1DxIdeal.Gen.frame m g, Cert.Mlp1DxRefIdeal.Whole.frame,
    fun m g _ => Cert.Mlp1Dw.Gen.frame m g, fun m g _ => Cert.Mlp1DwIdeal.Gen.frame m g, Cert.Mlp1DwRefIdeal.Whole.frame,
    fun m g _ => Cert.WoutDx.Gen.frame m g, fun m g _ => Cert.WoutDxIdeal.Gen.frame m g, Cert.WoutDxRefIdeal.Whole.frame,
    fun m g _ => Cert.WoutDw.Gen.frame m g, fun m g _ => Cert.WoutDwIdeal.Gen.frame m g, Cert.WoutDwRefIdeal.Whole.frame,
    fun m g _ => Cert.BranchDx.Gen.frame m g, fun m g _ => Cert.BranchDxIdeal.Gen.frame m g, Cert.BranchDxRefIdeal.Whole.frame,
    fun m g _ => Cert.BranchDw.Gen.frame m g, fun m g _ => Cert.BranchDwIdeal.Gen.frame m g, Cert.BranchDwRefIdeal.Whole.frame,
    fun m g _ => Cert.MergeB.Gen.frame m g, fun m g _ => Cert.MergeBIdeal.Gen.frame m g, Cert.MergeBRefIdeal.Whole.frame,
    fun m g _ => Cert.ShortB.Gen.frame m g, fun m g _ => Cert.ShortBIdeal.Gen.frame m g, Cert.ShortBRefIdeal.Whole.frame,
    fun m g _ => Cert.Attn.Gen.frame m g, fun m g _ => Cert.AttnIdeal.Gen.frame m g, fun m g _ => Cert.AttnIdeal.Gen.frame m g,
    Cert.AttnRefIdeal.Whole.frame, fun m g _ => Cert.AttnRefIdeal.Whole.frame m g trivial,
    fun m g _ => Cert.ShortF.Gen.frame m g, fun m g _ => Cert.ShortFIdeal.Gen.frame m g, Cert.ShortFRefIdeal.Whole.frame,
    fun m g _ => Cert.Merge.Gen.frame m g, fun m g _ => Cert.MergeIdeal.Gen.frame m g, Cert.MergeRefIdeal.Whole.frame,
    fun m g _ => Cert.DnPrep.Gen.frame m g, fun m g _ => Cert.DnPrepIdeal.Gen.frame m g, Cert.DnPrepRefIdeal.Whole.frame,
    fun m g _ => Cert.Win.Gen.frame m g, fun m g _ => Cert.WinIdeal.Gen.frame m g, Cert.WinRefIdeal.Whole.frame,
    fun m g _ => Cert.Mlp1.Gen.frame m g, fun m g _ => Cert.Mlp1Ideal.Gen.frame m g, Cert.Mlp1RefIdeal.Whole.frame,
    fun m g _ => Cert.Mlp2.Gen.frame m g, fun m g _ => Cert.Mlp2Ideal.Gen.frame m g, Cert.Mlp2RefIdeal.Whole.frame,
    fun m g _ => Cert.Wout.Gen.frame m g, fun m g _ => Cert.WoutIdeal.Gen.frame m g, Cert.WoutRefIdeal.Whole.frame,
    fun m g _ => Cert.Branch.Gen.frame m g, fun m g _ => Cert.BranchIdeal.Gen.frame m g, Cert.BranchRefIdeal.Whole.frame,
    trivial, Cert.Equal.algebraic,
    trivial, Cert.WinDx.algebraic,
    trivial, Cert.WinDw.algebraic,
    trivial, Cert.Mlp2Dx.algebraic,
    trivial, Cert.Mlp2Dw.algebraic,
    trivial, Cert.Mlp1Dx.algebraic,
    trivial, Cert.Mlp1Dw.algebraic,
    trivial, Cert.WoutDx.algebraic,
    trivial, Cert.WoutDw.algebraic,
    trivial, Cert.BranchDx.algebraic,
    trivial, Cert.BranchDw.algebraic,
    trivial, Cert.MergeB.algebraic,
    trivial, Cert.ShortB.algebraic,
    trivial, Cert.Attn.algebraic,
    trivial, Cert.ShortF.algebraic,
    trivial, Cert.Merge.algebraic,
    trivial, Cert.DnPrep.algebraic,
    trivial, Cert.Win.algebraic,
    trivial, Cert.Mlp1.algebraic,
    trivial, Cert.Mlp2.algebraic,
    trivial, Cert.Wout.algebraic,
    trivial, Cert.Branch.algebraic⟩

end Cert.Proof

end
